-- ==== Defs.lean ====
def Pre_OddBwd (m : (ℓ : Loc Cert.OddBwd.nD Cert.OddBwd.τ Cert.OddBwd.sig) → Buf (Elt Bits) ℓ) : Prop :=
  True

def Pre_OddBwdIdeal (m : (ℓ : Loc Cert.OddBwdIdeal.nD Cert.OddBwdIdeal.τ Cert.OddBwdIdeal.sig) → Buf (Elt Ideal) ℓ) : Prop :=
  True

def Pre_OddBwdIdeal_odd_finite [hPre_odd_finite : Cert.Pre_odd_finite.Facts] (m : (ℓ : Loc Cert.OddBwdIdeal.nD Cert.OddBwdIdeal.τ Cert.OddBwdIdeal.sig) → Buf (Elt Ideal) ℓ) : Prop :=
  ∀ c : Dev Cert.OddBwdIdeal.nD,
    (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))) = (fun _ => 1#1)

def Pre_OddRefIdeal (m : (ℓ : Loc Cert.OddRefIdeal.nD Cert.OddRefIdeal.τ Cert.OddRefIdeal.sig) → Buf (Elt Ideal) ℓ) : Prop :=
  True

def Pre_OddRefIdeal_odd_finite [hPre_odd_finite : Cert.Pre_odd_finite.Facts] (m : (ℓ : Loc Cert.OddRefIdeal.nD Cert.OddRefIdeal.τ Cert.OddRefIdeal.sig) → Buf (Elt Ideal) ℓ) : Prop :=
  ∀ c : Dev Cert.OddRefIdeal.nD,
    (Cert.Pre_odd_finite.fn (F := Ideal) (m ((c.tc : Thread Cert.OddRefIdeal.nD Cert.OddRefIdeal.τ).loc Cert.OddRefIdeal.main_arg0)) (m ((c.tc : Thread Cert.OddRefIdeal.nD Cert.OddRefIdeal.τ).loc Cert.OddRefIdeal.main_arg1)) (m ((c.tc : Thread Cert.OddRefIdeal.nD Cert.OddRefIdeal.τ).loc Cert.OddRefIdeal.main_arg2)) (m ((c.tc : Thread Cert.OddRefIdeal.nD Cert.OddRefIdeal.τ).loc Cert.OddRefIdeal.main_arg3)) (m ((c.tc : Thread Cert.OddRefIdeal.nD Cert.OddRefIdeal.τ).loc Cert.OddRefIdeal.main_arg4)) (m ((c.tc : Thread Cert.OddRefIdeal.nD Cert.OddRefIdeal.τ).loc Cert.OddRefIdeal.main_arg5)) (m ((c.tc : Thread Cert.OddRefIdeal.nD Cert.OddRefIdeal.τ).loc Cert.OddRefIdeal.main_arg6)) (m ((c.tc : Thread Cert.OddRefIdeal.nD Cert.OddRefIdeal.τ).loc Cert.OddRefIdeal.main_arg7)) (m ((c.tc : Thread Cert.OddRefIdeal.nD Cert.OddRefIdeal.τ).loc Cert.OddRefIdeal.main_arg8)) (m ((c.tc : Thread Cert.OddRefIdeal.nD Cert.OddRefIdeal.τ).loc Cert.OddRefIdeal.main_arg9))) = (fun _ => 1#1)

def Pre_GradWin1 (m : (ℓ : Loc Cert.GradWin1.nD Cert.GradWin1.τ Cert.GradWin1.sig) → Buf (Elt Bits) ℓ) : Prop :=
  True

def Pre_GradWin1Ideal (m : (ℓ : Loc Cert.GradWin1Ideal.nD Cert.GradWin1Ideal.τ Cert.GradWin1Ideal.sig) → Buf (Elt Ideal) ℓ) : Prop :=
  True

def Pre_GradWin1RefIdeal (m : (ℓ : Loc Cert.GradWin1RefIdeal.nD Cert.GradWin1RefIdeal.τ Cert.GradWin1RefIdeal.sig) → Buf (Elt Ideal) ℓ) : Prop :=
  True

def Pre_GradWin0 (m : (ℓ : Loc Cert.GradWin0.nD Cert.GradWin0.τ Cert.GradWin0.sig) → Buf (Elt Bits) ℓ) : Prop :=
  True

def Pre_GradWin0Ideal (m : (ℓ : Loc Cert.GradWin0Ideal.nD Cert.GradWin0Ideal.τ Cert.GradWin0Ideal.sig) → Buf (Elt Ideal) ℓ) : Prop :=
  True

def Pre_GradWin0RefIdeal (m : (ℓ : Loc Cert.GradWin0RefIdeal.nD Cert.GradWin0RefIdeal.τ Cert.GradWin0RefIdeal.sig) → Buf (Elt Ideal) ℓ) : Prop :=
  True

def Pre_GradWout (m : (ℓ : Loc Cert.GradWout.nD Cert.GradWout.τ Cert.GradWout.sig) → Buf (Elt Bits) ℓ) : Prop :=
  True

def Pre_GradWoutIdeal (m : (ℓ : Loc Cert.GradWoutIdeal.nD Cert.GradWoutIdeal.τ Cert.GradWoutIdeal.sig) → Buf (Elt Ideal) ℓ) : Prop :=
  True

def Pre_GradWoutRefIdeal (m : (ℓ : Loc Cert.GradWoutRefIdeal.nD Cert.GradWoutRefIdeal.τ Cert.GradWoutRefIdeal.sig) → Buf (Elt Ideal) ℓ) : Prop :=
  True

def Pre_Inproj1 (m : (ℓ : Loc Cert.Inproj1.nD Cert.Inproj1.τ Cert.Inproj1.sig) → Buf (Elt Bits) ℓ) : Prop :=
  True

def Pre_Inproj1Ideal (m : (ℓ : Loc Cert.Inproj1Ideal.nD Cert.Inproj1Ideal.τ Cert.Inproj1Ideal.sig) → Buf (Elt Ideal) ℓ) : Prop :=
  True

def Pre_Inproj1RefIdeal (m : (ℓ : Loc Cert.Inproj1RefIdeal.nD Cert.Inproj1RefIdeal.τ Cert.Inproj1RefIdeal.sig) → Buf (Elt Ideal) ℓ) : Prop :=
  True

def Pre_Inproj0 (m : (ℓ : Loc Cert.Inproj0.nD Cert.Inproj0.τ Cert.Inproj0.sig) → Buf (Elt Bits) ℓ) : Prop :=
  True

def Pre_Inproj0Ideal (m : (ℓ : Loc Cert.Inproj0Ideal.nD Cert.Inproj0Ideal.τ Cert.Inproj0Ideal.sig) → Buf (Elt Ideal) ℓ) : Prop :=
  True

def Pre_Inproj0RefIdeal (m : (ℓ : Loc Cert.Inproj0RefIdeal.nD Cert.Inproj0RefIdeal.τ Cert.Inproj0RefIdeal.sig) → Buf (Elt Ideal) ℓ) : Prop :=
  True

def Pre_Inproj1Bwd (m : (ℓ : Loc Cert.Inproj1Bwd.nD Cert.Inproj1Bwd.τ Cert.Inproj1Bwd.sig) → Buf (Elt Bits) ℓ) : Prop :=
  True

def Pre_Inproj1BwdIdeal (m : (ℓ : Loc Cert.Inproj1BwdIdeal.nD Cert.Inproj1BwdIdeal.τ Cert.Inproj1BwdIdeal.sig) → Buf (Elt Ideal) ℓ) : Prop :=
  True

def Pre_Inproj1BwdIdeal_inproj_finite [hPre_inproj_finite : Cert.Pre_inproj_finite.Facts] (m : (ℓ : Loc Cert.Inproj1BwdIdeal.nD Cert.Inproj1BwdIdeal.τ Cert.Inproj1BwdIdeal.sig) → Buf (Elt Ideal) ℓ) : Prop :=
  ∀ c : Dev Cert.Inproj1BwdIdeal.nD,
    (Cert.Pre_inproj_finite.fn (F := Ideal) (m ((c.tc : Thread Cert.Inproj1BwdIdeal.nD Cert.Inproj1BwdIdeal.τ).loc Cert.Inproj1BwdIdeal.main_arg0)) (m ((c.tc : Thread Cert.Inproj1BwdIdeal.nD Cert.Inproj1BwdIdeal.τ).loc Cert.Inproj1BwdIdeal.main_arg1)) (m ((c.tc : Thread Cert.Inproj1BwdIdeal.nD Cert.Inproj1BwdIdeal.τ).loc Cert.Inproj1BwdIdeal.main_arg2)) (m ((c.tc : Thread Cert.Inproj1BwdIdeal.nD Cert.Inproj1BwdIdeal.τ).loc Cert.Inproj1BwdIdeal.main_arg3)) (m ((c.tc : Thread Cert.Inproj1BwdIdeal.nD Cert.Inproj1BwdIdeal.τ).loc Cert.Inproj1BwdIdeal.main_arg4)) (m ((c.tc : Thread Cert.Inproj1BwdIdeal.nD Cert.Inproj1BwdIdeal.τ).loc Cert.Inproj1BwdIdeal.main_arg5)) (m ((c.tc : Thread Cert.Inproj1BwdIdeal.nD Cert.Inproj1BwdIdeal.τ).loc Cert.Inproj1BwdIdeal.main_arg6)) (m ((c.tc : Thread Cert.Inproj1BwdIdeal.nD Cert.Inproj1BwdIdeal.τ).loc Cert.Inproj1BwdIdeal.main_arg7)) (m ((c.tc : Thread Cert.Inproj1BwdIdeal.nD Cert.Inproj1BwdIdeal.τ).loc Cert.Inproj1BwdIdeal.main_arg8))) = (fun _ => 1#1)

def Pre_Inproj1BwdRefIdeal (m : (ℓ : Loc Cert.Inproj1BwdRefIdeal.nD Cert.Inproj1BwdRefIdeal.τ Cert.Inproj1BwdRefIdeal.sig) → Buf (Elt Ideal) ℓ) : Prop :=
  True

def Pre_Inproj1BwdRefIdeal_inproj_finite [hPre_inproj_finite : Cert.Pre_inproj_finite.Facts] (m : (ℓ : Loc Cert.Inproj1BwdRefIdeal.nD Cert.Inproj1BwdRefIdeal.τ Cert.Inproj1BwdRefIdeal.sig) → Buf (Elt Ideal) ℓ) : Prop :=
  ∀ c : Dev Cert.Inproj1BwdRefIdeal.nD,
    (Cert.Pre_inproj_finite.fn (F := Ideal) (m ((c.tc : Thread Cert.Inproj1BwdRefIdeal.nD Cert.Inproj1BwdRefIdeal.τ).loc Cert.Inproj1BwdRefIdeal.main_arg0)) (m ((c.tc : Thread Cert.Inproj1BwdRefIdeal.nD Cert.Inproj1BwdRefIdeal.τ).loc Cert.Inproj1BwdRefIdeal.main_arg1)) (m ((c.tc : Thread Cert.Inproj1BwdRefIdeal.nD Cert.Inproj1BwdRefIdeal.τ).loc Cert.Inproj1BwdRefIdeal.main_arg2)) (m ((c.tc : Thread Cert.Inproj1BwdRefIdeal.nD Cert.Inproj1BwdRefIdeal.τ).loc Cert.Inproj1BwdRefIdeal.main_arg3)) (m ((c.tc : Thread Cert.Inproj1BwdRefIdeal.nD Cert.Inproj1BwdRefIdeal.τ).loc Cert.Inproj1BwdRefIdeal.main_arg4)) (m ((c.tc : Thread Cert.Inproj1BwdRefIdeal.nD Cert.Inproj1BwdRefIdeal.τ).loc Cert.Inproj1BwdRefIdeal.main_arg5)) (m ((c.tc : Thread Cert.Inproj1BwdRefIdeal.nD Cert.Inproj1BwdRefIdeal.τ).loc Cert.Inproj1BwdRefIdeal.main_arg6)) (m ((c.tc : Thread Cert.Inproj1BwdRefIdeal.nD Cert.Inproj1BwdRefIdeal.τ).loc Cert.Inproj1BwdRefIdeal.main_arg7)) (m ((c.tc : Thread Cert.Inproj1BwdRefIdeal.nD Cert.Inproj1BwdRefIdeal.τ).loc Cert.Inproj1BwdRefIdeal.main_arg8))) = (fun _ => 1#1)

def Pre_Inproj0Bwd (m : (ℓ : Loc Cert.Inproj0Bwd.nD Cert.Inproj0Bwd.τ Cert.Inproj0Bwd.sig) → Buf (Elt Bits) ℓ) : Prop :=
  True

def Pre_Inproj0BwdIdeal (m : (ℓ : Loc Cert.Inproj0BwdIdeal.nD Cert.Inproj0BwdIdeal.τ Cert.Inproj0BwdIdeal.sig) → Buf (Elt Ideal) ℓ) : Prop :=
  True

def Pre_Inproj0BwdIdeal_inproj0_finite [hPre_inproj0_finite : Cert.Pre_inproj0_finite.Facts] (m : (ℓ : Loc Cert.Inproj0BwdIdeal.nD Cert.Inproj0BwdIdeal.τ Cert.Inproj0BwdIdeal.sig) → Buf (Elt Ideal) ℓ) : Prop :=
  ∀ c : Dev Cert.Inproj0BwdIdeal.nD,
    (Cert.Pre_inproj0_finite.fn (F := Ideal) (m ((c.tc : Thread Cert.Inproj0BwdIdeal.nD Cert.Inproj0BwdIdeal.τ).loc Cert.Inproj0BwdIdeal.main_arg0)) (m ((c.tc : Thread Cert.Inproj0BwdIdeal.nD Cert.Inproj0BwdIdeal.τ).loc Cert.Inproj0BwdIdeal.main_arg1)) (m ((c.tc : Thread Cert.Inproj0BwdIdeal.nD Cert.Inproj0BwdIdeal.τ).loc Cert.Inproj0BwdIdeal.main_arg2)) (m ((c.tc : Thread Cert.Inproj0BwdIdeal.nD Cert.Inproj0BwdIdeal.τ).loc Cert.Inproj0BwdIdeal.main_arg3)) (m ((c.tc : Thread Cert.Inproj0BwdIdeal.nD Cert.Inproj0BwdIdeal.τ).loc Cert.Inproj0BwdIdeal.main_arg4)) (m ((c.tc : Thread Cert.Inproj0BwdIdeal.nD Cert.Inproj0BwdIdeal.τ).loc Cert.Inproj0BwdIdeal.main_arg5)) (m ((c.tc : Thread Cert.Inproj0BwdIdeal.nD Cert.Inproj0BwdIdeal.τ).loc Cert.Inproj0BwdIdeal.main_arg6)) (m ((c.tc : Thread Cert.Inproj0BwdIdeal.nD Cert.Inproj0BwdIdeal.τ).loc Cert.Inproj0BwdIdeal.main_arg7)) (m ((c.tc : Thread Cert.Inproj0BwdIdeal.nD Cert.Inproj0BwdIdeal.τ).loc Cert.Inproj0BwdIdeal.main_arg8))) = (fun _ => 1#1)

def Pre_Inproj0BwdRefIdeal (m : (ℓ : Loc Cert.Inproj0BwdRefIdeal.nD Cert.Inproj0BwdRefIdeal.τ Cert.Inproj0BwdRefIdeal.sig) → Buf (Elt Ideal) ℓ) : Prop :=
  True

def Pre_Inproj0BwdRefIdeal_inproj0_finite [hPre_inproj0_finite : Cert.Pre_inproj0_finite.Facts] (m : (ℓ : Loc Cert.Inproj0BwdRefIdeal.nD Cert.Inproj0BwdRefIdeal.τ Cert.Inproj0BwdRefIdeal.sig) → Buf (Elt Ideal) ℓ) : Prop :=
  ∀ c : Dev Cert.Inproj0BwdRefIdeal.nD,
    (Cert.Pre_inproj0_finite.fn (F := Ideal) (m ((c.tc : Thread Cert.Inproj0BwdRefIdeal.nD Cert.Inproj0BwdRefIdeal.τ).loc Cert.Inproj0BwdRefIdeal.main_arg0)) (m ((c.tc : Thread Cert.Inproj0BwdRefIdeal.nD Cert.Inproj0BwdRefIdeal.τ).loc Cert.Inproj0BwdRefIdeal.main_arg1)) (m ((c.tc : Thread Cert.Inproj0BwdRefIdeal.nD Cert.Inproj0BwdRefIdeal.τ).loc Cert.Inproj0BwdRefIdeal.main_arg2)) (m ((c.tc : Thread Cert.Inproj0BwdRefIdeal.nD Cert.Inproj0BwdRefIdeal.τ).loc Cert.Inproj0BwdRefIdeal.main_arg3)) (m ((c.tc : Thread Cert.Inproj0BwdRefIdeal.nD Cert.Inproj0BwdRefIdeal.τ).loc Cert.Inproj0BwdRefIdeal.main_arg4)) (m ((c.tc : Thread Cert.Inproj0BwdRefIdeal.nD Cert.Inproj0BwdRefIdeal.τ).loc Cert.Inproj0BwdRefIdeal.main_arg5)) (m ((c.tc : Thread Cert.Inproj0BwdRefIdeal.nD Cert.Inproj0BwdRefIdeal.τ).loc Cert.Inproj0BwdRefIdeal.main_arg6)) (m ((c.tc : Thread Cert.Inproj0BwdRefIdeal.nD Cert.Inproj0BwdRefIdeal.τ).loc Cert.Inproj0BwdRefIdeal.main_arg7)) (m ((c.tc : Thread Cert.Inproj0BwdRefIdeal.nD Cert.Inproj0BwdRefIdeal.τ).loc Cert.Inproj0BwdRefIdeal.main_arg8))) = (fun _ => 1#1)

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_AdamWin0 (m : (ℓ : Loc Cert.AdamWin0.nD Cert.AdamWin0.τ Cert.AdamWin0.sig) → Buf (Elt Bits) ℓ) : Prop :=
  True

def Pre_AdamWin0Ideal (m : (ℓ : Loc Cert.AdamWin0Ideal.nD Cert.AdamWin0Ideal.τ Cert.AdamWin0Ideal.sig) → Buf (Elt Ideal) ℓ) : Prop :=
  True

def Pre_AdamWin0RefIdeal (m : (ℓ : Loc Cert.AdamWin0RefIdeal.nD Cert.AdamWin0RefIdeal.τ Cert.AdamWin0RefIdeal.sig) → Buf (Elt Ideal) ℓ) : Prop :=
  True

def Pre_AdamWin1 (m : (ℓ : Loc Cert.AdamWin1.nD Cert.AdamWin1.τ Cert.AdamWin1.sig) → Buf (Elt Bits) ℓ) : Prop :=
  True

def Pre_AdamWin1Ideal (m : (ℓ : Loc Cert.AdamWin1Ideal.nD Cert.AdamWin1Ideal.τ Cert.AdamWin1Ideal.sig) → Buf (Elt Ideal) ℓ) : Prop :=
  True

def Pre_AdamWin1RefIdeal (m : (ℓ : Loc Cert.AdamWin1RefIdeal.nD Cert.AdamWin1RefIdeal.τ Cert.AdamWin1RefIdeal.sig) → Buf (Elt Ideal) ℓ) : Prop :=
  True

def Pre_AdamWout (m : (ℓ : Loc Cert.AdamWout.nD Cert.AdamWout.τ Cert.AdamWout.sig) → Buf (Elt Bits) ℓ) : Prop :=
  True

def Pre_AdamWoutIdeal (m : (ℓ : Loc Cert.AdamWoutIdeal.nD Cert.AdamWoutIdeal.τ Cert.AdamWoutIdeal.sig) → Buf (Elt Ideal) ℓ) : Prop :=
  True

def Pre_AdamWoutRefIdeal (m : (ℓ : Loc Cert.AdamWoutRefIdeal.nD Cert.AdamWoutRefIdeal.τ Cert.AdamWoutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdaW (m : (ℓ : Loc Cert.AdaW.nD Cert.AdaW.τ Cert.AdaW.sig) → Buf (Elt Bits) ℓ) : Prop :=
  True

def Pre_AdaWIdeal (m : (ℓ : Loc Cert.AdaWIdeal.nD Cert.AdaWIdeal.τ Cert.AdaWIdeal.sig) → Buf (Elt Ideal) ℓ) : Prop :=
  True

def Pre_AdaWRefIdeal (m : (ℓ : Loc Cert.AdaWRefIdeal.nD Cert.AdaWRefIdeal.τ Cert.AdaWRefIdeal.sig) → Buf (Elt Ideal) ℓ) : Prop :=
  True

def Pre_ReducePacked (m : (ℓ : Loc Cert.ReducePacked.nD Cert.ReducePacked.τ Cert.ReducePacked.sig) → Buf (Elt Bits) ℓ) : Prop :=
  True

def Pre_ReducePackedIdeal (m : (ℓ : Loc Cert.ReducePackedIdeal.nD Cert.ReducePackedIdeal.τ Cert.ReducePackedIdeal.sig) → Buf (Elt Ideal) ℓ) : Prop :=
  True

def Pre_ReducePackedRefIdeal (m : (ℓ : Loc Cert.ReducePackedRefIdeal.nD Cert.ReducePackedRefIdeal.τ Cert.ReducePackedRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_EvenBwd (m : (ℓ : Loc Cert.EvenBwd.nD Cert.EvenBwd.τ Cert.EvenBwd.sig) → Buf (Elt Bits) ℓ) : Prop :=
  True

def Pre_EvenBwdIdeal (m : (ℓ : Loc Cert.EvenBwdIdeal.nD Cert.EvenBwdIdeal.τ Cert.EvenBwdIdeal.sig) → Buf (Elt Ideal) ℓ) : Prop :=
  True

def Pre_EvenBwdIdeal_even_finite [hPre_even_finite : Cert.Pre_even_finite.Facts] (m : (ℓ : Loc Cert.EvenBwdIdeal.nD Cert.EvenBwdIdeal.τ Cert.EvenBwdIdeal.sig) → Buf (Elt Ideal) ℓ) : Prop :=
  ∀ c : Dev Cert.EvenBwdIdeal.nD,
    (Cert.Pre_even_finite.fn (F := Ideal) (m ((c.tc : Thread Cert.EvenBwdIdeal.nD Cert.EvenBwdIdeal.τ).loc Cert.EvenBwdIdeal.main_arg0)) (m ((c.tc : Thread Cert.EvenBwdIdeal.nD Cert.EvenBwdIdeal.τ).loc Cert.EvenBwdIdeal.main_arg1)) (m ((c.tc : Thread Cert.EvenBwdIdeal.nD Cert.EvenBwdIdeal.τ).loc Cert.EvenBwdIdeal.main_arg2)) (m ((c.tc : Thread Cert.EvenBwdIdeal.nD Cert.EvenBwdIdeal.τ).loc Cert.EvenBwdIdeal.main_arg3)) (m ((c.tc : Thread Cert.EvenBwdIdeal.nD Cert.EvenBwdIdeal.τ).loc Cert.EvenBwdIdeal.main_arg4)) (m ((c.tc : Thread Cert.EvenBwdIdeal.nD Cert.EvenBwdIdeal.τ).loc Cert.EvenBwdIdeal.main_arg5)) (m ((c.tc : Thread Cert.EvenBwdIdeal.nD Cert.EvenBwdIdeal.τ).loc Cert.EvenBwdIdeal.main_arg6)) (m ((c.tc : Thread Cert.EvenBwdIdeal.nD Cert.EvenBwdIdeal.τ).loc Cert.EvenBwdIdeal.main_arg7)) (m ((c.tc : Thread Cert.EvenBwdIdeal.nD Cert.EvenBwdIdeal.τ).loc Cert.EvenBwdIdeal.main_arg8)) (m ((c.tc : Thread Cert.EvenBwdIdeal.nD Cert.EvenBwdIdeal.τ).loc Cert.EvenBwdIdeal.main_arg9)) (m ((c.tc : Thread Cert.EvenBwdIdeal.nD Cert.EvenBwdIdeal.τ).loc Cert.EvenBwdIdeal.main_arg10))) = (fun _ => 1#1)

def Pre_EvenBwdRefIdeal (m : (ℓ : Loc Cert.EvenBwdRefIdeal.nD Cert.EvenBwdRefIdeal.τ Cert.EvenBwdRefIdeal.sig) → Buf (Elt Ideal) ℓ) : Prop :=
  True

def Pre_EvenBwdRefIdeal_even_finite [hPre_even_finite : Cert.Pre_even_finite.Facts] (m : (ℓ : Loc Cert.EvenBwdRefIdeal.nD Cert.EvenBwdRefIdeal.τ Cert.EvenBwdRefIdeal.sig) → Buf (Elt Ideal) ℓ) : Prop :=
  ∀ c : Dev Cert.EvenBwdRefIdeal.nD,
    (Cert.Pre_even_finite.fn (F := Ideal) (m ((c.tc : Thread Cert.EvenBwdRefIdeal.nD Cert.EvenBwdRefIdeal.τ).loc Cert.EvenBwdRefIdeal.main_arg0)) (m ((c.tc : Thread Cert.EvenBwdRefIdeal.nD Cert.EvenBwdRefIdeal.τ).loc Cert.EvenBwdRefIdeal.main_arg1)) (m ((c.tc : Thread Cert.EvenBwdRefIdeal.nD Cert.EvenBwdRefIdeal.τ).loc Cert.EvenBwdRefIdeal.main_arg2)) (m ((c.tc : Thread Cert.EvenBwdRefIdeal.nD Cert.EvenBwdRefIdeal.τ).loc Cert.EvenBwdRefIdeal.main_arg3)) (m ((c.tc : Thread Cert.EvenBwdRefIdeal.nD Cert.EvenBwdRefIdeal.τ).loc Cert.EvenBwdRefIdeal.main_arg4)) (m ((c.tc : Thread Cert.EvenBwdRefIdeal.nD Cert.EvenBwdRefIdeal.τ).loc Cert.EvenBwdRefIdeal.main_arg5)) (m ((c.tc : Thread Cert.EvenBwdRefIdeal.nD Cert.EvenBwdRefIdeal.τ).loc Cert.EvenBwdRefIdeal.main_arg6)) (m ((c.tc : Thread Cert.EvenBwdRefIdeal.nD Cert.EvenBwdRefIdeal.τ).loc Cert.EvenBwdRefIdeal.main_arg7)) (m ((c.tc : Thread Cert.EvenBwdRefIdeal.nD Cert.EvenBwdRefIdeal.τ).loc Cert.EvenBwdRefIdeal.main_arg8)) (m ((c.tc : Thread Cert.EvenBwdRefIdeal.nD Cert.EvenBwdRefIdeal.τ).loc Cert.EvenBwdRefIdeal.main_arg9)) (m ((c.tc : Thread Cert.EvenBwdRefIdeal.nD Cert.EvenBwdRefIdeal.τ).loc Cert.EvenBwdRefIdeal.main_arg10))) = (fun _ => 1#1)

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_finite [hPre_pool_finite : Cert.Pre_pool_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_finite [hPre_pool_finite : Cert.Pre_pool_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def quiescent_OddBwd [hOddBwd : Cert.OddBwd.Facts] : Prop :=
  ∀ (m : (ℓ : Loc Cert.OddBwd.nD Cert.OddBwd.τ Cert.OddBwd.sig) → Buf (Elt Bits) ℓ) (g : Dev Cert.OddBwd.nD → PrngReg), Pre_OddBwd m →
    θ_run (Cert.OddBwd.defs (F := Bits)) (onTc (τ := Cert.OddBwd.τ) (Cert.OddBwd.main (F := Bits))) ⟨m, fun _ => 0, g⟩ (fun r => (∀ c : Dev Cert.OddBwd.nD,
      r.2.mem ((c.tc : Thread Cert.OddBwd.nD Cert.OddBwd.τ).loc Cert.OddBwd.main_arg0) = m ((c.tc : Thread Cert.OddBwd.nD Cert.OddBwd.τ).loc Cert.OddBwd.main_arg0)
      ∧ r.2.mem ((c.tc : Thread Cert.OddBwd.nD Cert.OddBwd.τ).loc Cert.OddBwd.main_arg1) = m ((c.tc : Thread Cert.OddBwd.nD Cert.OddBwd.τ).loc Cert.OddBwd.main_arg1)
      ∧ r.2.mem ((c.tc : Thread Cert.OddBwd.nD Cert.OddBwd.τ).loc Cert.OddBwd.main_arg2) = m ((c.tc : Thread Cert.OddBwd.nD Cert.OddBwd.τ).loc Cert.OddBwd.main_arg2)
      ∧ r.2.mem ((c.tc : Thread Cert.OddBwd.nD Cert.OddBwd.τ).loc Cert.OddBwd.main_arg3) = m ((c.tc : Thread Cert.OddBwd.nD Cert.OddBwd.τ).loc Cert.OddBwd.main_arg3)
      ∧ r.2.mem ((c.tc : Thread Cert.OddBwd.nD Cert.OddBwd.τ).loc Cert.OddBwd.main_arg4) = m ((c.tc : Thread Cert.OddBwd.nD Cert.OddBwd.τ).loc Cert.OddBwd.main_arg4)
      ∧ r.2.mem ((c.tc : Thread Cert.OddBwd.nD Cert.OddBwd.τ).loc Cert.OddBwd.main_arg5) = m ((c.tc : Thread Cert.OddBwd.nD Cert.OddBwd.τ).loc Cert.OddBwd.main_arg5)
      ∧ r.2.mem ((c.tc : Thread Cert.OddBwd.nD Cert.OddBwd.τ).loc Cert.OddBwd.main_arg6) = m ((c.tc : Thread Cert.OddBwd.nD Cert.OddBwd.τ).loc Cert.OddBwd.main_arg6)
      ∧ r.2.mem ((c.tc : Thread Cert.OddBwd.nD Cert.OddBwd.τ).loc Cert.OddBwd.main_arg7) = m ((c.tc : Thread Cert.OddBwd.nD Cert.OddBwd.τ).loc Cert.OddBwd.main_arg7)
      ∧ r.2.mem ((c.tc : Thread Cert.OddBwd.nD Cert.OddBwd.τ).loc Cert.OddBwd.main_arg8) = m ((c.tc : Thread Cert.OddBwd.nD Cert.OddBwd.τ).loc Cert.OddBwd.main_arg8)
      ∧ r.2.mem ((c.tc : Thread Cert.OddBwd.nD Cert.OddBwd.τ).loc Cert.OddBwd.main_arg9) = m ((c.tc : Thread Cert.OddBwd.nD Cert.OddBwd.τ).loc Cert.OddBwd.main_arg9))
      ∧ r.2.sem = fun _ => 0)

def quiescent_OddBwdIdeal [hOddBwdIdeal : Cert.OddBwdIdeal.Facts] : Prop :=
  ∀ (m : (ℓ : Loc Cert.OddBwdIdeal.nD Cert.OddBwdIdeal.τ Cert.OddBwdIdeal.sig) → Buf (Elt Ideal) ℓ) (g : Dev Cert.OddBwdIdeal.nD → PrngReg), Pre_OddBwdIdeal m →
    θ_run (Cert.OddBwdIdeal.defs (F := Ideal)) (onTc (τ := Cert.OddBwdIdeal.τ) (Cert.OddBwdIdeal.main (F := Ideal))) ⟨m, fun _ => 0, g⟩ (fun r => (∀ c : Dev Cert.OddBwdIdeal.nD,
      r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
      ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
      ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
      ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
      ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
      ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5)
      ∧ r.2.mem ((c.tc : Thread Cert.OddBwdIdeal.nD Cert.OddBwdIdeal.τ).loc Cert.OddBwdIdeal.main_arg6) = m ((c.tc : Thread Cert.OddBwdIdeal.nD Cert.OddBwdIdeal.τ).loc Cert.OddBwdIdeal.main_arg6)
      ∧ r.2.mem ((c.tc : Thread Cert.OddBwdIdeal.nD Cert.OddBwdIdeal.τ).loc Cert.OddBwdIdeal.main_arg7) = m ((c.tc : Thread Cert.OddBwdIdeal.nD Cert.OddBwdIdeal.τ).loc Cert.OddBwdIdeal.main_arg7)
      ∧ r.2.mem ((c.tc : Thread Cert.OddBwdIdeal.nD Cert.OddBwdIdeal.τ).loc Cert.OddBwdIdeal.main_arg8) = m ((c.tc : Thread Cert.OddBwdIdeal.nD Cert.OddBwdIdeal.τ).loc Cert.OddBwdIdeal.main_arg8)
      ∧ r.2.mem ((c.tc : Thread Cert.OddBwdIdeal.nD Cert.OddBwdIdeal.τ).loc Cert.OddBwdIdeal.main_arg9) = m ((c.tc : Thread Cert.OddBwdIdeal.nD Cert.OddBwdIdeal.τ).loc Cert.OddBwdIdeal.main_arg9))
      ∧ r.2.sem = fun _ => 0)

def quiescent_OddBwdIdeal_pre_odd_finite [hOddBwdIdeal : Cert.OddBwdIdeal.Facts] [hPre_odd_finite : Cert.Pre_odd_finite.Facts] : Prop :=
  ∀ (m : (ℓ : Loc Cert.OddBwdIdeal.nD Cert.OddBwdIdeal.τ Cert.OddBwdIdeal.sig) → Buf (Elt Ideal) ℓ) (g : Dev Cert.OddBwdIdeal.nD → PrngReg), Pre_OddBwdIdeal_odd_finite m →
    θ_run (Cert.OddBwdIdeal.defs (F := Ideal)) (onTc (τ := Cert.OddBwdIdeal.τ) (Cert.OddBwdIdeal.main (F := Ideal))) ⟨m, fun _ => 0, g⟩ (fun r => (∀ c : Dev Cert.OddBwdIdeal.nD,
      r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
      ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
      ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
      ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
      ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
      ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5)
      ∧ r.2.mem ((c.tc : Thread Cert.OddBwdIdeal.nD Cert.OddBwdIdeal.τ).loc Cert.OddBwdIdeal.main_arg6) = m ((c.tc : Thread Cert.OddBwdIdeal.nD Cert.OddBwdIdeal.τ).loc Cert.OddBwdIdeal.main_arg6)
      ∧ r.2.mem ((c.tc : Thread Cert.OddBwdIdeal.nD Cert.OddBwdIdeal.τ).loc Cert.OddBwdIdeal.main_arg7) = m ((c.tc : Thread Cert.OddBwdIdeal.nD Cert.OddBwdIdeal.τ).loc Cert.OddBwdIdeal.main_arg7)
      ∧ r.2.mem ((c.tc : Thread Cert.OddBwdIdeal.nD Cert.OddBwdIdeal.τ).loc Cert.OddBwdIdeal.main_arg8) = m ((c.tc : Thread Cert.OddBwdIdeal.nD Cert.OddBwdIdeal.τ).loc Cert.OddBwdIdeal.main_arg8)
      ∧ r.2.mem ((c.tc : Thread Cert.OddBwdIdeal.nD Cert.OddBwdIdeal.τ).loc Cert.OddBwdIdeal.main_arg9) = m ((c.tc : Thread Cert.OddBwdIdeal.nD Cert.OddBwdIdeal.τ).loc Cert.OddBwdIdeal.main_arg9))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9))
      ∧ r.2.sem = fun _ => 0)

def quiescent_OddRefIdeal_pre_odd_finite [hOddRefIdeal : Cert.OddRefIdeal.Facts] [hPre_odd_finite : Cert.Pre_odd_finite.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal_odd_finite m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8)
      ∧ r.2.mem ((c.tc : Thread Cert.OddRefIdeal.nD Cert.OddRefIdeal.τ).loc Cert.OddRefIdeal.main_arg9) = m ((c.tc : Thread Cert.OddRefIdeal.nD Cert.OddRefIdeal.τ).loc Cert.OddRefIdeal.main_arg9))
      ∧ r.2.sem = fun _ => 0)

def quiescent_GradWin1 [hGradWin1 : Cert.GradWin1.Facts] : Prop :=
  ∀ (m : (ℓ : Loc Cert.GradWin1.nD Cert.GradWin1.τ Cert.GradWin1.sig) → Buf (Elt Bits) ℓ) (g : Dev Cert.GradWin1.nD → PrngReg), Pre_GradWin1 m →
    θ_run (Cert.GradWin1.defs (F := Bits)) (onTc (τ := Cert.GradWin1.τ) (Cert.GradWin1.main (F := Bits))) ⟨m, fun _ => 0, g⟩ (fun r => (∀ c : Dev Cert.GradWin1.nD,
      r.2.mem ((c.tc : Thread Cert.GradWin1.nD Cert.GradWin1.τ).loc Cert.GradWin1.main_arg0) = m ((c.tc : Thread Cert.GradWin1.nD Cert.GradWin1.τ).loc Cert.GradWin1.main_arg0)
      ∧ r.2.mem ((c.tc : Thread Cert.GradWin1.nD Cert.GradWin1.τ).loc Cert.GradWin1.main_arg1) = m ((c.tc : Thread Cert.GradWin1.nD Cert.GradWin1.τ).loc Cert.GradWin1.main_arg1))
      ∧ r.2.sem = fun _ => 0)

def quiescent_GradWin1Ideal [hGradWin1Ideal : Cert.GradWin1Ideal.Facts] : Prop :=
  ∀ (m : (ℓ : Loc Cert.GradWin1Ideal.nD Cert.GradWin1Ideal.τ Cert.GradWin1Ideal.sig) → Buf (Elt Ideal) ℓ) (g : Dev Cert.GradWin1Ideal.nD → PrngReg), Pre_GradWin1Ideal m →
    θ_run (Cert.GradWin1Ideal.defs (F := Ideal)) (onTc (τ := Cert.GradWin1Ideal.τ) (Cert.GradWin1Ideal.main (F := Ideal))) ⟨m, fun _ => 0, g⟩ (fun r => (∀ c : Dev Cert.GradWin1Ideal.nD,
      r.2.mem ((c.tc : Thread Cert.GradWin1Ideal.nD Cert.GradWin1Ideal.τ).loc Cert.GradWin1Ideal.main_arg0) = m ((c.tc : Thread Cert.GradWin1Ideal.nD Cert.GradWin1Ideal.τ).loc Cert.GradWin1Ideal.main_arg0)
      ∧ r.2.mem ((c.tc : Thread Cert.GradWin1Ideal.nD Cert.GradWin1Ideal.τ).loc Cert.GradWin1Ideal.main_arg1) = m ((c.tc : Thread Cert.GradWin1Ideal.nD Cert.GradWin1Ideal.τ).loc Cert.GradWin1Ideal.main_arg1))
      ∧ r.2.sem = fun _ => 0)

def quiescent_GradWin1RefIdeal [hGradWin1RefIdeal : Cert.GradWin1RefIdeal.Facts] : Prop :=
  ∀ (m : (ℓ : Loc Cert.GradWin1RefIdeal.nD Cert.GradWin1RefIdeal.τ Cert.GradWin1RefIdeal.sig) → Buf (Elt Ideal) ℓ) (g : Dev Cert.GradWin1RefIdeal.nD → PrngReg), Pre_GradWin1RefIdeal m →
    θ_run (Cert.GradWin1RefIdeal.defs (F := Ideal)) (onTc (τ := Cert.GradWin1RefIdeal.τ) (Cert.GradWin1RefIdeal.main (F := Ideal))) ⟨m, fun _ => 0, g⟩ (fun r => (∀ c : Dev Cert.GradWin1RefIdeal.nD,
      r.2.mem ((c.tc : Thread Cert.GradWin1RefIdeal.nD Cert.GradWin1RefIdeal.τ).loc Cert.GradWin1RefIdeal.main_arg0) = m ((c.tc : Thread Cert.GradWin1RefIdeal.nD Cert.GradWin1RefIdeal.τ).loc Cert.GradWin1RefIdeal.main_arg0)
      ∧ r.2.mem ((c.tc : Thread Cert.GradWin1RefIdeal.nD Cert.GradWin1RefIdeal.τ).loc Cert.GradWin1RefIdeal.main_arg1) = m ((c.tc : Thread Cert.GradWin1RefIdeal.nD Cert.GradWin1RefIdeal.τ).loc Cert.GradWin1RefIdeal.main_arg1))
      ∧ r.2.sem = fun _ => 0)

def quiescent_GradWin0 [hGradWin0 : Cert.GradWin0.Facts] : Prop :=
  ∀ (m : (ℓ : Loc Cert.GradWin0.nD Cert.GradWin0.τ Cert.GradWin0.sig) → Buf (Elt Bits) ℓ) (g : Dev Cert.GradWin0.nD → PrngReg), Pre_GradWin0 m →
    θ_run (Cert.GradWin0.defs (F := Bits)) (onTc (τ := Cert.GradWin0.τ) (Cert.GradWin0.main (F := Bits))) ⟨m, fun _ => 0, g⟩ (fun r => (∀ c : Dev Cert.GradWin0.nD,
      r.2.mem ((c.tc : Thread Cert.GradWin0.nD Cert.GradWin0.τ).loc Cert.GradWin0.main_arg0) = m ((c.tc : Thread Cert.GradWin0.nD Cert.GradWin0.τ).loc Cert.GradWin0.main_arg0)
      ∧ r.2.mem ((c.tc : Thread Cert.GradWin0.nD Cert.GradWin0.τ).loc Cert.GradWin0.main_arg1) = m ((c.tc : Thread Cert.GradWin0.nD Cert.GradWin0.τ).loc Cert.GradWin0.main_arg1))
      ∧ r.2.sem = fun _ => 0)

def quiescent_GradWin0Ideal [hGradWin0Ideal : Cert.GradWin0Ideal.Facts] : Prop :=
  ∀ (m : (ℓ : Loc Cert.GradWin0Ideal.nD Cert.GradWin0Ideal.τ Cert.GradWin0Ideal.sig) → Buf (Elt Ideal) ℓ) (g : Dev Cert.GradWin0Ideal.nD → PrngReg), Pre_GradWin0Ideal m →
    θ_run (Cert.GradWin0Ideal.defs (F := Ideal)) (onTc (τ := Cert.GradWin0Ideal.τ) (Cert.GradWin0Ideal.main (F := Ideal))) ⟨m, fun _ => 0, g⟩ (fun r => (∀ c : Dev Cert.GradWin0Ideal.nD,
      r.2.mem ((c.tc : Thread Cert.GradWin0Ideal.nD Cert.GradWin0Ideal.τ).loc Cert.GradWin0Ideal.main_arg0) = m ((c.tc : Thread Cert.GradWin0Ideal.nD Cert.GradWin0Ideal.τ).loc Cert.GradWin0Ideal.main_arg0)
      ∧ r.2.mem ((c.tc : Thread Cert.GradWin0Ideal.nD Cert.GradWin0Ideal.τ).loc Cert.GradWin0Ideal.main_arg1) = m ((c.tc : Thread Cert.GradWin0Ideal.nD Cert.GradWin0Ideal.τ).loc Cert.GradWin0Ideal.main_arg1))
      ∧ r.2.sem = fun _ => 0)

def quiescent_GradWin0RefIdeal [hGradWin0RefIdeal : Cert.GradWin0RefIdeal.Facts] : Prop :=
  ∀ (m : (ℓ : Loc Cert.GradWin0RefIdeal.nD Cert.GradWin0RefIdeal.τ Cert.GradWin0RefIdeal.sig) → Buf (Elt Ideal) ℓ) (g : Dev Cert.GradWin0RefIdeal.nD → PrngReg), Pre_GradWin0RefIdeal m →
    θ_run (Cert.GradWin0RefIdeal.defs (F := Ideal)) (onTc (τ := Cert.GradWin0RefIdeal.τ) (Cert.GradWin0RefIdeal.main (F := Ideal))) ⟨m, fun _ => 0, g⟩ (fun r => (∀ c : Dev Cert.GradWin0RefIdeal.nD,
      r.2.mem ((c.tc : Thread Cert.GradWin0RefIdeal.nD Cert.GradWin0RefIdeal.τ).loc Cert.GradWin0RefIdeal.main_arg0) = m ((c.tc : Thread Cert.GradWin0RefIdeal.nD Cert.GradWin0RefIdeal.τ).loc Cert.GradWin0RefIdeal.main_arg0)
      ∧ r.2.mem ((c.tc : Thread Cert.GradWin0RefIdeal.nD Cert.GradWin0RefIdeal.τ).loc Cert.GradWin0RefIdeal.main_arg1) = m ((c.tc : Thread Cert.GradWin0RefIdeal.nD Cert.GradWin0RefIdeal.τ).loc Cert.GradWin0RefIdeal.main_arg1))
      ∧ r.2.sem = fun _ => 0)

def quiescent_GradWout [hGradWout : Cert.GradWout.Facts] : Prop :=
  ∀ (m : (ℓ : Loc Cert.GradWout.nD Cert.GradWout.τ Cert.GradWout.sig) → Buf (Elt Bits) ℓ) (g : Dev Cert.GradWout.nD → PrngReg), Pre_GradWout m →
    θ_run (Cert.GradWout.defs (F := Bits)) (onTc (τ := Cert.GradWout.τ) (Cert.GradWout.main (F := Bits))) ⟨m, fun _ => 0, g⟩ (fun r => (∀ c : Dev Cert.GradWout.nD,
      r.2.mem ((c.tc : Thread Cert.GradWout.nD Cert.GradWout.τ).loc Cert.GradWout.main_arg0) = m ((c.tc : Thread Cert.GradWout.nD Cert.GradWout.τ).loc Cert.GradWout.main_arg0)
      ∧ r.2.mem ((c.tc : Thread Cert.GradWout.nD Cert.GradWout.τ).loc Cert.GradWout.main_arg1) = m ((c.tc : Thread Cert.GradWout.nD Cert.GradWout.τ).loc Cert.GradWout.main_arg1))
      ∧ r.2.sem = fun _ => 0)

def quiescent_GradWoutIdeal [hGradWoutIdeal : Cert.GradWoutIdeal.Facts] : Prop :=
  ∀ (m : (ℓ : Loc Cert.GradWoutIdeal.nD Cert.GradWoutIdeal.τ Cert.GradWoutIdeal.sig) → Buf (Elt Ideal) ℓ) (g : Dev Cert.GradWoutIdeal.nD → PrngReg), Pre_GradWoutIdeal m →
    θ_run (Cert.GradWoutIdeal.defs (F := Ideal)) (onTc (τ := Cert.GradWoutIdeal.τ) (Cert.GradWoutIdeal.main (F := Ideal))) ⟨m, fun _ => 0, g⟩ (fun r => (∀ c : Dev Cert.GradWoutIdeal.nD,
      r.2.mem ((c.tc : Thread Cert.GradWoutIdeal.nD Cert.GradWoutIdeal.τ).loc Cert.GradWoutIdeal.main_arg0) = m ((c.tc : Thread Cert.GradWoutIdeal.nD Cert.GradWoutIdeal.τ).loc Cert.GradWoutIdeal.main_arg0)
      ∧ r.2.mem ((c.tc : Thread Cert.GradWoutIdeal.nD Cert.GradWoutIdeal.τ).loc Cert.GradWoutIdeal.main_arg1) = m ((c.tc : Thread Cert.GradWoutIdeal.nD Cert.GradWoutIdeal.τ).loc Cert.GradWoutIdeal.main_arg1))
      ∧ r.2.sem = fun _ => 0)

def quiescent_GradWoutRefIdeal [hGradWoutRefIdeal : Cert.GradWoutRefIdeal.Facts] : Prop :=
  ∀ (m : (ℓ : Loc Cert.GradWoutRefIdeal.nD Cert.GradWoutRefIdeal.τ Cert.GradWoutRefIdeal.sig) → Buf (Elt Ideal) ℓ) (g : Dev Cert.GradWoutRefIdeal.nD → PrngReg), Pre_GradWoutRefIdeal m →
    θ_run (Cert.GradWoutRefIdeal.defs (F := Ideal)) (onTc (τ := Cert.GradWoutRefIdeal.τ) (Cert.GradWoutRefIdeal.main (F := Ideal))) ⟨m, fun _ => 0, g⟩ (fun r => (∀ c : Dev Cert.GradWoutRefIdeal.nD,
      r.2.mem ((c.tc : Thread Cert.GradWoutRefIdeal.nD Cert.GradWoutRefIdeal.τ).loc Cert.GradWoutRefIdeal.main_arg0) = m ((c.tc : Thread Cert.GradWoutRefIdeal.nD Cert.GradWoutRefIdeal.τ).loc Cert.GradWoutRefIdeal.main_arg0)
      ∧ r.2.mem ((c.tc : Thread Cert.GradWoutRefIdeal.nD Cert.GradWoutRefIdeal.τ).loc Cert.GradWoutRefIdeal.main_arg1) = m ((c.tc : Thread Cert.GradWoutRefIdeal.nD Cert.GradWoutRefIdeal.τ).loc Cert.GradWoutRefIdeal.main_arg1))
      ∧ r.2.sem = fun _ => 0)

def quiescent_Inproj1 [hInproj1 : Cert.Inproj1.Facts] : Prop :=
  ∀ (m : (ℓ : Loc Cert.Inproj1.nD Cert.Inproj1.τ Cert.Inproj1.sig) → Buf (Elt Bits) ℓ) (g : Dev Cert.Inproj1.nD → PrngReg), Pre_Inproj1 m →
    θ_run (Cert.Inproj1.defs (F := Bits)) (onTc (τ := Cert.Inproj1.τ) (Cert.Inproj1.main (F := Bits))) ⟨m, fun _ => 0, g⟩ (fun r => (∀ c : Dev Cert.Inproj1.nD,
      r.2.mem ((c.tc : Thread Cert.Inproj1.nD Cert.Inproj1.τ).loc Cert.Inproj1.main_arg0) = m ((c.tc : Thread Cert.Inproj1.nD Cert.Inproj1.τ).loc Cert.Inproj1.main_arg0)
      ∧ r.2.mem ((c.tc : Thread Cert.Inproj1.nD Cert.Inproj1.τ).loc Cert.Inproj1.main_arg1) = m ((c.tc : Thread Cert.Inproj1.nD Cert.Inproj1.τ).loc Cert.Inproj1.main_arg1))
      ∧ r.2.sem = fun _ => 0)

def quiescent_Inproj1Ideal [hInproj1Ideal : Cert.Inproj1Ideal.Facts] : Prop :=
  ∀ (m : (ℓ : Loc Cert.Inproj1Ideal.nD Cert.Inproj1Ideal.τ Cert.Inproj1Ideal.sig) → Buf (Elt Ideal) ℓ) (g : Dev Cert.Inproj1Ideal.nD → PrngReg), Pre_Inproj1Ideal m →
    θ_run (Cert.Inproj1Ideal.defs (F := Ideal)) (onTc (τ := Cert.Inproj1Ideal.τ) (Cert.Inproj1Ideal.main (F := Ideal))) ⟨m, fun _ => 0, g⟩ (fun r => (∀ c : Dev Cert.Inproj1Ideal.nD,
      r.2.mem ((c.tc : Thread Cert.Inproj1Ideal.nD Cert.Inproj1Ideal.τ).loc Cert.Inproj1Ideal.main_arg0) = m ((c.tc : Thread Cert.Inproj1Ideal.nD Cert.Inproj1Ideal.τ).loc Cert.Inproj1Ideal.main_arg0)
      ∧ r.2.mem ((c.tc : Thread Cert.Inproj1Ideal.nD Cert.Inproj1Ideal.τ).loc Cert.Inproj1Ideal.main_arg1) = m ((c.tc : Thread Cert.Inproj1Ideal.nD Cert.Inproj1Ideal.τ).loc Cert.Inproj1Ideal.main_arg1))
      ∧ r.2.sem = fun _ => 0)

def quiescent_Inproj1RefIdeal [hInproj1RefIdeal : Cert.Inproj1RefIdeal.Facts] : Prop :=
  ∀ (m : (ℓ : Loc Cert.Inproj1RefIdeal.nD Cert.Inproj1RefIdeal.τ Cert.Inproj1RefIdeal.sig) → Buf (Elt Ideal) ℓ) (g : Dev Cert.Inproj1RefIdeal.nD → PrngReg), Pre_Inproj1RefIdeal m →
    θ_run (Cert.Inproj1RefIdeal.defs (F := Ideal)) (onTc (τ := Cert.Inproj1RefIdeal.τ) (Cert.Inproj1RefIdeal.main (F := Ideal))) ⟨m, fun _ => 0, g⟩ (fun r => (∀ c : Dev Cert.Inproj1RefIdeal.nD,
      r.2.mem ((c.tc : Thread Cert.Inproj1RefIdeal.nD Cert.Inproj1RefIdeal.τ).loc Cert.Inproj1RefIdeal.main_arg0) = m ((c.tc : Thread Cert.Inproj1RefIdeal.nD Cert.Inproj1RefIdeal.τ).loc Cert.Inproj1RefIdeal.main_arg0)
      ∧ r.2.mem ((c.tc : Thread Cert.Inproj1RefIdeal.nD Cert.Inproj1RefIdeal.τ).loc Cert.Inproj1RefIdeal.main_arg1) = m ((c.tc : Thread Cert.Inproj1RefIdeal.nD Cert.Inproj1RefIdeal.τ).loc Cert.Inproj1RefIdeal.main_arg1))
      ∧ r.2.sem = fun _ => 0)

def quiescent_Inproj0 [hInproj0 : Cert.Inproj0.Facts] : Prop :=
  ∀ (m : (ℓ : Loc Cert.Inproj0.nD Cert.Inproj0.τ Cert.Inproj0.sig) → Buf (Elt Bits) ℓ) (g : Dev Cert.Inproj0.nD → PrngReg), Pre_Inproj0 m →
    θ_run (Cert.Inproj0.defs (F := Bits)) (onTc (τ := Cert.Inproj0.τ) (Cert.Inproj0.main (F := Bits))) ⟨m, fun _ => 0, g⟩ (fun r => (∀ c : Dev Cert.Inproj0.nD,
      r.2.mem ((c.tc : Thread Cert.Inproj0.nD Cert.Inproj0.τ).loc Cert.Inproj0.main_arg0) = m ((c.tc : Thread Cert.Inproj0.nD Cert.Inproj0.τ).loc Cert.Inproj0.main_arg0)
      ∧ r.2.mem ((c.tc : Thread Cert.Inproj0.nD Cert.Inproj0.τ).loc Cert.Inproj0.main_arg1) = m ((c.tc : Thread Cert.Inproj0.nD Cert.Inproj0.τ).loc Cert.Inproj0.main_arg1))
      ∧ r.2.sem = fun _ => 0)

def quiescent_Inproj0Ideal [hInproj0Ideal : Cert.Inproj0Ideal.Facts] : Prop :=
  ∀ (m : (ℓ : Loc Cert.Inproj0Ideal.nD Cert.Inproj0Ideal.τ Cert.Inproj0Ideal.sig) → Buf (Elt Ideal) ℓ) (g : Dev Cert.Inproj0Ideal.nD → PrngReg), Pre_Inproj0Ideal m →
    θ_run (Cert.Inproj0Ideal.defs (F := Ideal)) (onTc (τ := Cert.Inproj0Ideal.τ) (Cert.Inproj0Ideal.main (F := Ideal))) ⟨m, fun _ => 0, g⟩ (fun r => (∀ c : Dev Cert.Inproj0Ideal.nD,
      r.2.mem ((c.tc : Thread Cert.Inproj0Ideal.nD Cert.Inproj0Ideal.τ).loc Cert.Inproj0Ideal.main_arg0) = m ((c.tc : Thread Cert.Inproj0Ideal.nD Cert.Inproj0Ideal.τ).loc Cert.Inproj0Ideal.main_arg0)
      ∧ r.2.mem ((c.tc : Thread Cert.Inproj0Ideal.nD Cert.Inproj0Ideal.τ).loc Cert.Inproj0Ideal.main_arg1) = m ((c.tc : Thread Cert.Inproj0Ideal.nD Cert.Inproj0Ideal.τ).loc Cert.Inproj0Ideal.main_arg1))
      ∧ r.2.sem = fun _ => 0)

def quiescent_Inproj0RefIdeal [hInproj0RefIdeal : Cert.Inproj0RefIdeal.Facts] : Prop :=
  ∀ (m : (ℓ : Loc Cert.Inproj0RefIdeal.nD Cert.Inproj0RefIdeal.τ Cert.Inproj0RefIdeal.sig) → Buf (Elt Ideal) ℓ) (g : Dev Cert.Inproj0RefIdeal.nD → PrngReg), Pre_Inproj0RefIdeal m →
    θ_run (Cert.Inproj0RefIdeal.defs (F := Ideal)) (onTc (τ := Cert.Inproj0RefIdeal.τ) (Cert.Inproj0RefIdeal.main (F := Ideal))) ⟨m, fun _ => 0, g⟩ (fun r => (∀ c : Dev Cert.Inproj0RefIdeal.nD,
      r.2.mem ((c.tc : Thread Cert.Inproj0RefIdeal.nD Cert.Inproj0RefIdeal.τ).loc Cert.Inproj0RefIdeal.main_arg0) = m ((c.tc : Thread Cert.Inproj0RefIdeal.nD Cert.Inproj0RefIdeal.τ).loc Cert.Inproj0RefIdeal.main_arg0)
      ∧ r.2.mem ((c.tc : Thread Cert.Inproj0RefIdeal.nD Cert.Inproj0RefIdeal.τ).loc Cert.Inproj0RefIdeal.main_arg1) = m ((c.tc : Thread Cert.Inproj0RefIdeal.nD Cert.Inproj0RefIdeal.τ).loc Cert.Inproj0RefIdeal.main_arg1))
      ∧ r.2.sem = fun _ => 0)

def quiescent_Inproj1Bwd [hInproj1Bwd : Cert.Inproj1Bwd.Facts] : Prop :=
  ∀ (m : (ℓ : Loc Cert.Inproj1Bwd.nD Cert.Inproj1Bwd.τ Cert.Inproj1Bwd.sig) → Buf (Elt Bits) ℓ) (g : Dev Cert.Inproj1Bwd.nD → PrngReg), Pre_Inproj1Bwd m →
    θ_run (Cert.Inproj1Bwd.defs (F := Bits)) (onTc (τ := Cert.Inproj1Bwd.τ) (Cert.Inproj1Bwd.main (F := Bits))) ⟨m, fun _ => 0, g⟩ (fun r => (∀ c : Dev Cert.Inproj1Bwd.nD,
      r.2.mem ((c.tc : Thread Cert.Inproj1Bwd.nD Cert.Inproj1Bwd.τ).loc Cert.Inproj1Bwd.main_arg0) = m ((c.tc : Thread Cert.Inproj1Bwd.nD Cert.Inproj1Bwd.τ).loc Cert.Inproj1Bwd.main_arg0)
      ∧ r.2.mem ((c.tc : Thread Cert.Inproj1Bwd.nD Cert.Inproj1Bwd.τ).loc Cert.Inproj1Bwd.main_arg1) = m ((c.tc : Thread Cert.Inproj1Bwd.nD Cert.Inproj1Bwd.τ).loc Cert.Inproj1Bwd.main_arg1)
      ∧ r.2.mem ((c.tc : Thread Cert.Inproj1Bwd.nD Cert.Inproj1Bwd.τ).loc Cert.Inproj1Bwd.main_arg2) = m ((c.tc : Thread Cert.Inproj1Bwd.nD Cert.Inproj1Bwd.τ).loc Cert.Inproj1Bwd.main_arg2)
      ∧ r.2.mem ((c.tc : Thread Cert.Inproj1Bwd.nD Cert.Inproj1Bwd.τ).loc Cert.Inproj1Bwd.main_arg3) = m ((c.tc : Thread Cert.Inproj1Bwd.nD Cert.Inproj1Bwd.τ).loc Cert.Inproj1Bwd.main_arg3)
      ∧ r.2.mem ((c.tc : Thread Cert.Inproj1Bwd.nD Cert.Inproj1Bwd.τ).loc Cert.Inproj1Bwd.main_arg4) = m ((c.tc : Thread Cert.Inproj1Bwd.nD Cert.Inproj1Bwd.τ).loc Cert.Inproj1Bwd.main_arg4)
      ∧ r.2.mem ((c.tc : Thread Cert.Inproj1Bwd.nD Cert.Inproj1Bwd.τ).loc Cert.Inproj1Bwd.main_arg5) = m ((c.tc : Thread Cert.Inproj1Bwd.nD Cert.Inproj1Bwd.τ).loc Cert.Inproj1Bwd.main_arg5)
      ∧ r.2.mem ((c.tc : Thread Cert.Inproj1Bwd.nD Cert.Inproj1Bwd.τ).loc Cert.Inproj1Bwd.main_arg6) = m ((c.tc : Thread Cert.Inproj1Bwd.nD Cert.Inproj1Bwd.τ).loc Cert.Inproj1Bwd.main_arg6)
      ∧ r.2.mem ((c.tc : Thread Cert.Inproj1Bwd.nD Cert.Inproj1Bwd.τ).loc Cert.Inproj1Bwd.main_arg7) = m ((c.tc : Thread Cert.Inproj1Bwd.nD Cert.Inproj1Bwd.τ).loc Cert.Inproj1Bwd.main_arg7)
      ∧ r.2.mem ((c.tc : Thread Cert.Inproj1Bwd.nD Cert.Inproj1Bwd.τ).loc Cert.Inproj1Bwd.main_arg8) = m ((c.tc : Thread Cert.Inproj1Bwd.nD Cert.Inproj1Bwd.τ).loc Cert.Inproj1Bwd.main_arg8))
      ∧ r.2.sem = fun _ => 0)

def quiescent_Inproj1BwdIdeal [hInproj1BwdIdeal : Cert.Inproj1BwdIdeal.Facts] : Prop :=
  ∀ (m : (ℓ : Loc Cert.Inproj1BwdIdeal.nD Cert.Inproj1BwdIdeal.τ Cert.Inproj1BwdIdeal.sig) → Buf (Elt Ideal) ℓ) (g : Dev Cert.Inproj1BwdIdeal.nD → PrngReg), Pre_Inproj1BwdIdeal m →
    θ_run (Cert.Inproj1BwdIdeal.defs (F := Ideal)) (onTc (τ := Cert.Inproj1BwdIdeal.τ) (Cert.Inproj1BwdIdeal.main (F := Ideal))) ⟨m, fun _ => 0, g⟩ (fun r => (∀ c : Dev Cert.Inproj1BwdIdeal.nD,
      r.2.mem ((c.tc : Thread Cert.Inproj1BwdIdeal.nD Cert.Inproj1BwdIdeal.τ).loc Cert.Inproj1BwdIdeal.main_arg0) = m ((c.tc : Thread Cert.Inproj1BwdIdeal.nD Cert.Inproj1BwdIdeal.τ).loc Cert.Inproj1BwdIdeal.main_arg0)
      ∧ r.2.mem ((c.tc : Thread Cert.Inproj1BwdIdeal.nD Cert.Inproj1BwdIdeal.τ).loc Cert.Inproj1BwdIdeal.main_arg1) = m ((c.tc : Thread Cert.Inproj1BwdIdeal.nD Cert.Inproj1BwdIdeal.τ).loc Cert.Inproj1BwdIdeal.main_arg1)
      ∧ r.2.mem ((c.tc : Thread Cert.Inproj1BwdIdeal.nD Cert.Inproj1BwdIdeal.τ).loc Cert.Inproj1BwdIdeal.main_arg2) = m ((c.tc : Thread Cert.Inproj1BwdIdeal.nD Cert.Inproj1BwdIdeal.τ).loc Cert.Inproj1BwdIdeal.main_arg2)
      ∧ r.2.mem ((c.tc : Thread Cert.Inproj1BwdIdeal.nD Cert.Inproj1BwdIdeal.τ).loc Cert.Inproj1BwdIdeal.main_arg3) = m ((c.tc : Thread Cert.Inproj1BwdIdeal.nD Cert.Inproj1BwdIdeal.τ).loc Cert.Inproj1BwdIdeal.main_arg3)
      ∧ r.2.mem ((c.tc : Thread Cert.Inproj1BwdIdeal.nD Cert.Inproj1BwdIdeal.τ).loc Cert.Inproj1BwdIdeal.main_arg4) = m ((c.tc : Thread Cert.Inproj1BwdIdeal.nD Cert.Inproj1BwdIdeal.τ).loc Cert.Inproj1BwdIdeal.main_arg4)
      ∧ r.2.mem ((c.tc : Thread Cert.Inproj1BwdIdeal.nD Cert.Inproj1BwdIdeal.τ).loc Cert.Inproj1BwdIdeal.main_arg5) = m ((c.tc : Thread Cert.Inproj1BwdIdeal.nD Cert.Inproj1BwdIdeal.τ).loc Cert.Inproj1BwdIdeal.main_arg5)
      ∧ r.2.mem ((c.tc : Thread Cert.Inproj1BwdIdeal.nD Cert.Inproj1BwdIdeal.τ).loc Cert.Inproj1BwdIdeal.main_arg6) = m ((c.tc : Thread Cert.Inproj1BwdIdeal.nD Cert.Inproj1BwdIdeal.τ).loc Cert.Inproj1BwdIdeal.main_arg6)
      ∧ r.2.mem ((c.tc : Thread Cert.Inproj1BwdIdeal.nD Cert.Inproj1BwdIdeal.τ).loc Cert.Inproj1BwdIdeal.main_arg7) = m ((c.tc : Thread Cert.Inproj1BwdIdeal.nD Cert.Inproj1BwdIdeal.τ).loc Cert.Inproj1BwdIdeal.main_arg7)
      ∧ r.2.mem ((c.tc : Thread Cert.Inproj1BwdIdeal.nD Cert.Inproj1BwdIdeal.τ).loc Cert.Inproj1BwdIdeal.main_arg8) = m ((c.tc : Thread Cert.Inproj1BwdIdeal.nD Cert.Inproj1BwdIdeal.τ).loc Cert.Inproj1BwdIdeal.main_arg8))
      ∧ r.2.sem = fun _ => 0)

def quiescent_Inproj1BwdIdeal_pre_inproj_finite [hInproj1BwdIdeal : Cert.Inproj1BwdIdeal.Facts] [hPre_inproj_finite : Cert.Pre_inproj_finite.Facts] : Prop :=
  ∀ (m : (ℓ : Loc Cert.Inproj1BwdIdeal.nD Cert.Inproj1BwdIdeal.τ Cert.Inproj1BwdIdeal.sig) → Buf (Elt Ideal) ℓ) (g : Dev Cert.Inproj1BwdIdeal.nD → PrngReg), Pre_Inproj1BwdIdeal_inproj_finite m →
    θ_run (Cert.Inproj1BwdIdeal.defs (F := Ideal)) (onTc (τ := Cert.Inproj1BwdIdeal.τ) (Cert.Inproj1BwdIdeal.main (F := Ideal))) ⟨m, fun _ => 0, g⟩ (fun r => (∀ c : Dev Cert.Inproj1BwdIdeal.nD,
      r.2.mem ((c.tc : Thread Cert.Inproj1BwdIdeal.nD Cert.Inproj1BwdIdeal.τ).loc Cert.Inproj1BwdIdeal.main_arg0) = m ((c.tc : Thread Cert.Inproj1BwdIdeal.nD Cert.Inproj1BwdIdeal.τ).loc Cert.Inproj1BwdIdeal.main_arg0)
      ∧ r.2.mem ((c.tc : Thread Cert.Inproj1BwdIdeal.nD Cert.Inproj1BwdIdeal.τ).loc Cert.Inproj1BwdIdeal.main_arg1) = m ((c.tc : Thread Cert.Inproj1BwdIdeal.nD Cert.Inproj1BwdIdeal.τ).loc Cert.Inproj1BwdIdeal.main_arg1)
      ∧ r.2.mem ((c.tc : Thread Cert.Inproj1BwdIdeal.nD Cert.Inproj1BwdIdeal.τ).loc Cert.Inproj1BwdIdeal.main_arg2) = m ((c.tc : Thread Cert.Inproj1BwdIdeal.nD Cert.Inproj1BwdIdeal.τ).loc Cert.Inproj1BwdIdeal.main_arg2)
      ∧ r.2.mem ((c.tc : Thread Cert.Inproj1BwdIdeal.nD Cert.Inproj1BwdIdeal.τ).loc Cert.Inproj1BwdIdeal.main_arg3) = m ((c.tc : Thread Cert.Inproj1BwdIdeal.nD Cert.Inproj1BwdIdeal.τ).loc Cert.Inproj1BwdIdeal.main_arg3)
      ∧ r.2.mem ((c.tc : Thread Cert.Inproj1BwdIdeal.nD Cert.Inproj1BwdIdeal.τ).loc Cert.Inproj1BwdIdeal.main_arg4) = m ((c.tc : Thread Cert.Inproj1BwdIdeal.nD Cert.Inproj1BwdIdeal.τ).loc Cert.Inproj1BwdIdeal.main_arg4)
      ∧ r.2.mem ((c.tc : Thread Cert.Inproj1BwdIdeal.nD Cert.Inproj1BwdIdeal.τ).loc Cert.Inproj1BwdIdeal.main_arg5) = m ((c.tc : Thread Cert.Inproj1BwdIdeal.nD Cert.Inproj1BwdIdeal.τ).loc Cert.Inproj1BwdIdeal.main_arg5)
      ∧ r.2.mem ((c.tc : Thread Cert.Inproj1BwdIdeal.nD Cert.Inproj1BwdIdeal.τ).loc Cert.Inproj1BwdIdeal.main_arg6) = m ((c.tc : Thread Cert.Inproj1BwdIdeal.nD Cert.Inproj1BwdIdeal.τ).loc Cert.Inproj1BwdIdeal.main_arg6)
      ∧ r.2.mem ((c.tc : Thread Cert.Inproj1BwdIdeal.nD Cert.Inproj1BwdIdeal.τ).loc Cert.Inproj1BwdIdeal.main_arg7) = m ((c.tc : Thread Cert.Inproj1BwdIdeal.nD Cert.Inproj1BwdIdeal.τ).loc Cert.Inproj1BwdIdeal.main_arg7)
      ∧ r.2.mem ((c.tc : Thread Cert.Inproj1BwdIdeal.nD Cert.Inproj1BwdIdeal.τ).loc Cert.Inproj1BwdIdeal.main_arg8) = m ((c.tc : Thread Cert.Inproj1BwdIdeal.nD Cert.Inproj1BwdIdeal.τ).loc Cert.Inproj1BwdIdeal.main_arg8))
      ∧ r.2.sem = fun _ => 0)

def quiescent_Inproj1BwdRefIdeal [hInproj1BwdRefIdeal : Cert.Inproj1BwdRefIdeal.Facts] : Prop :=
  ∀ (m : (ℓ : Loc Cert.Inproj1BwdRefIdeal.nD Cert.Inproj1BwdRefIdeal.τ Cert.Inproj1BwdRefIdeal.sig) → Buf (Elt Ideal) ℓ) (g : Dev Cert.Inproj1BwdRefIdeal.nD → PrngReg), Pre_Inproj1BwdRefIdeal m →
    θ_run (Cert.Inproj1BwdRefIdeal.defs (F := Ideal)) (onTc (τ := Cert.Inproj1BwdRefIdeal.τ) (Cert.Inproj1BwdRefIdeal.main (F := Ideal))) ⟨m, fun _ => 0, g⟩ (fun r => (∀ c : Dev Cert.Inproj1BwdRefIdeal.nD,
      r.2.mem ((c.tc : Thread Cert.Inproj1BwdRefIdeal.nD Cert.Inproj1BwdRefIdeal.τ).loc Cert.Inproj1BwdRefIdeal.main_arg0) = m ((c.tc : Thread Cert.Inproj1BwdRefIdeal.nD Cert.Inproj1BwdRefIdeal.τ).loc Cert.Inproj1BwdRefIdeal.main_arg0)
      ∧ r.2.mem ((c.tc : Thread Cert.Inproj1BwdRefIdeal.nD Cert.Inproj1BwdRefIdeal.τ).loc Cert.Inproj1BwdRefIdeal.main_arg1) = m ((c.tc : Thread Cert.Inproj1BwdRefIdeal.nD Cert.Inproj1BwdRefIdeal.τ).loc Cert.Inproj1BwdRefIdeal.main_arg1)
      ∧ r.2.mem ((c.tc : Thread Cert.Inproj1BwdRefIdeal.nD Cert.Inproj1BwdRefIdeal.τ).loc Cert.Inproj1BwdRefIdeal.main_arg2) = m ((c.tc : Thread Cert.Inproj1BwdRefIdeal.nD Cert.Inproj1BwdRefIdeal.τ).loc Cert.Inproj1BwdRefIdeal.main_arg2)
      ∧ r.2.mem ((c.tc : Thread Cert.Inproj1BwdRefIdeal.nD Cert.Inproj1BwdRefIdeal.τ).loc Cert.Inproj1BwdRefIdeal.main_arg3) = m ((c.tc : Thread Cert.Inproj1BwdRefIdeal.nD Cert.Inproj1BwdRefIdeal.τ).loc Cert.Inproj1BwdRefIdeal.main_arg3)
      ∧ r.2.mem ((c.tc : Thread Cert.Inproj1BwdRefIdeal.nD Cert.Inproj1BwdRefIdeal.τ).loc Cert.Inproj1BwdRefIdeal.main_arg4) = m ((c.tc : Thread Cert.Inproj1BwdRefIdeal.nD Cert.Inproj1BwdRefIdeal.τ).loc Cert.Inproj1BwdRefIdeal.main_arg4)
      ∧ r.2.mem ((c.tc : Thread Cert.Inproj1BwdRefIdeal.nD Cert.Inproj1BwdRefIdeal.τ).loc Cert.Inproj1BwdRefIdeal.main_arg5) = m ((c.tc : Thread Cert.Inproj1BwdRefIdeal.nD Cert.Inproj1BwdRefIdeal.τ).loc Cert.Inproj1BwdRefIdeal.main_arg5)
      ∧ r.2.mem ((c.tc : Thread Cert.Inproj1BwdRefIdeal.nD Cert.Inproj1BwdRefIdeal.τ).loc Cert.Inproj1BwdRefIdeal.main_arg6) = m ((c.tc : Thread Cert.Inproj1BwdRefIdeal.nD Cert.Inproj1BwdRefIdeal.τ).loc Cert.Inproj1BwdRefIdeal.main_arg6)
      ∧ r.2.mem ((c.tc : Thread Cert.Inproj1BwdRefIdeal.nD Cert.Inproj1BwdRefIdeal.τ).loc Cert.Inproj1BwdRefIdeal.main_arg7) = m ((c.tc : Thread Cert.Inproj1BwdRefIdeal.nD Cert.Inproj1BwdRefIdeal.τ).loc Cert.Inproj1BwdRefIdeal.main_arg7)
      ∧ r.2.mem ((c.tc : Thread Cert.Inproj1BwdRefIdeal.nD Cert.Inproj1BwdRefIdeal.τ).loc Cert.Inproj1BwdRefIdeal.main_arg8) = m ((c.tc : Thread Cert.Inproj1BwdRefIdeal.nD Cert.Inproj1BwdRefIdeal.τ).loc Cert.Inproj1BwdRefIdeal.main_arg8))
      ∧ r.2.sem = fun _ => 0)

def quiescent_Inproj1BwdRefIdeal_pre_inproj_finite [hInproj1BwdRefIdeal : Cert.Inproj1BwdRefIdeal.Facts] [hPre_inproj_finite : Cert.Pre_inproj_finite.Facts] : Prop :=
  ∀ (m : (ℓ : Loc Cert.Inproj1BwdRefIdeal.nD Cert.Inproj1BwdRefIdeal.τ Cert.Inproj1BwdRefIdeal.sig) → Buf (Elt Ideal) ℓ) (g : Dev Cert.Inproj1BwdRefIdeal.nD → PrngReg), Pre_Inproj1BwdRefIdeal_inproj_finite m →
    θ_run (Cert.Inproj1BwdRefIdeal.defs (F := Ideal)) (onTc (τ := Cert.Inproj1BwdRefIdeal.τ) (Cert.Inproj1BwdRefIdeal.main (F := Ideal))) ⟨m, fun _ => 0, g⟩ (fun r => (∀ c : Dev Cert.Inproj1BwdRefIdeal.nD,
      r.2.mem ((c.tc : Thread Cert.Inproj1BwdRefIdeal.nD Cert.Inproj1BwdRefIdeal.τ).loc Cert.Inproj1BwdRefIdeal.main_arg0) = m ((c.tc : Thread Cert.Inproj1BwdRefIdeal.nD Cert.Inproj1BwdRefIdeal.τ).loc Cert.Inproj1BwdRefIdeal.main_arg0)
      ∧ r.2.mem ((c.tc : Thread Cert.Inproj1BwdRefIdeal.nD Cert.Inproj1BwdRefIdeal.τ).loc Cert.Inproj1BwdRefIdeal.main_arg1) = m ((c.tc : Thread Cert.Inproj1BwdRefIdeal.nD Cert.Inproj1BwdRefIdeal.τ).loc Cert.Inproj1BwdRefIdeal.main_arg1)
      ∧ r.2.mem ((c.tc : Thread Cert.Inproj1BwdRefIdeal.nD Cert.Inproj1BwdRefIdeal.τ).loc Cert.Inproj1BwdRefIdeal.main_arg2) = m ((c.tc : Thread Cert.Inproj1BwdRefIdeal.nD Cert.Inproj1BwdRefIdeal.τ).loc Cert.Inproj1BwdRefIdeal.main_arg2)
      ∧ r.2.mem ((c.tc : Thread Cert.Inproj1BwdRefIdeal.nD Cert.Inproj1BwdRefIdeal.τ).loc Cert.Inproj1BwdRefIdeal.main_arg3) = m ((c.tc : Thread Cert.Inproj1BwdRefIdeal.nD Cert.Inproj1BwdRefIdeal.τ).loc Cert.Inproj1BwdRefIdeal.main_arg3)
      ∧ r.2.mem ((c.tc : Thread Cert.Inproj1BwdRefIdeal.nD Cert.Inproj1BwdRefIdeal.τ).loc Cert.Inproj1BwdRefIdeal.main_arg4) = m ((c.tc : Thread Cert.Inproj1BwdRefIdeal.nD Cert.Inproj1BwdRefIdeal.τ).loc Cert.Inproj1BwdRefIdeal.main_arg4)
      ∧ r.2.mem ((c.tc : Thread Cert.Inproj1BwdRefIdeal.nD Cert.Inproj1BwdRefIdeal.τ).loc Cert.Inproj1BwdRefIdeal.main_arg5) = m ((c.tc : Thread Cert.Inproj1BwdRefIdeal.nD Cert.Inproj1BwdRefIdeal.τ).loc Cert.Inproj1BwdRefIdeal.main_arg5)
      ∧ r.2.mem ((c.tc : Thread Cert.Inproj1BwdRefIdeal.nD Cert.Inproj1BwdRefIdeal.τ).loc Cert.Inproj1BwdRefIdeal.main_arg6) = m ((c.tc : Thread Cert.Inproj1BwdRefIdeal.nD Cert.Inproj1BwdRefIdeal.τ).loc Cert.Inproj1BwdRefIdeal.main_arg6)
      ∧ r.2.mem ((c.tc : Thread Cert.Inproj1BwdRefIdeal.nD Cert.Inproj1BwdRefIdeal.τ).loc Cert.Inproj1BwdRefIdeal.main_arg7) = m ((c.tc : Thread Cert.Inproj1BwdRefIdeal.nD Cert.Inproj1BwdRefIdeal.τ).loc Cert.Inproj1BwdRefIdeal.main_arg7)
      ∧ r.2.mem ((c.tc : Thread Cert.Inproj1BwdRefIdeal.nD Cert.Inproj1BwdRefIdeal.τ).loc Cert.Inproj1BwdRefIdeal.main_arg8) = m ((c.tc : Thread Cert.Inproj1BwdRefIdeal.nD Cert.Inproj1BwdRefIdeal.τ).loc Cert.Inproj1BwdRefIdeal.main_arg8))
      ∧ r.2.sem = fun _ => 0)

def quiescent_Inproj0Bwd [hInproj0Bwd : Cert.Inproj0Bwd.Facts] : Prop :=
  ∀ (m : (ℓ : Loc Cert.Inproj0Bwd.nD Cert.Inproj0Bwd.τ Cert.Inproj0Bwd.sig) → Buf (Elt Bits) ℓ) (g : Dev Cert.Inproj0Bwd.nD → PrngReg), Pre_Inproj0Bwd m →
    θ_run (Cert.Inproj0Bwd.defs (F := Bits)) (onTc (τ := Cert.Inproj0Bwd.τ) (Cert.Inproj0Bwd.main (F := Bits))) ⟨m, fun _ => 0, g⟩ (fun r => (∀ c : Dev Cert.Inproj0Bwd.nD,
      r.2.mem ((c.tc : Thread Cert.Inproj0Bwd.nD Cert.Inproj0Bwd.τ).loc Cert.Inproj0Bwd.main_arg0) = m ((c.tc : Thread Cert.Inproj0Bwd.nD Cert.Inproj0Bwd.τ).loc Cert.Inproj0Bwd.main_arg0)
      ∧ r.2.mem ((c.tc : Thread Cert.Inproj0Bwd.nD Cert.Inproj0Bwd.τ).loc Cert.Inproj0Bwd.main_arg1) = m ((c.tc : Thread Cert.Inproj0Bwd.nD Cert.Inproj0Bwd.τ).loc Cert.Inproj0Bwd.main_arg1)
      ∧ r.2.mem ((c.tc : Thread Cert.Inproj0Bwd.nD Cert.Inproj0Bwd.τ).loc Cert.Inproj0Bwd.main_arg2) = m ((c.tc : Thread Cert.Inproj0Bwd.nD Cert.Inproj0Bwd.τ).loc Cert.Inproj0Bwd.main_arg2)
      ∧ r.2.mem ((c.tc : Thread Cert.Inproj0Bwd.nD Cert.Inproj0Bwd.τ).loc Cert.Inproj0Bwd.main_arg3) = m ((c.tc : Thread Cert.Inproj0Bwd.nD Cert.Inproj0Bwd.τ).loc Cert.Inproj0Bwd.main_arg3)
      ∧ r.2.mem ((c.tc : Thread Cert.Inproj0Bwd.nD Cert.Inproj0Bwd.τ).loc Cert.Inproj0Bwd.main_arg4) = m ((c.tc : Thread Cert.Inproj0Bwd.nD Cert.Inproj0Bwd.τ).loc Cert.Inproj0Bwd.main_arg4)
      ∧ r.2.mem ((c.tc : Thread Cert.Inproj0Bwd.nD Cert.Inproj0Bwd.τ).loc Cert.Inproj0Bwd.main_arg5) = m ((c.tc : Thread Cert.Inproj0Bwd.nD Cert.Inproj0Bwd.τ).loc Cert.Inproj0Bwd.main_arg5)
      ∧ r.2.mem ((c.tc : Thread Cert.Inproj0Bwd.nD Cert.Inproj0Bwd.τ).loc Cert.Inproj0Bwd.main_arg6) = m ((c.tc : Thread Cert.Inproj0Bwd.nD Cert.Inproj0Bwd.τ).loc Cert.Inproj0Bwd.main_arg6)
      ∧ r.2.mem ((c.tc : Thread Cert.Inproj0Bwd.nD Cert.Inproj0Bwd.τ).loc Cert.Inproj0Bwd.main_arg7) = m ((c.tc : Thread Cert.Inproj0Bwd.nD Cert.Inproj0Bwd.τ).loc Cert.Inproj0Bwd.main_arg7)
      ∧ r.2.mem ((c.tc : Thread Cert.Inproj0Bwd.nD Cert.Inproj0Bwd.τ).loc Cert.Inproj0Bwd.main_arg8) = m ((c.tc : Thread Cert.Inproj0Bwd.nD Cert.Inproj0Bwd.τ).loc Cert.Inproj0Bwd.main_arg8))
      ∧ r.2.sem = fun _ => 0)

def quiescent_Inproj0BwdIdeal [hInproj0BwdIdeal : Cert.Inproj0BwdIdeal.Facts] : Prop :=
  ∀ (m : (ℓ : Loc Cert.Inproj0BwdIdeal.nD Cert.Inproj0BwdIdeal.τ Cert.Inproj0BwdIdeal.sig) → Buf (Elt Ideal) ℓ) (g : Dev Cert.Inproj0BwdIdeal.nD → PrngReg), Pre_Inproj0BwdIdeal m →
    θ_run (Cert.Inproj0BwdIdeal.defs (F := Ideal)) (onTc (τ := Cert.Inproj0BwdIdeal.τ) (Cert.Inproj0BwdIdeal.main (F := Ideal))) ⟨m, fun _ => 0, g⟩ (fun r => (∀ c : Dev Cert.Inproj0BwdIdeal.nD,
      r.2.mem ((c.tc : Thread Cert.Inproj0BwdIdeal.nD Cert.Inproj0BwdIdeal.τ).loc Cert.Inproj0BwdIdeal.main_arg0) = m ((c.tc : Thread Cert.Inproj0BwdIdeal.nD Cert.Inproj0BwdIdeal.τ).loc Cert.Inproj0BwdIdeal.main_arg0)
      ∧ r.2.mem ((c.tc : Thread Cert.Inproj0BwdIdeal.nD Cert.Inproj0BwdIdeal.τ).loc Cert.Inproj0BwdIdeal.main_arg1) = m ((c.tc : Thread Cert.Inproj0BwdIdeal.nD Cert.Inproj0BwdIdeal.τ).loc Cert.Inproj0BwdIdeal.main_arg1)
      ∧ r.2.mem ((c.tc : Thread Cert.Inproj0BwdIdeal.nD Cert.Inproj0BwdIdeal.τ).loc Cert.Inproj0BwdIdeal.main_arg2) = m ((c.tc : Thread Cert.Inproj0BwdIdeal.nD Cert.Inproj0BwdIdeal.τ).loc Cert.Inproj0BwdIdeal.main_arg2)
      ∧ r.2.mem ((c.tc : Thread Cert.Inproj0BwdIdeal.nD Cert.Inproj0BwdIdeal.τ).loc Cert.Inproj0BwdIdeal.main_arg3) = m ((c.tc : Thread Cert.Inproj0BwdIdeal.nD Cert.Inproj0BwdIdeal.τ).loc Cert.Inproj0BwdIdeal.main_arg3)
      ∧ r.2.mem ((c.tc : Thread Cert.Inproj0BwdIdeal.nD Cert.Inproj0BwdIdeal.τ).loc Cert.Inproj0BwdIdeal.main_arg4) = m ((c.tc : Thread Cert.Inproj0BwdIdeal.nD Cert.Inproj0BwdIdeal.τ).loc Cert.Inproj0BwdIdeal.main_arg4)
      ∧ r.2.mem ((c.tc : Thread Cert.Inproj0BwdIdeal.nD Cert.Inproj0BwdIdeal.τ).loc Cert.Inproj0BwdIdeal.main_arg5) = m ((c.tc : Thread Cert.Inproj0BwdIdeal.nD Cert.Inproj0BwdIdeal.τ).loc Cert.Inproj0BwdIdeal.main_arg5)
      ∧ r.2.mem ((c.tc : Thread Cert.Inproj0BwdIdeal.nD Cert.Inproj0BwdIdeal.τ).loc Cert.Inproj0BwdIdeal.main_arg6) = m ((c.tc : Thread Cert.Inproj0BwdIdeal.nD Cert.Inproj0BwdIdeal.τ).loc Cert.Inproj0BwdIdeal.main_arg6)
      ∧ r.2.mem ((c.tc : Thread Cert.Inproj0BwdIdeal.nD Cert.Inproj0BwdIdeal.τ).loc Cert.Inproj0BwdIdeal.main_arg7) = m ((c.tc : Thread Cert.Inproj0BwdIdeal.nD Cert.Inproj0BwdIdeal.τ).loc Cert.Inproj0BwdIdeal.main_arg7)
      ∧ r.2.mem ((c.tc : Thread Cert.Inproj0BwdIdeal.nD Cert.Inproj0BwdIdeal.τ).loc Cert.Inproj0BwdIdeal.main_arg8) = m ((c.tc : Thread Cert.Inproj0BwdIdeal.nD Cert.Inproj0BwdIdeal.τ).loc Cert.Inproj0BwdIdeal.main_arg8))
      ∧ r.2.sem = fun _ => 0)

def quiescent_Inproj0BwdIdeal_pre_inproj0_finite [hInproj0BwdIdeal : Cert.Inproj0BwdIdeal.Facts] [hPre_inproj0_finite : Cert.Pre_inproj0_finite.Facts] : Prop :=
  ∀ (m : (ℓ : Loc Cert.Inproj0BwdIdeal.nD Cert.Inproj0BwdIdeal.τ Cert.Inproj0BwdIdeal.sig) → Buf (Elt Ideal) ℓ) (g : Dev Cert.Inproj0BwdIdeal.nD → PrngReg), Pre_Inproj0BwdIdeal_inproj0_finite m →
    θ_run (Cert.Inproj0BwdIdeal.defs (F := Ideal)) (onTc (τ := Cert.Inproj0BwdIdeal.τ) (Cert.Inproj0BwdIdeal.main (F := Ideal))) ⟨m, fun _ => 0, g⟩ (fun r => (∀ c : Dev Cert.Inproj0BwdIdeal.nD,
      r.2.mem ((c.tc : Thread Cert.Inproj0BwdIdeal.nD Cert.Inproj0BwdIdeal.τ).loc Cert.Inproj0BwdIdeal.main_arg0) = m ((c.tc : Thread Cert.Inproj0BwdIdeal.nD Cert.Inproj0BwdIdeal.τ).loc Cert.Inproj0BwdIdeal.main_arg0)
      ∧ r.2.mem ((c.tc : Thread Cert.Inproj0BwdIdeal.nD Cert.Inproj0BwdIdeal.τ).loc Cert.Inproj0BwdIdeal.main_arg1) = m ((c.tc : Thread Cert.Inproj0BwdIdeal.nD Cert.Inproj0BwdIdeal.τ).loc Cert.Inproj0BwdIdeal.main_arg1)
      ∧ r.2.mem ((c.tc : Thread Cert.Inproj0BwdIdeal.nD Cert.Inproj0BwdIdeal.τ).loc Cert.Inproj0BwdIdeal.main_arg2) = m ((c.tc : Thread Cert.Inproj0BwdIdeal.nD Cert.Inproj0BwdIdeal.τ).loc Cert.Inproj0BwdIdeal.main_arg2)
      ∧ r.2.mem ((c.tc : Thread Cert.Inproj0BwdIdeal.nD Cert.Inproj0BwdIdeal.τ).loc Cert.Inproj0BwdIdeal.main_arg3) = m ((c.tc : Thread Cert.Inproj0BwdIdeal.nD Cert.Inproj0BwdIdeal.τ).loc Cert.Inproj0BwdIdeal.main_arg3)
      ∧ r.2.mem ((c.tc : Thread Cert.Inproj0BwdIdeal.nD Cert.Inproj0BwdIdeal.τ).loc Cert.Inproj0BwdIdeal.main_arg4) = m ((c.tc : Thread Cert.Inproj0BwdIdeal.nD Cert.Inproj0BwdIdeal.τ).loc Cert.Inproj0BwdIdeal.main_arg4)
      ∧ r.2.mem ((c.tc : Thread Cert.Inproj0BwdIdeal.nD Cert.Inproj0BwdIdeal.τ).loc Cert.Inproj0BwdIdeal.main_arg5) = m ((c.tc : Thread Cert.Inproj0BwdIdeal.nD Cert.Inproj0BwdIdeal.τ).loc Cert.Inproj0BwdIdeal.main_arg5)
      ∧ r.2.mem ((c.tc : Thread Cert.Inproj0BwdIdeal.nD Cert.Inproj0BwdIdeal.τ).loc Cert.Inproj0BwdIdeal.main_arg6) = m ((c.tc : Thread Cert.Inproj0BwdIdeal.nD Cert.Inproj0BwdIdeal.τ).loc Cert.Inproj0BwdIdeal.main_arg6)
      ∧ r.2.mem ((c.tc : Thread Cert.Inproj0BwdIdeal.nD Cert.Inproj0BwdIdeal.τ).loc Cert.Inproj0BwdIdeal.main_arg7) = m ((c.tc : Thread Cert.Inproj0BwdIdeal.nD Cert.Inproj0BwdIdeal.τ).loc Cert.Inproj0BwdIdeal.main_arg7)
      ∧ r.2.mem ((c.tc : Thread Cert.Inproj0BwdIdeal.nD Cert.Inproj0BwdIdeal.τ).loc Cert.Inproj0BwdIdeal.main_arg8) = m ((c.tc : Thread Cert.Inproj0BwdIdeal.nD Cert.Inproj0BwdIdeal.τ).loc Cert.Inproj0BwdIdeal.main_arg8))
      ∧ r.2.sem = fun _ => 0)

def quiescent_Inproj0BwdRefIdeal [hInproj0BwdRefIdeal : Cert.Inproj0BwdRefIdeal.Facts] : Prop :=
  ∀ (m : (ℓ : Loc Cert.Inproj0BwdRefIdeal.nD Cert.Inproj0BwdRefIdeal.τ Cert.Inproj0BwdRefIdeal.sig) → Buf (Elt Ideal) ℓ) (g : Dev Cert.Inproj0BwdRefIdeal.nD → PrngReg), Pre_Inproj0BwdRefIdeal m →
    θ_run (Cert.Inproj0BwdRefIdeal.defs (F := Ideal)) (onTc (τ := Cert.Inproj0BwdRefIdeal.τ) (Cert.Inproj0BwdRefIdeal.main (F := Ideal))) ⟨m, fun _ => 0, g⟩ (fun r => (∀ c : Dev Cert.Inproj0BwdRefIdeal.nD,
      r.2.mem ((c.tc : Thread Cert.Inproj0BwdRefIdeal.nD Cert.Inproj0BwdRefIdeal.τ).loc Cert.Inproj0BwdRefIdeal.main_arg0) = m ((c.tc : Thread Cert.Inproj0BwdRefIdeal.nD Cert.Inproj0BwdRefIdeal.τ).loc Cert.Inproj0BwdRefIdeal.main_arg0)
      ∧ r.2.mem ((c.tc : Thread Cert.Inproj0BwdRefIdeal.nD Cert.Inproj0BwdRefIdeal.τ).loc Cert.Inproj0BwdRefIdeal.main_arg1) = m ((c.tc : Thread Cert.Inproj0BwdRefIdeal.nD Cert.Inproj0BwdRefIdeal.τ).loc Cert.Inproj0BwdRefIdeal.main_arg1)
      ∧ r.2.mem ((c.tc : Thread Cert.Inproj0BwdRefIdeal.nD Cert.Inproj0BwdRefIdeal.τ).loc Cert.Inproj0BwdRefIdeal.main_arg2) = m ((c.tc : Thread Cert.Inproj0BwdRefIdeal.nD Cert.Inproj0BwdRefIdeal.τ).loc Cert.Inproj0BwdRefIdeal.main_arg2)
      ∧ r.2.mem ((c.tc : Thread Cert.Inproj0BwdRefIdeal.nD Cert.Inproj0BwdRefIdeal.τ).loc Cert.Inproj0BwdRefIdeal.main_arg3) = m ((c.tc : Thread Cert.Inproj0BwdRefIdeal.nD Cert.Inproj0BwdRefIdeal.τ).loc Cert.Inproj0BwdRefIdeal.main_arg3)
      ∧ r.2.mem ((c.tc : Thread Cert.Inproj0BwdRefIdeal.nD Cert.Inproj0BwdRefIdeal.τ).loc Cert.Inproj0BwdRefIdeal.main_arg4) = m ((c.tc : Thread Cert.Inproj0BwdRefIdeal.nD Cert.Inproj0BwdRefIdeal.τ).loc Cert.Inproj0BwdRefIdeal.main_arg4)
      ∧ r.2.mem ((c.tc : Thread Cert.Inproj0BwdRefIdeal.nD Cert.Inproj0BwdRefIdeal.τ).loc Cert.Inproj0BwdRefIdeal.main_arg5) = m ((c.tc : Thread Cert.Inproj0BwdRefIdeal.nD Cert.Inproj0BwdRefIdeal.τ).loc Cert.Inproj0BwdRefIdeal.main_arg5)
      ∧ r.2.mem ((c.tc : Thread Cert.Inproj0BwdRefIdeal.nD Cert.Inproj0BwdRefIdeal.τ).loc Cert.Inproj0BwdRefIdeal.main_arg6) = m ((c.tc : Thread Cert.Inproj0BwdRefIdeal.nD Cert.Inproj0BwdRefIdeal.τ).loc Cert.Inproj0BwdRefIdeal.main_arg6)
      ∧ r.2.mem ((c.tc : Thread Cert.Inproj0BwdRefIdeal.nD Cert.Inproj0BwdRefIdeal.τ).loc Cert.Inproj0BwdRefIdeal.main_arg7) = m ((c.tc : Thread Cert.Inproj0BwdRefIdeal.nD Cert.Inproj0BwdRefIdeal.τ).loc Cert.Inproj0BwdRefIdeal.main_arg7)
      ∧ r.2.mem ((c.tc : Thread Cert.Inproj0BwdRefIdeal.nD Cert.Inproj0BwdRefIdeal.τ).loc Cert.Inproj0BwdRefIdeal.main_arg8) = m ((c.tc : Thread Cert.Inproj0BwdRefIdeal.nD Cert.Inproj0BwdRefIdeal.τ).loc Cert.Inproj0BwdRefIdeal.main_arg8))
      ∧ r.2.sem = fun _ => 0)

def quiescent_Inproj0BwdRefIdeal_pre_inproj0_finite [hInproj0BwdRefIdeal : Cert.Inproj0BwdRefIdeal.Facts] [hPre_inproj0_finite : Cert.Pre_inproj0_finite.Facts] : Prop :=
  ∀ (m : (ℓ : Loc Cert.Inproj0BwdRefIdeal.nD Cert.Inproj0BwdRefIdeal.τ Cert.Inproj0BwdRefIdeal.sig) → Buf (Elt Ideal) ℓ) (g : Dev Cert.Inproj0BwdRefIdeal.nD → PrngReg), Pre_Inproj0BwdRefIdeal_inproj0_finite m →
    θ_run (Cert.Inproj0BwdRefIdeal.defs (F := Ideal)) (onTc (τ := Cert.Inproj0BwdRefIdeal.τ) (Cert.Inproj0BwdRefIdeal.main (F := Ideal))) ⟨m, fun _ => 0, g⟩ (fun r => (∀ c : Dev Cert.Inproj0BwdRefIdeal.nD,
      r.2.mem ((c.tc : Thread Cert.Inproj0BwdRefIdeal.nD Cert.Inproj0BwdRefIdeal.τ).loc Cert.Inproj0BwdRefIdeal.main_arg0) = m ((c.tc : Thread Cert.Inproj0BwdRefIdeal.nD Cert.Inproj0BwdRefIdeal.τ).loc Cert.Inproj0BwdRefIdeal.main_arg0)
      ∧ r.2.mem ((c.tc : Thread Cert.Inproj0BwdRefIdeal.nD Cert.Inproj0BwdRefIdeal.τ).loc Cert.Inproj0BwdRefIdeal.main_arg1) = m ((c.tc : Thread Cert.Inproj0BwdRefIdeal.nD Cert.Inproj0BwdRefIdeal.τ).loc Cert.Inproj0BwdRefIdeal.main_arg1)
      ∧ r.2.mem ((c.tc : Thread Cert.Inproj0BwdRefIdeal.nD Cert.Inproj0BwdRefIdeal.τ).loc Cert.Inproj0BwdRefIdeal.main_arg2) = m ((c.tc : Thread Cert.Inproj0BwdRefIdeal.nD Cert.Inproj0BwdRefIdeal.τ).loc Cert.Inproj0BwdRefIdeal.main_arg2)
      ∧ r.2.mem ((c.tc : Thread Cert.Inproj0BwdRefIdeal.nD Cert.Inproj0BwdRefIdeal.τ).loc Cert.Inproj0BwdRefIdeal.main_arg3) = m ((c.tc : Thread Cert.Inproj0BwdRefIdeal.nD Cert.Inproj0BwdRefIdeal.τ).loc Cert.Inproj0BwdRefIdeal.main_arg3)
      ∧ r.2.mem ((c.tc : Thread Cert.Inproj0BwdRefIdeal.nD Cert.Inproj0BwdRefIdeal.τ).loc Cert.Inproj0BwdRefIdeal.main_arg4) = m ((c.tc : Thread Cert.Inproj0BwdRefIdeal.nD Cert.Inproj0BwdRefIdeal.τ).loc Cert.Inproj0BwdRefIdeal.main_arg4)
      ∧ r.2.mem ((c.tc : Thread Cert.Inproj0BwdRefIdeal.nD Cert.Inproj0BwdRefIdeal.τ).loc Cert.Inproj0BwdRefIdeal.main_arg5) = m ((c.tc : Thread Cert.Inproj0BwdRefIdeal.nD Cert.Inproj0BwdRefIdeal.τ).loc Cert.Inproj0BwdRefIdeal.main_arg5)
      ∧ r.2.mem ((c.tc : Thread Cert.Inproj0BwdRefIdeal.nD Cert.Inproj0BwdRefIdeal.τ).loc Cert.Inproj0BwdRefIdeal.main_arg6) = m ((c.tc : Thread Cert.Inproj0BwdRefIdeal.nD Cert.Inproj0BwdRefIdeal.τ).loc Cert.Inproj0BwdRefIdeal.main_arg6)
      ∧ r.2.mem ((c.tc : Thread Cert.Inproj0BwdRefIdeal.nD Cert.Inproj0BwdRefIdeal.τ).loc Cert.Inproj0BwdRefIdeal.main_arg7) = m ((c.tc : Thread Cert.Inproj0BwdRefIdeal.nD Cert.Inproj0BwdRefIdeal.τ).loc Cert.Inproj0BwdRefIdeal.main_arg7)
      ∧ r.2.mem ((c.tc : Thread Cert.Inproj0BwdRefIdeal.nD Cert.Inproj0BwdRefIdeal.τ).loc Cert.Inproj0BwdRefIdeal.main_arg8) = m ((c.tc : Thread Cert.Inproj0BwdRefIdeal.nD Cert.Inproj0BwdRefIdeal.τ).loc Cert.Inproj0BwdRefIdeal.main_arg8))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5)
      ∧ r.2.mem ((c.tc : Thread Cert.EvenOut.nD Cert.EvenOut.τ).loc Cert.EvenOut.main_arg6) = m ((c.tc : Thread Cert.EvenOut.nD Cert.EvenOut.τ).loc Cert.EvenOut.main_arg6)
      ∧ r.2.mem ((c.tc : Thread Cert.EvenOut.nD Cert.EvenOut.τ).loc Cert.EvenOut.main_arg7) = m ((c.tc : Thread Cert.EvenOut.nD Cert.EvenOut.τ).loc Cert.EvenOut.main_arg7)
      ∧ r.2.mem ((c.tc : Thread Cert.EvenOut.nD Cert.EvenOut.τ).loc Cert.EvenOut.main_arg8) = m ((c.tc : Thread Cert.EvenOut.nD Cert.EvenOut.τ).loc Cert.EvenOut.main_arg8)
      ∧ r.2.mem ((c.tc : Thread Cert.EvenOut.nD Cert.EvenOut.τ).loc Cert.EvenOut.main_arg9) = m ((c.tc : Thread Cert.EvenOut.nD Cert.EvenOut.τ).loc Cert.EvenOut.main_arg9)
      ∧ r.2.mem ((c.tc : Thread Cert.EvenOut.nD Cert.EvenOut.τ).loc Cert.EvenOut.main_arg10) = m ((c.tc : Thread Cert.EvenOut.nD Cert.EvenOut.τ).loc Cert.EvenOut.main_arg10)
      ∧ r.2.mem ((c.tc : Thread Cert.EvenOut.nD Cert.EvenOut.τ).loc Cert.EvenOut.main_arg11) = m ((c.tc : Thread Cert.EvenOut.nD Cert.EvenOut.τ).loc Cert.EvenOut.main_arg11)
      ∧ r.2.mem ((c.tc : Thread Cert.EvenOut.nD Cert.EvenOut.τ).loc Cert.EvenOut.main_arg12) = m ((c.tc : Thread Cert.EvenOut.nD Cert.EvenOut.τ).loc Cert.EvenOut.main_arg12)
      ∧ r.2.mem ((c.tc : Thread Cert.EvenOut.nD Cert.EvenOut.τ).loc Cert.EvenOut.main_arg13) = m ((c.tc : Thread Cert.EvenOut.nD Cert.EvenOut.τ).loc Cert.EvenOut.main_arg13))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
      ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
      ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
      ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
      ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
      ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
      ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11)
      ∧ r.2.mem ((c.tc : Thread Cert.EvenOutIdeal.nD Cert.EvenOutIdeal.τ).loc Cert.EvenOutIdeal.main_arg12) = m ((c.tc : Thread Cert.EvenOutIdeal.nD Cert.EvenOutIdeal.τ).loc Cert.EvenOutIdeal.main_arg12)
      ∧ r.2.mem ((c.tc : Thread Cert.EvenOutIdeal.nD Cert.EvenOutIdeal.τ).loc Cert.EvenOutIdeal.main_arg13) = m ((c.tc : Thread Cert.EvenOutIdeal.nD Cert.EvenOutIdeal.τ).loc Cert.EvenOutIdeal.main_arg13))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5)
      ∧ r.2.mem ((c.tc : Thread Cert.EvenOutRefIdeal.nD Cert.EvenOutRefIdeal.τ).loc Cert.EvenOutRefIdeal.main_arg6) = m ((c.tc : Thread Cert.EvenOutRefIdeal.nD Cert.EvenOutRefIdeal.τ).loc Cert.EvenOutRefIdeal.main_arg6)
      ∧ r.2.mem ((c.tc : Thread Cert.EvenOutRefIdeal.nD Cert.EvenOutRefIdeal.τ).loc Cert.EvenOutRefIdeal.main_arg7) = m ((c.tc : Thread Cert.EvenOutRefIdeal.nD Cert.EvenOutRefIdeal.τ).loc Cert.EvenOutRefIdeal.main_arg7)
      ∧ r.2.mem ((c.tc : Thread Cert.EvenOutRefIdeal.nD Cert.EvenOutRefIdeal.τ).loc Cert.EvenOutRefIdeal.main_arg8) = m ((c.tc : Thread Cert.EvenOutRefIdeal.nD Cert.EvenOutRefIdeal.τ).loc Cert.EvenOutRefIdeal.main_arg8)
      ∧ r.2.mem ((c.tc : Thread Cert.EvenOutRefIdeal.nD Cert.EvenOutRefIdeal.τ).loc Cert.EvenOutRefIdeal.main_arg9) = m ((c.tc : Thread Cert.EvenOutRefIdeal.nD Cert.EvenOutRefIdeal.τ).loc Cert.EvenOutRefIdeal.main_arg9)
      ∧ r.2.mem ((c.tc : Thread Cert.EvenOutRefIdeal.nD Cert.EvenOutRefIdeal.τ).loc Cert.EvenOutRefIdeal.main_arg10) = m ((c.tc : Thread Cert.EvenOutRefIdeal.nD Cert.EvenOutRefIdeal.τ).loc Cert.EvenOutRefIdeal.main_arg10)
      ∧ r.2.mem ((c.tc : Thread Cert.EvenOutRefIdeal.nD Cert.EvenOutRefIdeal.τ).loc Cert.EvenOutRefIdeal.main_arg11) = m ((c.tc : Thread Cert.EvenOutRefIdeal.nD Cert.EvenOutRefIdeal.τ).loc Cert.EvenOutRefIdeal.main_arg11)
      ∧ r.2.mem ((c.tc : Thread Cert.EvenOutRefIdeal.nD Cert.EvenOutRefIdeal.τ).loc Cert.EvenOutRefIdeal.main_arg12) = m ((c.tc : Thread Cert.EvenOutRefIdeal.nD Cert.EvenOutRefIdeal.τ).loc Cert.EvenOutRefIdeal.main_arg12)
      ∧ r.2.mem ((c.tc : Thread Cert.EvenOutRefIdeal.nD Cert.EvenOutRefIdeal.τ).loc Cert.EvenOutRefIdeal.main_arg13) = m ((c.tc : Thread Cert.EvenOutRefIdeal.nD Cert.EvenOutRefIdeal.τ).loc Cert.EvenOutRefIdeal.main_arg13))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4)
      ∧ r.2.mem ((c.tc : Thread Cert.OddOut.nD Cert.OddOut.τ).loc Cert.OddOut.main_arg5) = m ((c.tc : Thread Cert.OddOut.nD Cert.OddOut.τ).loc Cert.OddOut.main_arg5)
      ∧ r.2.mem ((c.tc : Thread Cert.OddOut.nD Cert.OddOut.τ).loc Cert.OddOut.main_arg6) = m ((c.tc : Thread Cert.OddOut.nD Cert.OddOut.τ).loc Cert.OddOut.main_arg6)
      ∧ r.2.mem ((c.tc : Thread Cert.OddOut.nD Cert.OddOut.τ).loc Cert.OddOut.main_arg7) = m ((c.tc : Thread Cert.OddOut.nD Cert.OddOut.τ).loc Cert.OddOut.main_arg7)
      ∧ r.2.mem ((c.tc : Thread Cert.OddOut.nD Cert.OddOut.τ).loc Cert.OddOut.main_arg8) = m ((c.tc : Thread Cert.OddOut.nD Cert.OddOut.τ).loc Cert.OddOut.main_arg8)
      ∧ r.2.mem ((c.tc : Thread Cert.OddOut.nD Cert.OddOut.τ).loc Cert.OddOut.main_arg9) = m ((c.tc : Thread Cert.OddOut.nD Cert.OddOut.τ).loc Cert.OddOut.main_arg9)
      ∧ r.2.mem ((c.tc : Thread Cert.OddOut.nD Cert.OddOut.τ).loc Cert.OddOut.main_arg10) = m ((c.tc : Thread Cert.OddOut.nD Cert.OddOut.τ).loc Cert.OddOut.main_arg10))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
      ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
      ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
      ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
      ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8)
      ∧ r.2.mem ((c.tc : Thread Cert.OddOutIdeal.nD Cert.OddOutIdeal.τ).loc Cert.OddOutIdeal.main_arg9) = m ((c.tc : Thread Cert.OddOutIdeal.nD Cert.OddOutIdeal.τ).loc Cert.OddOutIdeal.main_arg9)
      ∧ r.2.mem ((c.tc : Thread Cert.OddOutIdeal.nD Cert.OddOutIdeal.τ).loc Cert.OddOutIdeal.main_arg10) = m ((c.tc : Thread Cert.OddOutIdeal.nD Cert.OddOutIdeal.τ).loc Cert.OddOutIdeal.main_arg10))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4)
      ∧ r.2.mem ((c.tc : Thread Cert.OddOutRefIdeal.nD Cert.OddOutRefIdeal.τ).loc Cert.OddOutRefIdeal.main_arg5) = m ((c.tc : Thread Cert.OddOutRefIdeal.nD Cert.OddOutRefIdeal.τ).loc Cert.OddOutRefIdeal.main_arg5)
      ∧ r.2.mem ((c.tc : Thread Cert.OddOutRefIdeal.nD Cert.OddOutRefIdeal.τ).loc Cert.OddOutRefIdeal.main_arg6) = m ((c.tc : Thread Cert.OddOutRefIdeal.nD Cert.OddOutRefIdeal.τ).loc Cert.OddOutRefIdeal.main_arg6)
      ∧ r.2.mem ((c.tc : Thread Cert.OddOutRefIdeal.nD Cert.OddOutRefIdeal.τ).loc Cert.OddOutRefIdeal.main_arg7) = m ((c.tc : Thread Cert.OddOutRefIdeal.nD Cert.OddOutRefIdeal.τ).loc Cert.OddOutRefIdeal.main_arg7)
      ∧ r.2.mem ((c.tc : Thread Cert.OddOutRefIdeal.nD Cert.OddOutRefIdeal.τ).loc Cert.OddOutRefIdeal.main_arg8) = m ((c.tc : Thread Cert.OddOutRefIdeal.nD Cert.OddOutRefIdeal.τ).loc Cert.OddOutRefIdeal.main_arg8)
      ∧ r.2.mem ((c.tc : Thread Cert.OddOutRefIdeal.nD Cert.OddOutRefIdeal.τ).loc Cert.OddOutRefIdeal.main_arg9) = m ((c.tc : Thread Cert.OddOutRefIdeal.nD Cert.OddOutRefIdeal.τ).loc Cert.OddOutRefIdeal.main_arg9)
      ∧ r.2.mem ((c.tc : Thread Cert.OddOutRefIdeal.nD Cert.OddOutRefIdeal.τ).loc Cert.OddOutRefIdeal.main_arg10) = m ((c.tc : Thread Cert.OddOutRefIdeal.nD Cert.OddOutRefIdeal.τ).loc Cert.OddOutRefIdeal.main_arg10))
      ∧ r.2.sem = fun _ => 0)

def quiescent_AdamWin0 [hAdamWin0 : Cert.AdamWin0.Facts] : Prop :=
  ∀ (m : (ℓ : Loc Cert.AdamWin0.nD Cert.AdamWin0.τ Cert.AdamWin0.sig) → Buf (Elt Bits) ℓ) (g : Dev Cert.AdamWin0.nD → PrngReg), Pre_AdamWin0 m →
    θ_run (Cert.AdamWin0.defs (F := Bits)) (onTc (τ := Cert.AdamWin0.τ) (Cert.AdamWin0.main (F := Bits))) ⟨m, fun _ => 0, g⟩ (fun r => (∀ c : Dev Cert.AdamWin0.nD,
      r.2.mem ((c.tc : Thread Cert.AdamWin0.nD Cert.AdamWin0.τ).loc Cert.AdamWin0.main_arg0) = m ((c.tc : Thread Cert.AdamWin0.nD Cert.AdamWin0.τ).loc Cert.AdamWin0.main_arg0)
      ∧ r.2.mem ((c.tc : Thread Cert.AdamWin0.nD Cert.AdamWin0.τ).loc Cert.AdamWin0.main_arg1) = m ((c.tc : Thread Cert.AdamWin0.nD Cert.AdamWin0.τ).loc Cert.AdamWin0.main_arg1)
      ∧ r.2.mem ((c.tc : Thread Cert.AdamWin0.nD Cert.AdamWin0.τ).loc Cert.AdamWin0.main_arg2) = m ((c.tc : Thread Cert.AdamWin0.nD Cert.AdamWin0.τ).loc Cert.AdamWin0.main_arg2)
      ∧ r.2.mem ((c.tc : Thread Cert.AdamWin0.nD Cert.AdamWin0.τ).loc Cert.AdamWin0.main_arg3) = m ((c.tc : Thread Cert.AdamWin0.nD Cert.AdamWin0.τ).loc Cert.AdamWin0.main_arg3))
      ∧ r.2.sem = fun _ => 0)

def quiescent_AdamWin0Ideal [hAdamWin0Ideal : Cert.AdamWin0Ideal.Facts] : Prop :=
  ∀ (m : (ℓ : Loc Cert.AdamWin0Ideal.nD Cert.AdamWin0Ideal.τ Cert.AdamWin0Ideal.sig) → Buf (Elt Ideal) ℓ) (g : Dev Cert.AdamWin0Ideal.nD → PrngReg), Pre_AdamWin0Ideal m →
    θ_run (Cert.AdamWin0Ideal.defs (F := Ideal)) (onTc (τ := Cert.AdamWin0Ideal.τ) (Cert.AdamWin0Ideal.main (F := Ideal))) ⟨m, fun _ => 0, g⟩ (fun r => (∀ c : Dev Cert.AdamWin0Ideal.nD,
      r.2.mem ((c.tc : Thread Cert.AdamWin0Ideal.nD Cert.AdamWin0Ideal.τ).loc Cert.AdamWin0Ideal.main_arg0) = m ((c.tc : Thread Cert.AdamWin0Ideal.nD Cert.AdamWin0Ideal.τ).loc Cert.AdamWin0Ideal.main_arg0)
      ∧ r.2.mem ((c.tc : Thread Cert.AdamWin0Ideal.nD Cert.AdamWin0Ideal.τ).loc Cert.AdamWin0Ideal.main_arg1) = m ((c.tc : Thread Cert.AdamWin0Ideal.nD Cert.AdamWin0Ideal.τ).loc Cert.AdamWin0Ideal.main_arg1)
      ∧ r.2.mem ((c.tc : Thread Cert.AdamWin0Ideal.nD Cert.AdamWin0Ideal.τ).loc Cert.AdamWin0Ideal.main_arg2) = m ((c.tc : Thread Cert.AdamWin0Ideal.nD Cert.AdamWin0Ideal.τ).loc Cert.AdamWin0Ideal.main_arg2)
      ∧ r.2.mem ((c.tc : Thread Cert.AdamWin0Ideal.nD Cert.AdamWin0Ideal.τ).loc Cert.AdamWin0Ideal.main_arg3) = m ((c.tc : Thread Cert.AdamWin0Ideal.nD Cert.AdamWin0Ideal.τ).loc Cert.AdamWin0Ideal.main_arg3))
      ∧ r.2.sem = fun _ => 0)

def quiescent_AdamWin0RefIdeal [hAdamWin0RefIdeal : Cert.AdamWin0RefIdeal.Facts] : Prop :=
  ∀ (m : (ℓ : Loc Cert.AdamWin0RefIdeal.nD Cert.AdamWin0RefIdeal.τ Cert.AdamWin0RefIdeal.sig) → Buf (Elt Ideal) ℓ) (g : Dev Cert.AdamWin0RefIdeal.nD → PrngReg), Pre_AdamWin0RefIdeal m →
    θ_run (Cert.AdamWin0RefIdeal.defs (F := Ideal)) (onTc (τ := Cert.AdamWin0RefIdeal.τ) (Cert.AdamWin0RefIdeal.main (F := Ideal))) ⟨m, fun _ => 0, g⟩ (fun r => (∀ c : Dev Cert.AdamWin0RefIdeal.nD,
      r.2.mem ((c.tc : Thread Cert.AdamWin0RefIdeal.nD Cert.AdamWin0RefIdeal.τ).loc Cert.AdamWin0RefIdeal.main_arg0) = m ((c.tc : Thread Cert.AdamWin0RefIdeal.nD Cert.AdamWin0RefIdeal.τ).loc Cert.AdamWin0RefIdeal.main_arg0)
      ∧ r.2.mem ((c.tc : Thread Cert.AdamWin0RefIdeal.nD Cert.AdamWin0RefIdeal.τ).loc Cert.AdamWin0RefIdeal.main_arg1) = m ((c.tc : Thread Cert.AdamWin0RefIdeal.nD Cert.AdamWin0RefIdeal.τ).loc Cert.AdamWin0RefIdeal.main_arg1)
      ∧ r.2.mem ((c.tc : Thread Cert.AdamWin0RefIdeal.nD Cert.AdamWin0RefIdeal.τ).loc Cert.AdamWin0RefIdeal.main_arg2) = m ((c.tc : Thread Cert.AdamWin0RefIdeal.nD Cert.AdamWin0RefIdeal.τ).loc Cert.AdamWin0RefIdeal.main_arg2)
      ∧ r.2.mem ((c.tc : Thread Cert.AdamWin0RefIdeal.nD Cert.AdamWin0RefIdeal.τ).loc Cert.AdamWin0RefIdeal.main_arg3) = m ((c.tc : Thread Cert.AdamWin0RefIdeal.nD Cert.AdamWin0RefIdeal.τ).loc Cert.AdamWin0RefIdeal.main_arg3))
      ∧ r.2.sem = fun _ => 0)

def quiescent_AdamWin1 [hAdamWin1 : Cert.AdamWin1.Facts] : Prop :=
  ∀ (m : (ℓ : Loc Cert.AdamWin1.nD Cert.AdamWin1.τ Cert.AdamWin1.sig) → Buf (Elt Bits) ℓ) (g : Dev Cert.AdamWin1.nD → PrngReg), Pre_AdamWin1 m →
    θ_run (Cert.AdamWin1.defs (F := Bits)) (onTc (τ := Cert.AdamWin1.τ) (Cert.AdamWin1.main (F := Bits))) ⟨m, fun _ => 0, g⟩ (fun r => (∀ c : Dev Cert.AdamWin1.nD,
      r.2.mem ((c.tc : Thread Cert.AdamWin1.nD Cert.AdamWin1.τ).loc Cert.AdamWin1.main_arg0) = m ((c.tc : Thread Cert.AdamWin1.nD Cert.AdamWin1.τ).loc Cert.AdamWin1.main_arg0)
      ∧ r.2.mem ((c.tc : Thread Cert.AdamWin1.nD Cert.AdamWin1.τ).loc Cert.AdamWin1.main_arg1) = m ((c.tc : Thread Cert.AdamWin1.nD Cert.AdamWin1.τ).loc Cert.AdamWin1.main_arg1)
      ∧ r.2.mem ((c.tc : Thread Cert.AdamWin1.nD Cert.AdamWin1.τ).loc Cert.AdamWin1.main_arg2) = m ((c.tc : Thread Cert.AdamWin1.nD Cert.AdamWin1.τ).loc Cert.AdamWin1.main_arg2)
      ∧ r.2.mem ((c.tc : Thread Cert.AdamWin1.nD Cert.AdamWin1.τ).loc Cert.AdamWin1.main_arg3) = m ((c.tc : Thread Cert.AdamWin1.nD Cert.AdamWin1.τ).loc Cert.AdamWin1.main_arg3))
      ∧ r.2.sem = fun _ => 0)

def quiescent_AdamWin1Ideal [hAdamWin1Ideal : Cert.AdamWin1Ideal.Facts] : Prop :=
  ∀ (m : (ℓ : Loc Cert.AdamWin1Ideal.nD Cert.AdamWin1Ideal.τ Cert.AdamWin1Ideal.sig) → Buf (Elt Ideal) ℓ) (g : Dev Cert.AdamWin1Ideal.nD → PrngReg), Pre_AdamWin1Ideal m →
    θ_run (Cert.AdamWin1Ideal.defs (F := Ideal)) (onTc (τ := Cert.AdamWin1Ideal.τ) (Cert.AdamWin1Ideal.main (F := Ideal))) ⟨m, fun _ => 0, g⟩ (fun r => (∀ c : Dev Cert.AdamWin1Ideal.nD,
      r.2.mem ((c.tc : Thread Cert.AdamWin1Ideal.nD Cert.AdamWin1Ideal.τ).loc Cert.AdamWin1Ideal.main_arg0) = m ((c.tc : Thread Cert.AdamWin1Ideal.nD Cert.AdamWin1Ideal.τ).loc Cert.AdamWin1Ideal.main_arg0)
      ∧ r.2.mem ((c.tc : Thread Cert.AdamWin1Ideal.nD Cert.AdamWin1Ideal.τ).loc Cert.AdamWin1Ideal.main_arg1) = m ((c.tc : Thread Cert.AdamWin1Ideal.nD Cert.AdamWin1Ideal.τ).loc Cert.AdamWin1Ideal.main_arg1)
      ∧ r.2.mem ((c.tc : Thread Cert.AdamWin1Ideal.nD Cert.AdamWin1Ideal.τ).loc Cert.AdamWin1Ideal.main_arg2) = m ((c.tc : Thread Cert.AdamWin1Ideal.nD Cert.AdamWin1Ideal.τ).loc Cert.AdamWin1Ideal.main_arg2)
      ∧ r.2.mem ((c.tc : Thread Cert.AdamWin1Ideal.nD Cert.AdamWin1Ideal.τ).loc Cert.AdamWin1Ideal.main_arg3) = m ((c.tc : Thread Cert.AdamWin1Ideal.nD Cert.AdamWin1Ideal.τ).loc Cert.AdamWin1Ideal.main_arg3))
      ∧ r.2.sem = fun _ => 0)

def quiescent_AdamWin1RefIdeal [hAdamWin1RefIdeal : Cert.AdamWin1RefIdeal.Facts] : Prop :=
  ∀ (m : (ℓ : Loc Cert.AdamWin1RefIdeal.nD Cert.AdamWin1RefIdeal.τ Cert.AdamWin1RefIdeal.sig) → Buf (Elt Ideal) ℓ) (g : Dev Cert.AdamWin1RefIdeal.nD → PrngReg), Pre_AdamWin1RefIdeal m →
    θ_run (Cert.AdamWin1RefIdeal.defs (F := Ideal)) (onTc (τ := Cert.AdamWin1RefIdeal.τ) (Cert.AdamWin1RefIdeal.main (F := Ideal))) ⟨m, fun _ => 0, g⟩ (fun r => (∀ c : Dev Cert.AdamWin1RefIdeal.nD,
      r.2.mem ((c.tc : Thread Cert.AdamWin1RefIdeal.nD Cert.AdamWin1RefIdeal.τ).loc Cert.AdamWin1RefIdeal.main_arg0) = m ((c.tc : Thread Cert.AdamWin1RefIdeal.nD Cert.AdamWin1RefIdeal.τ).loc Cert.AdamWin1RefIdeal.main_arg0)
      ∧ r.2.mem ((c.tc : Thread Cert.AdamWin1RefIdeal.nD Cert.AdamWin1RefIdeal.τ).loc Cert.AdamWin1RefIdeal.main_arg1) = m ((c.tc : Thread Cert.AdamWin1RefIdeal.nD Cert.AdamWin1RefIdeal.τ).loc Cert.AdamWin1RefIdeal.main_arg1)
      ∧ r.2.mem ((c.tc : Thread Cert.AdamWin1RefIdeal.nD Cert.AdamWin1RefIdeal.τ).loc Cert.AdamWin1RefIdeal.main_arg2) = m ((c.tc : Thread Cert.AdamWin1RefIdeal.nD Cert.AdamWin1RefIdeal.τ).loc Cert.AdamWin1RefIdeal.main_arg2)
      ∧ r.2.mem ((c.tc : Thread Cert.AdamWin1RefIdeal.nD Cert.AdamWin1RefIdeal.τ).loc Cert.AdamWin1RefIdeal.main_arg3) = m ((c.tc : Thread Cert.AdamWin1RefIdeal.nD Cert.AdamWin1RefIdeal.τ).loc Cert.AdamWin1RefIdeal.main_arg3))
      ∧ r.2.sem = fun _ => 0)

def quiescent_AdamWout [hAdamWout : Cert.AdamWout.Facts] : Prop :=
  ∀ (m : (ℓ : Loc Cert.AdamWout.nD Cert.AdamWout.τ Cert.AdamWout.sig) → Buf (Elt Bits) ℓ) (g : Dev Cert.AdamWout.nD → PrngReg), Pre_AdamWout m →
    θ_run (Cert.AdamWout.defs (F := Bits)) (onTc (τ := Cert.AdamWout.τ) (Cert.AdamWout.main (F := Bits))) ⟨m, fun _ => 0, g⟩ (fun r => (∀ c : Dev Cert.AdamWout.nD,
      r.2.mem ((c.tc : Thread Cert.AdamWout.nD Cert.AdamWout.τ).loc Cert.AdamWout.main_arg0) = m ((c.tc : Thread Cert.AdamWout.nD Cert.AdamWout.τ).loc Cert.AdamWout.main_arg0)
      ∧ r.2.mem ((c.tc : Thread Cert.AdamWout.nD Cert.AdamWout.τ).loc Cert.AdamWout.main_arg1) = m ((c.tc : Thread Cert.AdamWout.nD Cert.AdamWout.τ).loc Cert.AdamWout.main_arg1)
      ∧ r.2.mem ((c.tc : Thread Cert.AdamWout.nD Cert.AdamWout.τ).loc Cert.AdamWout.main_arg2) = m ((c.tc : Thread Cert.AdamWout.nD Cert.AdamWout.τ).loc Cert.AdamWout.main_arg2)
      ∧ r.2.mem ((c.tc : Thread Cert.AdamWout.nD Cert.AdamWout.τ).loc Cert.AdamWout.main_arg3) = m ((c.tc : Thread Cert.AdamWout.nD Cert.AdamWout.τ).loc Cert.AdamWout.main_arg3))
      ∧ r.2.sem = fun _ => 0)

def quiescent_AdamWoutIdeal [hAdamWoutIdeal : Cert.AdamWoutIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg), Pre_AdamWoutIdeal m →
    θ_run (Cert.AdamWoutIdeal.defs (F := Ideal)) (onTc (τ := Cert.AdamWoutIdeal.τ) (Cert.AdamWoutIdeal.main (F := Ideal))) ⟨m, fun _ => 0, g⟩ (fun r => (∀ c : Dev Cert.AdamWoutIdeal.nD,
      r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
      ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
      ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
      ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3))
      ∧ r.2.sem = fun _ => 0)

def quiescent_AdamWoutRefIdeal [hAdamWoutRefIdeal : Cert.AdamWoutRefIdeal.Facts] : Prop :=
  ∀ (m : (ℓ : Loc Cert.AdamWoutRefIdeal.nD Cert.AdamWoutRefIdeal.τ Cert.AdamWoutRefIdeal.sig) → Buf (Elt Ideal) ℓ) (g : Dev Cert.AdamWoutRefIdeal.nD → PrngReg), Pre_AdamWoutRefIdeal m →
    θ_run (Cert.AdamWoutRefIdeal.defs (F := Ideal)) (onTc (τ := Cert.AdamWoutRefIdeal.τ) (Cert.AdamWoutRefIdeal.main (F := Ideal))) ⟨m, fun _ => 0, g⟩ (fun r => (∀ c : Dev Cert.AdamWoutRefIdeal.nD,
      r.2.mem ((c.tc : Thread Cert.AdamWoutRefIdeal.nD Cert.AdamWoutRefIdeal.τ).loc Cert.AdamWoutRefIdeal.main_arg0) = m ((c.tc : Thread Cert.AdamWoutRefIdeal.nD Cert.AdamWoutRefIdeal.τ).loc Cert.AdamWoutRefIdeal.main_arg0)
      ∧ r.2.mem ((c.tc : Thread Cert.AdamWoutRefIdeal.nD Cert.AdamWoutRefIdeal.τ).loc Cert.AdamWoutRefIdeal.main_arg1) = m ((c.tc : Thread Cert.AdamWoutRefIdeal.nD Cert.AdamWoutRefIdeal.τ).loc Cert.AdamWoutRefIdeal.main_arg1)
      ∧ r.2.mem ((c.tc : Thread Cert.AdamWoutRefIdeal.nD Cert.AdamWoutRefIdeal.τ).loc Cert.AdamWoutRefIdeal.main_arg2) = m ((c.tc : Thread Cert.AdamWoutRefIdeal.nD Cert.AdamWoutRefIdeal.τ).loc Cert.AdamWoutRefIdeal.main_arg2)
      ∧ r.2.mem ((c.tc : Thread Cert.AdamWoutRefIdeal.nD Cert.AdamWoutRefIdeal.τ).loc Cert.AdamWoutRefIdeal.main_arg3) = m ((c.tc : Thread Cert.AdamWoutRefIdeal.nD Cert.AdamWoutRefIdeal.τ).loc Cert.AdamWoutRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdaW [hAdaW : Cert.AdaW.Facts] : Prop :=
  ∀ (m : (ℓ : Loc Cert.AdaW.nD Cert.AdaW.τ Cert.AdaW.sig) → Buf (Elt Bits) ℓ) (g : Dev Cert.AdaW.nD → PrngReg), Pre_AdaW m →
    θ_run (Cert.AdaW.defs (F := Bits)) (onTc (τ := Cert.AdaW.τ) (Cert.AdaW.main (F := Bits))) ⟨m, fun _ => 0, g⟩ (fun r => (∀ c : Dev Cert.AdaW.nD,
      r.2.mem ((c.tc : Thread Cert.AdaW.nD Cert.AdaW.τ).loc Cert.AdaW.main_arg0) = m ((c.tc : Thread Cert.AdaW.nD Cert.AdaW.τ).loc Cert.AdaW.main_arg0)
      ∧ r.2.mem ((c.tc : Thread Cert.AdaW.nD Cert.AdaW.τ).loc Cert.AdaW.main_arg1) = m ((c.tc : Thread Cert.AdaW.nD Cert.AdaW.τ).loc Cert.AdaW.main_arg1)
      ∧ r.2.mem ((c.tc : Thread Cert.AdaW.nD Cert.AdaW.τ).loc Cert.AdaW.main_arg2) = m ((c.tc : Thread Cert.AdaW.nD Cert.AdaW.τ).loc Cert.AdaW.main_arg2)
      ∧ r.2.mem ((c.tc : Thread Cert.AdaW.nD Cert.AdaW.τ).loc Cert.AdaW.main_arg3) = m ((c.tc : Thread Cert.AdaW.nD Cert.AdaW.τ).loc Cert.AdaW.main_arg3)
      ∧ r.2.mem ((c.tc : Thread Cert.AdaW.nD Cert.AdaW.τ).loc Cert.AdaW.main_arg4) = m ((c.tc : Thread Cert.AdaW.nD Cert.AdaW.τ).loc Cert.AdaW.main_arg4))
      ∧ r.2.sem = fun _ => 0)

def quiescent_AdaWIdeal [hAdaWIdeal : Cert.AdaWIdeal.Facts] : Prop :=
  ∀ (m : (ℓ : Loc Cert.AdaWIdeal.nD Cert.AdaWIdeal.τ Cert.AdaWIdeal.sig) → Buf (Elt Ideal) ℓ) (g : Dev Cert.AdaWIdeal.nD → PrngReg), Pre_AdaWIdeal m →
    θ_run (Cert.AdaWIdeal.defs (F := Ideal)) (onTc (τ := Cert.AdaWIdeal.τ) (Cert.AdaWIdeal.main (F := Ideal))) ⟨m, fun _ => 0, g⟩ (fun r => (∀ c : Dev Cert.AdaWIdeal.nD,
      r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
      ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
      ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
      ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
      ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ r.2.sem = fun _ => 0)

def quiescent_AdaWRefIdeal [hAdaWRefIdeal : Cert.AdaWRefIdeal.Facts] : Prop :=
  ∀ (m : (ℓ : Loc Cert.AdaWRefIdeal.nD Cert.AdaWRefIdeal.τ Cert.AdaWRefIdeal.sig) → Buf (Elt Ideal) ℓ) (g : Dev Cert.AdaWRefIdeal.nD → PrngReg), Pre_AdaWRefIdeal m →
    θ_run (Cert.AdaWRefIdeal.defs (F := Ideal)) (onTc (τ := Cert.AdaWRefIdeal.τ) (Cert.AdaWRefIdeal.main (F := Ideal))) ⟨m, fun _ => 0, g⟩ (fun r => (∀ c : Dev Cert.AdaWRefIdeal.nD,
      r.2.mem ((c.tc : Thread Cert.AdaWRefIdeal.nD Cert.AdaWRefIdeal.τ).loc Cert.AdaWRefIdeal.main_arg0) = m ((c.tc : Thread Cert.AdaWRefIdeal.nD Cert.AdaWRefIdeal.τ).loc Cert.AdaWRefIdeal.main_arg0)
      ∧ r.2.mem ((c.tc : Thread Cert.AdaWRefIdeal.nD Cert.AdaWRefIdeal.τ).loc Cert.AdaWRefIdeal.main_arg1) = m ((c.tc : Thread Cert.AdaWRefIdeal.nD Cert.AdaWRefIdeal.τ).loc Cert.AdaWRefIdeal.main_arg1)
      ∧ r.2.mem ((c.tc : Thread Cert.AdaWRefIdeal.nD Cert.AdaWRefIdeal.τ).loc Cert.AdaWRefIdeal.main_arg2) = m ((c.tc : Thread Cert.AdaWRefIdeal.nD Cert.AdaWRefIdeal.τ).loc Cert.AdaWRefIdeal.main_arg2)
      ∧ r.2.mem ((c.tc : Thread Cert.AdaWRefIdeal.nD Cert.AdaWRefIdeal.τ).loc Cert.AdaWRefIdeal.main_arg3) = m ((c.tc : Thread Cert.AdaWRefIdeal.nD Cert.AdaWRefIdeal.τ).loc Cert.AdaWRefIdeal.main_arg3)
      ∧ r.2.mem ((c.tc : Thread Cert.AdaWRefIdeal.nD Cert.AdaWRefIdeal.τ).loc Cert.AdaWRefIdeal.main_arg4) = m ((c.tc : Thread Cert.AdaWRefIdeal.nD Cert.AdaWRefIdeal.τ).loc Cert.AdaWRefIdeal.main_arg4))
      ∧ r.2.sem = fun _ => 0)

def quiescent_ReducePacked [hReducePacked : Cert.ReducePacked.Facts] : Prop :=
  ∀ (m : (ℓ : Loc Cert.ReducePacked.nD Cert.ReducePacked.τ Cert.ReducePacked.sig) → Buf (Elt Bits) ℓ) (g : Dev Cert.ReducePacked.nD → PrngReg), Pre_ReducePacked m →
    θ_run (Cert.ReducePacked.defs (F := Bits)) (onTc (τ := Cert.ReducePacked.τ) (Cert.ReducePacked.main (F := Bits))) ⟨m, fun _ => 0, g⟩ (fun r => (∀ c : Dev Cert.ReducePacked.nD,
      r.2.mem ((c.tc : Thread Cert.ReducePacked.nD Cert.ReducePacked.τ).loc Cert.ReducePacked.main_arg0) = m ((c.tc : Thread Cert.ReducePacked.nD Cert.ReducePacked.τ).loc Cert.ReducePacked.main_arg0))
      ∧ r.2.sem = fun _ => 0)

def quiescent_ReducePackedIdeal [hReducePackedIdeal : Cert.ReducePackedIdeal.Facts] : Prop :=
  ∀ (m : (ℓ : Loc Cert.ReducePackedIdeal.nD Cert.ReducePackedIdeal.τ Cert.ReducePackedIdeal.sig) → Buf (Elt Ideal) ℓ) (g : Dev Cert.ReducePackedIdeal.nD → PrngReg), Pre_ReducePackedIdeal m →
    θ_run (Cert.ReducePackedIdeal.defs (F := Ideal)) (onTc (τ := Cert.ReducePackedIdeal.τ) (Cert.ReducePackedIdeal.main (F := Ideal))) ⟨m, fun _ => 0, g⟩ (fun r => (∀ c : Dev Cert.ReducePackedIdeal.nD,
      r.2.mem ((c.tc : Thread Cert.ReducePackedIdeal.nD Cert.ReducePackedIdeal.τ).loc Cert.ReducePackedIdeal.main_arg0) = m ((c.tc : Thread Cert.ReducePackedIdeal.nD Cert.ReducePackedIdeal.τ).loc Cert.ReducePackedIdeal.main_arg0))
      ∧ r.2.sem = fun _ => 0)

def quiescent_ReducePackedRefIdeal [hReducePackedRefIdeal : Cert.ReducePackedRefIdeal.Facts] : Prop :=
  ∀ (m : (ℓ : Loc Cert.ReducePackedRefIdeal.nD Cert.ReducePackedRefIdeal.τ Cert.ReducePackedRefIdeal.sig) → Buf (Elt Ideal) ℓ) (g : Dev Cert.ReducePackedRefIdeal.nD → PrngReg), Pre_ReducePackedRefIdeal m →
    θ_run (Cert.ReducePackedRefIdeal.defs (F := Ideal)) (onTc (τ := Cert.ReducePackedRefIdeal.τ) (Cert.ReducePackedRefIdeal.main (F := Ideal))) ⟨m, fun _ => 0, g⟩ (fun r => (∀ c : Dev Cert.ReducePackedRefIdeal.nD,
      r.2.mem ((c.tc : Thread Cert.ReducePackedRefIdeal.nD Cert.ReducePackedRefIdeal.τ).loc Cert.ReducePackedRefIdeal.main_arg0) = m ((c.tc : Thread Cert.ReducePackedRefIdeal.nD Cert.ReducePackedRefIdeal.τ).loc Cert.ReducePackedRefIdeal.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23))
      ∧ r.2.sem = fun _ => 0)

def quiescent_EvenBwd [hEvenBwd : Cert.EvenBwd.Facts] : Prop :=
  ∀ (m : (ℓ : Loc Cert.EvenBwd.nD Cert.EvenBwd.τ Cert.EvenBwd.sig) → Buf (Elt Bits) ℓ) (g : Dev Cert.EvenBwd.nD → PrngReg), Pre_EvenBwd m →
    θ_run (Cert.EvenBwd.defs (F := Bits)) (onTc (τ := Cert.EvenBwd.τ) (Cert.EvenBwd.main (F := Bits))) ⟨m, fun _ => 0, g⟩ (fun r => (∀ c : Dev Cert.EvenBwd.nD,
      r.2.mem ((c.tc : Thread Cert.EvenBwd.nD Cert.EvenBwd.τ).loc Cert.EvenBwd.main_arg0) = m ((c.tc : Thread Cert.EvenBwd.nD Cert.EvenBwd.τ).loc Cert.EvenBwd.main_arg0)
      ∧ r.2.mem ((c.tc : Thread Cert.EvenBwd.nD Cert.EvenBwd.τ).loc Cert.EvenBwd.main_arg1) = m ((c.tc : Thread Cert.EvenBwd.nD Cert.EvenBwd.τ).loc Cert.EvenBwd.main_arg1)
      ∧ r.2.mem ((c.tc : Thread Cert.EvenBwd.nD Cert.EvenBwd.τ).loc Cert.EvenBwd.main_arg2) = m ((c.tc : Thread Cert.EvenBwd.nD Cert.EvenBwd.τ).loc Cert.EvenBwd.main_arg2)
      ∧ r.2.mem ((c.tc : Thread Cert.EvenBwd.nD Cert.EvenBwd.τ).loc Cert.EvenBwd.main_arg3) = m ((c.tc : Thread Cert.EvenBwd.nD Cert.EvenBwd.τ).loc Cert.EvenBwd.main_arg3)
      ∧ r.2.mem ((c.tc : Thread Cert.EvenBwd.nD Cert.EvenBwd.τ).loc Cert.EvenBwd.main_arg4) = m ((c.tc : Thread Cert.EvenBwd.nD Cert.EvenBwd.τ).loc Cert.EvenBwd.main_arg4)
      ∧ r.2.mem ((c.tc : Thread Cert.EvenBwd.nD Cert.EvenBwd.τ).loc Cert.EvenBwd.main_arg5) = m ((c.tc : Thread Cert.EvenBwd.nD Cert.EvenBwd.τ).loc Cert.EvenBwd.main_arg5)
      ∧ r.2.mem ((c.tc : Thread Cert.EvenBwd.nD Cert.EvenBwd.τ).loc Cert.EvenBwd.main_arg6) = m ((c.tc : Thread Cert.EvenBwd.nD Cert.EvenBwd.τ).loc Cert.EvenBwd.main_arg6)
      ∧ r.2.mem ((c.tc : Thread Cert.EvenBwd.nD Cert.EvenBwd.τ).loc Cert.EvenBwd.main_arg7) = m ((c.tc : Thread Cert.EvenBwd.nD Cert.EvenBwd.τ).loc Cert.EvenBwd.main_arg7)
      ∧ r.2.mem ((c.tc : Thread Cert.EvenBwd.nD Cert.EvenBwd.τ).loc Cert.EvenBwd.main_arg8) = m ((c.tc : Thread Cert.EvenBwd.nD Cert.EvenBwd.τ).loc Cert.EvenBwd.main_arg8)
      ∧ r.2.mem ((c.tc : Thread Cert.EvenBwd.nD Cert.EvenBwd.τ).loc Cert.EvenBwd.main_arg9) = m ((c.tc : Thread Cert.EvenBwd.nD Cert.EvenBwd.τ).loc Cert.EvenBwd.main_arg9)
      ∧ r.2.mem ((c.tc : Thread Cert.EvenBwd.nD Cert.EvenBwd.τ).loc Cert.EvenBwd.main_arg10) = m ((c.tc : Thread Cert.EvenBwd.nD Cert.EvenBwd.τ).loc Cert.EvenBwd.main_arg10))
      ∧ r.2.sem = fun _ => 0)

def quiescent_EvenBwdIdeal [hEvenBwdIdeal : Cert.EvenBwdIdeal.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
      ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
      ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
      ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
      ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
      ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
      ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
      ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
      ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9)
      ∧ r.2.mem ((c.tc : Thread Cert.EvenBwdIdeal.nD Cert.EvenBwdIdeal.τ).loc Cert.EvenBwdIdeal.main_arg10) = m ((c.tc : Thread Cert.EvenBwdIdeal.nD Cert.EvenBwdIdeal.τ).loc Cert.EvenBwdIdeal.main_arg10))
      ∧ r.2.sem = fun _ => 0)

def quiescent_EvenBwdIdeal_pre_even_finite [hEvenBwdIdeal : Cert.EvenBwdIdeal.Facts] [hPre_even_finite : Cert.Pre_even_finite.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg), Pre_EvenBwdIdeal_even_finite m →
    θ_run (Cert.EvenBwdIdeal.defs (F := Ideal)) (onTc (τ := Cert.EvenBwdIdeal.τ) (Cert.EvenBwdIdeal.main (F := Ideal))) ⟨m, fun _ => 0, g⟩ (fun r => (∀ c : Dev Cert.EvenBwdIdeal.nD,
      r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
      ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
      ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
      ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
      ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
      ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
      ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
      ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
      ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
      ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9)
      ∧ r.2.mem ((c.tc : Thread Cert.EvenBwdIdeal.nD Cert.EvenBwdIdeal.τ).loc Cert.EvenBwdIdeal.main_arg10) = m ((c.tc : Thread Cert.EvenBwdIdeal.nD Cert.EvenBwdIdeal.τ).loc Cert.EvenBwdIdeal.main_arg10))
      ∧ r.2.sem = fun _ => 0)

def quiescent_EvenBwdRefIdeal [hEvenBwdRefIdeal : Cert.EvenBwdRefIdeal.Facts] : Prop :=
  ∀ (m : (ℓ : Loc Cert.EvenBwdRefIdeal.nD Cert.EvenBwdRefIdeal.τ Cert.EvenBwdRefIdeal.sig) → Buf (Elt Ideal) ℓ) (g : Dev Cert.EvenBwdRefIdeal.nD → PrngReg), Pre_EvenBwdRefIdeal m →
    θ_run (Cert.EvenBwdRefIdeal.defs (F := Ideal)) (onTc (τ := Cert.EvenBwdRefIdeal.τ) (Cert.EvenBwdRefIdeal.main (F := Ideal))) ⟨m, fun _ => 0, g⟩ (fun r => (∀ c : Dev Cert.EvenBwdRefIdeal.nD,
      r.2.mem ((c.tc : Thread Cert.EvenBwdRefIdeal.nD Cert.EvenBwdRefIdeal.τ).loc Cert.EvenBwdRefIdeal.main_arg0) = m ((c.tc : Thread Cert.EvenBwdRefIdeal.nD Cert.EvenBwdRefIdeal.τ).loc Cert.EvenBwdRefIdeal.main_arg0)
      ∧ r.2.mem ((c.tc : Thread Cert.EvenBwdRefIdeal.nD Cert.EvenBwdRefIdeal.τ).loc Cert.EvenBwdRefIdeal.main_arg1) = m ((c.tc : Thread Cert.EvenBwdRefIdeal.nD Cert.EvenBwdRefIdeal.τ).loc Cert.EvenBwdRefIdeal.main_arg1)
      ∧ r.2.mem ((c.tc : Thread Cert.EvenBwdRefIdeal.nD Cert.EvenBwdRefIdeal.τ).loc Cert.EvenBwdRefIdeal.main_arg2) = m ((c.tc : Thread Cert.EvenBwdRefIdeal.nD Cert.EvenBwdRefIdeal.τ).loc Cert.EvenBwdRefIdeal.main_arg2)
      ∧ r.2.mem ((c.tc : Thread Cert.EvenBwdRefIdeal.nD Cert.EvenBwdRefIdeal.τ).loc Cert.EvenBwdRefIdeal.main_arg3) = m ((c.tc : Thread Cert.EvenBwdRefIdeal.nD Cert.EvenBwdRefIdeal.τ).loc Cert.EvenBwdRefIdeal.main_arg3)
      ∧ r.2.mem ((c.tc : Thread Cert.EvenBwdRefIdeal.nD Cert.EvenBwdRefIdeal.τ).loc Cert.EvenBwdRefIdeal.main_arg4) = m ((c.tc : Thread Cert.EvenBwdRefIdeal.nD Cert.EvenBwdRefIdeal.τ).loc Cert.EvenBwdRefIdeal.main_arg4)
      ∧ r.2.mem ((c.tc : Thread Cert.EvenBwdRefIdeal.nD Cert.EvenBwdRefIdeal.τ).loc Cert.EvenBwdRefIdeal.main_arg5) = m ((c.tc : Thread Cert.EvenBwdRefIdeal.nD Cert.EvenBwdRefIdeal.τ).loc Cert.EvenBwdRefIdeal.main_arg5)
      ∧ r.2.mem ((c.tc : Thread Cert.EvenBwdRefIdeal.nD Cert.EvenBwdRefIdeal.τ).loc Cert.EvenBwdRefIdeal.main_arg6) = m ((c.tc : Thread Cert.EvenBwdRefIdeal.nD Cert.EvenBwdRefIdeal.τ).loc Cert.EvenBwdRefIdeal.main_arg6)
      ∧ r.2.mem ((c.tc : Thread Cert.EvenBwdRefIdeal.nD Cert.EvenBwdRefIdeal.τ).loc Cert.EvenBwdRefIdeal.main_arg7) = m ((c.tc : Thread Cert.EvenBwdRefIdeal.nD Cert.EvenBwdRefIdeal.τ).loc Cert.EvenBwdRefIdeal.main_arg7)
      ∧ r.2.mem ((c.tc : Thread Cert.EvenBwdRefIdeal.nD Cert.EvenBwdRefIdeal.τ).loc Cert.EvenBwdRefIdeal.main_arg8) = m ((c.tc : Thread Cert.EvenBwdRefIdeal.nD Cert.EvenBwdRefIdeal.τ).loc Cert.EvenBwdRefIdeal.main_arg8)
      ∧ r.2.mem ((c.tc : Thread Cert.EvenBwdRefIdeal.nD Cert.EvenBwdRefIdeal.τ).loc Cert.EvenBwdRefIdeal.main_arg9) = m ((c.tc : Thread Cert.EvenBwdRefIdeal.nD Cert.EvenBwdRefIdeal.τ).loc Cert.EvenBwdRefIdeal.main_arg9)
      ∧ r.2.mem ((c.tc : Thread Cert.EvenBwdRefIdeal.nD Cert.EvenBwdRefIdeal.τ).loc Cert.EvenBwdRefIdeal.main_arg10) = m ((c.tc : Thread Cert.EvenBwdRefIdeal.nD Cert.EvenBwdRefIdeal.τ).loc Cert.EvenBwdRefIdeal.main_arg10))
      ∧ r.2.sem = fun _ => 0)

def quiescent_EvenBwdRefIdeal_pre_even_finite [hEvenBwdRefIdeal : Cert.EvenBwdRefIdeal.Facts] [hPre_even_finite : Cert.Pre_even_finite.Facts] : Prop :=
  ∀ (m : (ℓ : Loc Cert.EvenBwdRefIdeal.nD Cert.EvenBwdRefIdeal.τ Cert.EvenBwdRefIdeal.sig) → Buf (Elt Ideal) ℓ) (g : Dev Cert.EvenBwdRefIdeal.nD → PrngReg), Pre_EvenBwdRefIdeal_even_finite m →
    θ_run (Cert.EvenBwdRefIdeal.defs (F := Ideal)) (onTc (τ := Cert.EvenBwdRefIdeal.τ) (Cert.EvenBwdRefIdeal.main (F := Ideal))) ⟨m, fun _ => 0, g⟩ (fun r => (∀ c : Dev Cert.EvenBwdRefIdeal.nD,
      r.2.mem ((c.tc : Thread Cert.EvenBwdRefIdeal.nD Cert.EvenBwdRefIdeal.τ).loc Cert.EvenBwdRefIdeal.main_arg0) = m ((c.tc : Thread Cert.EvenBwdRefIdeal.nD Cert.EvenBwdRefIdeal.τ).loc Cert.EvenBwdRefIdeal.main_arg0)
      ∧ r.2.mem ((c.tc : Thread Cert.EvenBwdRefIdeal.nD Cert.EvenBwdRefIdeal.τ).loc Cert.EvenBwdRefIdeal.main_arg1) = m ((c.tc : Thread Cert.EvenBwdRefIdeal.nD Cert.EvenBwdRefIdeal.τ).loc Cert.EvenBwdRefIdeal.main_arg1)
      ∧ r.2.mem ((c.tc : Thread Cert.EvenBwdRefIdeal.nD Cert.EvenBwdRefIdeal.τ).loc Cert.EvenBwdRefIdeal.main_arg2) = m ((c.tc : Thread Cert.EvenBwdRefIdeal.nD Cert.EvenBwdRefIdeal.τ).loc Cert.EvenBwdRefIdeal.main_arg2)
      ∧ r.2.mem ((c.tc : Thread Cert.EvenBwdRefIdeal.nD Cert.EvenBwdRefIdeal.τ).loc Cert.EvenBwdRefIdeal.main_arg3) = m ((c.tc : Thread Cert.EvenBwdRefIdeal.nD Cert.EvenBwdRefIdeal.τ).loc Cert.EvenBwdRefIdeal.main_arg3)
      ∧ r.2.mem ((c.tc : Thread Cert.EvenBwdRefIdeal.nD Cert.EvenBwdRefIdeal.τ).loc Cert.EvenBwdRefIdeal.main_arg4) = m ((c.tc : Thread Cert.EvenBwdRefIdeal.nD Cert.EvenBwdRefIdeal.τ).loc Cert.EvenBwdRefIdeal.main_arg4)
      ∧ r.2.mem ((c.tc : Thread Cert.EvenBwdRefIdeal.nD Cert.EvenBwdRefIdeal.τ).loc Cert.EvenBwdRefIdeal.main_arg5) = m ((c.tc : Thread Cert.EvenBwdRefIdeal.nD Cert.EvenBwdRefIdeal.τ).loc Cert.EvenBwdRefIdeal.main_arg5)
      ∧ r.2.mem ((c.tc : Thread Cert.EvenBwdRefIdeal.nD Cert.EvenBwdRefIdeal.τ).loc Cert.EvenBwdRefIdeal.main_arg6) = m ((c.tc : Thread Cert.EvenBwdRefIdeal.nD Cert.EvenBwdRefIdeal.τ).loc Cert.EvenBwdRefIdeal.main_arg6)
      ∧ r.2.mem ((c.tc : Thread Cert.EvenBwdRefIdeal.nD Cert.EvenBwdRefIdeal.τ).loc Cert.EvenBwdRefIdeal.main_arg7) = m ((c.tc : Thread Cert.EvenBwdRefIdeal.nD Cert.EvenBwdRefIdeal.τ).loc Cert.EvenBwdRefIdeal.main_arg7)
      ∧ r.2.mem ((c.tc : Thread Cert.EvenBwdRefIdeal.nD Cert.EvenBwdRefIdeal.τ).loc Cert.EvenBwdRefIdeal.main_arg8) = m ((c.tc : Thread Cert.EvenBwdRefIdeal.nD Cert.EvenBwdRefIdeal.τ).loc Cert.EvenBwdRefIdeal.main_arg8)
      ∧ r.2.mem ((c.tc : Thread Cert.EvenBwdRefIdeal.nD Cert.EvenBwdRefIdeal.τ).loc Cert.EvenBwdRefIdeal.main_arg9) = m ((c.tc : Thread Cert.EvenBwdRefIdeal.nD Cert.EvenBwdRefIdeal.τ).loc Cert.EvenBwdRefIdeal.main_arg9)
      ∧ r.2.mem ((c.tc : Thread Cert.EvenBwdRefIdeal.nD Cert.EvenBwdRefIdeal.τ).loc Cert.EvenBwdRefIdeal.main_arg10) = m ((c.tc : Thread Cert.EvenBwdRefIdeal.nD Cert.EvenBwdRefIdeal.τ).loc Cert.EvenBwdRefIdeal.main_arg10))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3)
      ∧ r.2.mem ((c.tc : Thread Cert.NormMod.nD Cert.NormMod.τ).loc Cert.NormMod.main_arg4) = m ((c.tc : Thread Cert.NormMod.nD Cert.NormMod.τ).loc Cert.NormMod.main_arg4)
      ∧ r.2.mem ((c.tc : Thread Cert.NormMod.nD Cert.NormMod.τ).loc Cert.NormMod.main_arg5) = m ((c.tc : Thread Cert.NormMod.nD Cert.NormMod.τ).loc Cert.NormMod.main_arg5))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3)
      ∧ r.2.mem ((c.tc : Thread Cert.NormModIdeal.nD Cert.NormModIdeal.τ).loc Cert.NormModIdeal.main_arg4) = m ((c.tc : Thread Cert.NormModIdeal.nD Cert.NormModIdeal.τ).loc Cert.NormModIdeal.main_arg4)
      ∧ r.2.mem ((c.tc : Thread Cert.NormModIdeal.nD Cert.NormModIdeal.τ).loc Cert.NormModIdeal.main_arg5) = m ((c.tc : Thread Cert.NormModIdeal.nD Cert.NormModIdeal.τ).loc Cert.NormModIdeal.main_arg5))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3)
      ∧ r.2.mem ((c.tc : Thread Cert.NormModRefIdeal.nD Cert.NormModRefIdeal.τ).loc Cert.NormModRefIdeal.main_arg4) = m ((c.tc : Thread Cert.NormModRefIdeal.nD Cert.NormModRefIdeal.τ).loc Cert.NormModRefIdeal.main_arg4)
      ∧ r.2.mem ((c.tc : Thread Cert.NormModRefIdeal.nD Cert.NormModRefIdeal.τ).loc Cert.NormModRefIdeal.main_arg5) = m ((c.tc : Thread Cert.NormModRefIdeal.nD Cert.NormModRefIdeal.τ).loc Cert.NormModRefIdeal.main_arg5))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_finite [hPoolFwdIdeal : Cert.PoolFwdIdeal.Facts] [hPre_pool_finite : Cert.Pre_pool_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_finite [hPoolFwdRefIdeal : Cert.PoolFwdRefIdeal.Facts] [hPre_pool_finite : Cert.Pre_pool_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def preserves_OddBwd_OddBwdIdeal : Prop :=
  True

def algebraic_OddBwdIdeal_OddRefIdeal_pre_odd_finite [hOddBwdIdeal : Cert.OddBwdIdeal.Facts] [hOddRefIdeal : Cert.OddRefIdeal.Facts] [hPre_odd_finite : Cert.Pre_odd_finite.Facts] : Prop :=
  ∀ (m : (ℓ : Loc Cert.OddBwdIdeal.nD Cert.OddBwdIdeal.τ Cert.OddBwdIdeal.sig) → Buf (Elt Ideal) ℓ) (g : Dev Cert.OddBwdIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddBwdIdeal_odd_finite m →
    (∀ c : Dev Cert.OddBwdIdeal.nD,
      m' ((c.tc : Thread Cert.OddRefIdeal.nD Cert.OddRefIdeal.τ).loc Cert.OddRefIdeal.main_arg0) = m ((c.tc : Thread Cert.OddBwdIdeal.nD Cert.OddBwdIdeal.τ).loc Cert.OddBwdIdeal.main_arg0)
      ∧ m' ((c.tc : Thread Cert.OddRefIdeal.nD Cert.OddRefIdeal.τ).loc Cert.OddRefIdeal.main_arg1) = m ((c.tc : Thread Cert.OddBwdIdeal.nD Cert.OddBwdIdeal.τ).loc Cert.OddBwdIdeal.main_arg1)
      ∧ m' ((c.tc : Thread Cert.OddRefIdeal.nD Cert.OddRefIdeal.τ).loc Cert.OddRefIdeal.main_arg2) = m ((c.tc : Thread Cert.OddBwdIdeal.nD Cert.OddBwdIdeal.τ).loc Cert.OddBwdIdeal.main_arg2)
      ∧ m' ((c.tc : Thread Cert.OddRefIdeal.nD Cert.OddRefIdeal.τ).loc Cert.OddRefIdeal.main_arg3) = m ((c.tc : Thread Cert.OddBwdIdeal.nD Cert.OddBwdIdeal.τ).loc Cert.OddBwdIdeal.main_arg3)
      ∧ m' ((c.tc : Thread Cert.OddRefIdeal.nD Cert.OddRefIdeal.τ).loc Cert.OddRefIdeal.main_arg4) = m ((c.tc : Thread Cert.OddBwdIdeal.nD Cert.OddBwdIdeal.τ).loc Cert.OddBwdIdeal.main_arg4)
      ∧ m' ((c.tc : Thread Cert.OddRefIdeal.nD Cert.OddRefIdeal.τ).loc Cert.OddRefIdeal.main_arg5) = m ((c.tc : Thread Cert.OddBwdIdeal.nD Cert.OddBwdIdeal.τ).loc Cert.OddBwdIdeal.main_arg5)
      ∧ m' ((c.tc : Thread Cert.OddRefIdeal.nD Cert.OddRefIdeal.τ).loc Cert.OddRefIdeal.main_arg6) = m ((c.tc : Thread Cert.OddBwdIdeal.nD Cert.OddBwdIdeal.τ).loc Cert.OddBwdIdeal.main_arg6)
      ∧ m' ((c.tc : Thread Cert.OddRefIdeal.nD Cert.OddRefIdeal.τ).loc Cert.OddRefIdeal.main_arg7) = m ((c.tc : Thread Cert.OddBwdIdeal.nD Cert.OddBwdIdeal.τ).loc Cert.OddBwdIdeal.main_arg7)
      ∧ m' ((c.tc : Thread Cert.OddRefIdeal.nD Cert.OddRefIdeal.τ).loc Cert.OddRefIdeal.main_arg8) = m ((c.tc : Thread Cert.OddBwdIdeal.nD Cert.OddBwdIdeal.τ).loc Cert.OddBwdIdeal.main_arg8)
      ∧ m' ((c.tc : Thread Cert.OddRefIdeal.nD Cert.OddRefIdeal.τ).loc Cert.OddRefIdeal.main_arg9) = m ((c.tc : Thread Cert.OddBwdIdeal.nD Cert.OddBwdIdeal.τ).loc Cert.OddBwdIdeal.main_arg9)) →
    ∃ (v0 : (c : Dev Cert.OddBwdIdeal.nD) → Buf (Elt Ideal) ((c.tc : Thread Cert.OddBwdIdeal.nD Cert.OddBwdIdeal.τ).loc Cert.OddBwdIdeal.main_v11_0)) (v1 : (c : Dev Cert.OddBwdIdeal.nD) → Buf (Elt Ideal) ((c.tc : Thread Cert.OddBwdIdeal.nD Cert.OddBwdIdeal.τ).loc Cert.OddBwdIdeal.main_v11_1)) (v2 : (c : Dev Cert.OddBwdIdeal.nD) → Buf (Elt Ideal) ((c.tc : Thread Cert.OddBwdIdeal.nD Cert.OddBwdIdeal.τ).loc Cert.OddBwdIdeal.main_v11_2)),
      θ_run (Cert.OddBwdIdeal.defs (F := Ideal)) (onTc (τ := Cert.OddBwdIdeal.τ) (Cert.OddBwdIdeal.main (F := Ideal))) ⟨m, fun _ => 0, g⟩ (fun r => ∀ c : Dev Cert.OddBwdIdeal.nD,
          r.2.mem ((c.tc : Thread Cert.OddBwdIdeal.nD Cert.OddBwdIdeal.τ).loc Cert.OddBwdIdeal.main_v11_0) = v0 c
          ∧ r.2.mem ((c.tc : Thread Cert.OddBwdIdeal.nD Cert.OddBwdIdeal.τ).loc Cert.OddBwdIdeal.main_v11_1) = v1 c
          ∧ r.2.mem ((c.tc : Thread Cert.OddBwdIdeal.nD Cert.OddBwdIdeal.τ).loc Cert.OddBwdIdeal.main_v11_2) = v2 c
          ∧ r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
          ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
          ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
          ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
          ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
          ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5)
          ∧ r.2.mem ((c.tc : Thread Cert.OddBwdIdeal.nD Cert.OddBwdIdeal.τ).loc Cert.OddBwdIdeal.main_arg6) = m ((c.tc : Thread Cert.OddBwdIdeal.nD Cert.OddBwdIdeal.τ).loc Cert.OddBwdIdeal.main_arg6)
          ∧ r.2.mem ((c.tc : Thread Cert.OddBwdIdeal.nD Cert.OddBwdIdeal.τ).loc Cert.OddBwdIdeal.main_arg7) = m ((c.tc : Thread Cert.OddBwdIdeal.nD Cert.OddBwdIdeal.τ).loc Cert.OddBwdIdeal.main_arg7)
          ∧ r.2.mem ((c.tc : Thread Cert.OddBwdIdeal.nD Cert.OddBwdIdeal.τ).loc Cert.OddBwdIdeal.main_arg8) = m ((c.tc : Thread Cert.OddBwdIdeal.nD Cert.OddBwdIdeal.τ).loc Cert.OddBwdIdeal.main_arg8)
          ∧ r.2.mem ((c.tc : Thread Cert.OddBwdIdeal.nD Cert.OddBwdIdeal.τ).loc Cert.OddBwdIdeal.main_arg9) = m ((c.tc : Thread Cert.OddBwdIdeal.nD Cert.OddBwdIdeal.τ).loc Cert.OddBwdIdeal.main_arg9))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v90) = v0 c
          ∧ r.2.mem ((c.tc : Thread Cert.OddRefIdeal.nD Cert.OddRefIdeal.τ).loc Cert.OddRefIdeal.main_v91) = v1 c
          ∧ r.2.mem ((c.tc : Thread Cert.OddRefIdeal.nD Cert.OddRefIdeal.τ).loc Cert.OddRefIdeal.main_v89) = v2 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8)
          ∧ r.2.mem ((c.tc : Thread Cert.OddRefIdeal.nD Cert.OddRefIdeal.τ).loc Cert.OddRefIdeal.main_arg9) = m' ((c.tc : Thread Cert.OddRefIdeal.nD Cert.OddRefIdeal.τ).loc Cert.OddRefIdeal.main_arg9))

def preserves_GradWin1_GradWin1Ideal : Prop :=
  True

def algebraic_GradWin1Ideal_GradWin1RefIdeal [hGradWin1Ideal : Cert.GradWin1Ideal.Facts] [hGradWin1RefIdeal : Cert.GradWin1RefIdeal.Facts] : Prop :=
  ∀ (m : (ℓ : Loc Cert.GradWin1Ideal.nD Cert.GradWin1Ideal.τ Cert.GradWin1Ideal.sig) → Buf (Elt Ideal) ℓ) (g : Dev Cert.GradWin1Ideal.nD → PrngReg)
    (m' : (ℓ : Loc Cert.GradWin1RefIdeal.nD Cert.GradWin1RefIdeal.τ Cert.GradWin1RefIdeal.sig) → Buf (Elt Ideal) ℓ) (g' : Dev Cert.GradWin1RefIdeal.nD → PrngReg), Pre_GradWin1Ideal m →
    (∀ c : Dev Cert.GradWin1Ideal.nD,
      m' ((c.tc : Thread Cert.GradWin1RefIdeal.nD Cert.GradWin1RefIdeal.τ).loc Cert.GradWin1RefIdeal.main_arg0) = m ((c.tc : Thread Cert.GradWin1Ideal.nD Cert.GradWin1Ideal.τ).loc Cert.GradWin1Ideal.main_arg0)
      ∧ m' ((c.tc : Thread Cert.GradWin1RefIdeal.nD Cert.GradWin1RefIdeal.τ).loc Cert.GradWin1RefIdeal.main_arg1) = m ((c.tc : Thread Cert.GradWin1Ideal.nD Cert.GradWin1Ideal.τ).loc Cert.GradWin1Ideal.main_arg1)) →
    ∃ (v0 : (c : Dev Cert.GradWin1Ideal.nD) → Buf (Elt Ideal) ((c.tc : Thread Cert.GradWin1Ideal.nD Cert.GradWin1Ideal.τ).loc Cert.GradWin1Ideal.main_v0_0)) (v1 : (c : Dev Cert.GradWin1Ideal.nD) → Buf (Elt Ideal) ((c.tc : Thread Cert.GradWin1Ideal.nD Cert.GradWin1Ideal.τ).loc Cert.GradWin1Ideal.main_v0_1)),
      θ_run (Cert.GradWin1Ideal.defs (F := Ideal)) (onTc (τ := Cert.GradWin1Ideal.τ) (Cert.GradWin1Ideal.main (F := Ideal))) ⟨m, fun _ => 0, g⟩ (fun r => ∀ c : Dev Cert.GradWin1Ideal.nD,
          r.2.mem ((c.tc : Thread Cert.GradWin1Ideal.nD Cert.GradWin1Ideal.τ).loc Cert.GradWin1Ideal.main_v0_0) = v0 c
          ∧ r.2.mem ((c.tc : Thread Cert.GradWin1Ideal.nD Cert.GradWin1Ideal.τ).loc Cert.GradWin1Ideal.main_v0_1) = v1 c
          ∧ r.2.mem ((c.tc : Thread Cert.GradWin1Ideal.nD Cert.GradWin1Ideal.τ).loc Cert.GradWin1Ideal.main_arg0) = m ((c.tc : Thread Cert.GradWin1Ideal.nD Cert.GradWin1Ideal.τ).loc Cert.GradWin1Ideal.main_arg0)
          ∧ r.2.mem ((c.tc : Thread Cert.GradWin1Ideal.nD Cert.GradWin1Ideal.τ).loc Cert.GradWin1Ideal.main_arg1) = m ((c.tc : Thread Cert.GradWin1Ideal.nD Cert.GradWin1Ideal.τ).loc Cert.GradWin1Ideal.main_arg1))
      ∧ θ_run (Cert.GradWin1RefIdeal.defs (F := Ideal)) (onTc (τ := Cert.GradWin1RefIdeal.τ) (Cert.GradWin1RefIdeal.main (F := Ideal))) ⟨m', fun _ => 0, g'⟩ (fun r => ∀ c : Dev Cert.GradWin1RefIdeal.nD,
          r.2.mem ((c.tc : Thread Cert.GradWin1RefIdeal.nD Cert.GradWin1RefIdeal.τ).loc Cert.GradWin1RefIdeal.main_v7) = v0 c
          ∧ r.2.mem ((c.tc : Thread Cert.GradWin1RefIdeal.nD Cert.GradWin1RefIdeal.τ).loc Cert.GradWin1RefIdeal.main_v8) = v1 c
          ∧ r.2.mem ((c.tc : Thread Cert.GradWin1RefIdeal.nD Cert.GradWin1RefIdeal.τ).loc Cert.GradWin1RefIdeal.main_arg0) = m' ((c.tc : Thread Cert.GradWin1RefIdeal.nD Cert.GradWin1RefIdeal.τ).loc Cert.GradWin1RefIdeal.main_arg0)
          ∧ r.2.mem ((c.tc : Thread Cert.GradWin1RefIdeal.nD Cert.GradWin1RefIdeal.τ).loc Cert.GradWin1RefIdeal.main_arg1) = m' ((c.tc : Thread Cert.GradWin1RefIdeal.nD Cert.GradWin1RefIdeal.τ).loc Cert.GradWin1RefIdeal.main_arg1))

def preserves_GradWin0_GradWin0Ideal : Prop :=
  True

def algebraic_GradWin0Ideal_GradWin0RefIdeal [hGradWin0Ideal : Cert.GradWin0Ideal.Facts] [hGradWin0RefIdeal : Cert.GradWin0RefIdeal.Facts] : Prop :=
  ∀ (m : (ℓ : Loc Cert.GradWin0Ideal.nD Cert.GradWin0Ideal.τ Cert.GradWin0Ideal.sig) → Buf (Elt Ideal) ℓ) (g : Dev Cert.GradWin0Ideal.nD → PrngReg)
    (m' : (ℓ : Loc Cert.GradWin0RefIdeal.nD Cert.GradWin0RefIdeal.τ Cert.GradWin0RefIdeal.sig) → Buf (Elt Ideal) ℓ) (g' : Dev Cert.GradWin0RefIdeal.nD → PrngReg), Pre_GradWin0Ideal m →
    (∀ c : Dev Cert.GradWin0Ideal.nD,
      m' ((c.tc : Thread Cert.GradWin0RefIdeal.nD Cert.GradWin0RefIdeal.τ).loc Cert.GradWin0RefIdeal.main_arg0) = m ((c.tc : Thread Cert.GradWin0Ideal.nD Cert.GradWin0Ideal.τ).loc Cert.GradWin0Ideal.main_arg0)
      ∧ m' ((c.tc : Thread Cert.GradWin0RefIdeal.nD Cert.GradWin0RefIdeal.τ).loc Cert.GradWin0RefIdeal.main_arg1) = m ((c.tc : Thread Cert.GradWin0Ideal.nD Cert.GradWin0Ideal.τ).loc Cert.GradWin0Ideal.main_arg1)) →
    ∃ (v0 : (c : Dev Cert.GradWin0Ideal.nD) → Buf (Elt Ideal) ((c.tc : Thread Cert.GradWin0Ideal.nD Cert.GradWin0Ideal.τ).loc Cert.GradWin0Ideal.main_v0_0)) (v1 : (c : Dev Cert.GradWin0Ideal.nD) → Buf (Elt Ideal) ((c.tc : Thread Cert.GradWin0Ideal.nD Cert.GradWin0Ideal.τ).loc Cert.GradWin0Ideal.main_v0_1)),
      θ_run (Cert.GradWin0Ideal.defs (F := Ideal)) (onTc (τ := Cert.GradWin0Ideal.τ) (Cert.GradWin0Ideal.main (F := Ideal))) ⟨m, fun _ => 0, g⟩ (fun r => ∀ c : Dev Cert.GradWin0Ideal.nD,
          r.2.mem ((c.tc : Thread Cert.GradWin0Ideal.nD Cert.GradWin0Ideal.τ).loc Cert.GradWin0Ideal.main_v0_0) = v0 c
          ∧ r.2.mem ((c.tc : Thread Cert.GradWin0Ideal.nD Cert.GradWin0Ideal.τ).loc Cert.GradWin0Ideal.main_v0_1) = v1 c
          ∧ r.2.mem ((c.tc : Thread Cert.GradWin0Ideal.nD Cert.GradWin0Ideal.τ).loc Cert.GradWin0Ideal.main_arg0) = m ((c.tc : Thread Cert.GradWin0Ideal.nD Cert.GradWin0Ideal.τ).loc Cert.GradWin0Ideal.main_arg0)
          ∧ r.2.mem ((c.tc : Thread Cert.GradWin0Ideal.nD Cert.GradWin0Ideal.τ).loc Cert.GradWin0Ideal.main_arg1) = m ((c.tc : Thread Cert.GradWin0Ideal.nD Cert.GradWin0Ideal.τ).loc Cert.GradWin0Ideal.main_arg1))
      ∧ θ_run (Cert.GradWin0RefIdeal.defs (F := Ideal)) (onTc (τ := Cert.GradWin0RefIdeal.τ) (Cert.GradWin0RefIdeal.main (F := Ideal))) ⟨m', fun _ => 0, g'⟩ (fun r => ∀ c : Dev Cert.GradWin0RefIdeal.nD,
          r.2.mem ((c.tc : Thread Cert.GradWin0RefIdeal.nD Cert.GradWin0RefIdeal.τ).loc Cert.GradWin0RefIdeal.main_v7) = v0 c
          ∧ r.2.mem ((c.tc : Thread Cert.GradWin0RefIdeal.nD Cert.GradWin0RefIdeal.τ).loc Cert.GradWin0RefIdeal.main_v8) = v1 c
          ∧ r.2.mem ((c.tc : Thread Cert.GradWin0RefIdeal.nD Cert.GradWin0RefIdeal.τ).loc Cert.GradWin0RefIdeal.main_arg0) = m' ((c.tc : Thread Cert.GradWin0RefIdeal.nD Cert.GradWin0RefIdeal.τ).loc Cert.GradWin0RefIdeal.main_arg0)
          ∧ r.2.mem ((c.tc : Thread Cert.GradWin0RefIdeal.nD Cert.GradWin0RefIdeal.τ).loc Cert.GradWin0RefIdeal.main_arg1) = m' ((c.tc : Thread Cert.GradWin0RefIdeal.nD Cert.GradWin0RefIdeal.τ).loc Cert.GradWin0RefIdeal.main_arg1))

def preserves_GradWout_GradWoutIdeal : Prop :=
  True

def algebraic_GradWoutIdeal_GradWoutRefIdeal [hGradWoutIdeal : Cert.GradWoutIdeal.Facts] [hGradWoutRefIdeal : Cert.GradWoutRefIdeal.Facts] : Prop :=
  ∀ (m : (ℓ : Loc Cert.GradWoutIdeal.nD Cert.GradWoutIdeal.τ Cert.GradWoutIdeal.sig) → Buf (Elt Ideal) ℓ) (g : Dev Cert.GradWoutIdeal.nD → PrngReg)
    (m' : (ℓ : Loc Cert.GradWoutRefIdeal.nD Cert.GradWoutRefIdeal.τ Cert.GradWoutRefIdeal.sig) → Buf (Elt Ideal) ℓ) (g' : Dev Cert.GradWoutRefIdeal.nD → PrngReg), Pre_GradWoutIdeal m →
    (∀ c : Dev Cert.GradWoutIdeal.nD,
      m' ((c.tc : Thread Cert.GradWoutRefIdeal.nD Cert.GradWoutRefIdeal.τ).loc Cert.GradWoutRefIdeal.main_arg0) = m ((c.tc : Thread Cert.GradWoutIdeal.nD Cert.GradWoutIdeal.τ).loc Cert.GradWoutIdeal.main_arg0)
      ∧ m' ((c.tc : Thread Cert.GradWoutRefIdeal.nD Cert.GradWoutRefIdeal.τ).loc Cert.GradWoutRefIdeal.main_arg1) = m ((c.tc : Thread Cert.GradWoutIdeal.nD Cert.GradWoutIdeal.τ).loc Cert.GradWoutIdeal.main_arg1)) →
    ∃ (v0 : (c : Dev Cert.GradWoutIdeal.nD) → Buf (Elt Ideal) ((c.tc : Thread Cert.GradWoutIdeal.nD Cert.GradWoutIdeal.τ).loc Cert.GradWoutIdeal.main_v0_0)) (v1 : (c : Dev Cert.GradWoutIdeal.nD) → Buf (Elt Ideal) ((c.tc : Thread Cert.GradWoutIdeal.nD Cert.GradWoutIdeal.τ).loc Cert.GradWoutIdeal.main_v0_1)),
      θ_run (Cert.GradWoutIdeal.defs (F := Ideal)) (onTc (τ := Cert.GradWoutIdeal.τ) (Cert.GradWoutIdeal.main (F := Ideal))) ⟨m, fun _ => 0, g⟩ (fun r => ∀ c : Dev Cert.GradWoutIdeal.nD,
          r.2.mem ((c.tc : Thread Cert.GradWoutIdeal.nD Cert.GradWoutIdeal.τ).loc Cert.GradWoutIdeal.main_v0_0) = v0 c
          ∧ r.2.mem ((c.tc : Thread Cert.GradWoutIdeal.nD Cert.GradWoutIdeal.τ).loc Cert.GradWoutIdeal.main_v0_1) = v1 c
          ∧ r.2.mem ((c.tc : Thread Cert.GradWoutIdeal.nD Cert.GradWoutIdeal.τ).loc Cert.GradWoutIdeal.main_arg0) = m ((c.tc : Thread Cert.GradWoutIdeal.nD Cert.GradWoutIdeal.τ).loc Cert.GradWoutIdeal.main_arg0)
          ∧ r.2.mem ((c.tc : Thread Cert.GradWoutIdeal.nD Cert.GradWoutIdeal.τ).loc Cert.GradWoutIdeal.main_arg1) = m ((c.tc : Thread Cert.GradWoutIdeal.nD Cert.GradWoutIdeal.τ).loc Cert.GradWoutIdeal.main_arg1))
      ∧ θ_run (Cert.GradWoutRefIdeal.defs (F := Ideal)) (onTc (τ := Cert.GradWoutRefIdeal.τ) (Cert.GradWoutRefIdeal.main (F := Ideal))) ⟨m', fun _ => 0, g'⟩ (fun r => ∀ c : Dev Cert.GradWoutRefIdeal.nD,
          r.2.mem ((c.tc : Thread Cert.GradWoutRefIdeal.nD Cert.GradWoutRefIdeal.τ).loc Cert.GradWoutRefIdeal.main_v6) = v0 c
          ∧ r.2.mem ((c.tc : Thread Cert.GradWoutRefIdeal.nD Cert.GradWoutRefIdeal.τ).loc Cert.GradWoutRefIdeal.main_v7) = v1 c
          ∧ r.2.mem ((c.tc : Thread Cert.GradWoutRefIdeal.nD Cert.GradWoutRefIdeal.τ).loc Cert.GradWoutRefIdeal.main_arg0) = m' ((c.tc : Thread Cert.GradWoutRefIdeal.nD Cert.GradWoutRefIdeal.τ).loc Cert.GradWoutRefIdeal.main_arg0)
          ∧ r.2.mem ((c.tc : Thread Cert.GradWoutRefIdeal.nD Cert.GradWoutRefIdeal.τ).loc Cert.GradWoutRefIdeal.main_arg1) = m' ((c.tc : Thread Cert.GradWoutRefIdeal.nD Cert.GradWoutRefIdeal.τ).loc Cert.GradWoutRefIdeal.main_arg1))

def preserves_Inproj1_Inproj1Ideal : Prop :=
  True

def algebraic_Inproj1Ideal_Inproj1RefIdeal [hInproj1Ideal : Cert.Inproj1Ideal.Facts] [hInproj1RefIdeal : Cert.Inproj1RefIdeal.Facts] : Prop :=
  ∀ (m : (ℓ : Loc Cert.Inproj1Ideal.nD Cert.Inproj1Ideal.τ Cert.Inproj1Ideal.sig) → Buf (Elt Ideal) ℓ) (g : Dev Cert.Inproj1Ideal.nD → PrngReg)
    (m' : (ℓ : Loc Cert.Inproj1RefIdeal.nD Cert.Inproj1RefIdeal.τ Cert.Inproj1RefIdeal.sig) → Buf (Elt Ideal) ℓ) (g' : Dev Cert.Inproj1RefIdeal.nD → PrngReg), Pre_Inproj1Ideal m →
    (∀ c : Dev Cert.Inproj1Ideal.nD,
      m' ((c.tc : Thread Cert.Inproj1RefIdeal.nD Cert.Inproj1RefIdeal.τ).loc Cert.Inproj1RefIdeal.main_arg0) = m ((c.tc : Thread Cert.Inproj1Ideal.nD Cert.Inproj1Ideal.τ).loc Cert.Inproj1Ideal.main_arg0)
      ∧ m' ((c.tc : Thread Cert.Inproj1RefIdeal.nD Cert.Inproj1RefIdeal.τ).loc Cert.Inproj1RefIdeal.main_arg1) = m ((c.tc : Thread Cert.Inproj1Ideal.nD Cert.Inproj1Ideal.τ).loc Cert.Inproj1Ideal.main_arg1)) →
    ∃ (v0 : (c : Dev Cert.Inproj1Ideal.nD) → Buf (Elt Ideal) ((c.tc : Thread Cert.Inproj1Ideal.nD Cert.Inproj1Ideal.τ).loc Cert.Inproj1Ideal.main_v0)),
      θ_run (Cert.Inproj1Ideal.defs (F := Ideal)) (onTc (τ := Cert.Inproj1Ideal.τ) (Cert.Inproj1Ideal.main (F := Ideal))) ⟨m, fun _ => 0, g⟩ (fun r => ∀ c : Dev Cert.Inproj1Ideal.nD,
          r.2.mem ((c.tc : Thread Cert.Inproj1Ideal.nD Cert.Inproj1Ideal.τ).loc Cert.Inproj1Ideal.main_v0) = v0 c
          ∧ r.2.mem ((c.tc : Thread Cert.Inproj1Ideal.nD Cert.Inproj1Ideal.τ).loc Cert.Inproj1Ideal.main_arg0) = m ((c.tc : Thread Cert.Inproj1Ideal.nD Cert.Inproj1Ideal.τ).loc Cert.Inproj1Ideal.main_arg0)
          ∧ r.2.mem ((c.tc : Thread Cert.Inproj1Ideal.nD Cert.Inproj1Ideal.τ).loc Cert.Inproj1Ideal.main_arg1) = m ((c.tc : Thread Cert.Inproj1Ideal.nD Cert.Inproj1Ideal.τ).loc Cert.Inproj1Ideal.main_arg1))
      ∧ θ_run (Cert.Inproj1RefIdeal.defs (F := Ideal)) (onTc (τ := Cert.Inproj1RefIdeal.τ) (Cert.Inproj1RefIdeal.main (F := Ideal))) ⟨m', fun _ => 0, g'⟩ (fun r => ∀ c : Dev Cert.Inproj1RefIdeal.nD,
          r.2.mem ((c.tc : Thread Cert.Inproj1RefIdeal.nD Cert.Inproj1RefIdeal.τ).loc Cert.Inproj1RefIdeal.main_v15) = v0 c
          ∧ r.2.mem ((c.tc : Thread Cert.Inproj1RefIdeal.nD Cert.Inproj1RefIdeal.τ).loc Cert.Inproj1RefIdeal.main_arg0) = m' ((c.tc : Thread Cert.Inproj1RefIdeal.nD Cert.Inproj1RefIdeal.τ).loc Cert.Inproj1RefIdeal.main_arg0)
          ∧ r.2.mem ((c.tc : Thread Cert.Inproj1RefIdeal.nD Cert.Inproj1RefIdeal.τ).loc Cert.Inproj1RefIdeal.main_arg1) = m' ((c.tc : Thread Cert.Inproj1RefIdeal.nD Cert.Inproj1RefIdeal.τ).loc Cert.Inproj1RefIdeal.main_arg1))

def preserves_Inproj0_Inproj0Ideal : Prop :=
  True

def algebraic_Inproj0Ideal_Inproj0RefIdeal [hInproj0Ideal : Cert.Inproj0Ideal.Facts] [hInproj0RefIdeal : Cert.Inproj0RefIdeal.Facts] : Prop :=
  ∀ (m : (ℓ : Loc Cert.Inproj0Ideal.nD Cert.Inproj0Ideal.τ Cert.Inproj0Ideal.sig) → Buf (Elt Ideal) ℓ) (g : Dev Cert.Inproj0Ideal.nD → PrngReg)
    (m' : (ℓ : Loc Cert.Inproj0RefIdeal.nD Cert.Inproj0RefIdeal.τ Cert.Inproj0RefIdeal.sig) → Buf (Elt Ideal) ℓ) (g' : Dev Cert.Inproj0RefIdeal.nD → PrngReg), Pre_Inproj0Ideal m →
    (∀ c : Dev Cert.Inproj0Ideal.nD,
      m' ((c.tc : Thread Cert.Inproj0RefIdeal.nD Cert.Inproj0RefIdeal.τ).loc Cert.Inproj0RefIdeal.main_arg0) = m ((c.tc : Thread Cert.Inproj0Ideal.nD Cert.Inproj0Ideal.τ).loc Cert.Inproj0Ideal.main_arg0)
      ∧ m' ((c.tc : Thread Cert.Inproj0RefIdeal.nD Cert.Inproj0RefIdeal.τ).loc Cert.Inproj0RefIdeal.main_arg1) = m ((c.tc : Thread Cert.Inproj0Ideal.nD Cert.Inproj0Ideal.τ).loc Cert.Inproj0Ideal.main_arg1)) →
    ∃ (v0 : (c : Dev Cert.Inproj0Ideal.nD) → Buf (Elt Ideal) ((c.tc : Thread Cert.Inproj0Ideal.nD Cert.Inproj0Ideal.τ).loc Cert.Inproj0Ideal.main_v0)),
      θ_run (Cert.Inproj0Ideal.defs (F := Ideal)) (onTc (τ := Cert.Inproj0Ideal.τ) (Cert.Inproj0Ideal.main (F := Ideal))) ⟨m, fun _ => 0, g⟩ (fun r => ∀ c : Dev Cert.Inproj0Ideal.nD,
          r.2.mem ((c.tc : Thread Cert.Inproj0Ideal.nD Cert.Inproj0Ideal.τ).loc Cert.Inproj0Ideal.main_v0) = v0 c
          ∧ r.2.mem ((c.tc : Thread Cert.Inproj0Ideal.nD Cert.Inproj0Ideal.τ).loc Cert.Inproj0Ideal.main_arg0) = m ((c.tc : Thread Cert.Inproj0Ideal.nD Cert.Inproj0Ideal.τ).loc Cert.Inproj0Ideal.main_arg0)
          ∧ r.2.mem ((c.tc : Thread Cert.Inproj0Ideal.nD Cert.Inproj0Ideal.τ).loc Cert.Inproj0Ideal.main_arg1) = m ((c.tc : Thread Cert.Inproj0Ideal.nD Cert.Inproj0Ideal.τ).loc Cert.Inproj0Ideal.main_arg1))
      ∧ θ_run (Cert.Inproj0RefIdeal.defs (F := Ideal)) (onTc (τ := Cert.Inproj0RefIdeal.τ) (Cert.Inproj0RefIdeal.main (F := Ideal))) ⟨m', fun _ => 0, g'⟩ (fun r => ∀ c : Dev Cert.Inproj0RefIdeal.nD,
          r.2.mem ((c.tc : Thread Cert.Inproj0RefIdeal.nD Cert.Inproj0RefIdeal.τ).loc Cert.Inproj0RefIdeal.main_v15) = v0 c
          ∧ r.2.mem ((c.tc : Thread Cert.Inproj0RefIdeal.nD Cert.Inproj0RefIdeal.τ).loc Cert.Inproj0RefIdeal.main_arg0) = m' ((c.tc : Thread Cert.Inproj0RefIdeal.nD Cert.Inproj0RefIdeal.τ).loc Cert.Inproj0RefIdeal.main_arg0)
          ∧ r.2.mem ((c.tc : Thread Cert.Inproj0RefIdeal.nD Cert.Inproj0RefIdeal.τ).loc Cert.Inproj0RefIdeal.main_arg1) = m' ((c.tc : Thread Cert.Inproj0RefIdeal.nD Cert.Inproj0RefIdeal.τ).loc Cert.Inproj0RefIdeal.main_arg1))

def preserves_Inproj1Bwd_Inproj1BwdIdeal : Prop :=
  True

def algebraic_Inproj1BwdIdeal_Inproj1BwdRefIdeal_pre_inproj_finite [hInproj1BwdIdeal : Cert.Inproj1BwdIdeal.Facts] [hInproj1BwdRefIdeal : Cert.Inproj1BwdRefIdeal.Facts] [hPre_inproj_finite : Cert.Pre_inproj_finite.Facts] : Prop :=
  ∀ (m : (ℓ : Loc Cert.Inproj1BwdIdeal.nD Cert.Inproj1BwdIdeal.τ Cert.Inproj1BwdIdeal.sig) → Buf (Elt Ideal) ℓ) (g : Dev Cert.Inproj1BwdIdeal.nD → PrngReg)
    (m' : (ℓ : Loc Cert.Inproj1BwdRefIdeal.nD Cert.Inproj1BwdRefIdeal.τ Cert.Inproj1BwdRefIdeal.sig) → Buf (Elt Ideal) ℓ) (g' : Dev Cert.Inproj1BwdRefIdeal.nD → PrngReg), Pre_Inproj1BwdIdeal_inproj_finite m →
    (∀ c : Dev Cert.Inproj1BwdIdeal.nD,
      m' ((c.tc : Thread Cert.Inproj1BwdRefIdeal.nD Cert.Inproj1BwdRefIdeal.τ).loc Cert.Inproj1BwdRefIdeal.main_arg0) = m ((c.tc : Thread Cert.Inproj1BwdIdeal.nD Cert.Inproj1BwdIdeal.τ).loc Cert.Inproj1BwdIdeal.main_arg0)
      ∧ m' ((c.tc : Thread Cert.Inproj1BwdRefIdeal.nD Cert.Inproj1BwdRefIdeal.τ).loc Cert.Inproj1BwdRefIdeal.main_arg1) = m ((c.tc : Thread Cert.Inproj1BwdIdeal.nD Cert.Inproj1BwdIdeal.τ).loc Cert.Inproj1BwdIdeal.main_arg1)
      ∧ m' ((c.tc : Thread Cert.Inproj1BwdRefIdeal.nD Cert.Inproj1BwdRefIdeal.τ).loc Cert.Inproj1BwdRefIdeal.main_arg2) = m ((c.tc : Thread Cert.Inproj1BwdIdeal.nD Cert.Inproj1BwdIdeal.τ).loc Cert.Inproj1BwdIdeal.main_arg2)
      ∧ m' ((c.tc : Thread Cert.Inproj1BwdRefIdeal.nD Cert.Inproj1BwdRefIdeal.τ).loc Cert.Inproj1BwdRefIdeal.main_arg3) = m ((c.tc : Thread Cert.Inproj1BwdIdeal.nD Cert.Inproj1BwdIdeal.τ).loc Cert.Inproj1BwdIdeal.main_arg3)
      ∧ m' ((c.tc : Thread Cert.Inproj1BwdRefIdeal.nD Cert.Inproj1BwdRefIdeal.τ).loc Cert.Inproj1BwdRefIdeal.main_arg4) = m ((c.tc : Thread Cert.Inproj1BwdIdeal.nD Cert.Inproj1BwdIdeal.τ).loc Cert.Inproj1BwdIdeal.main_arg4)
      ∧ m' ((c.tc : Thread Cert.Inproj1BwdRefIdeal.nD Cert.Inproj1BwdRefIdeal.τ).loc Cert.Inproj1BwdRefIdeal.main_arg5) = m ((c.tc : Thread Cert.Inproj1BwdIdeal.nD Cert.Inproj1BwdIdeal.τ).loc Cert.Inproj1BwdIdeal.main_arg5)
      ∧ m' ((c.tc : Thread Cert.Inproj1BwdRefIdeal.nD Cert.Inproj1BwdRefIdeal.τ).loc Cert.Inproj1BwdRefIdeal.main_arg6) = m ((c.tc : Thread Cert.Inproj1BwdIdeal.nD Cert.Inproj1BwdIdeal.τ).loc Cert.Inproj1BwdIdeal.main_arg6)
      ∧ m' ((c.tc : Thread Cert.Inproj1BwdRefIdeal.nD Cert.Inproj1BwdRefIdeal.τ).loc Cert.Inproj1BwdRefIdeal.main_arg7) = m ((c.tc : Thread Cert.Inproj1BwdIdeal.nD Cert.Inproj1BwdIdeal.τ).loc Cert.Inproj1BwdIdeal.main_arg7)
      ∧ m' ((c.tc : Thread Cert.Inproj1BwdRefIdeal.nD Cert.Inproj1BwdRefIdeal.τ).loc Cert.Inproj1BwdRefIdeal.main_arg8) = m ((c.tc : Thread Cert.Inproj1BwdIdeal.nD Cert.Inproj1BwdIdeal.τ).loc Cert.Inproj1BwdIdeal.main_arg8)) →
    ∃ (v0 : (c : Dev Cert.Inproj1BwdIdeal.nD) → Buf (Elt Ideal) ((c.tc : Thread Cert.Inproj1BwdIdeal.nD Cert.Inproj1BwdIdeal.τ).loc Cert.Inproj1BwdIdeal.main_v8_0)) (v1 : (c : Dev Cert.Inproj1BwdIdeal.nD) → Buf (Elt Ideal) ((c.tc : Thread Cert.Inproj1BwdIdeal.nD Cert.Inproj1BwdIdeal.τ).loc Cert.Inproj1BwdIdeal.main_v8_1)),
      θ_run (Cert.Inproj1BwdIdeal.defs (F := Ideal)) (onTc (τ := Cert.Inproj1BwdIdeal.τ) (Cert.Inproj1BwdIdeal.main (F := Ideal))) ⟨m, fun _ => 0, g⟩ (fun r => ∀ c : Dev Cert.Inproj1BwdIdeal.nD,
          r.2.mem ((c.tc : Thread Cert.Inproj1BwdIdeal.nD Cert.Inproj1BwdIdeal.τ).loc Cert.Inproj1BwdIdeal.main_v8_0) = v0 c
          ∧ r.2.mem ((c.tc : Thread Cert.Inproj1BwdIdeal.nD Cert.Inproj1BwdIdeal.τ).loc Cert.Inproj1BwdIdeal.main_v8_1) = v1 c
          ∧ r.2.mem ((c.tc : Thread Cert.Inproj1BwdIdeal.nD Cert.Inproj1BwdIdeal.τ).loc Cert.Inproj1BwdIdeal.main_arg0) = m ((c.tc : Thread Cert.Inproj1BwdIdeal.nD Cert.Inproj1BwdIdeal.τ).loc Cert.Inproj1BwdIdeal.main_arg0)
          ∧ r.2.mem ((c.tc : Thread Cert.Inproj1BwdIdeal.nD Cert.Inproj1BwdIdeal.τ).loc Cert.Inproj1BwdIdeal.main_arg1) = m ((c.tc : Thread Cert.Inproj1BwdIdeal.nD Cert.Inproj1BwdIdeal.τ).loc Cert.Inproj1BwdIdeal.main_arg1)
          ∧ r.2.mem ((c.tc : Thread Cert.Inproj1BwdIdeal.nD Cert.Inproj1BwdIdeal.τ).loc Cert.Inproj1BwdIdeal.main_arg2) = m ((c.tc : Thread Cert.Inproj1BwdIdeal.nD Cert.Inproj1BwdIdeal.τ).loc Cert.Inproj1BwdIdeal.main_arg2)
          ∧ r.2.mem ((c.tc : Thread Cert.Inproj1BwdIdeal.nD Cert.Inproj1BwdIdeal.τ).loc Cert.Inproj1BwdIdeal.main_arg3) = m ((c.tc : Thread Cert.Inproj1BwdIdeal.nD Cert.Inproj1BwdIdeal.τ).loc Cert.Inproj1BwdIdeal.main_arg3)
          ∧ r.2.mem ((c.tc : Thread Cert.Inproj1BwdIdeal.nD Cert.Inproj1BwdIdeal.τ).loc Cert.Inproj1BwdIdeal.main_arg4) = m ((c.tc : Thread Cert.Inproj1BwdIdeal.nD Cert.Inproj1BwdIdeal.τ).loc Cert.Inproj1BwdIdeal.main_arg4)
          ∧ r.2.mem ((c.tc : Thread Cert.Inproj1BwdIdeal.nD Cert.Inproj1BwdIdeal.τ).loc Cert.Inproj1BwdIdeal.main_arg5) = m ((c.tc : Thread Cert.Inproj1BwdIdeal.nD Cert.Inproj1BwdIdeal.τ).loc Cert.Inproj1BwdIdeal.main_arg5)
          ∧ r.2.mem ((c.tc : Thread Cert.Inproj1BwdIdeal.nD Cert.Inproj1BwdIdeal.τ).loc Cert.Inproj1BwdIdeal.main_arg6) = m ((c.tc : Thread Cert.Inproj1BwdIdeal.nD Cert.Inproj1BwdIdeal.τ).loc Cert.Inproj1BwdIdeal.main_arg6)
          ∧ r.2.mem ((c.tc : Thread Cert.Inproj1BwdIdeal.nD Cert.Inproj1BwdIdeal.τ).loc Cert.Inproj1BwdIdeal.main_arg7) = m ((c.tc : Thread Cert.Inproj1BwdIdeal.nD Cert.Inproj1BwdIdeal.τ).loc Cert.Inproj1BwdIdeal.main_arg7)
          ∧ r.2.mem ((c.tc : Thread Cert.Inproj1BwdIdeal.nD Cert.Inproj1BwdIdeal.τ).loc Cert.Inproj1BwdIdeal.main_arg8) = m ((c.tc : Thread Cert.Inproj1BwdIdeal.nD Cert.Inproj1BwdIdeal.τ).loc Cert.Inproj1BwdIdeal.main_arg8))
      ∧ θ_run (Cert.Inproj1BwdRefIdeal.defs (F := Ideal)) (onTc (τ := Cert.Inproj1BwdRefIdeal.τ) (Cert.Inproj1BwdRefIdeal.main (F := Ideal))) ⟨m', fun _ => 0, g'⟩ (fun r => ∀ c : Dev Cert.Inproj1BwdRefIdeal.nD,
          r.2.mem ((c.tc : Thread Cert.Inproj1BwdRefIdeal.nD Cert.Inproj1BwdRefIdeal.τ).loc Cert.Inproj1BwdRefIdeal.main_v69) = v0 c
          ∧ r.2.mem ((c.tc : Thread Cert.Inproj1BwdRefIdeal.nD Cert.Inproj1BwdRefIdeal.τ).loc Cert.Inproj1BwdRefIdeal.main_v75) = v1 c
          ∧ r.2.mem ((c.tc : Thread Cert.Inproj1BwdRefIdeal.nD Cert.Inproj1BwdRefIdeal.τ).loc Cert.Inproj1BwdRefIdeal.main_arg0) = m' ((c.tc : Thread Cert.Inproj1BwdRefIdeal.nD Cert.Inproj1BwdRefIdeal.τ).loc Cert.Inproj1BwdRefIdeal.main_arg0)
          ∧ r.2.mem ((c.tc : Thread Cert.Inproj1BwdRefIdeal.nD Cert.Inproj1BwdRefIdeal.τ).loc Cert.Inproj1BwdRefIdeal.main_arg1) = m' ((c.tc : Thread Cert.Inproj1BwdRefIdeal.nD Cert.Inproj1BwdRefIdeal.τ).loc Cert.Inproj1BwdRefIdeal.main_arg1)
          ∧ r.2.mem ((c.tc : Thread Cert.Inproj1BwdRefIdeal.nD Cert.Inproj1BwdRefIdeal.τ).loc Cert.Inproj1BwdRefIdeal.main_arg2) = m' ((c.tc : Thread Cert.Inproj1BwdRefIdeal.nD Cert.Inproj1BwdRefIdeal.τ).loc Cert.Inproj1BwdRefIdeal.main_arg2)
          ∧ r.2.mem ((c.tc : Thread Cert.Inproj1BwdRefIdeal.nD Cert.Inproj1BwdRefIdeal.τ).loc Cert.Inproj1BwdRefIdeal.main_arg3) = m' ((c.tc : Thread Cert.Inproj1BwdRefIdeal.nD Cert.Inproj1BwdRefIdeal.τ).loc Cert.Inproj1BwdRefIdeal.main_arg3)
          ∧ r.2.mem ((c.tc : Thread Cert.Inproj1BwdRefIdeal.nD Cert.Inproj1BwdRefIdeal.τ).loc Cert.Inproj1BwdRefIdeal.main_arg4) = m' ((c.tc : Thread Cert.Inproj1BwdRefIdeal.nD Cert.Inproj1BwdRefIdeal.τ).loc Cert.Inproj1BwdRefIdeal.main_arg4)
          ∧ r.2.mem ((c.tc : Thread Cert.Inproj1BwdRefIdeal.nD Cert.Inproj1BwdRefIdeal.τ).loc Cert.Inproj1BwdRefIdeal.main_arg5) = m' ((c.tc : Thread Cert.Inproj1BwdRefIdeal.nD Cert.Inproj1BwdRefIdeal.τ).loc Cert.Inproj1BwdRefIdeal.main_arg5)
          ∧ r.2.mem ((c.tc : Thread Cert.Inproj1BwdRefIdeal.nD Cert.Inproj1BwdRefIdeal.τ).loc Cert.Inproj1BwdRefIdeal.main_arg6) = m' ((c.tc : Thread Cert.Inproj1BwdRefIdeal.nD Cert.Inproj1BwdRefIdeal.τ).loc Cert.Inproj1BwdRefIdeal.main_arg6)
          ∧ r.2.mem ((c.tc : Thread Cert.Inproj1BwdRefIdeal.nD Cert.Inproj1BwdRefIdeal.τ).loc Cert.Inproj1BwdRefIdeal.main_arg7) = m' ((c.tc : Thread Cert.Inproj1BwdRefIdeal.nD Cert.Inproj1BwdRefIdeal.τ).loc Cert.Inproj1BwdRefIdeal.main_arg7)
          ∧ r.2.mem ((c.tc : Thread Cert.Inproj1BwdRefIdeal.nD Cert.Inproj1BwdRefIdeal.τ).loc Cert.Inproj1BwdRefIdeal.main_arg8) = m' ((c.tc : Thread Cert.Inproj1BwdRefIdeal.nD Cert.Inproj1BwdRefIdeal.τ).loc Cert.Inproj1BwdRefIdeal.main_arg8))

def preserves_Inproj0Bwd_Inproj0BwdIdeal : Prop :=
  True

def algebraic_Inproj0BwdIdeal_Inproj0BwdRefIdeal_pre_inproj0_finite [hInproj0BwdIdeal : Cert.Inproj0BwdIdeal.Facts] [hInproj0BwdRefIdeal : Cert.Inproj0BwdRefIdeal.Facts] [hPre_inproj0_finite : Cert.Pre_inproj0_finite.Facts] : Prop :=
  ∀ (m : (ℓ : Loc Cert.Inproj0BwdIdeal.nD Cert.Inproj0BwdIdeal.τ Cert.Inproj0BwdIdeal.sig) → Buf (Elt Ideal) ℓ) (g : Dev Cert.Inproj0BwdIdeal.nD → PrngReg)
    (m' : (ℓ : Loc Cert.Inproj0BwdRefIdeal.nD Cert.Inproj0BwdRefIdeal.τ Cert.Inproj0BwdRefIdeal.sig) → Buf (Elt Ideal) ℓ) (g' : Dev Cert.Inproj0BwdRefIdeal.nD → PrngReg), Pre_Inproj0BwdIdeal_inproj0_finite m →
    (∀ c : Dev Cert.Inproj0BwdIdeal.nD,
      m' ((c.tc : Thread Cert.Inproj0BwdRefIdeal.nD Cert.Inproj0BwdRefIdeal.τ).loc Cert.Inproj0BwdRefIdeal.main_arg0) = m ((c.tc : Thread Cert.Inproj0BwdIdeal.nD Cert.Inproj0BwdIdeal.τ).loc Cert.Inproj0BwdIdeal.main_arg0)
      ∧ m' ((c.tc : Thread Cert.Inproj0BwdRefIdeal.nD Cert.Inproj0BwdRefIdeal.τ).loc Cert.Inproj0BwdRefIdeal.main_arg1) = m ((c.tc : Thread Cert.Inproj0BwdIdeal.nD Cert.Inproj0BwdIdeal.τ).loc Cert.Inproj0BwdIdeal.main_arg1)
      ∧ m' ((c.tc : Thread Cert.Inproj0BwdRefIdeal.nD Cert.Inproj0BwdRefIdeal.τ).loc Cert.Inproj0BwdRefIdeal.main_arg2) = m ((c.tc : Thread Cert.Inproj0BwdIdeal.nD Cert.Inproj0BwdIdeal.τ).loc Cert.Inproj0BwdIdeal.main_arg2)
      ∧ m' ((c.tc : Thread Cert.Inproj0BwdRefIdeal.nD Cert.Inproj0BwdRefIdeal.τ).loc Cert.Inproj0BwdRefIdeal.main_arg3) = m ((c.tc : Thread Cert.Inproj0BwdIdeal.nD Cert.Inproj0BwdIdeal.τ).loc Cert.Inproj0BwdIdeal.main_arg3)
      ∧ m' ((c.tc : Thread Cert.Inproj0BwdRefIdeal.nD Cert.Inproj0BwdRefIdeal.τ).loc Cert.Inproj0BwdRefIdeal.main_arg4) = m ((c.tc : Thread Cert.Inproj0BwdIdeal.nD Cert.Inproj0BwdIdeal.τ).loc Cert.Inproj0BwdIdeal.main_arg4)
      ∧ m' ((c.tc : Thread Cert.Inproj0BwdRefIdeal.nD Cert.Inproj0BwdRefIdeal.τ).loc Cert.Inproj0BwdRefIdeal.main_arg5) = m ((c.tc : Thread Cert.Inproj0BwdIdeal.nD Cert.Inproj0BwdIdeal.τ).loc Cert.Inproj0BwdIdeal.main_arg5)
      ∧ m' ((c.tc : Thread Cert.Inproj0BwdRefIdeal.nD Cert.Inproj0BwdRefIdeal.τ).loc Cert.Inproj0BwdRefIdeal.main_arg6) = m ((c.tc : Thread Cert.Inproj0BwdIdeal.nD Cert.Inproj0BwdIdeal.τ).loc Cert.Inproj0BwdIdeal.main_arg6)
      ∧ m' ((c.tc : Thread Cert.Inproj0BwdRefIdeal.nD Cert.Inproj0BwdRefIdeal.τ).loc Cert.Inproj0BwdRefIdeal.main_arg7) = m ((c.tc : Thread Cert.Inproj0BwdIdeal.nD Cert.Inproj0BwdIdeal.τ).loc Cert.Inproj0BwdIdeal.main_arg7)
      ∧ m' ((c.tc : Thread Cert.Inproj0BwdRefIdeal.nD Cert.Inproj0BwdRefIdeal.τ).loc Cert.Inproj0BwdRefIdeal.main_arg8) = m ((c.tc : Thread Cert.Inproj0BwdIdeal.nD Cert.Inproj0BwdIdeal.τ).loc Cert.Inproj0BwdIdeal.main_arg8)) →
    ∃ (v0 : (c : Dev Cert.Inproj0BwdIdeal.nD) → Buf (Elt Ideal) ((c.tc : Thread Cert.Inproj0BwdIdeal.nD Cert.Inproj0BwdIdeal.τ).loc Cert.Inproj0BwdIdeal.main_v8_0)) (v1 : (c : Dev Cert.Inproj0BwdIdeal.nD) → Buf (Elt Ideal) ((c.tc : Thread Cert.Inproj0BwdIdeal.nD Cert.Inproj0BwdIdeal.τ).loc Cert.Inproj0BwdIdeal.main_v8_1)),
      θ_run (Cert.Inproj0BwdIdeal.defs (F := Ideal)) (onTc (τ := Cert.Inproj0BwdIdeal.τ) (Cert.Inproj0BwdIdeal.main (F := Ideal))) ⟨m, fun _ => 0, g⟩ (fun r => ∀ c : Dev Cert.Inproj0BwdIdeal.nD,
          r.2.mem ((c.tc : Thread Cert.Inproj0BwdIdeal.nD Cert.Inproj0BwdIdeal.τ).loc Cert.Inproj0BwdIdeal.main_v8_0) = v0 c
          ∧ r.2.mem ((c.tc : Thread Cert.Inproj0BwdIdeal.nD Cert.Inproj0BwdIdeal.τ).loc Cert.Inproj0BwdIdeal.main_v8_1) = v1 c
          ∧ r.2.mem ((c.tc : Thread Cert.Inproj0BwdIdeal.nD Cert.Inproj0BwdIdeal.τ).loc Cert.Inproj0BwdIdeal.main_arg0) = m ((c.tc : Thread Cert.Inproj0BwdIdeal.nD Cert.Inproj0BwdIdeal.τ).loc Cert.Inproj0BwdIdeal.main_arg0)
          ∧ r.2.mem ((c.tc : Thread Cert.Inproj0BwdIdeal.nD Cert.Inproj0BwdIdeal.τ).loc Cert.Inproj0BwdIdeal.main_arg1) = m ((c.tc : Thread Cert.Inproj0BwdIdeal.nD Cert.Inproj0BwdIdeal.τ).loc Cert.Inproj0BwdIdeal.main_arg1)
          ∧ r.2.mem ((c.tc : Thread Cert.Inproj0BwdIdeal.nD Cert.Inproj0BwdIdeal.τ).loc Cert.Inproj0BwdIdeal.main_arg2) = m ((c.tc : Thread Cert.Inproj0BwdIdeal.nD Cert.Inproj0BwdIdeal.τ).loc Cert.Inproj0BwdIdeal.main_arg2)
          ∧ r.2.mem ((c.tc : Thread Cert.Inproj0BwdIdeal.nD Cert.Inproj0BwdIdeal.τ).loc Cert.Inproj0BwdIdeal.main_arg3) = m ((c.tc : Thread Cert.Inproj0BwdIdeal.nD Cert.Inproj0BwdIdeal.τ).loc Cert.Inproj0BwdIdeal.main_arg3)
          ∧ r.2.mem ((c.tc : Thread Cert.Inproj0BwdIdeal.nD Cert.Inproj0BwdIdeal.τ).loc Cert.Inproj0BwdIdeal.main_arg4) = m ((c.tc : Thread Cert.Inproj0BwdIdeal.nD Cert.Inproj0BwdIdeal.τ).loc Cert.Inproj0BwdIdeal.main_arg4)
          ∧ r.2.mem ((c.tc : Thread Cert.Inproj0BwdIdeal.nD Cert.Inproj0BwdIdeal.τ).loc Cert.Inproj0BwdIdeal.main_arg5) = m ((c.tc : Thread Cert.Inproj0BwdIdeal.nD Cert.Inproj0BwdIdeal.τ).loc Cert.Inproj0BwdIdeal.main_arg5)
          ∧ r.2.mem ((c.tc : Thread Cert.Inproj0BwdIdeal.nD Cert.Inproj0BwdIdeal.τ).loc Cert.Inproj0BwdIdeal.main_arg6) = m ((c.tc : Thread Cert.Inproj0BwdIdeal.nD Cert.Inproj0BwdIdeal.τ).loc Cert.Inproj0BwdIdeal.main_arg6)
          ∧ r.2.mem ((c.tc : Thread Cert.Inproj0BwdIdeal.nD Cert.Inproj0BwdIdeal.τ).loc Cert.Inproj0BwdIdeal.main_arg7) = m ((c.tc : Thread Cert.Inproj0BwdIdeal.nD Cert.Inproj0BwdIdeal.τ).loc Cert.Inproj0BwdIdeal.main_arg7)
          ∧ r.2.mem ((c.tc : Thread Cert.Inproj0BwdIdeal.nD Cert.Inproj0BwdIdeal.τ).loc Cert.Inproj0BwdIdeal.main_arg8) = m ((c.tc : Thread Cert.Inproj0BwdIdeal.nD Cert.Inproj0BwdIdeal.τ).loc Cert.Inproj0BwdIdeal.main_arg8))
      ∧ θ_run (Cert.Inproj0BwdRefIdeal.defs (F := Ideal)) (onTc (τ := Cert.Inproj0BwdRefIdeal.τ) (Cert.Inproj0BwdRefIdeal.main (F := Ideal))) ⟨m', fun _ => 0, g'⟩ (fun r => ∀ c : Dev Cert.Inproj0BwdRefIdeal.nD,
          r.2.mem ((c.tc : Thread Cert.Inproj0BwdRefIdeal.nD Cert.Inproj0BwdRefIdeal.τ).loc Cert.Inproj0BwdRefIdeal.main_v69) = v0 c
          ∧ r.2.mem ((c.tc : Thread Cert.Inproj0BwdRefIdeal.nD Cert.Inproj0BwdRefIdeal.τ).loc Cert.Inproj0BwdRefIdeal.main_v75) = v1 c
          ∧ r.2.mem ((c.tc : Thread Cert.Inproj0BwdRefIdeal.nD Cert.Inproj0BwdRefIdeal.τ).loc Cert.Inproj0BwdRefIdeal.main_arg0) = m' ((c.tc : Thread Cert.Inproj0BwdRefIdeal.nD Cert.Inproj0BwdRefIdeal.τ).loc Cert.Inproj0BwdRefIdeal.main_arg0)
          ∧ r.2.mem ((c.tc : Thread Cert.Inproj0BwdRefIdeal.nD Cert.Inproj0BwdRefIdeal.τ).loc Cert.Inproj0BwdRefIdeal.main_arg1) = m' ((c.tc : Thread Cert.Inproj0BwdRefIdeal.nD Cert.Inproj0BwdRefIdeal.τ).loc Cert.Inproj0BwdRefIdeal.main_arg1)
          ∧ r.2.mem ((c.tc : Thread Cert.Inproj0BwdRefIdeal.nD Cert.Inproj0BwdRefIdeal.τ).loc Cert.Inproj0BwdRefIdeal.main_arg2) = m' ((c.tc : Thread Cert.Inproj0BwdRefIdeal.nD Cert.Inproj0BwdRefIdeal.τ).loc Cert.Inproj0BwdRefIdeal.main_arg2)
          ∧ r.2.mem ((c.tc : Thread Cert.Inproj0BwdRefIdeal.nD Cert.Inproj0BwdRefIdeal.τ).loc Cert.Inproj0BwdRefIdeal.main_arg3) = m' ((c.tc : Thread Cert.Inproj0BwdRefIdeal.nD Cert.Inproj0BwdRefIdeal.τ).loc Cert.Inproj0BwdRefIdeal.main_arg3)
          ∧ r.2.mem ((c.tc : Thread Cert.Inproj0BwdRefIdeal.nD Cert.Inproj0BwdRefIdeal.τ).loc Cert.Inproj0BwdRefIdeal.main_arg4) = m' ((c.tc : Thread Cert.Inproj0BwdRefIdeal.nD Cert.Inproj0BwdRefIdeal.τ).loc Cert.Inproj0BwdRefIdeal.main_arg4)
          ∧ r.2.mem ((c.tc : Thread Cert.Inproj0BwdRefIdeal.nD Cert.Inproj0BwdRefIdeal.τ).loc Cert.Inproj0BwdRefIdeal.main_arg5) = m' ((c.tc : Thread Cert.Inproj0BwdRefIdeal.nD Cert.Inproj0BwdRefIdeal.τ).loc Cert.Inproj0BwdRefIdeal.main_arg5)
          ∧ r.2.mem ((c.tc : Thread Cert.Inproj0BwdRefIdeal.nD Cert.Inproj0BwdRefIdeal.τ).loc Cert.Inproj0BwdRefIdeal.main_arg6) = m' ((c.tc : Thread Cert.Inproj0BwdRefIdeal.nD Cert.Inproj0BwdRefIdeal.τ).loc Cert.Inproj0BwdRefIdeal.main_arg6)
          ∧ r.2.mem ((c.tc : Thread Cert.Inproj0BwdRefIdeal.nD Cert.Inproj0BwdRefIdeal.τ).loc Cert.Inproj0BwdRefIdeal.main_arg7) = m' ((c.tc : Thread Cert.Inproj0BwdRefIdeal.nD Cert.Inproj0BwdRefIdeal.τ).loc Cert.Inproj0BwdRefIdeal.main_arg7)
          ∧ r.2.mem ((c.tc : Thread Cert.Inproj0BwdRefIdeal.nD Cert.Inproj0BwdRefIdeal.τ).loc Cert.Inproj0BwdRefIdeal.main_arg8) = m' ((c.tc : Thread Cert.Inproj0BwdRefIdeal.nD Cert.Inproj0BwdRefIdeal.τ).loc Cert.Inproj0BwdRefIdeal.main_arg8))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)
      ∧ m' ((c.tc : Thread Cert.EvenOutRefIdeal.nD Cert.EvenOutRefIdeal.τ).loc Cert.EvenOutRefIdeal.main_arg6) = m ((c.tc : Thread Cert.EvenOutIdeal.nD Cert.EvenOutIdeal.τ).loc Cert.EvenOutIdeal.main_arg6)
      ∧ m' ((c.tc : Thread Cert.EvenOutRefIdeal.nD Cert.EvenOutRefIdeal.τ).loc Cert.EvenOutRefIdeal.main_arg7) = m ((c.tc : Thread Cert.EvenOutIdeal.nD Cert.EvenOutIdeal.τ).loc Cert.EvenOutIdeal.main_arg7)
      ∧ m' ((c.tc : Thread Cert.EvenOutRefIdeal.nD Cert.EvenOutRefIdeal.τ).loc Cert.EvenOutRefIdeal.main_arg8) = m ((c.tc : Thread Cert.EvenOutIdeal.nD Cert.EvenOutIdeal.τ).loc Cert.EvenOutIdeal.main_arg8)
      ∧ m' ((c.tc : Thread Cert.EvenOutRefIdeal.nD Cert.EvenOutRefIdeal.τ).loc Cert.EvenOutRefIdeal.main_arg9) = m ((c.tc : Thread Cert.EvenOutIdeal.nD Cert.EvenOutIdeal.τ).loc Cert.EvenOutIdeal.main_arg9)
      ∧ m' ((c.tc : Thread Cert.EvenOutRefIdeal.nD Cert.EvenOutRefIdeal.τ).loc Cert.EvenOutRefIdeal.main_arg10) = m ((c.tc : Thread Cert.EvenOutIdeal.nD Cert.EvenOutIdeal.τ).loc Cert.EvenOutIdeal.main_arg10)
      ∧ m' ((c.tc : Thread Cert.EvenOutRefIdeal.nD Cert.EvenOutRefIdeal.τ).loc Cert.EvenOutRefIdeal.main_arg11) = m ((c.tc : Thread Cert.EvenOutIdeal.nD Cert.EvenOutIdeal.τ).loc Cert.EvenOutIdeal.main_arg11)
      ∧ m' ((c.tc : Thread Cert.EvenOutRefIdeal.nD Cert.EvenOutRefIdeal.τ).loc Cert.EvenOutRefIdeal.main_arg12) = m ((c.tc : Thread Cert.EvenOutIdeal.nD Cert.EvenOutIdeal.τ).loc Cert.EvenOutIdeal.main_arg12)
      ∧ m' ((c.tc : Thread Cert.EvenOutRefIdeal.nD Cert.EvenOutRefIdeal.τ).loc Cert.EvenOutRefIdeal.main_arg13) = m ((c.tc : Thread Cert.EvenOutIdeal.nD Cert.EvenOutIdeal.τ).loc Cert.EvenOutIdeal.main_arg13)) →
    ∃ (v0 : (c : Dev Cert.EvenOutIdeal.nD) → Buf (Elt Ideal) ((c.tc : Thread Cert.EvenOutIdeal.nD Cert.EvenOutIdeal.τ).loc Cert.EvenOutIdeal.main_v16_0)) (v1 : (c : Dev Cert.EvenOutIdeal.nD) → Buf (Elt Ideal) ((c.tc : Thread Cert.EvenOutIdeal.nD Cert.EvenOutIdeal.τ).loc Cert.EvenOutIdeal.main_v16_1)) (v2 : (c : Dev Cert.EvenOutIdeal.nD) → Buf (Elt Ideal) ((c.tc : Thread Cert.EvenOutIdeal.nD Cert.EvenOutIdeal.τ).loc Cert.EvenOutIdeal.main_v16_2)) (v3 : (c : Dev Cert.EvenOutIdeal.nD) → Buf (Elt Ideal) ((c.tc : Thread Cert.EvenOutIdeal.nD Cert.EvenOutIdeal.τ).loc Cert.EvenOutIdeal.main_v16_3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v16_0) = v0 c
          ∧ r.2.mem ((c.tc : Thread Cert.EvenOutIdeal.nD Cert.EvenOutIdeal.τ).loc Cert.EvenOutIdeal.main_v16_1) = v1 c
          ∧ r.2.mem ((c.tc : Thread Cert.EvenOutIdeal.nD Cert.EvenOutIdeal.τ).loc Cert.EvenOutIdeal.main_v16_2) = v2 c
          ∧ r.2.mem ((c.tc : Thread Cert.EvenOutIdeal.nD Cert.EvenOutIdeal.τ).loc Cert.EvenOutIdeal.main_v16_3) = v3 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5)
          ∧ r.2.mem ((c.tc : Thread Cert.EvenOutIdeal.nD Cert.EvenOutIdeal.τ).loc Cert.EvenOutIdeal.main_arg6) = m ((c.tc : Thread Cert.EvenOutIdeal.nD Cert.EvenOutIdeal.τ).loc Cert.EvenOutIdeal.main_arg6)
          ∧ r.2.mem ((c.tc : Thread Cert.EvenOutIdeal.nD Cert.EvenOutIdeal.τ).loc Cert.EvenOutIdeal.main_arg7) = m ((c.tc : Thread Cert.EvenOutIdeal.nD Cert.EvenOutIdeal.τ).loc Cert.EvenOutIdeal.main_arg7)
          ∧ r.2.mem ((c.tc : Thread Cert.EvenOutIdeal.nD Cert.EvenOutIdeal.τ).loc Cert.EvenOutIdeal.main_arg8) = m ((c.tc : Thread Cert.EvenOutIdeal.nD Cert.EvenOutIdeal.τ).loc Cert.EvenOutIdeal.main_arg8)
          ∧ r.2.mem ((c.tc : Thread Cert.EvenOutIdeal.nD Cert.EvenOutIdeal.τ).loc Cert.EvenOutIdeal.main_arg9) = m ((c.tc : Thread Cert.EvenOutIdeal.nD Cert.EvenOutIdeal.τ).loc Cert.EvenOutIdeal.main_arg9)
          ∧ r.2.mem ((c.tc : Thread Cert.EvenOutIdeal.nD Cert.EvenOutIdeal.τ).loc Cert.EvenOutIdeal.main_arg10) = m ((c.tc : Thread Cert.EvenOutIdeal.nD Cert.EvenOutIdeal.τ).loc Cert.EvenOutIdeal.main_arg10)
          ∧ r.2.mem ((c.tc : Thread Cert.EvenOutIdeal.nD Cert.EvenOutIdeal.τ).loc Cert.EvenOutIdeal.main_arg11) = m ((c.tc : Thread Cert.EvenOutIdeal.nD Cert.EvenOutIdeal.τ).loc Cert.EvenOutIdeal.main_arg11)
          ∧ r.2.mem ((c.tc : Thread Cert.EvenOutIdeal.nD Cert.EvenOutIdeal.τ).loc Cert.EvenOutIdeal.main_arg12) = m ((c.tc : Thread Cert.EvenOutIdeal.nD Cert.EvenOutIdeal.τ).loc Cert.EvenOutIdeal.main_arg12)
          ∧ r.2.mem ((c.tc : Thread Cert.EvenOutIdeal.nD Cert.EvenOutIdeal.τ).loc Cert.EvenOutIdeal.main_arg13) = m ((c.tc : Thread Cert.EvenOutIdeal.nD Cert.EvenOutIdeal.τ).loc Cert.EvenOutIdeal.main_arg13))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v15) = v0 c
          ∧ r.2.mem ((c.tc : Thread Cert.EvenOutRefIdeal.nD Cert.EvenOutRefIdeal.τ).loc Cert.EvenOutRefIdeal.main_v9) = v1 c
          ∧ r.2.mem ((c.tc : Thread Cert.EvenOutRefIdeal.nD Cert.EvenOutRefIdeal.τ).loc Cert.EvenOutRefIdeal.main_v37) = v2 c
          ∧ r.2.mem ((c.tc : Thread Cert.EvenOutRefIdeal.nD Cert.EvenOutRefIdeal.τ).loc Cert.EvenOutRefIdeal.main_v38) = v3 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5)
          ∧ r.2.mem ((c.tc : Thread Cert.EvenOutRefIdeal.nD Cert.EvenOutRefIdeal.τ).loc Cert.EvenOutRefIdeal.main_arg6) = m' ((c.tc : Thread Cert.EvenOutRefIdeal.nD Cert.EvenOutRefIdeal.τ).loc Cert.EvenOutRefIdeal.main_arg6)
          ∧ r.2.mem ((c.tc : Thread Cert.EvenOutRefIdeal.nD Cert.EvenOutRefIdeal.τ).loc Cert.EvenOutRefIdeal.main_arg7) = m' ((c.tc : Thread Cert.EvenOutRefIdeal.nD Cert.EvenOutRefIdeal.τ).loc Cert.EvenOutRefIdeal.main_arg7)
          ∧ r.2.mem ((c.tc : Thread Cert.EvenOutRefIdeal.nD Cert.EvenOutRefIdeal.τ).loc Cert.EvenOutRefIdeal.main_arg8) = m' ((c.tc : Thread Cert.EvenOutRefIdeal.nD Cert.EvenOutRefIdeal.τ).loc Cert.EvenOutRefIdeal.main_arg8)
          ∧ r.2.mem ((c.tc : Thread Cert.EvenOutRefIdeal.nD Cert.EvenOutRefIdeal.τ).loc Cert.EvenOutRefIdeal.main_arg9) = m' ((c.tc : Thread Cert.EvenOutRefIdeal.nD Cert.EvenOutRefIdeal.τ).loc Cert.EvenOutRefIdeal.main_arg9)
          ∧ r.2.mem ((c.tc : Thread Cert.EvenOutRefIdeal.nD Cert.EvenOutRefIdeal.τ).loc Cert.EvenOutRefIdeal.main_arg10) = m' ((c.tc : Thread Cert.EvenOutRefIdeal.nD Cert.EvenOutRefIdeal.τ).loc Cert.EvenOutRefIdeal.main_arg10)
          ∧ r.2.mem ((c.tc : Thread Cert.EvenOutRefIdeal.nD Cert.EvenOutRefIdeal.τ).loc Cert.EvenOutRefIdeal.main_arg11) = m' ((c.tc : Thread Cert.EvenOutRefIdeal.nD Cert.EvenOutRefIdeal.τ).loc Cert.EvenOutRefIdeal.main_arg11)
          ∧ r.2.mem ((c.tc : Thread Cert.EvenOutRefIdeal.nD Cert.EvenOutRefIdeal.τ).loc Cert.EvenOutRefIdeal.main_arg12) = m' ((c.tc : Thread Cert.EvenOutRefIdeal.nD Cert.EvenOutRefIdeal.τ).loc Cert.EvenOutRefIdeal.main_arg12)
          ∧ r.2.mem ((c.tc : Thread Cert.EvenOutRefIdeal.nD Cert.EvenOutRefIdeal.τ).loc Cert.EvenOutRefIdeal.main_arg13) = m' ((c.tc : Thread Cert.EvenOutRefIdeal.nD Cert.EvenOutRefIdeal.τ).loc Cert.EvenOutRefIdeal.main_arg13))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)
      ∧ m' ((c.tc : Thread Cert.OddOutRefIdeal.nD Cert.OddOutRefIdeal.τ).loc Cert.OddOutRefIdeal.main_arg5) = m ((c.tc : Thread Cert.OddOutIdeal.nD Cert.OddOutIdeal.τ).loc Cert.OddOutIdeal.main_arg5)
      ∧ m' ((c.tc : Thread Cert.OddOutRefIdeal.nD Cert.OddOutRefIdeal.τ).loc Cert.OddOutRefIdeal.main_arg6) = m ((c.tc : Thread Cert.OddOutIdeal.nD Cert.OddOutIdeal.τ).loc Cert.OddOutIdeal.main_arg6)
      ∧ m' ((c.tc : Thread Cert.OddOutRefIdeal.nD Cert.OddOutRefIdeal.τ).loc Cert.OddOutRefIdeal.main_arg7) = m ((c.tc : Thread Cert.OddOutIdeal.nD Cert.OddOutIdeal.τ).loc Cert.OddOutIdeal.main_arg7)
      ∧ m' ((c.tc : Thread Cert.OddOutRefIdeal.nD Cert.OddOutRefIdeal.τ).loc Cert.OddOutRefIdeal.main_arg8) = m ((c.tc : Thread Cert.OddOutIdeal.nD Cert.OddOutIdeal.τ).loc Cert.OddOutIdeal.main_arg8)
      ∧ m' ((c.tc : Thread Cert.OddOutRefIdeal.nD Cert.OddOutRefIdeal.τ).loc Cert.OddOutRefIdeal.main_arg9) = m ((c.tc : Thread Cert.OddOutIdeal.nD Cert.OddOutIdeal.τ).loc Cert.OddOutIdeal.main_arg9)
      ∧ m' ((c.tc : Thread Cert.OddOutRefIdeal.nD Cert.OddOutRefIdeal.τ).loc Cert.OddOutRefIdeal.main_arg10) = m ((c.tc : Thread Cert.OddOutIdeal.nD Cert.OddOutIdeal.τ).loc Cert.OddOutIdeal.main_arg10)) →
    ∃ (v0 : (c : Dev Cert.OddOutIdeal.nD) → Buf (Elt Ideal) ((c.tc : Thread Cert.OddOutIdeal.nD Cert.OddOutIdeal.τ).loc Cert.OddOutIdeal.main_v11_0)) (v1 : (c : Dev Cert.OddOutIdeal.nD) → Buf (Elt Ideal) ((c.tc : Thread Cert.OddOutIdeal.nD Cert.OddOutIdeal.τ).loc Cert.OddOutIdeal.main_v11_1)) (v2 : (c : Dev Cert.OddOutIdeal.nD) → Buf (Elt Ideal) ((c.tc : Thread Cert.OddOutIdeal.nD Cert.OddOutIdeal.τ).loc Cert.OddOutIdeal.main_v11_2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v11_0) = v0 c
          ∧ r.2.mem ((c.tc : Thread Cert.OddOutIdeal.nD Cert.OddOutIdeal.τ).loc Cert.OddOutIdeal.main_v11_1) = v1 c
          ∧ r.2.mem ((c.tc : Thread Cert.OddOutIdeal.nD Cert.OddOutIdeal.τ).loc Cert.OddOutIdeal.main_v11_2) = v2 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4)
          ∧ r.2.mem ((c.tc : Thread Cert.OddOutIdeal.nD Cert.OddOutIdeal.τ).loc Cert.OddOutIdeal.main_arg5) = m ((c.tc : Thread Cert.OddOutIdeal.nD Cert.OddOutIdeal.τ).loc Cert.OddOutIdeal.main_arg5)
          ∧ r.2.mem ((c.tc : Thread Cert.OddOutIdeal.nD Cert.OddOutIdeal.τ).loc Cert.OddOutIdeal.main_arg6) = m ((c.tc : Thread Cert.OddOutIdeal.nD Cert.OddOutIdeal.τ).loc Cert.OddOutIdeal.main_arg6)
          ∧ r.2.mem ((c.tc : Thread Cert.OddOutIdeal.nD Cert.OddOutIdeal.τ).loc Cert.OddOutIdeal.main_arg7) = m ((c.tc : Thread Cert.OddOutIdeal.nD Cert.OddOutIdeal.τ).loc Cert.OddOutIdeal.main_arg7)
          ∧ r.2.mem ((c.tc : Thread Cert.OddOutIdeal.nD Cert.OddOutIdeal.τ).loc Cert.OddOutIdeal.main_arg8) = m ((c.tc : Thread Cert.OddOutIdeal.nD Cert.OddOutIdeal.τ).loc Cert.OddOutIdeal.main_arg8)
          ∧ r.2.mem ((c.tc : Thread Cert.OddOutIdeal.nD Cert.OddOutIdeal.τ).loc Cert.OddOutIdeal.main_arg9) = m ((c.tc : Thread Cert.OddOutIdeal.nD Cert.OddOutIdeal.τ).loc Cert.OddOutIdeal.main_arg9)
          ∧ r.2.mem ((c.tc : Thread Cert.OddOutIdeal.nD Cert.OddOutIdeal.τ).loc Cert.OddOutIdeal.main_arg10) = m ((c.tc : Thread Cert.OddOutIdeal.nD Cert.OddOutIdeal.τ).loc Cert.OddOutIdeal.main_arg10))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v93) = v0 c
          ∧ r.2.mem ((c.tc : Thread Cert.OddOutRefIdeal.nD Cert.OddOutRefIdeal.τ).loc Cert.OddOutRefIdeal.main_v98) = v1 c
          ∧ r.2.mem ((c.tc : Thread Cert.OddOutRefIdeal.nD Cert.OddOutRefIdeal.τ).loc Cert.OddOutRefIdeal.main_v104) = v2 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4)
          ∧ r.2.mem ((c.tc : Thread Cert.OddOutRefIdeal.nD Cert.OddOutRefIdeal.τ).loc Cert.OddOutRefIdeal.main_arg5) = m' ((c.tc : Thread Cert.OddOutRefIdeal.nD Cert.OddOutRefIdeal.τ).loc Cert.OddOutRefIdeal.main_arg5)
          ∧ r.2.mem ((c.tc : Thread Cert.OddOutRefIdeal.nD Cert.OddOutRefIdeal.τ).loc Cert.OddOutRefIdeal.main_arg6) = m' ((c.tc : Thread Cert.OddOutRefIdeal.nD Cert.OddOutRefIdeal.τ).loc Cert.OddOutRefIdeal.main_arg6)
          ∧ r.2.mem ((c.tc : Thread Cert.OddOutRefIdeal.nD Cert.OddOutRefIdeal.τ).loc Cert.OddOutRefIdeal.main_arg7) = m' ((c.tc : Thread Cert.OddOutRefIdeal.nD Cert.OddOutRefIdeal.τ).loc Cert.OddOutRefIdeal.main_arg7)
          ∧ r.2.mem ((c.tc : Thread Cert.OddOutRefIdeal.nD Cert.OddOutRefIdeal.τ).loc Cert.OddOutRefIdeal.main_arg8) = m' ((c.tc : Thread Cert.OddOutRefIdeal.nD Cert.OddOutRefIdeal.τ).loc Cert.OddOutRefIdeal.main_arg8)
          ∧ r.2.mem ((c.tc : Thread Cert.OddOutRefIdeal.nD Cert.OddOutRefIdeal.τ).loc Cert.OddOutRefIdeal.main_arg9) = m' ((c.tc : Thread Cert.OddOutRefIdeal.nD Cert.OddOutRefIdeal.τ).loc Cert.OddOutRefIdeal.main_arg9)
          ∧ r.2.mem ((c.tc : Thread Cert.OddOutRefIdeal.nD Cert.OddOutRefIdeal.τ).loc Cert.OddOutRefIdeal.main_arg10) = m' ((c.tc : Thread Cert.OddOutRefIdeal.nD Cert.OddOutRefIdeal.τ).loc Cert.OddOutRefIdeal.main_arg10))

def preserves_AdamWin0_AdamWin0Ideal : Prop :=
  True

def algebraic_AdamWin0Ideal_AdamWin0RefIdeal [hAdamWin0Ideal : Cert.AdamWin0Ideal.Facts] [hAdamWin0RefIdeal : Cert.AdamWin0RefIdeal.Facts] : Prop :=
  ∀ (m : (ℓ : Loc Cert.AdamWin0Ideal.nD Cert.AdamWin0Ideal.τ Cert.AdamWin0Ideal.sig) → Buf (Elt Ideal) ℓ) (g : Dev Cert.AdamWin0Ideal.nD → PrngReg)
    (m' : (ℓ : Loc Cert.AdamWin0RefIdeal.nD Cert.AdamWin0RefIdeal.τ Cert.AdamWin0RefIdeal.sig) → Buf (Elt Ideal) ℓ) (g' : Dev Cert.AdamWin0RefIdeal.nD → PrngReg), Pre_AdamWin0Ideal m →
    (∀ c : Dev Cert.AdamWin0Ideal.nD,
      m' ((c.tc : Thread Cert.AdamWin0RefIdeal.nD Cert.AdamWin0RefIdeal.τ).loc Cert.AdamWin0RefIdeal.main_arg0) = m ((c.tc : Thread Cert.AdamWin0Ideal.nD Cert.AdamWin0Ideal.τ).loc Cert.AdamWin0Ideal.main_arg0)
      ∧ m' ((c.tc : Thread Cert.AdamWin0RefIdeal.nD Cert.AdamWin0RefIdeal.τ).loc Cert.AdamWin0RefIdeal.main_arg1) = m ((c.tc : Thread Cert.AdamWin0Ideal.nD Cert.AdamWin0Ideal.τ).loc Cert.AdamWin0Ideal.main_arg1)
      ∧ m' ((c.tc : Thread Cert.AdamWin0RefIdeal.nD Cert.AdamWin0RefIdeal.τ).loc Cert.AdamWin0RefIdeal.main_arg2) = m ((c.tc : Thread Cert.AdamWin0Ideal.nD Cert.AdamWin0Ideal.τ).loc Cert.AdamWin0Ideal.main_arg2)
      ∧ m' ((c.tc : Thread Cert.AdamWin0RefIdeal.nD Cert.AdamWin0RefIdeal.τ).loc Cert.AdamWin0RefIdeal.main_arg3) = m ((c.tc : Thread Cert.AdamWin0Ideal.nD Cert.AdamWin0Ideal.τ).loc Cert.AdamWin0Ideal.main_arg3)) →
    ∃ (v0 : (c : Dev Cert.AdamWin0Ideal.nD) → Buf (Elt Ideal) ((c.tc : Thread Cert.AdamWin0Ideal.nD Cert.AdamWin0Ideal.τ).loc Cert.AdamWin0Ideal.main_v0_0)) (v1 : (c : Dev Cert.AdamWin0Ideal.nD) → Buf (Elt Ideal) ((c.tc : Thread Cert.AdamWin0Ideal.nD Cert.AdamWin0Ideal.τ).loc Cert.AdamWin0Ideal.main_v0_1)) (v2 : (c : Dev Cert.AdamWin0Ideal.nD) → Buf (Elt Ideal) ((c.tc : Thread Cert.AdamWin0Ideal.nD Cert.AdamWin0Ideal.τ).loc Cert.AdamWin0Ideal.main_v0_2)),
      θ_run (Cert.AdamWin0Ideal.defs (F := Ideal)) (onTc (τ := Cert.AdamWin0Ideal.τ) (Cert.AdamWin0Ideal.main (F := Ideal))) ⟨m, fun _ => 0, g⟩ (fun r => ∀ c : Dev Cert.AdamWin0Ideal.nD,
          r.2.mem ((c.tc : Thread Cert.AdamWin0Ideal.nD Cert.AdamWin0Ideal.τ).loc Cert.AdamWin0Ideal.main_v0_0) = v0 c
          ∧ r.2.mem ((c.tc : Thread Cert.AdamWin0Ideal.nD Cert.AdamWin0Ideal.τ).loc Cert.AdamWin0Ideal.main_v0_1) = v1 c
          ∧ r.2.mem ((c.tc : Thread Cert.AdamWin0Ideal.nD Cert.AdamWin0Ideal.τ).loc Cert.AdamWin0Ideal.main_v0_2) = v2 c
          ∧ r.2.mem ((c.tc : Thread Cert.AdamWin0Ideal.nD Cert.AdamWin0Ideal.τ).loc Cert.AdamWin0Ideal.main_arg0) = m ((c.tc : Thread Cert.AdamWin0Ideal.nD Cert.AdamWin0Ideal.τ).loc Cert.AdamWin0Ideal.main_arg0)
          ∧ r.2.mem ((c.tc : Thread Cert.AdamWin0Ideal.nD Cert.AdamWin0Ideal.τ).loc Cert.AdamWin0Ideal.main_arg1) = m ((c.tc : Thread Cert.AdamWin0Ideal.nD Cert.AdamWin0Ideal.τ).loc Cert.AdamWin0Ideal.main_arg1)
          ∧ r.2.mem ((c.tc : Thread Cert.AdamWin0Ideal.nD Cert.AdamWin0Ideal.τ).loc Cert.AdamWin0Ideal.main_arg2) = m ((c.tc : Thread Cert.AdamWin0Ideal.nD Cert.AdamWin0Ideal.τ).loc Cert.AdamWin0Ideal.main_arg2)
          ∧ r.2.mem ((c.tc : Thread Cert.AdamWin0Ideal.nD Cert.AdamWin0Ideal.τ).loc Cert.AdamWin0Ideal.main_arg3) = m ((c.tc : Thread Cert.AdamWin0Ideal.nD Cert.AdamWin0Ideal.τ).loc Cert.AdamWin0Ideal.main_arg3))
      ∧ θ_run (Cert.AdamWin0RefIdeal.defs (F := Ideal)) (onTc (τ := Cert.AdamWin0RefIdeal.τ) (Cert.AdamWin0RefIdeal.main (F := Ideal))) ⟨m', fun _ => 0, g'⟩ (fun r => ∀ c : Dev Cert.AdamWin0RefIdeal.nD,
          r.2.mem ((c.tc : Thread Cert.AdamWin0RefIdeal.nD Cert.AdamWin0RefIdeal.τ).loc Cert.AdamWin0RefIdeal.main_v23) = v0 c
          ∧ r.2.mem ((c.tc : Thread Cert.AdamWin0RefIdeal.nD Cert.AdamWin0RefIdeal.τ).loc Cert.AdamWin0RefIdeal.main_v4) = v1 c
          ∧ r.2.mem ((c.tc : Thread Cert.AdamWin0RefIdeal.nD Cert.AdamWin0RefIdeal.τ).loc Cert.AdamWin0RefIdeal.main_v10) = v2 c
          ∧ r.2.mem ((c.tc : Thread Cert.AdamWin0RefIdeal.nD Cert.AdamWin0RefIdeal.τ).loc Cert.AdamWin0RefIdeal.main_arg0) = m' ((c.tc : Thread Cert.AdamWin0RefIdeal.nD Cert.AdamWin0RefIdeal.τ).loc Cert.AdamWin0RefIdeal.main_arg0)
          ∧ r.2.mem ((c.tc : Thread Cert.AdamWin0RefIdeal.nD Cert.AdamWin0RefIdeal.τ).loc Cert.AdamWin0RefIdeal.main_arg1) = m' ((c.tc : Thread Cert.AdamWin0RefIdeal.nD Cert.AdamWin0RefIdeal.τ).loc Cert.AdamWin0RefIdeal.main_arg1)
          ∧ r.2.mem ((c.tc : Thread Cert.AdamWin0RefIdeal.nD Cert.AdamWin0RefIdeal.τ).loc Cert.AdamWin0RefIdeal.main_arg2) = m' ((c.tc : Thread Cert.AdamWin0RefIdeal.nD Cert.AdamWin0RefIdeal.τ).loc Cert.AdamWin0RefIdeal.main_arg2)
          ∧ r.2.mem ((c.tc : Thread Cert.AdamWin0RefIdeal.nD Cert.AdamWin0RefIdeal.τ).loc Cert.AdamWin0RefIdeal.main_arg3) = m' ((c.tc : Thread Cert.AdamWin0RefIdeal.nD Cert.AdamWin0RefIdeal.τ).loc Cert.AdamWin0RefIdeal.main_arg3))

def preserves_AdamWin1_AdamWin1Ideal : Prop :=
  True

def algebraic_AdamWin1Ideal_AdamWin1RefIdeal [hAdamWin1Ideal : Cert.AdamWin1Ideal.Facts] [hAdamWin1RefIdeal : Cert.AdamWin1RefIdeal.Facts] : Prop :=
  ∀ (m : (ℓ : Loc Cert.AdamWin1Ideal.nD Cert.AdamWin1Ideal.τ Cert.AdamWin1Ideal.sig) → Buf (Elt Ideal) ℓ) (g : Dev Cert.AdamWin1Ideal.nD → PrngReg)
    (m' : (ℓ : Loc Cert.AdamWin1RefIdeal.nD Cert.AdamWin1RefIdeal.τ Cert.AdamWin1RefIdeal.sig) → Buf (Elt Ideal) ℓ) (g' : Dev Cert.AdamWin1RefIdeal.nD → PrngReg), Pre_AdamWin1Ideal m →
    (∀ c : Dev Cert.AdamWin1Ideal.nD,
      m' ((c.tc : Thread Cert.AdamWin1RefIdeal.nD Cert.AdamWin1RefIdeal.τ).loc Cert.AdamWin1RefIdeal.main_arg0) = m ((c.tc : Thread Cert.AdamWin1Ideal.nD Cert.AdamWin1Ideal.τ).loc Cert.AdamWin1Ideal.main_arg0)
      ∧ m' ((c.tc : Thread Cert.AdamWin1RefIdeal.nD Cert.AdamWin1RefIdeal.τ).loc Cert.AdamWin1RefIdeal.main_arg1) = m ((c.tc : Thread Cert.AdamWin1Ideal.nD Cert.AdamWin1Ideal.τ).loc Cert.AdamWin1Ideal.main_arg1)
      ∧ m' ((c.tc : Thread Cert.AdamWin1RefIdeal.nD Cert.AdamWin1RefIdeal.τ).loc Cert.AdamWin1RefIdeal.main_arg2) = m ((c.tc : Thread Cert.AdamWin1Ideal.nD Cert.AdamWin1Ideal.τ).loc Cert.AdamWin1Ideal.main_arg2)
      ∧ m' ((c.tc : Thread Cert.AdamWin1RefIdeal.nD Cert.AdamWin1RefIdeal.τ).loc Cert.AdamWin1RefIdeal.main_arg3) = m ((c.tc : Thread Cert.AdamWin1Ideal.nD Cert.AdamWin1Ideal.τ).loc Cert.AdamWin1Ideal.main_arg3)) →
    ∃ (v0 : (c : Dev Cert.AdamWin1Ideal.nD) → Buf (Elt Ideal) ((c.tc : Thread Cert.AdamWin1Ideal.nD Cert.AdamWin1Ideal.τ).loc Cert.AdamWin1Ideal.main_v0_0)) (v1 : (c : Dev Cert.AdamWin1Ideal.nD) → Buf (Elt Ideal) ((c.tc : Thread Cert.AdamWin1Ideal.nD Cert.AdamWin1Ideal.τ).loc Cert.AdamWin1Ideal.main_v0_1)) (v2 : (c : Dev Cert.AdamWin1Ideal.nD) → Buf (Elt Ideal) ((c.tc : Thread Cert.AdamWin1Ideal.nD Cert.AdamWin1Ideal.τ).loc Cert.AdamWin1Ideal.main_v0_2)),
      θ_run (Cert.AdamWin1Ideal.defs (F := Ideal)) (onTc (τ := Cert.AdamWin1Ideal.τ) (Cert.AdamWin1Ideal.main (F := Ideal))) ⟨m, fun _ => 0, g⟩ (fun r => ∀ c : Dev Cert.AdamWin1Ideal.nD,
          r.2.mem ((c.tc : Thread Cert.AdamWin1Ideal.nD Cert.AdamWin1Ideal.τ).loc Cert.AdamWin1Ideal.main_v0_0) = v0 c
          ∧ r.2.mem ((c.tc : Thread Cert.AdamWin1Ideal.nD Cert.AdamWin1Ideal.τ).loc Cert.AdamWin1Ideal.main_v0_1) = v1 c
          ∧ r.2.mem ((c.tc : Thread Cert.AdamWin1Ideal.nD Cert.AdamWin1Ideal.τ).loc Cert.AdamWin1Ideal.main_v0_2) = v2 c
          ∧ r.2.mem ((c.tc : Thread Cert.AdamWin1Ideal.nD Cert.AdamWin1Ideal.τ).loc Cert.AdamWin1Ideal.main_arg0) = m ((c.tc : Thread Cert.AdamWin1Ideal.nD Cert.AdamWin1Ideal.τ).loc Cert.AdamWin1Ideal.main_arg0)
          ∧ r.2.mem ((c.tc : Thread Cert.AdamWin1Ideal.nD Cert.AdamWin1Ideal.τ).loc Cert.AdamWin1Ideal.main_arg1) = m ((c.tc : Thread Cert.AdamWin1Ideal.nD Cert.AdamWin1Ideal.τ).loc Cert.AdamWin1Ideal.main_arg1)
          ∧ r.2.mem ((c.tc : Thread Cert.AdamWin1Ideal.nD Cert.AdamWin1Ideal.τ).loc Cert.AdamWin1Ideal.main_arg2) = m ((c.tc : Thread Cert.AdamWin1Ideal.nD Cert.AdamWin1Ideal.τ).loc Cert.AdamWin1Ideal.main_arg2)
          ∧ r.2.mem ((c.tc : Thread Cert.AdamWin1Ideal.nD Cert.AdamWin1Ideal.τ).loc Cert.AdamWin1Ideal.main_arg3) = m ((c.tc : Thread Cert.AdamWin1Ideal.nD Cert.AdamWin1Ideal.τ).loc Cert.AdamWin1Ideal.main_arg3))
      ∧ θ_run (Cert.AdamWin1RefIdeal.defs (F := Ideal)) (onTc (τ := Cert.AdamWin1RefIdeal.τ) (Cert.AdamWin1RefIdeal.main (F := Ideal))) ⟨m', fun _ => 0, g'⟩ (fun r => ∀ c : Dev Cert.AdamWin1RefIdeal.nD,
          r.2.mem ((c.tc : Thread Cert.AdamWin1RefIdeal.nD Cert.AdamWin1RefIdeal.τ).loc Cert.AdamWin1RefIdeal.main_v23) = v0 c
          ∧ r.2.mem ((c.tc : Thread Cert.AdamWin1RefIdeal.nD Cert.AdamWin1RefIdeal.τ).loc Cert.AdamWin1RefIdeal.main_v4) = v1 c
          ∧ r.2.mem ((c.tc : Thread Cert.AdamWin1RefIdeal.nD Cert.AdamWin1RefIdeal.τ).loc Cert.AdamWin1RefIdeal.main_v10) = v2 c
          ∧ r.2.mem ((c.tc : Thread Cert.AdamWin1RefIdeal.nD Cert.AdamWin1RefIdeal.τ).loc Cert.AdamWin1RefIdeal.main_arg0) = m' ((c.tc : Thread Cert.AdamWin1RefIdeal.nD Cert.AdamWin1RefIdeal.τ).loc Cert.AdamWin1RefIdeal.main_arg0)
          ∧ r.2.mem ((c.tc : Thread Cert.AdamWin1RefIdeal.nD Cert.AdamWin1RefIdeal.τ).loc Cert.AdamWin1RefIdeal.main_arg1) = m' ((c.tc : Thread Cert.AdamWin1RefIdeal.nD Cert.AdamWin1RefIdeal.τ).loc Cert.AdamWin1RefIdeal.main_arg1)
          ∧ r.2.mem ((c.tc : Thread Cert.AdamWin1RefIdeal.nD Cert.AdamWin1RefIdeal.τ).loc Cert.AdamWin1RefIdeal.main_arg2) = m' ((c.tc : Thread Cert.AdamWin1RefIdeal.nD Cert.AdamWin1RefIdeal.τ).loc Cert.AdamWin1RefIdeal.main_arg2)
          ∧ r.2.mem ((c.tc : Thread Cert.AdamWin1RefIdeal.nD Cert.AdamWin1RefIdeal.τ).loc Cert.AdamWin1RefIdeal.main_arg3) = m' ((c.tc : Thread Cert.AdamWin1RefIdeal.nD Cert.AdamWin1RefIdeal.τ).loc Cert.AdamWin1RefIdeal.main_arg3))

def preserves_AdamWout_AdamWoutIdeal : Prop :=
  True

def algebraic_AdamWoutIdeal_AdamWoutRefIdeal [hAdamWoutIdeal : Cert.AdamWoutIdeal.Facts] [hAdamWoutRefIdeal : Cert.AdamWoutRefIdeal.Facts] : Prop :=
  ∀ (m : (ℓ : Loc Cert.AdamWoutIdeal.nD Cert.AdamWoutIdeal.τ Cert.AdamWoutIdeal.sig) → Buf (Elt Ideal) ℓ) (g : Dev Cert.AdamWoutIdeal.nD → PrngReg)
    (m' : (ℓ : Loc Cert.AdamWoutRefIdeal.nD Cert.AdamWoutRefIdeal.τ Cert.AdamWoutRefIdeal.sig) → Buf (Elt Ideal) ℓ) (g' : Dev Cert.AdamWoutRefIdeal.nD → PrngReg), Pre_AdamWoutIdeal m →
    (∀ c : Dev Cert.AdamWoutIdeal.nD,
      m' ((c.tc : Thread Cert.AdamWoutRefIdeal.nD Cert.AdamWoutRefIdeal.τ).loc Cert.AdamWoutRefIdeal.main_arg0) = m ((c.tc : Thread Cert.AdamWoutIdeal.nD Cert.AdamWoutIdeal.τ).loc Cert.AdamWoutIdeal.main_arg0)
      ∧ m' ((c.tc : Thread Cert.AdamWoutRefIdeal.nD Cert.AdamWoutRefIdeal.τ).loc Cert.AdamWoutRefIdeal.main_arg1) = m ((c.tc : Thread Cert.AdamWoutIdeal.nD Cert.AdamWoutIdeal.τ).loc Cert.AdamWoutIdeal.main_arg1)
      ∧ m' ((c.tc : Thread Cert.AdamWoutRefIdeal.nD Cert.AdamWoutRefIdeal.τ).loc Cert.AdamWoutRefIdeal.main_arg2) = m ((c.tc : Thread Cert.AdamWoutIdeal.nD Cert.AdamWoutIdeal.τ).loc Cert.AdamWoutIdeal.main_arg2)
      ∧ m' ((c.tc : Thread Cert.AdamWoutRefIdeal.nD Cert.AdamWoutRefIdeal.τ).loc Cert.AdamWoutRefIdeal.main_arg3) = m ((c.tc : Thread Cert.AdamWoutIdeal.nD Cert.AdamWoutIdeal.τ).loc Cert.AdamWoutIdeal.main_arg3)) →
    ∃ (v0 : (c : Dev Cert.AdamWoutIdeal.nD) → Buf (Elt Ideal) ((c.tc : Thread Cert.AdamWoutIdeal.nD Cert.AdamWoutIdeal.τ).loc Cert.AdamWoutIdeal.main_v0_0)) (v1 : (c : Dev Cert.AdamWoutIdeal.nD) → Buf (Elt Ideal) ((c.tc : Thread Cert.AdamWoutIdeal.nD Cert.AdamWoutIdeal.τ).loc Cert.AdamWoutIdeal.main_v0_1)) (v2 : (c : Dev Cert.AdamWoutIdeal.nD) → Buf (Elt Ideal) ((c.tc : Thread Cert.AdamWoutIdeal.nD Cert.AdamWoutIdeal.τ).loc Cert.AdamWoutIdeal.main_v0_2)),
      θ_run (Cert.AdamWoutIdeal.defs (F := Ideal)) (onTc (τ := Cert.AdamWoutIdeal.τ) (Cert.AdamWoutIdeal.main (F := Ideal))) ⟨m, fun _ => 0, g⟩ (fun r => ∀ c : Dev Cert.AdamWoutIdeal.nD,
          r.2.mem ((c.tc : Thread Cert.AdamWoutIdeal.nD Cert.AdamWoutIdeal.τ).loc Cert.AdamWoutIdeal.main_v0_0) = v0 c
          ∧ r.2.mem ((c.tc : Thread Cert.AdamWoutIdeal.nD Cert.AdamWoutIdeal.τ).loc Cert.AdamWoutIdeal.main_v0_1) = v1 c
          ∧ r.2.mem ((c.tc : Thread Cert.AdamWoutIdeal.nD Cert.AdamWoutIdeal.τ).loc Cert.AdamWoutIdeal.main_v0_2) = v2 c
          ∧ r.2.mem ((c.tc : Thread Cert.AdamWoutIdeal.nD Cert.AdamWoutIdeal.τ).loc Cert.AdamWoutIdeal.main_arg0) = m ((c.tc : Thread Cert.AdamWoutIdeal.nD Cert.AdamWoutIdeal.τ).loc Cert.AdamWoutIdeal.main_arg0)
          ∧ r.2.mem ((c.tc : Thread Cert.AdamWoutIdeal.nD Cert.AdamWoutIdeal.τ).loc Cert.AdamWoutIdeal.main_arg1) = m ((c.tc : Thread Cert.AdamWoutIdeal.nD Cert.AdamWoutIdeal.τ).loc Cert.AdamWoutIdeal.main_arg1)
          ∧ r.2.mem ((c.tc : Thread Cert.AdamWoutIdeal.nD Cert.AdamWoutIdeal.τ).loc Cert.AdamWoutIdeal.main_arg2) = m ((c.tc : Thread Cert.AdamWoutIdeal.nD Cert.AdamWoutIdeal.τ).loc Cert.AdamWoutIdeal.main_arg2)
          ∧ r.2.mem ((c.tc : Thread Cert.AdamWoutIdeal.nD Cert.AdamWoutIdeal.τ).loc Cert.AdamWoutIdeal.main_arg3) = m ((c.tc : Thread Cert.AdamWoutIdeal.nD Cert.AdamWoutIdeal.τ).loc Cert.AdamWoutIdeal.main_arg3))
      ∧ θ_run (Cert.AdamWoutRefIdeal.defs (F := Ideal)) (onTc (τ := Cert.AdamWoutRefIdeal.τ) (Cert.AdamWoutRefIdeal.main (F := Ideal))) ⟨m', fun _ => 0, g'⟩ (fun r => ∀ c : Dev Cert.AdamWoutRefIdeal.nD,
          r.2.mem ((c.tc : Thread Cert.AdamWoutRefIdeal.nD Cert.AdamWoutRefIdeal.τ).loc Cert.AdamWoutRefIdeal.main_v23) = v0 c
          ∧ r.2.mem ((c.tc : Thread Cert.AdamWoutRefIdeal.nD Cert.AdamWoutRefIdeal.τ).loc Cert.AdamWoutRefIdeal.main_v4) = v1 c
          ∧ r.2.mem ((c.tc : Thread Cert.AdamWoutRefIdeal.nD Cert.AdamWoutRefIdeal.τ).loc Cert.AdamWoutRefIdeal.main_v10) = v2 c
          ∧ r.2.mem ((c.tc : Thread Cert.AdamWoutRefIdeal.nD Cert.AdamWoutRefIdeal.τ).loc Cert.AdamWoutRefIdeal.main_arg0) = m' ((c.tc : Thread Cert.AdamWoutRefIdeal.nD Cert.AdamWoutRefIdeal.τ).loc Cert.AdamWoutRefIdeal.main_arg0)
          ∧ r.2.mem ((c.tc : Thread Cert.AdamWoutRefIdeal.nD Cert.AdamWoutRefIdeal.τ).loc Cert.AdamWoutRefIdeal.main_arg1) = m' ((c.tc : Thread Cert.AdamWoutRefIdeal.nD Cert.AdamWoutRefIdeal.τ).loc Cert.AdamWoutRefIdeal.main_arg1)
          ∧ r.2.mem ((c.tc : Thread Cert.AdamWoutRefIdeal.nD Cert.AdamWoutRefIdeal.τ).loc Cert.AdamWoutRefIdeal.main_arg2) = m' ((c.tc : Thread Cert.AdamWoutRefIdeal.nD Cert.AdamWoutRefIdeal.τ).loc Cert.AdamWoutRefIdeal.main_arg2)
          ∧ r.2.mem ((c.tc : Thread Cert.AdamWoutRefIdeal.nD Cert.AdamWoutRefIdeal.τ).loc Cert.AdamWoutRefIdeal.main_arg3) = m' ((c.tc : Thread Cert.AdamWoutRefIdeal.nD Cert.AdamWoutRefIdeal.τ).loc Cert.AdamWoutRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v23) = v0 c
          ∧ r.2.mem ((c.tc : Thread Cert.AdamPoolRefIdeal.nD Cert.AdamPoolRefIdeal.τ).loc Cert.AdamPoolRefIdeal.main_v4) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdaW_AdaWIdeal : Prop :=
  True

def algebraic_AdaWIdeal_AdaWRefIdeal [hAdaWIdeal : Cert.AdaWIdeal.Facts] [hAdaWRefIdeal : Cert.AdaWRefIdeal.Facts] : Prop :=
  ∀ (m : (ℓ : Loc Cert.AdaWIdeal.nD Cert.AdaWIdeal.τ Cert.AdaWIdeal.sig) → Buf (Elt Ideal) ℓ) (g : Dev Cert.AdaWIdeal.nD → PrngReg)
    (m' : (ℓ : Loc Cert.AdaWRefIdeal.nD Cert.AdaWRefIdeal.τ Cert.AdaWRefIdeal.sig) → Buf (Elt Ideal) ℓ) (g' : Dev Cert.AdaWRefIdeal.nD → PrngReg), Pre_AdaWIdeal m →
    (∀ c : Dev Cert.AdaWIdeal.nD,
      m' ((c.tc : Thread Cert.AdaWRefIdeal.nD Cert.AdaWRefIdeal.τ).loc Cert.AdaWRefIdeal.main_arg0) = m ((c.tc : Thread Cert.AdaWIdeal.nD Cert.AdaWIdeal.τ).loc Cert.AdaWIdeal.main_arg0)
      ∧ m' ((c.tc : Thread Cert.AdaWRefIdeal.nD Cert.AdaWRefIdeal.τ).loc Cert.AdaWRefIdeal.main_arg1) = m ((c.tc : Thread Cert.AdaWIdeal.nD Cert.AdaWIdeal.τ).loc Cert.AdaWIdeal.main_arg1)
      ∧ m' ((c.tc : Thread Cert.AdaWRefIdeal.nD Cert.AdaWRefIdeal.τ).loc Cert.AdaWRefIdeal.main_arg2) = m ((c.tc : Thread Cert.AdaWIdeal.nD Cert.AdaWIdeal.τ).loc Cert.AdaWIdeal.main_arg2)
      ∧ m' ((c.tc : Thread Cert.AdaWRefIdeal.nD Cert.AdaWRefIdeal.τ).loc Cert.AdaWRefIdeal.main_arg3) = m ((c.tc : Thread Cert.AdaWIdeal.nD Cert.AdaWIdeal.τ).loc Cert.AdaWIdeal.main_arg3)
      ∧ m' ((c.tc : Thread Cert.AdaWRefIdeal.nD Cert.AdaWRefIdeal.τ).loc Cert.AdaWRefIdeal.main_arg4) = m ((c.tc : Thread Cert.AdaWIdeal.nD Cert.AdaWIdeal.τ).loc Cert.AdaWIdeal.main_arg4)) →
    ∃ (v0 : (c : Dev Cert.AdaWIdeal.nD) → Buf (Elt Ideal) ((c.tc : Thread Cert.AdaWIdeal.nD Cert.AdaWIdeal.τ).loc Cert.AdaWIdeal.main_v1_0)) (v1 : (c : Dev Cert.AdaWIdeal.nD) → Buf (Elt Ideal) ((c.tc : Thread Cert.AdaWIdeal.nD Cert.AdaWIdeal.τ).loc Cert.AdaWIdeal.main_v1_1)) (v2 : (c : Dev Cert.AdaWIdeal.nD) → Buf (Elt Ideal) ((c.tc : Thread Cert.AdaWIdeal.nD Cert.AdaWIdeal.τ).loc Cert.AdaWIdeal.main_v1_2)) (v3 : (c : Dev Cert.AdaWIdeal.nD) → Buf (Elt Ideal) ((c.tc : Thread Cert.AdaWIdeal.nD Cert.AdaWIdeal.τ).loc Cert.AdaWIdeal.main_v1_3)),
      θ_run (Cert.AdaWIdeal.defs (F := Ideal)) (onTc (τ := Cert.AdaWIdeal.τ) (Cert.AdaWIdeal.main (F := Ideal))) ⟨m, fun _ => 0, g⟩ (fun r => ∀ c : Dev Cert.AdaWIdeal.nD,
          r.2.mem ((c.tc : Thread Cert.AdaWIdeal.nD Cert.AdaWIdeal.τ).loc Cert.AdaWIdeal.main_v1_0) = v0 c
          ∧ r.2.mem ((c.tc : Thread Cert.AdaWIdeal.nD Cert.AdaWIdeal.τ).loc Cert.AdaWIdeal.main_v1_1) = v1 c
          ∧ r.2.mem ((c.tc : Thread Cert.AdaWIdeal.nD Cert.AdaWIdeal.τ).loc Cert.AdaWIdeal.main_v1_2) = v2 c
          ∧ r.2.mem ((c.tc : Thread Cert.AdaWIdeal.nD Cert.AdaWIdeal.τ).loc Cert.AdaWIdeal.main_v1_3) = v3 c
          ∧ r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
          ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1)
          ∧ r.2.mem ((c.tc : Thread Cert.AdaWIdeal.nD Cert.AdaWIdeal.τ).loc Cert.AdaWIdeal.main_arg2) = m ((c.tc : Thread Cert.AdaWIdeal.nD Cert.AdaWIdeal.τ).loc Cert.AdaWIdeal.main_arg2)
          ∧ r.2.mem ((c.tc : Thread Cert.AdaWIdeal.nD Cert.AdaWIdeal.τ).loc Cert.AdaWIdeal.main_arg3) = m ((c.tc : Thread Cert.AdaWIdeal.nD Cert.AdaWIdeal.τ).loc Cert.AdaWIdeal.main_arg3)
          ∧ r.2.mem ((c.tc : Thread Cert.AdaWIdeal.nD Cert.AdaWIdeal.τ).loc Cert.AdaWIdeal.main_arg4) = m ((c.tc : Thread Cert.AdaWIdeal.nD Cert.AdaWIdeal.τ).loc Cert.AdaWIdeal.main_arg4))
      ∧ θ_run (Cert.AdaWRefIdeal.defs (F := Ideal)) (onTc (τ := Cert.AdaWRefIdeal.τ) (Cert.AdaWRefIdeal.main (F := Ideal))) ⟨m', fun _ => 0, g'⟩ (fun r => ∀ c : Dev Cert.AdaWRefIdeal.nD,
          r.2.mem ((c.tc : Thread Cert.AdaWRefIdeal.nD Cert.AdaWRefIdeal.τ).loc Cert.AdaWRefIdeal.main_v18) = v0 c
          ∧ r.2.mem ((c.tc : Thread Cert.AdaWRefIdeal.nD Cert.AdaWRefIdeal.τ).loc Cert.AdaWRefIdeal.main_v42) = v1 c
          ∧ r.2.mem ((c.tc : Thread Cert.AdaWRefIdeal.nD Cert.AdaWRefIdeal.τ).loc Cert.AdaWRefIdeal.main_v23) = v2 c
          ∧ r.2.mem ((c.tc : Thread Cert.AdaWRefIdeal.nD Cert.AdaWRefIdeal.τ).loc Cert.AdaWRefIdeal.main_v29) = v3 c
          ∧ r.2.mem ((c.tc : Thread Cert.AdaWRefIdeal.nD Cert.AdaWRefIdeal.τ).loc Cert.AdaWRefIdeal.main_arg0) = m' ((c.tc : Thread Cert.AdaWRefIdeal.nD Cert.AdaWRefIdeal.τ).loc Cert.AdaWRefIdeal.main_arg0)
          ∧ r.2.mem ((c.tc : Thread Cert.AdaWRefIdeal.nD Cert.AdaWRefIdeal.τ).loc Cert.AdaWRefIdeal.main_arg1) = m' ((c.tc : Thread Cert.AdaWRefIdeal.nD Cert.AdaWRefIdeal.τ).loc Cert.AdaWRefIdeal.main_arg1)
          ∧ r.2.mem ((c.tc : Thread Cert.AdaWRefIdeal.nD Cert.AdaWRefIdeal.τ).loc Cert.AdaWRefIdeal.main_arg2) = m' ((c.tc : Thread Cert.AdaWRefIdeal.nD Cert.AdaWRefIdeal.τ).loc Cert.AdaWRefIdeal.main_arg2)
          ∧ r.2.mem ((c.tc : Thread Cert.AdaWRefIdeal.nD Cert.AdaWRefIdeal.τ).loc Cert.AdaWRefIdeal.main_arg3) = m' ((c.tc : Thread Cert.AdaWRefIdeal.nD Cert.AdaWRefIdeal.τ).loc Cert.AdaWRefIdeal.main_arg3)
          ∧ r.2.mem ((c.tc : Thread Cert.AdaWRefIdeal.nD Cert.AdaWRefIdeal.τ).loc Cert.AdaWRefIdeal.main_arg4) = m' ((c.tc : Thread Cert.AdaWRefIdeal.nD Cert.AdaWRefIdeal.τ).loc Cert.AdaWRefIdeal.main_arg4))

def preserves_ReducePacked_ReducePackedIdeal : Prop :=
  True

def algebraic_ReducePackedIdeal_ReducePackedRefIdeal [hReducePackedIdeal : Cert.ReducePackedIdeal.Facts] [hReducePackedRefIdeal : Cert.ReducePackedRefIdeal.Facts] : Prop :=
  ∀ (m : (ℓ : Loc Cert.ReducePackedIdeal.nD Cert.ReducePackedIdeal.τ Cert.ReducePackedIdeal.sig) → Buf (Elt Ideal) ℓ) (g : Dev Cert.ReducePackedIdeal.nD → PrngReg)
    (m' : (ℓ : Loc Cert.ReducePackedRefIdeal.nD Cert.ReducePackedRefIdeal.τ Cert.ReducePackedRefIdeal.sig) → Buf (Elt Ideal) ℓ) (g' : Dev Cert.ReducePackedRefIdeal.nD → PrngReg), Pre_ReducePackedIdeal m →
    (∀ c : Dev Cert.ReducePackedIdeal.nD,
      m' ((c.tc : Thread Cert.ReducePackedRefIdeal.nD Cert.ReducePackedRefIdeal.τ).loc Cert.ReducePackedRefIdeal.main_arg0) = m ((c.tc : Thread Cert.ReducePackedIdeal.nD Cert.ReducePackedIdeal.τ).loc Cert.ReducePackedIdeal.main_arg0)) →
    ∃ (v0 : (c : Dev Cert.ReducePackedIdeal.nD) → Buf (Elt Ideal) ((c.tc : Thread Cert.ReducePackedIdeal.nD Cert.ReducePackedIdeal.τ).loc Cert.ReducePackedIdeal.main_v0_0)) (v1 : (c : Dev Cert.ReducePackedIdeal.nD) → Buf (Elt Ideal) ((c.tc : Thread Cert.ReducePackedIdeal.nD Cert.ReducePackedIdeal.τ).loc Cert.ReducePackedIdeal.main_v0_1)),
      θ_run (Cert.ReducePackedIdeal.defs (F := Ideal)) (onTc (τ := Cert.ReducePackedIdeal.τ) (Cert.ReducePackedIdeal.main (F := Ideal))) ⟨m, fun _ => 0, g⟩ (fun r => ∀ c : Dev Cert.ReducePackedIdeal.nD,
          r.2.mem ((c.tc : Thread Cert.ReducePackedIdeal.nD Cert.ReducePackedIdeal.τ).loc Cert.ReducePackedIdeal.main_v0_0) = v0 c
          ∧ r.2.mem ((c.tc : Thread Cert.ReducePackedIdeal.nD Cert.ReducePackedIdeal.τ).loc Cert.ReducePackedIdeal.main_v0_1) = v1 c
          ∧ r.2.mem ((c.tc : Thread Cert.ReducePackedIdeal.nD Cert.ReducePackedIdeal.τ).loc Cert.ReducePackedIdeal.main_arg0) = m ((c.tc : Thread Cert.ReducePackedIdeal.nD Cert.ReducePackedIdeal.τ).loc Cert.ReducePackedIdeal.main_arg0))
      ∧ θ_run (Cert.ReducePackedRefIdeal.defs (F := Ideal)) (onTc (τ := Cert.ReducePackedRefIdeal.τ) (Cert.ReducePackedRefIdeal.main (F := Ideal))) ⟨m', fun _ => 0, g'⟩ (fun r => ∀ c : Dev Cert.ReducePackedRefIdeal.nD,
          r.2.mem ((c.tc : Thread Cert.ReducePackedRefIdeal.nD Cert.ReducePackedRefIdeal.τ).loc Cert.ReducePackedRefIdeal.main_v1) = v0 c
          ∧ r.2.mem ((c.tc : Thread Cert.ReducePackedRefIdeal.nD Cert.ReducePackedRefIdeal.τ).loc Cert.ReducePackedRefIdeal.main_v5) = v1 c
          ∧ r.2.mem ((c.tc : Thread Cert.ReducePackedRefIdeal.nD Cert.ReducePackedRefIdeal.τ).loc Cert.ReducePackedRefIdeal.main_arg0) = m' ((c.tc : Thread Cert.ReducePackedRefIdeal.nD Cert.ReducePackedRefIdeal.τ).loc Cert.ReducePackedRefIdeal.main_arg0))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)) →
    ∃ (v0 : (c : Dev Cert.AdamSmallIdeal.nD) → Buf (Elt Ideal) ((c.tc : Thread Cert.AdamSmallIdeal.nD Cert.AdamSmallIdeal.τ).loc Cert.AdamSmallIdeal.main_v35)) (v1 : (c : Dev Cert.AdamSmallIdeal.nD) → Buf (Elt Ideal) ((c.tc : Thread Cert.AdamSmallIdeal.nD Cert.AdamSmallIdeal.τ).loc Cert.AdamSmallIdeal.main_v37)) (v2 : (c : Dev Cert.AdamSmallIdeal.nD) → Buf (Elt Ideal) ((c.tc : Thread Cert.AdamSmallIdeal.nD Cert.AdamSmallIdeal.τ).loc Cert.AdamSmallIdeal.main_v38)) (v3 : (c : Dev Cert.AdamSmallIdeal.nD) → Buf (Elt Ideal) ((c.tc : Thread Cert.AdamSmallIdeal.nD Cert.AdamSmallIdeal.τ).loc Cert.AdamSmallIdeal.main_v40)) (v4 : (c : Dev Cert.AdamSmallIdeal.nD) → Buf (Elt Ideal) ((c.tc : Thread Cert.AdamSmallIdeal.nD Cert.AdamSmallIdeal.τ).loc Cert.AdamSmallIdeal.main_v42)) (v5 : (c : Dev Cert.AdamSmallIdeal.nD) → Buf (Elt Ideal) ((c.tc : Thread Cert.AdamSmallIdeal.nD Cert.AdamSmallIdeal.τ).loc Cert.AdamSmallIdeal.main_v43)) (v6 : (c : Dev Cert.AdamSmallIdeal.nD) → Buf (Elt Ideal) ((c.tc : Thread Cert.AdamSmallIdeal.nD Cert.AdamSmallIdeal.τ).loc Cert.AdamSmallIdeal.main_v46)) (v7 : (c : Dev Cert.AdamSmallIdeal.nD) → Buf (Elt Ideal) ((c.tc : Thread Cert.AdamSmallIdeal.nD Cert.AdamSmallIdeal.τ).loc Cert.AdamSmallIdeal.main_v48)) (v8 : (c : Dev Cert.AdamSmallIdeal.nD) → Buf (Elt Ideal) ((c.tc : Thread Cert.AdamSmallIdeal.nD Cert.AdamSmallIdeal.τ).loc Cert.AdamSmallIdeal.main_v49)) (v9 : (c : Dev Cert.AdamSmallIdeal.nD) → Buf (Elt Ideal) ((c.tc : Thread Cert.AdamSmallIdeal.nD Cert.AdamSmallIdeal.τ).loc Cert.AdamSmallIdeal.main_v51)) (v10 : (c : Dev Cert.AdamSmallIdeal.nD) → Buf (Elt Ideal) ((c.tc : Thread Cert.AdamSmallIdeal.nD Cert.AdamSmallIdeal.τ).loc Cert.AdamSmallIdeal.main_v53)) (v11 : (c : Dev Cert.AdamSmallIdeal.nD) → Buf (Elt Ideal) ((c.tc : Thread Cert.AdamSmallIdeal.nD Cert.AdamSmallIdeal.τ).loc Cert.AdamSmallIdeal.main_v54)) (v12 : (c : Dev Cert.AdamSmallIdeal.nD) → Buf (Elt Ideal) ((c.tc : Thread Cert.AdamSmallIdeal.nD Cert.AdamSmallIdeal.τ).loc Cert.AdamSmallIdeal.main_v57)) (v13 : (c : Dev Cert.AdamSmallIdeal.nD) → Buf (Elt Ideal) ((c.tc : Thread Cert.AdamSmallIdeal.nD Cert.AdamSmallIdeal.τ).loc Cert.AdamSmallIdeal.main_v59)) (v14 : (c : Dev Cert.AdamSmallIdeal.nD) → Buf (Elt Ideal) ((c.tc : Thread Cert.AdamSmallIdeal.nD Cert.AdamSmallIdeal.τ).loc Cert.AdamSmallIdeal.main_v60)) (v15 : (c : Dev Cert.AdamSmallIdeal.nD) → Buf (Elt Ideal) ((c.tc : Thread Cert.AdamSmallIdeal.nD Cert.AdamSmallIdeal.τ).loc Cert.AdamSmallIdeal.main_v62)) (v16 : (c : Dev Cert.AdamSmallIdeal.nD) → Buf (Elt Ideal) ((c.tc : Thread Cert.AdamSmallIdeal.nD Cert.AdamSmallIdeal.τ).loc Cert.AdamSmallIdeal.main_v64)) (v17 : (c : Dev Cert.AdamSmallIdeal.nD) → Buf (Elt Ideal) ((c.tc : Thread Cert.AdamSmallIdeal.nD Cert.AdamSmallIdeal.τ).loc Cert.AdamSmallIdeal.main_v65)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v35) = v0 c
          ∧ r.2.mem ((c.tc : Thread Cert.AdamSmallIdeal.nD Cert.AdamSmallIdeal.τ).loc Cert.AdamSmallIdeal.main_v37) = v1 c
          ∧ r.2.mem ((c.tc : Thread Cert.AdamSmallIdeal.nD Cert.AdamSmallIdeal.τ).loc Cert.AdamSmallIdeal.main_v38) = v2 c
          ∧ r.2.mem ((c.tc : Thread Cert.AdamSmallIdeal.nD Cert.AdamSmallIdeal.τ).loc Cert.AdamSmallIdeal.main_v40) = v3 c
          ∧ r.2.mem ((c.tc : Thread Cert.AdamSmallIdeal.nD Cert.AdamSmallIdeal.τ).loc Cert.AdamSmallIdeal.main_v42) = v4 c
          ∧ r.2.mem ((c.tc : Thread Cert.AdamSmallIdeal.nD Cert.AdamSmallIdeal.τ).loc Cert.AdamSmallIdeal.main_v43) = v5 c
          ∧ r.2.mem ((c.tc : Thread Cert.AdamSmallIdeal.nD Cert.AdamSmallIdeal.τ).loc Cert.AdamSmallIdeal.main_v46) = v6 c
          ∧ r.2.mem ((c.tc : Thread Cert.AdamSmallIdeal.nD Cert.AdamSmallIdeal.τ).loc Cert.AdamSmallIdeal.main_v48) = v7 c
          ∧ r.2.mem ((c.tc : Thread Cert.AdamSmallIdeal.nD Cert.AdamSmallIdeal.τ).loc Cert.AdamSmallIdeal.main_v49) = v8 c
          ∧ r.2.mem ((c.tc : Thread Cert.AdamSmallIdeal.nD Cert.AdamSmallIdeal.τ).loc Cert.AdamSmallIdeal.main_v51) = v9 c
          ∧ r.2.mem ((c.tc : Thread Cert.AdamSmallIdeal.nD Cert.AdamSmallIdeal.τ).loc Cert.AdamSmallIdeal.main_v53) = v10 c
          ∧ r.2.mem ((c.tc : Thread Cert.AdamSmallIdeal.nD Cert.AdamSmallIdeal.τ).loc Cert.AdamSmallIdeal.main_v54) = v11 c
          ∧ r.2.mem ((c.tc : Thread Cert.AdamSmallIdeal.nD Cert.AdamSmallIdeal.τ).loc Cert.AdamSmallIdeal.main_v57) = v12 c
          ∧ r.2.mem ((c.tc : Thread Cert.AdamSmallIdeal.nD Cert.AdamSmallIdeal.τ).loc Cert.AdamSmallIdeal.main_v59) = v13 c
          ∧ r.2.mem ((c.tc : Thread Cert.AdamSmallIdeal.nD Cert.AdamSmallIdeal.τ).loc Cert.AdamSmallIdeal.main_v60) = v14 c
          ∧ r.2.mem ((c.tc : Thread Cert.AdamSmallIdeal.nD Cert.AdamSmallIdeal.τ).loc Cert.AdamSmallIdeal.main_v62) = v15 c
          ∧ r.2.mem ((c.tc : Thread Cert.AdamSmallIdeal.nD Cert.AdamSmallIdeal.τ).loc Cert.AdamSmallIdeal.main_v64) = v16 c
          ∧ r.2.mem ((c.tc : Thread Cert.AdamSmallIdeal.nD Cert.AdamSmallIdeal.τ).loc Cert.AdamSmallIdeal.main_v65) = v17 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v4) = v6 c
          ∧ r.2.mem ((c.tc : Thread Cert.AdamSmallRefIdeal.nD Cert.AdamSmallRefIdeal.τ).loc Cert.AdamSmallRefIdeal.main_v28) = v7 c
          ∧ r.2.mem ((c.tc : Thread Cert.AdamSmallRefIdeal.nD Cert.AdamSmallRefIdeal.τ).loc Cert.AdamSmallRefIdeal.main_v52) = v8 c
          ∧ r.2.mem ((c.tc : Thread Cert.AdamSmallRefIdeal.nD Cert.AdamSmallRefIdeal.τ).loc Cert.AdamSmallRefIdeal.main_v76) = v9 c
          ∧ r.2.mem ((c.tc : Thread Cert.AdamSmallRefIdeal.nD Cert.AdamSmallRefIdeal.τ).loc Cert.AdamSmallRefIdeal.main_v100) = v10 c
          ∧ r.2.mem ((c.tc : Thread Cert.AdamSmallRefIdeal.nD Cert.AdamSmallRefIdeal.τ).loc Cert.AdamSmallRefIdeal.main_v124) = v11 c
          ∧ r.2.mem ((c.tc : Thread Cert.AdamSmallRefIdeal.nD Cert.AdamSmallRefIdeal.τ).loc Cert.AdamSmallRefIdeal.main_v10) = v12 c
          ∧ r.2.mem ((c.tc : Thread Cert.AdamSmallRefIdeal.nD Cert.AdamSmallRefIdeal.τ).loc Cert.AdamSmallRefIdeal.main_v34) = v13 c
          ∧ r.2.mem ((c.tc : Thread Cert.AdamSmallRefIdeal.nD Cert.AdamSmallRefIdeal.τ).loc Cert.AdamSmallRefIdeal.main_v58) = v14 c
          ∧ r.2.mem ((c.tc : Thread Cert.AdamSmallRefIdeal.nD Cert.AdamSmallRefIdeal.τ).loc Cert.AdamSmallRefIdeal.main_v82) = v15 c
          ∧ r.2.mem ((c.tc : Thread Cert.AdamSmallRefIdeal.nD Cert.AdamSmallRefIdeal.τ).loc Cert.AdamSmallRefIdeal.main_v106) = v16 c
          ∧ r.2.mem ((c.tc : Thread Cert.AdamSmallRefIdeal.nD Cert.AdamSmallRefIdeal.τ).loc Cert.AdamSmallRefIdeal.main_v130) = v17 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23))

def preserves_EvenBwd_EvenBwdIdeal : Prop :=
  True

def algebraic_EvenBwdIdeal_EvenBwdRefIdeal_pre_even_finite [hEvenBwdIdeal : Cert.EvenBwdIdeal.Facts] [hEvenBwdRefIdeal : Cert.EvenBwdRefIdeal.Facts] [hPre_even_finite : Cert.Pre_even_finite.Facts] : Prop :=
  ∀ (m : (ℓ : Loc Cert.EvenBwdIdeal.nD Cert.EvenBwdIdeal.τ Cert.EvenBwdIdeal.sig) → Buf (Elt Ideal) ℓ) (g : Dev Cert.EvenBwdIdeal.nD → PrngReg)
    (m' : (ℓ : Loc Cert.EvenBwdRefIdeal.nD Cert.EvenBwdRefIdeal.τ Cert.EvenBwdRefIdeal.sig) → Buf (Elt Ideal) ℓ) (g' : Dev Cert.EvenBwdRefIdeal.nD → PrngReg), Pre_EvenBwdIdeal_even_finite m →
    (∀ c : Dev Cert.EvenBwdIdeal.nD,
      m' ((c.tc : Thread Cert.EvenBwdRefIdeal.nD Cert.EvenBwdRefIdeal.τ).loc Cert.EvenBwdRefIdeal.main_arg0) = m ((c.tc : Thread Cert.EvenBwdIdeal.nD Cert.EvenBwdIdeal.τ).loc Cert.EvenBwdIdeal.main_arg0)
      ∧ m' ((c.tc : Thread Cert.EvenBwdRefIdeal.nD Cert.EvenBwdRefIdeal.τ).loc Cert.EvenBwdRefIdeal.main_arg1) = m ((c.tc : Thread Cert.EvenBwdIdeal.nD Cert.EvenBwdIdeal.τ).loc Cert.EvenBwdIdeal.main_arg1)
      ∧ m' ((c.tc : Thread Cert.EvenBwdRefIdeal.nD Cert.EvenBwdRefIdeal.τ).loc Cert.EvenBwdRefIdeal.main_arg2) = m ((c.tc : Thread Cert.EvenBwdIdeal.nD Cert.EvenBwdIdeal.τ).loc Cert.EvenBwdIdeal.main_arg2)
      ∧ m' ((c.tc : Thread Cert.EvenBwdRefIdeal.nD Cert.EvenBwdRefIdeal.τ).loc Cert.EvenBwdRefIdeal.main_arg3) = m ((c.tc : Thread Cert.EvenBwdIdeal.nD Cert.EvenBwdIdeal.τ).loc Cert.EvenBwdIdeal.main_arg3)
      ∧ m' ((c.tc : Thread Cert.EvenBwdRefIdeal.nD Cert.EvenBwdRefIdeal.τ).loc Cert.EvenBwdRefIdeal.main_arg4) = m ((c.tc : Thread Cert.EvenBwdIdeal.nD Cert.EvenBwdIdeal.τ).loc Cert.EvenBwdIdeal.main_arg4)
      ∧ m' ((c.tc : Thread Cert.EvenBwdRefIdeal.nD Cert.EvenBwdRefIdeal.τ).loc Cert.EvenBwdRefIdeal.main_arg5) = m ((c.tc : Thread Cert.EvenBwdIdeal.nD Cert.EvenBwdIdeal.τ).loc Cert.EvenBwdIdeal.main_arg5)
      ∧ m' ((c.tc : Thread Cert.EvenBwdRefIdeal.nD Cert.EvenBwdRefIdeal.τ).loc Cert.EvenBwdRefIdeal.main_arg6) = m ((c.tc : Thread Cert.EvenBwdIdeal.nD Cert.EvenBwdIdeal.τ).loc Cert.EvenBwdIdeal.main_arg6)
      ∧ m' ((c.tc : Thread Cert.EvenBwdRefIdeal.nD Cert.EvenBwdRefIdeal.τ).loc Cert.EvenBwdRefIdeal.main_arg7) = m ((c.tc : Thread Cert.EvenBwdIdeal.nD Cert.EvenBwdIdeal.τ).loc Cert.EvenBwdIdeal.main_arg7)
      ∧ m' ((c.tc : Thread Cert.EvenBwdRefIdeal.nD Cert.EvenBwdRefIdeal.τ).loc Cert.EvenBwdRefIdeal.main_arg8) = m ((c.tc : Thread Cert.EvenBwdIdeal.nD Cert.EvenBwdIdeal.τ).loc Cert.EvenBwdIdeal.main_arg8)
      ∧ m' ((c.tc : Thread Cert.EvenBwdRefIdeal.nD Cert.EvenBwdRefIdeal.τ).loc Cert.EvenBwdRefIdeal.main_arg9) = m ((c.tc : Thread Cert.EvenBwdIdeal.nD Cert.EvenBwdIdeal.τ).loc Cert.EvenBwdIdeal.main_arg9)
      ∧ m' ((c.tc : Thread Cert.EvenBwdRefIdeal.nD Cert.EvenBwdRefIdeal.τ).loc Cert.EvenBwdRefIdeal.main_arg10) = m ((c.tc : Thread Cert.EvenBwdIdeal.nD Cert.EvenBwdIdeal.τ).loc Cert.EvenBwdIdeal.main_arg10)) →
    ∃ (v0 : (c : Dev Cert.EvenBwdIdeal.nD) → Buf (Elt Ideal) ((c.tc : Thread Cert.EvenBwdIdeal.nD Cert.EvenBwdIdeal.τ).loc Cert.EvenBwdIdeal.main_v9_0)) (v1 : (c : Dev Cert.EvenBwdIdeal.nD) → Buf (Elt Ideal) ((c.tc : Thread Cert.EvenBwdIdeal.nD Cert.EvenBwdIdeal.τ).loc Cert.EvenBwdIdeal.main_v9_1)) (v2 : (c : Dev Cert.EvenBwdIdeal.nD) → Buf (Elt Ideal) ((c.tc : Thread Cert.EvenBwdIdeal.nD Cert.EvenBwdIdeal.τ).loc Cert.EvenBwdIdeal.main_v9_2)) (v3 : (c : Dev Cert.EvenBwdIdeal.nD) → Buf (Elt Ideal) ((c.tc : Thread Cert.EvenBwdIdeal.nD Cert.EvenBwdIdeal.τ).loc Cert.EvenBwdIdeal.main_v10)) (v4 : (c : Dev Cert.EvenBwdIdeal.nD) → Buf (Elt Ideal) ((c.tc : Thread Cert.EvenBwdIdeal.nD Cert.EvenBwdIdeal.τ).loc Cert.EvenBwdIdeal.main_v9_4)),
      θ_run (Cert.EvenBwdIdeal.defs (F := Ideal)) (onTc (τ := Cert.EvenBwdIdeal.τ) (Cert.EvenBwdIdeal.main (F := Ideal))) ⟨m, fun _ => 0, g⟩ (fun r => ∀ c : Dev Cert.EvenBwdIdeal.nD,
          r.2.mem ((c.tc : Thread Cert.EvenBwdIdeal.nD Cert.EvenBwdIdeal.τ).loc Cert.EvenBwdIdeal.main_v9_0) = v0 c
          ∧ r.2.mem ((c.tc : Thread Cert.EvenBwdIdeal.nD Cert.EvenBwdIdeal.τ).loc Cert.EvenBwdIdeal.main_v9_1) = v1 c
          ∧ r.2.mem ((c.tc : Thread Cert.EvenBwdIdeal.nD Cert.EvenBwdIdeal.τ).loc Cert.EvenBwdIdeal.main_v9_2) = v2 c
          ∧ r.2.mem ((c.tc : Thread Cert.EvenBwdIdeal.nD Cert.EvenBwdIdeal.τ).loc Cert.EvenBwdIdeal.main_v10) = v3 c
          ∧ r.2.mem ((c.tc : Thread Cert.EvenBwdIdeal.nD Cert.EvenBwdIdeal.τ).loc Cert.EvenBwdIdeal.main_v9_4) = v4 c
          ∧ r.2.mem ((c.tc : Thread Cert.EvenBwdIdeal.nD Cert.EvenBwdIdeal.τ).loc Cert.EvenBwdIdeal.main_arg0) = m ((c.tc : Thread Cert.EvenBwdIdeal.nD Cert.EvenBwdIdeal.τ).loc Cert.EvenBwdIdeal.main_arg0)
          ∧ r.2.mem ((c.tc : Thread Cert.EvenBwdIdeal.nD Cert.EvenBwdIdeal.τ).loc Cert.EvenBwdIdeal.main_arg1) = m ((c.tc : Thread Cert.EvenBwdIdeal.nD Cert.EvenBwdIdeal.τ).loc Cert.EvenBwdIdeal.main_arg1)
          ∧ r.2.mem ((c.tc : Thread Cert.EvenBwdIdeal.nD Cert.EvenBwdIdeal.τ).loc Cert.EvenBwdIdeal.main_arg2) = m ((c.tc : Thread Cert.EvenBwdIdeal.nD Cert.EvenBwdIdeal.τ).loc Cert.EvenBwdIdeal.main_arg2)
          ∧ r.2.mem ((c.tc : Thread Cert.EvenBwdIdeal.nD Cert.EvenBwdIdeal.τ).loc Cert.EvenBwdIdeal.main_arg3) = m ((c.tc : Thread Cert.EvenBwdIdeal.nD Cert.EvenBwdIdeal.τ).loc Cert.EvenBwdIdeal.main_arg3)
          ∧ r.2.mem ((c.tc : Thread Cert.EvenBwdIdeal.nD Cert.EvenBwdIdeal.τ).loc Cert.EvenBwdIdeal.main_arg4) = m ((c.tc : Thread Cert.EvenBwdIdeal.nD Cert.EvenBwdIdeal.τ).loc Cert.EvenBwdIdeal.main_arg4)
          ∧ r.2.mem ((c.tc : Thread Cert.EvenBwdIdeal.nD Cert.EvenBwdIdeal.τ).loc Cert.EvenBwdIdeal.main_arg5) = m ((c.tc : Thread Cert.EvenBwdIdeal.nD Cert.EvenBwdIdeal.τ).loc Cert.EvenBwdIdeal.main_arg5)
          ∧ r.2.mem ((c.tc : Thread Cert.EvenBwdIdeal.nD Cert.EvenBwdIdeal.τ).loc Cert.EvenBwdIdeal.main_arg6) = m ((c.tc : Thread Cert.EvenBwdIdeal.nD Cert.EvenBwdIdeal.τ).loc Cert.EvenBwdIdeal.main_arg6)
          ∧ r.2.mem ((c.tc : Thread Cert.EvenBwdIdeal.nD Cert.EvenBwdIdeal.τ).loc Cert.EvenBwdIdeal.main_arg7) = m ((c.tc : Thread Cert.EvenBwdIdeal.nD Cert.EvenBwdIdeal.τ).loc Cert.EvenBwdIdeal.main_arg7)
          ∧ r.2.mem ((c.tc : Thread Cert.EvenBwdIdeal.nD Cert.EvenBwdIdeal.τ).loc Cert.EvenBwdIdeal.main_arg8) = m ((c.tc : Thread Cert.EvenBwdIdeal.nD Cert.EvenBwdIdeal.τ).loc Cert.EvenBwdIdeal.main_arg8)
          ∧ r.2.mem ((c.tc : Thread Cert.EvenBwdIdeal.nD Cert.EvenBwdIdeal.τ).loc Cert.EvenBwdIdeal.main_arg9) = m ((c.tc : Thread Cert.EvenBwdIdeal.nD Cert.EvenBwdIdeal.τ).loc Cert.EvenBwdIdeal.main_arg9)
          ∧ r.2.mem ((c.tc : Thread Cert.EvenBwdIdeal.nD Cert.EvenBwdIdeal.τ).loc Cert.EvenBwdIdeal.main_arg10) = m ((c.tc : Thread Cert.EvenBwdIdeal.nD Cert.EvenBwdIdeal.τ).loc Cert.EvenBwdIdeal.main_arg10))
      ∧ θ_run (Cert.EvenBwdRefIdeal.defs (F := Ideal)) (onTc (τ := Cert.EvenBwdRefIdeal.τ) (Cert.EvenBwdRefIdeal.main (F := Ideal))) ⟨m', fun _ => 0, g'⟩ (fun r => ∀ c : Dev Cert.EvenBwdRefIdeal.nD,
          r.2.mem ((c.tc : Thread Cert.EvenBwdRefIdeal.nD Cert.EvenBwdRefIdeal.τ).loc Cert.EvenBwdRefIdeal.main_v27) = v0 c
          ∧ r.2.mem ((c.tc : Thread Cert.EvenBwdRefIdeal.nD Cert.EvenBwdRefIdeal.τ).loc Cert.EvenBwdRefIdeal.main_v25) = v1 c
          ∧ r.2.mem ((c.tc : Thread Cert.EvenBwdRefIdeal.nD Cert.EvenBwdRefIdeal.τ).loc Cert.EvenBwdRefIdeal.main_v26) = v2 c
          ∧ r.2.mem ((c.tc : Thread Cert.EvenBwdRefIdeal.nD Cert.EvenBwdRefIdeal.τ).loc Cert.EvenBwdRefIdeal.main_v28) = v3 c
          ∧ r.2.mem ((c.tc : Thread Cert.EvenBwdRefIdeal.nD Cert.EvenBwdRefIdeal.τ).loc Cert.EvenBwdRefIdeal.main_v31) = v4 c
          ∧ r.2.mem ((c.tc : Thread Cert.EvenBwdRefIdeal.nD Cert.EvenBwdRefIdeal.τ).loc Cert.EvenBwdRefIdeal.main_arg0) = m' ((c.tc : Thread Cert.EvenBwdRefIdeal.nD Cert.EvenBwdRefIdeal.τ).loc Cert.EvenBwdRefIdeal.main_arg0)
          ∧ r.2.mem ((c.tc : Thread Cert.EvenBwdRefIdeal.nD Cert.EvenBwdRefIdeal.τ).loc Cert.EvenBwdRefIdeal.main_arg1) = m' ((c.tc : Thread Cert.EvenBwdRefIdeal.nD Cert.EvenBwdRefIdeal.τ).loc Cert.EvenBwdRefIdeal.main_arg1)
          ∧ r.2.mem ((c.tc : Thread Cert.EvenBwdRefIdeal.nD Cert.EvenBwdRefIdeal.τ).loc Cert.EvenBwdRefIdeal.main_arg2) = m' ((c.tc : Thread Cert.EvenBwdRefIdeal.nD Cert.EvenBwdRefIdeal.τ).loc Cert.EvenBwdRefIdeal.main_arg2)
          ∧ r.2.mem ((c.tc : Thread Cert.EvenBwdRefIdeal.nD Cert.EvenBwdRefIdeal.τ).loc Cert.EvenBwdRefIdeal.main_arg3) = m' ((c.tc : Thread Cert.EvenBwdRefIdeal.nD Cert.EvenBwdRefIdeal.τ).loc Cert.EvenBwdRefIdeal.main_arg3)
          ∧ r.2.mem ((c.tc : Thread Cert.EvenBwdRefIdeal.nD Cert.EvenBwdRefIdeal.τ).loc Cert.EvenBwdRefIdeal.main_arg4) = m' ((c.tc : Thread Cert.EvenBwdRefIdeal.nD Cert.EvenBwdRefIdeal.τ).loc Cert.EvenBwdRefIdeal.main_arg4)
          ∧ r.2.mem ((c.tc : Thread Cert.EvenBwdRefIdeal.nD Cert.EvenBwdRefIdeal.τ).loc Cert.EvenBwdRefIdeal.main_arg5) = m' ((c.tc : Thread Cert.EvenBwdRefIdeal.nD Cert.EvenBwdRefIdeal.τ).loc Cert.EvenBwdRefIdeal.main_arg5)
          ∧ r.2.mem ((c.tc : Thread Cert.EvenBwdRefIdeal.nD Cert.EvenBwdRefIdeal.τ).loc Cert.EvenBwdRefIdeal.main_arg6) = m' ((c.tc : Thread Cert.EvenBwdRefIdeal.nD Cert.EvenBwdRefIdeal.τ).loc Cert.EvenBwdRefIdeal.main_arg6)
          ∧ r.2.mem ((c.tc : Thread Cert.EvenBwdRefIdeal.nD Cert.EvenBwdRefIdeal.τ).loc Cert.EvenBwdRefIdeal.main_arg7) = m' ((c.tc : Thread Cert.EvenBwdRefIdeal.nD Cert.EvenBwdRefIdeal.τ).loc Cert.EvenBwdRefIdeal.main_arg7)
          ∧ r.2.mem ((c.tc : Thread Cert.EvenBwdRefIdeal.nD Cert.EvenBwdRefIdeal.τ).loc Cert.EvenBwdRefIdeal.main_arg8) = m' ((c.tc : Thread Cert.EvenBwdRefIdeal.nD Cert.EvenBwdRefIdeal.τ).loc Cert.EvenBwdRefIdeal.main_arg8)
          ∧ r.2.mem ((c.tc : Thread Cert.EvenBwdRefIdeal.nD Cert.EvenBwdRefIdeal.τ).loc Cert.EvenBwdRefIdeal.main_arg9) = m' ((c.tc : Thread Cert.EvenBwdRefIdeal.nD Cert.EvenBwdRefIdeal.τ).loc Cert.EvenBwdRefIdeal.main_arg9)
          ∧ r.2.mem ((c.tc : Thread Cert.EvenBwdRefIdeal.nD Cert.EvenBwdRefIdeal.τ).loc Cert.EvenBwdRefIdeal.main_arg10) = m' ((c.tc : Thread Cert.EvenBwdRefIdeal.nD Cert.EvenBwdRefIdeal.τ).loc Cert.EvenBwdRefIdeal.main_arg10))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)
      ∧ m' ((c.tc : Thread Cert.NormModRefIdeal.nD Cert.NormModRefIdeal.τ).loc Cert.NormModRefIdeal.main_arg4) = m ((c.tc : Thread Cert.NormModIdeal.nD Cert.NormModIdeal.τ).loc Cert.NormModIdeal.main_arg4)
      ∧ m' ((c.tc : Thread Cert.NormModRefIdeal.nD Cert.NormModRefIdeal.τ).loc Cert.NormModRefIdeal.main_arg5) = m ((c.tc : Thread Cert.NormModIdeal.nD Cert.NormModIdeal.τ).loc Cert.NormModIdeal.main_arg5)) →
    ∃ (v0 : (c : Dev Cert.NormModIdeal.nD) → Buf (Elt Ideal) ((c.tc : Thread Cert.NormModIdeal.nD Cert.NormModIdeal.τ).loc Cert.NormModIdeal.main_v8)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v8) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3)
          ∧ r.2.mem ((c.tc : Thread Cert.NormModIdeal.nD Cert.NormModIdeal.τ).loc Cert.NormModIdeal.main_arg4) = m ((c.tc : Thread Cert.NormModIdeal.nD Cert.NormModIdeal.τ).loc Cert.NormModIdeal.main_arg4)
          ∧ r.2.mem ((c.tc : Thread Cert.NormModIdeal.nD Cert.NormModIdeal.τ).loc Cert.NormModIdeal.main_arg5) = m ((c.tc : Thread Cert.NormModIdeal.nD Cert.NormModIdeal.τ).loc Cert.NormModIdeal.main_arg5))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v21) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3)
          ∧ r.2.mem ((c.tc : Thread Cert.NormModRefIdeal.nD Cert.NormModRefIdeal.τ).loc Cert.NormModRefIdeal.main_arg4) = m' ((c.tc : Thread Cert.NormModRefIdeal.nD Cert.NormModRefIdeal.τ).loc Cert.NormModRefIdeal.main_arg4)
          ∧ r.2.mem ((c.tc : Thread Cert.NormModRefIdeal.nD Cert.NormModRefIdeal.τ).loc Cert.NormModRefIdeal.main_arg5) = m' ((c.tc : Thread Cert.NormModRefIdeal.nD Cert.NormModRefIdeal.τ).loc Cert.NormModRefIdeal.main_arg5))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v10) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1))

def preserves_PoolFwd_PoolFwdIdeal : Prop :=
  True

def algebraic_PoolFwdIdeal_PoolFwdRefIdeal_pre_pool_finite [hPoolFwdIdeal : Cert.PoolFwdIdeal.Facts] [hPoolFwdRefIdeal : Cert.PoolFwdRefIdeal.Facts] [hPre_pool_finite : Cert.Pre_pool_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v1_0)) (v1 : (c : Dev Cert.PoolFwdIdeal.nD) → Buf (Elt Ideal) ((c.tc : Thread Cert.PoolFwdIdeal.nD Cert.PoolFwdIdeal.τ).loc Cert.PoolFwdIdeal.main_v1_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v1_0) = v0 c
          ∧ r.2.mem ((c.tc : Thread Cert.PoolFwdIdeal.nD Cert.PoolFwdIdeal.τ).loc Cert.PoolFwdIdeal.main_v1_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v73) = v0 c
          ∧ r.2.mem ((c.tc : Thread Cert.PoolFwdRefIdeal.nD Cert.PoolFwdRefIdeal.τ).loc Cert.PoolFwdRefIdeal.main_v76) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def Claim : Prop :=
  ∃ (hOddBwd : Cert.OddBwd.Facts) (hOddBwdIdeal : Cert.OddBwdIdeal.Facts) (hOddRefIdeal : Cert.OddRefIdeal.Facts) (hGradWin1 : Cert.GradWin1.Facts) (hGradWin1Ideal : Cert.GradWin1Ideal.Facts) (hGradWin1RefIdeal : Cert.GradWin1RefIdeal.Facts) (hGradWin0 : Cert.GradWin0.Facts) (hGradWin0Ideal : Cert.GradWin0Ideal.Facts) (hGradWin0RefIdeal : Cert.GradWin0RefIdeal.Facts) (hGradWout : Cert.GradWout.Facts) (hGradWoutIdeal : Cert.GradWoutIdeal.Facts) (hGradWoutRefIdeal : Cert.GradWoutRefIdeal.Facts) (hInproj1 : Cert.Inproj1.Facts) (hInproj1Ideal : Cert.Inproj1Ideal.Facts) (hInproj1RefIdeal : Cert.Inproj1RefIdeal.Facts) (hInproj0 : Cert.Inproj0.Facts) (hInproj0Ideal : Cert.Inproj0Ideal.Facts) (hInproj0RefIdeal : Cert.Inproj0RefIdeal.Facts) (hInproj1Bwd : Cert.Inproj1Bwd.Facts) (hInproj1BwdIdeal : Cert.Inproj1BwdIdeal.Facts) (hInproj1BwdRefIdeal : Cert.Inproj1BwdRefIdeal.Facts) (hInproj0Bwd : Cert.Inproj0Bwd.Facts) (hInproj0BwdIdeal : Cert.Inproj0BwdIdeal.Facts) (hInproj0BwdRefIdeal : Cert.Inproj0BwdRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hAdamWin0 : Cert.AdamWin0.Facts) (hAdamWin0Ideal : Cert.AdamWin0Ideal.Facts) (hAdamWin0RefIdeal : Cert.AdamWin0RefIdeal.Facts) (hAdamWin1 : Cert.AdamWin1.Facts) (hAdamWin1Ideal : Cert.AdamWin1Ideal.Facts) (hAdamWin1RefIdeal : Cert.AdamWin1RefIdeal.Facts) (hAdamWout : Cert.AdamWout.Facts) (hAdamWoutIdeal : Cert.AdamWoutIdeal.Facts) (hAdamWoutRefIdeal : Cert.AdamWoutRefIdeal.Facts) (hAdamPool : Cert.AdamPool.Facts) (hAdamPoolIdeal : Cert.AdamPoolIdeal.Facts) (hAdamPoolRefIdeal : Cert.AdamPoolRefIdeal.Facts) (hAdaW : Cert.AdaW.Facts) (hAdaWIdeal : Cert.AdaWIdeal.Facts) (hAdaWRefIdeal : Cert.AdaWRefIdeal.Facts) (hReducePacked : Cert.ReducePacked.Facts) (hReducePackedIdeal : Cert.ReducePackedIdeal.Facts) (hReducePackedRefIdeal : Cert.ReducePackedRefIdeal.Facts) (hAdamSmall : Cert.AdamSmall.Facts) (hAdamSmallIdeal : Cert.AdamSmallIdeal.Facts) (hAdamSmallRefIdeal : Cert.AdamSmallRefIdeal.Facts) (hEvenBwd : Cert.EvenBwd.Facts) (hEvenBwdIdeal : Cert.EvenBwdIdeal.Facts) (hEvenBwdRefIdeal : Cert.EvenBwdRefIdeal.Facts) (hNormMod : Cert.NormMod.Facts) (hNormModIdeal : Cert.NormModIdeal.Facts) (hNormModRefIdeal : Cert.NormModRefIdeal.Facts) (hAdaFwd : Cert.AdaFwd.Facts) (hAdaFwdIdeal : Cert.AdaFwdIdeal.Facts) (hAdaFwdRefIdeal : Cert.AdaFwdRefIdeal.Facts) (hPoolFwd : Cert.PoolFwd.Facts) (hPoolFwdIdeal : Cert.PoolFwdIdeal.Facts) (hPoolFwdRefIdeal : Cert.PoolFwdRefIdeal.Facts) (hPre_odd_finite : Cert.Pre_odd_finite.Facts) (hPre_inproj_finite : Cert.Pre_inproj_finite.Facts) (hPre_inproj0_finite : Cert.Pre_inproj0_finite.Facts) (hPre_even_finite : Cert.Pre_even_finite.Facts) (hPre_pool_finite : Cert.Pre_pool_finite.Facts),
    quiescent_OddBwd (hOddBwd := hOddBwd)
    ∧ quiescent_OddBwdIdeal (hOddBwdIdeal := hOddBwdIdeal)
    ∧ quiescent_OddBwdIdeal_pre_odd_finite (hOddBwdIdeal := hOddBwdIdeal) (hPre_odd_finite := hPre_odd_finite)
    ∧ quiescent_OddRefIdeal (hOddRefIdeal := hOddRefIdeal)
    ∧ quiescent_OddRefIdeal_pre_odd_finite (hOddRefIdeal := hOddRefIdeal) (hPre_odd_finite := hPre_odd_finite)
    ∧ quiescent_GradWin1 (hGradWin1 := hGradWin1)
    ∧ quiescent_GradWin1Ideal (hGradWin1Ideal := hGradWin1Ideal)
    ∧ quiescent_GradWin1RefIdeal (hGradWin1RefIdeal := hGradWin1RefIdeal)
    ∧ quiescent_GradWin0 (hGradWin0 := hGradWin0)
    ∧ quiescent_GradWin0Ideal (hGradWin0Ideal := hGradWin0Ideal)
    ∧ quiescent_GradWin0RefIdeal (hGradWin0RefIdeal := hGradWin0RefIdeal)
    ∧ quiescent_GradWout (hGradWout := hGradWout)
    ∧ quiescent_GradWoutIdeal (hGradWoutIdeal := hGradWoutIdeal)
    ∧ quiescent_GradWoutRefIdeal (hGradWoutRefIdeal := hGradWoutRefIdeal)
    ∧ quiescent_Inproj1 (hInproj1 := hInproj1)
    ∧ quiescent_Inproj1Ideal (hInproj1Ideal := hInproj1Ideal)
    ∧ quiescent_Inproj1RefIdeal (hInproj1RefIdeal := hInproj1RefIdeal)
    ∧ quiescent_Inproj0 (hInproj0 := hInproj0)
    ∧ quiescent_Inproj0Ideal (hInproj0Ideal := hInproj0Ideal)
    ∧ quiescent_Inproj0RefIdeal (hInproj0RefIdeal := hInproj0RefIdeal)
    ∧ quiescent_Inproj1Bwd (hInproj1Bwd := hInproj1Bwd)
    ∧ quiescent_Inproj1BwdIdeal (hInproj1BwdIdeal := hInproj1BwdIdeal)
    ∧ quiescent_Inproj1BwdIdeal_pre_inproj_finite (hInproj1BwdIdeal := hInproj1BwdIdeal) (hPre_inproj_finite := hPre_inproj_finite)
    ∧ quiescent_Inproj1BwdRefIdeal (hInproj1BwdRefIdeal := hInproj1BwdRefIdeal)
    ∧ quiescent_Inproj1BwdRefIdeal_pre_inproj_finite (hInproj1BwdRefIdeal := hInproj1BwdRefIdeal) (hPre_inproj_finite := hPre_inproj_finite)
    ∧ quiescent_Inproj0Bwd (hInproj0Bwd := hInproj0Bwd)
    ∧ quiescent_Inproj0BwdIdeal (hInproj0BwdIdeal := hInproj0BwdIdeal)
    ∧ quiescent_Inproj0BwdIdeal_pre_inproj0_finite (hInproj0BwdIdeal := hInproj0BwdIdeal) (hPre_inproj0_finite := hPre_inproj0_finite)
    ∧ quiescent_Inproj0BwdRefIdeal (hInproj0BwdRefIdeal := hInproj0BwdRefIdeal)
    ∧ quiescent_Inproj0BwdRefIdeal_pre_inproj0_finite (hInproj0BwdRefIdeal := hInproj0BwdRefIdeal) (hPre_inproj0_finite := hPre_inproj0_finite)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_AdamWin0 (hAdamWin0 := hAdamWin0)
    ∧ quiescent_AdamWin0Ideal (hAdamWin0Ideal := hAdamWin0Ideal)
    ∧ quiescent_AdamWin0RefIdeal (hAdamWin0RefIdeal := hAdamWin0RefIdeal)
    ∧ quiescent_AdamWin1 (hAdamWin1 := hAdamWin1)
    ∧ quiescent_AdamWin1Ideal (hAdamWin1Ideal := hAdamWin1Ideal)
    ∧ quiescent_AdamWin1RefIdeal (hAdamWin1RefIdeal := hAdamWin1RefIdeal)
    ∧ quiescent_AdamWout (hAdamWout := hAdamWout)
    ∧ quiescent_AdamWoutIdeal (hAdamWoutIdeal := hAdamWoutIdeal)
    ∧ quiescent_AdamWoutRefIdeal (hAdamWoutRefIdeal := hAdamWoutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdaW (hAdaW := hAdaW)
    ∧ quiescent_AdaWIdeal (hAdaWIdeal := hAdaWIdeal)
    ∧ quiescent_AdaWRefIdeal (hAdaWRefIdeal := hAdaWRefIdeal)
    ∧ quiescent_ReducePacked (hReducePacked := hReducePacked)
    ∧ quiescent_ReducePackedIdeal (hReducePackedIdeal := hReducePackedIdeal)
    ∧ quiescent_ReducePackedRefIdeal (hReducePackedRefIdeal := hReducePackedRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_EvenBwd (hEvenBwd := hEvenBwd)
    ∧ quiescent_EvenBwdIdeal (hEvenBwdIdeal := hEvenBwdIdeal)
    ∧ quiescent_EvenBwdIdeal_pre_even_finite (hEvenBwdIdeal := hEvenBwdIdeal) (hPre_even_finite := hPre_even_finite)
    ∧ quiescent_EvenBwdRefIdeal (hEvenBwdRefIdeal := hEvenBwdRefIdeal)
    ∧ quiescent_EvenBwdRefIdeal_pre_even_finite (hEvenBwdRefIdeal := hEvenBwdRefIdeal) (hPre_even_finite := hPre_even_finite)
    ∧ quiescent_NormMod (hNormMod := hNormMod)
    ∧ quiescent_NormModIdeal (hNormModIdeal := hNormModIdeal)
    ∧ quiescent_NormModRefIdeal (hNormModRefIdeal := hNormModRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_PoolFwd (hPoolFwd := hPoolFwd)
    ∧ quiescent_PoolFwdIdeal (hPoolFwdIdeal := hPoolFwdIdeal)
    ∧ quiescent_PoolFwdIdeal_pre_pool_finite (hPoolFwdIdeal := hPoolFwdIdeal) (hPre_pool_finite := hPre_pool_finite)
    ∧ quiescent_PoolFwdRefIdeal (hPoolFwdRefIdeal := hPoolFwdRefIdeal)
    ∧ quiescent_PoolFwdRefIdeal_pre_pool_finite (hPoolFwdRefIdeal := hPoolFwdRefIdeal) (hPre_pool_finite := hPre_pool_finite)
    ∧ preserves_OddBwd_OddBwdIdeal
    ∧ algebraic_OddBwdIdeal_OddRefIdeal_pre_odd_finite (hOddBwdIdeal := hOddBwdIdeal) (hOddRefIdeal := hOddRefIdeal) (hPre_odd_finite := hPre_odd_finite)
    ∧ preserves_GradWin1_GradWin1Ideal
    ∧ algebraic_GradWin1Ideal_GradWin1RefIdeal (hGradWin1Ideal := hGradWin1Ideal) (hGradWin1RefIdeal := hGradWin1RefIdeal)
    ∧ preserves_GradWin0_GradWin0Ideal
    ∧ algebraic_GradWin0Ideal_GradWin0RefIdeal (hGradWin0Ideal := hGradWin0Ideal) (hGradWin0RefIdeal := hGradWin0RefIdeal)
    ∧ preserves_GradWout_GradWoutIdeal
    ∧ algebraic_GradWoutIdeal_GradWoutRefIdeal (hGradWoutIdeal := hGradWoutIdeal) (hGradWoutRefIdeal := hGradWoutRefIdeal)
    ∧ preserves_Inproj1_Inproj1Ideal
    ∧ algebraic_Inproj1Ideal_Inproj1RefIdeal (hInproj1Ideal := hInproj1Ideal) (hInproj1RefIdeal := hInproj1RefIdeal)
    ∧ preserves_Inproj0_Inproj0Ideal
    ∧ algebraic_Inproj0Ideal_Inproj0RefIdeal (hInproj0Ideal := hInproj0Ideal) (hInproj0RefIdeal := hInproj0RefIdeal)
    ∧ preserves_Inproj1Bwd_Inproj1BwdIdeal
    ∧ algebraic_Inproj1BwdIdeal_Inproj1BwdRefIdeal_pre_inproj_finite (hInproj1BwdIdeal := hInproj1BwdIdeal) (hInproj1BwdRefIdeal := hInproj1BwdRefIdeal) (hPre_inproj_finite := hPre_inproj_finite)
    ∧ preserves_Inproj0Bwd_Inproj0BwdIdeal
    ∧ algebraic_Inproj0BwdIdeal_Inproj0BwdRefIdeal_pre_inproj0_finite (hInproj0BwdIdeal := hInproj0BwdIdeal) (hInproj0BwdRefIdeal := hInproj0BwdRefIdeal) (hPre_inproj0_finite := hPre_inproj0_finite)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_AdamWin0_AdamWin0Ideal
    ∧ algebraic_AdamWin0Ideal_AdamWin0RefIdeal (hAdamWin0Ideal := hAdamWin0Ideal) (hAdamWin0RefIdeal := hAdamWin0RefIdeal)
    ∧ preserves_AdamWin1_AdamWin1Ideal
    ∧ algebraic_AdamWin1Ideal_AdamWin1RefIdeal (hAdamWin1Ideal := hAdamWin1Ideal) (hAdamWin1RefIdeal := hAdamWin1RefIdeal)
    ∧ preserves_AdamWout_AdamWoutIdeal
    ∧ algebraic_AdamWoutIdeal_AdamWoutRefIdeal (hAdamWoutIdeal := hAdamWoutIdeal) (hAdamWoutRefIdeal := hAdamWoutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdaW_AdaWIdeal
    ∧ algebraic_AdaWIdeal_AdaWRefIdeal (hAdaWIdeal := hAdaWIdeal) (hAdaWRefIdeal := hAdaWRefIdeal)
    ∧ preserves_ReducePacked_ReducePackedIdeal
    ∧ algebraic_ReducePackedIdeal_ReducePackedRefIdeal (hReducePackedIdeal := hReducePackedIdeal) (hReducePackedRefIdeal := hReducePackedRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_EvenBwd_EvenBwdIdeal
    ∧ algebraic_EvenBwdIdeal_EvenBwdRefIdeal_pre_even_finite (hEvenBwdIdeal := hEvenBwdIdeal) (hEvenBwdRefIdeal := hEvenBwdRefIdeal) (hPre_even_finite := hPre_even_finite)
    ∧ preserves_NormMod_NormModIdeal
    ∧ algebraic_NormModIdeal_NormModRefIdeal (hNormModIdeal := hNormModIdeal) (hNormModRefIdeal := hNormModRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_PoolFwd_PoolFwdIdeal
    ∧ algebraic_PoolFwdIdeal_PoolFwdRefIdeal_pre_pool_finite (hPoolFwdIdeal := hPoolFwdIdeal) (hPoolFwdRefIdeal := hPoolFwdRefIdeal) (hPre_pool_finite := hPre_pool_finite)
-- ==== Pre_even_finite.lean ====
abbrev S4096x1024 : Shape := ⟨2, ![4096, 1024]⟩
abbrev S4096x6144 : Shape := ⟨2, ![4096, 6144]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg9 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg9
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x6144 .bf16) (main_arg5 : FVec F S2048x1024 .f32) (main_arg6 : FVec F S1024 .f32) (main_arg7 : FVec F S1024 .f32) (main_arg8 : FVec F S1024 .f32) (main_arg9 : FVec F S1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg5
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg9 main_v13 main_v16
-- ==== Pre_inproj0_finite.lean ====
abbrev S4096x6144 : Shape := ⟨2, ![4096, 6144]⟩
abbrev S4x1024x1536 : Shape := ⟨3, ![4, 1024, 1536]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4x1024x1536 : S_.BroadcastsInDim S4x1024x1536 (![] : Fin 0 → Fin S4x1024x1536.rank)
  reducesTo_S4x1024x1536_S_d0_1_2 : S4x1024x1536.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S1024 .f32 := Host.absf main_arg6
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  main_v25

def fn {F : FTy → Type} [FloatOps F] (main_arg0 : FVec F S4096x6144 .bf16) (main_arg1 : FVec F S4x1024x1536 .bf16) (main_arg2 : FVec F S4096x1024 .f32) (main_arg3 : FVec F S4096x1024 .f32) (main_arg4 : FVec F S1024 .f32) (main_arg5 : FVec F S1024 .f32) (main_arg6 : FVec F S1024 .f32) (main_arg7 : FVec F S1024 .f32) (main_arg8 : FVec F S1024 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4x1024x1536 .f32 := (extf .f32 · bitsLt_bf16_f32) main_arg1
  let main_v6 : FVec F S4x1024x1536 .f32 := Host.absf main_v5
  let main_cst_0 : FVec F S_ .f32 := constant S_ .f32 0x7F800000#32
  let main_v7 : FVec F S4x1024x1536 .f32 := broadcastInDim S4x1024x1536 ![] bcast_S_S4x1024x1536 main_cst_0
  let main_v8 : IVec S4x1024x1536 1 := cmpf .olt main_v6 main_v7
  let main_c_1 : IVec S_ 1 := constantI S_ 1 1#1
  let main_v9 : IVec S_ 1 := (fun x v => Host.reduce IntOp.andi x v reducesTo_S4x1024x1536_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg4
  let main_cst_4 : FVec F S_ .f32 := constant S_ .f32 0x7F800000#32
  fn_part1 (F := F) main_arg6 main_v15 main_v16 main_cst_4
-- ==== Pre_inproj_finite.lean ====
abbrev S4096x8192 : Shape := ⟨2, ![4096, 8192]⟩
abbrev S4x1024x2048 : Shape := ⟨3, ![4, 1024, 2048]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4x1024x2048 : S_.BroadcastsInDim S4x1024x2048 (![] : Fin 0 → Fin S4x1024x2048.rank)
  reducesTo_S4x1024x2048_S_d0_1_2 : S4x1024x2048.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S1024 .f32 := Host.absf main_arg6
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  main_v25

def fn {F : FTy → Type} [FloatOps F] (main_arg0 : FVec F S4096x8192 .bf16) (main_arg1 : FVec F S4x1024x2048 .bf16) (main_arg2 : FVec F S4096x1024 .f32) (main_arg3 : FVec F S4096x1024 .f32) (main_arg4 : FVec F S1024 .f32) (main_arg5 : FVec F S1024 .f32) (main_arg6 : FVec F S1024 .f32) (main_arg7 : FVec F S1024 .f32) (main_arg8 : FVec F S1024 .f32) : IVec S_ 1 :=
  let main_v0 : FVec F S4096x8192 .f32 := (extf .f32 · bitsLt_bf16_f32) main_arg0
  let main_v1 : FVec F S4096x8192 .f32 := Host.absf main_v0
  let main_cst : FVec F S_ .f32 := constant S_ .f32 0x7F800000#32
  let main_v2 : FVec F S4096x8192 .f32 := broadcastInDim S4096x8192 ![] bcast_S_S4096x8192 main_cst
  let main_v3 : IVec S4096x8192 1 := cmpf .olt main_v1 main_v2
  let main_c : IVec S_ 1 := constantI S_ 1 1#1
  let main_v4 : IVec S_ 1 := (fun x v => Host.reduce IntOp.andi x v reducesTo_S4096x8192_S_d0_1 h_S_) main_v3 main_c
  let main_v5 : FVec F S4x1024x2048 .f32 := (extf .f32 · bitsLt_bf16_f32) main_arg1
  let main_v6 : FVec F S4x1024x2048 .f32 := Host.absf main_v5
  let main_cst_0 : FVec F S_ .f32 := constant S_ .f32 0x7F800000#32
  let main_v7 : FVec F S4x1024x2048 .f32 := broadcastInDim S4x1024x2048 ![] bcast_S_S4x1024x2048 main_cst_0
  let main_v8 : IVec S4x1024x2048 1 := cmpf .olt main_v6 main_v7
  let main_c_1 : IVec S_ 1 := constantI S_ 1 1#1
  let main_v9 : IVec S_ 1 := (fun x v => Host.reduce IntOp.andi x v reducesTo_S4x1024x2048_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1024 .f32 := Host.absf main_arg4
  let main_cst_4 : FVec F S_ .f32 := constant S_ .f32 0x7F800000#32
  fn_part1 (F := F) main_arg6 main_v15 main_v16 main_cst_4
-- ==== Pre_odd_finite.lean ====
abbrev S4096x1024 : Shape := ⟨2, ![4096, 1024]⟩
abbrev S4096x8192 : Shape := ⟨2, ![4096, 8192]⟩
abbrev S2048x1024 : Shape := ⟨2, ![2048, 1024]⟩
abbrev S1024 : Shape := ⟨1, ![1024]⟩
abbrev S3x2048 : Shape := ⟨2, ![3, 2048]⟩
abbrev S1x2048 : Shape := ⟨2, ![1, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S3x2048 : S_.BroadcastsInDim S3x2048 (![] : Fin 0 → Fin S3x2048.rank)
  reducesTo_S3x2048_S_d0_1 : S3x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg8 : FVec F S3x2048 .f32) (main_arg9 : FVec F S1x2048 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S3x2048 .f32 := Host.absf main_arg8
  let main_cst_6 : FVec F S_ .f32 := constant S_ .f32 0x7F800000#32
  let main_v21 : FVec F S3x2048 .f32 := broadcastInDim S3x2048 ![] bcast_S_S3x2048 main_cst_6
  let main_v22 : IVec S3x2048 1 := cmpf .olt main_v20 main_v21
  let main_c_7 : IVec S_ 1 := constantI S_ 1 1#1
  let main_v23 : IVec S_ 1 := (fun x v => Host.reduce IntOp.andi x v reducesTo_S3x2048_S_d0_1 h_S_) main_v22 main_c_7
  let main_v24 : IVec S_ 1 := andi main_v19 main_v23
  let main_v25 : FVec F S1x2048 .f32 := Host.absf main_arg9
  let main_cst_8 : FVec F S_ .f32 := constant S_ .f32 0x7F800000#32
  let main_v26 : FVec F S1x2048 .f32 := broadcastInDim S1x2048 ![] bcast_S_S1x2048 main_cst_8
  let main_v27 : IVec S1x2048 1 := cmpf .olt main_v25 main_v26
  let main_c_9 : IVec S_ 1 := constantI S_ 1 1#1
  let main_v28 : IVec S_ 1 := (fun x v => Host.reduce IntOp.andi x v reducesTo_S1x2048_S_d0_1 h_S_) main_v27 main_c_9
  let main_v29 : IVec S_ 1 := andi main_v24 main_v28
  main_v29

def fn {F : FTy → Type} [FloatOps F] (main_arg0 : FVec F S4096x1024 .f32) (main_arg1 : FVec F S4096x8192 .bf16) (main_arg2 : FVec F S2048x1024 .f32) (main_arg3 : FVec F S1024 .f32) (main_arg4 : FVec F S1024 .f32) (main_arg5 : FVec F S1024 .f32) (main_arg6 : FVec F S1024 .f32) (main_arg7 : FVec F S1024 .f32) (main_arg8 : FVec F S3x2048 .f32) (main_arg9 : FVec F S1x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x8192 .f32 := (extf .f32 · bitsLt_bf16_f32) main_arg1
  let main_v5 : FVec F S4096x8192 .f32 := Host.absf main_v4
  let main_cst_0 : FVec F S_ .f32 := constant S_ .f32 0x7F800000#32
  let main_v6 : FVec F S4096x8192 .f32 := broadcastInDim S4096x8192 ![] bcast_S_S4096x8192 main_cst_0
  let main_v7 : IVec S4096x8192 1 := cmpf .olt main_v5 main_v6
  let main_c_1 : IVec S_ 1 := constantI S_ 1 1#1
  let main_v8 : IVec S_ 1 := (fun x v => Host.reduce IntOp.andi x v reducesTo_S4096x8192_S_d0_1 h_S_) main_v7 main_c_1
  let main_v9 : IVec S_ 1 := andi main_v3 main_v8
  let main_v10 : FVec F S2048x1024 .f32 := Host.absf main_arg2
  let main_cst_2 : FVec F S_ .f32 := constant S_ .f32 0x7F800000#32
  let main_v11 : FVec F S2048x1024 .f32 := broadcastInDim S2048x1024 ![] bcast_S_S2048x1024 main_cst_2
  let main_v12 : IVec S2048x1024 1 := cmpf .olt main_v10 main_v11
  let main_c_3 : IVec S_ 1 := constantI S_ 1 1#1
  let main_v13 : IVec S_ 1 := (fun x v => Host.reduce IntOp.andi x v reducesTo_S2048x1024_S_d0_1 h_S_) main_v12 main_c_3
  let main_v14 : IVec S_ 1 := andi main_v9 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  fn_part1 (F := F) main_arg8 main_arg9 main_v14 main_v15 main_v16
-- ==== Pre_pool_finite.lean ====
abbrev S4096x6144 : Shape := ⟨2, ![4096, 6144]⟩
abbrev S4x256x256 : Shape := ⟨3, ![4, 256, 256]⟩
abbrev S1x1024 : Shape := ⟨2, ![1, 1024]⟩
abbrev S4096x1024 : Shape := ⟨2, ![4096, 1024]⟩
abbrev S_ : Shape := ⟨0, ![]⟩

class Facts : Prop where
  slices_S4096x6144_S4096x1024_0_0 : S4096x6144.Slices ![0, 0] S4096x1024
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x6144 .bf16) (main_arg1 : FVec F S4x256x256 .f32) (main_arg2 : FVec F S1x1024 .f32) : IVec S_ 1 :=
  let main_v0 : FVec F S4096x1024 .bf16 := (extractStridedSlice S4096x1024 ![0, 0] · slices_S4096x6144_S4096x1024_0_0) main_arg0
  let main_v1 : FVec F S4096x1024 .f32 := (extf .f32 · bitsLt_bf16_f32) main_v0
  let main_v2 : FVec F S4096x1024 .f32 := Host.absf main_v1
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  main_v5
-- ==== OddBwd.lean ====
abbrev S4096x1024 : Shape := ⟨2, ![4096, 1024]⟩
abbrev S4096x8192 : Shape := ⟨2, ![4096, 8192]⟩
abbrev S2048x1024 : Shape := ⟨2, ![2048, 1024]⟩
abbrev S1024 : Shape := ⟨1, ![1024]⟩
abbrev S3x2048 : Shape := ⟨2, ![3, 2048]⟩
abbrev S1x2048 : Shape := ⟨2, ![1, 2048]⟩
abbrev S_ : Shape := ⟨0, ![]⟩
abbrev S3x1024 : Shape := ⟨2, ![3, 1024]⟩
abbrev S1x1024 : Shape := ⟨2, ![1, 1024]⟩
abbrev S5x1024 : Shape := ⟨2, ![5, 1024]⟩
abbrev S8x1024 : Shape := ⟨2, ![8, 1024]⟩
abbrev S5x2048 : Shape := ⟨2, ![5, 2048]⟩
abbrev S8x2048 : Shape := ⟨2, ![8, 2048]⟩
abbrev S256x1024 : Shape := ⟨2, ![256, 1024]⟩
abbrev S256x2048 : Shape := ⟨2, ![256, 2048]⟩
abbrev S16x2048 : Shape := ⟨2, ![16, 2048]⟩
abbrev S256x8192 : Shape := ⟨2, ![256, 8192]⟩
abbrev S272x2048 : Shape := ⟨2, ![272, 2048]⟩
abbrev S264x2048 : Shape := ⟨2, ![264, 2048]⟩
abbrev S256x512 : Shape := ⟨2, ![256, 512]⟩
abbrev S1x512 : Shape := ⟨2, ![1, 512]⟩
abbrev S512 : Shape := ⟨1, ![512]⟩

abbrev nBuf : Space → Nat
  | .hbm => 26
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x8192, .bf16⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S3x2048, .f32⟩
  | .hbm, ⟨9, _⟩ => ⟨S1x2048, .f32⟩
  | .hbm, ⟨10, _⟩ => ⟨S_, .f32⟩
  | .hbm, ⟨11, _⟩ => ⟨S3x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S5x1024, .f32⟩
  | .hbm, ⟨18, _⟩ => ⟨S8x1024, .f32⟩
  | .hbm, ⟨19, _⟩ => ⟨S_, .f32⟩
  | .hbm, ⟨20, _⟩ => ⟨S5x2048, .f32⟩
  | .hbm, ⟨21, _⟩ => ⟨S8x2048, .f32⟩
  | .hbm, ⟨22, _⟩ => ⟨S2048x1024, .bf16⟩
  | .hbm, ⟨23, _⟩ => ⟨S4096x1024, .bf16⟩
  | .hbm, ⟨24, _⟩ => ⟨S4096x8192, .bf16⟩
  | .hbm, ⟨25, _⟩ => ⟨S8x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S2048x1024, .bf16⟩
  | .local _ .vmem, ⟨15, _⟩ => ⟨S8x1024, .f32⟩
  | .local _ .vmem, ⟨16, _⟩ => ⟨S8x2048, .f32⟩
  | .local _ .vmem, ⟨17, _⟩ => ⟨S1x2048, .f32⟩
  | .local _ .vmem, ⟨18, _⟩ => ⟨S256x1024, .bf16⟩
  | .local _ .vmem, ⟨19, _⟩ => ⟨S256x1024, .bf16⟩
  | .local _ .vmem, ⟨20, _⟩ => ⟨S256x8192, .bf16⟩
  | .local _ .vmem, ⟨21, _⟩ => ⟨S256x8192, .bf16⟩
  | .local _ .vmem, ⟨22, _⟩ => ⟨S8x2048, .f32⟩
  | .local _ .vmem, ⟨23, _⟩ => ⟨S272x2048, .f32⟩
  | .local _ .vmem, ⟨24, _⟩ => ⟨S264x2048, .f32⟩
  | .local _ .vmem, ⟨25, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OddRefIdeal.lean ====
abbrev S4096x1024 : Shape := ⟨2, ![4096, 1024]⟩
abbrev S4096x8192 : Shape := ⟨2, ![4096, 8192]⟩
abbrev S2048x1024 : Shape := ⟨2, ![2048, 1024]⟩
abbrev S1024 : Shape := ⟨1, ![1024]⟩
abbrev S3x2048 : Shape := ⟨2, ![3, 2048]⟩
abbrev S1x2048 : Shape := ⟨2, ![1, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S2048 : Shape := ⟨1, ![2048]⟩
abbrev S1x1024 : Shape := ⟨2, ![1, 1024]⟩
abbrev S4x2048 : Shape := ⟨2, ![4, 2048]⟩
abbrev S8x2048 : Shape := ⟨2, ![8, 2048]⟩

abbrev nBuf : Space → Nat
  | .hbm => 135
  | .vmem => 0
  | .smem => 0
  | _ => 0

abbrev hbmTy0_0 (i : Nat) : BufTy := match i % 128 with
  | 0 => ⟨S4096x1024, .f32⟩
  | 1 => ⟨S4096x8192, .bf16⟩
  | 2 => ⟨S2048x1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S3x2048, .f32⟩
  | 9 => ⟨S1x2048, .f32⟩
  | 10 => ⟨S4096x8192, .f32⟩
  | 11 => ⟨S4096x2048, .f32⟩
  | 12 => ⟨S4096x2048, .f32⟩
  | 13 => ⟨S4096x2048, .f32⟩
  | 14 => ⟨S4096x2048, .f32⟩
  | 15 => ⟨S4096x2048, .f32⟩
  | 16 => ⟨S_, .f32⟩
  | 17 => ⟨S2x2048, .f32⟩
  | 18 => ⟨S4098x2048, .f32⟩
  | 19 => ⟨S_, .f32⟩
  | 20 => ⟨S2x2048, .f32⟩
  | 21 => ⟨S4096x2048, .f32⟩
  | 22 => ⟨S1x2048, .f32⟩
  | 23 => ⟨S2048, .f32⟩
  | 24 => ⟨S1x2048, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S4096x2048, .f32⟩
  | 31 => ⟨S1x2048, .f32⟩
  | 32 => ⟨S2048, .f32⟩
  | 33 => ⟨S1x2048, .f32⟩
  | 34 => ⟨S4096x2048, .f32⟩
  | 35 => ⟨S4096x2048, .f32⟩
  | 36 => ⟨S4096x2048, .f32⟩
  | 37 => ⟨S4096x2048, .f32⟩
  | 38 => ⟨S1x2048, .f32⟩
  | 39 => ⟨S2048, .f32⟩
  | 40 => ⟨S1x2048, .f32⟩
  | 41 => ⟨S4096x2048, .f32⟩
  | 42 => ⟨S4096x2048, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S_, .f32⟩
  | 50 => ⟨S4096x2048, .f32⟩
  | 51 => ⟨S4096x2048, .f32⟩
  | 52 => ⟨S_, .f32⟩
  | 53 => ⟨S4096x2048, .f32⟩
  | 54 => ⟨S4096x2048, .f32⟩
  | 55 => ⟨S_, .f32⟩
  | 56 => ⟨S4096x2048, .f32⟩
  | 57 => ⟨S4096x2048, .f32⟩
  | 58 => ⟨S4096x2048, .f32⟩
  | 59 => ⟨S4096x2048, .f32⟩
  | 60 => ⟨S4096x2048, .f32⟩
  | 61 => ⟨S4096x1024, .f32⟩
  | 62 => ⟨S_, .f32⟩
  | 63 => ⟨S1024, .f32⟩
  | 64 => ⟨S1024, .f32⟩
  | 65 => ⟨S1x1024, .f32⟩
  | 66 => ⟨S4096x1024, .f32⟩
  | 67 => ⟨S4096x1024, .f32⟩
  | 68 => ⟨S4096x1024, .f32⟩
  | 69 => ⟨S4096x1024, .f32⟩
  | 70 => ⟨S4096x2048, .f32⟩
  | 71 => ⟨S4096x2048, .f32⟩
  | 72 => ⟨S4096x2048, .f32⟩
  | 73 => ⟨S4096x2048, .f32⟩
  | 74 => ⟨S4096x2048, .f32⟩
  | 75 => ⟨S4096x2048, .f32⟩
  | 76 => ⟨S4096x2048, .f32⟩
  | 77 => ⟨S4096x2048, .f32⟩
  | 78 => ⟨S4096x2048, .f32⟩
  | 79 => ⟨S_, .f32⟩
  | 80 => ⟨S2048, .f32⟩
  | 81 => ⟨S1x2048, .f32⟩
  | 82 => ⟨S4096x2048, .f32⟩
  | 83 => ⟨S_, .f32⟩
  | 84 => ⟨S2048, .f32⟩
  | 85 => ⟨S1x2048, .f32⟩
  | 86 => ⟨S4096x2048, .f32⟩
  | 87 => ⟨S4096x2048, .f32⟩
  | 88 => ⟨S_, .f32⟩
  | 89 => ⟨S2048, .f32⟩
  | 90 => ⟨S1x2048, .f32⟩
  | 91 => ⟨S_, .f32⟩
  | 92 => ⟨S3x2048, .f32⟩
  | 93 => ⟨S_, .f32⟩
  | 94 => ⟨S4098x2048, .f32⟩
  | 95 => ⟨S4096x2048, .f32⟩
  | 96 => ⟨S_, .f32⟩
  | 97 => ⟨S2048, .f32⟩
  | 98 => ⟨S1x2048, .f32⟩
  | 99 => ⟨S4096x2048, .f32⟩
  | 100 => ⟨S4096x2048, .f32⟩
  | 101 => ⟨S_, .f32⟩
  | 102 => ⟨S2048, .f32⟩
  | 103 => ⟨S1x2048, .f32⟩
  | 104 => ⟨S_, .f32⟩
  | 105 => ⟨S3x2048, .f32⟩
  | 106 => ⟨S3x2048, .f32⟩
  | 107 => ⟨S_, .f32⟩
  | 108 => ⟨S4098x2048, .f32⟩
  | 109 => ⟨S4098x2048, .f32⟩
  | 110 => ⟨S4096x2048, .f32⟩
  | 111 => ⟨S_, .f32⟩
  | 112 => ⟨S2048, .f32⟩
  | 113 => ⟨S1x2048, .f32⟩
  | 114 => ⟨S4096x2048, .f32⟩
  | 115 => ⟨S4096x2048, .f32⟩
  | 116 => ⟨S_, .f32⟩
  | 117 => ⟨S2048, .f32⟩
  | 118 => ⟨S1x2048, .f32⟩
  | 119 => ⟨S_, .f32⟩
  | 120 => ⟨S3x2048, .f32⟩
  | 121 => ⟨S3x2048, .f32⟩
  | 122 => ⟨S_, .f32⟩
  | 123 => ⟨S4098x2048, .f32⟩
  | 124 => ⟨S4098x2048, .f32⟩
  | 125 => ⟨S2x2048, .f32⟩
  | 126 => ⟨S4096x2048, .f32⟩
  | 127 => ⟨S4096x2048, .f32⟩
  | _ => ⟨S4096x1024, .f32⟩

abbrev hbmTy0_1 (i : Nat) : BufTy := match i % 128 with
  | 0 => ⟨S4096x2048, .f32⟩
  | 1 => ⟨S4096x8192, .f32⟩
  | 2 => ⟨S_, .f32⟩
  | 3 => ⟨S4x2048, .f32⟩
  | 4 => ⟨S8x2048, .f32⟩
  | 5 => ⟨S4096x1024, .bf16⟩
  | 6 => ⟨S4096x8192, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v34_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v34_1 : Ref sig .tc := ⟨.hbm, 58, rfl⟩
abbrev main_v34_0 : Ref sig .tc := ⟨.hbm, 59, rfl⟩
abbrev main_v35 : Ref sig .tc := ⟨.hbm, 60, rfl⟩
abbrev main_v36 : Ref sig .tc := ⟨.hbm, 61, rfl⟩
abbrev main_cst_2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_3 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_5 : Ref sig .tc := ⟨.hbm, 88, rfl⟩
abbrev main_v57 : Ref sig .tc := ⟨.hbm, 89, rfl⟩
abbrev main_v58 : Ref sig .tc := ⟨.hbm, 90, rfl⟩
abbrev main_cst_6 : Ref sig .tc := ⟨.hbm, 91, rfl⟩
abbrev main_v59 : Ref sig .tc := ⟨.hbm, 92, rfl⟩
abbrev main_cst_7 : Ref sig .tc := ⟨.hbm, 93, rfl⟩
abbrev main_v60 : Ref sig .tc := ⟨.hbm, 94, rfl⟩
abbrev main_v61 : Ref sig .tc := ⟨.hbm, 95, rfl⟩
abbrev main_cst_8 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_12 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_13 : Ref sig .tc := ⟨.hbm, 116, rfl⟩
abbrev main_v77 : Ref sig .tc := ⟨.hbm, 117, rfl⟩
abbrev main_v78 : Ref sig .tc := ⟨.hbm, 118, rfl⟩
abbrev main_cst_14 : Ref sig .tc := ⟨.hbm, 119, rfl⟩
abbrev main_v79 : Ref sig .tc := ⟨.hbm, 120, rfl⟩
abbrev main_v80 : Ref sig .tc := ⟨.hbm, 121, rfl⟩
abbrev main_cst_15 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_16 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩

abbrev nD : Nat := 1
abbrev τ : Topo := Topo.v7x

variable {F : FTy → Type} [FloatOps F]
-- ==== GradWin1.lean ====
abbrev S4096x1024 : Shape := ⟨2, ![4096, 1024]⟩
abbrev S4096x8192 : Shape := ⟨2, ![4096, 8192]⟩
abbrev S4x1024x2048 : Shape := ⟨3, ![4, 1024, 2048]⟩
abbrev S512x1024 : Shape := ⟨2, ![512, 1024]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S4x1024x2048, .f32⟩
  | .hbm, ⟨3, _⟩ => ⟨S4x1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x1024x2048, .bf16⟩
  | .local _ .vmem, ⟨7, _⟩ => ⟨S1x1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradWin1RefIdeal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S_, .f32⟩
  | .hbm, ⟨3, _⟩ => ⟨S1024x8192, .f32⟩
  | .hbm, ⟨4, _⟩ => ⟨S4096x1024, .f32⟩
  | .hbm, ⟨5, _⟩ => ⟨S4096x8192, .f32⟩
  | .hbm, ⟨6, _⟩ => ⟨S4096x8192, .f32⟩
  | .hbm, ⟨7, _⟩ => ⟨S8192x1024, .f32⟩
  | .hbm, ⟨8, _⟩ => ⟨S1024x8192, .f32⟩
  | .hbm, ⟨9, _⟩ => ⟨S1024x4x2048, .f32⟩
  | .hbm, ⟨10, _⟩ => ⟨S4x1024x2048, .f32⟩
  | .hbm, ⟨11, _⟩ => ⟨S4x1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradWin0.lean ====
abbrev S4096x1024 : Shape := ⟨2, ![4096, 1024]⟩
abbrev S4096x6144 : Shape := ⟨2, ![4096, 6144]⟩
abbrev S4x1024x1536 : Shape := ⟨3, ![4, 1024, 1536]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1024x1536, .f32⟩
  | .hbm, ⟨3, _⟩ => ⟨S4x1024x1536, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradWin0RefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x4x1536, .f32⟩
  | .hbm, ⟨10, _⟩ => ⟨S4x1024x1536, .f32⟩
  | .hbm, ⟨11, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradWout.lean ====
abbrev S4096x2048 : Shape := ⟨2, ![4096, 2048]⟩
abbrev S4096x1024 : Shape := ⟨2, ![4096, 1024]⟩
abbrev S4x512x1024 : Shape := ⟨3, ![4, 512, 1024]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4x512x1024, .f32⟩
  | .hbm, ⟨3, _⟩ => ⟨S4x512x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GradWoutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S4x512x1024, .f32⟩
  | .hbm, ⟨10, _⟩ => ⟨S4x512x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Inproj1.lean ====
abbrev S4096x1024 : Shape := ⟨2, ![4096, 1024]⟩
abbrev S4x1024x2048 : Shape := ⟨3, ![4, 1024, 2048]⟩
abbrev S4096x8192 : Shape := ⟨2, ![4096, 8192]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x2048, .bf16⟩
  | .hbm, ⟨2, _⟩ => ⟨S4096x8192, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x2048, .bf16⟩
  | .local _ .vmem, ⟨5, _⟩ => ⟨S512x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Inproj1RefIdeal.lean ====
abbrev S4096x1024 : Shape := ⟨2, ![4096, 1024]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S1024x8192 : Shape := ⟨2, ![1024, 8192]⟩
abbrev S4096x8192 : Shape := ⟨2, ![4096, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x2048, .bf16⟩
  | .hbm, ⟨2, _⟩ => ⟨S1x1024x2048, .bf16⟩
  | .hbm, ⟨3, _⟩ => ⟨S1024x2048, .bf16⟩
  | .hbm, ⟨4, _⟩ => ⟨S1024x2048, .f32⟩
  | .hbm, ⟨5, _⟩ => ⟨S1x1024x2048, .bf16⟩
  | .hbm, ⟨6, _⟩ => ⟨S1024x2048, .bf16⟩
  | .hbm, ⟨7, _⟩ => ⟨S1024x2048, .f32⟩
  | .hbm, ⟨8, _⟩ => ⟨S1x1024x2048, .bf16⟩
  | .hbm, ⟨9, _⟩ => ⟨S1024x2048, .bf16⟩
  | .hbm, ⟨10, _⟩ => ⟨S1024x2048, .f32⟩
  | .hbm, ⟨11, _⟩ => ⟨S1x1024x2048, .bf16⟩
  | .hbm, ⟨12, _⟩ => ⟨S1024x2048, .bf16⟩
  | .hbm, ⟨13, _⟩ => ⟨S1024x2048, .f32⟩
  | .hbm, ⟨14, _⟩ => ⟨S1024x8192, .f32⟩
  | .hbm, ⟨15, _⟩ => ⟨S4096x1024, .f32⟩
  | .hbm, ⟨16, _⟩ => ⟨S4096x8192, .f32⟩
  | .hbm, ⟨17, _⟩ => ⟨S4096x8192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Inproj0.lean ====
abbrev S4096x1024 : Shape := ⟨2, ![4096, 1024]⟩
abbrev S4x1024x1536 : Shape := ⟨3, ![4, 1024, 1536]⟩
abbrev S4096x6144 : Shape := ⟨2, ![4096, 6144]⟩
abbrev S512x1024 : Shape := ⟨2, ![512, 1024]⟩
abbrev S1x1024x1536 : Shape := ⟨3, ![1, 1024, 1536]⟩
abbrev S512x1536 : Shape := ⟨2, ![512, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S4096x6144, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S512x1536, .bf16⟩
  | .local _ .vmem, ⟨5, _⟩ => ⟨S512x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Inproj0RefIdeal.lean ====
abbrev S4096x1024 : Shape := ⟨2, ![4096, 1024]⟩
abbrev S4x1024x1536 : Shape := ⟨3, ![4, 1024, 1536]⟩
abbrev S1x1024x1536 : Shape := ⟨3, ![1, 1024, 1536]⟩
abbrev S1024x1536 : Shape := ⟨2, ![1024, 1536]⟩
abbrev S1024x6144 : Shape := ⟨2, ![1024, 6144]⟩
abbrev S4096x6144 : Shape := ⟨2, ![4096, 6144]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1536, .bf16⟩
  | .hbm, ⟨2, _⟩ => ⟨S1x1024x1536, .bf16⟩
  | .hbm, ⟨3, _⟩ => ⟨S1024x1536, .bf16⟩
  | .hbm, ⟨4, _⟩ => ⟨S1024x1536, .f32⟩
  | .hbm, ⟨5, _⟩ => ⟨S1x1024x1536, .bf16⟩
  | .hbm, ⟨6, _⟩ => ⟨S1024x1536, .bf16⟩
  | .hbm, ⟨7, _⟩ => ⟨S1024x1536, .f32⟩
  | .hbm, ⟨8, _⟩ => ⟨S1x1024x1536, .bf16⟩
  | .hbm, ⟨9, _⟩ => ⟨S1024x1536, .bf16⟩
  | .hbm, ⟨10, _⟩ => ⟨S1024x1536, .f32⟩
  | .hbm, ⟨11, _⟩ => ⟨S1x1024x1536, .bf16⟩
  | .hbm, ⟨12, _⟩ => ⟨S1024x1536, .bf16⟩
  | .hbm, ⟨13, _⟩ => ⟨S1024x1536, .f32⟩
  | .hbm, ⟨14, _⟩ => ⟨S1024x6144, .f32⟩
  | .hbm, ⟨15, _⟩ => ⟨S4096x1024, .f32⟩
  | .hbm, ⟨16, _⟩ => ⟨S4096x6144, .f32⟩
  | .hbm, ⟨17, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Inproj1Bwd.lean ====
abbrev S4096x8192 : Shape := ⟨2, ![4096, 8192]⟩
abbrev S4x1024x2048 : Shape := ⟨3, ![4, 1024, 2048]⟩
abbrev S4096x1024 : Shape := ⟨2, ![4096, 1024]⟩
abbrev S1024 : Shape := ⟨1, ![1024]⟩
abbrev S_ : Shape := ⟨0, ![]⟩
abbrev S3x1024 : Shape := ⟨2, ![3, 1024]⟩
abbrev S1x1024 : Shape := ⟨2, ![1, 1024]⟩
abbrev S5x1024 : Shape := ⟨2, ![5, 1024]⟩
abbrev S8x1024 : Shape := ⟨2, ![8, 1024]⟩
abbrev S256x8192 : Shape := ⟨2, ![256, 8192]⟩
abbrev S256x1024 : Shape := ⟨2, ![256, 1024]⟩
abbrev S256x2048 : Shape := ⟨2, ![256, 2048]⟩
abbrev S1x1024x2048 : Shape := ⟨3, ![1, 1024, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 20
  | .vmem => 11
  | .smem => 0
  | _ => 0

abbrev bufTy : (tb : Table) → Fin (tcTables nBuf tb) → BufTy
  | .hbm, ⟨0, _⟩ => ⟨S4096x8192, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S5x1024, .f32⟩
  | .hbm, ⟨17, _⟩ => ⟨S8x1024, .f32⟩
  | .hbm, ⟨18, _⟩ => ⟨S4096x1024, .f32⟩
  | .hbm, ⟨19, _⟩ => ⟨S8x1024, .f32⟩
  | .local _ .vmem, ⟨0, _⟩ => ⟨S256x8192, .bf16⟩
  | .local _ .vmem, ⟨1, _⟩ => ⟨S256x8192, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S4x1024x2048, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Inproj1BwdRefIdeal.lean ====
abbrev S4096x8192 : Shape := ⟨2, ![4096, 8192]⟩
abbrev S4x1024x2048 : Shape := ⟨3, ![4, 1024, 2048]⟩
abbrev S4096x1024 : Shape := ⟨2, ![4096, 1024]⟩
abbrev S1024 : Shape := ⟨1, ![1024]⟩
abbrev S1x1024x2048 : Shape := ⟨3, ![1, 1024, 2048]⟩
abbrev S1024x2048 : Shape := ⟨2, ![1024, 2048]⟩
abbrev S1024x8192 : Shape := ⟨2, ![1024, 8192]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x1024x2048, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024x2048, .bf16⟩
  | .hbm, ⟨10, _⟩ => ⟨S1024x2048, .bf16⟩
  | .hbm, ⟨11, _⟩ => ⟨S1024x2048, .f32⟩
  | .hbm, ⟨12, _⟩ => ⟨S1x1024x2048, .bf16⟩
  | .hbm, ⟨13, _⟩ => ⟨S1024x2048, .bf16⟩
  | .hbm, ⟨14, _⟩ => ⟨S1024x2048, .f32⟩
  | .hbm, ⟨15, _⟩ => ⟨S1x1024x2048, .bf16⟩
  | .hbm, ⟨16, _⟩ => ⟨S1024x2048, .bf16⟩
  | .hbm, ⟨17, _⟩ => ⟨S1024x2048, .f32⟩
  | .hbm, ⟨18, _⟩ => ⟨S1x1024x2048, .bf16⟩
  | .hbm, ⟨19, _⟩ => ⟨S1024x2048, .bf16⟩
  | .hbm, ⟨20, _⟩ => ⟨S1024x2048, .f32⟩
  | .hbm, ⟨21, _⟩ => ⟨S1024x8192, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x8192, .f32⟩
  | .hbm, ⟨52, _⟩ => ⟨S4096x8192, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S3x1024, .f32⟩
  | .hbm, ⟨97, _⟩ => ⟨S_, .f32⟩
  | .hbm, ⟨98, _⟩ => ⟨S5x1024, .f32⟩
  | .hbm, ⟨99, _⟩ => ⟨S8x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Inproj0Bwd.lean ====
abbrev S4096x6144 : Shape := ⟨2, ![4096, 6144]⟩
abbrev S4x1024x1536 : Shape := ⟨3, ![4, 1024, 1536]⟩
abbrev S4096x1024 : Shape := ⟨2, ![4096, 1024]⟩
abbrev S1024 : Shape := ⟨1, ![1024]⟩
abbrev S_ : Shape := ⟨0, ![]⟩
abbrev S3x1024 : Shape := ⟨2, ![3, 1024]⟩
abbrev S1x1024 : Shape := ⟨2, ![1, 1024]⟩
abbrev S5x1024 : Shape := ⟨2, ![5, 1024]⟩
abbrev S8x1024 : Shape := ⟨2, ![8, 1024]⟩
abbrev S256x6144 : Shape := ⟨2, ![256, 6144]⟩
abbrev S256x1024 : Shape := ⟨2, ![256, 1024]⟩
abbrev S256x1536 : Shape := ⟨2, ![256, 1536]⟩
abbrev S1x1024x1536 : Shape := ⟨3, ![1, 1024, 1536]⟩
abbrev S1024x1536 : Shape := ⟨2, ![1024, 1536]⟩
abbrev S256 : Shape := ⟨1, ![256]⟩
abbrev S256x1 : Shape := ⟨2, ![256, 1]⟩

abbrev nBuf : Space → Nat
  | .hbm => 20
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S5x1024, .f32⟩
  | .hbm, ⟨17, _⟩ => ⟨S8x1024, .f32⟩
  | .hbm, ⟨18, _⟩ => ⟨S4096x1024, .f32⟩
  | .hbm, ⟨19, _⟩ => ⟨S8x1024, .f32⟩
  | .local _ .vmem, ⟨0, _⟩ => ⟨S256x6144, .bf16⟩
  | .local _ .vmem, ⟨1, _⟩ => ⟨S256x6144, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S4x1024x1536, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Inproj0BwdRefIdeal.lean ====
abbrev S4096x6144 : Shape := ⟨2, ![4096, 6144]⟩
abbrev S4x1024x1536 : Shape := ⟨3, ![4, 1024, 1536]⟩
abbrev S4096x1024 : Shape := ⟨2, ![4096, 1024]⟩
abbrev S1024 : Shape := ⟨1, ![1024]⟩
abbrev S1x1024x1536 : Shape := ⟨3, ![1, 1024, 1536]⟩
abbrev S1024x1536 : Shape := ⟨2, ![1024, 1536]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x1024x1536, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1x1024x1536, .bf16⟩
  | .hbm, ⟨10, _⟩ => ⟨S1024x1536, .bf16⟩
  | .hbm, ⟨11, _⟩ => ⟨S1024x1536, .f32⟩
  | .hbm, ⟨12, _⟩ => ⟨S1x1024x1536, .bf16⟩
  | .hbm, ⟨13, _⟩ => ⟨S1024x1536, .bf16⟩
  | .hbm, ⟨14, _⟩ => ⟨S1024x1536, .f32⟩
  | .hbm, ⟨15, _⟩ => ⟨S1x1024x1536, .bf16⟩
  | .hbm, ⟨16, _⟩ => ⟨S1024x1536, .bf16⟩
  | .hbm, ⟨17, _⟩ => ⟨S1024x1536, .f32⟩
  | .hbm, ⟨18, _⟩ => ⟨S1x1024x1536, .bf16⟩
  | .hbm, ⟨19, _⟩ => ⟨S1024x1536, .bf16⟩
  | .hbm, ⟨20, _⟩ => ⟨S1024x1536, .f32⟩
  | .hbm, ⟨21, _⟩ => ⟨S1024x6144, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x6144, .f32⟩
  | .hbm, ⟨52, _⟩ => ⟨S4096x6144, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S1024, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S3x1024, .f32⟩
  | .hbm, ⟨97, _⟩ => ⟨S_, .f32⟩
  | .hbm, ⟨98, _⟩ => ⟨S5x1024, .f32⟩
  | .hbm, ⟨99, _⟩ => ⟨S8x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== EvenOut.lean ====
abbrev S4096x1024 : Shape := ⟨2, ![4096, 1024]⟩
abbrev S4096x6144 : Shape := ⟨2, ![4096, 6144]⟩
abbrev S2048x1024 : Shape := ⟨2, ![2048, 1024]⟩
abbrev S1024 : Shape := ⟨1, ![1024]⟩
abbrev S_ : Shape := ⟨0, ![]⟩
abbrev S3x1024 : Shape := ⟨2, ![3, 1024]⟩
abbrev S1x1024 : Shape := ⟨2, ![1, 1024]⟩
abbrev S5x1024 : Shape := ⟨2, ![5, 1024]⟩
abbrev S8x1024 : Shape := ⟨2, ![8, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 35
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .bf16⟩
  | .hbm, ⟨3, _⟩ => ⟨S2048x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S3x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S5x1024, .f32⟩
  | .hbm, ⟨22, _⟩ => ⟨S8x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S5x1024, .f32⟩
  | .hbm, ⟨29, _⟩ => ⟨S8x1024, .f32⟩
  | .hbm, ⟨30, _⟩ => ⟨S2048x1024, .bf16⟩
  | .hbm, ⟨31, _⟩ => ⟨S4096x1024, .f32⟩
  | .hbm, ⟨32, _⟩ => ⟨S4096x1024, .f32⟩
  | .hbm, ⟨33, _⟩ => ⟨S4096x2048, .bf16⟩
  | .hbm, ⟨34, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S2048x1024, .bf16⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== EvenOutRefIdeal.lean ====
abbrev S4096x1024 : Shape := ⟨2, ![4096, 1024]⟩
abbrev S4096x6144 : Shape := ⟨2, ![4096, 6144]⟩
abbrev S2048x1024 : Shape := ⟨2, ![2048, 1024]⟩
abbrev S1024 : Shape := ⟨1, ![1024]⟩
abbrev S4096x2048 : Shape := ⟨2, ![4096, 2048]⟩
abbrev S_ : Shape := ⟨0, ![]⟩
abbrev S1x1024 : Shape := ⟨2, ![1, 1024]⟩
abbrev S4096 : Shape := ⟨1, ![4096]⟩
abbrev S4096x1 : Shape := ⟨2, ![4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6144, .bf16⟩
  | .hbm, ⟨3, _⟩ => ⟨S2048x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S4096x6144, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x2048, .bf16⟩
  | .hbm, ⟨65, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_0 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]
-- ==== OddOut.lean ====
abbrev S4096x8192 : Shape := ⟨2, ![4096, 8192]⟩
abbrev S2048x1024 : Shape := ⟨2, ![2048, 1024]⟩
abbrev S4096x1024 : Shape := ⟨2, ![4096, 1024]⟩
abbrev S1024 : Shape := ⟨1, ![1024]⟩
abbrev S3x2048 : Shape := ⟨2, ![3, 2048]⟩
abbrev S1x2048 : Shape := ⟨2, ![1, 2048]⟩
abbrev S_ : Shape := ⟨0, ![]⟩
abbrev S3x1024 : Shape := ⟨2, ![3, 1024]⟩
abbrev S1x1024 : Shape := ⟨2, ![1, 1024]⟩
abbrev S5x1024 : Shape := ⟨2, ![5, 1024]⟩
abbrev S8x1024 : Shape := ⟨2, ![8, 1024]⟩
abbrev S5x2048 : Shape := ⟨2, ![5, 2048]⟩
abbrev S8x2048 : Shape := ⟨2, ![8, 2048]⟩
abbrev S4096x2048 : Shape := ⟨2, ![4096, 2048]⟩
abbrev S256x2048 : Shape := ⟨2, ![256, 2048]⟩
abbrev S16x2048 : Shape := ⟨2, ![16, 2048]⟩
abbrev S256x1024 : Shape := ⟨2, ![256, 1024]⟩
abbrev S272x2048 : Shape := ⟨2, ![272, 2048]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 27
  | .vmem => 26
  | .smem => 0
  | _ => 0

abbrev bufTy : (tb : Table) → Fin (tcTables nBuf tb) → BufTy
  | .hbm, ⟨0, _⟩ => ⟨S4096x8192, .bf16⟩
  | .hbm, ⟨1, _⟩ => ⟨S2048x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S3x2048, .f32⟩
  | .hbm, ⟨9, _⟩ => ⟨S1x2048, .f32⟩
  | .hbm, ⟨10, _⟩ => ⟨S4096x1024, .f32⟩
  | .hbm, ⟨11, _⟩ => ⟨S_, .f32⟩
  | .hbm, ⟨12, _⟩ => ⟨S3x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S5x1024, .f32⟩
  | .hbm, ⟨19, _⟩ => ⟨S8x1024, .f32⟩
  | .hbm, ⟨20, _⟩ => ⟨S_, .f32⟩
  | .hbm, ⟨21, _⟩ => ⟨S5x2048, .f32⟩
  | .hbm, ⟨22, _⟩ => ⟨S8x2048, .f32⟩
  | .hbm, ⟨23, _⟩ => ⟨S2048x1024, .bf16⟩
  | .hbm, ⟨24, _⟩ => ⟨S4096x1024, .f32⟩
  | .hbm, ⟨25, _⟩ => ⟨S4096x2048, .bf16⟩
  | .hbm, ⟨26, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S2048x1024, .bf16⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | .local _ .vmem, ⟨16, _⟩ => ⟨S8x2048, .f32⟩
  | .local _ .vmem, ⟨17, _⟩ => ⟨S1x2048, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x2048, .bf16⟩
  | .local _ .vmem, ⟨23, _⟩ => ⟨S256x2048, .bf16⟩
  | .local _ .vmem, ⟨24, _⟩ => ⟨S8x1024, .f32⟩
  | .local _ .vmem, ⟨25, _⟩ => ⟨S272x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OddOutRefIdeal.lean ====
abbrev S4096x8192 : Shape := ⟨2, ![4096, 8192]⟩
abbrev S2048x1024 : Shape := ⟨2, ![2048, 1024]⟩
abbrev S4096x1024 : Shape := ⟨2, ![4096, 1024]⟩
abbrev S1024 : Shape := ⟨1, ![1024]⟩
abbrev S3x2048 : Shape := ⟨2, ![3, 2048]⟩
abbrev S1x2048 : Shape := ⟨2, ![1, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S2048 : Shape := ⟨1, ![2048]⟩
abbrev S1x1024 : Shape := ⟨2, ![1, 1024]⟩
abbrev S4096 : Shape := ⟨1, ![4096]⟩
abbrev S4096x1 : Shape := ⟨2, ![4096, 1]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 146
  | .vmem => 0
  | .smem => 0
  | _ => 0

abbrev hbmTy0_0 (i : Nat) : BufTy := match i % 128 with
  | 0 => ⟨S4096x8192, .bf16⟩
  | 1 => ⟨S2048x1024, .f32⟩
  | 2 => ⟨S4096x1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S3x2048, .f32⟩
  | 9 => ⟨S1x2048, .f32⟩
  | 10 => ⟨S4096x1024, .f32⟩
  | 11 => ⟨S4096x8192, .f32⟩
  | 12 => ⟨S4096x2048, .f32⟩
  | 13 => ⟨S4096x2048, .f32⟩
  | 14 => ⟨S4096x2048, .f32⟩
  | 15 => ⟨S4096x2048, .f32⟩
  | 16 => ⟨S4096x2048, .f32⟩
  | 17 => ⟨S_, .f32⟩
  | 18 => ⟨S2x2048, .f32⟩
  | 19 => ⟨S4098x2048, .f32⟩
  | 20 => ⟨S4096x2048, .f32⟩
  | 21 => ⟨S1x2048, .f32⟩
  | 22 => ⟨S2048, .f32⟩
  | 23 => ⟨S1x2048, .f32⟩
  | 24 => ⟨S4096x2048, .f32⟩
  | 25 => ⟨S4096x2048, .f32⟩
  | 26 => ⟨S_, .f32⟩
  | 27 => ⟨S4096x2048, .f32⟩
  | 28 => ⟨S4096x2048, .f32⟩
  | 29 => ⟨S4096x2048, .f32⟩
  | 30 => ⟨S1x2048, .f32⟩
  | 31 => ⟨S2048, .f32⟩
  | 32 => ⟨S1x2048, .f32⟩
  | 33 => ⟨S4096x2048, .f32⟩
  | 34 => ⟨S4096x2048, .f32⟩
  | 35 => ⟨S4096x2048, .f32⟩
  | 36 => ⟨S4096x2048, .f32⟩
  | 37 => ⟨S1x2048, .f32⟩
  | 38 => ⟨S2048, .f32⟩
  | 39 => ⟨S1x2048, .f32⟩
  | 40 => ⟨S4096x2048, .f32⟩
  | 41 => ⟨S4096x2048, .f32⟩
  | 42 => ⟨S4096x2048, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S_, .f32⟩
  | 49 => ⟨S4096x2048, .f32⟩
  | 50 => ⟨S4096x2048, .f32⟩
  | 51 => ⟨S_, .f32⟩
  | 52 => ⟨S4096x2048, .f32⟩
  | 53 => ⟨S4096x2048, .f32⟩
  | 54 => ⟨S4096x2048, .f32⟩
  | 55 => ⟨S4096x2048, .f32⟩
  | 56 => ⟨S4096x1024, .f32⟩
  | 57 => ⟨S_, .f32⟩
  | 58 => ⟨S1024, .f32⟩
  | 59 => ⟨S1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1024, .f32⟩
  | 80 => ⟨S4096x1024, .f32⟩
  | 81 => ⟨S1x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S1024, .f32⟩
  | 94 => ⟨S_, .f32⟩
  | 95 => ⟨S1024, .f32⟩
  | 96 => ⟨S1024, .f32⟩
  | 97 => ⟨S_, .f32⟩
  | 98 => ⟨S1024, .f32⟩
  | 99 => ⟨S_, .f32⟩
  | 100 => ⟨S1024, .f32⟩
  | 101 => ⟨S1024, .f32⟩
  | 102 => ⟨S4096x1024, .f32⟩
  | 103 => ⟨S_, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S1024, .f32⟩
  | 110 => ⟨S1x1024, .f32⟩
  | 111 => ⟨S4096x1024, .f32⟩
  | 112 => ⟨S4096x1024, .f32⟩
  | 113 => ⟨S_, .f32⟩
  | 114 => ⟨S1024, .f32⟩
  | 115 => ⟨S4096x1024, .f32⟩
  | 116 => ⟨S_, .f32⟩
  | 117 => ⟨S4096, .f32⟩
  | 118 => ⟨S4096x1, .f32⟩
  | 119 => ⟨S4096x1024, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x8192, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S_, .f32⟩
  | 9 => ⟨S1024, .f32⟩
  | 10 => ⟨S4096x2048, .bf16⟩
  | 11 => ⟨S1x1024, .f32⟩
  | 12 => ⟨S1x1024, .f32⟩
  | 13 => ⟨S1x1024, .f32⟩
  | 14 => ⟨S3x1024, .f32⟩
  | 15 => ⟨S_, .f32⟩
  | 16 => ⟨S5x1024, .f32⟩
  | 17 => ⟨S8x1024, .f32⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_cst_11 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_14 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_v87 : Ref sig .tc := ⟨.hbm, 124, rfl⟩
abbrev main_cst_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_v96 : Ref sig .tc := ⟨.hbm, 135, rfl⟩
abbrev main_cst_19 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_20 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]
-- ==== AdamWin0.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWin0RefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWin1.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWin1RefIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWout.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWoutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolRefIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaW.lean ====
abbrev S8x1024 : Shape := ⟨2, ![8, 1024]⟩
abbrev S2x8x768 : Shape := ⟨3, ![2, 8, 768]⟩
abbrev S2x1024x768 : Shape := ⟨3, ![2, 1024, 768]⟩
abbrev S1024x8 : Shape := ⟨2, ![1024, 8]⟩
abbrev S256x8 : Shape := ⟨2, ![256, 8]⟩
abbrev S1x8x768 : Shape := ⟨3, ![1, 8, 768]⟩
abbrev S1x256x768 : Shape := ⟨3, ![1, 256, 768]⟩
abbrev S8x768 : Shape := ⟨2, ![8, 768]⟩
abbrev S256x1 : Shape := ⟨2, ![256, 1]⟩
abbrev S1x768 : Shape := ⟨2, ![1, 768]⟩
abbrev S256x768 : Shape := ⟨2, ![256, 768]⟩

abbrev nBuf : Space → Nat
  | .hbm => 10
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S1024x8, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .hbm, ⟨9, _⟩ => ⟨S2x1024x768, .f32⟩
  | .local _ .vmem, ⟨0, _⟩ => ⟨S256x8, .f32⟩
  | .local _ .vmem, ⟨1, _⟩ => ⟨S256x8, .f32⟩
  | .local _ .vmem, ⟨2, _⟩ => ⟨S1x8x768, .f32⟩
  | .local _ .vmem, ⟨3, _⟩ => ⟨S1x8x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | .local _ .vmem, ⟨17, _⟩ => ⟨S1x256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdaWRefIdeal.lean ====
abbrev S8x1024 : Shape := ⟨2, ![8, 1024]⟩
abbrev S2x8x768 : Shape := ⟨3, ![2, 8, 768]⟩
abbrev S2x1024x768 : Shape := ⟨3, ![2, 1024, 768]⟩
abbrev S1x1024x768 : Shape := ⟨3, ![1, 1024, 768]⟩
abbrev S1024x768 : Shape := ⟨2, ![1024, 768]⟩
abbrev S_ : Shape := ⟨0, ![]⟩
abbrev S8x768 : Shape := ⟨2, ![8, 768]⟩
abbrev S1x8x768 : Shape := ⟨3, ![1, 8, 768]⟩
abbrev S768x1024 : Shape := ⟨2, ![768, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x8x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S1x1024x768, .f32⟩
  | .hbm, ⟨6, _⟩ => ⟨S1024x768, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x768, .f32⟩
  | .hbm, ⟨17, _⟩ => ⟨S1x8x768, .f32⟩
  | .hbm, ⟨18, _⟩ => ⟨S8x768, .f32⟩
  | .hbm, ⟨19, _⟩ => ⟨S768x1024, .f32⟩
  | .hbm, ⟨20, _⟩ => ⟨S1024x768, .f32⟩
  | .hbm, ⟨21, _⟩ => ⟨S1x1024x768, .f32⟩
  | .hbm, ⟨22, _⟩ => ⟨S1024x768, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S8x768, .f32⟩
  | .hbm, ⟨33, _⟩ => ⟨S1x8x768, .f32⟩
  | .hbm, ⟨34, _⟩ => ⟨S8x768, .f32⟩
  | .hbm, ⟨35, _⟩ => ⟨S768x1024, .f32⟩
  | .hbm, ⟨36, _⟩ => ⟨S1024x768, .f32⟩
  | .hbm, ⟨37, _⟩ => ⟨S1x1024x768, .f32⟩
  | .hbm, ⟨38, _⟩ => ⟨S1x1024x768, .f32⟩
  | .hbm, ⟨39, _⟩ => ⟨S2x1024x768, .f32⟩
  | .hbm, ⟨40, _⟩ => ⟨S_, .f32⟩
  | .hbm, ⟨41, _⟩ => ⟨S2x1024x768, .f32⟩
  | .hbm, ⟨42, _⟩ => ⟨S2x1024x768, .f32⟩
  | .hbm, ⟨43, _⟩ => ⟨S_, .f32⟩
  | .hbm, ⟨44, _⟩ => ⟨S2x1024x768, .f32⟩
  | .hbm, ⟨45, _⟩ => ⟨S2x1024x768, .f32⟩
  | .hbm, ⟨46, _⟩ => ⟨S2x1024x768, .f32⟩
  | .hbm, ⟨47, _⟩ => ⟨S_, .f32⟩
  | .hbm, ⟨48, _⟩ => ⟨S2x1024x768, .f32⟩
  | .hbm, ⟨49, _⟩ => ⟨S2x1024x768, .f32⟩
  | .hbm, ⟨50, _⟩ => ⟨S2x1024x768, .f32⟩
  | .hbm, ⟨51, _⟩ => ⟨S_, .f32⟩
  | .hbm, ⟨52, _⟩ => ⟨S2x1024x768, .f32⟩
  | .hbm, ⟨53, _⟩ => ⟨S2x1024x768, .f32⟩
  | .hbm, ⟨54, _⟩ => ⟨S2x1024x768, .f32⟩
  | .hbm, ⟨55, _⟩ => ⟨S_, .f32⟩
  | .hbm, ⟨56, _⟩ => ⟨S2x1024x768, .f32⟩
  | .hbm, ⟨57, _⟩ => ⟨S2x1024x768, .f32⟩
  | .hbm, ⟨58, _⟩ => ⟨S_, .f32⟩
  | .hbm, ⟨59, _⟩ => ⟨S2x1024x768, .f32⟩
  | .hbm, ⟨60, _⟩ => ⟨S2x1024x768, .f32⟩
  | .hbm, ⟨61, _⟩ => ⟨S2x1024x768, .f32⟩
  | .hbm, ⟨62, _⟩ => ⟨S_, .f32⟩
  | .hbm, ⟨63, _⟩ => ⟨S2x1024x768, .f32⟩
  | .hbm, ⟨64, _⟩ => ⟨S2x1024x768, .f32⟩
  | .hbm, ⟨65, _⟩ => ⟨S2x1024x768, .f32⟩
  | .hbm, ⟨66, _⟩ => ⟨S_, .f32⟩
  | .hbm, ⟨67, _⟩ => ⟨S2x1024x768, .f32⟩
  | .hbm, ⟨68, _⟩ => ⟨S2x1024x768, .f32⟩
  | .hbm, ⟨69, _⟩ => ⟨S2x1024x768, .f32⟩
  | .hbm, ⟨70, _⟩ => ⟨S_, .f32⟩
  | .hbm, ⟨71, _⟩ => ⟨S2x1024x768, .f32⟩
  | .hbm, ⟨72, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== ReducePacked.lean ====
abbrev S192x1024 : Shape := ⟨2, ![192, 1024]⟩
abbrev S24x1024 : Shape := ⟨2, ![24, 1024]⟩
abbrev S8x128 : Shape := ⟨2, ![8, 128]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S192x1024, .f32⟩
  | .hbm, ⟨1, _⟩ => ⟨S24x1024, .f32⟩
  | .hbm, ⟨2, _⟩ => ⟨S8x128, .f32⟩
  | .local _ .vmem, ⟨0, _⟩ => ⟨S192x1024, .f32⟩
  | .local _ .vmem, ⟨1, _⟩ => ⟨S24x1024, .f32⟩
  | .local _ .vmem, ⟨2, _⟩ => ⟨S8x128, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReducePackedRefIdeal.lean ====
abbrev S192x1024 : Shape := ⟨2, ![192, 1024]⟩
abbrev S8x24x1024 : Shape := ⟨3, ![8, 24, 1024]⟩
abbrev S_ : Shape := ⟨0, ![]⟩
abbrev S24x1024 : Shape := ⟨2, ![24, 1024]⟩
abbrev S1x1024 : Shape := ⟨2, ![1, 1024]⟩
abbrev S1024 : Shape := ⟨1, ![1024]⟩
abbrev S8x128 : Shape := ⟨2, ![8, 128]⟩

abbrev nBuf : Space → Nat
  | .hbm => 9
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S8x24x1024, .f32⟩
  | .hbm, ⟨2, _⟩ => ⟨S_, .f32⟩
  | .hbm, ⟨3, _⟩ => ⟨S24x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S8x128, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamSmall.lean ====
abbrev S2x1024 : Shape := ⟨2, ![2, 1024]⟩
abbrev S2x3072 : Shape := ⟨2, ![2, 3072]⟩
abbrev S1x1024 : Shape := ⟨2, ![1, 1024]⟩
abbrev S1024 : Shape := ⟨1, ![1024]⟩
abbrev S1x3x512 : Shape := ⟨3, ![1, 3, 512]⟩
abbrev S1x512 : Shape := ⟨2, ![1, 512]⟩
abbrev S3x512 : Shape := ⟨2, ![3, 512]⟩
abbrev S4x512 : Shape := ⟨2, ![4, 512]⟩
abbrev S6x1024 : Shape := ⟨2, ![6, 1024]⟩
abbrev S_ : Shape := ⟨0, ![]⟩
abbrev S4x1024 : Shape := ⟨2, ![4, 1024]⟩
abbrev S16x1024 : Shape := ⟨2, ![16, 1024]⟩
abbrev S12x1024 : Shape := ⟨2, ![12, 1024]⟩

abbrev nBuf : Space → Nat
  | .hbm => 98
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x3072, .f32⟩
  | .hbm, ⟨2, _⟩ => ⟨S1x1024, .f32⟩
  | .hbm, ⟨3, _⟩ => ⟨S1024, .f32⟩
  | .hbm, ⟨4, _⟩ => ⟨S1x3x512, .f32⟩
  | .hbm, ⟨5, _⟩ => ⟨S1x512, .f32⟩
  | .hbm, ⟨6, _⟩ => ⟨S2x1024, .f32⟩
  | .hbm, ⟨7, _⟩ => ⟨S2x3072, .f32⟩
  | .hbm, ⟨8, _⟩ => ⟨S1x1024, .f32⟩
  | .hbm, ⟨9, _⟩ => ⟨S1024, .f32⟩
  | .hbm, ⟨10, _⟩ => ⟨S1x3x512, .f32⟩
  | .hbm, ⟨11, _⟩ => ⟨S1x512, .f32⟩
  | .hbm, ⟨12, _⟩ => ⟨S2x1024, .f32⟩
  | .hbm, ⟨13, _⟩ => ⟨S2x3072, .f32⟩
  | .hbm, ⟨14, _⟩ => ⟨S1x1024, .f32⟩
  | .hbm, ⟨15, _⟩ => ⟨S1024, .f32⟩
  | .hbm, ⟨16, _⟩ => ⟨S1x3x512, .f32⟩
  | .hbm, ⟨17, _⟩ => ⟨S1x512, .f32⟩
  | .hbm, ⟨18, _⟩ => ⟨S2x1024, .f32⟩
  | .hbm, ⟨19, _⟩ => ⟨S2x3072, .f32⟩
  | .hbm, ⟨20, _⟩ => ⟨S1x1024, .f32⟩
  | .hbm, ⟨21, _⟩ => ⟨S1024, .f32⟩
  | .hbm, ⟨22, _⟩ => ⟨S1x3x512, .f32⟩
  | .hbm, ⟨23, _⟩ => ⟨S1x512, .f32⟩
  | .hbm, ⟨24, _⟩ => ⟨S3x512, .f32⟩
  | .hbm, ⟨25, _⟩ => ⟨S4x512, .f32⟩
  | .hbm, ⟨26, _⟩ => ⟨S2x1024, .f32⟩
  | .hbm, ⟨27, _⟩ => ⟨S6x1024, .f32⟩
  | .hbm, ⟨28, _⟩ => ⟨S1x1024, .f32⟩
  | .hbm, ⟨29, _⟩ => ⟨S_, .f32⟩
  | .hbm, ⟨30, _⟩ => ⟨S4x1024, .f32⟩
  | .hbm, ⟨31, _⟩ => ⟨S16x1024, .f32⟩
  | .hbm, ⟨32, _⟩ => ⟨S_, .f32⟩
  | .hbm, ⟨33, _⟩ => ⟨S12x1024, .f32⟩
  | .hbm, ⟨34, _⟩ => ⟨S_, .f32⟩
  | .hbm, ⟨35, _⟩ => ⟨S4x1024, .f32⟩
  | .hbm, ⟨36, _⟩ => ⟨S16x1024, .f32⟩
  | .hbm, ⟨37, _⟩ => ⟨S16x1024, .f32⟩
  | .hbm, ⟨38, _⟩ => ⟨S3x512, .f32⟩
  | .hbm, ⟨39, _⟩ => ⟨S4x512, .f32⟩
  | .hbm, ⟨40, _⟩ => ⟨S2x1024, .f32⟩
  | .hbm, ⟨41, _⟩ => ⟨S6x1024, .f32⟩
  | .hbm, ⟨42, _⟩ => ⟨S1x1024, .f32⟩
  | .hbm, ⟨43, _⟩ => ⟨S_, .f32⟩
  | .hbm, ⟨44, _⟩ => ⟨S4x1024, .f32⟩
  | .hbm, ⟨45, _⟩ => ⟨S16x1024, .f32⟩
  | .hbm, ⟨46, _⟩ => ⟨S3x512, .f32⟩
  | .hbm, ⟨47, _⟩ => ⟨S4x512, .f32⟩
  | .hbm, ⟨48, _⟩ => ⟨S2x1024, .f32⟩
  | .hbm, ⟨49, _⟩ => ⟨S6x1024, .f32⟩
  | .hbm, ⟨50, _⟩ => ⟨S1x1024, .f32⟩
  | .hbm, ⟨51, _⟩ => ⟨S_, .f32⟩
  | .hbm, ⟨52, _⟩ => ⟨S4x1024, .f32⟩
  | .hbm, ⟨53, _⟩ => ⟨S16x1024, .f32⟩
  | .hbm, ⟨54, _⟩ => ⟨S3x512, .f32⟩
  | .hbm, ⟨55, _⟩ => ⟨S4x512, .f32⟩
  | .hbm, ⟨56, _⟩ => ⟨S2x1024, .f32⟩
  | .hbm, ⟨57, _⟩ => ⟨S6x1024, .f32⟩
  | .hbm, ⟨58, _⟩ => ⟨S1x1024, .f32⟩
  | .hbm, ⟨59, _⟩ => ⟨S_, .f32⟩
  | .hbm, ⟨60, _⟩ => ⟨S4x1024, .f32⟩
  | .hbm, ⟨61, _⟩ => ⟨S16x1024, .f32⟩
  | .hbm, ⟨62, _⟩ => ⟨S16x1024, .f32⟩
  | .hbm, ⟨63, _⟩ => ⟨S16x1024, .f32⟩
  | .hbm, ⟨64, _⟩ => ⟨S16x1024, .f32⟩
  | .hbm, ⟨65, _⟩ => ⟨S2x1024, .f32⟩
  | .hbm, ⟨66, _⟩ => ⟨S4x512, .f32⟩
  | .hbm, ⟨67, _⟩ => ⟨S2x1024, .f32⟩
  | .hbm, ⟨68, _⟩ => ⟨S6x1024, .f32⟩
  | .hbm, ⟨69, _⟩ => ⟨S2x3072, .f32⟩
  | .hbm, ⟨70, _⟩ => ⟨S1x1024, .f32⟩
  | .hbm, ⟨71, _⟩ => ⟨S1x1024, .f32⟩
  | .hbm, ⟨72, _⟩ => ⟨S1024, .f32⟩
  | .hbm, ⟨73, _⟩ => ⟨S3x512, .f32⟩
  | .hbm, ⟨74, _⟩ => ⟨S1x3x512, .f32⟩
  | .hbm, ⟨75, _⟩ => ⟨S1x512, .f32⟩
  | .hbm, ⟨76, _⟩ => ⟨S2x1024, .f32⟩
  | .hbm, ⟨77, _⟩ => ⟨S4x512, .f32⟩
  | .hbm, ⟨78, _⟩ => ⟨S2x1024, .f32⟩
  | .hbm, ⟨79, _⟩ => ⟨S6x1024, .f32⟩
  | .hbm, ⟨80, _⟩ => ⟨S2x3072, .f32⟩
  | .hbm, ⟨81, _⟩ => ⟨S1x1024, .f32⟩
  | .hbm, ⟨82, _⟩ => ⟨S1x1024, .f32⟩
  | .hbm, ⟨83, _⟩ => ⟨S1024, .f32⟩
  | .hbm, ⟨84, _⟩ => ⟨S3x512, .f32⟩
  | .hbm, ⟨85, _⟩ => ⟨S1x3x512, .f32⟩
  | .hbm, ⟨86, _⟩ => ⟨S1x512, .f32⟩
  | .hbm, ⟨87, _⟩ => ⟨S2x1024, .f32⟩
  | .hbm, ⟨88, _⟩ => ⟨S4x512, .f32⟩
  | .hbm, ⟨89, _⟩ => ⟨S2x1024, .f32⟩
  | .hbm, ⟨90, _⟩ => ⟨S6x1024, .f32⟩
  | .hbm, ⟨91, _⟩ => ⟨S2x3072, .f32⟩
  | .hbm, ⟨92, _⟩ => ⟨S1x1024, .f32⟩
  | .hbm, ⟨93, _⟩ => ⟨S1x1024, .f32⟩
  | .hbm, ⟨94, _⟩ => ⟨S1024, .f32⟩
  | .hbm, ⟨95, _⟩ => ⟨S3x512, .f32⟩
  | .hbm, ⟨96, _⟩ => ⟨S1x3x512, .f32⟩
  | .hbm, ⟨97, _⟩ => ⟨S1x512, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_v32_2 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S2x1024 : Shape := ⟨2, ![2, 1024]⟩
abbrev S2x3072 : Shape := ⟨2, ![2, 3072]⟩
abbrev S1x1024 : Shape := ⟨2, ![1, 1024]⟩
abbrev S1024 : Shape := ⟨1, ![1024]⟩
abbrev S1x3x512 : Shape := ⟨3, ![1, 3, 512]⟩
abbrev S1x512 : Shape := ⟨2, ![1, 512]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S2x1024, .f32⟩
  | 1 => ⟨S2x3072, .f32⟩
  | 2 => ⟨S1x1024, .f32⟩
  | 3 => ⟨S1024, .f32⟩
  | 4 => ⟨S1x3x512, .f32⟩
  | 5 => ⟨S1x512, .f32⟩
  | 6 => ⟨S2x1024, .f32⟩
  | 7 => ⟨S2x3072, .f32⟩
  | 8 => ⟨S1x1024, .f32⟩
  | 9 => ⟨S1024, .f32⟩
  | 10 => ⟨S1x3x512, .f32⟩
  | 11 => ⟨S1x512, .f32⟩
  | 12 => ⟨S2x1024, .f32⟩
  | 13 => ⟨S2x3072, .f32⟩
  | 14 => ⟨S1x1024, .f32⟩
  | 15 => ⟨S1024, .f32⟩
  | 16 => ⟨S1x3x512, .f32⟩
  | 17 => ⟨S1x512, .f32⟩
  | 18 => ⟨S2x1024, .f32⟩
  | 19 => ⟨S2x3072, .f32⟩
  | 20 => ⟨S1x1024, .f32⟩
  | 21 => ⟨S1024, .f32⟩
  | 22 => ⟨S1x3x512, .f32⟩
  | 23 => ⟨S1x512, .f32⟩
  | 24 => ⟨S_, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S_, .f32⟩
  | 58 => ⟨S2x3072, .f32⟩
  | 59 => ⟨S2x3072, .f32⟩
  | 60 => ⟨S_, .f32⟩
  | 61 => ⟨S2x3072, .f32⟩
  | 62 => ⟨S2x3072, .f32⟩
  | 63 => ⟨S2x3072, .f32⟩
  | 64 => ⟨S_, .f32⟩
  | 65 => ⟨S2x3072, .f32⟩
  | 66 => ⟨S2x3072, .f32⟩
  | 67 => ⟨S2x3072, .f32⟩
  | 68 => ⟨S_, .f32⟩
  | 69 => ⟨S2x3072, .f32⟩
  | 70 => ⟨S2x3072, .f32⟩
  | 71 => ⟨S2x3072, .f32⟩
  | 72 => ⟨S_, .f32⟩
  | 73 => ⟨S2x3072, .f32⟩
  | 74 => ⟨S2x3072, .f32⟩
  | 75 => ⟨S_, .f32⟩
  | 76 => ⟨S2x3072, .f32⟩
  | 77 => ⟨S2x3072, .f32⟩
  | 78 => ⟨S2x3072, .f32⟩
  | 79 => ⟨S_, .f32⟩
  | 80 => ⟨S2x3072, .f32⟩
  | 81 => ⟨S2x3072, .f32⟩
  | 82 => ⟨S2x3072, .f32⟩
  | 83 => ⟨S_, .f32⟩
  | 84 => ⟨S2x3072, .f32⟩
  | 85 => ⟨S2x3072, .f32⟩
  | 86 => ⟨S2x3072, .f32⟩
  | 87 => ⟨S_, .f32⟩
  | 88 => ⟨S2x3072, .f32⟩
  | 89 => ⟨S2x3072, .f32⟩
  | 90 => ⟨S_, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1024, .f32⟩
  | 125 => ⟨S1024, .f32⟩
  | 126 => ⟨S_, .f32⟩
  | 127 => ⟨S1024, .f32⟩
  | _ => ⟨S2x1024, .f32⟩

abbrev hbmTy0_1 (i : Nat) : BufTy := match i % 128 with
  | 0 => ⟨S1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S_, .f32⟩
  | 7 => ⟨S1024, .f32⟩
  | 8 => ⟨S1024, .f32⟩
  | 9 => ⟨S1024, .f32⟩
  | 10 => ⟨S_, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | 25 => ⟨S_, .f32⟩
  | 26 => ⟨S1024, .f32⟩
  | 27 => ⟨S1024, .f32⟩
  | 28 => ⟨S_, .f32⟩
  | 29 => ⟨S1x3x512, .f32⟩
  | 30 => ⟨S1x3x512, .f32⟩
  | 31 => ⟨S_, .f32⟩
  | 32 => ⟨S1x3x512, .f32⟩
  | 33 => ⟨S1x3x512, .f32⟩
  | 34 => ⟨S1x3x512, .f32⟩
  | 35 => ⟨S_, .f32⟩
  | 36 => ⟨S1x3x512, .f32⟩
  | 37 => ⟨S1x3x512, .f32⟩
  | 38 => ⟨S1x3x512, .f32⟩
  | 39 => ⟨S_, .f32⟩
  | 40 => ⟨S1x3x512, .f32⟩
  | 41 => ⟨S1x3x512, .f32⟩
  | 42 => ⟨S1x3x512, .f32⟩
  | 43 => ⟨S_, .f32⟩
  | 44 => ⟨S1x3x512, .f32⟩
  | 45 => ⟨S1x3x512, .f32⟩
  | 46 => ⟨S_, .f32⟩
  | 47 => ⟨S1x3x512, .f32⟩
  | 48 => ⟨S1x3x512, .f32⟩
  | 49 => ⟨S1x3x512, .f32⟩
  | 50 => ⟨S_, .f32⟩
  | 51 => ⟨S1x3x512, .f32⟩
  | 52 => ⟨S1x3x512, .f32⟩
  | 53 => ⟨S1x3x512, .f32⟩
  | 54 => ⟨S_, .f32⟩
  | 55 => ⟨S1x3x512, .f32⟩
  | 56 => ⟨S1x3x512, .f32⟩
  | 57 => ⟨S1x3x512, .f32⟩
  | 58 => ⟨S_, .f32⟩
  | 59 => ⟨S1x3x512, .f32⟩
  | 60 => ⟨S1x3x512, .f32⟩
  | 61 => ⟨S_, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S1x512, .f32⟩
  | 71 => ⟨S1x512, .f32⟩
  | 72 => ⟨S_, .f32⟩
  | 73 => ⟨S1x512, .f32⟩
  | 74 => ⟨S1x512, .f32⟩
  | 75 => ⟨S1x512, .f32⟩
  | 76 => ⟨S_, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S1x512, .f32⟩
  | 91 => ⟨S_, .f32⟩
  | 92 => ⟨S1x512, .f32⟩
  | 93 => ⟨S1x512, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== EvenBwd.lean ====
abbrev S4096x1024 : Shape := ⟨2, ![4096, 1024]⟩
abbrev S4096x6144 : Shape := ⟨2, ![4096, 6144]⟩
abbrev S2048x1024 : Shape := ⟨2, ![2048, 1024]⟩
abbrev S1024 : Shape := ⟨1, ![1024]⟩
abbrev S_ : Shape := ⟨0, ![]⟩
abbrev S3x1024 : Shape := ⟨2, ![3, 1024]⟩
abbrev S1x1024 : Shape := ⟨2, ![1, 1024]⟩
abbrev S5x1024 : Shape := ⟨2, ![5, 1024]⟩
abbrev S8x1024 : Shape := ⟨2, ![8, 1024]⟩
abbrev S256x1024 : Shape := ⟨2, ![256, 1024]⟩
abbrev S256x2048 : Shape := ⟨2, ![256, 2048]⟩
abbrev S4096x2048 : Shape := ⟨2, ![4096, 2048]⟩

abbrev nBuf : Space → Nat
  | .hbm => 27
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x6144, .bf16⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S3x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S5x1024, .f32⟩
  | .hbm, ⟨19, _⟩ => ⟨S8x1024, .f32⟩
  | .hbm, ⟨20, _⟩ => ⟨S2048x1024, .bf16⟩
  | .hbm, ⟨21, _⟩ => ⟨S4096x1024, .bf16⟩
  | .hbm, ⟨22, _⟩ => ⟨S4096x1024, .f32⟩
  | .hbm, ⟨23, _⟩ => ⟨S4096x1024, .f32⟩
  | .hbm, ⟨24, _⟩ => ⟨S4096x6144, .bf16⟩
  | .hbm, ⟨25, _⟩ => ⟨S8x1024, .f32⟩
  | .hbm, ⟨26, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .bf16⟩
  | .local _ .vmem, ⟨9, _⟩ => ⟨S256x2048, .bf16⟩
  | .local _ .vmem, ⟨10, _⟩ => ⟨S2048x1024, .bf16⟩
  | .local _ .vmem, ⟨11, _⟩ => ⟨S8x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x2048, .bf16⟩
  | .local _ .vmem, ⟨19, _⟩ => ⟨S256x2048, .bf16⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== EvenBwdRefIdeal.lean ====
abbrev S4096x1024 : Shape := ⟨2, ![4096, 1024]⟩
abbrev S4096x6144 : Shape := ⟨2, ![4096, 6144]⟩
abbrev S2048x1024 : Shape := ⟨2, ![2048, 1024]⟩
abbrev S1024 : Shape := ⟨1, ![1024]⟩
abbrev S4096x2048 : Shape := ⟨2, ![4096, 2048]⟩
abbrev S_ : Shape := ⟨0, ![]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x6144, .bf16⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x6144, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x2048, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x1024, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S4096x2048, .bf16⟩
  | .hbm, ⟨58, _⟩ => ⟨S1x1024, .f32⟩
  | .hbm, ⟨59, _⟩ => ⟨S_, .f32⟩
  | .hbm, ⟨60, _⟩ => ⟨S7x1024, .f32⟩
  | .hbm, ⟨61, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v18_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v18_1 : Ref sig .tc := ⟨.hbm, 43, rfl⟩
abbrev main_v18_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_v31 : Ref sig .tc := ⟨.hbm, 61, rfl⟩

abbrev nD : Nat := 1
abbrev τ : Topo := Topo.v7x

variable {F : FTy → Type} [FloatOps F]
-- ==== NormMod.lean ====
abbrev S4096x1024 : Shape := ⟨2, ![4096, 1024]⟩
abbrev S1024 : Shape := ⟨1, ![1024]⟩
abbrev S1x1024 : Shape := ⟨2, ![1, 1024]⟩
abbrev S5x1024 : Shape := ⟨2, ![5, 1024]⟩
abbrev S_ : Shape := ⟨0, ![]⟩
abbrev S3x1024 : Shape := ⟨2, ![3, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S5x1024, .f32⟩
  | .hbm, ⟨12, _⟩ => ⟨S_, .f32⟩
  | .hbm, ⟨13, _⟩ => ⟨S3x1024, .f32⟩
  | .hbm, ⟨14, _⟩ => ⟨S8x1024, .f32⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormModRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== AdaFwd.lean ====
abbrev S8x1024 : Shape := ⟨2, ![8, 1024]⟩
abbrev S2x1024x768 : Shape := ⟨3, ![2, 1024, 768]⟩
abbrev S2x8x768 : Shape := ⟨3, ![2, 8, 768]⟩
abbrev S1x1024x768 : Shape := ⟨3, ![1, 1024, 768]⟩
abbrev S1x8x768 : Shape := ⟨3, ![1, 8, 768]⟩
abbrev S1024x768 : Shape := ⟨2, ![1024, 768]⟩
abbrev S8x768 : Shape := ⟨2, ![8, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S2x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x8x768, .f32⟩
  | .local _ .vmem, ⟨4, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaFwdRefIdeal.lean ====
abbrev S8x1024 : Shape := ⟨2, ![8, 1024]⟩
abbrev S2x1024x768 : Shape := ⟨3, ![2, 1024, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x8x768 : Shape := ⟨3, ![1, 8, 768]⟩
abbrev S2x8x768 : Shape := ⟨3, ![2, 8, 768]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1x1024x768, .f32⟩
  | .hbm, ⟨12, _⟩ => ⟨S1024x768, .f32⟩
  | .hbm, ⟨13, _⟩ => ⟨S8x768, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S1x1024x768, .f32⟩
  | .hbm, ⟨24, _⟩ => ⟨S1024x768, .f32⟩
  | .hbm, ⟨25, _⟩ => ⟨S8x768, .f32⟩
  | .hbm, ⟨26, _⟩ => ⟨S1x8x768, .f32⟩
  | .hbm, ⟨27, _⟩ => ⟨S1x8x768, .f32⟩
  | .hbm, ⟨28, _⟩ => ⟨S2x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== PoolFwd.lean ====
abbrev S4096x6144 : Shape := ⟨2, ![4096, 6144]⟩
abbrev S4x256x256 : Shape := ⟨3, ![4, 256, 256]⟩
abbrev S1x1024 : Shape := ⟨2, ![1, 1024]⟩
abbrev S4096x1024 : Shape := ⟨2, ![4096, 1024]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S4x256x256, .f32⟩
  | .hbm, ⟨2, _⟩ => ⟨S1x1024, .f32⟩
  | .hbm, ⟨3, _⟩ => ⟨S4x256x256, .bf16⟩
  | .hbm, ⟨4, _⟩ => ⟨S4096x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S528x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFwdRefIdeal.lean ====
abbrev S4096x6144 : Shape := ⟨2, ![4096, 6144]⟩
abbrev S4x256x256 : Shape := ⟨3, ![4, 256, 256]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x256 : Shape := ⟨2, ![4096, 256]⟩
abbrev S2x256 : Shape := ⟨2, ![2, 256]⟩
abbrev S4094x256 : Shape := ⟨2, ![4094, 256]⟩
abbrev S4096x1 : Shape := ⟨2, ![4096, 1]⟩
abbrev S1x256x256 : Shape := ⟨3, ![1, 256, 256]⟩
abbrev S256x256 : Shape := ⟨2, ![256, 256]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩

abbrev nBuf : Space → Nat
  | .hbm => 94
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4x256x256, .f32⟩
  | .hbm, ⟨2, _⟩ => ⟨S1x1024, .f32⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S_, .f32⟩
  | .hbm, ⟨7, _⟩ => ⟨S4096x1024, .f32⟩
  | .hbm, ⟨8, _⟩ => ⟨S4096, .f32⟩
  | .hbm, ⟨9, _⟩ => ⟨S4096x256, .f32⟩
  | .hbm, ⟨10, _⟩ => ⟨S_, .f32⟩
  | .hbm, ⟨11, _⟩ => ⟨S2x256, .f32⟩
  | .hbm, ⟨12, _⟩ => ⟨S4094x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S1x256x256, .f32⟩
  | .hbm, ⟨27, _⟩ => ⟨S256x256, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4x256, .f32⟩
  | .hbm, ⟨32, _⟩ => ⟨S4092x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S1x256x256, .f32⟩
  | .hbm, ⟨47, _⟩ => ⟨S256x256, .f32⟩
  | .hbm, ⟨48, _⟩ => ⟨S4096x256, .f32⟩
  | .hbm, ⟨49, _⟩ => ⟨S4096x256, .f32⟩
  | .hbm, ⟨50, _⟩ => ⟨S_, .f32⟩
  | .hbm, ⟨51, _⟩ => ⟨S8x256, .f32⟩
  | .hbm, ⟨52, _⟩ => ⟨S4088x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S1x256x256, .f32⟩
  | .hbm, ⟨67, _⟩ => ⟨S256x256, .f32⟩
  | .hbm, ⟨68, _⟩ => ⟨S4096x256, .f32⟩
  | .hbm, ⟨69, _⟩ => ⟨S4096x256, .f32⟩
  | .hbm, ⟨70, _⟩ => ⟨S_, .f32⟩
  | .hbm, ⟨71, _⟩ => ⟨S16x256, .f32⟩
  | .hbm, ⟨72, _⟩ => ⟨S4080x256, .f32⟩
  | .hbm, ⟨73, _⟩ => ⟨S4096x256, .f32⟩
  | .hbm, ⟨74, _⟩ => ⟨S4096x256, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S4096x1, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S1x256x256, .f32⟩
  | .hbm, ⟨87, _⟩ => ⟨S256x256, .f32⟩
  | .hbm, ⟨88, _⟩ => ⟨S4096x256, .f32⟩
  | .hbm, ⟨89, _⟩ => ⟨S4096x1024, .f32⟩
  | .hbm, ⟨90, _⟩ => ⟨S4096x1024, .bf16⟩
  | .hbm, ⟨91, _⟩ => ⟨S4096x1024, .f32⟩
  | .hbm, ⟨92, _⟩ => ⟨S4096x1024, .f32⟩
  | .hbm, ⟨93, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Proof.Pieces.lean ====
/-
  Reading a buffer of rank two that is assembled from rectangular stores: every lemma speaks of a global function of the
  row and the column that all the stores agree with.
-/
module

public import Idealize.ShloMosaic.Lib.Pointwise
public import Idealize.ShloMosaic.Lib.Pipeline.Value
public import Idealize.ShloMosaic.Lib.Writes

@[expose] public section

noncomputable section

namespace Cert.Pieces

open Idealize.ShloMosaic Idealize.ShloMosaic.View

variable {Val : EltTy → Type} {m n : Nat} {e : EltTy}

/-- An array of rank two given by a function of the row and the column. -/
def arr (m n : Nat) (g : Nat → Nat → EReal) : (⟨2, ![m, n]⟩ : Shape).Idx → EReal := fun y => g (y 0).val (y 1).val

/-- A store agrees with a function of the row and the column. -/
def Agrees (g : Nat → Nat → Val e) (p : Piece Val ⟨2, ![m, n]⟩ e) : Prop :=
  ∀ x : p.1.shape.Idx, p.2 x = g (p.1.emb x 0).val (p.1.emb x 1).val

/-- A store of a rectangle agrees with a function if it does entry by entry. -/
theorem agrees_unit (g : Nat → Nat → Val e) (a b h w : Nat)
    (inb : ∀ k, (![a, b] : Fin 2 → Nat) k + (![h, w] : Fin 2 → Nat) k ≤ (![m, n] : Fin 2 → Nat) k)
    (v : (⟨2, ![h, w]⟩ : Shape).Idx → Val e)
    (hv : ∀ (r : Fin h) (c : Fin w), v (ix2 r c) = g (a + r) (b + c)) :
    Agrees (m := m) (n := n) g ⟨Rect.unit (s := ⟨2, ![m, n]⟩) ![a, b] ![h, w] inb, v⟩ := by
  intro x
  have := hv (x 0) (x 1)
  rw [ix2_eta] at this
  refine this.trans ?_
  congr 1
  · show a + (x 0).val = a + 1 * (x 0).val; omega
  · show b + (x 1).val = b + 1 * (x 1).val; omega

/-- Membership in a rectangle, by its row and its column. -/
theorem mem_unit {a b h w : Nat}
    {inb : ∀ k, (![a, b] : Fin 2 → Nat) k + (![h, w] : Fin 2 → Nat) k ≤ (![m, n] : Fin 2 → Nat) k}
    {y : (⟨2, ![m, n]⟩ : Shape).Idx} :
    y ∈ (Rect.unit (s := ⟨2, ![m, n]⟩) ![a, b] ![h, w] inb).set ↔
      (a ≤ (y 0).val ∧ (y 0).val < a + h) ∧ (b ≤ (y 1).val ∧ (y 1).val < b + w) := by
  rw [Rect.mem_set_unit]
  constructor
  · intro H; exact ⟨H 0, H 1⟩
  · rintro ⟨h0, h1⟩ k
    match k with
    | ⟨0, _⟩ => exact h0
    | ⟨1, _⟩ => exact h1

variable [∀ e, Nonempty (Val e)]

/-- The assembled value at a covered index is the function all the stores agree with. -/
theorem canon_of_agrees (g : Nat → Nat → Val e) (L : List (Piece Val ⟨2, ![m, n]⟩ e))
    (hL : ∀ p ∈ L, Agrees g p) (y : (⟨2, ![m, n]⟩ : Shape).Idx) (hc : ∃ p ∈ L, y ∈ p.1.set) :
    canon L y = g (y 0).val (y 1).val :=
  canon_apply_of_pieces (fun y => g (y 0).val (y 1).val) L hL y hc

/-- The same over a first store: where none of the later ones lies, it is the first that counts. -/
theorem canon_base (g : Nat → Nat → Val e) (z : Piece Val ⟨2, ![m, n]⟩ e) (y : (⟨2, ![m, n]⟩ : Shape).Idx) :
    ∀ (L : List (Piece Val ⟨2, ![m, n]⟩ e)) (_ : ∀ p ∈ L, Agrees g p)
      (_ : (∀ p ∈ L, y ∉ p.1.set) → canon [z] y = g (y 0).val (y 1).val), canon (L ++ [z]) y = g (y 0).val (y 1).val
  | [], _, hz => hz fun _ h => absurd h List.not_mem_nil
  | p :: L, hL, hz => by
    by_cases hy : y ∈ p.1.set
    · obtain ⟨x, rfl⟩ := p.1.exists_idx_of_mem hy
      rw [List.cons_append, show p.1.idx x = p.1.emb x from rfl, canon_cons_emb]
      exact hL p List.mem_cons_self x
    · rw [List.cons_append, canon_cons_of_not_mem p _ hy]
      refine canon_base g z y L (fun q hq => hL q (List.mem_cons_of_mem _ hq)) fun h => hz fun q hq => ?_
      rcases List.mem_cons.1 hq with rfl | hq
      · exact hy
      · exact h q hq

/-- Reading a rectangle that the newest store does not meet. -/
theorem readCov_miss {sig : RefSig} {κ : Kind} {sp : Space} (v : View sig κ sp ⟨2, ![m, n]⟩ e)
    {a b h w a' b' h' w' : Nat}
    (i1 : ∀ k, (![a, b] : Fin 2 → Nat) k + (![h, w] : Fin 2 → Nat) k ≤ (![m, n] : Fin 2 → Nat) k)
    (i2 : ∀ k, (![a', b'] : Fin 2 → Nat) k + (![h', w'] : Fin 2 → Nat) k ≤ (![m, n] : Fin 2 → Nat) k)
    (p : (⟨2, ![h, w]⟩ : Shape).Idx → Val e) (L : List (Piece Val ⟨2, ![m, n]⟩ e))
    (hd : a + h ≤ a' ∨ a' + h' ≤ a ∨ b + w ≤ b' ∨ b' + w' ≤ b) :
    v.readCov (⟨Rect.unit (s := ⟨2, ![m, n]⟩) ![a, b] ![h, w] i1, p⟩ :: L) (Rect.unit (s := ⟨2, ![m, n]⟩) ![a', b'] ![h', w'] i2).toLoadRect
      = v.readCov L (Rect.unit (s := ⟨2, ![m, n]⟩) ![a', b'] ![h', w'] i2).toLoadRect := by
  rw [View.readCov_eq_canon', View.readCov_eq_canon']
  funext y
  refine canon_cons_of_not_mem _ L fun hm => ?_
  rw [mem_unit] at hm
  have y0 : (y 0).val < h' := (y 0).isLt
  have y1 : (y 1).val < w' := (y 1).isLt
  have hm' : (a ≤ a' + 1 * (y 0).val ∧ a' + 1 * (y 0).val < a + h) ∧ b ≤ b' + 1 * (y 1).val ∧ b' + 1 * (y 1).val < b + w := hm
  omega

/-- Reading a rectangle of a buffer stored whole. -/
theorem readCov_whole {sig : RefSig} {κ : Kind} {sp : Space} (v : View sig κ sp ⟨2, ![m, n]⟩ e)
    {a' b' h' w' : Nat}
    (i1 : ∀ k, (![0, 0] : Fin 2 → Nat) k + (![m, n] : Fin 2 → Nat) k ≤ (![m, n] : Fin 2 → Nat) k)
    (i2 : ∀ k, (![a', b'] : Fin 2 → Nat) k + (![h', w'] : Fin 2 → Nat) k ≤ (![m, n] : Fin 2 → Nat) k)
    (p : (⟨2, ![m, n]⟩ : Shape).Idx → Val e) :
    v.readCov [⟨Rect.unit (s := ⟨2, ![m, n]⟩) ![0, 0] ![m, n] i1, p⟩] (Rect.unit (s := ⟨2, ![m, n]⟩) ![a', b'] ![h', w'] i2).toLoadRect
      = View.ld p (Rect.unit (s := ⟨2, ![m, n]⟩) ![a', b'] ![h', w'] i2) := by
  rw [View.readCov_eq_canon']
  funext y
  refine canon_apply_of_pieces p _ ?_ _ ⟨_, List.mem_cons_self, ?_⟩
  · intro q hq x
    rw [List.mem_singleton] at hq
    subst hq
    refine congrArg p (?_ : x = _)
    funext k
    apply Fin.ext
    match k with
    | ⟨0, _⟩ => show (x 0).val = 0 + 1 * (x 0).val; omega
    | ⟨1, _⟩ => show (x 1).val = 0 + 1 * (x 1).val; omega
  · rw [mem_unit]
    constructor
    · constructor
      · exact Nat.zero_le _
      · rw [Nat.zero_add]; exact Fin.isLt _
    · constructor
      · exact Nat.zero_le _
      · rw [Nat.zero_add]; exact Fin.isLt _

/-- The same for a buffer holding earlier contents: a covered index. -/
theorem writes_of_agrees {sig : RefSig} {κ : Kind} {sp : Space} (v : View sig κ sp ⟨2, ![m, n]⟩ e) (f : v.ty.Contents Val)
    (g : Nat → Nat → Val e) (L : List (Piece Val ⟨2, ![m, n]⟩ e))
    (hL : ∀ p ∈ L, Agrees g p) (y : (⟨2, ![m, n]⟩ : Shape).Idx)
    (hb : (∀ p ∈ L, y ∉ p.1.set) → v.read Val f y = g (y 0).val (y 1).val) :
    v.read Val (v.writes Val f L) y = g (y 0).val (y 1).val := by
  by_cases hc : ∃ p ∈ L, y ∈ p.1.set
  · exact View.read_writes_apply_of_pieces v f (fun y => g (y 0).val (y 1).val) L hL y hc
  · have hn : ∀ p ∈ L, y ∉ p.1.set := fun p hp h => hc ⟨p, hp, h⟩
    rw [View.read_writes_apply_of_forall_not_mem v f y L hn]
    exact hb hn

/-- A table over the naturals from an array: its entries inside, zero outside. -/
def tab (a b : Nat) (A : (⟨2, ![a, b]⟩ : Shape).Idx → EReal) (r k : Nat) : EReal :=
  if h : r < a ∧ k < b then A (ix2 ⟨r, h.1⟩ ⟨k, h.2⟩) else 0

/-- The same of a vector. -/
def row (a : Nat) (A : (⟨1, ![a]⟩ : Shape).Idx → EReal) (k : Nat) : EReal :=
  if h : k < a then A (ix1 ⟨k, h⟩) else 0

theorem tab_at {a b : Nat} (A : (⟨2, ![a, b]⟩ : Shape).Idx → EReal) {r k : Nat} (hr : r < a) (hk : k < b) :
    tab a b A r k = A (ix2 ⟨r, hr⟩ ⟨k, hk⟩) := dif_pos ⟨hr, hk⟩

theorem row_at {a : Nat} (A : (⟨1, ![a]⟩ : Shape).Idx → EReal) {k : Nat} (hk : k < a) :
    row a A k = A (ix1 ⟨k, hk⟩) := dif_pos hk

/-- A table from the parts that lie side by side in its columns. -/
def side (p a b : Nat) (A : (⟨3, ![p, a, b]⟩ : Shape).Idx → EReal) (r k : Nat) : EReal :=
  if h : (k / b < p ∧ k % b < b) ∧ r < a then A (ix3 ⟨k / b, h.1.1⟩ ⟨r, h.2⟩ ⟨k % b, h.1.2⟩) else 0

theorem side_at {p a b : Nat} (A : (⟨3, ![p, a, b]⟩ : Shape).Idx → EReal) {r j k : Nat} (hj : j < p) (hr : r < a)
    (hk : k < b) : side p a b A r (b * j + k) = A (ix3 ⟨j, hj⟩ ⟨r, hr⟩ ⟨k, hk⟩) := by
  have hb : 0 < b := Nat.lt_of_le_of_lt (Nat.zero_le _) hk
  have e1 : (b * j + k) / b = j := by rw [Nat.mul_add_div hb, Nat.div_eq_of_lt hk, Nat.add_zero]
  have e2 : (b * j + k) % b = k := by rw [Nat.mul_add_mod, Nat.mod_eq_of_lt hk]
  unfold side
  simp only [e1, e2]
  exact dif_pos ⟨⟨hj, hk⟩, hr⟩

/-- Sums over consecutive blocks join. -/
theorem sum_blocks (f : Nat → EReal) (w : Nat) : ∀ n : Nat,
    ∑ b ∈ Finset.range n, ∑ r : Fin w, f (w * b + r) = ∑ R ∈ Finset.range (w * n), f R
  | 0 => by simp
  | n + 1 => by
    rw [Finset.sum_range_succ, sum_blocks f w n, Nat.mul_succ, Finset.sum_range_add, Finset.sum_range fun x => f (w * n + x)]

end Cert.Pieces
-- ==== Proof.Grads.lean ====
/-
  A weight's gradient as a sum over the rows of the batch, taken in eight blocks of 512 rows.
-/
module

public import proofs.«01_k».proof.Proof.Pieces

@[expose] public section

noncomputable section

namespace Cert.Grads

open Idealize.ShloMosaic Cert.Pieces

/-- The gradient of `h @ w` in the entry of `w` at row `a` and column `k`, for the cotangent `D`. -/
def grad (H D : Nat → Nat → EReal) (a k : Nat) : EReal := ∑ R : Fin 4096, H R a * D R k

/-- The first `n` blocks of its sum. -/
def part (H D : Nat → Nat → EReal) (n a k : Nat) : EReal :=
  ∑ s ∈ Finset.range n, ∑ r : Fin 512, H (512 * s + r) a * D (512 * s + r) k

/-- The first block alone. -/
theorem part_one (H D : Nat → Nat → EReal) (a k : Nat) :
    0 + ∑ r : Fin 512, H (512 * 0 + r) a * D (512 * 0 + r) k = part H D 1 a k := by
  rw [part, Finset.sum_range_one, zero_add]

/-- One block more. -/
theorem part_succ (H D : Nat → Nat → EReal) (n a k : Nat) :
    part H D n a k + ∑ r : Fin 512, H (512 * n + r) a * D (512 * n + r) k = part H D (n + 1) a k :=
  (Finset.sum_range_succ _ n).symm

/-- All eight blocks are the whole sum. -/
theorem part_all (H D : Nat → Nat → EReal) (a k : Nat) : part H D 8 a k = grad H D a k := by
  rw [part, sum_blocks (fun R => H R a * D R k) 512 8, grad, Finset.sum_range]

end Cert.Grads
-- ==== Proof.GradWin1.lean ====
/-
  The gradient of the odd layer's input projection: what the call leaves in its two results, and what the reference
  computes.
-/
module

public import proofs.«01_k».proof.Defs
public import proofs.«01_k».proof.Proof.Grads
public import proofs.«01_k».proof.Proof.Gen.GradWin1Ideal.Value
public import proofs.«01_k».proof.Proof.Gen.GradWin1RefIdeal.Run
public import proofs.«01_k».proof.Proof.Gen.GradWin1RefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.GradWin1Claim

open Cert.GradWin1Ideal Cert.GradWin1Ideal.Gen Cert.Pieces Cert.Grads

theorem z3 : (![0, 0, 0] : Fin 3 → Nat) = fun _ => 0 := by decide
theorem z2 : (![0, 0] : Fin 2 → Nat) = fun _ => 0 := by decide

/-- One block of rows added to the running sum. -/
def step (x0 : Vec Ideal S512x1024 .bf16) (x1 : Vec Ideal S512x2048 .bf16) (xo : Vec Ideal S1x1024x2048 .f32) :
    S1x1024x2048.Idx → EReal :=
  fun y => xo y + ∑ r : Fin 512, x0 (ix2 r (y 1)) * x1 (ix2 r (y 2))

/-- What the body stores: the running sum and a block's product. -/
theorem pay2 (xo : Vec Ideal S1x1024x2048 .f32) (x0 : Vec Ideal S512x1024 .bf16) (x1 : Vec Ideal S512x2048 .bf16) :
    k0_pay2 (F := Ideal) xo x0 x1 = step x0 x1 xo := by
  funext y
  rw [eq_ix3 y]
  unfold k0_pay2 step
  pointwise

/-- What the last point stores in the second result: the running sum itself. -/
theorem pay3 (xo : Vec Ideal S1x1024x2048 .f32) : k0_pay3 (F := Ideal) xo = xo := by
  funext y
  rw [eq_ix3 y]
  unfold k0_pay3
  pointwise

/-- The first store: zeros. -/
theorem pay1 : k0_pay1 (F := Ideal) = fun _ => (0 : EReal) := by
  funext y
  rw [eq_ix3 y]
  unfold k0_pay1
  pointwise

/-- The first point of a column block: the sum starts at zero. -/
theorem out_A (c : Dev nD) (i : grid0.Coords)
    (a2 : Memref sig .tc .vmem S512x1024 .bf16) (h2 : a2.IsWhole) (a3 : Memref sig .tc .vmem S512x2048 .bf16) (h3 : a3.IsWhole)
    (a4 : Memref sig .tc .vmem S1x1024x2048 .f32) (h4 : a4.IsWhole) (a5 : Memref sig .tc .vmem S1x1024x2048 .bf16) (h5 : a5.IsWhole)
    (hc0 : cond0_0 i) (hc1 : ¬cond0_1 i) (x0 : Vec Ideal S512x1024 .bf16) (x1 : Vec Ideal S512x2048 .bf16) :
    out0_A_2 c i a2 h2 a3 h3 a4 h4 a5 h5 hc0 hc1 x0 x1 = step x0 x1 (fun _ => 0) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x1024x2048) z3, View.readCov_unit_zero (S := S1x1024x2048) _ z3, pay2, pay1]
  simp only [View.readAt_eq_ld, h2.read_unread, h3.read_unread, View.ld_unit_zero (S := S512x1024) z2,
    View.ld_unit_zero (S := S512x2048) z2]

/-- A later point: the block's product is added to the sum. -/
theorem out_B (c : Dev nD) (i : grid0.Coords)
    (a2 : Memref sig .tc .vmem S512x1024 .bf16) (h2 : a2.IsWhole) (a3 : Memref sig .tc .vmem S512x2048 .bf16) (h3 : a3.IsWhole)
    (a4 : Memref sig .tc .vmem S1x1024x2048 .f32) (h4 : a4.IsWhole) (a5 : Memref sig .tc .vmem S1x1024x2048 .bf16) (h5 : a5.IsWhole)
    (hc0 : ¬cond0_0 i) (hc1 : ¬cond0_1 i) (x0 : Vec Ideal S512x1024 .bf16) (x1 : Vec Ideal S512x2048 .bf16)
    (xo : Vec Ideal S1x1024x2048 .f32) :
    out0_B_2 c i a2 h2 a3 h3 a4 h4 a5 h5 hc0 hc1 x0 x1 xo = step x0 x1 xo := by
  unfold out0_B_2
  rw [View.read_writes_eq_canon _ _ _ (cover0_B_2 c i a2 h2 a3 h3 a4 h4 a5 h5 hc0 hc1 x0 x1 xo)]
  unfold kernelRun0_B
  dsimp only
  sl_unfold_words
  rw [View.canon_unit_zero z3, pay2]
  simp only [View.readAt_eq_ld, h2.read_unread, h3.read_unread, h4.read_unread, View.ld_unit_zero (S := S512x1024) z2,
    View.ld_unit_zero (S := S512x2048) z2, View.ld_unit_zero (S := S1x1024x2048) z3]

/-- The last point of a column block: the same, -/
theorem out_C (c : Dev nD) (i : grid0.Coords)
    (a2 : Memref sig .tc .vmem S512x1024 .bf16) (h2 : a2.IsWhole) (a3 : Memref sig .tc .vmem S512x2048 .bf16) (h3 : a3.IsWhole)
    (a4 : Memref sig .tc .vmem S1x1024x2048 .f32) (h4 : a4.IsWhole) (a5 : Memref sig .tc .vmem S1x1024x2048 .bf16) (h5 : a5.IsWhole)
    (hc0 : ¬cond0_0 i) (hc1 : cond0_1 i) (x0 : Vec Ideal S512x1024 .bf16) (x1 : Vec Ideal S512x2048 .bf16)
    (xo : Vec Ideal S1x1024x2048 .f32) :
    out0_C_2 c i a2 h2 a3 h3 a4 h4 a5 h5 hc0 hc1 x0 x1 xo = step x0 x1 xo := by
  unfold out0_C_2
  rw [View.read_writes_eq_canon _ _ _ (cover0_C_2 c i a2 h2 a3 h3 a4 h4 a5 h5 hc0 hc1 x0 x1 xo)]
  unfold kernelRun0_C
  dsimp only
  sl_unfold_words
  rw [View.canon_unit_zero z3, pay2]
  simp only [View.readAt_eq_ld, h2.read_unread, h3.read_unread, h4.read_unread, View.ld_unit_zero (S := S512x1024) z2,
    View.ld_unit_zero (S := S512x2048) z2, View.ld_unit_zero (S := S1x1024x2048) z3]

/-- and the finished sum is copied to the second result. -/
theorem out_C' (c : Dev nD) (i : grid0.Coords)
    (a2 : Memref sig .tc .vmem S512x1024 .bf16) (h2 : a2.IsWhole) (a3 : Memref sig .tc .vmem S512x2048 .bf16) (h3 : a3.IsWhole)
    (a4 : Memref sig .tc .vmem S1x1024x2048 .f32) (h4 : a4.IsWhole) (a5 : Memref sig .tc .vmem S1x1024x2048 .bf16) (h5 : a5.IsWhole)
    (hc0 : ¬cond0_0 i) (hc1 : cond0_1 i) (x0 : Vec Ideal S512x1024 .bf16) (x1 : Vec Ideal S512x2048 .bf16)
    (xo : Vec Ideal S1x1024x2048 .f32) :
    out0_C_3 c i a2 h2 a3 h3 a4 h4 a5 h5 hc0 hc1 x0 x1 xo = step x0 x1 xo := by
  unfold out0_C_3
  rw [View.read_writes_eq_canon _ _ _ (cover0_C_3 c i a2 h2 a3 h3 a4 h4 a5 h5 hc0 hc1 x0 x1 xo)]
  unfold kernelRun0_C
  dsimp only
  sl_unfold_words
  rw [View.canon_unit_zero z3, View.readCov_unit_zero (S := S1x1024x2048) _ z3, pay3, pay2]
  simp only [View.readAt_eq_ld, h2.read_unread, h3.read_unread, h4.read_unread, View.ld_unit_zero (S := S512x1024) z2,
    View.ld_unit_zero (S := S512x2048) z2, View.ld_unit_zero (S := S1x1024x2048) z3]

variable (m : (ℓ : Loc nD τ sig) → Buf (Elt Ideal) ℓ) (c : Dev nD)

/-- The projection's input as a table. -/
def H : Nat → Nat → EReal := tab 4096 1024 (m ((c : Thread nD τ).loc main_arg0))

/-- The projection's cotangent as a table. -/
def D : Nat → Nat → EReal := tab 4096 8192 (m ((c : Thread nD τ).loc main_arg1))

theorem index0 (t : Fin cfg0.N) : win0_0.index t = ![t.val % 8, 0] := by revert t; decide +kernel
theorem index1 (t : Fin cfg0.N) : win0_1.index t = ![t.val % 8, t.val / 8] := by revert t; decide +kernel
theorem index2 (t : Fin cfg0.N) : win0_2.index t = ![t.val / 8, 0, 0] := by revert t; decide +kernel
theorem index3 (t : Fin cfg0.N) : win0_3.index t = ![t.val / 8, 0, 0] := by revert t; decide +kernel

/-- The rows of the input that a point reads. -/
theorem block0 (t : Fin cfg0.N) (r : Fin 512) (a : Fin 1024) : iblk m c 0 t (ix2 r a) = H m c (512 * (t.val % 8) + r) a := by
  rw [H, tab_at _ (by have := r.isLt; omega) a.isLt]
  unfold iblk
  rw [View.read_apply]
  refine (congrFun (V_main_arg0 m c) _).trans (congrArg (m ((c : Thread nD τ).loc main_arg0)) ?_)
  funext k; apply Fin.ext
  match k with
  | ⟨0, _⟩ => show win0_0.index t 0 * 512 + 1 * r.val = _; rw [index0]; show t.val % 8 * 512 + 1 * _ = 512 * _ + _; omega
  | ⟨1, _⟩ => show win0_0.index t 1 * 1024 + 1 * a.val = _; rw [index0]; show 0 * 1024 + 1 * _ = a.val; omega

/-- The rows and columns of the cotangent that a point reads. -/
theorem block1 (t : Fin cfg0.N) (r : Fin 512) (b : Fin 2048) :
    iblk m c 1 t (ix2 r b) = D m c (512 * (t.val % 8) + r) (2048 * (t.val / 8) + b) := by
  have hN : t.val < 32 := lt_of_lt_of_eq t.isLt N_0
  rw [D, tab_at _ (by have := r.isLt; omega) (by have := b.isLt; omega)]
  unfold iblk
  rw [View.read_apply]
  refine (congrFun (V_main_arg1 m c) _).trans (congrArg (m ((c : Thread nD τ).loc main_arg1)) ?_)
  funext k; apply Fin.ext
  match k with
  | ⟨0, _⟩ => show win0_1.index t 0 * 512 + 1 * r.val = _; rw [index1]; show t.val % 8 * 512 + 1 * _ = 512 * _ + _; omega
  | ⟨1, _⟩ => show win0_1.index t 1 * 2048 + 1 * b.val = _; rw [index1]; show t.val / 8 * 2048 + 1 * _ = 2048 * _ + _; omega

/-- A point's blocks added to a running sum. -/
theorem step_at (t : Fin cfg0.N) (xo : Vec Ideal S1x1024x2048 .f32) :
    step (iblk m c 0 t) (iblk m c 1 t) xo = fun y => xo y + ∑ r : Fin 512,
      H m c (512 * (t.val % 8) + r) (y 1).val * D m c (512 * (t.val % 8) + r) (2048 * (t.val / 8) + (y 2).val) := by
  funext y
  unfold step
  refine congrArg (xo y + ·) (Finset.sum_congr rfl fun r _ => ?_)
  exact congrArg₂ (· * ·) (block0 m c t r (y 1)) (block1 m c t r (y 2))

/-- The running sum that a point leaves, -/
def sums (t : Nat) : S1x1024x2048.Idx → EReal :=
  fun y => part (H m c) (D m c) (t % 8 + 1) (y 1).val (2048 * (t / 8) + (y 2).val)

/-- after a first point, -/
theorem sums_first (t : Fin cfg0.N) (h : t.val % 8 = 0) :
    step (iblk m c 0 t) (iblk m c 1 t) (fun _ => 0) = sums m c t.val := by
  rw [step_at]
  funext y
  unfold sums
  rw [h]
  exact part_one _ _ _ _

/-- and after a later one. -/
theorem sums_next (t : Fin cfg0.N) (h : ¬t.val % 8 = 0) :
    step (iblk m c 0 t) (iblk m c 1 t) (sums m c (t.val - 1)) = sums m c t.val := by
  rw [step_at]
  funext y
  unfold sums
  rw [show (t.val - 1) % 8 + 1 = t.val % 8 by omega, show (t.val - 1) / 8 = t.val / 8 by omega]
  exact part_succ _ _ _ _ _

/-- The first result's staging buffer after a first point of a column block, -/
theorem point_A (t : Fin cfg0.N) (h0 : t.val % 8 = 0) : (outsAt0 m c t.val t.isLt).1 = sums m c t.val := by
  rw [outsAt0_A m c t h0 (by omega)]
  dsimp only
  rw [out_A, sums_first m c t h0]

/-- and after a later point, over what the point before left there; -/
theorem point_B (t : Fin cfg0.N) (h0 : ¬t.val % 8 = 0)
    (ih : (outsAt0 m c (t.val - 1) (Nat.lt_of_le_of_lt (Nat.sub_le _ _) t.isLt)).1 = sums m c (t.val - 1)) :
    (outsAt0 m c t.val t.isLt).1 = sums m c t.val := by
  by_cases h1 : t.val % 8 = 7
  · rw [outsAt0_C m c t h0 h1]
    dsimp only
    rw [out_C, ih, sums_next m c t h0]
  · rw [outsAt0_B m c t h0 h1]
    dsimp only
    rw [out_B, ih, sums_next m c t h0]

/-- so it holds the running sum after every point. -/
theorem after2 : ∀ (n : Nat) (h : n < cfg0.N), (outsAt0 m c n h).1 = sums m c n
  | 0, h => point_A m c ⟨0, h⟩ rfl
  | n + 1, h => by
    by_cases h0 : (n + 1) % 8 = 0
    · exact point_A m c ⟨n + 1, h⟩ h0
    · exact point_B m c ⟨n + 1, h⟩ h0 (after2 n (Nat.lt_of_succ_lt h))

/-- The second result's buffer holds it after the last point of a column block. -/
theorem after3 (t : Fin cfg0.N) (h : t.val % 8 = 7) : (outsAt0 m c t.val t.isLt).2 = sums m c t.val := by
  have h0 : ¬t.val % 8 = 0 := by omega
  rw [outsAt0_C m c t h0 h]
  dsimp only
  rw [out_C', after2, sums_next m c t h0]

/-- The gradient, each chip's columns together. -/
def result : S4x1024x2048.Idx → EReal := fun y => grad (H m c) (D m c) (y 1).val (2048 * (y 0).val + (y 2).val)

/-- The first result. -/
theorem final2 : (dats m 0 c).arrAt 2 cfg0.N = result m c := by
  refine (dats m 0 c).arrAt_eq_of_covers 2 _ (by decide +kernel) fun t hf y => ?_
  have h7 := (flush0_2 t).1 hf
  blk_simp
  rw [after0_2, after2]
  unfold sums result
  rw [h7, ← part_all]
  blk_simp [index2]

/-- The second result. -/
theorem final3 : (dats m 0 c).arrAt 3 cfg0.N = result m c := by
  refine (dats m 0 c).arrAt_eq_of_covers 3 _ (by decide +kernel) fun t hf y => ?_
  have h7 := (flush0_3 t).1 hf
  blk_simp
  rw [after0_3, after3 m c t h7]
  unfold sums result
  rw [h7, ← part_all]
  blk_simp [index3]

/-- The reference's first result is the same sum, with its factors the other way round. -/
theorem reference_eq (x0 : (⟨Cert.GradWin1RefIdeal.S4096x1024, .bf16⟩ : BufTy).Contents (Elt Ideal))
    (x1 : (⟨Cert.GradWin1RefIdeal.S4096x8192, .bf16⟩ : BufTy).Contents (Elt Ideal)) :
    Cert.GradWin1RefIdeal.Read.val_main_v7 (F := Ideal) x0 x1 = fun y : S4x1024x2048.Idx =>
      grad (tab 4096 1024 x0) (tab 4096 8192 x1) (y 1).val (2048 * (y 0).val + (y 2).val) := by
  funext y
  rw [eq_ix3 y]
  generalize y 0 = j
  generalize y 1 = a
  generalize y 2 = b
  pointwise [Cert.GradWin1RefIdeal.Read.val_main_v7, Cert.GradWin1RefIdeal.Read.val_main_v6,
    Cert.GradWin1RefIdeal.Read.val_main_v5, Cert.GradWin1RefIdeal.Read.val_main_v4]
  have hj : j.val < 4 := j.isLt
  have hb : b.val < 2048 := b.isLt
  rw [Nat.mul_comm 2048, grad]
  refine Finset.sum_congr rfl fun R _ => (mul_comm _ _).trans ?_
  rw [tab_at x0 R.isLt a.isLt, tab_at x1 R.isLt (by omega)]
  rfl

/-- The call and the reference end with the same two arrays. -/
theorem algebraic : Cert.algebraic_GradWin1Ideal_GradWin1RefIdeal := by
  intro m g m' g' hpre hargs
  refine ⟨fun c => result m c, fun c => result m c, ?_, ?_⟩
  · refine (θ_run _ _ _).mono (fun r h c => ?_) (Cert.GradWin1Ideal.Value.run_blocks (F := Ideal) m g)
    obtain ⟨e0, e1, hk⟩ := h c
    exact ⟨e0.trans (final2 m c), e1.trans (final3 m c), hk⟩
  · refine (θ_run _ _ _).mono (fun r h c => ?_) (Cert.GradWin1RefIdeal.Value.run (F := Ideal) m' g')
    obtain ⟨e0, e1, hk⟩ := h c
    obtain ⟨a0, a1⟩ := hargs c
    have v := reference_eq (m ((c.tc : Thread _ _).loc main_arg0)) (m ((c.tc : Thread _ _).loc main_arg1))
    refine ⟨e0.trans (Eq.trans ?_ v), e1.trans (Eq.trans ?_ v), hk⟩
    · rw [← a0, ← a1]; rfl
    · rw [← a0, ← a1]; rfl

/-- The reference runs, and ends with its arguments unchanged and its counters at zero: it declares none. -/
theorem frame_reference : Cert.quiescent_GradWin1RefIdeal := fun m g _ =>
  (θ_run _ _ _).mono (fun r h => ⟨fun c => (h c).2.2, sem_eq_zero_of_no_sems (by decide) _⟩)
    (Cert.GradWin1RefIdeal.Value.run (F := Ideal) m g)

end Cert.GradWin1Claim
-- ==== Proof.GradWin0.lean ====
/-
  The gradient of the even layer's input projection: what the call leaves in its two results, and what the reference
  computes.
-/
module

public import proofs.«01_k».proof.Defs
public import proofs.«01_k».proof.Proof.Grads
public import proofs.«01_k».proof.Proof.Gen.GradWin0Ideal.Value
public import proofs.«01_k».proof.Proof.Gen.GradWin0RefIdeal.Run
public import proofs.«01_k».proof.Proof.Gen.GradWin0RefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.GradWin0Claim

open Cert.GradWin0Ideal Cert.GradWin0Ideal.Gen Cert.Pieces Cert.Grads

theorem z3 : (![0, 0, 0] : Fin 3 → Nat) = fun _ => 0 := by decide
theorem z2 : (![0, 0] : Fin 2 → Nat) = fun _ => 0 := by decide

/-- One block of rows added to the running sum. -/
def step (x0 : Vec Ideal S512x1024 .bf16) (x1 : Vec Ideal S512x1536 .bf16) (xo : Vec Ideal S1x1024x1536 .f32) :
    S1x1024x1536.Idx → EReal :=
  fun y => xo y + ∑ r : Fin 512, x0 (ix2 r (y 1)) * x1 (ix2 r (y 2))

/-- What the body stores: the running sum and a block's product. -/
theorem pay2 (xo : Vec Ideal S1x1024x1536 .f32) (x0 : Vec Ideal S512x1024 .bf16) (x1 : Vec Ideal S512x1536 .bf16) :
    k0_pay2 (F := Ideal) xo x0 x1 = step x0 x1 xo := by
  funext y
  rw [eq_ix3 y]
  unfold k0_pay2 step
  pointwise

/-- What the last point stores in the second result: the running sum itself. -/
theorem pay3 (xo : Vec Ideal S1x1024x1536 .f32) : k0_pay3 (F := Ideal) xo = xo := by
  funext y
  rw [eq_ix3 y]
  unfold k0_pay3
  pointwise

/-- The first store: zeros. -/
theorem pay1 : k0_pay1 (F := Ideal) = fun _ => (0 : EReal) := by
  funext y
  rw [eq_ix3 y]
  unfold k0_pay1
  pointwise

/-- The first point of a column block: the sum starts at zero. -/
theorem out_A (c : Dev nD) (i : grid0.Coords)
    (a2 : Memref sig .tc .vmem S512x1024 .bf16) (h2 : a2.IsWhole) (a3 : Memref sig .tc .vmem S512x1536 .bf16) (h3 : a3.IsWhole)
    (a4 : Memref sig .tc .vmem S1x1024x1536 .f32) (h4 : a4.IsWhole) (a5 : Memref sig .tc .vmem S1x1024x1536 .bf16) (h5 : a5.IsWhole)
    (hc0 : cond0_0 i) (hc1 : ¬cond0_1 i) (x0 : Vec Ideal S512x1024 .bf16) (x1 : Vec Ideal S512x1536 .bf16) :
    out0_A_2 c i a2 h2 a3 h3 a4 h4 a5 h5 hc0 hc1 x0 x1 = step x0 x1 (fun _ => 0) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x1024x1536) z3, View.readCov_unit_zero (S := S1x1024x1536) _ z3, pay2, pay1]
  simp only [View.readAt_eq_ld, h2.read_unread, h3.read_unread, View.ld_unit_zero (S := S512x1024) z2,
    View.ld_unit_zero (S := S512x1536) z2]

/-- A later point: the block's product is added to the sum. -/
theorem out_B (c : Dev nD) (i : grid0.Coords)
    (a2 : Memref sig .tc .vmem S512x1024 .bf16) (h2 : a2.IsWhole) (a3 : Memref sig .tc .vmem S512x1536 .bf16) (h3 : a3.IsWhole)
    (a4 : Memref sig .tc .vmem S1x1024x1536 .f32) (h4 : a4.IsWhole) (a5 : Memref sig .tc .vmem S1x1024x1536 .bf16) (h5 : a5.IsWhole)
    (hc0 : ¬cond0_0 i) (hc1 : ¬cond0_1 i) (x0 : Vec Ideal S512x1024 .bf16) (x1 : Vec Ideal S512x1536 .bf16)
    (xo : Vec Ideal S1x1024x1536 .f32) :
    out0_B_2 c i a2 h2 a3 h3 a4 h4 a5 h5 hc0 hc1 x0 x1 xo = step x0 x1 xo := by
  unfold out0_B_2
  rw [View.read_writes_eq_canon _ _ _ (cover0_B_2 c i a2 h2 a3 h3 a4 h4 a5 h5 hc0 hc1 x0 x1 xo)]
  unfold kernelRun0_B
  dsimp only
  sl_unfold_words
  rw [View.canon_unit_zero z3, pay2]
  simp only [View.readAt_eq_ld, h2.read_unread, h3.read_unread, h4.read_unread, View.ld_unit_zero (S := S512x1024) z2,
    View.ld_unit_zero (S := S512x1536) z2, View.ld_unit_zero (S := S1x1024x1536) z3]

/-- The last point of a column block: the same, -/
theorem out_C (c : Dev nD) (i : grid0.Coords)
    (a2 : Memref sig .tc .vmem S512x1024 .bf16) (h2 : a2.IsWhole) (a3 : Memref sig .tc .vmem S512x1536 .bf16) (h3 : a3.IsWhole)
    (a4 : Memref sig .tc .vmem S1x1024x1536 .f32) (h4 : a4.IsWhole) (a5 : Memref sig .tc .vmem S1x1024x1536 .bf16) (h5 : a5.IsWhole)
    (hc0 : ¬cond0_0 i) (hc1 : cond0_1 i) (x0 : Vec Ideal S512x1024 .bf16) (x1 : Vec Ideal S512x1536 .bf16)
    (xo : Vec Ideal S1x1024x1536 .f32) :
    out0_C_2 c i a2 h2 a3 h3 a4 h4 a5 h5 hc0 hc1 x0 x1 xo = step x0 x1 xo := by
  unfold out0_C_2
  rw [View.read_writes_eq_canon _ _ _ (cover0_C_2 c i a2 h2 a3 h3 a4 h4 a5 h5 hc0 hc1 x0 x1 xo)]
  unfold kernelRun0_C
  dsimp only
  sl_unfold_words
  rw [View.canon_unit_zero z3, pay2]
  simp only [View.readAt_eq_ld, h2.read_unread, h3.read_unread, h4.read_unread, View.ld_unit_zero (S := S512x1024) z2,
    View.ld_unit_zero (S := S512x1536) z2, View.ld_unit_zero (S := S1x1024x1536) z3]

/-- and the finished sum is copied to the second result. -/
theorem out_C' (c : Dev nD) (i : grid0.Coords)
    (a2 : Memref sig .tc .vmem S512x1024 .bf16) (h2 : a2.IsWhole) (a3 : Memref sig .tc .vmem S512x1536 .bf16) (h3 : a3.IsWhole)
    (a4 : Memref sig .tc .vmem S1x1024x1536 .f32) (h4 : a4.IsWhole) (a5 : Memref sig .tc .vmem S1x1024x1536 .bf16) (h5 : a5.IsWhole)
    (hc0 : ¬cond0_0 i) (hc1 : cond0_1 i) (x0 : Vec Ideal S512x1024 .bf16) (x1 : Vec Ideal S512x1536 .bf16)
    (xo : Vec Ideal S1x1024x1536 .f32) :
    out0_C_3 c i a2 h2 a3 h3 a4 h4 a5 h5 hc0 hc1 x0 x1 xo = step x0 x1 xo := by
  unfold out0_C_3
  rw [View.read_writes_eq_canon _ _ _ (cover0_C_3 c i a2 h2 a3 h3 a4 h4 a5 h5 hc0 hc1 x0 x1 xo)]
  unfold kernelRun0_C
  dsimp only
  sl_unfold_words
  rw [View.canon_unit_zero z3, View.readCov_unit_zero (S := S1x1024x1536) _ z3, pay3, pay2]
  simp only [View.readAt_eq_ld, h2.read_unread, h3.read_unread, h4.read_unread, View.ld_unit_zero (S := S512x1024) z2,
    View.ld_unit_zero (S := S512x1536) z2, View.ld_unit_zero (S := S1x1024x1536) z3]

variable (m : (ℓ : Loc nD τ sig) → Buf (Elt Ideal) ℓ) (c : Dev nD)

/-- The projection's input as a table. -/
def H : Nat → Nat → EReal := tab 4096 1024 (m ((c : Thread nD τ).loc main_arg0))

/-- The projection's cotangent as a table. -/
def D : Nat → Nat → EReal := tab 4096 6144 (m ((c : Thread nD τ).loc main_arg1))

theorem index0 (t : Fin cfg0.N) : win0_0.index t = ![t.val % 8, 0] := by revert t; decide +kernel
theorem index1 (t : Fin cfg0.N) : win0_1.index t = ![t.val % 8, t.val / 8] := by revert t; decide +kernel
theorem index2 (t : Fin cfg0.N) : win0_2.index t = ![t.val / 8, 0, 0] := by revert t; decide +kernel
theorem index3 (t : Fin cfg0.N) : win0_3.index t = ![t.val / 8, 0, 0] := by revert t; decide +kernel

/-- The rows of the input that a point reads. -/
theorem block0 (t : Fin cfg0.N) (r : Fin 512) (a : Fin 1024) : iblk m c 0 t (ix2 r a) = H m c (512 * (t.val % 8) + r) a := by
  rw [H, tab_at _ (by have := r.isLt; omega) a.isLt]
  unfold iblk
  rw [View.read_apply]
  refine (congrFun (V_main_arg0 m c) _).trans (congrArg (m ((c : Thread nD τ).loc main_arg0)) ?_)
  funext k; apply Fin.ext
  match k with
  | ⟨0, _⟩ => show win0_0.index t 0 * 512 + 1 * r.val = _; rw [index0]; show t.val % 8 * 512 + 1 * _ = 512 * _ + _; omega
  | ⟨1, _⟩ => show win0_0.index t 1 * 1024 + 1 * a.val = _; rw [index0]; show 0 * 1024 + 1 * _ = a.val; omega

/-- The rows and columns of the cotangent that a point reads. -/
theorem block1 (t : Fin cfg0.N) (r : Fin 512) (b : Fin 1536) :
    iblk m c 1 t (ix2 r b) = D m c (512 * (t.val % 8) + r) (1536 * (t.val / 8) + b) := by
  have hN : t.val < 32 := lt_of_lt_of_eq t.isLt N_0
  rw [D, tab_at _ (by have := r.isLt; omega) (by have := b.isLt; omega)]
  unfold iblk
  rw [View.read_apply]
  refine (congrFun (V_main_arg1 m c) _).trans (congrArg (m ((c : Thread nD τ).loc main_arg1)) ?_)
  funext k; apply Fin.ext
  match k with
  | ⟨0, _⟩ => show win0_1.index t 0 * 512 + 1 * r.val = _; rw [index1]; show t.val % 8 * 512 + 1 * _ = 512 * _ + _; omega
  | ⟨1, _⟩ => show win0_1.index t 1 * 1536 + 1 * b.val = _; rw [index1]; show t.val / 8 * 1536 + 1 * _ = 1536 * _ + _; omega

/-- A point's blocks added to a running sum. -/
theorem step_at (t : Fin cfg0.N) (xo : Vec Ideal S1x1024x1536 .f32) :
    step (iblk m c 0 t) (iblk m c 1 t) xo = fun y => xo y + ∑ r : Fin 512,
      H m c (512 * (t.val % 8) + r) (y 1).val * D m c (512 * (t.val % 8) + r) (1536 * (t.val / 8) + (y 2).val) := by
  funext y
  unfold step
  refine congrArg (xo y + ·) (Finset.sum_congr rfl fun r _ => ?_)
  exact congrArg₂ (· * ·) (block0 m c t r (y 1)) (block1 m c t r (y 2))

/-- The running sum that a point leaves, -/
def sums (t : Nat) : S1x1024x1536.Idx → EReal :=
  fun y => part (H m c) (D m c) (t % 8 + 1) (y 1).val (1536 * (t / 8) + (y 2).val)

/-- after a first point, -/
theorem sums_first (t : Fin cfg0.N) (h : t.val % 8 = 0) :
    step (iblk m c 0 t) (iblk m c 1 t) (fun _ => 0) = sums m c t.val := by
  rw [step_at]
  funext y
  unfold sums
  rw [h]
  exact part_one _ _ _ _

/-- and after a later one. -/
theorem sums_next (t : Fin cfg0.N) (h : ¬t.val % 8 = 0) :
    step (iblk m c 0 t) (iblk m c 1 t) (sums m c (t.val - 1)) = sums m c t.val := by
  rw [step_at]
  funext y
  unfold sums
  rw [show (t.val - 1) % 8 + 1 = t.val % 8 by omega, show (t.val - 1) / 8 = t.val / 8 by omega]
  exact part_succ _ _ _ _ _

/-- The first result's staging buffer after a first point of a column block, -/
theorem point_A (t : Fin cfg0.N) (h0 : t.val % 8 = 0) : (outsAt0 m c t.val t.isLt).1 = sums m c t.val := by
  rw [outsAt0_A m c t h0 (by omega)]
  dsimp only
  rw [out_A, sums_first m c t h0]

/-- and after a later point, over what the point before left there; -/
theorem point_B (t : Fin cfg0.N) (h0 : ¬t.val % 8 = 0)
    (ih : (outsAt0 m c (t.val - 1) (Nat.lt_of_le_of_lt (Nat.sub_le _ _) t.isLt)).1 = sums m c (t.val - 1)) :
    (outsAt0 m c t.val t.isLt).1 = sums m c t.val := by
  by_cases h1 : t.val % 8 = 7
  · rw [outsAt0_C m c t h0 h1]
    dsimp only
    rw [out_C, ih, sums_next m c t h0]
  · rw [outsAt0_B m c t h0 h1]
    dsimp only
    rw [out_B, ih, sums_next m c t h0]

/-- so it holds the running sum after every point. -/
theorem after2 : ∀ (n : Nat) (h : n < cfg0.N), (outsAt0 m c n h).1 = sums m c n
  | 0, h => point_A m c ⟨0, h⟩ rfl
  | n + 1, h => by
    by_cases h0 : (n + 1) % 8 = 0
    · exact point_A m c ⟨n + 1, h⟩ h0
    · exact point_B m c ⟨n + 1, h⟩ h0 (after2 n (Nat.lt_of_succ_lt h))

/-- The second result's buffer holds it after the last point of a column block. -/
theorem after3 (t : Fin cfg0.N) (h : t.val % 8 = 7) : (outsAt0 m c t.val t.isLt).2 = sums m c t.val := by
  have h0 : ¬t.val % 8 = 0 := by omega
  rw [outsAt0_C m c t h0 h]
  dsimp only
  rw [out_C', after2, sums_next m c t h0]

/-- The gradient, each chip's columns together. -/
def result : S4x1024x1536.Idx → EReal := fun y => grad (H m c) (D m c) (y 1).val (1536 * (y 0).val + (y 2).val)

/-- The first result. -/
theorem final2 : (dats m 0 c).arrAt 2 cfg0.N = result m c := by
  refine (dats m 0 c).arrAt_eq_of_covers 2 _ (by decide +kernel) fun t hf y => ?_
  have h7 := (flush0_2 t).1 hf
  blk_simp
  rw [after0_2, after2]
  unfold sums result
  rw [h7, ← part_all]
  blk_simp [index2]

/-- The second result. -/
theorem final3 : (dats m 0 c).arrAt 3 cfg0.N = result m c := by
  refine (dats m 0 c).arrAt_eq_of_covers 3 _ (by decide +kernel) fun t hf y => ?_
  have h7 := (flush0_3 t).1 hf
  blk_simp
  rw [after0_3, after3 m c t h7]
  unfold sums result
  rw [h7, ← part_all]
  blk_simp [index3]

/-- The reference's first result is the same sum, with its factors the other way round. -/
theorem reference_eq (x0 : (⟨Cert.GradWin0RefIdeal.S4096x1024, .bf16⟩ : BufTy).Contents (Elt Ideal))
    (x1 : (⟨Cert.GradWin0RefIdeal.S4096x6144, .bf16⟩ : BufTy).Contents (Elt Ideal)) :
    Cert.GradWin0RefIdeal.Read.val_main_v7 (F := Ideal) x0 x1 = fun y : S4x1024x1536.Idx =>
      grad (tab 4096 1024 x0) (tab 4096 6144 x1) (y 1).val (1536 * (y 0).val + (y 2).val) := by
  funext y
  rw [eq_ix3 y]
  generalize y 0 = j
  generalize y 1 = a
  generalize y 2 = b
  pointwise [Cert.GradWin0RefIdeal.Read.val_main_v7, Cert.GradWin0RefIdeal.Read.val_main_v6,
    Cert.GradWin0RefIdeal.Read.val_main_v5, Cert.GradWin0RefIdeal.Read.val_main_v4]
  have hj : j.val < 4 := j.isLt
  have hb : b.val < 1536 := b.isLt
  rw [Nat.mul_comm 1536, grad]
  refine Finset.sum_congr rfl fun R _ => (mul_comm _ _).trans ?_
  rw [tab_at x0 R.isLt a.isLt, tab_at x1 R.isLt (by omega)]
  rfl

/-- The call and the reference end with the same two arrays. -/
theorem algebraic : Cert.algebraic_GradWin0Ideal_GradWin0RefIdeal := by
  intro m g m' g' hpre hargs
  refine ⟨fun c => result m c, fun c => result m c, ?_, ?_⟩
  · refine (θ_run _ _ _).mono (fun r h c => ?_) (Cert.GradWin0Ideal.Value.run_blocks (F := Ideal) m g)
    obtain ⟨e0, e1, hk⟩ := h c
    exact ⟨e0.trans (final2 m c), e1.trans (final3 m c), hk⟩
  · refine (θ_run _ _ _).mono (fun r h c => ?_) (Cert.GradWin0RefIdeal.Value.run (F := Ideal) m' g')
    obtain ⟨e0, e1, hk⟩ := h c
    obtain ⟨a0, a1⟩ := hargs c
    have v := reference_eq (m ((c.tc : Thread _ _).loc main_arg0)) (m ((c.tc : Thread _ _).loc main_arg1))
    refine ⟨e0.trans (Eq.trans ?_ v), e1.trans (Eq.trans ?_ v), hk⟩
    · rw [← a0, ← a1]; rfl
    · rw [← a0, ← a1]; rfl

/-- The reference runs, and ends with its arguments unchanged and its counters at zero: it declares none. -/
theorem frame_reference : Cert.quiescent_GradWin0RefIdeal := fun m g _ =>
  (θ_run _ _ _).mono (fun r h => ⟨fun c => (h c).2.2, sem_eq_zero_of_no_sems (by decide) _⟩)
    (Cert.GradWin0RefIdeal.Value.run (F := Ideal) m g)

end Cert.GradWin0Claim
-- ==== Proof.GradWout.lean ====
/-
  The gradient of an output projection: what the call leaves in its two results, and what the reference
  computes.
-/
module

public import proofs.«01_k».proof.Defs
public import proofs.«01_k».proof.Proof.Grads
public import proofs.«01_k».proof.Proof.Gen.GradWoutIdeal.Value
public import proofs.«01_k».proof.Proof.Gen.GradWoutRefIdeal.Run
public import proofs.«01_k».proof.Proof.Gen.GradWoutRefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.GradWoutClaim

open Cert.GradWoutIdeal Cert.GradWoutIdeal.Gen Cert.Pieces Cert.Grads

theorem z3 : (![0, 0, 0] : Fin 3 → Nat) = fun _ => 0 := by decide
theorem z2 : (![0, 0] : Fin 2 → Nat) = fun _ => 0 := by decide

/-- One block of rows added to the running sum. -/
def step (x0 : Vec Ideal S512x512 .bf16) (x1 : Vec Ideal S512x1024 .bf16) (xo : Vec Ideal S1x512x1024 .f32) :
    S1x512x1024.Idx → EReal :=
  fun y => xo y + ∑ r : Fin 512, x0 (ix2 r (y 1)) * x1 (ix2 r (y 2))

/-- What the body stores: the running sum and a block's product. -/
theorem pay2 (xo : Vec Ideal S1x512x1024 .f32) (x0 : Vec Ideal S512x512 .bf16) (x1 : Vec Ideal S512x1024 .bf16) :
    k0_pay2 (F := Ideal) xo x0 x1 = step x0 x1 xo := by
  funext y
  rw [eq_ix3 y]
  unfold k0_pay2 step
  pointwise

/-- What the last point stores in the second result: the running sum itself. -/
theorem pay3 (xo : Vec Ideal S1x512x1024 .f32) : k0_pay3 (F := Ideal) xo = xo := by
  funext y
  rw [eq_ix3 y]
  unfold k0_pay3
  pointwise

/-- The first store: zeros. -/
theorem pay1 : k0_pay1 (F := Ideal) = fun _ => (0 : EReal) := by
  funext y
  rw [eq_ix3 y]
  unfold k0_pay1
  pointwise

/-- The first point of a row block: the sum starts at zero. -/
theorem out_A (c : Dev nD) (i : grid0.Coords)
    (a2 : Memref sig .tc .vmem S512x512 .bf16) (h2 : a2.IsWhole) (a3 : Memref sig .tc .vmem S512x1024 .bf16) (h3 : a3.IsWhole)
    (a4 : Memref sig .tc .vmem S1x512x1024 .f32) (h4 : a4.IsWhole) (a5 : Memref sig .tc .vmem S1x512x1024 .bf16) (h5 : a5.IsWhole)
    (hc0 : cond0_0 i) (hc1 : ¬cond0_1 i) (x0 : Vec Ideal S512x512 .bf16) (x1 : Vec Ideal S512x1024 .bf16) :
    out0_A_2 c i a2 h2 a3 h3 a4 h4 a5 h5 hc0 hc1 x0 x1 = step x0 x1 (fun _ => 0) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x512x1024) z3, View.readCov_unit_zero (S := S1x512x1024) _ z3, pay2, pay1]
  simp only [View.readAt_eq_ld, h2.read_unread, h3.read_unread, View.ld_unit_zero (S := S512x512) z2,
    View.ld_unit_zero (S := S512x1024) z2]

/-- A later point: the block's product is added to the sum. -/
theorem out_B (c : Dev nD) (i : grid0.Coords)
    (a2 : Memref sig .tc .vmem S512x512 .bf16) (h2 : a2.IsWhole) (a3 : Memref sig .tc .vmem S512x1024 .bf16) (h3 : a3.IsWhole)
    (a4 : Memref sig .tc .vmem S1x512x1024 .f32) (h4 : a4.IsWhole) (a5 : Memref sig .tc .vmem S1x512x1024 .bf16) (h5 : a5.IsWhole)
    (hc0 : ¬cond0_0 i) (hc1 : ¬cond0_1 i) (x0 : Vec Ideal S512x512 .bf16) (x1 : Vec Ideal S512x1024 .bf16)
    (xo : Vec Ideal S1x512x1024 .f32) :
    out0_B_2 c i a2 h2 a3 h3 a4 h4 a5 h5 hc0 hc1 x0 x1 xo = step x0 x1 xo := by
  unfold out0_B_2
  rw [View.read_writes_eq_canon _ _ _ (cover0_B_2 c i a2 h2 a3 h3 a4 h4 a5 h5 hc0 hc1 x0 x1 xo)]
  unfold kernelRun0_B
  dsimp only
  sl_unfold_words
  rw [View.canon_unit_zero z3, pay2]
  simp only [View.readAt_eq_ld, h2.read_unread, h3.read_unread, h4.read_unread, View.ld_unit_zero (S := S512x512) z2,
    View.ld_unit_zero (S := S512x1024) z2, View.ld_unit_zero (S := S1x512x1024) z3]

/-- The last point of a row block: the same, -/
theorem out_C (c : Dev nD) (i : grid0.Coords)
    (a2 : Memref sig .tc .vmem S512x512 .bf16) (h2 : a2.IsWhole) (a3 : Memref sig .tc .vmem S512x1024 .bf16) (h3 : a3.IsWhole)
    (a4 : Memref sig .tc .vmem S1x512x1024 .f32) (h4 : a4.IsWhole) (a5 : Memref sig .tc .vmem S1x512x1024 .bf16) (h5 : a5.IsWhole)
    (hc0 : ¬cond0_0 i) (hc1 : cond0_1 i) (x0 : Vec Ideal S512x512 .bf16) (x1 : Vec Ideal S512x1024 .bf16)
    (xo : Vec Ideal S1x512x1024 .f32) :
    out0_C_2 c i a2 h2 a3 h3 a4 h4 a5 h5 hc0 hc1 x0 x1 xo = step x0 x1 xo := by
  unfold out0_C_2
  rw [View.read_writes_eq_canon _ _ _ (cover0_C_2 c i a2 h2 a3 h3 a4 h4 a5 h5 hc0 hc1 x0 x1 xo)]
  unfold kernelRun0_C
  dsimp only
  sl_unfold_words
  rw [View.canon_unit_zero z3, pay2]
  simp only [View.readAt_eq_ld, h2.read_unread, h3.read_unread, h4.read_unread, View.ld_unit_zero (S := S512x512) z2,
    View.ld_unit_zero (S := S512x1024) z2, View.ld_unit_zero (S := S1x512x1024) z3]

/-- and the finished sum is copied to the second result. -/
theorem out_C' (c : Dev nD) (i : grid0.Coords)
    (a2 : Memref sig .tc .vmem S512x512 .bf16) (h2 : a2.IsWhole) (a3 : Memref sig .tc .vmem S512x1024 .bf16) (h3 : a3.IsWhole)
    (a4 : Memref sig .tc .vmem S1x512x1024 .f32) (h4 : a4.IsWhole) (a5 : Memref sig .tc .vmem S1x512x1024 .bf16) (h5 : a5.IsWhole)
    (hc0 : ¬cond0_0 i) (hc1 : cond0_1 i) (x0 : Vec Ideal S512x512 .bf16) (x1 : Vec Ideal S512x1024 .bf16)
    (xo : Vec Ideal S1x512x1024 .f32) :
    out0_C_3 c i a2 h2 a3 h3 a4 h4 a5 h5 hc0 hc1 x0 x1 xo = step x0 x1 xo := by
  unfold out0_C_3
  rw [View.read_writes_eq_canon _ _ _ (cover0_C_3 c i a2 h2 a3 h3 a4 h4 a5 h5 hc0 hc1 x0 x1 xo)]
  unfold kernelRun0_C
  dsimp only
  sl_unfold_words
  rw [View.canon_unit_zero z3, View.readCov_unit_zero (S := S1x512x1024) _ z3, pay3, pay2]
  simp only [View.readAt_eq_ld, h2.read_unread, h3.read_unread, h4.read_unread, View.ld_unit_zero (S := S512x512) z2,
    View.ld_unit_zero (S := S512x1024) z2, View.ld_unit_zero (S := S1x512x1024) z3]

variable (m : (ℓ : Loc nD τ sig) → Buf (Elt Ideal) ℓ) (c : Dev nD)

/-- The projection's input as a table. -/
def H : Nat → Nat → EReal := tab 4096 2048 (m ((c : Thread nD τ).loc main_arg0))

/-- The projection's cotangent as a table. -/
def D : Nat → Nat → EReal := tab 4096 1024 (m ((c : Thread nD τ).loc main_arg1))

theorem index0 (t : Fin cfg0.N) : win0_0.index t = ![t.val % 8, t.val / 8] := by revert t; decide +kernel
theorem index1 (t : Fin cfg0.N) : win0_1.index t = ![t.val % 8, 0] := by revert t; decide +kernel
theorem index2 (t : Fin cfg0.N) : win0_2.index t = ![t.val / 8, 0, 0] := by revert t; decide +kernel
theorem index3 (t : Fin cfg0.N) : win0_3.index t = ![t.val / 8, 0, 0] := by revert t; decide +kernel

/-- The rows and columns of the input that a point reads. -/
theorem block0 (t : Fin cfg0.N) (r : Fin 512) (a : Fin 512) :
    iblk m c 0 t (ix2 r a) = H m c (512 * (t.val % 8) + r) (512 * (t.val / 8) + a) := by
  have hN : t.val < 32 := lt_of_lt_of_eq t.isLt N_0
  rw [H, tab_at _ (by have := r.isLt; omega) (by have := a.isLt; omega)]
  unfold iblk
  rw [View.read_apply]
  refine (congrFun (V_main_arg0 m c) _).trans (congrArg (m ((c : Thread nD τ).loc main_arg0)) ?_)
  funext k; apply Fin.ext
  match k with
  | ⟨0, _⟩ => show win0_0.index t 0 * 512 + 1 * r.val = _; rw [index0]; show t.val % 8 * 512 + 1 * _ = 512 * _ + _; omega
  | ⟨1, _⟩ => show win0_0.index t 1 * 512 + 1 * a.val = _; rw [index0]; show t.val / 8 * 512 + 1 * _ = 512 * _ + _; omega

/-- The rows of the cotangent that a point reads. -/
theorem block1 (t : Fin cfg0.N) (r : Fin 512) (b : Fin 1024) : iblk m c 1 t (ix2 r b) = D m c (512 * (t.val % 8) + r) b := by
  rw [D, tab_at _ (by have := r.isLt; omega) b.isLt]
  unfold iblk
  rw [View.read_apply]
  refine (congrFun (V_main_arg1 m c) _).trans (congrArg (m ((c : Thread nD τ).loc main_arg1)) ?_)
  funext k; apply Fin.ext
  match k with
  | ⟨0, _⟩ => show win0_1.index t 0 * 512 + 1 * r.val = _; rw [index1]; show t.val % 8 * 512 + 1 * _ = 512 * _ + _; omega
  | ⟨1, _⟩ => show win0_1.index t 1 * 1024 + 1 * b.val = _; rw [index1]; show 0 * 1024 + 1 * _ = b.val; omega

/-- A point's blocks added to a running sum. -/
theorem step_at (t : Fin cfg0.N) (xo : Vec Ideal S1x512x1024 .f32) :
    step (iblk m c 0 t) (iblk m c 1 t) xo = fun y => xo y + ∑ r : Fin 512,
      H m c (512 * (t.val % 8) + r) (512 * (t.val / 8) + (y 1).val) * D m c (512 * (t.val % 8) + r) (y 2).val := by
  funext y
  unfold step
  refine congrArg (xo y + ·) (Finset.sum_congr rfl fun r _ => ?_)
  exact congrArg₂ (· * ·) (block0 m c t r (y 1)) (block1 m c t r (y 2))

/-- The running sum that a point leaves, -/
def sums (t : Nat) : S1x512x1024.Idx → EReal :=
  fun y => part (H m c) (D m c) (t % 8 + 1) (512 * (t / 8) + (y 1).val) (y 2).val

/-- after a first point, -/
theorem sums_first (t : Fin cfg0.N) (h : t.val % 8 = 0) :
    step (iblk m c 0 t) (iblk m c 1 t) (fun _ => 0) = sums m c t.val := by
  rw [step_at]
  funext y
  unfold sums
  rw [h]
  exact part_one _ _ _ _

/-- and after a later one. -/
theorem sums_next (t : Fin cfg0.N) (h : ¬t.val % 8 = 0) :
    step (iblk m c 0 t) (iblk m c 1 t) (sums m c (t.val - 1)) = sums m c t.val := by
  rw [step_at]
  funext y
  unfold sums
  rw [show (t.val - 1) % 8 + 1 = t.val % 8 by omega, show (t.val - 1) / 8 = t.val / 8 by omega]
  exact part_succ _ _ _ _ _

/-- The first result's staging buffer after a first point of a row block, -/
theorem point_A (t : Fin cfg0.N) (h0 : t.val % 8 = 0) : (outsAt0 m c t.val t.isLt).1 = sums m c t.val := by
  rw [outsAt0_A m c t h0 (by omega)]
  dsimp only
  rw [out_A, sums_first m c t h0]

/-- and after a later point, over what the point before left there; -/
theorem point_B (t : Fin cfg0.N) (h0 : ¬t.val % 8 = 0)
    (ih : (outsAt0 m c (t.val - 1) (Nat.lt_of_le_of_lt (Nat.sub_le _ _) t.isLt)).1 = sums m c (t.val - 1)) :
    (outsAt0 m c t.val t.isLt).1 = sums m c t.val := by
  by_cases h1 : t.val % 8 = 7
  · rw [outsAt0_C m c t h0 h1]
    dsimp only
    rw [out_C, ih, sums_next m c t h0]
  · rw [outsAt0_B m c t h0 h1]
    dsimp only
    rw [out_B, ih, sums_next m c t h0]

/-- so it holds the running sum after every point. -/
theorem after2 : ∀ (n : Nat) (h : n < cfg0.N), (outsAt0 m c n h).1 = sums m c n
  | 0, h => point_A m c ⟨0, h⟩ rfl
  | n + 1, h => by
    by_cases h0 : (n + 1) % 8 = 0
    · exact point_A m c ⟨n + 1, h⟩ h0
    · exact point_B m c ⟨n + 1, h⟩ h0 (after2 n (Nat.lt_of_succ_lt h))

/-- The second result's buffer holds it after the last point of a row block. -/
theorem after3 (t : Fin cfg0.N) (h : t.val % 8 = 7) : (outsAt0 m c t.val t.isLt).2 = sums m c t.val := by
  have h0 : ¬t.val % 8 = 0 := by omega
  rw [outsAt0_C m c t h0 h]
  dsimp only
  rw [out_C', after2, sums_next m c t h0]

/-- The gradient, each chip's rows together. -/
def result : S4x512x1024.Idx → EReal := fun y => grad (H m c) (D m c) (512 * (y 0).val + (y 1).val) (y 2).val

/-- The first result. -/
theorem final2 : (dats m 0 c).arrAt 2 cfg0.N = result m c := by
  refine (dats m 0 c).arrAt_eq_of_covers 2 _ (by decide +kernel) fun t hf y => ?_
  have h7 := (flush0_2 t).1 hf
  blk_simp
  rw [after0_2, after2]
  unfold sums result
  rw [h7, ← part_all]
  blk_simp [index2]

/-- The second result. -/
theorem final3 : (dats m 0 c).arrAt 3 cfg0.N = result m c := by
  refine (dats m 0 c).arrAt_eq_of_covers 3 _ (by decide +kernel) fun t hf y => ?_
  have h7 := (flush0_3 t).1 hf
  blk_simp
  rw [after0_3, after3 m c t h7]
  unfold sums result
  rw [h7, ← part_all]
  blk_simp [index3]

/-- The reference's first result is the same sum, with its factors the other way round. -/
theorem reference_eq (x0 : (⟨Cert.GradWoutRefIdeal.S4096x2048, .bf16⟩ : BufTy).Contents (Elt Ideal))
    (x1 : (⟨Cert.GradWoutRefIdeal.S4096x1024, .bf16⟩ : BufTy).Contents (Elt Ideal)) :
    Cert.GradWoutRefIdeal.Read.val_main_v6 (F := Ideal) x0 x1 = fun y : S4x512x1024.Idx =>
      grad (tab 4096 2048 x0) (tab 4096 1024 x1) (512 * (y 0).val + (y 1).val) (y 2).val := by
  funext y
  rw [eq_ix3 y]
  generalize y 0 = j
  generalize y 1 = a
  generalize y 2 = b
  pointwise [Cert.GradWoutRefIdeal.Read.val_main_v6, Cert.GradWoutRefIdeal.Read.val_main_v6,
    Cert.GradWoutRefIdeal.Read.val_main_v5, Cert.GradWoutRefIdeal.Read.val_main_v4]
  have hj : j.val < 4 := j.isLt
  have ha : a.val < 512 := a.isLt
  rw [Nat.mul_comm 512, grad]
  refine Finset.sum_congr rfl fun R _ => (mul_comm _ _).trans ?_
  rw [tab_at x0 R.isLt (by omega), tab_at x1 R.isLt b.isLt]
  rfl

/-- The call and the reference end with the same two arrays. -/
theorem algebraic : Cert.algebraic_GradWoutIdeal_GradWoutRefIdeal := by
  intro m g m' g' hpre hargs
  refine ⟨fun c => result m c, fun c => result m c, ?_, ?_⟩
  · refine (θ_run _ _ _).mono (fun r h c => ?_) (Cert.GradWoutIdeal.Value.run_blocks (F := Ideal) m g)
    obtain ⟨e0, e1, hk⟩ := h c
    exact ⟨e0.trans (final2 m c), e1.trans (final3 m c), hk⟩
  · refine (θ_run _ _ _).mono (fun r h c => ?_) (Cert.GradWoutRefIdeal.Value.run (F := Ideal) m' g')
    obtain ⟨e0, e1, hk⟩ := h c
    obtain ⟨a0, a1⟩ := hargs c
    have v := reference_eq (m ((c.tc : Thread _ _).loc main_arg0)) (m ((c.tc : Thread _ _).loc main_arg1))
    refine ⟨e0.trans (Eq.trans ?_ v), e1.trans (Eq.trans ?_ v), hk⟩
    · rw [← a0, ← a1]; rfl
    · rw [← a0, ← a1]; rfl

/-- The reference runs, and ends with its arguments unchanged and its counters at zero: it declares none. -/
theorem frame_reference : Cert.quiescent_GradWoutRefIdeal := fun m g _ =>
  (θ_run _ _ _).mono (fun r h => ⟨fun c => (h c).2.2, sem_eq_zero_of_no_sems (by decide) _⟩)
    (Cert.GradWoutRefIdeal.Value.run (F := Ideal) m g)

end Cert.GradWoutClaim
-- ==== Proof.Inproj1.lean ====
/-
  The odd layer's input projection: what the call leaves in its result, and what the reference computes.
-/
module

public import proofs.«01_k».proof.Defs
public import proofs.«01_k».proof.Proof.Pieces
public import proofs.«01_k».proof.Proof.Gen.Inproj1Ideal.Value
public import proofs.«01_k».proof.Proof.Gen.Inproj1RefIdeal.Run
public import proofs.«01_k».proof.Proof.Gen.Inproj1RefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.Inproj1Claim

open Cert.Inproj1Ideal Cert.Inproj1Ideal.Gen Cert.Pieces

theorem z3 : (![0, 0, 0] : Fin 3 → Nat) = fun _ => 0 := by decide
theorem z2 : (![0, 0] : Fin 2 → Nat) = fun _ => 0 := by decide

/-- What the body leaves: the product of its two blocks. -/
theorem out_eq (x0 : Vec Ideal S512x1024 .bf16) (x1 : Vec Ideal S1x1024x2048 .bf16) (r : Fin 512) (b : Fin 2048) :
    out0_2 x0 x1 (ix2 r b) = ∑ d : Fin 1024, x0 (ix2 r d) * x1 (ix3 0 d b) := by
  unfold out0_2
  rw [View.canon_unit_zero z2, View.ld_unit_zero (S := S512x1024) z2, View.ld_unit_zero (S := S1x1024x2048) z3]
  unfold k0_pay1
  pointwise

/-- The product `h @ w` in row `r` and column `k`. -/
def prod (H W : Nat → Nat → EReal) (r k : Nat) : EReal := ∑ d : Fin 1024, H r d * W d k

variable (m : (ℓ : Loc nD τ sig) → Buf (Elt Ideal) ℓ) (c : Dev nD)

/-- The projection's input as a table. -/
def H : Nat → Nat → EReal := tab 4096 1024 (m ((c : Thread nD τ).loc main_arg0))

/-- The weights as a table, the chips' columns side by side. -/
def W : Nat → Nat → EReal := side 4 1024 2048 (m ((c : Thread nD τ).loc main_arg1))

theorem index0 (t : Fin cfg0.N) : win0_0.index t = ![t.val % 8, 0] := by revert t; decide +kernel
theorem index1 (t : Fin cfg0.N) : win0_1.index t = ![t.val / 8, 0, 0] := by revert t; decide +kernel
theorem index2 (t : Fin cfg0.N) : win0_2.index t = ![t.val % 8, t.val / 8] := by revert t; decide +kernel

/-- The rows of the input that a point reads. -/
theorem block0 (t : Fin cfg0.N) (r : Fin 512) (a : Fin 1024) : iblk m c 0 t (ix2 r a) = H m c (512 * (t.val % 8) + r) a := by
  rw [H, tab_at _ (by have := r.isLt; omega) a.isLt]
  unfold iblk
  rw [View.read_apply]
  refine (congrFun (V_main_arg0 m c) _).trans (congrArg (m ((c : Thread nD τ).loc main_arg0)) ?_)
  funext k; apply Fin.ext
  match k with
  | ⟨0, _⟩ => show win0_0.index t 0 * 512 + 1 * r.val = _; rw [index0]; show t.val % 8 * 512 + 1 * _ = 512 * _ + _; omega
  | ⟨1, _⟩ => show win0_0.index t 1 * 1024 + 1 * a.val = _; rw [index0]; show 0 * 1024 + 1 * _ = a.val; omega

/-- The chip's columns of the weights that a point reads. -/
theorem block1 (t : Fin cfg0.N) (d : Fin 1024) (b : Fin 2048) :
    iblk m c 1 t (ix3 0 d b) = W m c d (2048 * (t.val / 8) + b) := by
  have hN : t.val < 32 := lt_of_lt_of_eq t.isLt N_0
  rw [W, side_at _ (by omega) d.isLt b.isLt]
  unfold iblk
  rw [View.read_apply]
  refine (congrFun (V_main_arg1 m c) _).trans (congrArg (m ((c : Thread nD τ).loc main_arg1)) ?_)
  funext k; apply Fin.ext
  match k with
  | ⟨0, _⟩ => show win0_1.index t 0 * 1 + 1 * 0 = _; rw [index1]; show t.val / 8 * 1 + 1 * 0 = t.val / 8; omega
  | ⟨1, _⟩ => show win0_1.index t 1 * 1024 + 1 * d.val = _; rw [index1]; show 0 * 1024 + 1 * _ = d.val; omega
  | ⟨2, _⟩ => show win0_1.index t 2 * 2048 + 1 * b.val = _; rw [index1]; show 0 * 2048 + 1 * _ = b.val; omega

/-- What a point leaves in the result's staging buffer. -/
theorem after2 (t : Fin cfg0.N) : out0_2 (iblk m c 0 t) (iblk m c 1 t) =
    arr 512 2048 fun r b => prod (H m c) (W m c) (512 * (t.val % 8) + r) (2048 * (t.val / 8) + b) := by
  funext y
  obtain ⟨r, b, rfl⟩ : ∃ (r : Fin 512) (b : Fin 2048), y = ix2 r b := ⟨y 0, y 1, eq_ix2 y⟩
  rw [out_eq]
  unfold arr prod
  refine Finset.sum_congr rfl fun d _ => ?_
  rw [block0, block1]
  rfl

/-- The result. -/
theorem final2 : (dats m 0 c).arrAt 2 cfg0.N = arr 4096 8192 (prod (H m c) (W m c)) := by
  refine (dats m 0 c).arrAt_eq_of_covers 2 _ (by decide +kernel) fun t hf y => ?_
  blk_simp
  rw [after0_2, after2]
  unfold arr
  blk_simp [index2]
  rw [Nat.mul_comm 512, Nat.mul_comm 2048]

/-- The reference's weights: the chips' columns side by side. -/
theorem weights_eq (x1 : (⟨Cert.Inproj1RefIdeal.S4x1024x2048, .bf16⟩ : BufTy).Contents (Elt Ideal)) (d : Fin 1024) (k : Fin 8192) :
    Cert.Inproj1RefIdeal.Read.val_main_v12 (F := Ideal) x1 (ix2 d k) = side 4 1024 2048 x1 d k := by
  pointwise [Cert.Inproj1RefIdeal.Read.val_main_v12, Cert.Inproj1RefIdeal.Read.val_main_v11, Cert.Inproj1RefIdeal.Read.val_main_v10,
    Cert.Inproj1RefIdeal.Read.val_main_v9, Cert.Inproj1RefIdeal.Read.val_main_v8, Cert.Inproj1RefIdeal.Read.val_main_v7,
    Cert.Inproj1RefIdeal.Read.val_main_v6, Cert.Inproj1RefIdeal.Read.val_main_v5, Cert.Inproj1RefIdeal.Read.val_main_v4,
    Cert.Inproj1RefIdeal.Read.val_main_v3, Cert.Inproj1RefIdeal.Read.val_main_v2, Cert.Inproj1RefIdeal.Read.val_main_v1,
    Cert.Inproj1RefIdeal.Read.val_main_v0]
  have hk := k.isLt
  have at_part : ∀ (j b : Nat) (hj : j < 4) (hb : b < 2048) (e : k.val = 2048 * j + b),
      x1 (ix3 ⟨j, hj⟩ d ⟨b, hb⟩) = side 4 1024 2048 x1 d k := fun j b hj hb e => by
    rw [e, side_at x1 hj d.isLt hb]
  split
  · exact at_part 0 _ (by omega) (by omega) (by omega)
  · split
    · exact at_part 1 _ (by omega) (by omega) (by omega)
    · split
      · exact at_part 2 _ (by omega) (by omega) (by omega)
      · exact at_part 3 _ (by omega) (by omega) (by omega)

/-- The reference's result. -/
theorem reference_eq (x0 : (⟨Cert.Inproj1RefIdeal.S4096x1024, .bf16⟩ : BufTy).Contents (Elt Ideal))
    (x1 : (⟨Cert.Inproj1RefIdeal.S4x1024x2048, .bf16⟩ : BufTy).Contents (Elt Ideal)) :
    Cert.Inproj1RefIdeal.Read.val_main_v15 (F := Ideal) x0 x1 =
      arr 4096 8192 (prod (tab 4096 1024 x0) (side 4 1024 2048 x1)) := by
  funext y
  obtain ⟨r, k, rfl⟩ : ∃ (r : Fin 4096) (k : Fin 8192), y = ix2 r k := ⟨y 0, y 1, eq_ix2 y⟩
  pointwise [Cert.Inproj1RefIdeal.Read.val_main_v15, Cert.Inproj1RefIdeal.Read.val_main_v14]
  unfold arr prod
  refine Finset.sum_congr rfl fun d _ => ?_
  rw [weights_eq]
  exact congrArg (· * _) (tab_at x0 r.isLt d.isLt).symm

/-- The call and the reference end with the same array. -/
theorem algebraic : Cert.algebraic_Inproj1Ideal_Inproj1RefIdeal := by
  intro m g m' g' hpre hargs
  refine ⟨fun c => arr 4096 8192 (prod (H m c) (W m c)), ?_, ?_⟩
  · refine (θ_run _ _ _).mono (fun r h c => ?_) (Cert.Inproj1Ideal.Value.run_blocks (F := Ideal) m g)
    obtain ⟨e0, hk⟩ := h c
    exact ⟨e0.trans (final2 m c), hk⟩
  · refine (θ_run _ _ _).mono (fun r h c => ?_) (Cert.Inproj1RefIdeal.Value.run (F := Ideal) m' g')
    obtain ⟨e0, hk⟩ := h c
    obtain ⟨a0, a1⟩ := hargs c
    have v := reference_eq (m ((c.tc : Thread _ _).loc main_arg0)) (m ((c.tc : Thread _ _).loc main_arg1))
    refine ⟨e0.trans (Eq.trans ?_ v), hk⟩
    rw [← a0, ← a1]; rfl

/-- The reference runs, and ends with its arguments unchanged and its counters at zero: it declares none. -/
theorem frame_reference : Cert.quiescent_Inproj1RefIdeal := fun m g _ =>
  (θ_run _ _ _).mono (fun r h => ⟨fun c => (h c).2, sem_eq_zero_of_no_sems (by decide) _⟩)
    (Cert.Inproj1RefIdeal.Value.run (F := Ideal) m g)

end Cert.Inproj1Claim
-- ==== Proof.Inproj0.lean ====
/-
  The even layer's input projection: what the call leaves in its result, and what the reference computes.
-/
module

public import proofs.«01_k».proof.Defs
public import proofs.«01_k».proof.Proof.Pieces
public import proofs.«01_k».proof.Proof.Gen.Inproj0Ideal.Value
public import proofs.«01_k».proof.Proof.Gen.Inproj0RefIdeal.Run
public import proofs.«01_k».proof.Proof.Gen.Inproj0RefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.Inproj0Claim

open Cert.Inproj0Ideal Cert.Inproj0Ideal.Gen Cert.Pieces

theorem z3 : (![0, 0, 0] : Fin 3 → Nat) = fun _ => 0 := by decide
theorem z2 : (![0, 0] : Fin 2 → Nat) = fun _ => 0 := by decide

/-- What the body leaves: the product of its two blocks. -/
theorem out_eq (x0 : Vec Ideal S512x1024 .bf16) (x1 : Vec Ideal S1x1024x1536 .bf16) (r : Fin 512) (b : Fin 1536) :
    out0_2 x0 x1 (ix2 r b) = ∑ d : Fin 1024, x0 (ix2 r d) * x1 (ix3 0 d b) := by
  unfold out0_2
  rw [View.canon_unit_zero z2, View.ld_unit_zero (S := S512x1024) z2, View.ld_unit_zero (S := S1x1024x1536) z3]
  unfold k0_pay1
  pointwise

/-- The product `h @ w` in row `r` and column `k`. -/
def prod (H W : Nat → Nat → EReal) (r k : Nat) : EReal := ∑ d : Fin 1024, H r d * W d k

variable (m : (ℓ : Loc nD τ sig) → Buf (Elt Ideal) ℓ) (c : Dev nD)

/-- The projection's input as a table. -/
def H : Nat → Nat → EReal := tab 4096 1024 (m ((c : Thread nD τ).loc main_arg0))

/-- The weights as a table, the chips' columns side by side. -/
def W : Nat → Nat → EReal := side 4 1024 1536 (m ((c : Thread nD τ).loc main_arg1))

theorem index0 (t : Fin cfg0.N) : win0_0.index t = ![t.val % 8, 0] := by revert t; decide +kernel
theorem index1 (t : Fin cfg0.N) : win0_1.index t = ![t.val / 8, 0, 0] := by revert t; decide +kernel
theorem index2 (t : Fin cfg0.N) : win0_2.index t = ![t.val % 8, t.val / 8] := by revert t; decide +kernel

/-- The rows of the input that a point reads. -/
theorem block0 (t : Fin cfg0.N) (r : Fin 512) (a : Fin 1024) : iblk m c 0 t (ix2 r a) = H m c (512 * (t.val % 8) + r) a := by
  rw [H, tab_at _ (by have := r.isLt; omega) a.isLt]
  unfold iblk
  rw [View.read_apply]
  refine (congrFun (V_main_arg0 m c) _).trans (congrArg (m ((c : Thread nD τ).loc main_arg0)) ?_)
  funext k; apply Fin.ext
  match k with
  | ⟨0, _⟩ => show win0_0.index t 0 * 512 + 1 * r.val = _; rw [index0]; show t.val % 8 * 512 + 1 * _ = 512 * _ + _; omega
  | ⟨1, _⟩ => show win0_0.index t 1 * 1024 + 1 * a.val = _; rw [index0]; show 0 * 1024 + 1 * _ = a.val; omega

/-- The chip's columns of the weights that a point reads. -/
theorem block1 (t : Fin cfg0.N) (d : Fin 1024) (b : Fin 1536) :
    iblk m c 1 t (ix3 0 d b) = W m c d (1536 * (t.val / 8) + b) := by
  have hN : t.val < 32 := lt_of_lt_of_eq t.isLt N_0
  rw [W, side_at _ (by omega) d.isLt b.isLt]
  unfold iblk
  rw [View.read_apply]
  refine (congrFun (V_main_arg1 m c) _).trans (congrArg (m ((c : Thread nD τ).loc main_arg1)) ?_)
  funext k; apply Fin.ext
  match k with
  | ⟨0, _⟩ => show win0_1.index t 0 * 1 + 1 * 0 = _; rw [index1]; show t.val / 8 * 1 + 1 * 0 = t.val / 8; omega
  | ⟨1, _⟩ => show win0_1.index t 1 * 1024 + 1 * d.val = _; rw [index1]; show 0 * 1024 + 1 * _ = d.val; omega
  | ⟨2, _⟩ => show win0_1.index t 2 * 1536 + 1 * b.val = _; rw [index1]; show 0 * 1536 + 1 * _ = b.val; omega

/-- What a point leaves in the result's staging buffer. -/
theorem after2 (t : Fin cfg0.N) : out0_2 (iblk m c 0 t) (iblk m c 1 t) =
    arr 512 1536 fun r b => prod (H m c) (W m c) (512 * (t.val % 8) + r) (1536 * (t.val / 8) + b) := by
  funext y
  obtain ⟨r, b, rfl⟩ : ∃ (r : Fin 512) (b : Fin 1536), y = ix2 r b := ⟨y 0, y 1, eq_ix2 y⟩
  rw [out_eq]
  unfold arr prod
  refine Finset.sum_congr rfl fun d _ => ?_
  rw [block0, block1]
  rfl

/-- The result. -/
theorem final2 : (dats m 0 c).arrAt 2 cfg0.N = arr 4096 6144 (prod (H m c) (W m c)) := by
  refine (dats m 0 c).arrAt_eq_of_covers 2 _ (by decide +kernel) fun t hf y => ?_
  blk_simp
  rw [after0_2, after2]
  unfold arr
  blk_simp [index2]
  rw [Nat.mul_comm 512, Nat.mul_comm 1536]

/-- The reference's weights: the chips' columns side by side. -/
theorem weights_eq (x1 : (⟨Cert.Inproj0RefIdeal.S4x1024x1536, .bf16⟩ : BufTy).Contents (Elt Ideal)) (d : Fin 1024) (k : Fin 6144) :
    Cert.Inproj0RefIdeal.Read.val_main_v12 (F := Ideal) x1 (ix2 d k) = side 4 1024 1536 x1 d k := by
  pointwise [Cert.Inproj0RefIdeal.Read.val_main_v12, Cert.Inproj0RefIdeal.Read.val_main_v11, Cert.Inproj0RefIdeal.Read.val_main_v10,
    Cert.Inproj0RefIdeal.Read.val_main_v9, Cert.Inproj0RefIdeal.Read.val_main_v8, Cert.Inproj0RefIdeal.Read.val_main_v7,
    Cert.Inproj0RefIdeal.Read.val_main_v6, Cert.Inproj0RefIdeal.Read.val_main_v5, Cert.Inproj0RefIdeal.Read.val_main_v4,
    Cert.Inproj0RefIdeal.Read.val_main_v3, Cert.Inproj0RefIdeal.Read.val_main_v2, Cert.Inproj0RefIdeal.Read.val_main_v1,
    Cert.Inproj0RefIdeal.Read.val_main_v0]
  have hk := k.isLt
  have at_part : ∀ (j b : Nat) (hj : j < 4) (hb : b < 1536) (e : k.val = 1536 * j + b),
      x1 (ix3 ⟨j, hj⟩ d ⟨b, hb⟩) = side 4 1024 1536 x1 d k := fun j b hj hb e => by
    rw [e, side_at x1 hj d.isLt hb]
  split
  · exact at_part 0 _ (by omega) (by omega) (by omega)
  · split
    · exact at_part 1 _ (by omega) (by omega) (by omega)
    · split
      · exact at_part 2 _ (by omega) (by omega) (by omega)
      · exact at_part 3 _ (by omega) (by omega) (by omega)

/-- The reference's result. -/
theorem reference_eq (x0 : (⟨Cert.Inproj0RefIdeal.S4096x1024, .bf16⟩ : BufTy).Contents (Elt Ideal))
    (x1 : (⟨Cert.Inproj0RefIdeal.S4x1024x1536, .bf16⟩ : BufTy).Contents (Elt Ideal)) :
    Cert.Inproj0RefIdeal.Read.val_main_v15 (F := Ideal) x0 x1 =
      arr 4096 6144 (prod (tab 4096 1024 x0) (side 4 1024 1536 x1)) := by
  funext y
  obtain ⟨r, k, rfl⟩ : ∃ (r : Fin 4096) (k : Fin 6144), y = ix2 r k := ⟨y 0, y 1, eq_ix2 y⟩
  pointwise [Cert.Inproj0RefIdeal.Read.val_main_v15, Cert.Inproj0RefIdeal.Read.val_main_v14]
  unfold arr prod
  refine Finset.sum_congr rfl fun d _ => ?_
  rw [weights_eq]
  exact congrArg (· * _) (tab_at x0 r.isLt d.isLt).symm

/-- The call and the reference end with the same array. -/
theorem algebraic : Cert.algebraic_Inproj0Ideal_Inproj0RefIdeal := by
  intro m g m' g' hpre hargs
  refine ⟨fun c => arr 4096 6144 (prod (H m c) (W m c)), ?_, ?_⟩
  · refine (θ_run _ _ _).mono (fun r h c => ?_) (Cert.Inproj0Ideal.Value.run_blocks (F := Ideal) m g)
    obtain ⟨e0, hk⟩ := h c
    exact ⟨e0.trans (final2 m c), hk⟩
  · refine (θ_run _ _ _).mono (fun r h c => ?_) (Cert.Inproj0RefIdeal.Value.run (F := Ideal) m' g')
    obtain ⟨e0, hk⟩ := h c
    obtain ⟨a0, a1⟩ := hargs c
    have v := reference_eq (m ((c.tc : Thread _ _).loc main_arg0)) (m ((c.tc : Thread _ _).loc main_arg1))
    refine ⟨e0.trans (Eq.trans ?_ v), hk⟩
    rw [← a0, ← a1]; rfl

/-- The reference runs, and ends with its arguments unchanged and its counters at zero: it declares none. -/
theorem frame_reference : Cert.quiescent_Inproj0RefIdeal := fun m g _ =>
  (θ_run _ _ _).mono (fun r h => ⟨fun c => (h c).2, sem_eq_zero_of_no_sems (by decide) _⟩)
    (Cert.Inproj0RefIdeal.Value.run (F := Ideal) m g)

end Cert.Inproj0Claim
-- ==== Proof.Reals.lean ====
module

public import Idealize.ShloMosaic.PureOps.Ideal
public import Idealize.ShloMosaic.Lib.ReduceAll

/-! Extended reals that are real numbers: closure under the arithmetic the gradients use, and how a test that every
entry of an array is finite gives it. -/

@[expose] public section

noncomputable section

namespace Cert.Reals

open Idealize.ShloMosaic

/-- An extended real that is a real number. -/
def IsReal (x : EReal) : Prop := ∃ v : ℝ, x = (v : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, rfl⟩

theorem IsReal.one : IsReal 1 := ⟨1, rfl⟩

theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih

theorem IsReal.ite {p : Prop} [Decidable p] {x y : EReal} (hx : IsReal x) (hy : IsReal y) :
    IsReal (if p then x else y) := by
  split
  · exact hx
  · exact hy

/-- An extended real whose absolute value lies below plus infinity is a real number. -/
theorem isReal_of_lt {x : EReal} (h : Ideal.cmp .olt (max x (-x)) (⊤ : EReal) = 1#1) : IsReal x := by
  have h1 : max x (-x) < ⊤ := by
    by_contra hn
    simp [Ideal.cmp, hn] at h
  induction x using EReal.rec with
  | bot => simp at h1
  | coe v => exact ⟨v, rfl⟩
  | top => simp at h1

end Cert.Reals
-- ==== Proof.NormGrad.lean ====
module

public import proofs.«01_k».proof.Proof.Reals
public import proofs.«01_k».proof.Proof.Pieces

/-! The gradient of a modulated root-mean-square norm after a product with a matrix: the sums the kernel leaves, and
the reals' identities that carry them into the ones the derivative leaves. -/

@[expose] public section

set_option maxRecDepth 16384

noncomputable section

namespace Cert.NormGrad

open Idealize.ShloMosaic Cert.Reals Cert.Pieces

/-- The row's length, as the programs write it. -/
def len : EReal := Ideal.ofBits .f32 0x44800000#32

/-- The norm's small constant. -/
def eps : EReal := Ideal.ofBits .f32 0x358637BD#32

/-- A finite sum of reals, taken as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem len_eq : len = ((1024 : ℝ) : EReal) := by
  unfold len
  simp [Ideal.ofBits, Ideal.ieee, -EReal.coe_mul]
  norm_num

theorem eps_eq : ∃ e : ℝ, 0 < e ∧ eps = (e : EReal) := by
  refine ⟨_, ?_, by unfold eps; simp [Ideal.ofBits, Ideal.ieee, -EReal.coe_mul]; rfl⟩
  norm_num

/-- The word for plus infinity. -/
theorem inf_word : Ideal.ofBits .f32 0x7F800000#32 = ⊤ := by simp [Ideal.ofBits, Ideal.ieee]

/-- A table of real numbers and zeros. -/
theorem isReal_tab {a b : Nat} {A : (⟨2, ![a, b]⟩ : Shape).Idx → EReal} (h : ∀ i, IsReal (A i)) (r k : Nat) :
    IsReal (tab a b A r k) := by
  unfold tab
  split
  · exact h _
  · exact IsReal.zero

/-- The same of a vector. -/
theorem isReal_row {a : Nat} {A : (⟨1, ![a]⟩ : Shape).Idx → EReal} (h : ∀ i, IsReal (A i)) (k : Nat) :
    IsReal (row a A k) := by
  unfold row
  split
  · exact h _
  · exact IsReal.zero

/-- The same of a table whose columns come in parts. -/
theorem isReal_side {p a b : Nat} {A : (⟨3, ![p, a, b]⟩ : Shape).Idx → EReal} (h : ∀ i, IsReal (A i)) (r k : Nat) :
    IsReal (side p a b A r k) := by
  unfold side
  split
  · exact h _
  · exact IsReal.zero

/-- The tables that enter: the cotangent after the product, the matrix, the rows before the norm, the rows added at the
end, the norm's weights and the modulation's scale. -/
structure Inp where
  P : Nat → Nat → EReal
  W : Nat → Nat → EReal
  X : Nat → Nat → EReal
  DX : Nat → Nat → EReal
  G : Nat → EReal
  SC : Nat → EReal
  /-- The number of the matrix's columns. -/
  n : Nat

namespace Inp

variable (D : Inp)

/-- The cotangent before the product. -/
def dh (R d : Nat) : EReal := ∑ k ∈ Finset.range D.n, D.P R k * D.W d k

/-- The mean of a row's squares. -/
def ms (R : Nat) : EReal := Ideal.div (∑ d : Fin 1024, D.X R d * D.X R d) len

/-- One over the row's norm. -/
def rs (R : Nat) : EReal := Ideal.rsqrt (D.ms R + eps)

/-- The normed row. -/
def nrm (R d : Nat) : EReal := D.X R d * D.rs R

/-- The cotangent of the normed row. -/
def dn (R d : Nat) : EReal := D.dh R d * (D.G d * (1 + D.SC d))

/-- The gradient in the rows. -/
def dx (R d : Nat) : EReal :=
  D.DX R d + D.rs R * (D.dn R d - D.nrm R d * Ideal.div (∑ e : Fin 1024, D.dn R e * D.nrm R e) len)

/-- What one block of rows adds to the sums over the rows. -/
def blk (b j d : Nat) : EReal :=
  if j = 0 then ∑ r : Fin 256, D.dh (256 * b + r) d
  else if j = 1 then (∑ r : Fin 256, D.dh (256 * b + r) d * D.nrm (256 * b + r) d) * D.G d
  else if j = 2 then (∑ r : Fin 256, D.dh (256 * b + r) d * D.nrm (256 * b + r) d) * (1 + D.SC d)
  else 0

/-- The sums over all rows. -/
def tot (j d : Nat) : EReal :=
  if j = 0 then ∑ R : Fin 4096, D.dh R d
  else if j = 1 then (∑ R : Fin 4096, D.dh R d * D.nrm R d) * D.G d
  else if j = 2 then (∑ R : Fin 4096, D.dh R d * D.nrm R d) * (1 + D.SC d)
  else 0

/-- Every entry that enters but the rows added at the end is a real number. -/
structure Real : Prop where
  P : ∀ r k, IsReal (D.P r k)
  W : ∀ r k, IsReal (D.W r k)
  X : ∀ r k, IsReal (D.X r k)
  G : ∀ k, IsReal (D.G k)
  SC : ∀ k, IsReal (D.SC k)

variable {D}

theorem Real.dh (h : D.Real) (R d : Nat) : IsReal (D.dh R d) := IsReal.sum _ fun k => (h.P _ _).mul (h.W _ _)

/-- The mean of the squares with the constant is a positive real, and the norm's inverse is its root's inverse. -/
theorem Real.ms (h : D.Real) (R : Nat) : ∃ v : ℝ, 0 < v ∧ D.ms R + eps = (v : EReal) := by
  obtain ⟨e, he, ee⟩ := eps_eq
  choose x hx using h.X R
  refine ⟨(∑ d : Fin 1024, x d * x d) * (1 / 1024) + e, ?_, ?_⟩
  · have : 0 ≤ ∑ d : Fin 1024, x d * x d := Finset.sum_nonneg fun d _ => mul_self_nonneg _
    positivity
  · unfold Inp.ms
    rw [ee, len_eq, Ideal.div_coe (by norm_num)]
    simp only [hx, ← EReal.coe_mul, ← coe_sum, ← EReal.coe_add]

theorem Real.rs (h : D.Real) (R : Nat) :
    ∃ v r : ℝ, 0 < v ∧ r * r * v = 1 ∧ D.ms R + eps = (v : EReal) ∧ D.rs R = (r : EReal) := by
  obtain ⟨v, hv, e⟩ := h.ms R
  refine ⟨v, (Real.sqrt v)⁻¹, hv, ?_, e, ?_⟩
  · have := Real.mul_self_sqrt hv.le
    have h0 : Real.sqrt v ≠ 0 := (Real.sqrt_pos.2 hv).ne'
    field_simp
    linarith [this, sq (Real.sqrt v)]
  · unfold Inp.rs
    rw [e, Ideal.rsqrt_coe, if_neg (not_lt.2 hv.le), if_neg hv.ne']

theorem Real.nrm (h : D.Real) (R d : Nat) : IsReal (D.nrm R d) := by
  obtain ⟨v, r, -, -, -, e⟩ := h.rs R
  exact (h.X R d).mul ⟨r, e⟩

theorem Real.dn (h : D.Real) (R d : Nat) : IsReal (D.dn R d) :=
  (h.dh R d).mul ((h.G d).mul (IsReal.one.add (h.SC d)))

/-- A real factor leaves a finite sum of reals. -/
theorem sum_mul_real {ι : Type} (s : Finset ι) (f : ι → EReal) (c : EReal) (hf : ∀ i, IsReal (f i)) (hc : IsReal c) :
    (∑ i ∈ s, f i) * c = ∑ i ∈ s, f i * c := by
  obtain ⟨c, rfl⟩ := hc
  choose g hg using hf
  simp only [hg, ← EReal.coe_mul, ← coe_sum, Finset.sum_mul]

/-- The blocks' sums make the whole sums. -/
theorem Real.sum_blk (h : D.Real) (j d : Nat) : ∑ b ∈ Finset.range 16, D.blk b j d = D.tot j d := by
  have S : ∀ f : Nat → EReal, ∑ b ∈ Finset.range 16, ∑ r : Fin 256, f (256 * b + r) = ∑ R : Fin 4096, f R := fun f => by
    rw [sum_blocks f 256 16]; exact Finset.sum_range f
  unfold blk tot
  by_cases h0 : j = 0
  · simp only [if_pos h0]; exact S fun R => D.dh R d
  simp only [if_neg h0]
  have hr : ∀ R, IsReal (D.dh R d * D.nrm R d) := fun R => (h.dh R d).mul (h.nrm R d)
  by_cases h1 : j = 1
  · simp only [if_pos h1]
    rw [← S fun R => D.dh R d * D.nrm R d, sum_mul_real _ _ _ (fun b => IsReal.sum _ fun r => hr _) (h.G d)]
  simp only [if_neg h1]
  by_cases h2 : j = 2
  · simp only [if_pos h2]
    rw [← S fun R => D.dh R d * D.nrm R d,
      sum_mul_real _ _ _ (fun b => IsReal.sum _ fun r => hr _) (IsReal.one.add (h.SC d))]
  simp only [if_neg h2, Finset.sum_const_zero]

/-- The word for minus one half. -/
theorem mhalf_eq : Ideal.ofBits .f32 0xBF000000#32 = ((-(1 / 2) : ℝ) : EReal) := by
  simp [Ideal.ofBits, Ideal.ieee, -EReal.coe_mul]
  norm_num

/-- The derivative of the norm as the chain rule leaves it, over the reals. -/
theorem Real.dx (h : D.Real) (R d : Nat) :
    D.DX R d + ((D.dn R d * D.rs R
        + D.X R d * Ideal.div ((∑ e : Fin 1024, D.X R e * D.dn R e)
            * (Ideal.ofBits .f32 0xBF000000#32 * Ideal.div (D.rs R) (D.ms R + eps))) len)
      + Ideal.div ((∑ e : Fin 1024, D.X R e * D.dn R e)
            * (Ideal.ofBits .f32 0xBF000000#32 * Ideal.div (D.rs R) (D.ms R + eps))) len * D.X R d)
      = D.dx R d := by
  obtain ⟨v, r, hv, hrv, ev, er⟩ := h.rs R
  unfold Inp.dx Inp.nrm
  rw [ev, er, mhalf_eq, len_eq]
  choose x hx using h.X R
  choose y hy using h.dn R
  rw [Ideal.div_coe hv.ne', Ideal.div_coe (by norm_num), Ideal.div_coe (by norm_num)]
  simp only [hx, hy, ← EReal.coe_mul, ← coe_sum, ← EReal.coe_add, ← EReal.coe_sub]
  congr 2
  have e1 : ∑ e : Fin 1024, y e * (x e * r) = (∑ e : Fin 1024, x e * y e) * r := by
    rw [Finset.sum_mul]; exact Finset.sum_congr rfl fun e _ => by ring
  rw [e1]
  have e2 : 1 / v = r * r := by field_simp; linarith
  rw [e2]
  ring

end Inp

end Cert.NormGrad
-- ==== Proof.Forward.lean ====
module

public import proofs.«01_k».proof.Proof.NormGrad

/-! What the forward calls of both layers share: the logistic function written with the hyperbolic tangent, a buffer
written in two halves, and stores listed one by one. -/

@[expose] public section

noncomputable section

open Idealize.ShloMosaic Idealize.ShloMosaic.TcCoe

namespace Cert.Forward

open Cert.Pieces Cert.NormGrad

/-- The word for one half. -/
abbrev half : EReal := Ideal.ofBits .f32 0x3F000000#32

theorem half_eq : half = ((1 / 2 : ℝ) : EReal) := by
  simp [half, Ideal.ofBits, Ideal.ieee, ← EReal.coe_mul]
  norm_num

/-- The algebra of the two forms of the logistic function. -/
theorem half_tanh_aux (a b : ℝ) (ha : 0 < a) (hb : 0 < b) (h : a * b = 1) :
    1 / 2 * ((a - b) / 2 / ((a + b) / 2)) + 1 / 2 = (1 + b * b)⁻¹ := by
  field_simp
  linear_combination 2 * b * h

/-- The logistic function of a real number is an affine image of the hyperbolic tangent at half the argument. -/
theorem half_tanh (v : ℝ) : 1 / 2 * Real.tanh (1 / 2 * v) + 1 / 2 = (1 + Real.exp (-v))⁻¹ := by
  have e : -v = -(1 / 2 * v) + -(1 / 2 * v) := by ring
  rw [Real.tanh_eq_sinh_div_cosh, Real.sinh_eq, Real.cosh_eq, e, Real.exp_add]
  exact half_tanh_aux _ _ (Real.exp_pos _) (Real.exp_pos _) (by rw [← Real.exp_add]; simp)

/-- The gate `v * logistic(v)` as the kernels compute it. -/
def silu (v : EReal) : EReal := v * (half * Ideal.tanh (half * v) + half)

/-- The logistic function, at every extended real. -/
theorem logistic (v : EReal) : half * Ideal.tanh (half * v) + half = Ideal.div 1 (1 + Ideal.exp (-v)) := by
  rw [half_eq]
  induction v with
  | bot =>
    rw [EReal.coe_mul_bot_of_pos (by norm_num), EReal.neg_bot, Ideal.exp_top]
    show _ * (-1 : EReal) + _ = Ideal.div 1 (1 + ⊤)
    rw [show (1 : EReal) + ⊤ = ⊤ from rfl]
    unfold Ideal.div
    rw [if_neg EReal.top_ne_zero, EReal.inv_top, mul_zero, mul_neg, mul_one, ← EReal.coe_neg, ← EReal.coe_add]
    norm_num
  | top =>
    rw [EReal.coe_mul_top_of_pos (by norm_num), EReal.neg_top, Ideal.exp_bot]
    show _ * (1 : EReal) + _ = Ideal.div 1 (1 + 0)
    rw [add_zero, mul_one, ← EReal.coe_one, Ideal.div_coe one_ne_zero, ← EReal.coe_mul, ← EReal.coe_add]
    norm_num
  | coe v =>
    rw [← EReal.coe_mul, Ideal.tanh_coe, ← EReal.coe_mul, ← EReal.coe_add, half_tanh, ← EReal.coe_neg,
      Ideal.exp_coe, ← EReal.coe_one, ← EReal.coe_add, Ideal.div_coe (by positivity), ← EReal.coe_mul]
    simp

/-- The gate as the references compute it. -/
theorem silu_eq (v : EReal) : v * Ideal.div 1 (1 + Ideal.exp (-v)) = silu v := by rw [← logistic]; rfl

/-- No store. -/
theorem agrees_nil {m n : Nat} {e : EltTy} {g : Nat → Nat → Elt Ideal e} :
    ∀ p ∈ ([] : List (View.Piece (Elt Ideal) ⟨2, ![m, n]⟩ e)), Agrees g p := fun _ h => absurd h List.not_mem_nil

/-- One more store in front. -/
theorem agrees_cons {m n : Nat} {e : EltTy} {g : Nat → Nat → Elt Ideal e} {p : View.Piece (Elt Ideal) ⟨2, ![m, n]⟩ e}
    {L : List (View.Piece (Elt Ideal) ⟨2, ![m, n]⟩ e)} (h : Agrees g p) (hL : ∀ p ∈ L, Agrees g p) :
    ∀ q ∈ p :: L, Agrees g q := by
  intro q hq
  rcases List.mem_cons.1 hq with rfl | hq
  · exact h
  · exact hL q hq

/-- Two tables side by side. -/
def joined {m w n : Nat} {e : EltTy} (h : n = w + w) (p q : (⟨2, ![m, w]⟩ : Shape).Idx → Elt Ideal e) :
    (⟨2, ![m, n]⟩ : Shape).Idx → Elt Ideal e := fun y =>
  if hy : (y 1).val < w then p (ix2 (y 0) ⟨(y 1).val, hy⟩)
  else q (ix2 (y 0) ⟨(y 1).val - w, by have h1 : (y 1).val < n := (y 1).isLt; omega⟩)

/-- A buffer written in two halves, read whole. -/
theorem readCov_two {sig : RefSig} {κ : Kind} {sp : Space} {m w n : Nat} {e : EltTy} (h : n = w + w)
    (v : View sig κ sp ⟨2, ![m, n]⟩ e)
    (i1 : ∀ k, (![0, 0] : Fin 2 → Nat) k + (![m, w] : Fin 2 → Nat) k ≤ (![m, n] : Fin 2 → Nat) k)
    (i2 : ∀ k, (![0, w] : Fin 2 → Nat) k + (![m, w] : Fin 2 → Nat) k ≤ (![m, n] : Fin 2 → Nat) k)
    (i3 : ∀ k, (![0, 0] : Fin 2 → Nat) k + (![m, n] : Fin 2 → Nat) k ≤ (![m, n] : Fin 2 → Nat) k)
    (p q : (⟨2, ![m, w]⟩ : Shape).Idx → Elt Ideal e) :
    v.readCov (Val := Elt Ideal) [⟨Rect.unit (s := ⟨2, ![m, n]⟩) ![0, w] ![m, w] i2, q⟩,
        ⟨Rect.unit (s := ⟨2, ![m, n]⟩) ![0, 0] ![m, w] i1, p⟩] (Rect.unit (s := ⟨2, ![m, n]⟩) ![0, 0] ![m, n] i3).toLoadRect
      = joined h p q := by
  rw [View.readCov_eq_canon']
  funext j
  obtain ⟨r, k, rfl⟩ : ∃ (r : Fin m) (k : Fin n), j = ix2 r k := ⟨j 0, j 1, eq_ix2 j⟩
  have hi : (Rect.unit (s := ⟨2, ![m, n]⟩) ![0, 0] ![m, n] i3).toLoadRect.idx (ix2 r k) = ix2 r k := by
    funext a; apply Fin.ext
    match a with
    | ⟨0, _⟩ => show 0 + 1 * r.val = r.val; omega
    | ⟨1, _⟩ => show 0 + 1 * k.val = k.val; omega
  show View.canon _ _ = _
  rw [hi]
  have hr := r.isLt
  have hk := k.isLt
  let g : Nat → Nat → Elt Ideal e := fun a b =>
    if ha : a < m ∧ b < n then joined h p q (ix2 ⟨a, ha.1⟩ ⟨b, ha.2⟩) else joined h p q (ix2 r k)
  have e1 := canon_of_agrees (Val := Elt Ideal) g [⟨Rect.unit (s := ⟨2, ![m, n]⟩) ![0, w] ![m, w] i2, q⟩,
        ⟨Rect.unit (s := ⟨2, ![m, n]⟩) ![0, 0] ![m, w] i1, p⟩]
    (agrees_cons (agrees_unit _ _ _ _ _ _ _ fun a b => by
        have hb := b.isLt
        have ha := a.isLt
        show q _ = dite _ _ _
        rw [dif_pos ⟨by omega, by omega⟩]
        unfold joined
        rw [dif_neg (by show ¬ w + b.val < w; omega)]
        refine congrArg q ?_
        funext x; apply Fin.ext
        match x with
        | ⟨0, _⟩ => show a.val = 0 + a.val; omega
        | ⟨1, _⟩ => show b.val = w + b.val - w; omega)
      (agrees_cons (agrees_unit _ _ _ _ _ _ _ fun a b => by
        have hb := b.isLt
        have ha := a.isLt
        show p _ = dite _ _ _
        rw [dif_pos ⟨by omega, by omega⟩]
        unfold joined
        rw [dif_pos (by show 0 + b.val < w; omega)]
        refine congrArg p ?_
        funext x; apply Fin.ext
        match x with
        | ⟨0, _⟩ => show a.val = 0 + a.val; omega
        | ⟨1, _⟩ => show b.val = 0 + b.val; omega) agrees_nil)) (ix2 r k) (by
      by_cases hc : k.val < w
      · refine ⟨⟨Rect.unit (s := ⟨2, ![m, n]⟩) ![0, 0] ![m, w] i1, p⟩, by simp, ?_⟩
        exact (mem_unit (inb := i1)).2 ⟨⟨Nat.zero_le _, by show r.val < 0 + m; omega⟩, Nat.zero_le _, by show k.val < 0 + w; omega⟩
      · refine ⟨⟨Rect.unit (s := ⟨2, ![m, n]⟩) ![0, w] ![m, w] i2, q⟩, by simp, ?_⟩
        exact (mem_unit (inb := i2)).2 ⟨⟨Nat.zero_le _, by show r.val < 0 + m; omega⟩, by show w ≤ k.val; omega, by show k.val < w + w; omega⟩)
  rw [e1]
  exact dif_pos (show r.val < m ∧ k.val < n from ⟨hr, hk⟩)

end Cert.Forward
-- ==== Proof.Inproj1BwdValue.lean ====
module

public import proofs.«01_k».proof.Defs
public import proofs.«01_k».proof.Proof.NormGrad
public import proofs.«01_k».proof.Proof.Forward
public import proofs.«01_k».proof.Proof.Gen.Inproj1BwdIdeal.Value
public import Idealize.ShloMosaic.Lib.Pipeline.ValueKit
public import Idealize.ShloMosaic.Lib.Claim
public import Idealize.ShloMosaic.Lib.StableHlo.RunRead
public import Idealize.ShloMosaic.Lib.Pointwise

/-! What the call leaves: the gradient of the norm's rows, block by block, and the sums over the rows. -/

@[expose] public section

set_option maxRecDepth 16384

noncomputable section

open Idealize.ShloMosaic Idealize.ShloMosaic.TcCoe Idealize.SL.Sem

namespace Cert.Inproj1BwdValue

open Cert.Inproj1BwdIdeal Cert.Inproj1BwdIdeal.Gen Cert.Pieces Cert.NormGrad Cert.Forward

/-- A buffer written whole, read in part. -/
theorem read_whole {S : Shape} {e : EltTy} {sig : RefSig} {κ : Kind} {sp : Space} (v : View sig κ sp S e)
    (p : S.Idx → Elt Ideal e) (r : Rect S) :
    v.readCov (Val := Elt Ideal) [⟨Rect.whole S, p⟩] r.toLoadRect = View.ld p r := by
  rw [View.readCov_eq_canon']
  funext j
  have h := View.canon_cons_emb (Val := Elt Ideal) (Rect.whole S) p [] (r.toLoadRect.idx j)
  rw [Rect.emb_whole_apply] at h
  exact h

section block

variable (D : Inp) (b : Nat) (hn : D.n = 8192)
  (x0 : Vec Ideal S256x8192 .bf16) (x1 x2 : Vec Ideal S256x1024 .f32) (x3 : Vec Ideal S8x1024 .f32) (w : Vec Ideal S4x1024x2048 .bf16)
  (h0 : ∀ (r : Fin 256) (k : Fin 8192), x0 (ix2 r k) = D.P (256 * b + r) k)
  (h1 : ∀ (r : Fin 256) (d : Fin 1024), x1 (ix2 r d) = D.X (256 * b + r) d)
  (h2 : ∀ (r : Fin 256) (d : Fin 1024), x2 (ix2 r d) = D.DX (256 * b + r) d)
  (h3 : ∀ d : Fin 1024, x3 (ix2 0 d) = D.G d)
  (h3' : ∀ d : Fin 1024, x3 (ix2 1 d) = D.SC d)
  (hw : ∀ (j : Fin 4) (d : Fin 1024) (k : Fin 2048), w (ix3 j d k) = D.W d (2048 * j + k))

include hn h0 hw in
/-- The block's cotangent before the product with the weights. -/
theorem dh_eq : k0_pay3 (View.ld x0 (Rect.unit (s := S256x8192) ![0, 0] ![256, 2048] inb_S256x8192_S256x2048_0_0)) (View.ld w (Rect.unit (s := S4x1024x2048) ![0, 0, 0] ![1, 1024, 2048] inb_S4x1024x2048_S1x1024x2048_0_0_0)) (View.ld x0 (Rect.unit (s := S256x8192) ![0, 2048] ![256, 2048] inb_S256x8192_S256x2048_0_2048)) (View.ld w (Rect.unit (s := S4x1024x2048) ![1, 0, 0] ![1, 1024, 2048] inb_S4x1024x2048_S1x1024x2048_1_0_0)) (View.ld x0 (Rect.unit (s := S256x8192) ![0, 4096] ![256, 2048] inb_S256x8192_S256x2048_0_4096)) (View.ld w (Rect.unit (s := S4x1024x2048) ![2, 0, 0] ![1, 1024, 2048] inb_S4x1024x2048_S1x1024x2048_2_0_0)) (View.ld x0 (Rect.unit (s := S256x8192) ![0, 6144] ![256, 2048] inb_S256x8192_S256x2048_0_6144)) (View.ld w (Rect.unit (s := S4x1024x2048) ![3, 0, 0] ![1, 1024, 2048] inb_S4x1024x2048_S1x1024x2048_3_0_0)) =
    arr 256 1024 fun r d => D.dh (256 * b + r) d := by
  funext y
  obtain ⟨r, d, rfl⟩ : ∃ (r : Fin 256) (d : Fin 1024), y = ix2 r d := ⟨y 0, y 1, eq_ix2 y⟩
  unfold k0_pay3
  pointwise [arr]
  simp only [h0, hw]
  unfold Inp.dh
  rw [hn]
  refine Eq.trans ?_ (sum_blocks (fun k => D.P (256 * b + r) k * D.W d k) 2048 4)
  rw [Finset.sum_range_succ, Finset.sum_range_succ, Finset.sum_range_succ, Finset.sum_range_one]
  refine congrArg₂ (· + ·) (congrArg₂ (· + ·) (congrArg₂ (· + ·) (Finset.sum_congr rfl fun x _ => ?_) rfl) rfl) rfl
  show D.P _ x.val * D.W _ (2048 * 0 + x.val) = D.P _ (2048 * 0 + x.val) * D.W _ (2048 * 0 + x.val)
  rw [Nat.mul_zero, Nat.zero_add]

include h1 in
/-- The block's mean squares. -/
theorem ms_eq (i1) : k0_pay4 (View.ld x1 (Rect.unit (s := S256x1024) ![0, 0] ![256, 1024] i1)) =
    arr 256 1 fun r _ => D.ms (256 * b + r) := by
  funext y
  obtain ⟨r, d, rfl⟩ : ∃ (r : Fin 256) (d : Fin 1), y = ix2 r d := ⟨y 0, y 1, eq_ix2 y⟩
  unfold k0_pay4
  pointwise [arr]
  simp only [h1]
  rfl

end block

section first

variable (c : Dev nD) (i : grid0.Coords) (arg1 : Memref sig .tc .vmem S256x8192 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S4x1024x2048 .bf16) (harg8 : arg8.IsWhole) (hc0 : cond0_0 i)
    (x0 : Vec Ideal S256x8192 .bf16) (x1 : Vec Ideal S256x1024 .f32) (x2 : Vec Ideal S256x1024 .f32) (x3 : Vec Ideal S8x1024 .f32) (fh0 : HbBuf0 (F := Ideal) c hbM0_0)

/-- What the first point leaves of the weights in scratch: all of them. -/
theorem sout0_A_0_eq :
    sout0_A_0 (F := Ideal) c i arg1 harg1 arg3 harg3 arg4 harg4 arg5 harg5 arg6 harg6 arg7 harg7 arg8 harg8 hc0 x0 x1 x2 x3 fh0 = (View.read (Elt Ideal) (View.whole main_arg1) fh0 : Vec Ideal S4x1024x2048 .bf16) := by
  funext y
  unfold sout0_A_0
  unfold kernelRun0_A
  dsimp only
  sl_unfold_words
  rw [View.read_writes_junk_apply_eq_canon]
  have h := View.canon_cons_emb (Val := Elt Ideal) (Rect.whole S4x1024x2048) (View.read (Elt Ideal) (View.whole main_arg1) fh0) [] y
  rw [Rect.emb_whole_apply] at h
  exact h

variable
    (D : Inp) (b : Nat) (hn : D.n = 8192)
    (h0 : ∀ (r : Fin 256) (k : Fin 8192), x0 (ix2 r k) = D.P (256 * b + r) k)
    (h1 : ∀ (r : Fin 256) (d : Fin 1024), x1 (ix2 r d) = D.X (256 * b + r) d)
    (h2 : ∀ (r : Fin 256) (d : Fin 1024), x2 (ix2 r d) = D.DX (256 * b + r) d)
    (h3 : ∀ d : Fin 1024, x3 (ix2 0 d) = D.G d)
    (h3' : ∀ d : Fin 1024, x3 (ix2 1 d) = D.SC d)
    (hw : ∀ (j : Fin 4) (d : Fin 1024) (k : Fin 2048), (View.read (Elt Ideal) (View.whole main_arg1) fh0 : Vec Ideal S4x1024x2048 .bf16) (ix3 j d k) = D.W d (2048 * j + k))
include hn h0 h1 h2 h3 h3' hw

/-- What the first point stores of the rows' gradient. -/
theorem out0_A_4_eq :
    out0_A_4 (F := Ideal) c i arg1 harg1 arg3 harg3 arg4 harg4 arg5 harg5 arg6 harg6 arg7 harg7 arg8 harg8 hc0 x0 x1 x2 x3 fh0 = arr 256 1024 fun r d => D.dx (256 * b + r) d := by
  funext y
  unfold out0_A_4
  rw [View.read_writes_eq_canon _ _ _ (cover0_A_4 c i arg1 harg1 arg3 harg3 arg4 harg4 arg5 harg5 arg6 harg6 arg7 harg7 arg8 harg8 hc0 x0 x1 x2 x3 fh0)]
  refine canon_of_agrees (Val := Elt Ideal) (fun r d => D.dx (256 * b + r) d) _ ?_ y (cover0_A_4 c i arg1 harg1 arg3 harg3 arg4 harg4 arg5 harg5 arg6 harg6 arg7 harg7 arg8 harg8 hc0 x0 x1 x2 x3 fh0 y)
  unfold kernelRun0_A
  dsimp only
  sl_unfold_words
  simp only [View.readAt_eq_ld, harg1.read_unread, harg3.read_unread, harg4.read_unread, harg5.read_unread, harg6.read_unread, harg7.read_unread, harg8.read_unread]
  have ra : ∀ p : Vec Ideal S4x1024x2048 .bf16, (ReadAs.same.apply p : Vec Ideal S4x1024x2048 .bf16) = p := fun _ => rfl
  simp only [↓read_whole, ra]
  simp only [dh_eq D b hn x0 (View.read (Elt Ideal) (View.whole main_arg1) fh0) h0 hw, ms_eq D b x1 h1]
  refine agrees_cons (agrees_unit _ _ _ _ _ _ _ fun r d => ?_) agrees_nil
  unfold_payloads
  pointwise [arr]
  simp only [h1, h2, h3, h3', Nat.zero_add]
  rfl

/-- What the first point stores of the sums. -/
theorem out0_A_5_eq :
    out0_A_5 (F := Ideal) c i arg1 harg1 arg3 harg3 arg4 harg4 arg5 harg5 arg6 harg6 arg7 harg7 arg8 harg8 hc0 x0 x1 x2 x3 fh0 = arr 8 1024 fun j d => D.blk b j d := by
  funext y
  unfold out0_A_5
  rw [View.read_writes_eq_canon _ _ _ (cover0_A_5 c i arg1 harg1 arg3 harg3 arg4 harg4 arg5 harg5 arg6 harg6 arg7 harg7 arg8 harg8 hc0 x0 x1 x2 x3 fh0)]
  unfold kernelRun0_A
  dsimp only
  sl_unfold_words
  simp only [View.readAt_eq_ld, harg1.read_unread, harg3.read_unread, harg4.read_unread, harg5.read_unread, harg6.read_unread, harg7.read_unread, harg8.read_unread]
  have ra : ∀ p : Vec Ideal S4x1024x2048 .bf16, (ReadAs.same.apply p : Vec Ideal S4x1024x2048 .bf16) = p := fun _ => rfl
  simp only [↓read_whole, ra]
  simp only [dh_eq D b hn x0 (View.read (Elt Ideal) (View.whole main_arg1) fh0) h0 hw, ms_eq D b x1 h1]
  simp (disch := omega) only [↓readCov_miss (m := 8) (n := 1024), ↓readCov_whole (m := 8) (n := 1024)]
  show View.canon ([_, _, _] ++ [_]) y = _
  refine canon_base (Val := Elt Ideal) (e := .f32) (fun j d => D.blk b j d) _ y _ ?_ fun hm => ?_
  rotate_left
  · have y1 : (y 1).val < 1024 := (y 1).isLt
    have y0 : (y 0).val < 8 := (y 0).isLt
    simp only [List.forall_mem_cons, mem_unit] at hm
    obtain ⟨n2, n1, n0, _⟩ := hm
    have e : 3 ≤ (y 0).val := by
      by_contra e
      by_cases e2 : (y 0).val = 2
      · exact n2 ⟨⟨by omega, by omega⟩, by omega, by omega⟩
      by_cases e1 : (y 0).val = 1
      · exact n1 ⟨⟨by omega, by omega⟩, by omega, by omega⟩
      exact n0 ⟨⟨by omega, by omega⟩, by omega, by omega⟩
    have z2 : (![0, 0] : Fin 2 → Nat) = fun _ => 0 := by decide
    rw [View.canon_unit_zero (S := S8x1024) z2]
    show _ = D.blk b (y 0).val (y 1).val
    unfold Inp.blk
    rw [if_neg (by omega), if_neg (by omega), if_neg (by omega)]
    exact Ideal.ofBits_zero_f32
  refine agrees_cons (agrees_unit _ _ _ _ _ _ _ fun r d => ?_) ?_
  · have hr : r.val = 0 := by omega
    unfold_payloads
    pointwise [arr]
    simp only [ h1, h3, h3', hr, Nat.add_zero, Nat.zero_add]
    rfl
  refine agrees_cons (agrees_unit _ _ _ _ _ _ _ fun r d => ?_) ?_
  · have hr : r.val = 0 := by omega
    unfold_payloads
    pointwise [arr]
    simp only [ h1, h3, h3', hr, Nat.add_zero, Nat.zero_add]
    rfl
  refine agrees_cons (agrees_unit _ _ _ _ _ _ _ fun r d => ?_) ?_
  · have hr : r.val = 0 := by omega
    unfold_payloads
    pointwise [arr]
    try simp only [hr, Nat.add_zero, Nat.zero_add]
    rfl
  exact agrees_nil

end first

section later

variable (c : Dev nD) (i : grid0.Coords) (arg1 : Memref sig .tc .vmem S256x8192 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S4x1024x2048 .bf16) (harg8 : arg8.IsWhole) (hc0 : ¬cond0_0 i)
    (x0 : Vec Ideal S256x8192 .bf16) (x1 : Vec Ideal S256x1024 .f32) (x2 : Vec Ideal S256x1024 .f32) (x3 : Vec Ideal S8x1024 .f32) (xo5 : Vec Ideal S8x1024 .f32) (xs0 : Vec Ideal S4x1024x2048 .bf16) (fh0 : HbBuf0 (F := Ideal) c hbM0_0)
    (D : Inp) (b : Nat) (hn : D.n = 8192)
    (h0 : ∀ (r : Fin 256) (k : Fin 8192), x0 (ix2 r k) = D.P (256 * b + r) k)
    (h1 : ∀ (r : Fin 256) (d : Fin 1024), x1 (ix2 r d) = D.X (256 * b + r) d)
    (h2 : ∀ (r : Fin 256) (d : Fin 1024), x2 (ix2 r d) = D.DX (256 * b + r) d)
    (h3 : ∀ d : Fin 1024, x3 (ix2 0 d) = D.G d)
    (h3' : ∀ d : Fin 1024, x3 (ix2 1 d) = D.SC d)
    (hw : ∀ (j : Fin 4) (d : Fin 1024) (k : Fin 2048), xs0 (ix3 j d k) = D.W d (2048 * j + k))
include hn h0 h1 h2 h3 h3' hw

/-- What a later point stores of the rows' gradient. -/
theorem out0_B_4_eq :
    out0_B_4 (F := Ideal) c i arg1 harg1 arg3 harg3 arg4 harg4 arg5 harg5 arg6 harg6 arg7 harg7 arg8 harg8 hc0 x0 x1 x2 x3 xo5 xs0 fh0 = arr 256 1024 fun r d => D.dx (256 * b + r) d := by
  funext y
  unfold out0_B_4
  rw [View.read_writes_eq_canon _ _ _ (cover0_B_4 c i arg1 harg1 arg3 harg3 arg4 harg4 arg5 harg5 arg6 harg6 arg7 harg7 arg8 harg8 hc0 x0 x1 x2 x3 xo5 xs0 fh0)]
  refine canon_of_agrees (Val := Elt Ideal) (fun r d => D.dx (256 * b + r) d) _ ?_ y (cover0_B_4 c i arg1 harg1 arg3 harg3 arg4 harg4 arg5 harg5 arg6 harg6 arg7 harg7 arg8 harg8 hc0 x0 x1 x2 x3 xo5 xs0 fh0 y)
  unfold kernelRun0_B
  dsimp only
  sl_unfold_words
  simp only [View.readAt_eq_ld, harg1.read_unread, harg3.read_unread, harg4.read_unread, harg5.read_unread, harg6.read_unread, harg7.read_unread, harg8.read_unread]
  simp only [dh_eq D b hn x0 xs0 h0 hw, ms_eq D b x1 h1]
  refine agrees_cons (agrees_unit _ _ _ _ _ _ _ fun r d => ?_) agrees_nil
  unfold_payloads
  pointwise [arr]
  simp only [h1, h2, h3, h3', Nat.zero_add]
  rfl

/-- What a later point adds to the sums. -/
theorem out0_B_5_eq
    (Z : Nat → Nat → EReal) (hz : ∀ (j : Fin 8) (d : Fin 1024), xo5 (ix2 j d) = Z j d) :
    out0_B_5 (F := Ideal) c i arg1 harg1 arg3 harg3 arg4 harg4 arg5 harg5 arg6 harg6 arg7 harg7 arg8 harg8 hc0 x0 x1 x2 x3 xo5 xs0 fh0 = arr 8 1024 fun j d => Z j d + D.blk b j d := by
  funext y
  unfold out0_B_5
  unfold kernelRun0_B
  dsimp only
  sl_unfold_words
  simp only [View.readAt_eq_ld, harg1.read_unread, harg3.read_unread, harg4.read_unread, harg5.read_unread, harg6.read_unread, harg7.read_unread, harg8.read_unread]
  simp only [dh_eq D b hn x0 xs0 h0 hw, ms_eq D b x1 h1]
  refine writes_of_agrees (Val := Elt Ideal) (e := .f32) _ _ (fun j d => Z j d + D.blk b j d) _ ?_ y fun hm => ?_
  rotate_left
  · have y1 : (y 1).val < 1024 := (y 1).isLt
    have y0 : (y 0).val < 8 := (y 0).isLt
    simp only [List.forall_mem_cons, mem_unit] at hm
    obtain ⟨n2, n1, n0, _⟩ := hm
    have e : 3 ≤ (y 0).val := by
      by_contra e
      by_cases e2 : (y 0).val = 2
      · exact n2 ⟨⟨by omega, by omega⟩, by omega, by omega⟩
      by_cases e1 : (y 0).val = 1
      · exact n1 ⟨⟨by omega, by omega⟩, by omega, by omega⟩
      exact n0 ⟨⟨by omega, by omega⟩, by omega, by omega⟩
    rw [harg7.read_unread]
    show _ = Z (y 0).val (y 1).val + D.blk b (y 0).val (y 1).val
    unfold Inp.blk
    rw [if_neg (by omega), if_neg (by omega), if_neg (by omega), add_zero, eq_ix2 y]
    exact hz (y 0) (y 1)
  refine agrees_cons (agrees_unit _ _ _ _ _ _ _ fun r d => ?_) ?_
  · have hr : r.val = 0 := by omega
    unfold_payloads
    pointwise [arr]
    simp only [hz, h1, h3, h3', hr, Nat.add_zero, Nat.zero_add]
    rfl
  refine agrees_cons (agrees_unit _ _ _ _ _ _ _ fun r d => ?_) ?_
  · have hr : r.val = 0 := by omega
    unfold_payloads
    pointwise [arr]
    simp only [hz, h1, h3, h3', hr, Nat.add_zero, Nat.zero_add]
    rfl
  refine agrees_cons (agrees_unit _ _ _ _ _ _ _ fun r d => ?_) ?_
  · have hr : r.val = 0 := by omega
    unfold_payloads
    pointwise [arr]
    simp only [hz, h1, h3, h3', hr, Nat.add_zero, Nat.zero_add]
    rfl
  exact agrees_nil

end later

/-- The arguments as tables. -/
def inpOf (x0 : (⟨2, ![4096, 8192]⟩ : Shape).Idx → EReal) (x1 : (⟨3, ![4, 1024, 2048]⟩ : Shape).Idx → EReal)
    (x2 x3 : (⟨2, ![4096, 1024]⟩ : Shape).Idx → EReal) (x4 x6 : (⟨1, ![1024]⟩ : Shape).Idx → EReal) : Inp where
  P := tab 4096 8192 x0
  W := side 4 1024 2048 x1
  X := tab 4096 1024 x2
  DX := tab 4096 1024 x3
  G := row 1024 x4
  SC := row 1024 x6
  n := 8192

variable (m : (ℓ : Loc nD τ sig) → Buf (Elt Ideal) ℓ) (c : Dev nD)

/-- The call's arguments as tables. -/
def inp : Inp :=
  inpOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))

theorem index0 (t : Fin cfg0.N) : win0_0.index t = ![t.val, 0] := by revert t; decide +kernel

/-- The cotangent's rows that a point reads. -/
theorem block0 (t : Fin cfg0.N) (r : Fin 256) (k : Fin 8192) : iblk m c 0 t (ix2 r k) = (inp m c).P (256 * t.val + r) k := by
  have hN : t.val < 16 := lt_of_lt_of_eq t.isLt N_0
  show _ = tab 4096 8192 (m ((c : Thread nD τ).loc main_arg0)) _ _
  rw [tab_at _ (by have := r.isLt; omega) k.isLt]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 256 + 1 * r.val = _; rw [index0]; show t.val * 256 + 1 * _ = 256 * _ + _; omega
  | ⟨1, _⟩ => show win0_0.index t 1 * 8192 + 1 * k.val = _; rw [index0]; show 0 * 8192 + 1 * _ = k.val; omega

theorem index1 (t : Fin cfg0.N) : win0_1.index t = ![t.val, 0] := by revert t; decide +kernel

/-- The rows before the norm that a point reads. -/
theorem block1 (t : Fin cfg0.N) (r : Fin 256) (k : Fin 1024) : iblk m c 1 t (ix2 r k) = (inp m c).X (256 * t.val + r) k := by
  have hN : t.val < 16 := lt_of_lt_of_eq t.isLt N_0
  show _ = tab 4096 1024 (m ((c : Thread nD τ).loc main_arg2)) _ _
  rw [tab_at _ (by have := r.isLt; omega) k.isLt]
  unfold iblk
  rw [View.read_apply]
  refine (congrFun (V_main_arg2 m c) _).trans (congrArg (m ((c : Thread nD τ).loc main_arg2)) ?_)
  funext a; apply Fin.ext
  match a with
  | ⟨0, _⟩ => show win0_1.index t 0 * 256 + 1 * r.val = _; rw [index1]; show t.val * 256 + 1 * _ = 256 * _ + _; omega
  | ⟨1, _⟩ => show win0_1.index t 1 * 1024 + 1 * k.val = _; rw [index1]; show 0 * 1024 + 1 * _ = k.val; omega

theorem index2 (t : Fin cfg0.N) : win0_2.index t = ![t.val, 0] := by revert t; decide +kernel

/-- The rows to add that a point reads. -/
theorem block2 (t : Fin cfg0.N) (r : Fin 256) (k : Fin 1024) : iblk m c 2 t (ix2 r k) = (inp m c).DX (256 * t.val + r) k := by
  have hN : t.val < 16 := lt_of_lt_of_eq t.isLt N_0
  show _ = tab 4096 1024 (m ((c : Thread nD τ).loc main_arg3)) _ _
  rw [tab_at _ (by have := r.isLt; omega) k.isLt]
  unfold iblk
  rw [View.read_apply]
  refine (congrFun (V_main_arg3 m c) _).trans (congrArg (m ((c : Thread nD τ).loc main_arg3)) ?_)
  funext a; apply Fin.ext
  match a with
  | ⟨0, _⟩ => show win0_2.index t 0 * 256 + 1 * r.val = _; rw [index2]; show t.val * 256 + 1 * _ = 256 * _ + _; omega
  | ⟨1, _⟩ => show win0_2.index t 1 * 1024 + 1 * k.val = _; rw [index2]; show 0 * 1024 + 1 * _ = k.val; omega

/-- The host's first row of vectors: the norm's weights. -/
theorem vecs0 (d : Fin 1024) : V m c main_v7 (ix2 0 d) = m ((c : Thread nD τ).loc main_arg4) (ix1 d) := by
  unfold V
  after_reads_simp
  pointwise
  after_reads_simp
  pointwise
  done

/-- The host's second row of vectors: the modulation's scale. -/
theorem vecs1 (d : Fin 1024) : V m c main_v7 (ix2 1 d) = m ((c : Thread nD τ).loc main_arg6) (ix1 d) := by
  unfold V
  after_reads_simp
  pointwise
  after_reads_simp
  pointwise
  done

/-- Every point reads the same vectors. -/
theorem block3 (t : Fin cfg0.N) (r : Fin 8) (k : Fin 1024) : iblk m c 3 t (ix2 r k) = V m c main_v7 (ix2 r k) := by
  have hi : win0_3.index t = ![0, 0] := by revert t; decide +kernel
  unfold iblk
  rw [View.read_apply]
  refine congrArg (V m c main_v7) ?_
  funext a; apply Fin.ext
  match a with
  | ⟨0, _⟩ => show win0_3.index t 0 * 8 + 1 * r.val = _; rw [hi]; show 0 * 8 + 1 * _ = r.val; omega
  | ⟨1, _⟩ => show win0_3.index t 1 * 1024 + 1 * k.val = _; rw [hi]; show 0 * 1024 + 1 * _ = k.val; omega

/-- The norm's weights that a point reads. -/
theorem block3_0 (t : Fin cfg0.N) (d : Fin 1024) : iblk m c 3 t (ix2 0 d) = (inp m c).G d := by
  rw [block3, vecs0]
  exact (row_at _ d.isLt).symm

/-- The modulation's scale that a point reads. -/
theorem block3_1 (t : Fin cfg0.N) (d : Fin 1024) : iblk m c 3 t (ix2 1 d) = (inp m c).SC d := by
  rw [block3, vecs1]
  exact (row_at _ d.isLt).symm

/-- The weights that the first point copies. -/
theorem weights (j : Fin 4) (d : Fin 1024) (k : Fin 2048) :
    (View.read (Elt Ideal) (View.whole main_arg1) (V m c main_arg1) : Vec Ideal S4x1024x2048 .bf16) (ix3 j d k)
      = (inp m c).W d (2048 * j + k) := by
  rw [View.read_apply, V_main_arg1]
  exact (side_at (m ((c : Thread nD τ).loc main_arg1)) j.isLt d.isLt k.isLt).symm

/-- What the staging buffers and the scratch hold after a point. -/
def After (t : Fin cfg0.N) : Prop :=
  (outsAt0 m c t.val t.isLt).1 = arr 256 1024 (fun r d => (inp m c).dx (256 * t.val + r) d) ∧
  (outsAt0 m c t.val t.isLt).2.1 = arr 8 1024 (fun j d => ∑ b ∈ Finset.range (t.val + 1), (inp m c).blk b j d) ∧
  (outsAt0 m c t.val t.isLt).2.2 = (View.read (Elt Ideal) (View.whole main_arg1) (V m c main_arg1) : Vec Ideal S4x1024x2048 .bf16)

/-- The first point's rows. -/
theorem at_out0_A_4 (t : Fin cfg0.N) (ht : t.val % 16 = 0) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr ht) (iblk m c 0 t) (iblk m c 1 t) (iblk m c 2 t) (iblk m c 3 t) (V m c main_arg1) = arr 256 1024 (fun r d => (inp m c).dx (256 * t.val + r) d) :=
  out0_A_4_eq _ _ _ _ _ _ _ _ _ _ _ _ _ _ _ _ _ _ _ _ _ _ (inp m c) t.val rfl (block0 m c t) (block1 m c t) (block2 m c t) (block3_0 m c t) (block3_1 m c t) (weights m c)

/-- The first point's sums. -/
theorem at_out0_A_5 (t : Fin cfg0.N) (ht : t.val % 16 = 0) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr ht) (iblk m c 0 t) (iblk m c 1 t) (iblk m c 2 t) (iblk m c 3 t) (V m c main_arg1) = arr 8 1024 (fun j d => (inp m c).blk t.val j d) :=
  out0_A_5_eq _ _ _ _ _ _ _ _ _ _ _ _ _ _ _ _ _ _ _ _ _ _ (inp m c) t.val rfl (block0 m c t) (block1 m c t) (block2 m c t) (block3_0 m c t) (block3_1 m c t) (weights m c)

/-- A later point's rows. -/
theorem at_out0_B_4 (t : Fin cfg0.N) (ht : ¬t.val % 16 = 0) (xo5 : Vec Ideal S8x1024 .f32) (xs0 : Vec Ideal S4x1024x2048 .bf16)
    (hw : ∀ (j : Fin 4) (d : Fin 1024) (k : Fin 2048), xs0 (ix3 j d k) = (inp m c).W d (2048 * j + k)) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => ht ((hcond0_0 t).mp h)) (iblk m c 0 t) (iblk m c 1 t) (iblk m c 2 t) (iblk m c 3 t) xo5 xs0 (V m c main_arg1) = arr 256 1024 (fun r d => (inp m c).dx (256 * t.val + r) d) :=
  out0_B_4_eq _ _ _ _ _ _ _ _ _ _ _ _ _ _ _ _ _ _ _ _ _ _ _ _ (inp m c) t.val rfl (block0 m c t) (block1 m c t) (block2 m c t) (block3_0 m c t) (block3_1 m c t) hw

/-- A later point's sums. -/
theorem at_out0_B_5 (t : Fin cfg0.N) (ht : ¬t.val % 16 = 0) (xo5 : Vec Ideal S8x1024 .f32) (xs0 : Vec Ideal S4x1024x2048 .bf16)
    (hw : ∀ (j : Fin 4) (d : Fin 1024) (k : Fin 2048), xs0 (ix3 j d k) = (inp m c).W d (2048 * j + k))
    (Z : Nat → Nat → EReal) (hz : ∀ (j : Fin 8) (d : Fin 1024), xo5 (ix2 j d) = Z j d) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => ht ((hcond0_0 t).mp h)) (iblk m c 0 t) (iblk m c 1 t) (iblk m c 2 t) (iblk m c 3 t) xo5 xs0 (V m c main_arg1) = arr 8 1024 (fun j d => Z j d + (inp m c).blk t.val j d) :=
  out0_B_5_eq _ _ _ _ _ _ _ _ _ _ _ _ _ _ _ _ _ _ _ _ _ _ _ _ (inp m c) t.val rfl (block0 m c t) (block1 m c t) (block2 m c t) (block3_0 m c t) (block3_1 m c t) hw Z hz

/-- The first point's copy of the weights. -/
theorem at_sout0_A_0 (t : Fin cfg0.N) (ht : t.val % 16 = 0) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr ht) (iblk m c 0 t) (iblk m c 1 t) (iblk m c 2 t) (iblk m c 3 t) (V m c main_arg1) = (View.read (Elt Ideal) (View.whole main_arg1) (V m c main_arg1) : Vec Ideal S4x1024x2048 .bf16) :=
  sout0_A_0_eq _ _ _ _ _ _ _ _ _ _ _ _ _ _ _ _ _ _ _ _ _ _

/-- After the first point. -/
theorem after_A (t : Fin cfg0.N) (ht : t.val % 16 = 0) : After m c t := by
  have hN : cfg0.N = 16 := N_0
  have t0 : t.val = 0 := by have := t.isLt; omega
  have e := outsAt0_A m c t ht
  rw [at_out0_A_4 m c t ht, at_out0_A_5 m c t ht, at_sout0_A_0 m c t ht] at e
  unfold After
  rw [e]
  refine ⟨rfl, ?_, rfl⟩
  rw [t0]
  simp only [zero_add, Finset.sum_range_one]

/-- After a later point, from the point before. -/
theorem after_B (t : Fin cfg0.N) (ht : ¬t.val % 16 = 0)
    (ih : After m c ⟨t.val - 1, Nat.lt_of_le_of_lt (Nat.sub_le _ _) t.isLt⟩) : After m c t := by
  have hN : cfg0.N = 16 := N_0
  have tl : t.val < 16 := by have := t.isLt; omega
  obtain ⟨-, i2, i3⟩ := ih
  have hw : ∀ (j : Fin 4) (d : Fin 1024) (k : Fin 2048), (outsAt0 m c (t.val - 1) (Nat.lt_of_le_of_lt (Nat.sub_le _ _) t.isLt)).2.2 (ix3 j d k) = (inp m c).W d (2048 * j + k) :=
    fun j d k => (congrFun i3 (ix3 j d k)).trans (weights m c j d k)
  have hz : ∀ (j : Fin 8) (d : Fin 1024), (outsAt0 m c (t.val - 1) (Nat.lt_of_le_of_lt (Nat.sub_le _ _) t.isLt)).2.1 (ix2 j d)
      = (fun j d => ∑ b ∈ Finset.range t.val, (inp m c).blk b j d) j d := by
    intro j d
    refine (congrFun i2 (ix2 j d)).trans ?_
    show ∑ b ∈ Finset.range (t.val - 1 + 1), _ = _
    rw [show t.val - 1 + 1 = t.val by omega]
    rfl
  have e := outsAt0_B m c t ht
  rw [at_out0_B_4 m c t ht _ _ hw, at_out0_B_5 m c t ht _ _ hw (fun j d => ∑ b ∈ Finset.range t.val, (inp m c).blk b j d) hz] at e
  unfold After
  rw [e]
  refine ⟨rfl, ?_, i3⟩
  simp only [Finset.sum_range_succ]

/-- After every point. -/
theorem after_all : ∀ (n : Nat) (h : n < cfg0.N), After m c ⟨n, h⟩
  | 0, h => after_A m c ⟨0, h⟩ rfl
  | n + 1, h => by
    have hN : cfg0.N = 16 := N_0
    exact after_B m c ⟨n + 1, h⟩ (by show ¬(n + 1) % 16 = 0; omega) (after_all n (by omega))

theorem index4 (t : Fin cfg0.N) : win0_4.index t = ![t.val, 0] := by revert t; decide +kernel

/-- The gradient in the rows, whole. -/
theorem final4 : (dats m 0 c).arrAt 4 cfg0.N = arr 4096 1024 (inp m c).dx := by
  refine (dats m 0 c).arrAt_eq_of_covers 4 _ (by decide +kernel) fun t hf y => ?_
  blk_simp
  rw [after0_4, (after_all m c t.val t.isLt).1]
  unfold arr
  blk_simp [index4]
  rw [Nat.mul_comm 256]

/-- The sums over the rows, whole. -/
theorem final5 : (dats m 0 c).arrAt 5 cfg0.N =
    arr 8 1024 fun j d => ∑ b ∈ Finset.range 16, (inp m c).blk b j d := by
  refine (dats m 0 c).arrAt_eq_of_after_last 5 t0_15 (by decide +kernel) _ fun j => ?_
  blk_simp
  rw [after0_5, (after_all m c t0_15.val t0_15.isLt).2.1]
  rfl

end Cert.Inproj1BwdValue
-- ==== Proof.Inproj1Bwd.lean ====
module

public import proofs.«01_k».proof.Defs
public import proofs.«01_k».proof.Proof.Inproj1BwdValue
public import proofs.«01_k».proof.Proof.Gen.Inproj1BwdRefIdeal.Read
public import proofs.«01_k».proof.Proof.Gen.Inproj1BwdRefIdeal.Run
public import Idealize.ShloMosaic.Lib.Quiescent

/-! The call and the derivative of the reference leave the same arrays when what enters the norm's gradient is finite. -/

@[expose] public section

set_option maxRecDepth 16384

noncomputable section

open Idealize.ShloMosaic Idealize.ShloMosaic.TcCoe Idealize.SL.Sem

namespace Cert.Inproj1BwdClaim

open Cert.Inproj1BwdRefIdeal Cert.Inproj1BwdRefIdeal.Read Cert.Pieces Cert.NormGrad Cert.Reals
open Cert.Inproj1BwdValue (inpOf inp final4 final5)

section reference

variable (x0 : (⟨S4096x8192, .bf16⟩ : BufTy).Contents (Elt Ideal)) (x1 : (⟨S4x1024x2048, .bf16⟩ : BufTy).Contents (Elt Ideal))
  (x2 x3 : (⟨S4096x1024, .f32⟩ : BufTy).Contents (Elt Ideal)) (x4 x6 : (⟨S1024, .f32⟩ : BufTy).Contents (Elt Ideal))

local notation "D" => inpOf x0 x1 x2 x3 x4 x6

/-- The reference's weights: the chips' columns side by side. -/
theorem weights_eq (d : Fin 1024) (k : Fin 8192) :
    val_main_v12 (F := Ideal) x1 (ix2 d k) = side 4 1024 2048 x1 d k := by
  pointwise [val_main_v12, val_main_v11, val_main_v10, val_main_v9, val_main_v8, val_main_v7, val_main_v6, val_main_v5, val_main_v4, val_main_v3, val_main_v2, val_main_v1, val_main_v0]
  have hk := k.isLt
  have at_part : ∀ (j b : Nat) (hj : j < 4) (hb : b < 2048) (e : k.val = 2048 * j + b),
      x1 (ix3 ⟨j, hj⟩ d ⟨b, hb⟩) = side 4 1024 2048 x1 d k := fun j b hj hb e => by
    rw [e, side_at x1 hj d.isLt hb]
  split
  · exact at_part 0 _ (by omega) (by omega) (by omega)
  · split
    · exact at_part 1 _ (by omega) (by omega) (by omega)
    · split
      · exact at_part 2 _ (by omega) (by omega) (by omega)
      · exact at_part 3 _ (by omega) (by omega) (by omega)

/-- The cotangent. -/
theorem eP (R : Fin 4096) (k : Fin 8192) : x0 (ix2 R k) = (D).P R k := (tab_at x0 R.isLt k.isLt).symm

/-- The rows before the norm. -/
theorem eX (R : Fin 4096) (d : Fin 1024) : x2 (ix2 R d) = (D).X R d := (tab_at x2 R.isLt d.isLt).symm

/-- The rows to add. -/
theorem eDX (R : Fin 4096) (d : Fin 1024) : x3 (ix2 R d) = (D).DX R d := (tab_at x3 R.isLt d.isLt).symm

/-- The norm's weights. -/
theorem eG (d : Fin 1024) : x4 (ix1 d) = (D).G d := (row_at x4 d.isLt).symm

/-- The modulation's scale. -/
theorem eSC (d : Fin 1024) : x6 (ix1 d) = (D).SC d := (row_at x6 d.isLt).symm

/-- The cotangent before the product. -/
theorem v39_at (R : Fin 4096) (d : Fin 1024) : val_main_v39 (F := Ideal) x0 x1 (ix2 R d) = (D).dh R d := by
  pointwise [val_main_v39, val_main_v38]
  simp only [weights_eq, eP x0 x1 x2 x3 x4 x6]
  exact (Finset.sum_range fun k => (D).P R k * (D).W d k).symm

/-- The mean of the squares and the constant. -/
theorem v19_at (R : Fin 4096) : val_main_v19 (F := Ideal) x2 (ix2 R 0) = (D).ms R + eps := by
  pointwise [val_main_v19, val_main_v18, val_main_cst_1, val_main_v17, val_main_v16, val_main_cst_0, val_main_v15, val_main_v14, val_main_cst, val_main_v13]
  simp only [eX x0 x1 x2 x3 x4 x6]
  rfl

/-- One over the root. -/
theorem v20_at (R : Fin 4096) : val_main_v20 (F := Ideal) x2 (ix2 R 0) = (D).rs R := by
  pointwise [val_main_v20]
  rw [v19_at x0 x1 x2 x3 x4 x6]
  rfl

/-- The normed rows. -/
theorem v25_at (R : Fin 4096) (d : Fin 1024) : val_main_v25 (F := Ideal) x2 (ix2 R d) = (D).nrm R d := by
  pointwise [val_main_v25, val_main_v24]
  rw [v20_at x0 x1 x2 x3 x4 x6, eX x0 x1 x2 x3 x4 x6]
  rfl

/-- The cotangent of the modulated norm, times one plus the scale. -/
theorem v47_at (R : Fin 4096) (d : Fin 1024) :
    val_main_v47 (F := Ideal) x0 x1 x6 (ix2 R d) = (D).dh R d * (1 + (D).SC d) := by
  pointwise [val_main_v47, val_main_v46, val_main_v31, val_main_v30, val_main_v29, val_main_cst_3]
  rw [v39_at x0 x1 x2 x3 x4 x6, eSC x0 x1 x2 x3 x4 x6]

/-- The cotangent of the normed rows. -/
theorem v53_at (R : Fin 4096) (d : Fin 1024) :
    val_main_v53 (F := Ideal) x0 x1 x4 x6 (ix2 R d) = (D).dn R d := by
  pointwise [val_main_v53, val_main_v52, val_main_v26]
  rw [v47_at x0 x1 x2 x3 x4 x6, eG x0 x1 x2 x3 x4 x6]
  unfold Inp.dn
  rw [mul_assoc, mul_comm (1 + _)]

/-- The row of sums of the cotangent. -/
theorem v70_at (d : Fin 1024) : val_main_v70 (F := Ideal) x0 x1 (ix2 0 d) = (D).tot 0 d := by
  pointwise [val_main_v70, val_main_v42, val_main_cst_5, val_main_v41, val_main_v40, val_main_cst_4]
  simp only [v39_at x0 x1 x2 x3 x4 x6]
  simp [Inp.tot]

variable (hf : (inpOf x0 x1 x2 x3 x4 x6).Real)
include hf

/-- The row of the scale's gradient. -/
theorem v71_at (d : Fin 1024) : val_main_v71 (F := Ideal) x0 x1 x2 x4 (ix2 0 d) = (D).tot 1 d := by
  pointwise [val_main_v71, val_main_v48, val_main_cst_7, val_main_v45, val_main_v44, val_main_cst_6, val_main_v43, val_main_v28, val_main_v27, val_main_v26]
  simp only [v39_at x0 x1 x2 x3 x4 x6, v25_at x0 x1 x2 x3 x4 x6, eG x0 x1 x2 x3 x4 x6]
  have e : (D).tot 1 d = (∑ R : Fin 4096, (D).dh R d * (D).nrm R d) * (D).G d := rfl
  rw [e, Inp.sum_mul_real Finset.univ (fun R : Fin 4096 => (D).dh R d * (D).nrm R d) _ (fun R => (hf.dh _ _).mul (hf.nrm _ _)) (hf.G d)]
  simp only [Finset.univ_unique, Finset.sum_singleton]
  exact Finset.sum_congr rfl fun R _ => by rw [mul_comm (_ * _), mul_assoc]

/-- The row of the gradient of the norm's weights. -/
theorem v72_at (d : Fin 1024) : val_main_v72 (F := Ideal) x0 x1 x2 x6 (ix2 0 d) = (D).tot 2 d := by
  pointwise [val_main_v72, val_main_v54, val_main_cst_9, val_main_v51, val_main_v50, val_main_cst_8, val_main_v49]
  simp only [v47_at x0 x1 x2 x3 x4 x6, v25_at x0 x1 x2 x3 x4 x6]
  have e : (D).tot 2 d = (∑ R : Fin 4096, (D).dh R d * (D).nrm R d) * (1 + (D).SC d) := rfl
  rw [e, Inp.sum_mul_real Finset.univ (fun R : Fin 4096 => (D).dh R d * (D).nrm R d) _ (fun R => (hf.dh _ _).mul (hf.nrm _ _)) (IsReal.one.add (hf.SC d))]
  simp only [Finset.univ_unique, Finset.sum_singleton]
  exact Finset.sum_congr rfl fun R _ => by rw [mul_comm, mul_right_comm]

/-- The reference's sums. -/
theorem sums_eq : val_main_v75 (F := Ideal) x0 x1 x2 x4 x6 = arr 8 1024 (D).tot := by
  funext y
  obtain ⟨j, d, rfl⟩ : ∃ (j : Fin 8) (d : Fin 1024), y = ix2 j d := ⟨y 0, y 1, eq_ix2 y⟩
  pointwise [val_main_v75, val_main_v74, val_main_cst_13, val_main_v73, arr]
  by_cases h0 : j.val = 0
  · have e : j = 0 := Fin.ext h0
    subst e
    simpa using v70_at x0 x1 x2 x3 x4 x6 d
  by_cases h1 : j.val = 1
  · have e : j = 1 := Fin.ext h1
    subst e
    simpa using v71_at x0 x1 x2 x3 x4 x6 hf d
  by_cases h2 : j.val = 2
  · have e : j = 2 := Fin.ext h2
    subst e
    simpa using v72_at x0 x1 x2 x3 x4 x6 hf d
  rw [dif_neg (by omega)]
  simp [Inp.tot, h0, h1, h2]

/-- The reference's gradient in the rows. -/
theorem rows_eq : val_main_v69 (F := Ideal) x0 x1 x2 x3 x4 x6 = arr 4096 1024 (D).dx := by
  funext y
  obtain ⟨R, d, rfl⟩ : ∃ (R : Fin 4096) (d : Fin 1024), y = ix2 R d := ⟨y 0, y 1, eq_ix2 y⟩
  pointwise [val_main_v69, val_main_v68, val_main_v67, val_main_v66, val_main_v65, val_main_v64, val_main_v63, val_main_cst_12, val_main_v62, val_main_v61, val_main_cst_11, val_main_v60, val_main_v59, val_main_v58, val_main_v57, val_main_v56, val_main_cst_10, val_main_v55, val_main_v23, val_main_v22, val_main_cst_2, val_main_v21, arr]
  simp only [Finset.univ_unique, Finset.sum_singleton, Fin.default_eq_zero, v53_at x0 x1 x2 x3 x4 x6, v20_at x0 x1 x2 x3 x4 x6,
    v19_at x0 x1 x2 x3 x4 x6, eX x0 x1 x2 x3 x4 x6, eDX x0 x1 x2 x3 x4 x6]
  exact hf.dx R d

end reference

/-- The shape relations of the finiteness test. -/
instance preFacts : Cert.Pre_inproj_finite.Facts where
  bitsLt_bf16_f32 := by decide
  bcast_S_S4096x8192 := by decide
  reducesTo_S4096x8192_S_d0_1 := by decide
  h_S_ := by decide
  bcast_S_S4x1024x2048 := by decide
  reducesTo_S4x1024x2048_S_d0_1_2 := by decide
  bcast_S_S4096x1024 := by decide
  reducesTo_S4096x1024_S_d0_1 := by decide
  bcast_S_S1024 := by decide
  reducesTo_S1024_S_d0 := by decide

instance : Subsingleton Cert.Pre_inproj_finite.S_.Idx := ⟨fun a b => funext fun i => i.elim0⟩

/-- What the finiteness test says: every entry of the five arguments is a real number. -/
theorem fin_of_fn (x0 : FVec Ideal Cert.Pre_inproj_finite.S4096x8192 .bf16) (x1 : FVec Ideal Cert.Pre_inproj_finite.S4x1024x2048 .bf16)
    (x2 x3 : FVec Ideal Cert.Pre_inproj_finite.S4096x1024 .f32) (x4 x5 x6 x7 x8 : FVec Ideal Cert.Pre_inproj_finite.S1024 .f32)
    (i : Cert.Pre_inproj_finite.S_.Idx)
    (h : Cert.Pre_inproj_finite.fn (F := Ideal) x0 x1 x2 x3 x4 x5 x6 x7 x8 i = 1#1) :
    (inpOf x0 x1 x2 x3 x4 x6).Real := by
  obtain ⟨h, h6⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  have r0 : ∀ j, IsReal (x0 j) := fun j => isReal_of_lt (inf_word ▸ Host.reduce_andi_all _ _ _ _ i h0 j)
  have r1 : ∀ j, IsReal (x1 j) := fun j => isReal_of_lt (inf_word ▸ Host.reduce_andi_all _ _ _ _ i h1 j)
  have r2 : ∀ j, IsReal (x2 j) := fun j => isReal_of_lt (inf_word ▸ Host.reduce_andi_all _ _ _ _ i h2 j)
  have r4 : ∀ j, IsReal (x4 j) := fun j => isReal_of_lt (inf_word ▸ Host.reduce_andi_all _ _ _ _ i h4 j)
  have r6 : ∀ j, IsReal (x6 j) := fun j => isReal_of_lt (inf_word ▸ Host.reduce_andi_all _ _ _ _ i h6 j)
  exact ⟨isReal_tab r0, isReal_side r1, isReal_tab r2, isReal_row r4, isReal_row r6⟩

/-- The kernel and the reference end with the same two arrays. -/
theorem algebraic : Cert.algebraic_Inproj1BwdIdeal_Inproj1BwdRefIdeal_pre_inproj_finite := by
  intro m g m' g' hpre hargs
  refine ⟨fun c => arr 4096 1024 (inp m c).dx,
    fun c => arr 8 1024 fun j d => ∑ b ∈ Finset.range 16, (inp m c).blk b j d, ?_, ?_⟩
  · refine (θ_run _ _ _).mono (fun r h c => ?_) (Cert.Inproj1BwdIdeal.Value.run_blocks (F := Ideal) m g)
    obtain ⟨e0, e1, hk⟩ := h c
    exact ⟨e0.trans (final4 m c), e1.trans (final5 m c), hk⟩
  · refine (θ_run _ _ _).mono (fun r h c => ?_) (Cert.Inproj1BwdRefIdeal.Value.run (F := Ideal) m' g')
    obtain ⟨e0, e1, hk⟩ := h c
    obtain ⟨a0, a1, a2, a3, a4, -, a6, -⟩ := hargs c
    have hf : (inp m c).Real := fin_of_fn _ _ _ _ _ _ _ _ _ (fun i => i.elim0) (congrFun (hpre c) _)
    have v0 := rows_eq (m ((c.tc : Thread _ _).loc Inproj1BwdIdeal.main_arg0)) (m ((c.tc : Thread _ _).loc Inproj1BwdIdeal.main_arg1)) (m ((c.tc : Thread _ _).loc Inproj1BwdIdeal.main_arg2)) (m ((c.tc : Thread _ _).loc Inproj1BwdIdeal.main_arg3)) (m ((c.tc : Thread _ _).loc Inproj1BwdIdeal.main_arg4)) (m ((c.tc : Thread _ _).loc Inproj1BwdIdeal.main_arg6)) hf
    have v1 := sums_eq (m ((c.tc : Thread _ _).loc Inproj1BwdIdeal.main_arg0)) (m ((c.tc : Thread _ _).loc Inproj1BwdIdeal.main_arg1)) (m ((c.tc : Thread _ _).loc Inproj1BwdIdeal.main_arg2)) (m ((c.tc : Thread _ _).loc Inproj1BwdIdeal.main_arg3)) (m ((c.tc : Thread _ _).loc Inproj1BwdIdeal.main_arg4)) (m ((c.tc : Thread _ _).loc Inproj1BwdIdeal.main_arg6)) hf
    have s : (fun j d => ∑ b ∈ Finset.range 16, (inp m c).blk b j d) = (inp m c).tot :=
      funext fun j => funext fun d => hf.sum_blk j d
    beta_reduce
    rw [s]
    refine ⟨e0.trans (Eq.trans ?_ v0), e1.trans (Eq.trans ?_ v1), hk⟩
    · rw [← a0, ← a1, ← a2, ← a3, ← a4, ← a6]; rfl
    · rw [← a0, ← a1, ← a2, ← a4, ← a6]; rfl

/-- The reference runs, and ends with its arguments unchanged and its counters at zero: it declares none. -/
theorem frame_reference : Cert.quiescent_Inproj1BwdRefIdeal := fun m g _ =>
  (θ_run _ _ _).mono (fun r h => ⟨fun c => (h c).2.2, sem_eq_zero_of_no_sems (by decide) _⟩)
    (Cert.Inproj1BwdRefIdeal.Value.run (F := Ideal) m g)

end Cert.Inproj1BwdClaim
-- ==== Proof.Inproj0BwdValue.lean ====
module

public import proofs.«01_k».proof.Defs
public import proofs.«01_k».proof.Proof.NormGrad
public import proofs.«01_k».proof.Proof.Forward
public import proofs.«01_k».proof.Proof.Gen.Inproj0BwdIdeal.Value
public import Idealize.ShloMosaic.Lib.Pipeline.ValueKit
public import Idealize.ShloMosaic.Lib.Claim
public import Idealize.ShloMosaic.Lib.StableHlo.RunRead
public import Idealize.ShloMosaic.Lib.Pointwise

/-! What the call leaves: the gradient of the norm's rows, block by block, and the sums over the rows. -/

@[expose] public section

set_option maxRecDepth 16384

noncomputable section

open Idealize.ShloMosaic Idealize.ShloMosaic.TcCoe Idealize.SL.Sem

namespace Cert.Inproj0BwdValue

open Cert.Inproj0BwdIdeal Cert.Inproj0BwdIdeal.Gen Cert.Pieces Cert.NormGrad Cert.Forward

/-- A buffer written whole, read in part. -/
theorem read_whole {S : Shape} {e : EltTy} {sig : RefSig} {κ : Kind} {sp : Space} (v : View sig κ sp S e)
    (p : S.Idx → Elt Ideal e) (r : Rect S) :
    v.readCov (Val := Elt Ideal) [⟨Rect.whole S, p⟩] r.toLoadRect = View.ld p r := by
  rw [View.readCov_eq_canon']
  funext j
  have h := View.canon_cons_emb (Val := Elt Ideal) (Rect.whole S) p [] (r.toLoadRect.idx j)
  rw [Rect.emb_whole_apply] at h
  exact h

section block

variable (D : Inp) (b : Nat) (hn : D.n = 6144)
  (x0 : Vec Ideal S256x6144 .bf16) (x1 x2 : Vec Ideal S256x1024 .f32) (x3 : Vec Ideal S8x1024 .f32) (w : Vec Ideal S4x1024x1536 .bf16)
  (h0 : ∀ (r : Fin 256) (k : Fin 6144), x0 (ix2 r k) = D.P (256 * b + r) k)
  (h1 : ∀ (r : Fin 256) (d : Fin 1024), x1 (ix2 r d) = D.X (256 * b + r) d)
  (h2 : ∀ (r : Fin 256) (d : Fin 1024), x2 (ix2 r d) = D.DX (256 * b + r) d)
  (h3 : ∀ d : Fin 1024, x3 (ix2 0 d) = D.G d)
  (h3' : ∀ d : Fin 1024, x3 (ix2 1 d) = D.SC d)
  (hw : ∀ (j : Fin 4) (d : Fin 1024) (k : Fin 1536), w (ix3 j d k) = D.W d (1536 * j + k))

include hn h0 hw in
/-- The block's cotangent before the product with the weights. -/
theorem dh_eq : k0_pay3 (View.ld x0 (Rect.unit (s := S256x6144) ![0, 0] ![256, 1536] inb_S256x6144_S256x1536_0_0)) (View.ld w (Rect.unit (s := S4x1024x1536) ![0, 0, 0] ![1, 1024, 1536] inb_S4x1024x1536_S1x1024x1536_0_0_0)) (View.ld x0 (Rect.unit (s := S256x6144) ![0, 1536] ![256, 1536] inb_S256x6144_S256x1536_0_1536)) (View.ld w (Rect.unit (s := S4x1024x1536) ![1, 0, 0] ![1, 1024, 1536] inb_S4x1024x1536_S1x1024x1536_1_0_0)) (View.ld x0 (Rect.unit (s := S256x6144) ![0, 3072] ![256, 1536] inb_S256x6144_S256x1536_0_3072)) (View.ld w (Rect.unit (s := S4x1024x1536) ![2, 0, 0] ![1, 1024, 1536] inb_S4x1024x1536_S1x1024x1536_2_0_0)) (View.ld x0 (Rect.unit (s := S256x6144) ![0, 4608] ![256, 1536] inb_S256x6144_S256x1536_0_4608)) (View.ld w (Rect.unit (s := S4x1024x1536) ![3, 0, 0] ![1, 1024, 1536] inb_S4x1024x1536_S1x1024x1536_3_0_0)) =
    arr 256 1024 fun r d => D.dh (256 * b + r) d := by
  funext y
  obtain ⟨r, d, rfl⟩ : ∃ (r : Fin 256) (d : Fin 1024), y = ix2 r d := ⟨y 0, y 1, eq_ix2 y⟩
  unfold k0_pay3
  pointwise [arr]
  simp only [h0, hw]
  unfold Inp.dh
  rw [hn]
  refine Eq.trans ?_ (sum_blocks (fun k => D.P (256 * b + r) k * D.W d k) 1536 4)
  rw [Finset.sum_range_succ, Finset.sum_range_succ, Finset.sum_range_succ, Finset.sum_range_one]
  refine congrArg₂ (· + ·) (congrArg₂ (· + ·) (congrArg₂ (· + ·) (Finset.sum_congr rfl fun x _ => ?_) rfl) rfl) rfl
  show D.P _ x.val * D.W _ (1536 * 0 + x.val) = D.P _ (1536 * 0 + x.val) * D.W _ (1536 * 0 + x.val)
  rw [Nat.mul_zero, Nat.zero_add]

include h1 in
/-- The block's mean squares. -/
theorem ms_eq (i1) : k0_pay4 (View.ld x1 (Rect.unit (s := S256x1024) ![0, 0] ![256, 1024] i1)) =
    arr 256 1 fun r _ => D.ms (256 * b + r) := by
  funext y
  obtain ⟨r, d, rfl⟩ : ∃ (r : Fin 256) (d : Fin 1), y = ix2 r d := ⟨y 0, y 1, eq_ix2 y⟩
  unfold k0_pay4
  pointwise [arr]
  simp only [h1]
  rfl

end block

section first

variable (c : Dev nD) (i : grid0.Coords) (arg1 : Memref sig .tc .vmem S256x6144 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S4x1024x1536 .bf16) (harg8 : arg8.IsWhole) (hc0 : cond0_0 i)
    (x0 : Vec Ideal S256x6144 .bf16) (x1 : Vec Ideal S256x1024 .f32) (x2 : Vec Ideal S256x1024 .f32) (x3 : Vec Ideal S8x1024 .f32) (fh0 : HbBuf0 (F := Ideal) c hbM0_0)

/-- What the first point leaves of the weights in scratch: all of them. -/
theorem sout0_A_0_eq :
    sout0_A_0 (F := Ideal) c i arg1 harg1 arg3 harg3 arg4 harg4 arg5 harg5 arg6 harg6 arg7 harg7 arg8 harg8 hc0 x0 x1 x2 x3 fh0 = (View.read (Elt Ideal) (View.whole main_arg1) fh0 : Vec Ideal S4x1024x1536 .bf16) := by
  funext y
  unfold sout0_A_0
  unfold kernelRun0_A
  dsimp only
  sl_unfold_words
  rw [View.read_writes_junk_apply_eq_canon]
  have h := View.canon_cons_emb (Val := Elt Ideal) (Rect.whole S4x1024x1536) (View.read (Elt Ideal) (View.whole main_arg1) fh0) [] y
  rw [Rect.emb_whole_apply] at h
  exact h

variable
    (D : Inp) (b : Nat) (hn : D.n = 6144)
    (h0 : ∀ (r : Fin 256) (k : Fin 6144), x0 (ix2 r k) = D.P (256 * b + r) k)
    (h1 : ∀ (r : Fin 256) (d : Fin 1024), x1 (ix2 r d) = D.X (256 * b + r) d)
    (h2 : ∀ (r : Fin 256) (d : Fin 1024), x2 (ix2 r d) = D.DX (256 * b + r) d)
    (h3 : ∀ d : Fin 1024, x3 (ix2 0 d) = D.G d)
    (h3' : ∀ d : Fin 1024, x3 (ix2 1 d) = D.SC d)
    (hw : ∀ (j : Fin 4) (d : Fin 1024) (k : Fin 1536), (View.read (Elt Ideal) (View.whole main_arg1) fh0 : Vec Ideal S4x1024x1536 .bf16) (ix3 j d k) = D.W d (1536 * j + k))
include hn h0 h1 h2 h3 h3' hw

/-- What the first point stores of the rows' gradient. -/
theorem out0_A_4_eq :
    out0_A_4 (F := Ideal) c i arg1 harg1 arg3 harg3 arg4 harg4 arg5 harg5 arg6 harg6 arg7 harg7 arg8 harg8 hc0 x0 x1 x2 x3 fh0 = arr 256 1024 fun r d => D.dx (256 * b + r) d := by
  funext y
  unfold out0_A_4
  rw [View.read_writes_eq_canon _ _ _ (cover0_A_4 c i arg1 harg1 arg3 harg3 arg4 harg4 arg5 harg5 arg6 harg6 arg7 harg7 arg8 harg8 hc0 x0 x1 x2 x3 fh0)]
  refine canon_of_agrees (Val := Elt Ideal) (fun r d => D.dx (256 * b + r) d) _ ?_ y (cover0_A_4 c i arg1 harg1 arg3 harg3 arg4 harg4 arg5 harg5 arg6 harg6 arg7 harg7 arg8 harg8 hc0 x0 x1 x2 x3 fh0 y)
  unfold kernelRun0_A
  dsimp only
  sl_unfold_words
  simp only [View.readAt_eq_ld, harg1.read_unread, harg3.read_unread, harg4.read_unread, harg5.read_unread, harg6.read_unread, harg7.read_unread, harg8.read_unread]
  have ra : ∀ p : Vec Ideal S4x1024x1536 .bf16, (ReadAs.same.apply p : Vec Ideal S4x1024x1536 .bf16) = p := fun _ => rfl
  simp only [↓read_whole, ra]
  simp only [dh_eq D b hn x0 (View.read (Elt Ideal) (View.whole main_arg1) fh0) h0 hw, ms_eq D b x1 h1]
  refine agrees_cons (agrees_unit _ _ _ _ _ _ _ fun r d => ?_) agrees_nil
  unfold_payloads
  pointwise [arr]
  simp only [h1, h2, h3, h3', Nat.zero_add]
  rfl

/-- What the first point stores of the sums. -/
theorem out0_A_5_eq :
    out0_A_5 (F := Ideal) c i arg1 harg1 arg3 harg3 arg4 harg4 arg5 harg5 arg6 harg6 arg7 harg7 arg8 harg8 hc0 x0 x1 x2 x3 fh0 = arr 8 1024 fun j d => D.blk b j d := by
  funext y
  unfold out0_A_5
  rw [View.read_writes_eq_canon _ _ _ (cover0_A_5 c i arg1 harg1 arg3 harg3 arg4 harg4 arg5 harg5 arg6 harg6 arg7 harg7 arg8 harg8 hc0 x0 x1 x2 x3 fh0)]
  unfold kernelRun0_A
  dsimp only
  sl_unfold_words
  simp only [View.readAt_eq_ld, harg1.read_unread, harg3.read_unread, harg4.read_unread, harg5.read_unread, harg6.read_unread, harg7.read_unread, harg8.read_unread]
  have ra : ∀ p : Vec Ideal S4x1024x1536 .bf16, (ReadAs.same.apply p : Vec Ideal S4x1024x1536 .bf16) = p := fun _ => rfl
  simp only [↓read_whole, ra]
  simp only [dh_eq D b hn x0 (View.read (Elt Ideal) (View.whole main_arg1) fh0) h0 hw, ms_eq D b x1 h1]
  simp (disch := omega) only [↓readCov_miss (m := 8) (n := 1024), ↓readCov_whole (m := 8) (n := 1024)]
  show View.canon ([_, _, _] ++ [_]) y = _
  refine canon_base (Val := Elt Ideal) (e := .f32) (fun j d => D.blk b j d) _ y _ ?_ fun hm => ?_
  rotate_left
  · have y1 : (y 1).val < 1024 := (y 1).isLt
    have y0 : (y 0).val < 8 := (y 0).isLt
    simp only [List.forall_mem_cons, mem_unit] at hm
    obtain ⟨n2, n1, n0, _⟩ := hm
    have e : 3 ≤ (y 0).val := by
      by_contra e
      by_cases e2 : (y 0).val = 2
      · exact n2 ⟨⟨by omega, by omega⟩, by omega, by omega⟩
      by_cases e1 : (y 0).val = 1
      · exact n1 ⟨⟨by omega, by omega⟩, by omega, by omega⟩
      exact n0 ⟨⟨by omega, by omega⟩, by omega, by omega⟩
    have z2 : (![0, 0] : Fin 2 → Nat) = fun _ => 0 := by decide
    rw [View.canon_unit_zero (S := S8x1024) z2]
    show _ = D.blk b (y 0).val (y 1).val
    unfold Inp.blk
    rw [if_neg (by omega), if_neg (by omega), if_neg (by omega)]
    exact Ideal.ofBits_zero_f32
  refine agrees_cons (agrees_unit _ _ _ _ _ _ _ fun r d => ?_) ?_
  · have hr : r.val = 0 := by omega
    unfold_payloads
    pointwise [arr]
    simp only [ h1, h3, h3', hr, Nat.add_zero, Nat.zero_add]
    rfl
  refine agrees_cons (agrees_unit _ _ _ _ _ _ _ fun r d => ?_) ?_
  · have hr : r.val = 0 := by omega
    unfold_payloads
    pointwise [arr]
    simp only [ h1, h3, h3', hr, Nat.add_zero, Nat.zero_add]
    rfl
  refine agrees_cons (agrees_unit _ _ _ _ _ _ _ fun r d => ?_) ?_
  · have hr : r.val = 0 := by omega
    unfold_payloads
    pointwise [arr]
    try simp only [hr, Nat.add_zero, Nat.zero_add]
    rfl
  exact agrees_nil

end first

section later

variable (c : Dev nD) (i : grid0.Coords) (arg1 : Memref sig .tc .vmem S256x6144 .bf16) (harg1 : arg1.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S4x1024x1536 .bf16) (harg8 : arg8.IsWhole) (hc0 : ¬cond0_0 i)
    (x0 : Vec Ideal S256x6144 .bf16) (x1 : Vec Ideal S256x1024 .f32) (x2 : Vec Ideal S256x1024 .f32) (x3 : Vec Ideal S8x1024 .f32) (xo5 : Vec Ideal S8x1024 .f32) (xs0 : Vec Ideal S4x1024x1536 .bf16) (fh0 : HbBuf0 (F := Ideal) c hbM0_0)
    (D : Inp) (b : Nat) (hn : D.n = 6144)
    (h0 : ∀ (r : Fin 256) (k : Fin 6144), x0 (ix2 r k) = D.P (256 * b + r) k)
    (h1 : ∀ (r : Fin 256) (d : Fin 1024), x1 (ix2 r d) = D.X (256 * b + r) d)
    (h2 : ∀ (r : Fin 256) (d : Fin 1024), x2 (ix2 r d) = D.DX (256 * b + r) d)
    (h3 : ∀ d : Fin 1024, x3 (ix2 0 d) = D.G d)
    (h3' : ∀ d : Fin 1024, x3 (ix2 1 d) = D.SC d)
    (hw : ∀ (j : Fin 4) (d : Fin 1024) (k : Fin 1536), xs0 (ix3 j d k) = D.W d (1536 * j + k))
include hn h0 h1 h2 h3 h3' hw

/-- What a later point stores of the rows' gradient. -/
theorem out0_B_4_eq :
    out0_B_4 (F := Ideal) c i arg1 harg1 arg3 harg3 arg4 harg4 arg5 harg5 arg6 harg6 arg7 harg7 arg8 harg8 hc0 x0 x1 x2 x3 xo5 xs0 fh0 = arr 256 1024 fun r d => D.dx (256 * b + r) d := by
  funext y
  unfold out0_B_4
  rw [View.read_writes_eq_canon _ _ _ (cover0_B_4 c i arg1 harg1 arg3 harg3 arg4 harg4 arg5 harg5 arg6 harg6 arg7 harg7 arg8 harg8 hc0 x0 x1 x2 x3 xo5 xs0 fh0)]
  refine canon_of_agrees (Val := Elt Ideal) (fun r d => D.dx (256 * b + r) d) _ ?_ y (cover0_B_4 c i arg1 harg1 arg3 harg3 arg4 harg4 arg5 harg5 arg6 harg6 arg7 harg7 arg8 harg8 hc0 x0 x1 x2 x3 xo5 xs0 fh0 y)
  unfold kernelRun0_B
  dsimp only
  sl_unfold_words
  simp only [View.readAt_eq_ld, harg1.read_unread, harg3.read_unread, harg4.read_unread, harg5.read_unread, harg6.read_unread, harg7.read_unread, harg8.read_unread]
  simp only [dh_eq D b hn x0 xs0 h0 hw, ms_eq D b x1 h1]
  refine agrees_cons (agrees_unit _ _ _ _ _ _ _ fun r d => ?_) agrees_nil
  unfold_payloads
  pointwise [arr]
  simp only [h1, h2, h3, h3', Nat.zero_add]
  rfl

/-- What a later point adds to the sums. -/
theorem out0_B_5_eq
    (Z : Nat → Nat → EReal) (hz : ∀ (j : Fin 8) (d : Fin 1024), xo5 (ix2 j d) = Z j d) :
    out0_B_5 (F := Ideal) c i arg1 harg1 arg3 harg3 arg4 harg4 arg5 harg5 arg6 harg6 arg7 harg7 arg8 harg8 hc0 x0 x1 x2 x3 xo5 xs0 fh0 = arr 8 1024 fun j d => Z j d + D.blk b j d := by
  funext y
  unfold out0_B_5
  unfold kernelRun0_B
  dsimp only
  sl_unfold_words
  simp only [View.readAt_eq_ld, harg1.read_unread, harg3.read_unread, harg4.read_unread, harg5.read_unread, harg6.read_unread, harg7.read_unread, harg8.read_unread]
  simp only [dh_eq D b hn x0 xs0 h0 hw, ms_eq D b x1 h1]
  refine writes_of_agrees (Val := Elt Ideal) (e := .f32) _ _ (fun j d => Z j d + D.blk b j d) _ ?_ y fun hm => ?_
  rotate_left
  · have y1 : (y 1).val < 1024 := (y 1).isLt
    have y0 : (y 0).val < 8 := (y 0).isLt
    simp only [List.forall_mem_cons, mem_unit] at hm
    obtain ⟨n2, n1, n0, _⟩ := hm
    have e : 3 ≤ (y 0).val := by
      by_contra e
      by_cases e2 : (y 0).val = 2
      · exact n2 ⟨⟨by omega, by omega⟩, by omega, by omega⟩
      by_cases e1 : (y 0).val = 1
      · exact n1 ⟨⟨by omega, by omega⟩, by omega, by omega⟩
      exact n0 ⟨⟨by omega, by omega⟩, by omega, by omega⟩
    rw [harg7.read_unread]
    show _ = Z (y 0).val (y 1).val + D.blk b (y 0).val (y 1).val
    unfold Inp.blk
    rw [if_neg (by omega), if_neg (by omega), if_neg (by omega), add_zero, eq_ix2 y]
    exact hz (y 0) (y 1)
  refine agrees_cons (agrees_unit _ _ _ _ _ _ _ fun r d => ?_) ?_
  · have hr : r.val = 0 := by omega
    unfold_payloads
    pointwise [arr]
    simp only [hz, h1, h3, h3', hr, Nat.add_zero, Nat.zero_add]
    rfl
  refine agrees_cons (agrees_unit _ _ _ _ _ _ _ fun r d => ?_) ?_
  · have hr : r.val = 0 := by omega
    unfold_payloads
    pointwise [arr]
    simp only [hz, h1, h3, h3', hr, Nat.add_zero, Nat.zero_add]
    rfl
  refine agrees_cons (agrees_unit _ _ _ _ _ _ _ fun r d => ?_) ?_
  · have hr : r.val = 0 := by omega
    unfold_payloads
    pointwise [arr]
    simp only [hz, h1, h3, h3', hr, Nat.add_zero, Nat.zero_add]
    rfl
  exact agrees_nil

end later

/-- The arguments as tables. -/
def inpOf (x0 : (⟨2, ![4096, 6144]⟩ : Shape).Idx → EReal) (x1 : (⟨3, ![4, 1024, 1536]⟩ : Shape).Idx → EReal)
    (x2 x3 : (⟨2, ![4096, 1024]⟩ : Shape).Idx → EReal) (x4 x6 : (⟨1, ![1024]⟩ : Shape).Idx → EReal) : Inp where
  P := tab 4096 6144 x0
  W := side 4 1024 1536 x1
  X := tab 4096 1024 x2
  DX := tab 4096 1024 x3
  G := row 1024 x4
  SC := row 1024 x6
  n := 6144

variable (m : (ℓ : Loc nD τ sig) → Buf (Elt Ideal) ℓ) (c : Dev nD)

/-- The call's arguments as tables. -/
def inp : Inp :=
  inpOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))

theorem index0 (t : Fin cfg0.N) : win0_0.index t = ![t.val, 0] := by revert t; decide +kernel

/-- The cotangent's rows that a point reads. -/
theorem block0 (t : Fin cfg0.N) (r : Fin 256) (k : Fin 6144) : iblk m c 0 t (ix2 r k) = (inp m c).P (256 * t.val + r) k := by
  have hN : t.val < 16 := lt_of_lt_of_eq t.isLt N_0
  show _ = tab 4096 6144 (m ((c : Thread nD τ).loc main_arg0)) _ _
  rw [tab_at _ (by have := r.isLt; omega) k.isLt]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 256 + 1 * r.val = _; rw [index0]; show t.val * 256 + 1 * _ = 256 * _ + _; omega
  | ⟨1, _⟩ => show win0_0.index t 1 * 6144 + 1 * k.val = _; rw [index0]; show 0 * 6144 + 1 * _ = k.val; omega

theorem index1 (t : Fin cfg0.N) : win0_1.index t = ![t.val, 0] := by revert t; decide +kernel

/-- The rows before the norm that a point reads. -/
theorem block1 (t : Fin cfg0.N) (r : Fin 256) (k : Fin 1024) : iblk m c 1 t (ix2 r k) = (inp m c).X (256 * t.val + r) k := by
  have hN : t.val < 16 := lt_of_lt_of_eq t.isLt N_0
  show _ = tab 4096 1024 (m ((c : Thread nD τ).loc main_arg2)) _ _
  rw [tab_at _ (by have := r.isLt; omega) k.isLt]
  unfold iblk
  rw [View.read_apply]
  refine (congrFun (V_main_arg2 m c) _).trans (congrArg (m ((c : Thread nD τ).loc main_arg2)) ?_)
  funext a; apply Fin.ext
  match a with
  | ⟨0, _⟩ => show win0_1.index t 0 * 256 + 1 * r.val = _; rw [index1]; show t.val * 256 + 1 * _ = 256 * _ + _; omega
  | ⟨1, _⟩ => show win0_1.index t 1 * 1024 + 1 * k.val = _; rw [index1]; show 0 * 1024 + 1 * _ = k.val; omega

theorem index2 (t : Fin cfg0.N) : win0_2.index t = ![t.val, 0] := by revert t; decide +kernel

/-- The rows to add that a point reads. -/
theorem block2 (t : Fin cfg0.N) (r : Fin 256) (k : Fin 1024) : iblk m c 2 t (ix2 r k) = (inp m c).DX (256 * t.val + r) k := by
  have hN : t.val < 16 := lt_of_lt_of_eq t.isLt N_0
  show _ = tab 4096 1024 (m ((c : Thread nD τ).loc main_arg3)) _ _
  rw [tab_at _ (by have := r.isLt; omega) k.isLt]
  unfold iblk
  rw [View.read_apply]
  refine (congrFun (V_main_arg3 m c) _).trans (congrArg (m ((c : Thread nD τ).loc main_arg3)) ?_)
  funext a; apply Fin.ext
  match a with
  | ⟨0, _⟩ => show win0_2.index t 0 * 256 + 1 * r.val = _; rw [index2]; show t.val * 256 + 1 * _ = 256 * _ + _; omega
  | ⟨1, _⟩ => show win0_2.index t 1 * 1024 + 1 * k.val = _; rw [index2]; show 0 * 1024 + 1 * _ = k.val; omega

/-- The host's first row of vectors: the norm's weights. -/
theorem vecs0 (d : Fin 1024) : V m c main_v7 (ix2 0 d) = m ((c : Thread nD τ).loc main_arg4) (ix1 d) := by
  unfold V
  after_reads_simp
  pointwise
  after_reads_simp
  pointwise
  done

/-- The host's second row of vectors: the modulation's scale. -/
theorem vecs1 (d : Fin 1024) : V m c main_v7 (ix2 1 d) = m ((c : Thread nD τ).loc main_arg6) (ix1 d) := by
  unfold V
  after_reads_simp
  pointwise
  after_reads_simp
  pointwise
  done

/-- Every point reads the same vectors. -/
theorem block3 (t : Fin cfg0.N) (r : Fin 8) (k : Fin 1024) : iblk m c 3 t (ix2 r k) = V m c main_v7 (ix2 r k) := by
  have hi : win0_3.index t = ![0, 0] := by revert t; decide +kernel
  unfold iblk
  rw [View.read_apply]
  refine congrArg (V m c main_v7) ?_
  funext a; apply Fin.ext
  match a with
  | ⟨0, _⟩ => show win0_3.index t 0 * 8 + 1 * r.val = _; rw [hi]; show 0 * 8 + 1 * _ = r.val; omega
  | ⟨1, _⟩ => show win0_3.index t 1 * 1024 + 1 * k.val = _; rw [hi]; show 0 * 1024 + 1 * _ = k.val; omega

/-- The norm's weights that a point reads. -/
theorem block3_0 (t : Fin cfg0.N) (d : Fin 1024) : iblk m c 3 t (ix2 0 d) = (inp m c).G d := by
  rw [block3, vecs0]
  exact (row_at _ d.isLt).symm

/-- The modulation's scale that a point reads. -/
theorem block3_1 (t : Fin cfg0.N) (d : Fin 1024) : iblk m c 3 t (ix2 1 d) = (inp m c).SC d := by
  rw [block3, vecs1]
  exact (row_at _ d.isLt).symm

/-- The weights that the first point copies. -/
theorem weights (j : Fin 4) (d : Fin 1024) (k : Fin 1536) :
    (View.read (Elt Ideal) (View.whole main_arg1) (V m c main_arg1) : Vec Ideal S4x1024x1536 .bf16) (ix3 j d k)
      = (inp m c).W d (1536 * j + k) := by
  rw [View.read_apply, V_main_arg1]
  exact (side_at (m ((c : Thread nD τ).loc main_arg1)) j.isLt d.isLt k.isLt).symm

/-- What the staging buffers and the scratch hold after a point. -/
def After (t : Fin cfg0.N) : Prop :=
  (outsAt0 m c t.val t.isLt).1 = arr 256 1024 (fun r d => (inp m c).dx (256 * t.val + r) d) ∧
  (outsAt0 m c t.val t.isLt).2.1 = arr 8 1024 (fun j d => ∑ b ∈ Finset.range (t.val + 1), (inp m c).blk b j d) ∧
  (outsAt0 m c t.val t.isLt).2.2 = (View.read (Elt Ideal) (View.whole main_arg1) (V m c main_arg1) : Vec Ideal S4x1024x1536 .bf16)

/-- The first point's rows. -/
theorem at_out0_A_4 (t : Fin cfg0.N) (ht : t.val % 16 = 0) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr ht) (iblk m c 0 t) (iblk m c 1 t) (iblk m c 2 t) (iblk m c 3 t) (V m c main_arg1) = arr 256 1024 (fun r d => (inp m c).dx (256 * t.val + r) d) :=
  out0_A_4_eq _ _ _ _ _ _ _ _ _ _ _ _ _ _ _ _ _ _ _ _ _ _ (inp m c) t.val rfl (block0 m c t) (block1 m c t) (block2 m c t) (block3_0 m c t) (block3_1 m c t) (weights m c)

/-- The first point's sums. -/
theorem at_out0_A_5 (t : Fin cfg0.N) (ht : t.val % 16 = 0) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr ht) (iblk m c 0 t) (iblk m c 1 t) (iblk m c 2 t) (iblk m c 3 t) (V m c main_arg1) = arr 8 1024 (fun j d => (inp m c).blk t.val j d) :=
  out0_A_5_eq _ _ _ _ _ _ _ _ _ _ _ _ _ _ _ _ _ _ _ _ _ _ (inp m c) t.val rfl (block0 m c t) (block1 m c t) (block2 m c t) (block3_0 m c t) (block3_1 m c t) (weights m c)

/-- A later point's rows. -/
theorem at_out0_B_4 (t : Fin cfg0.N) (ht : ¬t.val % 16 = 0) (xo5 : Vec Ideal S8x1024 .f32) (xs0 : Vec Ideal S4x1024x1536 .bf16)
    (hw : ∀ (j : Fin 4) (d : Fin 1024) (k : Fin 1536), xs0 (ix3 j d k) = (inp m c).W d (1536 * j + k)) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => ht ((hcond0_0 t).mp h)) (iblk m c 0 t) (iblk m c 1 t) (iblk m c 2 t) (iblk m c 3 t) xo5 xs0 (V m c main_arg1) = arr 256 1024 (fun r d => (inp m c).dx (256 * t.val + r) d) :=
  out0_B_4_eq _ _ _ _ _ _ _ _ _ _ _ _ _ _ _ _ _ _ _ _ _ _ _ _ (inp m c) t.val rfl (block0 m c t) (block1 m c t) (block2 m c t) (block3_0 m c t) (block3_1 m c t) hw

/-- A later point's sums. -/
theorem at_out0_B_5 (t : Fin cfg0.N) (ht : ¬t.val % 16 = 0) (xo5 : Vec Ideal S8x1024 .f32) (xs0 : Vec Ideal S4x1024x1536 .bf16)
    (hw : ∀ (j : Fin 4) (d : Fin 1024) (k : Fin 1536), xs0 (ix3 j d k) = (inp m c).W d (1536 * j + k))
    (Z : Nat → Nat → EReal) (hz : ∀ (j : Fin 8) (d : Fin 1024), xo5 (ix2 j d) = Z j d) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => ht ((hcond0_0 t).mp h)) (iblk m c 0 t) (iblk m c 1 t) (iblk m c 2 t) (iblk m c 3 t) xo5 xs0 (V m c main_arg1) = arr 8 1024 (fun j d => Z j d + (inp m c).blk t.val j d) :=
  out0_B_5_eq _ _ _ _ _ _ _ _ _ _ _ _ _ _ _ _ _ _ _ _ _ _ _ _ (inp m c) t.val rfl (block0 m c t) (block1 m c t) (block2 m c t) (block3_0 m c t) (block3_1 m c t) hw Z hz

/-- The first point's copy of the weights. -/
theorem at_sout0_A_0 (t : Fin cfg0.N) (ht : t.val % 16 = 0) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr ht) (iblk m c 0 t) (iblk m c 1 t) (iblk m c 2 t) (iblk m c 3 t) (V m c main_arg1) = (View.read (Elt Ideal) (View.whole main_arg1) (V m c main_arg1) : Vec Ideal S4x1024x1536 .bf16) :=
  sout0_A_0_eq _ _ _ _ _ _ _ _ _ _ _ _ _ _ _ _ _ _ _ _ _ _

/-- After the first point. -/
theorem after_A (t : Fin cfg0.N) (ht : t.val % 16 = 0) : After m c t := by
  have hN : cfg0.N = 16 := N_0
  have t0 : t.val = 0 := by have := t.isLt; omega
  have e := outsAt0_A m c t ht
  rw [at_out0_A_4 m c t ht, at_out0_A_5 m c t ht, at_sout0_A_0 m c t ht] at e
  unfold After
  rw [e]
  refine ⟨rfl, ?_, rfl⟩
  rw [t0]
  simp only [zero_add, Finset.sum_range_one]

/-- After a later point, from the point before. -/
theorem after_B (t : Fin cfg0.N) (ht : ¬t.val % 16 = 0)
    (ih : After m c ⟨t.val - 1, Nat.lt_of_le_of_lt (Nat.sub_le _ _) t.isLt⟩) : After m c t := by
  have hN : cfg0.N = 16 := N_0
  have tl : t.val < 16 := by have := t.isLt; omega
  obtain ⟨-, i2, i3⟩ := ih
  have hw : ∀ (j : Fin 4) (d : Fin 1024) (k : Fin 1536), (outsAt0 m c (t.val - 1) (Nat.lt_of_le_of_lt (Nat.sub_le _ _) t.isLt)).2.2 (ix3 j d k) = (inp m c).W d (1536 * j + k) :=
    fun j d k => (congrFun i3 (ix3 j d k)).trans (weights m c j d k)
  have hz : ∀ (j : Fin 8) (d : Fin 1024), (outsAt0 m c (t.val - 1) (Nat.lt_of_le_of_lt (Nat.sub_le _ _) t.isLt)).2.1 (ix2 j d)
      = (fun j d => ∑ b ∈ Finset.range t.val, (inp m c).blk b j d) j d := by
    intro j d
    refine (congrFun i2 (ix2 j d)).trans ?_
    show ∑ b ∈ Finset.range (t.val - 1 + 1), _ = _
    rw [show t.val - 1 + 1 = t.val by omega]
    rfl
  have e := outsAt0_B m c t ht
  rw [at_out0_B_4 m c t ht _ _ hw, at_out0_B_5 m c t ht _ _ hw (fun j d => ∑ b ∈ Finset.range t.val, (inp m c).blk b j d) hz] at e
  unfold After
  rw [e]
  refine ⟨rfl, ?_, i3⟩
  simp only [Finset.sum_range_succ]

/-- After every point. -/
theorem after_all : ∀ (n : Nat) (h : n < cfg0.N), After m c ⟨n, h⟩
  | 0, h => after_A m c ⟨0, h⟩ rfl
  | n + 1, h => by
    have hN : cfg0.N = 16 := N_0
    exact after_B m c ⟨n + 1, h⟩ (by show ¬(n + 1) % 16 = 0; omega) (after_all n (by omega))

theorem index4 (t : Fin cfg0.N) : win0_4.index t = ![t.val, 0] := by revert t; decide +kernel

/-- The gradient in the rows, whole. -/
theorem final4 : (dats m 0 c).arrAt 4 cfg0.N = arr 4096 1024 (inp m c).dx := by
  refine (dats m 0 c).arrAt_eq_of_covers 4 _ (by decide +kernel) fun t hf y => ?_
  blk_simp
  rw [after0_4, (after_all m c t.val t.isLt).1]
  unfold arr
  blk_simp [index4]
  rw [Nat.mul_comm 256]

/-- The sums over the rows, whole. -/
theorem final5 : (dats m 0 c).arrAt 5 cfg0.N =
    arr 8 1024 fun j d => ∑ b ∈ Finset.range 16, (inp m c).blk b j d := by
  refine (dats m 0 c).arrAt_eq_of_after_last 5 t0_15 (by decide +kernel) _ fun j => ?_
  blk_simp
  rw [after0_5, (after_all m c t0_15.val t0_15.isLt).2.1]
  rfl

end Cert.Inproj0BwdValue
-- ==== Proof.Inproj0Bwd.lean ====
module

public import proofs.«01_k».proof.Defs
public import proofs.«01_k».proof.Proof.Inproj0BwdValue
public import proofs.«01_k».proof.Proof.Gen.Inproj0BwdRefIdeal.Read
public import proofs.«01_k».proof.Proof.Gen.Inproj0BwdRefIdeal.Run
public import Idealize.ShloMosaic.Lib.Quiescent

/-! The call and the derivative of the reference leave the same arrays when what enters the norm's gradient is finite. -/

@[expose] public section

set_option maxRecDepth 16384

noncomputable section

open Idealize.ShloMosaic Idealize.ShloMosaic.TcCoe Idealize.SL.Sem

namespace Cert.Inproj0BwdClaim

open Cert.Inproj0BwdRefIdeal Cert.Inproj0BwdRefIdeal.Read Cert.Pieces Cert.NormGrad Cert.Reals
open Cert.Inproj0BwdValue (inpOf inp final4 final5)

section reference

variable (x0 : (⟨S4096x6144, .bf16⟩ : BufTy).Contents (Elt Ideal)) (x1 : (⟨S4x1024x1536, .bf16⟩ : BufTy).Contents (Elt Ideal))
  (x2 x3 : (⟨S4096x1024, .f32⟩ : BufTy).Contents (Elt Ideal)) (x4 x6 : (⟨S1024, .f32⟩ : BufTy).Contents (Elt Ideal))

local notation "D" => inpOf x0 x1 x2 x3 x4 x6

/-- The reference's weights: the chips' columns side by side. -/
theorem weights_eq (d : Fin 1024) (k : Fin 6144) :
    val_main_v12 (F := Ideal) x1 (ix2 d k) = side 4 1024 1536 x1 d k := by
  pointwise [val_main_v12, val_main_v11, val_main_v10, val_main_v9, val_main_v8, val_main_v7, val_main_v6, val_main_v5, val_main_v4, val_main_v3, val_main_v2, val_main_v1, val_main_v0]
  have hk := k.isLt
  have at_part : ∀ (j b : Nat) (hj : j < 4) (hb : b < 1536) (e : k.val = 1536 * j + b),
      x1 (ix3 ⟨j, hj⟩ d ⟨b, hb⟩) = side 4 1024 1536 x1 d k := fun j b hj hb e => by
    rw [e, side_at x1 hj d.isLt hb]
  split
  · exact at_part 0 _ (by omega) (by omega) (by omega)
  · split
    · exact at_part 1 _ (by omega) (by omega) (by omega)
    · split
      · exact at_part 2 _ (by omega) (by omega) (by omega)
      · exact at_part 3 _ (by omega) (by omega) (by omega)

/-- The cotangent. -/
theorem eP (R : Fin 4096) (k : Fin 6144) : x0 (ix2 R k) = (D).P R k := (tab_at x0 R.isLt k.isLt).symm

/-- The rows before the norm. -/
theorem eX (R : Fin 4096) (d : Fin 1024) : x2 (ix2 R d) = (D).X R d := (tab_at x2 R.isLt d.isLt).symm

/-- The rows to add. -/
theorem eDX (R : Fin 4096) (d : Fin 1024) : x3 (ix2 R d) = (D).DX R d := (tab_at x3 R.isLt d.isLt).symm

/-- The norm's weights. -/
theorem eG (d : Fin 1024) : x4 (ix1 d) = (D).G d := (row_at x4 d.isLt).symm

/-- The modulation's scale. -/
theorem eSC (d : Fin 1024) : x6 (ix1 d) = (D).SC d := (row_at x6 d.isLt).symm

/-- The cotangent before the product. -/
theorem v39_at (R : Fin 4096) (d : Fin 1024) : val_main_v39 (F := Ideal) x0 x1 (ix2 R d) = (D).dh R d := by
  pointwise [val_main_v39, val_main_v38]
  simp only [weights_eq, eP x0 x1 x2 x3 x4 x6]
  exact (Finset.sum_range fun k => (D).P R k * (D).W d k).symm

/-- The mean of the squares and the constant. -/
theorem v19_at (R : Fin 4096) : val_main_v19 (F := Ideal) x2 (ix2 R 0) = (D).ms R + eps := by
  pointwise [val_main_v19, val_main_v18, val_main_cst_1, val_main_v17, val_main_v16, val_main_cst_0, val_main_v15, val_main_v14, val_main_cst, val_main_v13]
  simp only [eX x0 x1 x2 x3 x4 x6]
  rfl

/-- One over the root. -/
theorem v20_at (R : Fin 4096) : val_main_v20 (F := Ideal) x2 (ix2 R 0) = (D).rs R := by
  pointwise [val_main_v20]
  rw [v19_at x0 x1 x2 x3 x4 x6]
  rfl

/-- The normed rows. -/
theorem v25_at (R : Fin 4096) (d : Fin 1024) : val_main_v25 (F := Ideal) x2 (ix2 R d) = (D).nrm R d := by
  pointwise [val_main_v25, val_main_v24]
  rw [v20_at x0 x1 x2 x3 x4 x6, eX x0 x1 x2 x3 x4 x6]
  rfl

/-- The cotangent of the modulated norm, times one plus the scale. -/
theorem v47_at (R : Fin 4096) (d : Fin 1024) :
    val_main_v47 (F := Ideal) x0 x1 x6 (ix2 R d) = (D).dh R d * (1 + (D).SC d) := by
  pointwise [val_main_v47, val_main_v46, val_main_v31, val_main_v30, val_main_v29, val_main_cst_3]
  rw [v39_at x0 x1 x2 x3 x4 x6, eSC x0 x1 x2 x3 x4 x6]

/-- The cotangent of the normed rows. -/
theorem v53_at (R : Fin 4096) (d : Fin 1024) :
    val_main_v53 (F := Ideal) x0 x1 x4 x6 (ix2 R d) = (D).dn R d := by
  pointwise [val_main_v53, val_main_v52, val_main_v26]
  rw [v47_at x0 x1 x2 x3 x4 x6, eG x0 x1 x2 x3 x4 x6]
  unfold Inp.dn
  rw [mul_assoc, mul_comm (1 + _)]

/-- The row of sums of the cotangent. -/
theorem v70_at (d : Fin 1024) : val_main_v70 (F := Ideal) x0 x1 (ix2 0 d) = (D).tot 0 d := by
  pointwise [val_main_v70, val_main_v42, val_main_cst_5, val_main_v41, val_main_v40, val_main_cst_4]
  simp only [v39_at x0 x1 x2 x3 x4 x6]
  simp [Inp.tot]

variable (hf : (inpOf x0 x1 x2 x3 x4 x6).Real)
include hf

/-- The row of the scale's gradient. -/
theorem v71_at (d : Fin 1024) : val_main_v71 (F := Ideal) x0 x1 x2 x4 (ix2 0 d) = (D).tot 1 d := by
  pointwise [val_main_v71, val_main_v48, val_main_cst_7, val_main_v45, val_main_v44, val_main_cst_6, val_main_v43, val_main_v28, val_main_v27, val_main_v26]
  simp only [v39_at x0 x1 x2 x3 x4 x6, v25_at x0 x1 x2 x3 x4 x6, eG x0 x1 x2 x3 x4 x6]
  have e : (D).tot 1 d = (∑ R : Fin 4096, (D).dh R d * (D).nrm R d) * (D).G d := rfl
  rw [e, Inp.sum_mul_real Finset.univ (fun R : Fin 4096 => (D).dh R d * (D).nrm R d) _ (fun R => (hf.dh _ _).mul (hf.nrm _ _)) (hf.G d)]
  simp only [Finset.univ_unique, Finset.sum_singleton]
  exact Finset.sum_congr rfl fun R _ => by rw [mul_comm (_ * _), mul_assoc]

/-- The row of the gradient of the norm's weights. -/
theorem v72_at (d : Fin 1024) : val_main_v72 (F := Ideal) x0 x1 x2 x6 (ix2 0 d) = (D).tot 2 d := by
  pointwise [val_main_v72, val_main_v54, val_main_cst_9, val_main_v51, val_main_v50, val_main_cst_8, val_main_v49]
  simp only [v47_at x0 x1 x2 x3 x4 x6, v25_at x0 x1 x2 x3 x4 x6]
  have e : (D).tot 2 d = (∑ R : Fin 4096, (D).dh R d * (D).nrm R d) * (1 + (D).SC d) := rfl
  rw [e, Inp.sum_mul_real Finset.univ (fun R : Fin 4096 => (D).dh R d * (D).nrm R d) _ (fun R => (hf.dh _ _).mul (hf.nrm _ _)) (IsReal.one.add (hf.SC d))]
  simp only [Finset.univ_unique, Finset.sum_singleton]
  exact Finset.sum_congr rfl fun R _ => by rw [mul_comm, mul_right_comm]

/-- The reference's sums. -/
theorem sums_eq : val_main_v75 (F := Ideal) x0 x1 x2 x4 x6 = arr 8 1024 (D).tot := by
  funext y
  obtain ⟨j, d, rfl⟩ : ∃ (j : Fin 8) (d : Fin 1024), y = ix2 j d := ⟨y 0, y 1, eq_ix2 y⟩
  pointwise [val_main_v75, val_main_v74, val_main_cst_13, val_main_v73, arr]
  by_cases h0 : j.val = 0
  · have e : j = 0 := Fin.ext h0
    subst e
    simpa using v70_at x0 x1 x2 x3 x4 x6 d
  by_cases h1 : j.val = 1
  · have e : j = 1 := Fin.ext h1
    subst e
    simpa using v71_at x0 x1 x2 x3 x4 x6 hf d
  by_cases h2 : j.val = 2
  · have e : j = 2 := Fin.ext h2
    subst e
    simpa using v72_at x0 x1 x2 x3 x4 x6 hf d
  rw [dif_neg (by omega)]
  simp [Inp.tot, h0, h1, h2]

/-- The reference's gradient in the rows. -/
theorem rows_eq : val_main_v69 (F := Ideal) x0 x1 x2 x3 x4 x6 = arr 4096 1024 (D).dx := by
  funext y
  obtain ⟨R, d, rfl⟩ : ∃ (R : Fin 4096) (d : Fin 1024), y = ix2 R d := ⟨y 0, y 1, eq_ix2 y⟩
  pointwise [val_main_v69, val_main_v68, val_main_v67, val_main_v66, val_main_v65, val_main_v64, val_main_v63, val_main_cst_12, val_main_v62, val_main_v61, val_main_cst_11, val_main_v60, val_main_v59, val_main_v58, val_main_v57, val_main_v56, val_main_cst_10, val_main_v55, val_main_v23, val_main_v22, val_main_cst_2, val_main_v21, arr]
  simp only [Finset.univ_unique, Finset.sum_singleton, Fin.default_eq_zero, v53_at x0 x1 x2 x3 x4 x6, v20_at x0 x1 x2 x3 x4 x6,
    v19_at x0 x1 x2 x3 x4 x6, eX x0 x1 x2 x3 x4 x6, eDX x0 x1 x2 x3 x4 x6]
  exact hf.dx R d

end reference

/-- The shape relations of the finiteness test. -/
instance preFacts : Cert.Pre_inproj0_finite.Facts where
  bitsLt_bf16_f32 := by decide
  bcast_S_S4096x6144 := by decide
  reducesTo_S4096x6144_S_d0_1 := by decide
  h_S_ := by decide
  bcast_S_S4x1024x1536 := by decide
  reducesTo_S4x1024x1536_S_d0_1_2 := by decide
  bcast_S_S4096x1024 := by decide
  reducesTo_S4096x1024_S_d0_1 := by decide
  bcast_S_S1024 := by decide
  reducesTo_S1024_S_d0 := by decide

instance : Subsingleton Cert.Pre_inproj0_finite.S_.Idx := ⟨fun a b => funext fun i => i.elim0⟩

/-- What the finiteness test says: every entry of the five arguments is a real number. -/
theorem fin_of_fn (x0 : FVec Ideal Cert.Pre_inproj0_finite.S4096x6144 .bf16) (x1 : FVec Ideal Cert.Pre_inproj0_finite.S4x1024x1536 .bf16)
    (x2 x3 : FVec Ideal Cert.Pre_inproj0_finite.S4096x1024 .f32) (x4 x5 x6 x7 x8 : FVec Ideal Cert.Pre_inproj0_finite.S1024 .f32)
    (i : Cert.Pre_inproj0_finite.S_.Idx)
    (h : Cert.Pre_inproj0_finite.fn (F := Ideal) x0 x1 x2 x3 x4 x5 x6 x7 x8 i = 1#1) :
    (inpOf x0 x1 x2 x3 x4 x6).Real := by
  obtain ⟨h, h6⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  have r0 : ∀ j, IsReal (x0 j) := fun j => isReal_of_lt (inf_word ▸ Host.reduce_andi_all _ _ _ _ i h0 j)
  have r1 : ∀ j, IsReal (x1 j) := fun j => isReal_of_lt (inf_word ▸ Host.reduce_andi_all _ _ _ _ i h1 j)
  have r2 : ∀ j, IsReal (x2 j) := fun j => isReal_of_lt (inf_word ▸ Host.reduce_andi_all _ _ _ _ i h2 j)
  have r4 : ∀ j, IsReal (x4 j) := fun j => isReal_of_lt (inf_word ▸ Host.reduce_andi_all _ _ _ _ i h4 j)
  have r6 : ∀ j, IsReal (x6 j) := fun j => isReal_of_lt (inf_word ▸ Host.reduce_andi_all _ _ _ _ i h6 j)
  exact ⟨isReal_tab r0, isReal_side r1, isReal_tab r2, isReal_row r4, isReal_row r6⟩

/-- The kernel and the reference end with the same two arrays. -/
theorem algebraic : Cert.algebraic_Inproj0BwdIdeal_Inproj0BwdRefIdeal_pre_inproj0_finite := by
  intro m g m' g' hpre hargs
  refine ⟨fun c => arr 4096 1024 (inp m c).dx,
    fun c => arr 8 1024 fun j d => ∑ b ∈ Finset.range 16, (inp m c).blk b j d, ?_, ?_⟩
  · refine (θ_run _ _ _).mono (fun r h c => ?_) (Cert.Inproj0BwdIdeal.Value.run_blocks (F := Ideal) m g)
    obtain ⟨e0, e1, hk⟩ := h c
    exact ⟨e0.trans (final4 m c), e1.trans (final5 m c), hk⟩
  · refine (θ_run _ _ _).mono (fun r h c => ?_) (Cert.Inproj0BwdRefIdeal.Value.run (F := Ideal) m' g')
    obtain ⟨e0, e1, hk⟩ := h c
    obtain ⟨a0, a1, a2, a3, a4, -, a6, -⟩ := hargs c
    have hf : (inp m c).Real := fin_of_fn _ _ _ _ _ _ _ _ _ (fun i => i.elim0) (congrFun (hpre c) _)
    have v0 := rows_eq (m ((c.tc : Thread _ _).loc Inproj0BwdIdeal.main_arg0)) (m ((c.tc : Thread _ _).loc Inproj0BwdIdeal.main_arg1)) (m ((c.tc : Thread _ _).loc Inproj0BwdIdeal.main_arg2)) (m ((c.tc : Thread _ _).loc Inproj0BwdIdeal.main_arg3)) (m ((c.tc : Thread _ _).loc Inproj0BwdIdeal.main_arg4)) (m ((c.tc : Thread _ _).loc Inproj0BwdIdeal.main_arg6)) hf
    have v1 := sums_eq (m ((c.tc : Thread _ _).loc Inproj0BwdIdeal.main_arg0)) (m ((c.tc : Thread _ _).loc Inproj0BwdIdeal.main_arg1)) (m ((c.tc : Thread _ _).loc Inproj0BwdIdeal.main_arg2)) (m ((c.tc : Thread _ _).loc Inproj0BwdIdeal.main_arg3)) (m ((c.tc : Thread _ _).loc Inproj0BwdIdeal.main_arg4)) (m ((c.tc : Thread _ _).loc Inproj0BwdIdeal.main_arg6)) hf
    have s : (fun j d => ∑ b ∈ Finset.range 16, (inp m c).blk b j d) = (inp m c).tot :=
      funext fun j => funext fun d => hf.sum_blk j d
    beta_reduce
    rw [s]
    refine ⟨e0.trans (Eq.trans ?_ v0), e1.trans (Eq.trans ?_ v1), hk⟩
    · rw [← a0, ← a1, ← a2, ← a3, ← a4, ← a6]; rfl
    · rw [← a0, ← a1, ← a2, ← a4, ← a6]; rfl

/-- The reference runs, and ends with its arguments unchanged and its counters at zero: it declares none. -/
theorem frame_reference : Cert.quiescent_Inproj0BwdRefIdeal := fun m g _ =>
  (θ_run _ _ _).mono (fun r h => ⟨fun c => (h c).2.2, sem_eq_zero_of_no_sems (by decide) _⟩)
    (Cert.Inproj0BwdRefIdeal.Value.run (F := Ideal) m g)

end Cert.Inproj0BwdClaim
-- ==== Proof.EvenOutValue.lean ====
module

public import proofs.«01_k».proof.Defs
public import proofs.«01_k».proof.Proof.Forward
public import proofs.«01_k».proof.Proof.Gen.EvenOutIdeal.Value
public import Idealize.ShloMosaic.Lib.Pipeline.ValueKit
public import Idealize.ShloMosaic.Lib.Claim
public import Idealize.ShloMosaic.Lib.StableHlo.RunRead

/-! What the even layer's output call leaves in its four results. -/

@[expose] public section

set_option maxRecDepth 16384

noncomputable section

open Idealize.ShloMosaic Idealize.ShloMosaic.TcCoe Idealize.SL.Sem

namespace Cert.EvenOutValue

open Cert.EvenOutIdeal Cert.EvenOutIdeal.Gen Cert.Pieces Cert.Forward
open Cert.NormGrad (len eps)

/-- The tables that enter: the pooling's and the attention's results, the projection, the weights, the residual, the
even layer's gate, and the odd layer's norm weights, scale and shift. -/
structure Inp where
  YP : Nat → Nat → EReal
  YS : Nat → Nat → EReal
  P : Nat → Nat → EReal
  W : Nat → Nat → EReal
  X : Nat → Nat → EReal
  GA : Nat → EReal
  G : Nat → EReal
  SC : Nat → EReal
  SH : Nat → EReal

namespace Inp

variable (D : Inp)

/-- The gated mixture. -/
def y (R k : Nat) : EReal := (if k < 1024 then D.YP R k else D.YS R (k - 1024)) * silu (D.P R (4096 + k))

/-- Its product with the weights. -/
def out (R d : Nat) : EReal := ∑ k : Fin 2048, D.y R k * D.W k d

/-- The residual stream after the layer. -/
def x1 (R d : Nat) : EReal := D.X R d + (1 + D.GA d) * D.out R d

/-- The next layer's modulated norm. -/
def h1 (R d : Nat) : EReal :=
  D.x1 R d * Ideal.rsqrt (Ideal.div (∑ e : Fin 1024, D.x1 R e * D.x1 R e) len + eps) * D.G d * (1 + D.SC d) + D.SH d

end Inp

section block

variable (D : Inp) (b : Nat)
  (x0 x1 : Vec Ideal S256x1024 .f32) (x2 : Vec Ideal S256x2048 .bf16) (x3 : Vec Ideal S2048x1024 .bf16) (x4 : Vec Ideal S256x1024 .f32)
  (x5 x6 : Vec Ideal S8x1024 .f32)
  (h0 : ∀ (r : Fin 256) (k : Fin 1024), x0 (ix2 r k) = D.YP (256 * b + r) k)
  (h1 : ∀ (r : Fin 256) (k : Fin 1024), x1 (ix2 r k) = D.YS (256 * b + r) k)
  (h2 : ∀ (r : Fin 256) (k : Fin 2048), x2 (ix2 r k) = D.P (256 * b + r) (4096 + k))
  (h3 : ∀ (k : Fin 2048) (d : Fin 1024), x3 (ix2 k d) = D.W k d)
  (h4 : ∀ (r : Fin 256) (d : Fin 1024), x4 (ix2 r d) = D.X (256 * b + r) d)
  (h5 : ∀ d : Fin 1024, x5 (ix2 3 d) = D.GA d)
  (h6 : ∀ d : Fin 1024, x6 (ix2 0 d) = D.G d)
  (h6' : ∀ d : Fin 1024, x6 (ix2 1 d) = D.SC d)
  (h6'' : ∀ d : Fin 1024, x6 (ix2 2 d) = D.SH d)

include h0 h2 in
/-- The first half of the gated mixture. -/
theorem lo_at (i1 i2) (r : Fin 256) (k : Fin 1024) :
    k0_pay4 (View.ld x2 (Rect.unit (s := S256x2048) ![0, 0] ![256, 2048] i1)) (View.ld x0 (Rect.unit (s := S256x1024) ![0, 0] ![256, 1024] i2)) (ix2 r k)
      = D.y (256 * b + r) k := by
  unfold k0_pay4 k0_pay3
  pointwise
  simp only [h0, h2]
  unfold Inp.y
  rw [if_pos k.isLt]
  rfl

include h1 h2 in
/-- The second half of the gated mixture. -/
theorem hi_at (i1 i2) (r : Fin 256) (k : Fin 1024) :
    k0_pay5 (View.ld x2 (Rect.unit (s := S256x2048) ![0, 0] ![256, 2048] i1)) (View.ld x1 (Rect.unit (s := S256x1024) ![0, 0] ![256, 1024] i2)) (ix2 r k)
      = D.y (256 * b + r) (1024 + k) := by
  unfold k0_pay5 k0_pay3
  pointwise
  simp only [h1, h2]
  unfold Inp.y
  rw [if_neg (by omega), show 1024 + k.val - 1024 = k.val by omega]
  rfl

include h0 h1 h2 in
/-- The gated mixture. -/
theorem y_eq (i1 i2 i3) (h : 2048 = 1024 + 1024) :
    joined (e := .bf16) h (k0_pay4 (View.ld x2 (Rect.unit (s := S256x2048) ![0, 0] ![256, 2048] i1)) (View.ld x0 (Rect.unit (s := S256x1024) ![0, 0] ![256, 1024] i2)))
      (k0_pay5 (View.ld x2 (Rect.unit (s := S256x2048) ![0, 0] ![256, 2048] i1)) (View.ld x1 (Rect.unit (s := S256x1024) ![0, 0] ![256, 1024] i3)))
      = arr 256 2048 fun r k => D.y (256 * b + r) k := by
  funext j
  obtain ⟨r, k, rfl⟩ : ∃ (r : Fin 256) (k : Fin 2048), j = ix2 r k := ⟨j 0, j 1, eq_ix2 j⟩
  have hk := k.isLt
  unfold joined arr
  by_cases hc : k.val < 1024
  · rw [dif_pos (show (ix2 r k 1).val < 1024 from hc)]
    exact lo_at D b x0 x2 h0 h2 i1 i2 r ⟨k.val, hc⟩
  · rw [dif_neg (show ¬(ix2 r k 1).val < 1024 from hc)]
    refine (hi_at D b x1 x2 h1 h2 i1 i3 r ⟨k.val - 1024, by omega⟩).trans ?_
    show D.y _ (1024 + (k.val - 1024)) = D.y _ k.val
    rw [show 1024 + (k.val - 1024) = k.val by omega]
    rfl

include h0 h1 h2 in
/-- The gated mixture, read back whole from the two halves it was stored in. -/
theorem y_read {sg : RefSig} {κ : Kind} {sp : Space} (v : View sg κ sp S256x2048 .bf16) :
    v.readCov (Val := Elt Ideal) [⟨Rect.unit (s := S256x2048) ![0, 1024] ![256, 1024] inb_S256x2048_S256x1024_0_1024,
        k0_pay5 (View.ld x2 (Rect.unit (s := S256x2048) ![0, 0] ![256, 2048] inb_S256x2048_S256x2048_0_0))
          (View.ld x1 (Rect.unit (s := S256x1024) ![0, 0] ![256, 1024] inb_S256x1024_S256x1024_0_0))⟩,
      ⟨Rect.unit (s := S256x2048) ![0, 0] ![256, 1024] inb_S256x2048_S256x1024_0_0,
        k0_pay4 (View.ld x2 (Rect.unit (s := S256x2048) ![0, 0] ![256, 2048] inb_S256x2048_S256x2048_0_0))
          (View.ld x0 (Rect.unit (s := S256x1024) ![0, 0] ![256, 1024] inb_S256x1024_S256x1024_0_0))⟩]
      (Rect.unit (s := S256x2048) ![0, 0] ![256, 2048] inb_S256x2048_S256x2048_0_0).toLoadRect
      = arr 256 2048 fun r k => D.y (256 * b + r) k :=
  (readCov_two (m := 256) (w := 1024) (n := 2048) (e := .bf16) rfl v _ _ _ _ _).trans
    (y_eq D b x0 x1 x2 h0 h1 h2 _ _ _ rfl)

include h3 in
/-- The product with the weights. -/
theorem out_eq (i1) :
    k0_pay6 (arr 256 2048 fun r k => D.y (256 * b + r) k) (View.ld x3 (Rect.unit (s := S2048x1024) ![0, 0] ![2048, 1024] i1))
      = arr 256 1024 fun r d => D.out (256 * b + r) d := by
  funext j
  obtain ⟨r, d, rfl⟩ : ∃ (r : Fin 256) (d : Fin 1024), j = ix2 r d := ⟨j 0, j 1, eq_ix2 j⟩
  unfold k0_pay6
  pointwise [arr]
  simp only [h3]
  rfl

include h4 h5 in
/-- The residual stream. -/
theorem x1_eq (i1 i2) :
    k0_pay1 (arr 256 1024 fun r d => D.out (256 * b + r) d) (View.ld x4 (Rect.unit (s := S256x1024) ![0, 0] ![256, 1024] i1))
        (k0_pay7 (View.ld x5 (Rect.unit (s := S8x1024) ![3, 0] ![1, 1024] i2)))
      = arr 256 1024 fun r d => D.x1 (256 * b + r) d := by
  funext j
  obtain ⟨r, d, rfl⟩ : ∃ (r : Fin 256) (d : Fin 1024), j = ix2 r d := ⟨j 0, j 1, eq_ix2 j⟩
  unfold k0_pay1 k0_pay7
  pointwise [arr]
  simp only [h4]
  exact congrArg (fun g => D.X _ _ + (1 + g) * D.out _ _) (h5 d)

end block

section values

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .bf16) (harg3 : arg3.IsWhole) (arg4 : Memref sig .tc .vmem S2048x1024 .bf16) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x2048 .bf16) (harg10 : arg10.IsWhole) (arg11 : Memref sig .tc .vmem S256x1024 .bf16) (harg11 : arg11.IsWhole)
    (x0 : Vec Ideal S256x1024 .f32) (x1 : Vec Ideal S256x1024 .f32) (x2 : Vec Ideal S256x2048 .bf16) (x3 : Vec Ideal S2048x1024 .bf16) (x4 : Vec Ideal S256x1024 .f32) (x5 : Vec Ideal S8x1024 .f32) (x6 : Vec Ideal S8x1024 .f32)
    (D : Inp) (b : Nat)
  (h0 : ∀ (r : Fin 256) (k : Fin 1024), x0 (ix2 r k) = D.YP (256 * b + r) k)
  (h1 : ∀ (r : Fin 256) (k : Fin 1024), x1 (ix2 r k) = D.YS (256 * b + r) k)
  (h2 : ∀ (r : Fin 256) (k : Fin 2048), x2 (ix2 r k) = D.P (256 * b + r) (4096 + k))
  (h3 : ∀ (k : Fin 2048) (d : Fin 1024), x3 (ix2 k d) = D.W k d)
  (h4 : ∀ (r : Fin 256) (d : Fin 1024), x4 (ix2 r d) = D.X (256 * b + r) d)
  (h5 : ∀ d : Fin 1024, x5 (ix2 3 d) = D.GA d)
  (h6 : ∀ d : Fin 1024, x6 (ix2 0 d) = D.G d)
  (h6' : ∀ d : Fin 1024, x6 (ix2 1 d) = D.SC d)
  (h6'' : ∀ d : Fin 1024, x6 (ix2 2 d) = D.SH d)

include h0 h1 h2 h3 h4 h5 h6 h6' h6''

/-- What a point stores of the residual stream. -/
theorem out0_A_7_eq :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = arr 256 1024 fun r d => D.x1 (256 * b + r) d := by
  funext y
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5 x6)]
  refine canon_of_agrees (Val := Elt Ideal) (fun r d => D.x1 (256 * b + r) d) _ ?_ y (cover0_A_7 c i arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [y_read D b x0 x1 x2 h0 h1 h2, out_eq D b x3 h3, x1_eq D b x4 x5 h4 h5]
  refine agrees_cons (agrees_unit _ _ _ _ _ _ _ fun r d => ?_) agrees_nil
  simp only [Nat.zero_add]
  rfl

/-- What a point stores of the product. -/
theorem out0_A_8_eq :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 = arr 256 1024 fun r d => D.out (256 * b + r) d := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6)]
  refine canon_of_agrees (Val := Elt Ideal) (fun r d => D.out (256 * b + r) d) _ ?_ y (cover0_A_8 c i arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [y_read D b x0 x1 x2 h0 h1 h2, out_eq D b x3 h3]
  refine agrees_cons (agrees_unit _ _ _ _ _ _ _ fun r d => ?_) agrees_nil
  simp only [Nat.zero_add]
  rfl

/-- What a point stores of the gated mixture. -/
theorem out0_A_9_eq :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 = arr 256 2048 fun r d => D.y (256 * b + r) d := by
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6)]
  refine canon_of_agrees (Val := Elt Ideal) (fun r d => D.y (256 * b + r) d) _ ?_ y (cover0_A_9 c i arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  refine agrees_cons (agrees_unit _ _ _ _ _ _ _ fun r k => ?_) (agrees_cons (agrees_unit _ _ _ _ _ _ _ fun r k => ?_) agrees_nil)
  · rw [hi_at D b x1 x2 h1 h2]
    simp only [Nat.zero_add]
  · rw [lo_at D b x0 x2 h0 h2]
    simp only [Nat.zero_add]

/-- What a point stores of the next layer's modulated norm. -/
theorem out0_A_10_eq :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 = arr 256 1024 fun r d => D.h1 (256 * b + r) d := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6)]
  refine canon_of_agrees (Val := Elt Ideal) (fun r d => D.h1 (256 * b + r) d) _ ?_ y (cover0_A_10 c i arg1 harg1 arg2 harg2 arg3 harg3 arg4 harg4 arg5 harg5 arg6 harg6 arg7 harg7 arg8 harg8 arg9 harg9 arg10 harg10 arg11 harg11 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [y_read D b x0 x1 x2 h0 h1 h2, out_eq D b x3 h3, x1_eq D b x4 x5 h4 h5]
  refine agrees_cons (agrees_unit _ _ _ _ _ _ _ fun r d => ?_) agrees_nil
  unfold k0_pay2
  simp only [x1_eq D b x4 x5 h4 h5]
  pointwise [arr]
  simp only [h6, h6', h6'', Nat.zero_add]
  rfl

end values

/-- The call's arguments as tables. -/
def inpOf (x0 x1 : (⟨2, ![4096, 1024]⟩ : Shape).Idx → EReal) (x2 : (⟨2, ![4096, 6144]⟩ : Shape).Idx → EReal)
    (x3 : (⟨2, ![2048, 1024]⟩ : Shape).Idx → EReal) (x4 : (⟨2, ![4096, 1024]⟩ : Shape).Idx → EReal)
    (x8 x10 x11 x12 : (⟨1, ![1024]⟩ : Shape).Idx → EReal) : Inp where
  YP := tab 4096 1024 x0
  YS := tab 4096 1024 x1
  P := tab 4096 6144 x2
  W := tab 2048 1024 x3
  X := tab 4096 1024 x4
  GA := row 1024 x8
  G := row 1024 x10
  SC := row 1024 x12
  SH := row 1024 x11

variable (m : (ℓ : Loc nD τ sig) → Buf (Elt Ideal) ℓ) (c : Dev nD)

/-- The arguments of one device as tables. -/
def inp : Inp :=
  inpOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg8))
    (m ((c : Thread nD τ).loc main_arg10)) (m ((c : Thread nD τ).loc main_arg11)) (m ((c : Thread nD τ).loc main_arg12))

/-- Where the window's block lies. -/
theorem index0 (t : Fin cfg0.N) : win0_0.index t = ![t.val, 0] := by revert t; decide +kernel

/-- The pooling's rows that a point reads. -/
theorem block0 (t : Fin cfg0.N) (r : Fin 256) (k : Fin 1024) :
    iblk m c 0 t (ix2 r k) = (inp m c).YP (256 * t.val + r) k := by
  have hN : t.val < 16 := lt_of_lt_of_eq t.isLt N_0
  have hk := k.isLt
  show _ = tab 4096 1024 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 256 + 1 * r.val = _; rw [index0]; show t.val * 256 + 1 * _ = 256 * _ + _; omega
  | ⟨1, _⟩ => show win0_0.index t 1 * 1024 + 1 * k.val = _; rw [index0]; show 0 * 1024 + 1 * _ = k.val; omega

/-- Where the window's block lies. -/
theorem index1 (t : Fin cfg0.N) : win0_1.index t = ![t.val, 0] := by revert t; decide +kernel

/-- The attention's rows that a point reads. -/
theorem block1 (t : Fin cfg0.N) (r : Fin 256) (k : Fin 1024) :
    iblk m c 1 t (ix2 r k) = (inp m c).YS (256 * t.val + r) k := by
  have hN : t.val < 16 := lt_of_lt_of_eq t.isLt N_0
  have hk := k.isLt
  show _ = tab 4096 1024 (m ((c : Thread nD τ).loc main_arg1)) _ _
  rw [tab_at _ (by have := r.isLt; omega) (by omega)]
  unfold iblk
  rw [View.read_apply]
  refine (congrFun (V_main_arg1 m c) _).trans (congrArg (m ((c : Thread nD τ).loc main_arg1)) ?_)
  funext a; apply Fin.ext
  match a with
  | ⟨0, _⟩ => show win0_1.index t 0 * 256 + 1 * r.val = _; rw [index1]; show t.val * 256 + 1 * _ = 256 * _ + _; omega
  | ⟨1, _⟩ => show win0_1.index t 1 * 1024 + 1 * k.val = _; rw [index1]; show 0 * 1024 + 1 * _ = k.val; omega

/-- Where the window's block lies. -/
theorem index2 (t : Fin cfg0.N) : win0_2.index t = ![t.val, 2] := by revert t; decide +kernel

/-- The gate's columns of the projection that a point reads. -/
theorem block2 (t : Fin cfg0.N) (r : Fin 256) (k : Fin 2048) :
    iblk m c 2 t (ix2 r k) = (inp m c).P (256 * t.val + r) (4096 + k) := by
  have hN : t.val < 16 := lt_of_lt_of_eq t.isLt N_0
  have hk := k.isLt
  show _ = tab 4096 6144 (m ((c : Thread nD τ).loc main_arg2)) _ _
  rw [tab_at _ (by have := r.isLt; omega) (by omega)]
  unfold iblk
  rw [View.read_apply]
  refine (congrFun (V_main_arg2 m c) _).trans (congrArg (m ((c : Thread nD τ).loc main_arg2)) ?_)
  funext a; apply Fin.ext
  match a with
  | ⟨0, _⟩ => show win0_2.index t 0 * 256 + 1 * r.val = _; rw [index2]; show t.val * 256 + 1 * _ = 256 * _ + _; omega
  | ⟨1, _⟩ => show win0_2.index t 1 * 2048 + 1 * k.val = _; rw [index2]; show 2 * 2048 + 1 * _ = 4096 + k.val; omega

/-- Where the window's block lies. -/
theorem index4 (t : Fin cfg0.N) : win0_4.index t = ![t.val, 0] := by revert t; decide +kernel

/-- The residual's rows that a point reads. -/
theorem block4 (t : Fin cfg0.N) (r : Fin 256) (k : Fin 1024) :
    iblk m c 4 t (ix2 r k) = (inp m c).X (256 * t.val + r) k := by
  have hN : t.val < 16 := lt_of_lt_of_eq t.isLt N_0
  have hk := k.isLt
  show _ = tab 4096 1024 (m ((c : Thread nD τ).loc main_arg4)) _ _
  rw [tab_at _ (by have := r.isLt; omega) (by omega)]
  unfold iblk
  rw [View.read_apply]
  refine (congrFun (V_main_arg4 m c) _).trans (congrArg (m ((c : Thread nD τ).loc main_arg4)) ?_)
  funext a; apply Fin.ext
  match a with
  | ⟨0, _⟩ => show win0_4.index t 0 * 256 + 1 * r.val = _; rw [index4]; show t.val * 256 + 1 * _ = 256 * _ + _; omega
  | ⟨1, _⟩ => show win0_4.index t 1 * 1024 + 1 * k.val = _; rw [index4]; show 0 * 1024 + 1 * _ = k.val; omega

/-- The fourth row of the host's first stack of vectors: the even layer's gate. -/
theorem vec7_3 (d : Fin 1024) : V m c main_v7 (ix2 3 d) = m ((c : Thread nD τ).loc main_arg8) (ix1 d) := by
  unfold V
  after_reads_simp
  pointwise
  after_reads_simp
  pointwise
  done

/-- The first row of the host's second stack: the norm's weights. -/
theorem vec14_0 (d : Fin 1024) : V m c main_v14 (ix2 0 d) = m ((c : Thread nD τ).loc main_arg10) (ix1 d) := by
  unfold V
  after_reads_simp
  pointwise
  after_reads_simp
  pointwise
  done

/-- The second row of the host's second stack: the scale. -/
theorem vec14_1 (d : Fin 1024) : V m c main_v14 (ix2 1 d) = m ((c : Thread nD τ).loc main_arg12) (ix1 d) := by
  unfold V
  after_reads_simp
  pointwise
  after_reads_simp
  pointwise
  done

/-- The third row of the host's second stack: the shift. -/
theorem vec14_2 (d : Fin 1024) : V m c main_v14 (ix2 2 d) = m ((c : Thread nD τ).loc main_arg11) (ix1 d) := by
  unfold V
  after_reads_simp
  pointwise
  after_reads_simp
  pointwise
  done

/-- Every point reads the same weights. -/
theorem block3 (t : Fin cfg0.N) (r : Fin 2048) (k : Fin 1024) : iblk m c 3 t (ix2 r k) = V m c main_v15 (ix2 r k) := by
  have hi : win0_3.index t = ![0, 0] := by revert t; decide +kernel
  unfold iblk
  rw [View.read_apply]
  refine congrArg (V m c main_v15) ?_
  funext a; apply Fin.ext
  match a with
  | ⟨0, _⟩ => show win0_3.index t 0 * 2048 + 1 * r.val = _; rw [hi]; show 0 * 2048 + 1 * _ = r.val; omega
  | ⟨1, _⟩ => show win0_3.index t 1 * 1024 + 1 * k.val = _; rw [hi]; show 0 * 1024 + 1 * _ = k.val; omega

/-- Every point reads the same vectors. -/
theorem block5 (t : Fin cfg0.N) (r : Fin 8) (k : Fin 1024) : iblk m c 5 t (ix2 r k) = V m c main_v7 (ix2 r k) := by
  have hi : win0_5.index t = ![0, 0] := by revert t; decide +kernel
  unfold iblk
  rw [View.read_apply]
  refine congrArg (V m c main_v7) ?_
  funext a; apply Fin.ext
  match a with
  | ⟨0, _⟩ => show win0_5.index t 0 * 8 + 1 * r.val = _; rw [hi]; show 0 * 8 + 1 * _ = r.val; omega
  | ⟨1, _⟩ => show win0_5.index t 1 * 1024 + 1 * k.val = _; rw [hi]; show 0 * 1024 + 1 * _ = k.val; omega

/-- Every point reads the same vectors. -/
theorem block6 (t : Fin cfg0.N) (r : Fin 8) (k : Fin 1024) : iblk m c 6 t (ix2 r k) = V m c main_v14 (ix2 r k) := by
  have hi : win0_6.index t = ![0, 0] := by revert t; decide +kernel
  unfold iblk
  rw [View.read_apply]
  refine congrArg (V m c main_v14) ?_
  funext a; apply Fin.ext
  match a with
  | ⟨0, _⟩ => show win0_6.index t 0 * 8 + 1 * r.val = _; rw [hi]; show 0 * 8 + 1 * _ = r.val; omega
  | ⟨1, _⟩ => show win0_6.index t 1 * 1024 + 1 * k.val = _; rw [hi]; show 0 * 1024 + 1 * _ = k.val; omega

/-- The weights that a point reads. -/
theorem weights (t : Fin cfg0.N) (k : Fin 2048) (d : Fin 1024) : iblk m c 3 t (ix2 k d) = (inp m c).W k d := by
  rw [block3]
  refine Eq.trans ?_ (tab_at (m ((c : Thread nD τ).loc main_arg3)) k.isLt d.isLt).symm
  unfold V
  after_reads_simp
  pointwise
  done

/-- The even layer's gate that a point reads. -/
theorem gate (t : Fin cfg0.N) (d : Fin 1024) : iblk m c 5 t (ix2 3 d) = (inp m c).GA d :=
  (block5 m c t 3 d).trans ((vec7_3 m c d).trans (row_at _ d.isLt).symm)

/-- The norm's weights that a point reads. -/
theorem norm_g (t : Fin cfg0.N) (d : Fin 1024) : iblk m c 6 t (ix2 0 d) = (inp m c).G d :=
  (block6 m c t 0 d).trans ((vec14_0 m c d).trans (row_at _ d.isLt).symm)

/-- The scale that a point reads. -/
theorem scale (t : Fin cfg0.N) (d : Fin 1024) : iblk m c 6 t (ix2 1 d) = (inp m c).SC d :=
  (block6 m c t 1 d).trans ((vec14_1 m c d).trans (row_at _ d.isLt).symm)

/-- The shift that a point reads. -/
theorem shift (t : Fin cfg0.N) (d : Fin 1024) : iblk m c 6 t (ix2 2 d) = (inp m c).SH d :=
  (block6 m c t 2 d).trans ((vec14_2 m c d).trans (row_at _ d.isLt).symm)

/-- What a point leaves of the residual stream. -/
theorem after7 (t : Fin cfg0.N) : (outsAt0 m c t).1 = arr 256 1024 fun r d => (inp m c).x1 (256 * t.val + r) d := by
  have e := out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (inp m c) t.val (block0 m c t) (block1 m c t) (block2 m c t) (weights m c t) (block4 m c t) (gate m c t) (norm_g m c t) (scale m c t) (shift m c t)
  simp only [outsAt0]
  exact e

/-- Where the window's block lies. -/
theorem index7 (t : Fin cfg0.N) : win0_7.index t = ![t.val, 0] := by revert t; decide +kernel

/-- Whole: the residual stream. -/
theorem final7 : (dats m 0 c).arrAt 7 cfg0.N = arr 4096 1024 (inp m c).x1 := by
  refine (dats m 0 c).arrAt_eq_of_covers 7 _ (by decide +kernel) fun t hf y => ?_
  blk_simp
  rw [after0_7, after7]
  unfold arr
  blk_simp [index7]
  rw [Nat.mul_comm 256]

/-- What a point leaves of the product. -/
theorem after8 (t : Fin cfg0.N) : (outsAt0 m c t).2.1 = arr 256 1024 fun r d => (inp m c).out (256 * t.val + r) d := by
  have e := out0_A_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (inp m c) t.val (block0 m c t) (block1 m c t) (block2 m c t) (weights m c t) (block4 m c t) (gate m c t) (norm_g m c t) (scale m c t) (shift m c t)
  simp only [outsAt0]
  exact e

/-- Where the window's block lies. -/
theorem index8 (t : Fin cfg0.N) : win0_8.index t = ![t.val, 0] := by revert t; decide +kernel

/-- Whole: the product. -/
theorem final8 : (dats m 0 c).arrAt 8 cfg0.N = arr 4096 1024 (inp m c).out := by
  refine (dats m 0 c).arrAt_eq_of_covers 8 _ (by decide +kernel) fun t hf y => ?_
  blk_simp
  rw [after0_8, after8]
  unfold arr
  blk_simp [index8]
  rw [Nat.mul_comm 256]

/-- What a point leaves of the gated mixture. -/
theorem after9 (t : Fin cfg0.N) : (outsAt0 m c t).2.2.1 = arr 256 2048 fun r d => (inp m c).y (256 * t.val + r) d := by
  have e := out0_A_9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (inp m c) t.val (block0 m c t) (block1 m c t) (block2 m c t) (weights m c t) (block4 m c t) (gate m c t) (norm_g m c t) (scale m c t) (shift m c t)
  simp only [outsAt0]
  exact e

/-- Where the window's block lies. -/
theorem index9 (t : Fin cfg0.N) : win0_9.index t = ![t.val, 0] := by revert t; decide +kernel

/-- Whole: the gated mixture. -/
theorem final9 : (dats m 0 c).arrAt 9 cfg0.N = arr 4096 2048 (inp m c).y := by
  refine (dats m 0 c).arrAt_eq_of_covers 9 _ (by decide +kernel) fun t hf y => ?_
  blk_simp
  rw [after0_9, after9]
  unfold arr
  blk_simp [index9]
  rw [Nat.mul_comm 256]

/-- What a point leaves of the next layer's modulated norm. -/
theorem after10 (t : Fin cfg0.N) : (outsAt0 m c t).2.2.2 = arr 256 1024 fun r d => (inp m c).h1 (256 * t.val + r) d := by
  have e := out0_A_10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (inp m c) t.val (block0 m c t) (block1 m c t) (block2 m c t) (weights m c t) (block4 m c t) (gate m c t) (norm_g m c t) (scale m c t) (shift m c t)
  simp only [outsAt0]
  exact e

/-- Where the window's block lies. -/
theorem index10 (t : Fin cfg0.N) : win0_10.index t = ![t.val, 0] := by revert t; decide +kernel

/-- Whole: the next layer's modulated norm. -/
theorem final10 : (dats m 0 c).arrAt 10 cfg0.N = arr 4096 1024 (inp m c).h1 := by
  refine (dats m 0 c).arrAt_eq_of_covers 10 _ (by decide +kernel) fun t hf y => ?_
  blk_simp
  rw [after0_10, after10]
  unfold arr
  blk_simp [index10]
  rw [Nat.mul_comm 256]

end Cert.EvenOutValue
-- ==== Proof.EvenOut.lean ====
module

public import proofs.«01_k».proof.Defs
public import proofs.«01_k».proof.Proof.EvenOutValue
public import proofs.«01_k».proof.Proof.Gen.EvenOutRefIdeal.Read
public import proofs.«01_k».proof.Proof.Gen.EvenOutRefIdeal.Run
public import Idealize.ShloMosaic.Lib.Quiescent

/-! The even layer's output call and its reference leave the same arrays. -/

@[expose] public section

set_option maxRecDepth 16384

noncomputable section

open Idealize.ShloMosaic Idealize.ShloMosaic.TcCoe Idealize.SL.Sem

namespace Cert.EvenOutClaim

open Cert.EvenOutRefIdeal Cert.EvenOutRefIdeal.Read Cert.Pieces Cert.Forward
open Cert.NormGrad (len eps)
open Cert.EvenOutValue (Inp inpOf inp final7 final8 final9 final10)

section reference

variable (x0 x1 : (⟨S4096x1024, .f32⟩ : BufTy).Contents (Elt Ideal)) (x2 : (⟨S4096x6144, .bf16⟩ : BufTy).Contents (Elt Ideal))
  (x3 : (⟨S2048x1024, .f32⟩ : BufTy).Contents (Elt Ideal)) (x4 : (⟨S4096x1024, .f32⟩ : BufTy).Contents (Elt Ideal))
  (x8 x10 x11 x12 : (⟨S1024, .f32⟩ : BufTy).Contents (Elt Ideal))

local notation "D" => inpOf x0 x1 x2 x3 x4 x8 x10 x11 x12

/-- The gated mixture. -/
theorem v8_at (R : Fin 4096) (k : Fin 2048) : val_main_v8 (F := Ideal) x0 x1 x2 (ix2 R k) = (D).y R k := by
  pointwise [val_main_v8, val_main_v7, val_main_v6, val_main_call0_v5, val_main_call0_v4, val_main_call0_v3, val_main_call0_v2, val_main_call0_v1, val_main_call0_v0, val_main_call0_cst, val_main_call0_cst_0, val_main_v5, val_main_v0]
  rw [silu_eq]
  have hk := k.isLt
  have e : x2 (ix2 R ⟨4096 + k.val, by omega⟩) = (D).P R (4096 + k) := (tab_at x2 R.isLt (by omega)).symm
  unfold Inp.y
  rw [← e]
  split
  · next h => congr 1; exact (tab_at x0 R.isLt h).symm
  · next h => congr 1; exact (tab_at x1 R.isLt (by omega)).symm

/-- Its product with the weights. -/
theorem v9_at (R : Fin 4096) (d : Fin 1024) : val_main_v9 (F := Ideal) x0 x1 x2 x3 (ix2 R d) = (D).out R d := by
  pointwise [val_main_v9]
  simp only [v8_at x0 x1 x2 x3 x4 x8 x10 x11 x12]
  unfold Inp.out
  exact Finset.sum_congr rfl fun k _ => congrArg _ (tab_at x3 k.isLt d.isLt).symm

/-- The residual stream. -/
theorem v15_at (R : Fin 4096) (d : Fin 1024) : val_main_v15 (F := Ideal) x0 x1 x2 x3 x4 x8 (ix2 R d) = (D).x1 R d := by
  pointwise [val_main_v15, val_main_v14, val_main_v13, val_main_v12, val_main_v11, val_main_v10, val_main_cst]
  rw [v9_at x0 x1 x2 x3 x4 x8 x10 x11 x12]
  have e4 : x4 (ix2 R d) = (D).X R d := (tab_at x4 R.isLt d.isLt).symm
  have e8 : x8 (ix1 d) = (D).GA d := (row_at x8 d.isLt).symm
  rw [e4, e8]
  rfl

/-- The next layer's modulated norm. -/
theorem v36_at (R : Fin 4096) (d : Fin 1024) :
    val_main_v36 (F := Ideal) x0 x1 x2 x3 x4 x8 x10 x11 x12 (ix2 R d) = (D).h1 R d := by
  pointwise [val_main_v36, val_main_v35, val_main_v34, val_main_v33, val_main_v32, val_main_v31, val_main_v30, val_main_v29, val_main_cst_3, val_main_v28, val_main_v27, val_main_v26, val_main_v25, val_main_v24, val_main_v23, val_main_v22, val_main_v21, val_main_cst_2, val_main_v20, val_main_v19, val_main_cst_1, val_main_v18, val_main_v17, val_main_cst_0, val_main_v16]
  simp only [v15_at x0 x1 x2 x3 x4 x8 x10 x11 x12]
  have e10 : x10 (ix1 d) = (D).G d := (row_at x10 d.isLt).symm
  have e11 : x11 (ix1 d) = (D).SH d := (row_at x11 d.isLt).symm
  have e12 : x12 (ix1 d) = (D).SC d := (row_at x12 d.isLt).symm
  rw [e10, e11, e12]
  rfl

/-- The reference's residual stream. -/
theorem x1_eq : val_main_v15 (F := Ideal) x0 x1 x2 x3 x4 x8 = arr 4096 1024 (D).x1 := by
  funext y
  obtain ⟨R, d, rfl⟩ : ∃ (R : Fin 4096) (d : Fin 1024), y = ix2 R d := ⟨y 0, y 1, eq_ix2 y⟩
  exact v15_at x0 x1 x2 x3 x4 x8 x10 x11 x12 R d

/-- The reference's product. -/
theorem out_eq : val_main_v9 (F := Ideal) x0 x1 x2 x3 = arr 4096 1024 (D).out := by
  funext y
  obtain ⟨R, d, rfl⟩ : ∃ (R : Fin 4096) (d : Fin 1024), y = ix2 R d := ⟨y 0, y 1, eq_ix2 y⟩
  exact v9_at x0 x1 x2 x3 x4 x8 x10 x11 x12 R d

/-- The reference's gated mixture. -/
theorem y_eq : val_main_v37 (F := Ideal) x0 x1 x2 = arr 4096 2048 (D).y := by
  funext y
  obtain ⟨R, k, rfl⟩ : ∃ (R : Fin 4096) (k : Fin 2048), y = ix2 R k := ⟨y 0, y 1, eq_ix2 y⟩
  exact v8_at x0 x1 x2 x3 x4 x8 x10 x11 x12 R k

/-- The reference's modulated norm. -/
theorem h1_eq : val_main_v38 (F := Ideal) x0 x1 x2 x3 x4 x8 x10 x11 x12 = arr 4096 1024 (D).h1 := by
  funext y
  obtain ⟨R, d, rfl⟩ : ∃ (R : Fin 4096) (d : Fin 1024), y = ix2 R d := ⟨y 0, y 1, eq_ix2 y⟩
  exact v36_at x0 x1 x2 x3 x4 x8 x10 x11 x12 R d

end reference

/-- The kernel and the reference end with the same four arrays. -/
theorem algebraic : Cert.algebraic_EvenOutIdeal_EvenOutRefIdeal := by
  intro m g m' g' hpre hargs
  refine ⟨fun c => arr 4096 1024 (inp m c).x1, fun c => arr 4096 1024 (inp m c).out,
    fun c => arr 4096 2048 (inp m c).y, fun c => arr 4096 1024 (inp m c).h1, ?_, ?_⟩
  · refine (θ_run _ _ _).mono (fun r h c => ?_) (Cert.EvenOutIdeal.Value.run_blocks (F := Ideal) m g)
    obtain ⟨e0, e1, e2, e3, hk⟩ := h c
    exact ⟨e0.trans (final7 m c), e1.trans (final8 m c), e2.trans (final9 m c), e3.trans (final10 m c), hk⟩
  · refine (θ_run _ _ _).mono (fun r h c => ?_) (Cert.EvenOutRefIdeal.Value.run (F := Ideal) m' g')
    obtain ⟨e0, e1, e2, e3, hk⟩ := h c
    obtain ⟨a0, a1, a2, a3, a4, -, -, -, a8, -, a10, a11, a12, -⟩ := hargs c
    have p := x1_eq (m ((c.tc : Thread _ _).loc EvenOutIdeal.main_arg0)) (m ((c.tc : Thread _ _).loc EvenOutIdeal.main_arg1)) (m ((c.tc : Thread _ _).loc EvenOutIdeal.main_arg2)) (m ((c.tc : Thread _ _).loc EvenOutIdeal.main_arg3)) (m ((c.tc : Thread _ _).loc EvenOutIdeal.main_arg4)) (m ((c.tc : Thread _ _).loc EvenOutIdeal.main_arg8)) (m ((c.tc : Thread _ _).loc EvenOutIdeal.main_arg10)) (m ((c.tc : Thread _ _).loc EvenOutIdeal.main_arg11)) (m ((c.tc : Thread _ _).loc EvenOutIdeal.main_arg12))
    have q := out_eq (m ((c.tc : Thread _ _).loc EvenOutIdeal.main_arg0)) (m ((c.tc : Thread _ _).loc EvenOutIdeal.main_arg1)) (m ((c.tc : Thread _ _).loc EvenOutIdeal.main_arg2)) (m ((c.tc : Thread _ _).loc EvenOutIdeal.main_arg3)) (m ((c.tc : Thread _ _).loc EvenOutIdeal.main_arg4)) (m ((c.tc : Thread _ _).loc EvenOutIdeal.main_arg8)) (m ((c.tc : Thread _ _).loc EvenOutIdeal.main_arg10)) (m ((c.tc : Thread _ _).loc EvenOutIdeal.main_arg11)) (m ((c.tc : Thread _ _).loc EvenOutIdeal.main_arg12))
    have u := y_eq (m ((c.tc : Thread _ _).loc EvenOutIdeal.main_arg0)) (m ((c.tc : Thread _ _).loc EvenOutIdeal.main_arg1)) (m ((c.tc : Thread _ _).loc EvenOutIdeal.main_arg2)) (m ((c.tc : Thread _ _).loc EvenOutIdeal.main_arg3)) (m ((c.tc : Thread _ _).loc EvenOutIdeal.main_arg4)) (m ((c.tc : Thread _ _).loc EvenOutIdeal.main_arg8)) (m ((c.tc : Thread _ _).loc EvenOutIdeal.main_arg10)) (m ((c.tc : Thread _ _).loc EvenOutIdeal.main_arg11)) (m ((c.tc : Thread _ _).loc EvenOutIdeal.main_arg12))
    have v := h1_eq (m ((c.tc : Thread _ _).loc EvenOutIdeal.main_arg0)) (m ((c.tc : Thread _ _).loc EvenOutIdeal.main_arg1)) (m ((c.tc : Thread _ _).loc EvenOutIdeal.main_arg2)) (m ((c.tc : Thread _ _).loc EvenOutIdeal.main_arg3)) (m ((c.tc : Thread _ _).loc EvenOutIdeal.main_arg4)) (m ((c.tc : Thread _ _).loc EvenOutIdeal.main_arg8)) (m ((c.tc : Thread _ _).loc EvenOutIdeal.main_arg10)) (m ((c.tc : Thread _ _).loc EvenOutIdeal.main_arg11)) (m ((c.tc : Thread _ _).loc EvenOutIdeal.main_arg12))
    refine ⟨e0.trans (Eq.trans ?_ p), e1.trans (Eq.trans ?_ q), e2.trans (Eq.trans ?_ u), e3.trans (Eq.trans ?_ v), hk⟩
    · rw [← a0, ← a1, ← a2, ← a3, ← a4, ← a8]; rfl
    · rw [← a0, ← a1, ← a2, ← a3]; rfl
    · rw [← a0, ← a1, ← a2]; rfl
    · rw [← a0, ← a1, ← a2, ← a3, ← a4, ← a8, ← a10, ← a11, ← a12]; rfl

/-- The reference runs, and ends with its arguments unchanged and its counters at zero: it declares none. -/
theorem frame_reference : Cert.quiescent_EvenOutRefIdeal := fun m g _ =>
  (θ_run _ _ _).mono (fun r h => ⟨fun c => (h c).2.2.2.2, sem_eq_zero_of_no_sems (by decide) _⟩)
    (Cert.EvenOutRefIdeal.Value.run (F := Ideal) m g)

end Cert.EvenOutClaim
-- ==== Proof.OddBlock.lean ====
/-
  The odd layer's backward kernel at one point of its grid: what the body stores, entry by entry, as functions of the
  row and the column of the whole arrays.
-/
module

public import proofs.«01_k».proof.Proof.Gen.OddBwdIdeal.Value
public import proofs.«01_k».proof.Proof.Pieces

@[expose] public section

set_option maxRecDepth 16384

noncomputable section

namespace Cert.OddBlock

open Cert.OddBwdIdeal Cert.OddBwdIdeal.Gen Cert.Pieces Idealize.ShloMosaic Idealize.ShloMosaic.TcCoe Idealize.SL.Sem

/-- The arrays the kernel reads, by row and column: the cotangent `X`, the projection `P`, the weights `W`, the gate
    row `G`, the filter's taps `C` and its bias `B`. -/
structure Inp where
  X : Nat → Nat → EReal
  P : Nat → Nat → EReal
  W : Nat → Nat → EReal
  G : Nat → EReal
  C : Nat → Nat → EReal
  B : Nat → EReal

namespace Inp

variable (D : Inp)

/-- One half, as the kernel's constant. -/
def half : EReal := Ideal.ofBits .f32 0x3F000000#32

/-- The cotangent of the mixed rows before the output projection. -/
def dY (R k : Nat) : EReal := ∑ d : Fin 1024, D.X R d * (1 + D.G d) * D.W k d

/-- The filter's input, two rows late and zero before the first row. -/
def up (q k : Nat) : EReal := if q < 2 then 0 else D.P (q - 2) (2048 + k) * D.P (q - 2) (4096 + k)

/-- The filter's output. -/
def cv (R k : Nat) : EReal :=
  D.B k + D.C 0 k * D.up R k + D.C 1 k * D.up (R + 1) k + D.C 2 k * D.up (R + 2) k

/-- The sigmoid of the gate, through the hyperbolic tangent. -/
def sg (R k : Nat) : EReal := half * Ideal.tanh (half * D.P R (6144 + k)) + half

/-- The cotangent through the gate. -/
def t1 (R k : Nat) : EReal := D.dY R k * (D.P R (6144 + k) * D.sg R k)

/-- The cotangent of the first factor. -/
def dgb (R k : Nat) : EReal := D.t1 R k * D.cv R k

/-- The cotangent of the filter's output. -/
def dc (R k : Nat) : EReal := D.t1 R k * D.P R k

/-- The cotangent of the gate. -/
def dgate (R k : Nat) : EReal :=
  D.dY R k * D.P R k * D.cv R k * (D.sg R k * (1 + D.P R (6144 + k) * (1 - D.sg R k)))

/-- The cotangent of the filter's output, zero after the last row. -/
def dx (R k : Nat) : EReal := if R < 4096 then D.dc R k else 0

/-- The cotangent of the filter's input. -/
def duu (R k : Nat) : EReal := D.C 2 k * D.dc R k + D.C 1 k * D.dx (R + 1) k + D.C 0 k * D.dx (R + 2) k

/-- The whole cotangent of the projection: four column groups. -/
def proj (R c : Nat) : EReal :=
  if c < 2048 then D.dgb R c
  else if c < 4096 then D.duu R (c - 2048) * D.P R (4096 + (c - 2048))
  else if c < 6144 then D.duu R (c - 4096) * D.P R (2048 + (c - 4096))
  else D.dgate R (c - 6144)

end Inp

variable (D : Inp)

/-- The rectangle a chunk of the cotangent is read through. -/
theorem dy_read {κ : Kind} {sp : Space} {sig : RefSig} (v : View sig κ sp S256x2048 .f32)
    (b o : Nat)
    (i1) (i2 : ∀ k, (![0, o] : Fin 2 → Nat) k + (![256, 512] : Fin 2 → Nat) k ≤ (![256, 2048] : Fin 2 → Nat) k)
    (w : (⟨2, ![256, 2048]⟩ : Shape).Idx → Ideal .f32)
    (hw : ∀ (r : Fin 256) (k : Fin 2048), w (ix2 r k) = D.dY (256 * b + r) k) :
    v.readCov (Val := Elt Ideal) [⟨Rect.unit (s := S256x2048) ![0, 0] ![256, 2048] i1, w⟩]
        (Rect.unit (s := S256x2048) ![0, o] ![256, 512] i2).toLoadRect
      = arr 256 512 fun r c => D.dY (256 * b + r) (o + c) := by
  rw [View.readCov_eq_canon']
  funext y
  have ho : o + 512 ≤ 2048 := i2 1
  have y1 : (y 1).val < 512 := (y 1).isLt
  have y0 : (y 0).val < 256 := (y 0).isLt
  refine (canon_of_agrees (Val := Elt Ideal) (fun r c => D.dY (256 * b + r) c) _ ?_ _ ?_).trans ?_
  · intro p hp
    simp only [List.mem_cons, List.not_mem_nil, or_false] at hp
    subst hp
    exact agrees_unit _ _ _ _ _ _ _ fun r c => (hw r c).trans (by simp)
  · refine ⟨_, List.mem_cons_self, ?_⟩
    rw [mem_unit]
    constructor
    · show 0 ≤ 0 + 1 * (y 0).val ∧ 0 + 1 * (y 0).val < 0 + 256; omega
    · show 0 ≤ o + 1 * (y 1).val ∧ o + 1 * (y 1).val < 0 + 2048; omega
  · show D.dY (256 * b + (0 + 1 * (y 0).val)) (o + 1 * (y 1).val) = D.dY (256 * b + (y 0).val) (o + (y 1).val)
    congr 1 <;> omega

/-- The rectangle a chunk of the filter's input is read through, `j` rows on. -/
theorem ue_read {κ : Kind} {sp : Space} {sig : RefSig} (v : View sig κ sp S272x2048 .f32)
    (b a o : Nat) (ha : 14 ≤ a) (ha' : a ≤ 16)
    (i1 i2) (i3 : ∀ k, (![a, o] : Fin 2 → Nat) k + (![256, 512] : Fin 2 → Nat) k ≤ (![272, 2048] : Fin 2 → Nat) k)
    (w : (⟨2, ![16, 2048]⟩ : Shape).Idx → Ideal .f32) (w' : (⟨2, ![256, 2048]⟩ : Shape).Idx → Ideal .f32)
    (hw : ∀ (r : Fin 16) (k : Fin 2048), 14 ≤ r.val → w (ix2 r k) = D.up (256 * b + r - 14) k)
    (hw' : ∀ (r : Fin 256) (k : Fin 2048), w' (ix2 r k) = D.up (256 * b + r + 2) k) :
    v.readCov (Val := Elt Ideal) [⟨Rect.unit (s := S272x2048) ![0, 0] ![16, 2048] i1, w⟩, ⟨Rect.unit (s := S272x2048) ![16, 0] ![256, 2048] i2, w'⟩]
        (Rect.unit (s := S272x2048) ![a, o] ![256, 512] i3).toLoadRect
      = arr 256 512 fun r c => D.up (256 * b + r + (a - 14)) (o + c) := by
  rw [View.readCov_eq_canon']
  funext y
  have ho : o + 512 ≤ 2048 := i3 1
  have y1 : (y 1).val < 512 := (y 1).isLt
  have y0 : (y 0).val < 256 := (y 0).isLt
  refine (canon_of_agrees (Val := Elt Ideal) (fun r c => if h : r < 14 ∧ c < 2048 then w (ix2 ⟨r, by omega⟩ ⟨c, h.2⟩) else D.up (256 * b + r - 14) c) _ ?_ _ ?_).trans ?_
  · intro p hp
    simp only [List.mem_cons, List.not_mem_nil, or_false] at hp
    rcases hp with rfl | rfl
    · refine agrees_unit _ _ _ _ _ _ _ fun r c => ?_
      have := c.isLt
      by_cases hr : r.val < 14
      · rw [dif_pos ⟨by omega, by omega⟩]; simp
      · rw [dif_neg (by omega), hw r c (by omega)]; simp
    · refine agrees_unit _ _ _ _ _ _ _ fun r c => ?_
      rw [dif_neg (by omega), hw' r c]; congr 1 <;> omega
  · by_cases hr : a + (y 0).val < 16
    · refine ⟨_, List.mem_cons_self, ?_⟩
      rw [mem_unit]
      constructor
      · show 0 ≤ a + 1 * (y 0).val ∧ a + 1 * (y 0).val < 0 + 16; omega
      · show 0 ≤ o + 1 * (y 1).val ∧ o + 1 * (y 1).val < 0 + 2048; omega
    · refine ⟨_, List.mem_cons_of_mem _ List.mem_cons_self, ?_⟩
      rw [mem_unit]
      constructor
      · show 16 ≤ a + 1 * (y 0).val ∧ a + 1 * (y 0).val < 16 + 256; omega
      · show 0 ≤ o + 1 * (y 1).val ∧ o + 1 * (y 1).val < 0 + 2048; omega
  · show (if h : a + 1 * (y 0).val < 14 ∧ o + 1 * (y 1).val < 2048 then _ else D.up (256 * b + (a + 1 * (y 0).val) - 14) (o + 1 * (y 1).val)) = _
    rw [dif_neg (by omega)]
    show _ = D.up (256 * b + (y 0).val + (a - 14)) (o + (y 1).val)
    congr 1 <;> omega

/-- A chunk of the filter output's cotangent, carried one block on: the rows from `a` on of the carrying buffer. -/
theorem dx_readCov {κ : Kind} {sp : Space} {sig : RefSig} (v : View sig κ sp S264x2048 .f32)
    (b a o : Nat) (ha : a ≤ 8)
    (i1 i2) (i3 : ∀ k, (![a, o] : Fin 2 → Nat) k + (![256, 512] : Fin 2 → Nat) k ≤ (![264, 2048] : Fin 2 → Nat) k)
    (w : (⟨2, ![256, 512]⟩ : Shape).Idx → Ideal .f32) (w0 : (⟨2, ![8, 2048]⟩ : Shape).Idx → Ideal .f32)
    (L : List (View.Piece (Elt Ideal) S264x2048 .f32))
    (hm : ⟨Rect.unit (s := S264x2048) ![256, 0] ![8, 2048] i2, w0⟩ ∈ L)
    (hL : ∀ p ∈ (⟨Rect.unit (s := S264x2048) ![0, o] ![256, 512] i1, w⟩ :: L : List (View.Piece (Elt Ideal) S264x2048 .f32)),
      Agrees (m := 264) (n := 2048) (Val := Elt Ideal) (e := .f32) (fun r c => D.dx (256 * b + r) c) p) :
    v.readCov (Val := Elt Ideal) (⟨Rect.unit (s := S264x2048) ![0, o] ![256, 512] i1, w⟩ :: L)
        (Rect.unit (s := S264x2048) ![a, o] ![256, 512] i3).toLoadRect
      = arr 256 512 fun r c => D.dx (256 * b + r + a) (o + c) := by
  rw [View.readCov_eq_canon']
  funext y
  have ho : o + 512 ≤ 2048 := i3 1
  have y1 : (y 1).val < 512 := (y 1).isLt
  have y0 : (y 0).val < 256 := (y 0).isLt
  refine (canon_of_agrees (Val := Elt Ideal) (fun r c => D.dx (256 * b + r) c) _ hL _ ?_).trans ?_
  · by_cases hr : a + (y 0).val < 256
    · refine ⟨_, List.mem_cons_self, ?_⟩
      rw [mem_unit]
      constructor
      · show 0 ≤ a + 1 * (y 0).val ∧ a + 1 * (y 0).val < 0 + 256; omega
      · show o ≤ o + 1 * (y 1).val ∧ o + 1 * (y 1).val < o + 512; omega
    · refine ⟨⟨Rect.unit (s := S264x2048) ![256, 0] ![8, 2048] i2, w0⟩, List.mem_cons_of_mem _ hm, ?_⟩
      rw [mem_unit]
      constructor
      · show 256 ≤ a + 1 * (y 0).val ∧ a + 1 * (y 0).val < 256 + 8; omega
      · show 0 ≤ o + 1 * (y 1).val ∧ o + 1 * (y 1).val < 0 + 2048; omega
  · show D.dx (256 * b + (a + 1 * (y 0).val)) (o + 1 * (y 1).val) = D.dx (256 * b + (y 0).val + a) (o + (y 1).val)
    congr 1 <;> omega

/-- The same where the buffer holds the rows carried from the block after. -/
theorem dx_ld {κ : Kind} {sp : Space} {sig : RefSig} (v : View sig κ sp S264x2048 .f32) (f : v.ty.Contents (Elt Ideal))
    (b a o : Nat) (ha : a ≤ 8)
    (i1) (i3 : ∀ k, (![a, o] : Fin 2 → Nat) k + (![256, 512] : Fin 2 → Nat) k ≤ (![264, 2048] : Fin 2 → Nat) k)
    (w : (⟨2, ![256, 512]⟩ : Shape).Idx → Ideal .f32)
    (L : List (View.Piece (Elt Ideal) S264x2048 .f32))
    (hf : ∀ (r : Fin 264) (k : Fin 2048), 256 ≤ r.val → v.read (Elt Ideal) f (ix2 r k) = D.dx (256 * b + r) k)
    (hL : ∀ p ∈ (⟨Rect.unit (s := S264x2048) ![0, o] ![256, 512] i1, w⟩ :: L : List (View.Piece (Elt Ideal) S264x2048 .f32)),
      Agrees (m := 264) (n := 2048) (Val := Elt Ideal) (e := .f32) (fun r c => D.dx (256 * b + r) c) p) :
    View.ld (v.read (Elt Ideal) (v.writes (Elt Ideal) f (⟨Rect.unit (s := S264x2048) ![0, o] ![256, 512] i1, w⟩ :: L)))
        (Rect.unit (s := S264x2048) ![a, o] ![256, 512] i3)
      = arr 256 512 fun r c => D.dx (256 * b + r + a) (o + c) := by
  funext y
  have ho : o + 512 ≤ 2048 := i3 1
  have y1 : (y 1).val < 512 := (y 1).isLt
  have y0 : (y 0).val < 256 := (y 0).isLt
  refine (writes_of_agrees v f (fun r c => D.dx (256 * b + r) c) _ hL ((Rect.unit (s := S264x2048) ![a, o] ![256, 512] i3).idx y) ?_).trans ?_
  · intro hn
    have h0 := hn _ List.mem_cons_self
    rw [mem_unit] at h0
    have h1 : ¬ ((0 ≤ a + 1 * (y 0).val ∧ a + 1 * (y 0).val < 0 + 256) ∧ o ≤ o + 1 * (y 1).val ∧ o + 1 * (y 1).val < o + 512) := h0
    have := hf ((Rect.unit (s := S264x2048) ![a, o] ![256, 512] i3).idx y 0) ((Rect.unit (s := S264x2048) ![a, o] ![256, 512] i3).idx y 1)
      (show 256 ≤ a + 1 * (y 0).val by omega)
    rw [ix2_eta] at this
    exact this
  · show D.dx (256 * b + (a + 1 * (y 0).val)) (o + 1 * (y 1).val) = D.dx (256 * b + (y 0).val + a) (o + (y 1).val)
    congr 1 <;> omega

/-- A store of one chunk of the carried cotangent. -/
theorem agrees_dx (b o : Nat) (hb : b < 16)
    (i1 : ∀ k, (![0, o] : Fin 2 → Nat) k + (![256, 512] : Fin 2 → Nat) k ≤ (![264, 2048] : Fin 2 → Nat) k)
    (v : (⟨2, ![256, 512]⟩ : Shape).Idx → Ideal .f32)
    (hv : ∀ (r : Fin 256) (c : Fin 512), v (ix2 r c) = D.dc (256 * b + r) (o + c)) :
    Agrees (m := 264) (n := 2048) (Val := Elt Ideal) (e := .f32) (fun r c => D.dx (256 * b + r) c)
      ⟨Rect.unit (s := S264x2048) ![0, o] ![256, 512] i1, v⟩ := by
  refine agrees_unit _ _ _ _ _ _ _ fun r c => ?_
  have := r.isLt
  rw [hv r c]
  unfold Inp.dx
  rw [if_pos (by omega), Nat.zero_add]

/-- A store of one chunk of the projection's cotangent, in the first column group. -/
theorem agrees_dgb (b o : Nat) (i1 : ∀ k, (![0, o] : Fin 2 → Nat) k + (![256, 512] : Fin 2 → Nat) k ≤ (![256, 8192] : Fin 2 → Nat) k)
    (v : (⟨2, ![256, 512]⟩ : Shape).Idx → Ideal .bf16) (ho : o + 512 ≤ 2048)
    (hv : ∀ (r : Fin 256) (c : Fin 512), v (ix2 r c) = D.dgb (256 * b + r) (o + c)) :
    Agrees (m := 256) (n := 8192) (Val := Elt Ideal) (e := .bf16) (fun r c => D.proj (256 * b + r) c)
      ⟨Rect.unit (s := ⟨2, ![256, 8192]⟩) ![0, o] ![256, 512] i1, v⟩ := by
  refine agrees_unit _ _ _ _ _ _ _ fun r c => ?_
  have := c.isLt
  rw [hv r c]
  unfold Inp.proj
  rw [if_pos (by omega), Nat.zero_add]

/-- The second column group. -/
theorem agrees_dgc (b o o' : Nat) (i1 : ∀ k, (![0, o'] : Fin 2 → Nat) k + (![256, 512] : Fin 2 → Nat) k ≤ (![256, 8192] : Fin 2 → Nat) k)
    (v : (⟨2, ![256, 512]⟩ : Shape).Idx → Ideal .bf16) (ho : o + 512 ≤ 2048) (ho' : o' = 2048 + o)
    (hv : ∀ (r : Fin 256) (c : Fin 512), v (ix2 r c) = D.duu (256 * b + r) (o + c) * D.P (256 * b + r) (4096 + (o + c))) :
    Agrees (m := 256) (n := 8192) (Val := Elt Ideal) (e := .bf16) (fun r c => D.proj (256 * b + r) c)
      ⟨Rect.unit (s := ⟨2, ![256, 8192]⟩) ![0, o'] ![256, 512] i1, v⟩ := by
  subst ho'
  refine agrees_unit _ _ _ _ _ _ _ fun r c => ?_
  have := c.isLt
  rw [hv r c]
  unfold Inp.proj
  rw [if_neg (by omega), if_pos (by omega), Nat.zero_add, show 2048 + o + c.val - 2048 = o + c.val by omega]

/-- The third column group. -/
theorem agrees_du (b o o' : Nat) (i1 : ∀ k, (![0, o'] : Fin 2 → Nat) k + (![256, 512] : Fin 2 → Nat) k ≤ (![256, 8192] : Fin 2 → Nat) k)
    (v : (⟨2, ![256, 512]⟩ : Shape).Idx → Ideal .bf16) (ho : o + 512 ≤ 2048) (ho' : o' = 4096 + o)
    (hv : ∀ (r : Fin 256) (c : Fin 512), v (ix2 r c) = D.duu (256 * b + r) (o + c) * D.P (256 * b + r) (2048 + (o + c))) :
    Agrees (m := 256) (n := 8192) (Val := Elt Ideal) (e := .bf16) (fun r c => D.proj (256 * b + r) c)
      ⟨Rect.unit (s := ⟨2, ![256, 8192]⟩) ![0, o'] ![256, 512] i1, v⟩ := by
  subst ho'
  refine agrees_unit _ _ _ _ _ _ _ fun r c => ?_
  have := c.isLt
  rw [hv r c]
  unfold Inp.proj
  rw [if_neg (by omega), if_neg (by omega), if_pos (by omega), Nat.zero_add, show 4096 + o + c.val - 4096 = o + c.val by omega]

/-- The fourth column group. -/
theorem agrees_dgate (b o o' : Nat) (i1 : ∀ k, (![0, o'] : Fin 2 → Nat) k + (![256, 512] : Fin 2 → Nat) k ≤ (![256, 8192] : Fin 2 → Nat) k)
    (v : (⟨2, ![256, 512]⟩ : Shape).Idx → Ideal .bf16) (ho' : o' = 6144 + o)
    (hv : ∀ (r : Fin 256) (c : Fin 512), v (ix2 r c) = D.dgate (256 * b + r) (o + c)) :
    Agrees (m := 256) (n := 8192) (Val := Elt Ideal) (e := .bf16) (fun r c => D.proj (256 * b + r) c)
      ⟨Rect.unit (s := ⟨2, ![256, 8192]⟩) ![0, o'] ![256, 512] i1, v⟩ := by
  subst ho'
  refine agrees_unit _ _ _ _ _ _ _ fun r c => ?_
  have := c.isLt
  rw [hv r c]
  unfold Inp.proj
  rw [if_neg (by omega), if_neg (by omega), if_neg (by omega), Nat.zero_add, show 6144 + o + c.val - 6144 = o + c.val by omega]

/-- The product of a chunk's rows, as the kernel forms it. -/
theorem dy_pay (b : Nat) (x0 : Vec Ideal S256x1024 .f32) (x7 : Vec Ideal S2048x1024 .bf16) (x8 : Vec Ideal S8x1024 .f32)
    (i1 : ∀ k, (![3, 0] : Fin 2 → Nat) k + (![1, 1024] : Fin 2 → Nat) k ≤ (![8, 1024] : Fin 2 → Nat) k) (i2 i3)
    (h0 : ∀ (r : Fin 256) (d : Fin 1024), x0 (ix2 r d) = D.X (256 * b + r) d)
    (h7 : ∀ (r : Fin 2048) (d : Fin 1024), x7 (ix2 r d) = D.W r d)
    (h8 : ∀ d : Fin 1024, x8 (ix2 3 d) = D.G d) (r : Fin 256) (k : Fin 2048) :
    k0_pay9 (View.ld x0 (Rect.unit (s := S256x1024) ![0, 0] ![256, 1024] i2)) (View.ld x8 (Rect.unit (s := S8x1024) ![3, 0] ![1, 1024] i1)) (View.ld x7 (Rect.unit (s := S2048x1024) ![0, 0] ![2048, 1024] i3)) (ix2 r k)
      = D.dY (256 * b + r) k := by
  pointwise [k0_pay9, k0_pay8]
  simp only [h0, h7, h8]
  rfl

/-- The rows of the filter's input that belong to the block itself. -/
theorem up_pay (b : Nat) (x2 x3 : Vec Ideal S256x2048 .bf16) (i1 i2)
    (h2 : ∀ (r : Fin 256) (k : Fin 2048), x2 (ix2 r k) = D.P (256 * b + r) (2048 + k))
    (h3 : ∀ (r : Fin 256) (k : Fin 2048), x3 (ix2 r k) = D.P (256 * b + r) (4096 + k)) (r : Fin 256) (k : Fin 2048) :
    k0_pay10 (View.ld x2 (Rect.unit (s := S256x2048) ![0, 0] ![256, 2048] i1)) (View.ld x3 (Rect.unit (s := S256x2048) ![0, 0] ![256, 2048] i2)) (ix2 r k)
      = D.up (256 * b + r + 2) k := by
  pointwise [k0_pay10]
  simp only [h2, h3]
  unfold Inp.up
  rw [if_neg (by omega), Nat.add_sub_cancel]

/-- The kernel's test of the first block. -/
theorem first_iff (i : grid0.Coords) (b : Nat) (hb : (i 0).val + b = 15) :
    Scalar.cmpi .sgt (Scalar.subi 15#32 (BitVec.ofNat 32 (i 0).val)) 0#32 = if b = 0 then 0#1 else 1#1 := by
  have : b < 16 := by omega
  have e : (i 0).val = 15 - b := by omega
  rw [e]
  interval_cases b <;> decide

/-- The rows of the filter's input that come from the block before, zero before the first. -/
theorem halo_pay (i : grid0.Coords) (b : Nat) (hb : (i 0).val + b = 15) (x5 x6 : Vec Ideal S16x2048 .bf16) (i1 i2)
    (h56 : ∀ (r : Fin 16) (k : Fin 2048), 0 < b → x5 (ix2 r k) = D.P (256 * b - 16 + r) (2048 + k) ∧ x6 (ix2 r k) = D.P (256 * b - 16 + r) (4096 + k))
    (r : Fin 16) (k : Fin 2048) (hr : 14 ≤ r.val) :
    k0_pay12 (Scalar.cmpi .sgt (Scalar.subi 15#32 (BitVec.ofNat 32 (i 0).val)) 0#32)
        (k0_pay11 (View.ld x5 (Rect.unit (s := S16x2048) ![0, 0] ![16, 2048] i1))) (View.ld x6 (Rect.unit (s := S16x2048) ![0, 0] ![16, 2048] i2)) (ix2 r k)
      = D.up (256 * b + r - 14) k := by
  rw [first_iff i b hb]
  by_cases h : b = 0
  · subst h
    rw [if_pos rfl]
    pointwise [k0_pay12, k0_pay11]
    unfold Inp.up
    rw [if_pos (by omega)]
  · rw [if_neg h]
    pointwise [k0_pay12, k0_pay11]
    have := h56 r k (by omega)
    rw [this.1, this.2]
    unfold Inp.up
    rw [if_neg (by omega), show 256 * b + r.val - 14 - 2 = 256 * b - 16 + r.val by omega]

/-- Collecting the stores of a list that agree with a function. -/
theorem ag_nil {m n : Nat} {e : EltTy} {g : Nat → Nat → Elt Ideal e} :
    ∀ p ∈ ([] : List (View.Piece (Elt Ideal) ⟨2, ![m, n]⟩ e)), Agrees g p := fun _ h => absurd h List.not_mem_nil

/-- One more store in front. -/
theorem ag_cons {m n : Nat} {e : EltTy} {g : Nat → Nat → Elt Ideal e} {p : View.Piece (Elt Ideal) ⟨2, ![m, n]⟩ e}
    {L : List (View.Piece (Elt Ideal) ⟨2, ![m, n]⟩ e)} (h : Agrees g p) (hL : ∀ p ∈ L, Agrees g p) :
    ∀ q ∈ p :: L, Agrees g q := by
  intro q hq
  rcases List.mem_cons.1 hq with rfl | hq
  · exact h
  · exact hL q hq

/-- The first point's store of zeros where the rows after the last would be. -/
theorem agrees_zero (b : Nat) (hb : b = 15)
    (i1 : ∀ k, (![256, 0] : Fin 2 → Nat) k + (![8, 2048] : Fin 2 → Nat) k ≤ (![264, 2048] : Fin 2 → Nat) k) :
    Agrees (m := 264) (n := 2048) (Val := Elt Ideal) (e := .f32) (fun r c => D.dx (256 * b + r) c)
      ⟨Rect.unit (s := S264x2048) ![256, 0] ![8, 2048] i1, k0_pay7 (F := Ideal)⟩ := by
  refine agrees_unit _ _ _ _ _ _ _ fun r c => ?_
  unfold Inp.dx
  rw [if_neg (by omega)]
  pointwise [k0_pay7]

/-- The first rows of the stored chunks, read back to be carried to the next block. -/
theorem dx_top {κ : Kind} {sp : Space} {sig : RefSig} (v : View sig κ sp S264x2048 .f32)
    (b : Nat) (i1 i2 i3 i4 i5) (w1 w2 w3 w4 : (⟨2, ![256, 512]⟩ : Shape).Idx → Ideal .f32)
    (L : List (View.Piece (Elt Ideal) S264x2048 .f32))
    (hL : ∀ p ∈ (⟨Rect.unit (s := S264x2048) ![0, 1536] ![256, 512] i1, w1⟩ :: ⟨Rect.unit (s := S264x2048) ![0, 1024] ![256, 512] i2, w2⟩ :: ⟨Rect.unit (s := S264x2048) ![0, 512] ![256, 512] i3, w3⟩ :: ⟨Rect.unit (s := S264x2048) ![0, 0] ![256, 512] i4, w4⟩ :: L : List (View.Piece (Elt Ideal) S264x2048 .f32)),
      Agrees (m := 264) (n := 2048) (Val := Elt Ideal) (e := .f32) (fun r c => D.dx (256 * b + r) c) p) :
    v.readCov (Val := Elt Ideal) (⟨Rect.unit (s := S264x2048) ![0, 1536] ![256, 512] i1, w1⟩ :: ⟨Rect.unit (s := S264x2048) ![0, 1024] ![256, 512] i2, w2⟩ :: ⟨Rect.unit (s := S264x2048) ![0, 512] ![256, 512] i3, w3⟩ :: ⟨Rect.unit (s := S264x2048) ![0, 0] ![256, 512] i4, w4⟩ :: L)
        (Rect.unit (s := S264x2048) ![0, 0] ![8, 2048] i5).toLoadRect
      = arr 8 2048 fun r c => D.dx (256 * b + r) c := by
  rw [View.readCov_eq_canon']
  funext y
  have y1 : (y 1).val < 2048 := (y 1).isLt
  have y0 : (y 0).val < 8 := (y 0).isLt
  refine (canon_of_agrees (Val := Elt Ideal) (fun r c => D.dx (256 * b + r) c) _ hL _ ?_).trans ?_
  · by_cases h3 : 1536 ≤ (y 1).val
    · refine ⟨_, List.mem_cons_self, ?_⟩
      rw [mem_unit]
      constructor
      · show 0 ≤ 0 + 1 * (y 0).val ∧ 0 + 1 * (y 0).val < 0 + 256; omega
      · show 1536 ≤ 0 + 1 * (y 1).val ∧ 0 + 1 * (y 1).val < 1536 + 512; omega
    · by_cases h2 : 1024 ≤ (y 1).val
      · refine ⟨_, List.mem_cons_of_mem _ List.mem_cons_self, ?_⟩
        rw [mem_unit]
        constructor
        · show 0 ≤ 0 + 1 * (y 0).val ∧ 0 + 1 * (y 0).val < 0 + 256; omega
        · show 1024 ≤ 0 + 1 * (y 1).val ∧ 0 + 1 * (y 1).val < 1024 + 512; omega
      · by_cases h1 : 512 ≤ (y 1).val
        · refine ⟨_, List.mem_cons_of_mem _ (List.mem_cons_of_mem _ List.mem_cons_self), ?_⟩
          rw [mem_unit]
          constructor
          · show 0 ≤ 0 + 1 * (y 0).val ∧ 0 + 1 * (y 0).val < 0 + 256; omega
          · show 512 ≤ 0 + 1 * (y 1).val ∧ 0 + 1 * (y 1).val < 512 + 512; omega
        · refine ⟨_, List.mem_cons_of_mem _ (List.mem_cons_of_mem _ (List.mem_cons_of_mem _ List.mem_cons_self)), ?_⟩
          rw [mem_unit]
          constructor
          · show 0 ≤ 0 + 1 * (y 0).val ∧ 0 + 1 * (y 0).val < 0 + 256; omega
          · show 0 ≤ 0 + 1 * (y 1).val ∧ 0 + 1 * (y 1).val < 0 + 512; omega
  · show D.dx (256 * b + (0 + 1 * (y 0).val)) (0 + 1 * (y 1).val) = D.dx (256 * b + (y 0).val) (y 1).val
    congr 1 <;> omega

/-- What the carrying buffer holds when a point ends: its own rows, then its first rows again. -/
def carry (b r c : Nat) : EReal := if r < 256 then D.dx (256 * b + r) c else D.dx (256 * b + (r - 256)) c

/-- A chunk of the point's own rows. -/
theorem agrees_carry (b o : Nat)
    (i1 : ∀ k, (![0, o] : Fin 2 → Nat) k + (![256, 512] : Fin 2 → Nat) k ≤ (![264, 2048] : Fin 2 → Nat) k)
    (v : (⟨2, ![256, 512]⟩ : Shape).Idx → Ideal .f32)
    (h : Agrees (m := 264) (n := 2048) (Val := Elt Ideal) (e := .f32) (fun r c => D.dx (256 * b + r) c)
      ⟨Rect.unit (s := S264x2048) ![0, o] ![256, 512] i1, v⟩) :
    Agrees (m := 264) (n := 2048) (Val := Elt Ideal) (e := .f32) (carry D b)
      ⟨Rect.unit (s := S264x2048) ![0, o] ![256, 512] i1, v⟩ := by
  intro x
  refine (h x).trans ?_
  unfold carry
  have : (x 0).val < 256 := (x 0).isLt
  exact (if_pos (show 0 + 1 * (x 0).val < 256 by omega)).symm

/-- The first rows, stored again after the block's rows. -/
theorem agrees_top (b : Nat)
    (i1 : ∀ k, (![256, 0] : Fin 2 → Nat) k + (![8, 2048] : Fin 2 → Nat) k ≤ (![264, 2048] : Fin 2 → Nat) k) :
    Agrees (m := 264) (n := 2048) (Val := Elt Ideal) (e := .f32) (carry D b)
      ⟨Rect.unit (s := S264x2048) ![256, 0] ![8, 2048] i1, k0_pay5 (F := Ideal) (arr 8 2048 fun r c => D.dx (256 * b + r) c)⟩ := by
  refine agrees_unit _ _ _ _ _ _ _ fun r c => ?_
  unfold carry
  rw [if_neg (by omega)]
  pointwise [k0_pay5, arr]

/-- What one block adds to the filter's gradients: its rows' products with the shifted inputs, and its rows' sum. -/
def accb (b j k : Nat) : EReal :=
  if j < 3 then ∑ r : Fin 256, D.dc (256 * b + r) k * D.up (256 * b + r + j) k
  else if j = 3 then ∑ r : Fin 256, D.dc (256 * b + r) k else 0

/-- A store of one chunk of one of the first three accumulator rows. -/
theorem agrees_acc (Z : Nat → Nat → EReal) (b j j' o : Nat) (hj : j' = j) (hj3 : j < 3)
    (i1 : ∀ k, (![j', o] : Fin 2 → Nat) k + (![1, 512] : Fin 2 → Nat) k ≤ (![8, 2048] : Fin 2 → Nat) k)
    (v : (⟨2, ![1, 512]⟩ : Shape).Idx → Ideal .f32)
    (hv : ∀ (r : Fin 1) (c : Fin 512), v (ix2 r c) = Z j (o + c) + ∑ r : Fin 256, D.dc (256 * b + r) (o + c) * D.up (256 * b + r + j) (o + c)) :
    Agrees (m := 8) (n := 2048) (Val := Elt Ideal) (e := .f32) (fun r c => Z r c + accb D b r c)
      ⟨Rect.unit (s := S8x2048) ![j', o] ![1, 512] i1, v⟩ := by
  subst hj
  refine agrees_unit _ _ _ _ _ _ _ fun r c => ?_
  have : r.val = 0 := by omega
  rw [hv r c, this, Nat.add_zero]
  unfold accb
  rw [if_pos hj3]

/-- A store of one chunk of the fourth accumulator row. -/
theorem agrees_acc3 (Z : Nat → Nat → EReal) (b o : Nat)
    (i1 : ∀ k, (![3, o] : Fin 2 → Nat) k + (![1, 512] : Fin 2 → Nat) k ≤ (![8, 2048] : Fin 2 → Nat) k)
    (v : (⟨2, ![1, 512]⟩ : Shape).Idx → Ideal .f32)
    (hv : ∀ (r : Fin 1) (c : Fin 512), v (ix2 r c) = Z 3 (o + c) + ∑ r : Fin 256, D.dc (256 * b + r) (o + c)) :
    Agrees (m := 8) (n := 2048) (Val := Elt Ideal) (e := .f32) (fun r c => Z r c + accb D b r c)
      ⟨Rect.unit (s := S8x2048) ![3, o] ![1, 512] i1, v⟩ := by
  refine agrees_unit _ _ _ _ _ _ _ fun r c => ?_
  have : r.val = 0 := by omega
  rw [hv r c, this, Nat.add_zero]
  rfl

/-- Chunk 0 of the filter output's cotangent, as stored to be carried. -/
theorem dc_pay0 (b : Nat) (x1 x4 : Vec Ideal S256x2048 .bf16) (j1 j4)
    (h1 : ∀ (r : Fin 256) (k : Fin 2048), x1 (ix2 r k) = D.P (256 * b + r) k)
    (h4 : ∀ (r : Fin 256) (k : Fin 2048), x4 (ix2 r k) = D.P (256 * b + r) (6144 + k)) (r : Fin 256) (c : Fin 512) :
    k0_pay30 (k0_pay24 (k0_pay17 (View.ld x4 (Rect.unit (s := S256x2048) ![0, 0] ![256, 512] j4))) (k0_pay18 (View.ld x4 (Rect.unit (s := S256x2048) ![0, 0] ![256, 512] j4))) k0_pay19 (View.ld x1 (Rect.unit (s := S256x2048) ![0, 0] ![256, 512] j1)) (arr 256 512 fun r c => D.dY (256 * b + r) (0 + c))) (ix2 r c)
      = D.dc (256 * b + r) (0 + c) := by
  unfold_payloads
  pointwise [arr]
  simp only [h1, h4]
  rfl

/-- Chunk 1 of the filter output's cotangent, as stored to be carried. -/
theorem dc_pay1 (b : Nat) (x1 x4 : Vec Ideal S256x2048 .bf16) (j1 j4)
    (h1 : ∀ (r : Fin 256) (k : Fin 2048), x1 (ix2 r k) = D.P (256 * b + r) k)
    (h4 : ∀ (r : Fin 256) (k : Fin 2048), x4 (ix2 r k) = D.P (256 * b + r) (6144 + k)) (r : Fin 256) (c : Fin 512) :
    k0_pay50 (k0_pay44 (k0_pay40 (View.ld x1 (Rect.unit (s := S256x2048) ![0, 512] ![256, 512] j1))) (arr 256 512 fun r c => D.dY (256 * b + r) (512 + c)) (k0_pay41 (View.ld x4 (Rect.unit (s := S256x2048) ![0, 512] ![256, 512] j4)))) (ix2 r c)
      = D.dc (256 * b + r) (512 + c) := by
  unfold_payloads
  pointwise [arr]
  simp only [h1, h4]
  rfl

/-- Chunk 2 of the filter output's cotangent, as stored to be carried. -/
theorem dc_pay2 (b : Nat) (x1 x4 : Vec Ideal S256x2048 .bf16) (j1 j4)
    (h1 : ∀ (r : Fin 256) (k : Fin 2048), x1 (ix2 r k) = D.P (256 * b + r) k)
    (h4 : ∀ (r : Fin 256) (k : Fin 2048), x4 (ix2 r k) = D.P (256 * b + r) (6144 + k)) (r : Fin 256) (c : Fin 512) :
    k0_pay72 (k0_pay63 (View.ld x4 (Rect.unit (s := S256x2048) ![0, 1024] ![256, 512] j4)) (View.ld x1 (Rect.unit (s := S256x2048) ![0, 1024] ![256, 512] j1)) (arr 256 512 fun r c => D.dY (256 * b + r) (1024 + c))) (ix2 r c)
      = D.dc (256 * b + r) (1024 + c) := by
  unfold_payloads
  pointwise [arr]
  simp only [h1, h4]
  rfl

/-- Chunk 3 of the filter output's cotangent, as stored to be carried. -/
theorem dc_pay3 (b : Nat) (x1 x4 : Vec Ideal S256x2048 .bf16) (j1 j4)
    (h1 : ∀ (r : Fin 256) (k : Fin 2048), x1 (ix2 r k) = D.P (256 * b + r) k)
    (h4 : ∀ (r : Fin 256) (k : Fin 2048), x4 (ix2 r k) = D.P (256 * b + r) (6144 + k)) (r : Fin 256) (c : Fin 512) :
    k0_pay1 (k0_pay85 (View.ld x4 (Rect.unit (s := S256x2048) ![0, 1536] ![256, 512] j4)) (View.ld x1 (Rect.unit (s := S256x2048) ![0, 1536] ![256, 512] j1)) (arr 256 512 fun r c => D.dY (256 * b + r) (1536 + c))) (ix2 r c)
      = D.dc (256 * b + r) (1536 + c) := by
  unfold_payloads
  pointwise [arr]
  simp only [h1, h4]
  rfl

section first

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S2048x1024 .bf16) (harg8 : arg8.IsWhole) (arg9 : Memref sig .tc .vmem S8x1024 .f32) (harg9 : arg9.IsWhole) (arg10 : Memref sig .tc .vmem S8x2048 .f32) (harg10 : arg10.IsWhole) (arg11 : Memref sig .tc .vmem S1x2048 .f32) (harg11 : arg11.IsWhole) (arg12 : Memref sig .tc .vmem S256x1024 .bf16) (harg12 : arg12.IsWhole) (arg13 : Memref sig .tc .vmem S256x8192 .bf16) (harg13 : arg13.IsWhole) (arg14 : Memref sig .tc .vmem S8x2048 .f32) (harg14 : arg14.IsWhole) (arg15 : Memref sig .tc .vmem S272x2048 .f32) (harg15 : arg15.IsWhole) (arg16 : Memref sig .tc .vmem S264x2048 .f32) (harg16 : arg16.IsWhole) (arg17 : Memref sig .tc .vmem S256x2048 .f32) (harg17 : arg17.IsWhole) (hc0 : cond0_0 i)
  (x0 : Vec Ideal S256x1024 .f32) (x1 : Vec Ideal S256x2048 .bf16) (x2 : Vec Ideal S256x2048 .bf16) (x3 : Vec Ideal S256x2048 .bf16) (x4 : Vec Ideal S256x2048 .bf16) (x5 : Vec Ideal S16x2048 .bf16) (x6 : Vec Ideal S16x2048 .bf16) (x7 : Vec Ideal S2048x1024 .bf16) (x8 : Vec Ideal S8x1024 .f32) (x9 : Vec Ideal S8x2048 .f32) (x10 : Vec Ideal S1x2048 .f32)
  (D : Inp) (b : Nat) (hb : (i 0).val + b = 15)
  (h0 : ∀ (r : Fin 256) (d : Fin 1024), x0 (ix2 r d) = D.X (256 * b + r) d)
  (h1 : ∀ (r : Fin 256) (k : Fin 2048), x1 (ix2 r k) = D.P (256 * b + r) k)
  (h2 : ∀ (r : Fin 256) (k : Fin 2048), x2 (ix2 r k) = D.P (256 * b + r) (2048 + k))
  (h3 : ∀ (r : Fin 256) (k : Fin 2048), x3 (ix2 r k) = D.P (256 * b + r) (4096 + k))
  (h4 : ∀ (r : Fin 256) (k : Fin 2048), x4 (ix2 r k) = D.P (256 * b + r) (6144 + k))
  (h56 : ∀ (r : Fin 16) (k : Fin 2048), 0 < b → x5 (ix2 r k) = D.P (256 * b - 16 + r) (2048 + k) ∧ x6 (ix2 r k) = D.P (256 * b - 16 + r) (4096 + k))
  (h7 : ∀ (r : Fin 2048) (d : Fin 1024), x7 (ix2 r d) = D.W r d)
  (h8 : ∀ d : Fin 1024, x8 (ix2 3 d) = D.G d)
  (h9 : ∀ (j : Fin 8) (k : Fin 2048), x9 (ix2 j k) = D.C j k)
  (h10 : ∀ k : Fin 2048, x10 (ix2 0 k) = D.B k)

include hb h0 h1 h2 h3 h4 h56 h7 h8 h9 h10

/-- What the first point stores of the scaled cotangent. -/
theorem out11_A (y : (⟨2, ![256, 1024]⟩ : Shape).Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 y = D.X (256 * b + (y 0).val) (y 1).val * (1 + D.G (y 1).val) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  refine canon_of_agrees (Val := Elt Ideal) (fun r c => D.X (256 * b + r) c * (1 + D.G c)) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  refine ag_cons (agrees_unit _ _ _ _ _ _ _ fun r c => ?_) ag_nil
  pointwise [k0_pay8]
  simp only [h0, h8]

/-- What the first point stores of it. -/
theorem out12_A (hb15 : b = 15) (y : (⟨2, ![256, 8192]⟩ : Shape).Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 y = D.proj (256 * b + (y 0).val) (y 1).val := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  refine canon_of_agrees (Val := Elt Ideal) (fun r c => D.proj (256 * b + r) c) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  have hi := (i 0).isLt
  have hb16 : b < 16 := by omega
  simp only [dy_read D arg17.view b _ _ _ _ (dy_pay D b x0 x7 x8 _ _ _ h0 h7 h8),
    ue_read D arg15.view b 14 _ (by omega) (by omega) _ _ _ _ _ (halo_pay D i b hb x5 x6 _ _ h56) (up_pay D b x2 x3 _ _ h2 h3),
    ue_read D arg15.view b 15 _ (by omega) (by omega) _ _ _ _ _ (halo_pay D i b hb x5 x6 _ _ h56) (up_pay D b x2 x3 _ _ h2 h3),
    ue_read D arg15.view b 16 _ (by omega) (by omega) _ _ _ _ _ (halo_pay D i b hb x5 x6 _ _ h56) (up_pay D b x2 x3 _ _ h2 h3)]
  have z := ag_cons (agrees_zero D b hb15 inb_S264x2048_S8x2048_256_0) ag_nil
  have a0 := agrees_dx D b 0 hb16 inb_S264x2048_S256x512_0_0 _ (dc_pay0 D b x1 x4 inb_S256x2048_S256x512_0_0 inb_S256x2048_S256x512_0_0 h1 h4)
  have l0 := ag_cons a0 z
  have a1 := agrees_dx D b 512 hb16 inb_S264x2048_S256x512_0_512 _ (dc_pay1 D b x1 x4 inb_S256x2048_S256x512_0_512 inb_S256x2048_S256x512_0_512 h1 h4)
  have l1 := ag_cons a1 l0
  have a2 := agrees_dx D b 1024 hb16 inb_S264x2048_S256x512_0_1024 _ (dc_pay2 D b x1 x4 inb_S256x2048_S256x512_0_1024 inb_S256x2048_S256x512_0_1024 h1 h4)
  have l2 := ag_cons a2 l1
  have a3 := agrees_dx D b 1536 hb16 inb_S264x2048_S256x512_0_1536 _ (dc_pay3 D b x1 x4 inb_S256x2048_S256x512_0_1536 inb_S256x2048_S256x512_0_1536 h1 h4)
  have l3 := ag_cons a3 l2
  simp only [dx_readCov D arg16.view b 1 0 (by omega) _ _ inb_S264x2048_S256x512_1_0 _ _ _ List.mem_cons_self l0,
    dx_readCov D arg16.view b 2 0 (by omega) _ _ inb_S264x2048_S256x512_2_0 _ _ _ List.mem_cons_self l0,
    dx_readCov D arg16.view b 1 512 (by omega) _ _ inb_S264x2048_S256x512_1_512 _ _ _ (List.mem_cons_of_mem _ List.mem_cons_self) l1,
    dx_readCov D arg16.view b 2 512 (by omega) _ _ inb_S264x2048_S256x512_2_512 _ _ _ (List.mem_cons_of_mem _ List.mem_cons_self) l1,
    dx_readCov D arg16.view b 1 1024 (by omega) _ _ inb_S264x2048_S256x512_1_1024 _ _ _ (List.mem_cons_of_mem _ (List.mem_cons_of_mem _ List.mem_cons_self)) l2,
    dx_readCov D arg16.view b 2 1024 (by omega) _ _ inb_S264x2048_S256x512_2_1024 _ _ _ (List.mem_cons_of_mem _ (List.mem_cons_of_mem _ List.mem_cons_self)) l2,
    dx_readCov D arg16.view b 1 1536 (by omega) _ _ inb_S264x2048_S256x512_1_1536 _ _ _ (List.mem_cons_of_mem _ (List.mem_cons_of_mem _ (List.mem_cons_of_mem _ List.mem_cons_self))) l3,
    dx_readCov D arg16.view b 2 1536 (by omega) _ _ inb_S264x2048_S256x512_2_1536 _ _ _ (List.mem_cons_of_mem _ (List.mem_cons_of_mem _ (List.mem_cons_of_mem _ List.mem_cons_self))) l3]
  refine ag_cons (agrees_du D b 1536 _ _ _ (by omega) rfl fun r c => ?_) ?_
  · unfold_payloads
    pointwise [arr]
    simp only [h1, h2, h3, h4, h9, h10]
    rfl
  refine ag_cons (agrees_dgc D b 1536 _ _ _ (by omega) rfl fun r c => ?_) ?_
  · unfold_payloads
    pointwise [arr]
    simp only [h1, h2, h3, h4, h9, h10]
    rfl
  refine ag_cons (agrees_dgate D b 1536 _ _ _ rfl fun r c => ?_) ?_
  · unfold_payloads
    pointwise [arr]
    simp only [h1, h2, h3, h4, h9, h10]
    rfl
  refine ag_cons (agrees_dgb D b 1536 _ _ (by omega) fun r c => ?_) ?_
  · unfold_payloads
    pointwise [arr]
    simp only [h1, h2, h3, h4, h9, h10]
    rfl
  refine ag_cons (agrees_du D b 1024 _ _ _ (by omega) rfl fun r c => ?_) ?_
  · unfold_payloads
    pointwise [arr]
    simp only [h1, h2, h3, h4, h9, h10]
    rfl
  refine ag_cons (agrees_dgc D b 1024 _ _ _ (by omega) rfl fun r c => ?_) ?_
  · unfold_payloads
    pointwise [arr]
    simp only [h1, h2, h3, h4, h9, h10]
    rfl
  refine ag_cons (agrees_dgate D b 1024 _ _ _ rfl fun r c => ?_) ?_
  · unfold_payloads
    pointwise [arr]
    simp only [h1, h2, h3, h4, h9, h10]
    rfl
  refine ag_cons (agrees_dgb D b 1024 _ _ (by omega) fun r c => ?_) ?_
  · unfold_payloads
    pointwise [arr]
    simp only [h1, h2, h3, h4, h9, h10]
    rfl
  refine ag_cons (agrees_du D b 512 _ _ _ (by omega) rfl fun r c => ?_) ?_
  · unfold_payloads
    pointwise [arr]
    simp only [h1, h2, h3, h4, h9, h10]
    rfl
  refine ag_cons (agrees_dgc D b 512 _ _ _ (by omega) rfl fun r c => ?_) ?_
  · unfold_payloads
    pointwise [arr]
    simp only [h1, h2, h3, h4, h9, h10]
    rfl
  refine ag_cons (agrees_dgate D b 512 _ _ _ rfl fun r c => ?_) ?_
  · unfold_payloads
    pointwise [arr]
    simp only [h1, h2, h3, h4, h9, h10]
    rfl
  refine ag_cons (agrees_dgb D b 512 _ _ (by omega) fun r c => ?_) ?_
  · unfold_payloads
    pointwise [arr]
    simp only [h1, h2, h3, h4, h9, h10]
    rfl
  refine ag_cons (agrees_du D b 0 _ _ _ (by omega) rfl fun r c => ?_) ?_
  · unfold_payloads
    pointwise [arr]
    simp only [h1, h2, h3, h4, h9, h10]
    rfl
  refine ag_cons (agrees_dgc D b 0 _ _ _ (by omega) rfl fun r c => ?_) ?_
  · unfold_payloads
    pointwise [arr]
    simp only [h1, h2, h3, h4, h9, h10]
    rfl
  refine ag_cons (agrees_dgate D b 0 _ _ _ rfl fun r c => ?_) ?_
  · unfold_payloads
    pointwise [arr]
    simp only [h1, h2, h3, h4, h9, h10]
    rfl
  refine ag_cons (agrees_dgb D b 0 _ _ (by omega) fun r c => ?_) ?_
  · unfold_payloads
    pointwise [arr]
    simp only [h1, h2, h3, h4, h9, h10]
    rfl
  exact ag_nil

set_option maxHeartbeats 1000000 in
/-- What the first point carries. -/
theorem sout_A (hb15 : b = 15) (y : (⟨2, ![264, 2048]⟩ : Shape).Idx) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 y = carry D b (y 0).val (y 1).val := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  have hi := (i 0).isLt
  have hb16 : b < 16 := by omega
  simp only [dy_read D arg17.view b _ _ _ _ (dy_pay D b x0 x7 x8 _ _ _ h0 h7 h8),
    ue_read D arg15.view b 14 _ (by omega) (by omega) _ _ _ _ _ (halo_pay D i b hb x5 x6 _ _ h56) (up_pay D b x2 x3 _ _ h2 h3),
    ue_read D arg15.view b 15 _ (by omega) (by omega) _ _ _ _ _ (halo_pay D i b hb x5 x6 _ _ h56) (up_pay D b x2 x3 _ _ h2 h3),
    ue_read D arg15.view b 16 _ (by omega) (by omega) _ _ _ _ _ (halo_pay D i b hb x5 x6 _ _ h56) (up_pay D b x2 x3 _ _ h2 h3)]
  have z := ag_cons (agrees_zero D b hb15 inb_S264x2048_S8x2048_256_0) ag_nil
  have a0 := agrees_dx D b 0 hb16 inb_S264x2048_S256x512_0_0 _ (dc_pay0 D b x1 x4 inb_S256x2048_S256x512_0_0 inb_S256x2048_S256x512_0_0 h1 h4)
  have l0 := ag_cons a0 z
  have a1 := agrees_dx D b 512 hb16 inb_S264x2048_S256x512_0_512 _ (dc_pay1 D b x1 x4 inb_S256x2048_S256x512_0_512 inb_S256x2048_S256x512_0_512 h1 h4)
  have l1 := ag_cons a1 l0
  have a2 := agrees_dx D b 1024 hb16 inb_S264x2048_S256x512_0_1024 _ (dc_pay2 D b x1 x4 inb_S256x2048_S256x512_0_1024 inb_S256x2048_S256x512_0_1024 h1 h4)
  have l2 := ag_cons a2 l1
  have a3 := agrees_dx D b 1536 hb16 inb_S264x2048_S256x512_0_1536 _ (dc_pay3 D b x1 x4 inb_S256x2048_S256x512_0_1536 inb_S256x2048_S256x512_0_1536 h1 h4)
  have l3 := ag_cons a3 l2
  simp only [dx_top D arg16.view b _ _ _ _ _ _ _ _ _ _ l3]
  show View.canon ([_, _, _, _, _] ++ [_]) y = _
  refine canon_base (Val := Elt Ideal) (e := .f32) (carry D b) _ y _ ?_ fun hn => ?_
  rotate_left
  · exfalso
    have y0 : (y 0).val < 264 := (y 0).isLt
    have y1 : (y 1).val < 2048 := (y 1).isLt
    simp only [List.forall_mem_cons, mem_unit] at hn
    obtain ⟨n0, n1, n2, n3, n4, _⟩ := hn
    by_cases e : 256 ≤ (y 0).val
    · exact n0 ⟨⟨e, by omega⟩, by omega, by omega⟩
    by_cases e3 : 1536 ≤ (y 1).val
    · exact n1 ⟨⟨by omega, by omega⟩, e3, by omega⟩
    by_cases e2 : 1024 ≤ (y 1).val
    · exact n2 ⟨⟨by omega, by omega⟩, e2, by omega⟩
    by_cases e1 : 512 ≤ (y 1).val
    · exact n3 ⟨⟨by omega, by omega⟩, e1, by omega⟩
    exact n4 ⟨⟨by omega, by omega⟩, by omega, by omega⟩
  refine ag_cons (agrees_top D b _) ?_
  refine ag_cons (agrees_carry D b 1536 _ _ a3) (ag_cons (agrees_carry D b 1024 _ _ a2) (ag_cons (agrees_carry D b 512 _ _ a1) (ag_cons (agrees_carry D b 0 _ _ a0) ?_)))
  exact ag_nil

/-- What the first point leaves in the accumulator. -/
theorem out13_A (Z : Nat → Nat → EReal) (hz : Z = fun _ _ => 0) (y : (⟨2, ![8, 2048]⟩ : Shape).Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 y = Z (y 0).val (y 1).val + accb D b (y 0).val (y 1).val := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  subst hz
  simp (disch := omega) only [↓readCov_miss (m := 8) (n := 2048), ↓readCov_whole (m := 8) (n := 2048)]
  have hi := (i 0).isLt
  have hb16 : b < 16 := by omega
  simp only [dy_read D arg17.view b _ _ _ _ (dy_pay D b x0 x7 x8 _ _ _ h0 h7 h8),
    ue_read D arg15.view b 14 _ (by omega) (by omega) _ _ _ _ _ (halo_pay D i b hb x5 x6 _ _ h56) (up_pay D b x2 x3 _ _ h2 h3),
    ue_read D arg15.view b 15 _ (by omega) (by omega) _ _ _ _ _ (halo_pay D i b hb x5 x6 _ _ h56) (up_pay D b x2 x3 _ _ h2 h3),
    ue_read D arg15.view b 16 _ (by omega) (by omega) _ _ _ _ _ (halo_pay D i b hb x5 x6 _ _ h56) (up_pay D b x2 x3 _ _ h2 h3)]
  show View.canon ([_, _, _, _, _, _, _, _, _, _, _, _, _, _, _, _] ++ [_]) y = _
  refine canon_base (Val := Elt Ideal) (e := .f32) (fun r c => (fun _ _ => 0 : Nat → Nat → EReal) r c + accb D b r c) _ y _ ?_ fun hn => ?_
  rotate_left
  · have y0 : (y 0).val < 8 := (y 0).isLt
    have y1 : (y 1).val < 2048 := (y 1).isLt
    simp only [List.forall_mem_cons, mem_unit] at hn
    obtain ⟨n1536_3, n1536_2, n1536_1, n1536_0, n1024_3, n1024_2, n1024_1, n1024_0, n512_3, n512_2, n512_1, n512_0, n0_3, n0_2, n0_1, n0_0, _⟩ := hn
    have e : 4 ≤ (y 0).val := by
      by_contra e
      by_cases f3 : (y 0).val = 3
      · by_cases g1536 : 1536 ≤ (y 1).val
        · exact n1536_3 ⟨⟨by omega, by omega⟩, by omega, by omega⟩
        by_cases g1024 : 1024 ≤ (y 1).val
        · exact n1024_3 ⟨⟨by omega, by omega⟩, by omega, by omega⟩
        by_cases g512 : 512 ≤ (y 1).val
        · exact n512_3 ⟨⟨by omega, by omega⟩, by omega, by omega⟩
        exact n0_3 ⟨⟨by omega, by omega⟩, by omega, by omega⟩
      by_cases f2 : (y 0).val = 2
      · by_cases g1536 : 1536 ≤ (y 1).val
        · exact n1536_2 ⟨⟨by omega, by omega⟩, by omega, by omega⟩
        by_cases g1024 : 1024 ≤ (y 1).val
        · exact n1024_2 ⟨⟨by omega, by omega⟩, by omega, by omega⟩
        by_cases g512 : 512 ≤ (y 1).val
        · exact n512_2 ⟨⟨by omega, by omega⟩, by omega, by omega⟩
        exact n0_2 ⟨⟨by omega, by omega⟩, by omega, by omega⟩
      by_cases f1 : (y 0).val = 1
      · by_cases g1536 : 1536 ≤ (y 1).val
        · exact n1536_1 ⟨⟨by omega, by omega⟩, by omega, by omega⟩
        by_cases g1024 : 1024 ≤ (y 1).val
        · exact n1024_1 ⟨⟨by omega, by omega⟩, by omega, by omega⟩
        by_cases g512 : 512 ≤ (y 1).val
        · exact n512_1 ⟨⟨by omega, by omega⟩, by omega, by omega⟩
        exact n0_1 ⟨⟨by omega, by omega⟩, by omega, by omega⟩
      by_cases g1536 : 1536 ≤ (y 1).val
      · exact n1536_0 ⟨⟨by omega, by omega⟩, by omega, by omega⟩
      by_cases g1024 : 1024 ≤ (y 1).val
      · exact n1024_0 ⟨⟨by omega, by omega⟩, by omega, by omega⟩
      by_cases g512 : 512 ≤ (y 1).val
      · exact n512_0 ⟨⟨by omega, by omega⟩, by omega, by omega⟩
      exact n0_0 ⟨⟨by omega, by omega⟩, by omega, by omega⟩
    have e' : accb D b (y 0).val (y 1).val = 0 := by
      unfold accb
      rw [if_neg (by omega), if_neg (by omega)]
    rw [e']
    refine (canon_of_agrees (Val := Elt Ideal) (fun _ _ => (0 : EReal)) _ (ag_cons (agrees_unit _ _ _ _ _ _ _ fun r c => ?_) ag_nil) y ⟨_, List.mem_cons_self, ?_⟩).trans (by simp)
    · pointwise [k0_pay6]
    · rw [mem_unit]; omega
  refine ag_cons (agrees_acc3 D (fun _ _ => 0) b 1536 _ _ fun r c => ?_) ?_
  · unfold_payloads
    pointwise [arr]
    simp only [h1, h4]
    rfl
  refine ag_cons (agrees_acc D (fun _ _ => 0) b 2 _ 1536 rfl (by omega) _ _ fun r c => ?_) ?_
  · unfold_payloads
    pointwise [arr]
    simp only [h1, h4]
    rfl
  refine ag_cons (agrees_acc D (fun _ _ => 0) b 1 _ 1536 rfl (by omega) _ _ fun r c => ?_) ?_
  · unfold_payloads
    pointwise [arr]
    simp only [h1, h4]
    rfl
  refine ag_cons (agrees_acc D (fun _ _ => 0) b 0 _ 1536 rfl (by omega) _ _ fun r c => ?_) ?_
  · unfold_payloads
    pointwise [arr]
    simp only [h1, h4]
    rfl
  refine ag_cons (agrees_acc3 D (fun _ _ => 0) b 1024 _ _ fun r c => ?_) ?_
  · unfold_payloads
    pointwise [arr]
    simp only [h1, h4]
    rfl
  refine ag_cons (agrees_acc D (fun _ _ => 0) b 2 _ 1024 rfl (by omega) _ _ fun r c => ?_) ?_
  · unfold_payloads
    pointwise [arr]
    simp only [h1, h4]
    rfl
  refine ag_cons (agrees_acc D (fun _ _ => 0) b 1 _ 1024 rfl (by omega) _ _ fun r c => ?_) ?_
  · unfold_payloads
    pointwise [arr]
    simp only [h1, h4]
    rfl
  refine ag_cons (agrees_acc D (fun _ _ => 0) b 0 _ 1024 rfl (by omega) _ _ fun r c => ?_) ?_
  · unfold_payloads
    pointwise [arr]
    simp only [h1, h4]
    rfl
  refine ag_cons (agrees_acc3 D (fun _ _ => 0) b 512 _ _ fun r c => ?_) ?_
  · unfold_payloads
    pointwise [arr]
    simp only [h1, h4]
    rfl
  refine ag_cons (agrees_acc D (fun _ _ => 0) b 2 _ 512 rfl (by omega) _ _ fun r c => ?_) ?_
  · unfold_payloads
    pointwise [arr]
    simp only [h1, h4]
    rfl
  refine ag_cons (agrees_acc D (fun _ _ => 0) b 1 _ 512 rfl (by omega) _ _ fun r c => ?_) ?_
  · unfold_payloads
    pointwise [arr]
    simp only [h1, h4]
    rfl
  refine ag_cons (agrees_acc D (fun _ _ => 0) b 0 _ 512 rfl (by omega) _ _ fun r c => ?_) ?_
  · unfold_payloads
    pointwise [arr]
    simp only [h1, h4]
    rfl
  refine ag_cons (agrees_acc3 D (fun _ _ => 0) b 0 _ _ fun r c => ?_) ?_
  · unfold_payloads
    pointwise [arr]
    simp only [h1, h4]
    rfl
  refine ag_cons (agrees_acc D (fun _ _ => 0) b 2 _ 0 rfl (by omega) _ _ fun r c => ?_) ?_
  · unfold_payloads
    pointwise [arr]
    simp only [h1, h4]
    rfl
  refine ag_cons (agrees_acc D (fun _ _ => 0) b 1 _ 0 rfl (by omega) _ _ fun r c => ?_) ?_
  · unfold_payloads
    pointwise [arr]
    simp only [h1, h4]
    rfl
  refine ag_cons (agrees_acc D (fun _ _ => 0) b 0 _ 0 rfl (by omega) _ _ fun r c => ?_) ?_
  · unfold_payloads
    pointwise [arr]
    simp only [h1, h4]
    rfl
  exact ag_nil

end first

section later

variable (c : Dev nD) (i : grid0.Coords) (arg1 : Memref sig .tc .vmem S256x1024 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S16x2048 .bf16) (harg6 : arg6.IsWhole) (arg7 : Memref sig .tc .vmem S16x2048 .bf16) (harg7 : arg7.IsWhole) (arg8 : Memref sig .tc .vmem S2048x1024 .bf16) (harg8 : arg8.IsWhole) (arg9 : Memref sig .tc .vmem S8x1024 .f32) (harg9 : arg9.IsWhole) (arg10 : Memref sig .tc .vmem S8x2048 .f32) (harg10 : arg10.IsWhole) (arg11 : Memref sig .tc .vmem S1x2048 .f32) (harg11 : arg11.IsWhole) (arg12 : Memref sig .tc .vmem S256x1024 .bf16) (harg12 : arg12.IsWhole) (arg13 : Memref sig .tc .vmem S256x8192 .bf16) (harg13 : arg13.IsWhole) (arg14 : Memref sig .tc .vmem S8x2048 .f32) (harg14 : arg14.IsWhole) (arg15 : Memref sig .tc .vmem S272x2048 .f32) (harg15 : arg15.IsWhole) (arg16 : Memref sig .tc .vmem S264x2048 .f32) (harg16 : arg16.IsWhole) (arg17 : Memref sig .tc .vmem S256x2048 .f32) (harg17 : arg17.IsWhole) (hc0 : ¬cond0_0 i)
  (x0 : Vec Ideal S256x1024 .f32) (x1 : Vec Ideal S256x2048 .bf16) (x2 : Vec Ideal S256x2048 .bf16) (x3 : Vec Ideal S256x2048 .bf16) (x4 : Vec Ideal S256x2048 .bf16) (x5 : Vec Ideal S16x2048 .bf16) (x6 : Vec Ideal S16x2048 .bf16) (x7 : Vec Ideal S2048x1024 .bf16) (x8 : Vec Ideal S8x1024 .f32) (x9 : Vec Ideal S8x2048 .f32) (x10 : Vec Ideal S1x2048 .f32) (xo13 : Vec Ideal S8x2048 .f32) (xs1 : Vec Ideal S264x2048 .f32)
  (D : Inp) (b : Nat) (hb : (i 0).val + b = 15)
  (h0 : ∀ (r : Fin 256) (d : Fin 1024), x0 (ix2 r d) = D.X (256 * b + r) d)
  (h1 : ∀ (r : Fin 256) (k : Fin 2048), x1 (ix2 r k) = D.P (256 * b + r) k)
  (h2 : ∀ (r : Fin 256) (k : Fin 2048), x2 (ix2 r k) = D.P (256 * b + r) (2048 + k))
  (h3 : ∀ (r : Fin 256) (k : Fin 2048), x3 (ix2 r k) = D.P (256 * b + r) (4096 + k))
  (h4 : ∀ (r : Fin 256) (k : Fin 2048), x4 (ix2 r k) = D.P (256 * b + r) (6144 + k))
  (h56 : ∀ (r : Fin 16) (k : Fin 2048), 0 < b → x5 (ix2 r k) = D.P (256 * b - 16 + r) (2048 + k) ∧ x6 (ix2 r k) = D.P (256 * b - 16 + r) (4096 + k))
  (h7 : ∀ (r : Fin 2048) (d : Fin 1024), x7 (ix2 r d) = D.W r d)
  (h8 : ∀ d : Fin 1024, x8 (ix2 3 d) = D.G d)
  (h9 : ∀ (j : Fin 8) (k : Fin 2048), x9 (ix2 j k) = D.C j k)
  (h10 : ∀ k : Fin 2048, x10 (ix2 0 k) = D.B k)

include hb h0 h1 h2 h3 h4 h56 h7 h8 h9 h10

/-- What a point stores of the scaled cotangent. -/
theorem out11_B (y : (⟨2, ![256, 1024]⟩ : Shape).Idx) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1 y = D.X (256 * b + (y 0).val) (y 1).val * (1 + D.G (y 1).val) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1)]
  refine canon_of_agrees (Val := Elt Ideal) (fun r c => D.X (256 * b + r) c * (1 + D.G c)) _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  refine ag_cons (agrees_unit _ _ _ _ _ _ _ fun r c => ?_) ag_nil
  pointwise [k0_pay8]
  simp only [h0, h8]

/-- What a later point stores of the projection's cotangent. -/
theorem out12_B (hs : ∀ (r : Fin 264) (k : Fin 2048), 256 ≤ r.val → xs1 (ix2 r k) = D.dx (256 * b + r) k) (y : (⟨2, ![256, 8192]⟩ : Shape).Idx) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1 y = D.proj (256 * b + (y 0).val) (y 1).val := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1)]
  refine canon_of_agrees (Val := Elt Ideal) (fun r c => D.proj (256 * b + r) c) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  have hi := (i 0).isLt
  have hb16 : b < 16 := by omega
  simp only [dy_read D arg17.view b _ _ _ _ (dy_pay D b x0 x7 x8 _ _ _ h0 h7 h8),
    ue_read D arg15.view b 14 _ (by omega) (by omega) _ _ _ _ _ (halo_pay D i b hb x5 x6 _ _ h56) (up_pay D b x2 x3 _ _ h2 h3),
    ue_read D arg15.view b 15 _ (by omega) (by omega) _ _ _ _ _ (halo_pay D i b hb x5 x6 _ _ h56) (up_pay D b x2 x3 _ _ h2 h3),
    ue_read D arg15.view b 16 _ (by omega) (by omega) _ _ _ _ _ (halo_pay D i b hb x5 x6 _ _ h56) (up_pay D b x2 x3 _ _ h2 h3)]
  have hs' : ∀ (r : Fin 264) (k : Fin 2048), 256 ≤ r.val → arg16.view.read (Elt Ideal) (harg16.unread xs1) (ix2 r k) = D.dx (256 * b + r) k := by
    rw [harg16.read_unread]; exact hs
  have a0 := agrees_dx D b 0 hb16 inb_S264x2048_S256x512_0_0 _ (dc_pay0 D b x1 x4 inb_S256x2048_S256x512_0_0 inb_S256x2048_S256x512_0_0 h1 h4)
  have l0 := ag_cons a0 ag_nil
  have a1 := agrees_dx D b 512 hb16 inb_S264x2048_S256x512_0_512 _ (dc_pay1 D b x1 x4 inb_S256x2048_S256x512_0_512 inb_S256x2048_S256x512_0_512 h1 h4)
  have l1 := ag_cons a1 l0
  have a2 := agrees_dx D b 1024 hb16 inb_S264x2048_S256x512_0_1024 _ (dc_pay2 D b x1 x4 inb_S256x2048_S256x512_0_1024 inb_S256x2048_S256x512_0_1024 h1 h4)
  have l2 := ag_cons a2 l1
  have a3 := agrees_dx D b 1536 hb16 inb_S264x2048_S256x512_0_1536 _ (dc_pay3 D b x1 x4 inb_S256x2048_S256x512_0_1536 inb_S256x2048_S256x512_0_1536 h1 h4)
  have l3 := ag_cons a3 l2
  simp only [dx_ld D arg16.view (harg16.unread xs1) b 1 0 (by omega) _ inb_S264x2048_S256x512_1_0 _ _ hs' l0,
    dx_ld D arg16.view (harg16.unread xs1) b 2 0 (by omega) _ inb_S264x2048_S256x512_2_0 _ _ hs' l0,
    dx_ld D arg16.view (harg16.unread xs1) b 1 512 (by omega) _ inb_S264x2048_S256x512_1_512 _ _ hs' l1,
    dx_ld D arg16.view (harg16.unread xs1) b 2 512 (by omega) _ inb_S264x2048_S256x512_2_512 _ _ hs' l1,
    dx_ld D arg16.view (harg16.unread xs1) b 1 1024 (by omega) _ inb_S264x2048_S256x512_1_1024 _ _ hs' l2,
    dx_ld D arg16.view (harg16.unread xs1) b 2 1024 (by omega) _ inb_S264x2048_S256x512_2_1024 _ _ hs' l2,
    dx_ld D arg16.view (harg16.unread xs1) b 1 1536 (by omega) _ inb_S264x2048_S256x512_1_1536 _ _ hs' l3,
    dx_ld D arg16.view (harg16.unread xs1) b 2 1536 (by omega) _ inb_S264x2048_S256x512_2_1536 _ _ hs' l3]
  refine ag_cons (agrees_du D b 1536 _ _ _ (by omega) rfl fun r c => ?_) ?_
  · unfold_payloads
    pointwise [arr]
    simp only [h1, h2, h3, h4, h9, h10]
    rfl
  refine ag_cons (agrees_dgc D b 1536 _ _ _ (by omega) rfl fun r c => ?_) ?_
  · unfold_payloads
    pointwise [arr]
    simp only [h1, h2, h3, h4, h9, h10]
    rfl
  refine ag_cons (agrees_dgate D b 1536 _ _ _ rfl fun r c => ?_) ?_
  · unfold_payloads
    pointwise [arr]
    simp only [h1, h2, h3, h4, h9, h10]
    rfl
  refine ag_cons (agrees_dgb D b 1536 _ _ (by omega) fun r c => ?_) ?_
  · unfold_payloads
    pointwise [arr]
    simp only [h1, h2, h3, h4, h9, h10]
    rfl
  refine ag_cons (agrees_du D b 1024 _ _ _ (by omega) rfl fun r c => ?_) ?_
  · unfold_payloads
    pointwise [arr]
    simp only [h1, h2, h3, h4, h9, h10]
    rfl
  refine ag_cons (agrees_dgc D b 1024 _ _ _ (by omega) rfl fun r c => ?_) ?_
  · unfold_payloads
    pointwise [arr]
    simp only [h1, h2, h3, h4, h9, h10]
    rfl
  refine ag_cons (agrees_dgate D b 1024 _ _ _ rfl fun r c => ?_) ?_
  · unfold_payloads
    pointwise [arr]
    simp only [h1, h2, h3, h4, h9, h10]
    rfl
  refine ag_cons (agrees_dgb D b 1024 _ _ (by omega) fun r c => ?_) ?_
  · unfold_payloads
    pointwise [arr]
    simp only [h1, h2, h3, h4, h9, h10]
    rfl
  refine ag_cons (agrees_du D b 512 _ _ _ (by omega) rfl fun r c => ?_) ?_
  · unfold_payloads
    pointwise [arr]
    simp only [h1, h2, h3, h4, h9, h10]
    rfl
  refine ag_cons (agrees_dgc D b 512 _ _ _ (by omega) rfl fun r c => ?_) ?_
  · unfold_payloads
    pointwise [arr]
    simp only [h1, h2, h3, h4, h9, h10]
    rfl
  refine ag_cons (agrees_dgate D b 512 _ _ _ rfl fun r c => ?_) ?_
  · unfold_payloads
    pointwise [arr]
    simp only [h1, h2, h3, h4, h9, h10]
    rfl
  refine ag_cons (agrees_dgb D b 512 _ _ (by omega) fun r c => ?_) ?_
  · unfold_payloads
    pointwise [arr]
    simp only [h1, h2, h3, h4, h9, h10]
    rfl
  refine ag_cons (agrees_du D b 0 _ _ _ (by omega) rfl fun r c => ?_) ?_
  · unfold_payloads
    pointwise [arr]
    simp only [h1, h2, h3, h4, h9, h10]
    rfl
  refine ag_cons (agrees_dgc D b 0 _ _ _ (by omega) rfl fun r c => ?_) ?_
  · unfold_payloads
    pointwise [arr]
    simp only [h1, h2, h3, h4, h9, h10]
    rfl
  refine ag_cons (agrees_dgate D b 0 _ _ _ rfl fun r c => ?_) ?_
  · unfold_payloads
    pointwise [arr]
    simp only [h1, h2, h3, h4, h9, h10]
    rfl
  refine ag_cons (agrees_dgb D b 0 _ _ (by omega) fun r c => ?_) ?_
  · unfold_payloads
    pointwise [arr]
    simp only [h1, h2, h3, h4, h9, h10]
    rfl
  exact ag_nil

/-- What a later point carries. -/
theorem sout_B (hs : ∀ (r : Fin 264) (k : Fin 2048), 256 ≤ r.val → xs1 (ix2 r k) = D.dx (256 * b + r) k) (y : (⟨2, ![264, 2048]⟩ : Shape).Idx) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1 y = carry D b (y 0).val (y 1).val := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1)]
  refine canon_of_agrees (Val := Elt Ideal) (carry D b) _ ?_ y (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  have hi := (i 0).isLt
  have hb16 : b < 16 := by omega
  simp only [dy_read D arg17.view b _ _ _ _ (dy_pay D b x0 x7 x8 _ _ _ h0 h7 h8),
    ue_read D arg15.view b 14 _ (by omega) (by omega) _ _ _ _ _ (halo_pay D i b hb x5 x6 _ _ h56) (up_pay D b x2 x3 _ _ h2 h3),
    ue_read D arg15.view b 15 _ (by omega) (by omega) _ _ _ _ _ (halo_pay D i b hb x5 x6 _ _ h56) (up_pay D b x2 x3 _ _ h2 h3),
    ue_read D arg15.view b 16 _ (by omega) (by omega) _ _ _ _ _ (halo_pay D i b hb x5 x6 _ _ h56) (up_pay D b x2 x3 _ _ h2 h3)]
  have a0 := agrees_dx D b 0 hb16 inb_S264x2048_S256x512_0_0 _ (dc_pay0 D b x1 x4 inb_S256x2048_S256x512_0_0 inb_S256x2048_S256x512_0_0 h1 h4)
  have l0 := ag_cons a0 ag_nil
  have a1 := agrees_dx D b 512 hb16 inb_S264x2048_S256x512_0_512 _ (dc_pay1 D b x1 x4 inb_S256x2048_S256x512_0_512 inb_S256x2048_S256x512_0_512 h1 h4)
  have l1 := ag_cons a1 l0
  have a2 := agrees_dx D b 1024 hb16 inb_S264x2048_S256x512_0_1024 _ (dc_pay2 D b x1 x4 inb_S256x2048_S256x512_0_1024 inb_S256x2048_S256x512_0_1024 h1 h4)
  have l2 := ag_cons a2 l1
  have a3 := agrees_dx D b 1536 hb16 inb_S264x2048_S256x512_0_1536 _ (dc_pay3 D b x1 x4 inb_S256x2048_S256x512_0_1536 inb_S256x2048_S256x512_0_1536 h1 h4)
  have l3 := ag_cons a3 l2
  simp only [dx_top D arg16.view b _ _ _ _ _ _ _ _ _ _ l3]
  refine ag_cons (agrees_top D b _) ?_
  refine ag_cons (agrees_carry D b 1536 _ _ a3) (ag_cons (agrees_carry D b 1024 _ _ a2) (ag_cons (agrees_carry D b 512 _ _ a1) (ag_cons (agrees_carry D b 0 _ _ a0) ?_)))
  exact ag_nil

/-- What a later point leaves in the accumulator. -/
theorem out13_B (Z : Nat → Nat → EReal) (hz : ∀ (j : Fin 8) (k : Fin 2048), xo13 (ix2 j k) = Z j k) (y : (⟨2, ![8, 2048]⟩ : Shape).Idx) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 xo13 xs1 y = Z (y 0).val (y 1).val + accb D b (y 0).val (y 1).val := by
  unfold out0_B_13
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  have hi := (i 0).isLt
  have hb16 : b < 16 := by omega
  simp only [dy_read D arg17.view b _ _ _ _ (dy_pay D b x0 x7 x8 _ _ _ h0 h7 h8),
    ue_read D arg15.view b 14 _ (by omega) (by omega) _ _ _ _ _ (halo_pay D i b hb x5 x6 _ _ h56) (up_pay D b x2 x3 _ _ h2 h3),
    ue_read D arg15.view b 15 _ (by omega) (by omega) _ _ _ _ _ (halo_pay D i b hb x5 x6 _ _ h56) (up_pay D b x2 x3 _ _ h2 h3),
    ue_read D arg15.view b 16 _ (by omega) (by omega) _ _ _ _ _ (halo_pay D i b hb x5 x6 _ _ h56) (up_pay D b x2 x3 _ _ h2 h3)]
  refine writes_of_agrees (Val := Elt Ideal) (e := .f32) _ _ (fun r c => Z r c + accb D b r c) _ ?_ y fun hn => ?_
  rotate_left
  · rw [harg14.read_unread]
    have y0 : (y 0).val < 8 := (y 0).isLt
    have y1 : (y 1).val < 2048 := (y 1).isLt
    simp only [List.forall_mem_cons, mem_unit] at hn
    obtain ⟨n1536_3, n1536_2, n1536_1, n1536_0, n1024_3, n1024_2, n1024_1, n1024_0, n512_3, n512_2, n512_1, n512_0, n0_3, n0_2, n0_1, n0_0, _⟩ := hn
    have e : 4 ≤ (y 0).val := by
      by_contra e
      by_cases f3 : (y 0).val = 3
      · by_cases g1536 : 1536 ≤ (y 1).val
        · exact n1536_3 ⟨⟨by omega, by omega⟩, by omega, by omega⟩
        by_cases g1024 : 1024 ≤ (y 1).val
        · exact n1024_3 ⟨⟨by omega, by omega⟩, by omega, by omega⟩
        by_cases g512 : 512 ≤ (y 1).val
        · exact n512_3 ⟨⟨by omega, by omega⟩, by omega, by omega⟩
        exact n0_3 ⟨⟨by omega, by omega⟩, by omega, by omega⟩
      by_cases f2 : (y 0).val = 2
      · by_cases g1536 : 1536 ≤ (y 1).val
        · exact n1536_2 ⟨⟨by omega, by omega⟩, by omega, by omega⟩
        by_cases g1024 : 1024 ≤ (y 1).val
        · exact n1024_2 ⟨⟨by omega, by omega⟩, by omega, by omega⟩
        by_cases g512 : 512 ≤ (y 1).val
        · exact n512_2 ⟨⟨by omega, by omega⟩, by omega, by omega⟩
        exact n0_2 ⟨⟨by omega, by omega⟩, by omega, by omega⟩
      by_cases f1 : (y 0).val = 1
      · by_cases g1536 : 1536 ≤ (y 1).val
        · exact n1536_1 ⟨⟨by omega, by omega⟩, by omega, by omega⟩
        by_cases g1024 : 1024 ≤ (y 1).val
        · exact n1024_1 ⟨⟨by omega, by omega⟩, by omega, by omega⟩
        by_cases g512 : 512 ≤ (y 1).val
        · exact n512_1 ⟨⟨by omega, by omega⟩, by omega, by omega⟩
        exact n0_1 ⟨⟨by omega, by omega⟩, by omega, by omega⟩
      by_cases g1536 : 1536 ≤ (y 1).val
      · exact n1536_0 ⟨⟨by omega, by omega⟩, by omega, by omega⟩
      by_cases g1024 : 1024 ≤ (y 1).val
      · exact n1024_0 ⟨⟨by omega, by omega⟩, by omega, by omega⟩
      by_cases g512 : 512 ≤ (y 1).val
      · exact n512_0 ⟨⟨by omega, by omega⟩, by omega, by omega⟩
      exact n0_0 ⟨⟨by omega, by omega⟩, by omega, by omega⟩
    have e' : accb D b (y 0).val (y 1).val = 0 := by
      unfold accb
      rw [if_neg (by omega), if_neg (by omega)]
    have := hz (y 0) (y 1)
    rw [ix2_eta] at this
    rw [e', this, add_zero]
  refine ag_cons (agrees_acc3 D Z b 1536 _ _ fun r c => ?_) ?_
  · unfold_payloads
    pointwise [arr]
    simp only [h1, h4, hz]
    rfl
  refine ag_cons (agrees_acc D Z b 2 _ 1536 rfl (by omega) _ _ fun r c => ?_) ?_
  · unfold_payloads
    pointwise [arr]
    simp only [h1, h4, hz]
    rfl
  refine ag_cons (agrees_acc D Z b 1 _ 1536 rfl (by omega) _ _ fun r c => ?_) ?_
  · unfold_payloads
    pointwise [arr]
    simp only [h1, h4, hz]
    rfl
  refine ag_cons (agrees_acc D Z b 0 _ 1536 rfl (by omega) _ _ fun r c => ?_) ?_
  · unfold_payloads
    pointwise [arr]
    simp only [h1, h4, hz]
    rfl
  refine ag_cons (agrees_acc3 D Z b 1024 _ _ fun r c => ?_) ?_
  · unfold_payloads
    pointwise [arr]
    simp only [h1, h4, hz]
    rfl
  refine ag_cons (agrees_acc D Z b 2 _ 1024 rfl (by omega) _ _ fun r c => ?_) ?_
  · unfold_payloads
    pointwise [arr]
    simp only [h1, h4, hz]
    rfl
  refine ag_cons (agrees_acc D Z b 1 _ 1024 rfl (by omega) _ _ fun r c => ?_) ?_
  · unfold_payloads
    pointwise [arr]
    simp only [h1, h4, hz]
    rfl
  refine ag_cons (agrees_acc D Z b 0 _ 1024 rfl (by omega) _ _ fun r c => ?_) ?_
  · unfold_payloads
    pointwise [arr]
    simp only [h1, h4, hz]
    rfl
  refine ag_cons (agrees_acc3 D Z b 512 _ _ fun r c => ?_) ?_
  · unfold_payloads
    pointwise [arr]
    simp only [h1, h4, hz]
    rfl
  refine ag_cons (agrees_acc D Z b 2 _ 512 rfl (by omega) _ _ fun r c => ?_) ?_
  · unfold_payloads
    pointwise [arr]
    simp only [h1, h4, hz]
    rfl
  refine ag_cons (agrees_acc D Z b 1 _ 512 rfl (by omega) _ _ fun r c => ?_) ?_
  · unfold_payloads
    pointwise [arr]
    simp only [h1, h4, hz]
    rfl
  refine ag_cons (agrees_acc D Z b 0 _ 512 rfl (by omega) _ _ fun r c => ?_) ?_
  · unfold_payloads
    pointwise [arr]
    simp only [h1, h4, hz]
    rfl
  refine ag_cons (agrees_acc3 D Z b 0 _ _ fun r c => ?_) ?_
  · unfold_payloads
    pointwise [arr]
    simp only [h1, h4, hz]
    rfl
  refine ag_cons (agrees_acc D Z b 2 _ 0 rfl (by omega) _ _ fun r c => ?_) ?_
  · unfold_payloads
    pointwise [arr]
    simp only [h1, h4, hz]
    rfl
  refine ag_cons (agrees_acc D Z b 1 _ 0 rfl (by omega) _ _ fun r c => ?_) ?_
  · unfold_payloads
    pointwise [arr]
    simp only [h1, h4, hz]
    rfl
  refine ag_cons (agrees_acc D Z b 0 _ 0 rfl (by omega) _ _ fun r c => ?_) ?_
  · unfold_payloads
    pointwise [arr]
    simp only [h1, h4, hz]
    rfl
  exact ag_nil

end later

/-- The call's arguments as tables. -/
def inpOf (x0 : (⟨2, ![4096, 1024]⟩ : Shape).Idx → EReal) (x1 : (⟨2, ![4096, 8192]⟩ : Shape).Idx → EReal)
    (x2 : (⟨2, ![2048, 1024]⟩ : Shape).Idx → EReal) (x6 : (⟨1, ![1024]⟩ : Shape).Idx → EReal)
    (x8 : (⟨2, ![3, 2048]⟩ : Shape).Idx → EReal) (x9 : (⟨2, ![1, 2048]⟩ : Shape).Idx → EReal) : Inp where
  X := tab 4096 1024 x0
  P := tab 4096 8192 x1
  W := tab 2048 1024 x2
  G := row 1024 x6
  C := fun j k => if j < 3 then tab 3 2048 x8 j k else 0
  B := tab 1 2048 x9 0

end Cert.OddBlock
-- ==== Proof.OddOutBlock.lean ====
module

public import proofs.«01_k».proof.Proof.Forward
public import proofs.«01_k».proof.Proof.OddBlock
public import proofs.«01_k».proof.Proof.Gen.OddOutIdeal.Value

/-! What one point of the odd layer's output call stores: the gradient's rows, the gated rows and what it adds to the
sums over the rows. -/

@[expose] public section

set_option maxRecDepth 16384

noncomputable section

open Idealize.ShloMosaic Idealize.ShloMosaic.TcCoe Idealize.SL.Sem

namespace Cert.OddOutBlock

open Cert.OddOutIdeal Cert.OddOutIdeal.Gen Cert.Pieces Cert.Forward
open Cert.NormGrad (len eps)

/-- One over the row's length, as the kernel writes it. -/
def inv : EReal := Ideal.ofBits .f32 0x3A800000#32

/-- One over twice the row's length, as the kernel writes it. -/
def halfinv : EReal := Ideal.ofBits .f32 0x3A000000#32

/-- The tables that enter: the projection, the weights, the residual, the layer's gate, the last norm's weights, the
filter's taps and bias, and the target. -/
structure Inp where
  P : Nat → Nat → EReal
  W : Nat → Nat → EReal
  X : Nat → Nat → EReal
  GA : Nat → EReal
  FG : Nat → EReal
  C : Nat → Nat → EReal
  B : Nat → EReal
  T : Nat → Nat → EReal

namespace Inp

variable (D : Inp)

/-- The tables the filter reads, in the form its lemmas ask for. -/
def o : Cert.OddBlock.Inp := ⟨fun _ _ => 0, D.P, D.W, fun _ => 0, D.C, D.B⟩

/-- The gated rows. -/
def y (R k : Nat) : EReal := D.P R k * D.o.cv R k * silu (D.P R (6144 + k))

/-- Their product with the weights. -/
def out (R d : Nat) : EReal := ∑ k : Fin 2048, D.y R k * D.W k d

/-- The residual stream after the layer. -/
def x2 (R d : Nat) : EReal := D.X R d + (1 + D.GA d) * D.out R d

/-- The mean of a row's squares with the norm's constant. -/
def ms (R : Nat) : EReal := Ideal.div (∑ d : Fin 1024, D.x2 R d * D.x2 R d) len + eps

/-- One over the row's norm. -/
def rs (R : Nat) : EReal := Ideal.rsqrt (D.ms R)

/-- The normed row. -/
def nrm (R d : Nat) : EReal := D.x2 R d * D.rs R

/-- How far the result lies from the target. -/
def err (R d : Nat) : EReal := D.nrm R d * D.FG d - D.T R d

/-- The loss's derivative in the result. -/
def dyf (R d : Nat) : EReal := D.err R d * inv

/-- The derivative in the normed row. -/
def dn (R d : Nat) : EReal := D.dyf R d * D.FG d

/-- The derivative in the residual stream. -/
def dx (R d : Nat) : EReal :=
  D.rs R * (D.dn R d - D.nrm R d * Ideal.div (∑ e : Fin 1024, D.dn R e * D.nrm R e) len)

/-- What one block of rows adds to the sums. -/
def blk (b j d : Nat) : EReal :=
  if j = 0 then ∑ r : Fin 256, D.dyf (256 * b + r) d * D.nrm (256 * b + r) d
  else if j = 1 then (∑ r : Fin 256, D.err (256 * b + r) d * D.err (256 * b + r) d) * halfinv
  else if j = 2 then ∑ r : Fin 256, D.dx (256 * b + r) d * D.out (256 * b + r) d
  else 0

end Inp

section block

variable (D : Inp) (b : Nat)

/-- A chunk of the filter's input, read back from the buffer that holds the carried rows and the block's own. -/
theorem u_read {κ : Kind} {sp : Space} {sg : RefSig} (v : View sg κ sp S272x2048 .f32)
    (a o : Nat) (ha : 14 ≤ a) (ha' : a ≤ 16)
    (i1 i2) (i3 : ∀ k, (![a, o] : Fin 2 → Nat) k + (![256, 512] : Fin 2 → Nat) k ≤ (![272, 2048] : Fin 2 → Nat) k)
    (w : (⟨2, ![16, 2048]⟩ : Shape).Idx → Ideal .f32) (w' : (⟨2, ![256, 2048]⟩ : Shape).Idx → Ideal .f32)
    (hw : ∀ (r : Fin 16) (k : Fin 2048), 14 ≤ r.val → w (ix2 r k) = D.o.up (256 * b + r - 14) k)
    (hw' : ∀ (r : Fin 256) (k : Fin 2048), w' (ix2 r k) = D.o.up (256 * b + r + 2) k) :
    v.readCov (Val := Elt Ideal) [⟨Rect.unit (s := S272x2048) ![0, 0] ![16, 2048] i1, w⟩, ⟨Rect.unit (s := S272x2048) ![16, 0] ![256, 2048] i2, w'⟩]
        (Rect.unit (s := S272x2048) ![a, o] ![256, 512] i3).toLoadRect
      = arr 256 512 fun r c => D.o.up (256 * b + r + (a - 14)) (o + c) :=
  Cert.OddBlock.ue_read D.o v b a o ha ha' i1 i2 i3 w w' hw hw'

/-- The rows of the filter's input that belong to the block itself. -/
theorem up_pay (x1 x2 : Vec Ideal S256x2048 .bf16) (i1 i2)
    (h1 : ∀ (r : Fin 256) (k : Fin 2048), x1 (ix2 r k) = D.P (256 * b + r) (2048 + k))
    (h2 : ∀ (r : Fin 256) (k : Fin 2048), x2 (ix2 r k) = D.P (256 * b + r) (4096 + k)) (r : Fin 256) (k : Fin 2048) :
    k0_pay4 (View.ld x1 (Rect.unit (s := S256x2048) ![0, 0] ![256, 2048] i1)) (View.ld x2 (Rect.unit (s := S256x2048) ![0, 0] ![256, 2048] i2)) (ix2 r k)
      = D.o.up (256 * b + r + 2) k := by
  pointwise [k0_pay4]
  simp only [h1, h2]
  unfold Cert.OddBlock.Inp.up
  rw [if_neg (by omega), Nat.add_sub_cancel]
  rfl

/-- The kernel's test for a block after the first. -/
theorem first_iff (i : grid0.Coords) (hb : (i 0).val = b) :
    Scalar.cmpi .sgt (BitVec.ofNat 32 (i 0).val) 0#32 = if b = 0 then 0#1 else 1#1 := by
  have hi : (i 0).val < 16 := (i 0).isLt
  rw [hb]
  have : b < 16 := by omega
  clear hb
  interval_cases b <;> decide

/-- The rows of the filter's input that come from the block before, zero before the first. -/
theorem halo_pay (i : grid0.Coords) (hb : (i 0).val = b) (x4 x5 : Vec Ideal S16x2048 .bf16) (i1 i2)
    (h45 : ∀ (r : Fin 16) (k : Fin 2048), 0 < b → x4 (ix2 r k) = D.P (256 * b - 16 + r) (2048 + k) ∧ x5 (ix2 r k) = D.P (256 * b - 16 + r) (4096 + k))
    (r : Fin 16) (k : Fin 2048) (hr : 14 ≤ r.val) :
    k0_pay5 i (View.ld x4 (Rect.unit (s := S16x2048) ![0, 0] ![16, 2048] i1)) (View.ld x5 (Rect.unit (s := S16x2048) ![0, 0] ![16, 2048] i2)) (ix2 r k)
      = D.o.up (256 * b + r - 14) k := by
  unfold k0_pay5
  simp only [first_iff b i hb]
  by_cases h : b = 0
  · subst h
    rw [if_pos rfl]
    pointwise
    unfold Cert.OddBlock.Inp.up
    rw [if_pos (by omega)]
  · rw [if_neg h]
    pointwise
    have := h45 r k (by omega)
    rw [this.1, this.2]
    unfold Cert.OddBlock.Inp.up
    rw [if_neg (by omega), show 256 * b + r.val - 14 - 2 = 256 * b - 16 + r.val by omega]
    rfl

variable (x0 x3 : Vec Ideal S256x2048 .bf16) (x9 : Vec Ideal S8x2048 .f32) (x10 : Vec Ideal S1x2048 .f32)
  (h0 : ∀ (r : Fin 256) (k : Fin 2048), x0 (ix2 r k) = D.P (256 * b + r) k)
  (h3 : ∀ (r : Fin 256) (k : Fin 2048), x3 (ix2 r k) = D.P (256 * b + r) (6144 + k))
  (h9 : ∀ (j : Fin 8) (k : Fin 2048), x9 (ix2 j k) = D.C j k)
  (h10 : ∀ k : Fin 2048, x10 (ix2 0 k) = D.B k)

include h0 h3 h9 h10 in

/-- A chunk of the gated rows. -/
theorem y_chunk0 (i1 i2 i3 i4 i5 i6) (r : Fin 256) (k : Fin 512) :
    k0_pay8 (k0_pay6 (View.ld x10 (Rect.unit (s := S1x2048) ![0, 0] ![1, 512] i1)) (View.ld x9 (Rect.unit (s := S8x2048) ![0, 0] ![1, 512] i2))
          (arr 256 512 fun r c => D.o.up (256 * b + r + (14 - 14)) (0 + c)))
        (k0_pay7 (View.ld x9 (Rect.unit (s := S8x2048) ![1, 0] ![1, 512] i3)))
        (arr 256 512 fun r c => D.o.up (256 * b + r + (15 - 14)) (0 + c))
        (View.ld x9 (Rect.unit (s := S8x2048) ![2, 0] ![1, 512] i4))
        (arr 256 512 fun r c => D.o.up (256 * b + r + (16 - 14)) (0 + c))
        (View.ld x3 (Rect.unit (s := S256x2048) ![0, 0] ![256, 512] i5)) (View.ld x0 (Rect.unit (s := S256x2048) ![0, 0] ![256, 512] i6)) (ix2 r k)
      = D.y (256 * b + r) (0 + k) := by
  unfold k0_pay6 k0_pay7 k0_pay8
  pointwise [arr]
  simp only [h0, h3, h9, h10]
  try simp only [Nat.zero_add]
  rfl

include h0 h3 h9 h10 in

/-- A chunk of the gated rows. -/
theorem y_chunk1 (i1 i2 i3 i4 i5 i6) (r : Fin 256) (k : Fin 512) :
    k0_pay11 (k0_pay9 (View.ld x10 (Rect.unit (s := S1x2048) ![0, 512] ![1, 512] i1)) (View.ld x9 (Rect.unit (s := S8x2048) ![0, 512] ![1, 512] i2))
          (arr 256 512 fun r c => D.o.up (256 * b + r + (14 - 14)) (512 + c)))
        (k0_pay10 (View.ld x9 (Rect.unit (s := S8x2048) ![1, 512] ![1, 512] i3)))
        (arr 256 512 fun r c => D.o.up (256 * b + r + (15 - 14)) (512 + c))
        (View.ld x9 (Rect.unit (s := S8x2048) ![2, 512] ![1, 512] i4))
        (arr 256 512 fun r c => D.o.up (256 * b + r + (16 - 14)) (512 + c))
        (View.ld x3 (Rect.unit (s := S256x2048) ![0, 512] ![256, 512] i5)) (View.ld x0 (Rect.unit (s := S256x2048) ![0, 512] ![256, 512] i6)) (ix2 r k)
      = D.y (256 * b + r) (512 + k) := by
  unfold k0_pay9 k0_pay10 k0_pay11
  pointwise [arr]
  simp only [h0, h3, h9, h10]
  try simp only [Nat.zero_add]
  rfl

include h0 h3 h9 h10 in

/-- A chunk of the gated rows. -/
theorem y_chunk2 (i1 i2 i3 i4 i5 i6) (r : Fin 256) (k : Fin 512) :
    k0_pay14 (k0_pay12 (View.ld x10 (Rect.unit (s := S1x2048) ![0, 1024] ![1, 512] i1)) (View.ld x9 (Rect.unit (s := S8x2048) ![0, 1024] ![1, 512] i2))
          (arr 256 512 fun r c => D.o.up (256 * b + r + (14 - 14)) (1024 + c)))
        (k0_pay13 (View.ld x9 (Rect.unit (s := S8x2048) ![1, 1024] ![1, 512] i3)))
        (arr 256 512 fun r c => D.o.up (256 * b + r + (15 - 14)) (1024 + c))
        (View.ld x9 (Rect.unit (s := S8x2048) ![2, 1024] ![1, 512] i4))
        (arr 256 512 fun r c => D.o.up (256 * b + r + (16 - 14)) (1024 + c))
        (View.ld x3 (Rect.unit (s := S256x2048) ![0, 1024] ![256, 512] i5)) (View.ld x0 (Rect.unit (s := S256x2048) ![0, 1024] ![256, 512] i6)) (ix2 r k)
      = D.y (256 * b + r) (1024 + k) := by
  unfold k0_pay12 k0_pay13 k0_pay14
  pointwise [arr]
  simp only [h0, h3, h9, h10]
  try simp only [Nat.zero_add]
  rfl

include h0 h3 h9 h10 in

/-- A chunk of the gated rows. -/
theorem y_chunk3 (i1 i2 i3 i4 i5 i6) (r : Fin 256) (k : Fin 512) :
    k0_pay17 (k0_pay15 (View.ld x10 (Rect.unit (s := S1x2048) ![0, 1536] ![1, 512] i1)) (View.ld x9 (Rect.unit (s := S8x2048) ![0, 1536] ![1, 512] i2))
          (arr 256 512 fun r c => D.o.up (256 * b + r + (14 - 14)) (1536 + c)))
        (k0_pay16 (View.ld x9 (Rect.unit (s := S8x2048) ![1, 1536] ![1, 512] i3)))
        (arr 256 512 fun r c => D.o.up (256 * b + r + (15 - 14)) (1536 + c))
        (View.ld x9 (Rect.unit (s := S8x2048) ![2, 1536] ![1, 512] i4))
        (arr 256 512 fun r c => D.o.up (256 * b + r + (16 - 14)) (1536 + c))
        (View.ld x3 (Rect.unit (s := S256x2048) ![0, 1536] ![256, 512] i5)) (View.ld x0 (Rect.unit (s := S256x2048) ![0, 1536] ![256, 512] i6)) (ix2 r k)
      = D.y (256 * b + r) (1536 + k) := by
  unfold k0_pay15 k0_pay16 k0_pay17
  pointwise [arr]
  simp only [h0, h3, h9, h10]
  try simp only [Nat.zero_add]
  rfl

/-- The gated rows, read back whole from the four chunks they were stored in. -/
theorem y_read {sg : RefSig} {κ : Kind} {sp : Space} (v : View sg κ sp S256x2048 .bf16)
    (i0 i1 i2 i3) (i4 : ∀ k, (![0, 0] : Fin 2 → Nat) k + (![256, 2048] : Fin 2 → Nat) k ≤ (![256, 2048] : Fin 2 → Nat) k)
    (p0 p1 p2 p3 : (⟨2, ![256, 512]⟩ : Shape).Idx → Ideal .bf16)
    (e0 : ∀ (r : Fin 256) (k : Fin 512), p0 (ix2 r k) = D.y (256 * b + r) (0 + k))
    (e1 : ∀ (r : Fin 256) (k : Fin 512), p1 (ix2 r k) = D.y (256 * b + r) (512 + k))
    (e2 : ∀ (r : Fin 256) (k : Fin 512), p2 (ix2 r k) = D.y (256 * b + r) (1024 + k))
    (e3 : ∀ (r : Fin 256) (k : Fin 512), p3 (ix2 r k) = D.y (256 * b + r) (1536 + k)) :
    v.readCov (Val := Elt Ideal) [⟨Rect.unit (s := S256x2048) ![0, 1536] ![256, 512] i3, p3⟩, ⟨Rect.unit (s := S256x2048) ![0, 1024] ![256, 512] i2, p2⟩,
        ⟨Rect.unit (s := S256x2048) ![0, 512] ![256, 512] i1, p1⟩, ⟨Rect.unit (s := S256x2048) ![0, 0] ![256, 512] i0, p0⟩]
        (Rect.unit (s := S256x2048) ![0, 0] ![256, 2048] i4).toLoadRect
      = arr 256 2048 fun r k => D.y (256 * b + r) k := by
  rw [View.readCov_eq_canon']
  funext y
  have y1 : (y 1).val < 2048 := (y 1).isLt
  have y0 : (y 0).val < 256 := (y 0).isLt
  refine (canon_of_agrees (Val := Elt Ideal) (e := .bf16) (fun r k => D.y (256 * b + r) k) _ ?_ _ ?_).trans ?_
  · refine agrees_cons (agrees_unit _ _ _ _ _ _ _ fun r k => (e3 r k).trans (by simp)) (agrees_cons (agrees_unit _ _ _ _ _ _ _ fun r k => (e2 r k).trans (by simp)) (agrees_cons (agrees_unit _ _ _ _ _ _ _ fun r k => (e1 r k).trans (by simp)) (agrees_cons (agrees_unit _ _ _ _ _ _ _ fun r k => (e0 r k).trans (by simp)) agrees_nil)))
  · by_cases c3 : 1536 ≤ (y 1).val
    · refine ⟨⟨Rect.unit (s := S256x2048) ![0, 1536] ![256, 512] i3, p3⟩, by simp, ?_⟩
      rw [mem_unit]
      exact ⟨by show 0 ≤ 0 + 1 * (y 0).val ∧ 0 + 1 * (y 0).val < 0 + 256; omega, by show 1536 ≤ 0 + 1 * (y 1).val ∧ 0 + 1 * (y 1).val < 1536 + 512; omega⟩
    by_cases c2 : 1024 ≤ (y 1).val
    · refine ⟨⟨Rect.unit (s := S256x2048) ![0, 1024] ![256, 512] i2, p2⟩, by simp, ?_⟩
      rw [mem_unit]
      exact ⟨by show 0 ≤ 0 + 1 * (y 0).val ∧ 0 + 1 * (y 0).val < 0 + 256; omega, by show 1024 ≤ 0 + 1 * (y 1).val ∧ 0 + 1 * (y 1).val < 1024 + 512; omega⟩
    by_cases c1 : 512 ≤ (y 1).val
    · refine ⟨⟨Rect.unit (s := S256x2048) ![0, 512] ![256, 512] i1, p1⟩, by simp, ?_⟩
      rw [mem_unit]
      exact ⟨by show 0 ≤ 0 + 1 * (y 0).val ∧ 0 + 1 * (y 0).val < 0 + 256; omega, by show 512 ≤ 0 + 1 * (y 1).val ∧ 0 + 1 * (y 1).val < 512 + 512; omega⟩
    · refine ⟨⟨Rect.unit (s := S256x2048) ![0, 0] ![256, 512] i0, p0⟩, by simp, ?_⟩
      rw [mem_unit]
      exact ⟨by show 0 ≤ 0 + 1 * (y 0).val ∧ 0 + 1 * (y 0).val < 0 + 256; omega, by show 0 ≤ 0 + 1 * (y 1).val ∧ 0 + 1 * (y 1).val < 0 + 512; omega⟩
  · show D.y (256 * b + (0 + 1 * (y 0).val)) (0 + 1 * (y 1).val) = D.y (256 * b + (y 0).val) (y 1).val
    congr 1 <;> omega

variable (x6 : Vec Ideal S2048x1024 .bf16) (x7 x11 : Vec Ideal S256x1024 .f32) (x8 : Vec Ideal S8x1024 .f32)
  (h6 : ∀ (k : Fin 2048) (d : Fin 1024), x6 (ix2 k d) = D.W k d)
  (h7 : ∀ (r : Fin 256) (d : Fin 1024), x7 (ix2 r d) = D.X (256 * b + r) d)
  (h8 : ∀ d : Fin 1024, x8 (ix2 3 d) = D.GA d)
  (h8' : ∀ d : Fin 1024, x8 (ix2 4 d) = D.FG d)
  (h11 : ∀ (r : Fin 256) (d : Fin 1024), x11 (ix2 r d) = D.T (256 * b + r) d)

include h6 in

/-- The product with the weights. -/
theorem out_eq (i1) :
    k0_pay18 (arr 256 2048 fun r k => D.y (256 * b + r) k) (View.ld x6 (Rect.unit (s := S2048x1024) ![0, 0] ![2048, 1024] i1))
      = arr 256 1024 fun r d => D.out (256 * b + r) d := by
  funext j
  obtain ⟨r, d, rfl⟩ : ∃ (r : Fin 256) (d : Fin 1024), j = ix2 r d := ⟨j 0, j 1, eq_ix2 j⟩
  unfold k0_pay18
  pointwise [arr]
  simp only [h6]
  rfl

include h7 h8 in

/-- The residual stream after the layer. -/
theorem x2_eq (i1 i2) :
    k0_pay20 (arr 256 1024 fun r d => D.out (256 * b + r) d) (View.ld x7 (Rect.unit (s := S256x1024) ![0, 0] ![256, 1024] i1))
        (k0_pay19 (View.ld x8 (Rect.unit (s := S8x1024) ![3, 0] ![1, 1024] i2))) (Scalar.ofBits .f32 0x3F800000#32)
      = arr 256 1024 fun r d => D.x2 (256 * b + r) d := by
  funext j
  obtain ⟨r, d, rfl⟩ : ∃ (r : Fin 256) (d : Fin 1024), j = ix2 r d := ⟨j 0, j 1, eq_ix2 j⟩
  unfold k0_pay20 k0_pay19
  pointwise [arr]
  simp only [h7]
  exact congrArg (fun g => D.X _ _ + (1 + g) * D.out _ _) (h8 d)

include h7 h8 in

/-- One over the row's norm. -/
theorem rs_eq (i1 i2) :
    k0_pay21 (arr 256 1024 fun r d => D.out (256 * b + r) d) (View.ld x7 (Rect.unit (s := S256x1024) ![0, 0] ![256, 1024] i1))
        (k0_pay19 (View.ld x8 (Rect.unit (s := S8x1024) ![3, 0] ![1, 1024] i2))) (Scalar.ofBits .f32 0x3F800000#32)
      = arr 256 1 fun r _ => D.rs (256 * b + r) := by
  funext j
  obtain ⟨r, d, rfl⟩ : ∃ (r : Fin 256) (d : Fin 1), j = ix2 r d := ⟨j 0, j 1, eq_ix2 j⟩
  unfold k0_pay21
  rw [x2_eq D b x7 x8 h7 h8]
  pointwise [arr]
  rfl

include h7 h8 in

/-- The normed rows. -/
theorem nrm_eq (i1 i2) :
    k0_pay22 (arr 256 1024 fun r d => D.out (256 * b + r) d) (View.ld x7 (Rect.unit (s := S256x1024) ![0, 0] ![256, 1024] i1))
        (k0_pay19 (View.ld x8 (Rect.unit (s := S8x1024) ![3, 0] ![1, 1024] i2))) (Scalar.ofBits .f32 0x3F800000#32)
      = arr 256 1024 fun r d => D.nrm (256 * b + r) d := by
  funext j
  obtain ⟨r, d, rfl⟩ : ∃ (r : Fin 256) (d : Fin 1024), j = ix2 r d := ⟨j 0, j 1, eq_ix2 j⟩
  unfold k0_pay22
  rw [x2_eq D b x7 x8 h7 h8, rs_eq D b x7 x8 h7 h8]
  pointwise [arr]
  rfl

include h8' in

/-- The last norm's weights. -/
theorem fg_eq (i1) :
    k0_pay23 (View.ld x8 (Rect.unit (s := S8x1024) ![4, 0] ![1, 1024] i1)) = arr 1 1024 fun _ d => D.FG d := by
  funext j
  obtain ⟨r, d, rfl⟩ : ∃ (r : Fin 1) (d : Fin 1024), j = ix2 r d := ⟨j 0, j 1, eq_ix2 j⟩
  have hr : r = 0 := Subsingleton.elim _ _
  subst hr
  unfold k0_pay23
  pointwise [arr]
  exact h8' d

include h7 h8 h8' h11 in

/-- How far the rows lie from the target. -/
theorem err_eq (i1 i2 i3 i4) :
    k0_pay24 (arr 256 1024 fun r d => D.out (256 * b + r) d) (View.ld x7 (Rect.unit (s := S256x1024) ![0, 0] ![256, 1024] i1))
        (k0_pay19 (View.ld x8 (Rect.unit (s := S8x1024) ![3, 0] ![1, 1024] i2))) (Scalar.ofBits .f32 0x3F800000#32)
        (View.ld x8 (Rect.unit (s := S8x1024) ![4, 0] ![1, 1024] i3)) (View.ld x11 (Rect.unit (s := S256x1024) ![0, 0] ![256, 1024] i4))
      = arr 256 1024 fun r d => D.err (256 * b + r) d := by
  funext j
  obtain ⟨r, d, rfl⟩ : ∃ (r : Fin 256) (d : Fin 1024), j = ix2 r d := ⟨j 0, j 1, eq_ix2 j⟩
  unfold k0_pay24
  rw [nrm_eq D b x7 x8 h7 h8, fg_eq D x8 h8']
  pointwise [arr]
  simp only [h11]
  rfl

include h7 h8 h8' h11 in

/-- The loss's derivative in the result. -/
theorem dyf_eq (i1 i2 i3 i4) :
    k0_pay26 (arr 256 1024 fun r d => D.out (256 * b + r) d) (View.ld x7 (Rect.unit (s := S256x1024) ![0, 0] ![256, 1024] i1))
        (k0_pay19 (View.ld x8 (Rect.unit (s := S8x1024) ![3, 0] ![1, 1024] i2))) (Scalar.ofBits .f32 0x3F800000#32)
        (View.ld x8 (Rect.unit (s := S8x1024) ![4, 0] ![1, 1024] i3)) (View.ld x11 (Rect.unit (s := S256x1024) ![0, 0] ![256, 1024] i4))
      = arr 256 1024 fun r d => D.dyf (256 * b + r) d := by
  funext j
  obtain ⟨r, d, rfl⟩ : ∃ (r : Fin 256) (d : Fin 1024), j = ix2 r d := ⟨j 0, j 1, eq_ix2 j⟩
  unfold k0_pay26
  rw [err_eq D b x7 x11 x8 h7 h8 h8' h11]
  pointwise [arr]
  rfl

/-- The derivative in the residual stream. -/
theorem dx_eq :
    k0_pay1 (F := Ideal) (arr 256 1 fun r _ => D.rs (256 * b + r)) (arr 256 1024 fun r d => D.nrm (256 * b + r) d) (arr 1 1024 fun _ d => D.FG d)
        (arr 256 1024 fun r d => D.dyf (256 * b + r) d)
      = arr 256 1024 fun r d => D.dx (256 * b + r) d := by
  funext j
  obtain ⟨r, d, rfl⟩ : ∃ (r : Fin 256) (d : Fin 1024), j = ix2 r d := ⟨j 0, j 1, eq_ix2 j⟩
  unfold k0_pay1
  pointwise [arr]
  rfl

end block

section first

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x2048 .f32) (harg10 : arg10.IsWhole) (arg11 : Memref sig .tc .vmem S1x2048 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x2048 .bf16) (harg14 : arg14.IsWhole) (arg15 : Memref sig .tc .vmem S8x1024 .f32) (harg15 : arg15.IsWhole) (arg16 : Memref sig .tc .vmem S272x2048 .f32) (harg16 : arg16.IsWhole) (hc0 : cond0_0 i)
  (x0 : Vec Ideal S256x2048 .bf16) (x1 : Vec Ideal S256x2048 .bf16) (x2 : Vec Ideal S256x2048 .bf16) (x3 : Vec Ideal S256x2048 .bf16) (x4 : Vec Ideal S16x2048 .bf16) (x5 : Vec Ideal S16x2048 .bf16) (x6 : Vec Ideal S2048x1024 .bf16) (x7 : Vec Ideal S256x1024 .f32) (x8 : Vec Ideal S8x1024 .f32) (x9 : Vec Ideal S8x2048 .f32) (x10 : Vec Ideal S1x2048 .f32) (x11 : Vec Ideal S256x1024 .f32)
  (D : Inp) (b : Nat) (hb : (i 0).val = b)
  (h0 : ∀ (r : Fin 256) (k : Fin 2048), x0 (ix2 r k) = D.P (256 * b + r) k)
  (h1 : ∀ (r : Fin 256) (k : Fin 2048), x1 (ix2 r k) = D.P (256 * b + r) (2048 + k))
  (h2 : ∀ (r : Fin 256) (k : Fin 2048), x2 (ix2 r k) = D.P (256 * b + r) (4096 + k))
  (h3 : ∀ (r : Fin 256) (k : Fin 2048), x3 (ix2 r k) = D.P (256 * b + r) (6144 + k))
  (h45 : ∀ (r : Fin 16) (k : Fin 2048), 0 < b → x4 (ix2 r k) = D.P (256 * b - 16 + r) (2048 + k) ∧ x5 (ix2 r k) = D.P (256 * b - 16 + r) (4096 + k))
  (h6 : ∀ (k : Fin 2048) (d : Fin 1024), x6 (ix2 k d) = D.W k d)
  (h7 : ∀ (r : Fin 256) (d : Fin 1024), x7 (ix2 r d) = D.X (256 * b + r) d)
  (h8 : ∀ d : Fin 1024, x8 (ix2 3 d) = D.GA d)
  (h8' : ∀ d : Fin 1024, x8 (ix2 4 d) = D.FG d)
  (h9 : ∀ (j : Fin 8) (k : Fin 2048), x9 (ix2 j k) = D.C j k)
  (h10 : ∀ k : Fin 2048, x10 (ix2 0 k) = D.B k)
  (h11 : ∀ (r : Fin 256) (d : Fin 1024), x11 (ix2 r d) = D.T (256 * b + r) d)

include hb h0 h1 h2 h3 h45 h6 h7 h8 h8' h9 h10 h11

/-- What a first point stores of the derivative in the residual stream. -/
theorem out0_A_12_eq :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = arr 256 1024 fun r d => D.dx (256 * b + r) d := by
  funext y
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  refine canon_of_agrees (Val := Elt Ideal) (fun r d => D.dx (256 * b + r) d) _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [u_read D b arg16.view 14 _ (by omega) (by omega) _ _ _ _ _ (halo_pay D b i hb x4 x5 _ _ h45) (up_pay D b x1 x2 _ _ h1 h2),
    u_read D b arg16.view 15 _ (by omega) (by omega) _ _ _ _ _ (halo_pay D b i hb x4 x5 _ _ h45) (up_pay D b x1 x2 _ _ h1 h2),
    u_read D b arg16.view 16 _ (by omega) (by omega) _ _ _ _ _ (halo_pay D b i hb x4 x5 _ _ h45) (up_pay D b x1 x2 _ _ h1 h2)]
  simp only [y_read D b arg14.view _ _ _ _ _ _ _ _ _ (y_chunk0 D b x0 x3 x9 x10 h0 h3 h9 h10 _ _ _ _ _ _) (y_chunk1 D b x0 x3 x9 x10 h0 h3 h9 h10 _ _ _ _ _ _) (y_chunk2 D b x0 x3 x9 x10 h0 h3 h9 h10 _ _ _ _ _ _) (y_chunk3 D b x0 x3 x9 x10 h0 h3 h9 h10 _ _ _ _ _ _)]
  simp only [out_eq D b x6 h6]
  simp only [rs_eq D b x7 x8 h7 h8, nrm_eq D b x7 x8 h7 h8, fg_eq D x8 h8', dyf_eq D b x7 x11 x8 h7 h8 h8' h11]
  simp only [dx_eq D b]
  refine agrees_cons (agrees_unit _ _ _ _ _ _ _ fun r d => ?_) agrees_nil
  simp only [Nat.zero_add]
  rfl

/-- What a first point stores of the gated rows. -/
theorem out0_A_13_eq :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = arr 256 2048 fun r k => D.y (256 * b + r) k := by
  funext y
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  refine canon_of_agrees (Val := Elt Ideal) (fun r k => D.y (256 * b + r) k) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [u_read D b arg16.view 14 _ (by omega) (by omega) _ _ _ _ _ (halo_pay D b i hb x4 x5 _ _ h45) (up_pay D b x1 x2 _ _ h1 h2),
    u_read D b arg16.view 15 _ (by omega) (by omega) _ _ _ _ _ (halo_pay D b i hb x4 x5 _ _ h45) (up_pay D b x1 x2 _ _ h1 h2),
    u_read D b arg16.view 16 _ (by omega) (by omega) _ _ _ _ _ (halo_pay D b i hb x4 x5 _ _ h45) (up_pay D b x1 x2 _ _ h1 h2)]
  refine agrees_cons (agrees_unit _ _ _ _ _ _ _ fun r k => ((y_chunk3 D b x0 x3 x9 x10 h0 h3 h9 h10 _ _ _ _ _ _) r k).trans (by simp only [Nat.zero_add])) (agrees_cons (agrees_unit _ _ _ _ _ _ _ fun r k => ((y_chunk2 D b x0 x3 x9 x10 h0 h3 h9 h10 _ _ _ _ _ _) r k).trans (by simp only [Nat.zero_add])) (agrees_cons (agrees_unit _ _ _ _ _ _ _ fun r k => ((y_chunk1 D b x0 x3 x9 x10 h0 h3 h9 h10 _ _ _ _ _ _) r k).trans (by simp only [Nat.zero_add])) (agrees_cons (agrees_unit _ _ _ _ _ _ _ fun r k => ((y_chunk0 D b x0 x3 x9 x10 h0 h3 h9 h10 _ _ _ _ _ _) r k).trans (by simp only [Nat.zero_add])) (agrees_nil))))

/-- What the first point leaves of the sums. -/
theorem out0_A_14_eq :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = arr 8 1024 fun j d => D.blk b j d := by
  funext y
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [u_read D b arg16.view 14 _ (by omega) (by omega) _ _ _ _ _ (halo_pay D b i hb x4 x5 _ _ h45) (up_pay D b x1 x2 _ _ h1 h2),
    u_read D b arg16.view 15 _ (by omega) (by omega) _ _ _ _ _ (halo_pay D b i hb x4 x5 _ _ h45) (up_pay D b x1 x2 _ _ h1 h2),
    u_read D b arg16.view 16 _ (by omega) (by omega) _ _ _ _ _ (halo_pay D b i hb x4 x5 _ _ h45) (up_pay D b x1 x2 _ _ h1 h2)]
  simp only [y_read D b arg14.view _ _ _ _ _ _ _ _ _ (y_chunk0 D b x0 x3 x9 x10 h0 h3 h9 h10 _ _ _ _ _ _) (y_chunk1 D b x0 x3 x9 x10 h0 h3 h9 h10 _ _ _ _ _ _) (y_chunk2 D b x0 x3 x9 x10 h0 h3 h9 h10 _ _ _ _ _ _) (y_chunk3 D b x0 x3 x9 x10 h0 h3 h9 h10 _ _ _ _ _ _)]
  simp only [out_eq D b x6 h6]
  simp only [rs_eq D b x7 x8 h7 h8, nrm_eq D b x7 x8 h7 h8, fg_eq D x8 h8', dyf_eq D b x7 x11 x8 h7 h8 h8' h11]
  simp (disch := omega) only [↓readCov_miss (m := 8) (n := 1024), ↓readCov_whole (m := 8) (n := 1024)]
  show View.canon ([_, _, _] ++ [_]) y = _
  refine canon_base (Val := Elt Ideal) (e := .f32) (fun j d => D.blk b j d) _ y _ ?_ fun hm => ?_
  rotate_left
  · have y1 : (y 1).val < 1024 := (y 1).isLt
    have y0 : (y 0).val < 8 := (y 0).isLt
    simp only [List.forall_mem_cons, mem_unit] at hm
    obtain ⟨n2, n0, n1, _⟩ := hm
    have e : 3 ≤ (y 0).val := by
      by_contra e
      by_cases e2 : (y 0).val = 2
      · exact n2 ⟨⟨by omega, by omega⟩, by omega, by omega⟩
      by_cases e1 : (y 0).val = 1
      · exact n1 ⟨⟨by omega, by omega⟩, by omega, by omega⟩
      exact n0 ⟨⟨by omega, by omega⟩, by omega, by omega⟩
    have z2 : (![0, 0] : Fin 2 → Nat) = fun _ => 0 := by decide
    rw [View.canon_unit_zero (S := S8x1024) z2]
    show _ = D.blk b (y 0).val (y 1).val
    unfold Inp.blk
    rw [if_neg (by omega), if_neg (by omega), if_neg (by omega)]
    exact Ideal.ofBits_zero_f32
  refine agrees_cons (agrees_unit _ _ _ _ _ _ _ fun r d => ?_) ?_
  · have hr : r.val = 0 := by omega
    unfold k0_pay2
    simp only [dx_eq D b]
    try unfold k0_pay3
    pointwise [arr]
    try simp only [hr, Nat.add_zero, Nat.zero_add]
    rfl
  refine agrees_cons (agrees_unit _ _ _ _ _ _ _ fun r d => ?_) ?_
  · have hr : r.val = 0 := by omega
    unfold k0_pay27
    simp only [nrm_eq D b x7 x8 h7 h8, dyf_eq D b x7 x11 x8 h7 h8 h8' h11]
    try unfold k0_pay3
    pointwise [arr]
    try simp only [hr, Nat.add_zero, Nat.zero_add]
    rfl
  refine agrees_cons (agrees_unit _ _ _ _ _ _ _ fun r d => ?_) ?_
  · have hr : r.val = 0 := by omega
    unfold k0_pay25
    simp only [err_eq D b x7 x11 x8 h7 h8 h8' h11]
    try unfold k0_pay3
    pointwise [arr]
    try simp only [hr, Nat.add_zero, Nat.zero_add]
    rfl
  exact agrees_nil

end first

section later

variable (c : Dev nD) (i : grid0.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S16x2048 .bf16) (harg5 : arg5.IsWhole) (arg6 : Memref sig .tc .vmem S16x2048 .bf16) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S8x1024 .f32) (harg9 : arg9.IsWhole) (arg10 : Memref sig .tc .vmem S8x2048 .f32) (harg10 : arg10.IsWhole) (arg11 : Memref sig .tc .vmem S1x2048 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x2048 .bf16) (harg14 : arg14.IsWhole) (arg15 : Memref sig .tc .vmem S8x1024 .f32) (harg15 : arg15.IsWhole) (arg16 : Memref sig .tc .vmem S272x2048 .f32) (harg16 : arg16.IsWhole) (hc0 : ¬cond0_0 i)
  (x0 : Vec Ideal S256x2048 .bf16) (x1 : Vec Ideal S256x2048 .bf16) (x2 : Vec Ideal S256x2048 .bf16) (x3 : Vec Ideal S256x2048 .bf16) (x4 : Vec Ideal S16x2048 .bf16) (x5 : Vec Ideal S16x2048 .bf16) (x6 : Vec Ideal S2048x1024 .bf16) (x7 : Vec Ideal S256x1024 .f32) (x8 : Vec Ideal S8x1024 .f32) (x9 : Vec Ideal S8x2048 .f32) (x10 : Vec Ideal S1x2048 .f32) (x11 : Vec Ideal S256x1024 .f32) (xo14 : Vec Ideal S8x1024 .f32)
  (D : Inp) (b : Nat) (hb : (i 0).val = b)
  (h0 : ∀ (r : Fin 256) (k : Fin 2048), x0 (ix2 r k) = D.P (256 * b + r) k)
  (h1 : ∀ (r : Fin 256) (k : Fin 2048), x1 (ix2 r k) = D.P (256 * b + r) (2048 + k))
  (h2 : ∀ (r : Fin 256) (k : Fin 2048), x2 (ix2 r k) = D.P (256 * b + r) (4096 + k))
  (h3 : ∀ (r : Fin 256) (k : Fin 2048), x3 (ix2 r k) = D.P (256 * b + r) (6144 + k))
  (h45 : ∀ (r : Fin 16) (k : Fin 2048), 0 < b → x4 (ix2 r k) = D.P (256 * b - 16 + r) (2048 + k) ∧ x5 (ix2 r k) = D.P (256 * b - 16 + r) (4096 + k))
  (h6 : ∀ (k : Fin 2048) (d : Fin 1024), x6 (ix2 k d) = D.W k d)
  (h7 : ∀ (r : Fin 256) (d : Fin 1024), x7 (ix2 r d) = D.X (256 * b + r) d)
  (h8 : ∀ d : Fin 1024, x8 (ix2 3 d) = D.GA d)
  (h8' : ∀ d : Fin 1024, x8 (ix2 4 d) = D.FG d)
  (h9 : ∀ (j : Fin 8) (k : Fin 2048), x9 (ix2 j k) = D.C j k)
  (h10 : ∀ k : Fin 2048, x10 (ix2 0 k) = D.B k)
  (h11 : ∀ (r : Fin 256) (d : Fin 1024), x11 (ix2 r d) = D.T (256 * b + r) d)

include hb h0 h1 h2 h3 h45 h6 h7 h8 h8' h9 h10 h11

/-- What a later point stores of the derivative in the residual stream. -/
theorem out0_B_12_eq :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 = arr 256 1024 fun r d => D.dx (256 * b + r) d := by
  funext y
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14)]
  refine canon_of_agrees (Val := Elt Ideal) (fun r d => D.dx (256 * b + r) d) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [u_read D b arg16.view 14 _ (by omega) (by omega) _ _ _ _ _ (halo_pay D b i hb x4 x5 _ _ h45) (up_pay D b x1 x2 _ _ h1 h2),
    u_read D b arg16.view 15 _ (by omega) (by omega) _ _ _ _ _ (halo_pay D b i hb x4 x5 _ _ h45) (up_pay D b x1 x2 _ _ h1 h2),
    u_read D b arg16.view 16 _ (by omega) (by omega) _ _ _ _ _ (halo_pay D b i hb x4 x5 _ _ h45) (up_pay D b x1 x2 _ _ h1 h2)]
  simp only [y_read D b arg14.view _ _ _ _ _ _ _ _ _ (y_chunk0 D b x0 x3 x9 x10 h0 h3 h9 h10 _ _ _ _ _ _) (y_chunk1 D b x0 x3 x9 x10 h0 h3 h9 h10 _ _ _ _ _ _) (y_chunk2 D b x0 x3 x9 x10 h0 h3 h9 h10 _ _ _ _ _ _) (y_chunk3 D b x0 x3 x9 x10 h0 h3 h9 h10 _ _ _ _ _ _)]
  simp only [out_eq D b x6 h6]
  simp only [rs_eq D b x7 x8 h7 h8, nrm_eq D b x7 x8 h7 h8, fg_eq D x8 h8', dyf_eq D b x7 x11 x8 h7 h8 h8' h11]
  simp only [dx_eq D b]
  refine agrees_cons (agrees_unit _ _ _ _ _ _ _ fun r d => ?_) agrees_nil
  simp only [Nat.zero_add]
  rfl

/-- What a later point stores of the gated rows. -/
theorem out0_B_13_eq :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 = arr 256 2048 fun r k => D.y (256 * b + r) k := by
  funext y
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14)]
  refine canon_of_agrees (Val := Elt Ideal) (fun r k => D.y (256 * b + r) k) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [u_read D b arg16.view 14 _ (by omega) (by omega) _ _ _ _ _ (halo_pay D b i hb x4 x5 _ _ h45) (up_pay D b x1 x2 _ _ h1 h2),
    u_read D b arg16.view 15 _ (by omega) (by omega) _ _ _ _ _ (halo_pay D b i hb x4 x5 _ _ h45) (up_pay D b x1 x2 _ _ h1 h2),
    u_read D b arg16.view 16 _ (by omega) (by omega) _ _ _ _ _ (halo_pay D b i hb x4 x5 _ _ h45) (up_pay D b x1 x2 _ _ h1 h2)]
  refine agrees_cons (agrees_unit _ _ _ _ _ _ _ fun r k => ((y_chunk3 D b x0 x3 x9 x10 h0 h3 h9 h10 _ _ _ _ _ _) r k).trans (by simp only [Nat.zero_add])) (agrees_cons (agrees_unit _ _ _ _ _ _ _ fun r k => ((y_chunk2 D b x0 x3 x9 x10 h0 h3 h9 h10 _ _ _ _ _ _) r k).trans (by simp only [Nat.zero_add])) (agrees_cons (agrees_unit _ _ _ _ _ _ _ fun r k => ((y_chunk1 D b x0 x3 x9 x10 h0 h3 h9 h10 _ _ _ _ _ _) r k).trans (by simp only [Nat.zero_add])) (agrees_cons (agrees_unit _ _ _ _ _ _ _ fun r k => ((y_chunk0 D b x0 x3 x9 x10 h0 h3 h9 h10 _ _ _ _ _ _) r k).trans (by simp only [Nat.zero_add])) (agrees_nil))))

/-- What a later point adds to the sums. -/
theorem out0_B_14_eq (Z : Nat → Nat → EReal) (hz : ∀ (j : Fin 8) (d : Fin 1024), xo14 (ix2 j d) = Z j d) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo14 = arr 8 1024 fun j d => Z j d + D.blk b j d := by
  funext y
  unfold out0_B_14
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  simp only [u_read D b arg16.view 14 _ (by omega) (by omega) _ _ _ _ _ (halo_pay D b i hb x4 x5 _ _ h45) (up_pay D b x1 x2 _ _ h1 h2),
    u_read D b arg16.view 15 _ (by omega) (by omega) _ _ _ _ _ (halo_pay D b i hb x4 x5 _ _ h45) (up_pay D b x1 x2 _ _ h1 h2),
    u_read D b arg16.view 16 _ (by omega) (by omega) _ _ _ _ _ (halo_pay D b i hb x4 x5 _ _ h45) (up_pay D b x1 x2 _ _ h1 h2)]
  simp only [y_read D b arg14.view _ _ _ _ _ _ _ _ _ (y_chunk0 D b x0 x3 x9 x10 h0 h3 h9 h10 _ _ _ _ _ _) (y_chunk1 D b x0 x3 x9 x10 h0 h3 h9 h10 _ _ _ _ _ _) (y_chunk2 D b x0 x3 x9 x10 h0 h3 h9 h10 _ _ _ _ _ _) (y_chunk3 D b x0 x3 x9 x10 h0 h3 h9 h10 _ _ _ _ _ _)]
  simp only [out_eq D b x6 h6]
  simp only [rs_eq D b x7 x8 h7 h8, nrm_eq D b x7 x8 h7 h8, fg_eq D x8 h8', dyf_eq D b x7 x11 x8 h7 h8 h8' h11]
  refine writes_of_agrees (Val := Elt Ideal) (e := .f32) _ _ (fun j d => Z j d + D.blk b j d) _ ?_ y fun hm => ?_
  rotate_left
  · have y1 : (y 1).val < 1024 := (y 1).isLt
    have y0 : (y 0).val < 8 := (y 0).isLt
    simp only [List.forall_mem_cons, mem_unit] at hm
    obtain ⟨n2, n0, n1, _⟩ := hm
    have e : 3 ≤ (y 0).val := by
      by_contra e
      by_cases e2 : (y 0).val = 2
      · exact n2 ⟨⟨by omega, by omega⟩, by omega, by omega⟩
      by_cases e1 : (y 0).val = 1
      · exact n1 ⟨⟨by omega, by omega⟩, by omega, by omega⟩
      exact n0 ⟨⟨by omega, by omega⟩, by omega, by omega⟩
    rw [harg15.read_unread]
    show _ = Z (y 0).val (y 1).val + D.blk b (y 0).val (y 1).val
    unfold Inp.blk
    rw [if_neg (by omega), if_neg (by omega), if_neg (by omega), add_zero, eq_ix2 y]
    exact hz (y 0) (y 1)
  refine agrees_cons (agrees_unit _ _ _ _ _ _ _ fun r d => ?_) ?_
  · have hr : r.val = 0 := by omega
    unfold k0_pay2
    simp only [dx_eq D b]
    try unfold k0_pay3
    pointwise [arr]
    simp only [hz, hr, Nat.add_zero, Nat.zero_add]
    rfl
  refine agrees_cons (agrees_unit _ _ _ _ _ _ _ fun r d => ?_) ?_
  · have hr : r.val = 0 := by omega
    unfold k0_pay27
    simp only [nrm_eq D b x7 x8 h7 h8, dyf_eq D b x7 x11 x8 h7 h8 h8' h11]
    try unfold k0_pay3
    pointwise [arr]
    simp only [hz, hr, Nat.add_zero, Nat.zero_add]
    rfl
  refine agrees_cons (agrees_unit _ _ _ _ _ _ _ fun r d => ?_) ?_
  · have hr : r.val = 0 := by omega
    unfold k0_pay25
    simp only [err_eq D b x7 x11 x8 h7 h8 h8' h11]
    try unfold k0_pay3
    pointwise [arr]
    simp only [hz, hr, Nat.add_zero, Nat.zero_add]
    rfl
  exact agrees_nil

end later

end Cert.OddOutBlock
-- ==== Proof.OddOutValue.lean ====
module

public import proofs.«01_k».proof.Defs
public import proofs.«01_k».proof.Proof.OddOutBlock
public import Idealize.ShloMosaic.Lib.Pipeline.ValueKit
public import Idealize.ShloMosaic.Lib.Claim
public import Idealize.ShloMosaic.Lib.StableHlo.RunRead

/-! What the odd layer's output call leaves: the gradient's rows, the gated rows and the sums over the rows. -/

@[expose] public section

set_option maxRecDepth 16384

noncomputable section

open Idealize.ShloMosaic Idealize.ShloMosaic.TcCoe Idealize.SL.Sem

namespace Cert.OddOutValue

open Cert.OddOutIdeal Cert.OddOutIdeal.Gen Cert.Pieces Cert.Forward Cert.OddOutBlock

/-- The call's arguments as tables. -/
def inpOf (x0 : (⟨2, ![4096, 8192]⟩ : Shape).Idx → EReal) (x1 : (⟨2, ![2048, 1024]⟩ : Shape).Idx → EReal)
    (x2 : (⟨2, ![4096, 1024]⟩ : Shape).Idx → EReal) (x6 x7 : (⟨1, ![1024]⟩ : Shape).Idx → EReal)
    (x8 : (⟨2, ![3, 2048]⟩ : Shape).Idx → EReal) (x9 : (⟨2, ![1, 2048]⟩ : Shape).Idx → EReal)
    (x10 : (⟨2, ![4096, 1024]⟩ : Shape).Idx → EReal) : Inp where
  P := tab 4096 8192 x0
  W := tab 2048 1024 x1
  X := tab 4096 1024 x2
  GA := row 1024 x6
  FG := row 1024 x7
  C := tab 3 2048 x8
  B := tab 1 2048 x9 0
  T := tab 4096 1024 x10

variable (m : (ℓ : Loc nD τ sig) → Buf (Elt Ideal) ℓ) (c : Dev nD)

/-- The arguments of one device as tables. -/
def inp : Inp :=
  inpOf (m ((c : Thread nD τ).loc main_arg0)) (m ((c : Thread nD τ).loc main_arg1)) (m ((c : Thread nD τ).loc main_arg2))
    (m ((c : Thread nD τ).loc main_arg6)) (m ((c : Thread nD τ).loc main_arg7)) (m ((c : Thread nD τ).loc main_arg8))
    (m ((c : Thread nD τ).loc main_arg9)) (m ((c : Thread nD τ).loc main_arg10))

/-- Where the window's block lies. -/
theorem index0 (t : Fin cfg0.N) : win0_0.index t = ![t.val, 0] := by revert t; decide +kernel

/-- The projection's first part of the rows that a point reads. -/
theorem block0 (t : Fin cfg0.N) (r : Fin 256) (k : Fin 2048) :
    iblk m c 0 t (ix2 r k) = (inp m c).P (256 * t.val + r) k := by
  have hN : t.val < 16 := lt_of_lt_of_eq t.isLt N_0
  have hk := k.isLt
  show _ = tab 4096 8192 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 256 + 1 * r.val = _; rw [index0]; show t.val * 256 + 1 * _ = 256 * _ + _; omega
  | ⟨1, _⟩ => show win0_0.index t 1 * 2048 + 1 * k.val = _; rw [index0]; show 0 * 2048 + 1 * _ = k.val; omega

/-- Where the window's block lies. -/
theorem index1 (t : Fin cfg0.N) : win0_1.index t = ![t.val, 1] := by revert t; decide +kernel

/-- The projection's second part of the rows that a point reads. -/
theorem block1 (t : Fin cfg0.N) (r : Fin 256) (k : Fin 2048) :
    iblk m c 1 t (ix2 r k) = (inp m c).P (256 * t.val + r) (2048 + k) := by
  have hN : t.val < 16 := lt_of_lt_of_eq t.isLt N_0
  have hk := k.isLt
  show _ = tab 4096 8192 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_1.index t 0 * 256 + 1 * r.val = _; rw [index1]; show t.val * 256 + 1 * _ = 256 * _ + _; omega
  | ⟨1, _⟩ => show win0_1.index t 1 * 2048 + 1 * k.val = _; rw [index1]; show 1 * 2048 + 1 * _ = 2048 + k.val; omega

/-- Where the window's block lies. -/
theorem index2 (t : Fin cfg0.N) : win0_2.index t = ![t.val, 2] := by revert t; decide +kernel

/-- The projection's third part of the rows that a point reads. -/
theorem block2 (t : Fin cfg0.N) (r : Fin 256) (k : Fin 2048) :
    iblk m c 2 t (ix2 r k) = (inp m c).P (256 * t.val + r) (4096 + k) := by
  have hN : t.val < 16 := lt_of_lt_of_eq t.isLt N_0
  have hk := k.isLt
  show _ = tab 4096 8192 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_2.index t 0 * 256 + 1 * r.val = _; rw [index2]; show t.val * 256 + 1 * _ = 256 * _ + _; omega
  | ⟨1, _⟩ => show win0_2.index t 1 * 2048 + 1 * k.val = _; rw [index2]; show 2 * 2048 + 1 * _ = 4096 + k.val; omega

/-- Where the window's block lies. -/
theorem index3 (t : Fin cfg0.N) : win0_3.index t = ![t.val, 3] := by revert t; decide +kernel

/-- The projection's fourth part of the rows that a point reads. -/
theorem block3 (t : Fin cfg0.N) (r : Fin 256) (k : Fin 2048) :
    iblk m c 3 t (ix2 r k) = (inp m c).P (256 * t.val + r) (6144 + k) := by
  have hN : t.val < 16 := lt_of_lt_of_eq t.isLt N_0
  have hk := k.isLt
  show _ = tab 4096 8192 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_3.index t 0 * 256 + 1 * r.val = _; rw [index3]; show t.val * 256 + 1 * _ = 256 * _ + _; omega
  | ⟨1, _⟩ => show win0_3.index t 1 * 2048 + 1 * k.val = _; rw [index3]; show 3 * 2048 + 1 * _ = 6144 + k.val; omega

/-- Where the block before the window's begins. -/
theorem index4 (t : Fin cfg0.N) : win0_4.index t 1 = 1 ∧ (0 < t.val → win0_4.index t 0 * 16 = 256 * t.val - 16) := by
  revert t; decide +kernel

/-- The rows before a point's own that it reads. -/
theorem block4 (t : Fin cfg0.N) (hb : 0 < t.val) (r : Fin 16) (k : Fin 2048) :
    iblk m c 4 t (ix2 r k) = (inp m c).P (256 * t.val - 16 + r) (2048 + k) := by
  have hN : t.val < 16 := lt_of_lt_of_eq t.isLt N_0
  have hk := k.isLt
  show _ = tab 4096 8192 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_4.index t 0 * 16 + 1 * r.val = _; rw [(index4 t).2 hb]; show _ + 1 * _ = 256 * _ - 16 + _; omega
  | ⟨1, _⟩ => show win0_4.index t 1 * 2048 + 1 * k.val = _; rw [(index4 t).1]; show 1 * 2048 + 1 * _ = 2048 + _; omega

/-- Where the block before the window's begins. -/
theorem index5 (t : Fin cfg0.N) : win0_5.index t 1 = 2 ∧ (0 < t.val → win0_5.index t 0 * 16 = 256 * t.val - 16) := by
  revert t; decide +kernel

/-- The rows before a point's own that it reads. -/
theorem block5 (t : Fin cfg0.N) (hb : 0 < t.val) (r : Fin 16) (k : Fin 2048) :
    iblk m c 5 t (ix2 r k) = (inp m c).P (256 * t.val - 16 + r) (4096 + k) := by
  have hN : t.val < 16 := lt_of_lt_of_eq t.isLt N_0
  have hk := k.isLt
  show _ = tab 4096 8192 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_5.index t 0 * 16 + 1 * r.val = _; rw [(index5 t).2 hb]; show _ + 1 * _ = 256 * _ - 16 + _; omega
  | ⟨1, _⟩ => show win0_5.index t 1 * 2048 + 1 * k.val = _; rw [(index5 t).1]; show 2 * 2048 + 1 * _ = 4096 + _; omega

/-- Where the window's block lies. -/
theorem index7 (t : Fin cfg0.N) : win0_7.index t = ![t.val, 0] := by revert t; decide +kernel

/-- The residual's rows that a point reads. -/
theorem block7 (t : Fin cfg0.N) (r : Fin 256) (k : Fin 1024) :
    iblk m c 7 t (ix2 r k) = (inp m c).X (256 * t.val + r) k := by
  have hN : t.val < 16 := lt_of_lt_of_eq t.isLt N_0
  have hk := k.isLt
  show _ = tab 4096 1024 (m ((c : Thread nD τ).loc main_arg2)) _ _
  rw [tab_at _ (by have := r.isLt; omega) (by omega)]
  unfold iblk
  rw [View.read_apply]
  refine (congrFun (V_main_arg2 m c) _).trans (congrArg (m ((c : Thread nD τ).loc main_arg2)) ?_)
  funext a; apply Fin.ext
  match a with
  | ⟨0, _⟩ => show win0_7.index t 0 * 256 + 1 * r.val = _; rw [index7]; show t.val * 256 + 1 * _ = 256 * _ + _; omega
  | ⟨1, _⟩ => show win0_7.index t 1 * 1024 + 1 * k.val = _; rw [index7]; show 0 * 1024 + 1 * _ = k.val; omega

/-- Where the window's block lies. -/
theorem index11 (t : Fin cfg0.N) : win0_11.index t = ![t.val, 0] := by revert t; decide +kernel

/-- The target's rows that a point reads. -/
theorem block11 (t : Fin cfg0.N) (r : Fin 256) (k : Fin 1024) :
    iblk m c 11 t (ix2 r k) = (inp m c).T (256 * t.val + r) k := by
  have hN : t.val < 16 := lt_of_lt_of_eq t.isLt N_0
  have hk := k.isLt
  show _ = tab 4096 1024 (m ((c : Thread nD τ).loc main_arg10)) _ _
  rw [tab_at _ (by have := r.isLt; omega) (by omega)]
  unfold iblk
  rw [View.read_apply]
  refine (congrFun (V_main_arg10 m c) _).trans (congrArg (m ((c : Thread nD τ).loc main_arg10)) ?_)
  funext a; apply Fin.ext
  match a with
  | ⟨0, _⟩ => show win0_11.index t 0 * 256 + 1 * r.val = _; rw [index11]; show t.val * 256 + 1 * _ = 256 * _ + _; omega
  | ⟨1, _⟩ => show win0_11.index t 1 * 1024 + 1 * k.val = _; rw [index11]; show 0 * 1024 + 1 * _ = k.val; omega

/-- The fourth row of the host's stack of vectors: the layer's gate. -/
theorem vec3 (d : Fin 1024) : V m c main_v7 (ix2 3 d) = m ((c : Thread nD τ).loc main_arg6) (ix1 d) := by
  unfold V
  after_reads_simp
  pointwise
  after_reads_simp
  pointwise
  done

/-- The fifth row of the host's stack of vectors: the last norm's weights. -/
theorem vec4 (d : Fin 1024) : V m c main_v7 (ix2 4 d) = m ((c : Thread nD τ).loc main_arg7) (ix1 d) := by
  unfold V
  after_reads_simp
  pointwise
  after_reads_simp
  pointwise
  done

/-- Every point reads the same weights. -/
theorem block6 (t : Fin cfg0.N) (r : Fin 2048) (k : Fin 1024) : iblk m c 6 t (ix2 r k) = V m c main_v10 (ix2 r k) := by
  have hi : win0_6.index t = ![0, 0] := by revert t; decide +kernel
  unfold iblk
  rw [View.read_apply]
  refine congrArg (V m c main_v10) ?_
  funext a; apply Fin.ext
  match a with
  | ⟨0, _⟩ => show win0_6.index t 0 * 2048 + 1 * r.val = _; rw [hi]; show 0 * 2048 + 1 * _ = r.val; omega
  | ⟨1, _⟩ => show win0_6.index t 1 * 1024 + 1 * k.val = _; rw [hi]; show 0 * 1024 + 1 * _ = k.val; omega

/-- Every point reads the same vectors. -/
theorem block8 (t : Fin cfg0.N) (r : Fin 8) (k : Fin 1024) : iblk m c 8 t (ix2 r k) = V m c main_v7 (ix2 r k) := by
  have hi : win0_8.index t = ![0, 0] := by revert t; decide +kernel
  unfold iblk
  rw [View.read_apply]
  refine congrArg (V m c main_v7) ?_
  funext a; apply Fin.ext
  match a with
  | ⟨0, _⟩ => show win0_8.index t 0 * 8 + 1 * r.val = _; rw [hi]; show 0 * 8 + 1 * _ = r.val; omega
  | ⟨1, _⟩ => show win0_8.index t 1 * 1024 + 1 * k.val = _; rw [hi]; show 0 * 1024 + 1 * _ = k.val; omega

/-- Every point reads the same taps. -/
theorem block9 (t : Fin cfg0.N) (r : Fin 8) (k : Fin 2048) : iblk m c 9 t (ix2 r k) = V m c main_v9 (ix2 r k) := by
  have hi : win0_9.index t = ![0, 0] := by revert t; decide +kernel
  unfold iblk
  rw [View.read_apply]
  refine congrArg (V m c main_v9) ?_
  funext a; apply Fin.ext
  match a with
  | ⟨0, _⟩ => show win0_9.index t 0 * 8 + 1 * r.val = _; rw [hi]; show 0 * 8 + 1 * _ = r.val; omega
  | ⟨1, _⟩ => show win0_9.index t 1 * 2048 + 1 * k.val = _; rw [hi]; show 0 * 2048 + 1 * _ = k.val; omega

/-- Every point reads the same bias. -/
theorem block10 (t : Fin cfg0.N) (r : Fin 1) (k : Fin 2048) : iblk m c 10 t (ix2 r k) = V m c main_arg9 (ix2 r k) := by
  have hi : win0_10.index t = ![0, 0] := by revert t; decide +kernel
  unfold iblk
  rw [View.read_apply]
  refine congrArg (V m c main_arg9) ?_
  funext a; apply Fin.ext
  match a with
  | ⟨0, _⟩ => show win0_10.index t 0 * 1 + 1 * r.val = _; rw [hi]; show 0 * 1 + 1 * _ = r.val; omega
  | ⟨1, _⟩ => show win0_10.index t 1 * 2048 + 1 * k.val = _; rw [hi]; show 0 * 2048 + 1 * _ = k.val; omega

/-- The weights that a point reads. -/
theorem weights (t : Fin cfg0.N) (k : Fin 2048) (d : Fin 1024) : iblk m c 6 t (ix2 k d) = (inp m c).W k d := by
  rw [block6]
  refine Eq.trans ?_ (tab_at (m ((c : Thread nD τ).loc main_arg1)) k.isLt d.isLt).symm
  unfold V
  after_reads_simp
  pointwise
  done

/-- The filter's taps that a point reads, with rows of zeros below. -/
theorem taps (t : Fin cfg0.N) (j : Fin 8) (k : Fin 2048) : iblk m c 9 t (ix2 j k) = (inp m c).C j k := by
  rw [block9]
  show _ = tab 3 2048 (m ((c : Thread nD τ).loc main_arg8)) _ _
  unfold V
  after_reads_simp
  pointwise
  by_cases h : j.val < 3
  · rw [dif_pos h, tab, dif_pos ⟨h, k.isLt⟩]
  · rw [dif_neg h, tab, dif_neg fun e => h e.1]

/-- The filter's bias that a point reads. -/
theorem bias (t : Fin cfg0.N) (k : Fin 2048) : iblk m c 10 t (ix2 0 k) = (inp m c).B k := by
  rw [block10, V_main_arg9]
  exact (tab_at _ Nat.one_pos k.isLt).symm

/-- The layer's gate that a point reads. -/
theorem gate (t : Fin cfg0.N) (d : Fin 1024) : iblk m c 8 t (ix2 3 d) = (inp m c).GA d :=
  (block8 m c t 3 d).trans ((vec3 m c d).trans (row_at _ d.isLt).symm)

/-- The last norm's weights that a point reads. -/
theorem final_g (t : Fin cfg0.N) (d : Fin 1024) : iblk m c 8 t (ix2 4 d) = (inp m c).FG d :=
  (block8 m c t 4 d).trans ((vec4 m c d).trans (row_at _ d.isLt).symm)

/-- The grid has one axis. -/
theorem coords (t : Fin cfg0.N) : (grid0.coords t 0).val = t.val := by revert t; decide +kernel

/-- What the staging buffers hold after a point. -/
def After (t : Fin cfg0.N) : Prop :=
  (outsAt0 m c t.val t.isLt).1 = arr 256 1024 (fun r d => (inp m c).dx (256 * t.val + r) d) ∧
  (outsAt0 m c t.val t.isLt).2.1 = arr 256 2048 (fun r k => (inp m c).y (256 * t.val + r) k) ∧
  (outsAt0 m c t.val t.isLt).2.2 = arr 8 1024 (fun j d => ∑ b ∈ Finset.range (t.val + 1), (inp m c).blk b j d)

/-- The first point's rows. -/
theorem at_out0_A_12 (t : Fin cfg0.N) (ht : t.val % 16 = 0) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = arr 256 1024 (fun r d => (inp m c).dx (256 * t.val + r) d) :=
  out0_A_12_eq _ _ _ _ _ _ _ _ _ _ _ _ _ _ _ _ _ _ _ _ _ _ _ _ _ _ _ _ _ _ _ _ _ _ _ _ _ _ _ _ _ _ _ _ _ _ _ (inp m c) t.val (coords t) (block0 m c t) (block1 m c t) (block2 m c t) (block3 m c t) (fun r k hb => ⟨block4 m c t hb r k, block5 m c t hb r k⟩) (weights m c t) (block7 m c t) (gate m c t) (final_g m c t) (taps m c t) (bias m c t) (block11 m c t)

/-- The first point's gated rows. -/
theorem at_out0_A_13 (t : Fin cfg0.N) (ht : t.val % 16 = 0) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = arr 256 2048 (fun r k => (inp m c).y (256 * t.val + r) k) :=
  out0_A_13_eq _ _ _ _ _ _ _ _ _ _ _ _ _ _ _ _ _ _ _ _ _ _ _ _ _ _ _ _ _ _ _ _ _ _ _ _ _ _ _ _ _ _ _ _ _ _ _ (inp m c) t.val (coords t) (block0 m c t) (block1 m c t) (block2 m c t) (block3 m c t) (fun r k hb => ⟨block4 m c t hb r k, block5 m c t hb r k⟩) (weights m c t) (block7 m c t) (gate m c t) (final_g m c t) (taps m c t) (bias m c t) (block11 m c t)

/-- The first point's sums. -/
theorem at_out0_A_14 (t : Fin cfg0.N) (ht : t.val % 16 = 0) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = arr 8 1024 (fun j d => (inp m c).blk t.val j d) :=
  out0_A_14_eq _ _ _ _ _ _ _ _ _ _ _ _ _ _ _ _ _ _ _ _ _ _ _ _ _ _ _ _ _ _ _ _ _ _ _ _ _ _ _ _ _ _ _ _ _ _ _ (inp m c) t.val (coords t) (block0 m c t) (block1 m c t) (block2 m c t) (block3 m c t) (fun r k hb => ⟨block4 m c t hb r k, block5 m c t hb r k⟩) (weights m c t) (block7 m c t) (gate m c t) (final_g m c t) (taps m c t) (bias m c t) (block11 m c t)

/-- A later point's rows. -/
theorem at_out0_B_12 (t : Fin cfg0.N) (ht : ¬t.val % 16 = 0) (xo14 : Vec Ideal S8x1024 .f32) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xo14 = arr 256 1024 (fun r d => (inp m c).dx (256 * t.val + r) d) :=
  out0_B_12_eq _ _ _ _ _ _ _ _ _ _ _ _ _ _ _ _ _ _ _ _ _ _ _ _ _ _ _ _ _ _ _ _ _ _ _ _ _ _ _ _ _ _ _ _ _ _ _ _ (inp m c) t.val (coords t) (block0 m c t) (block1 m c t) (block2 m c t) (block3 m c t) (fun r k hb => ⟨block4 m c t hb r k, block5 m c t hb r k⟩) (weights m c t) (block7 m c t) (gate m c t) (final_g m c t) (taps m c t) (bias m c t) (block11 m c t)

/-- A later point's gated rows. -/
theorem at_out0_B_13 (t : Fin cfg0.N) (ht : ¬t.val % 16 = 0) (xo14 : Vec Ideal S8x1024 .f32) :
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xo14 = arr 256 2048 (fun r k => (inp m c).y (256 * t.val + r) k) :=
  out0_B_13_eq _ _ _ _ _ _ _ _ _ _ _ _ _ _ _ _ _ _ _ _ _ _ _ _ _ _ _ _ _ _ _ _ _ _ _ _ _ _ _ _ _ _ _ _ _ _ _ _ (inp m c) t.val (coords t) (block0 m c t) (block1 m c t) (block2 m c t) (block3 m c t) (fun r k hb => ⟨block4 m c t hb r k, block5 m c t hb r k⟩) (weights m c t) (block7 m c t) (gate m c t) (final_g m c t) (taps m c t) (bias m c t) (block11 m c t)

/-- A later point's sums. -/
theorem at_out0_B_14 (t : Fin cfg0.N) (ht : ¬t.val % 16 = 0) (xo14 : Vec Ideal S8x1024 .f32)
    (Z : Nat → Nat → EReal) (hz : ∀ (j : Fin 8) (d : Fin 1024), xo14 (ix2 j d) = Z j d) :
    out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xo14 = arr 8 1024 (fun j d => Z j d + (inp m c).blk t.val j d) :=
  out0_B_14_eq _ _ _ _ _ _ _ _ _ _ _ _ _ _ _ _ _ _ _ _ _ _ _ _ _ _ _ _ _ _ _ _ _ _ _ _ _ _ _ _ _ _ _ _ _ _ _ _ (inp m c) t.val (coords t) (block0 m c t) (block1 m c t) (block2 m c t) (block3 m c t) (fun r k hb => ⟨block4 m c t hb r k, block5 m c t hb r k⟩) (weights m c t) (block7 m c t) (gate m c t) (final_g m c t) (taps m c t) (bias m c t) (block11 m c t) Z hz

/-- After the first point. -/
theorem after_A (t : Fin cfg0.N) (ht : t.val % 16 = 0) : After m c t := by
  have hN : cfg0.N = 16 := N_0
  have t0 : t.val = 0 := by have := t.isLt; omega
  have e := outsAt0_A m c t ht
  rw [at_out0_A_12 m c t ht, at_out0_A_13 m c t ht, at_out0_A_14 m c t ht] at e
  unfold After
  rw [e]
  refine ⟨rfl, rfl, ?_⟩
  rw [t0]
  simp only [zero_add, Finset.sum_range_one]

/-- After a later point, from the point before. -/
theorem after_B (t : Fin cfg0.N) (ht : ¬t.val % 16 = 0)
    (ih : After m c ⟨t.val - 1, Nat.lt_of_le_of_lt (Nat.sub_le _ _) t.isLt⟩) : After m c t := by
  have hN : cfg0.N = 16 := N_0
  have tl : t.val < 16 := by have := t.isLt; omega
  obtain ⟨-, -, i3⟩ := ih
  have hz : ∀ (j : Fin 8) (d : Fin 1024), (outsAt0 m c (t.val - 1) (Nat.lt_of_le_of_lt (Nat.sub_le _ _) t.isLt)).2.2 (ix2 j d)
      = (fun j d => ∑ b ∈ Finset.range t.val, (inp m c).blk b j d) j d := by
    intro j d
    refine (congrFun i3 (ix2 j d)).trans ?_
    show ∑ b ∈ Finset.range (t.val - 1 + 1), _ = _
    rw [show t.val - 1 + 1 = t.val by omega]
    rfl
  have e := outsAt0_B m c t ht
  rw [at_out0_B_12 m c t ht, at_out0_B_13 m c t ht, at_out0_B_14 m c t ht _ (fun j d => ∑ b ∈ Finset.range t.val, (inp m c).blk b j d) hz] at e
  unfold After
  rw [e]
  refine ⟨rfl, rfl, ?_⟩
  simp only [Finset.sum_range_succ]

/-- After every point. -/
theorem after_all : ∀ (n : Nat) (h : n < cfg0.N), After m c ⟨n, h⟩
  | 0, h => after_A m c ⟨0, h⟩ rfl
  | n + 1, h => by
    have hN : cfg0.N = 16 := N_0
    exact after_B m c ⟨n + 1, h⟩ (by show ¬(n + 1) % 16 = 0; omega) (after_all n (by omega))

/-- Where the window's block lies. -/
theorem index12 (t : Fin cfg0.N) : win0_12.index t = ![t.val, 0] := by revert t; decide +kernel

/-- The gradient in the residual stream, whole. -/
theorem final12 : (dats m 0 c).arrAt 12 cfg0.N = arr 4096 1024 (inp m c).dx := by
  refine (dats m 0 c).arrAt_eq_of_covers 12 _ (by decide +kernel) fun t hf y => ?_
  blk_simp
  rw [after0_12, (after_all m c t.val t.isLt).1]
  unfold arr
  blk_simp [index12]
  rw [Nat.mul_comm 256]

/-- Where the window's block lies. -/
theorem index13 (t : Fin cfg0.N) : win0_13.index t = ![t.val, 0] := by revert t; decide +kernel

/-- The gated rows, whole. -/
theorem final13 : (dats m 0 c).arrAt 13 cfg0.N = arr 4096 2048 (inp m c).y := by
  refine (dats m 0 c).arrAt_eq_of_covers 13 _ (by decide +kernel) fun t hf y => ?_
  blk_simp
  rw [after0_13, (after_all m c t.val t.isLt).2.1]
  unfold arr
  blk_simp [index13]
  rw [Nat.mul_comm 256]

/-- The sums over the rows, whole. -/
theorem final14 : (dats m 0 c).arrAt 14 cfg0.N =
    arr 8 1024 fun j d => ∑ b ∈ Finset.range 16, (inp m c).blk b j d := by
  refine (dats m 0 c).arrAt_eq_of_after_last 14 t0_15 (by decide +kernel) _ fun j => ?_
  blk_simp
  rw [after0_14, (after_all m c t0_15.val t0_15.isLt).2.2]
  rfl

end Cert.OddOutValue
-- ==== Proof.OddOut.lean ====
module

public import proofs.«01_k».proof.Defs
public import proofs.«01_k».proof.Proof.OddOutValue
public import proofs.«01_k».proof.Proof.Gen.OddOutRefIdeal.Read
public import proofs.«01_k».proof.Proof.Gen.OddOutRefIdeal.Run
public import Idealize.ShloMosaic.Lib.Quiescent

/-! The odd layer's output call and the reference leave the same arrays. -/

@[expose] public section

set_option maxRecDepth 16384

noncomputable section

open Idealize.ShloMosaic Idealize.ShloMosaic.TcCoe Idealize.SL.Sem

namespace Cert.OddOutBlock.Inp

open Cert.NormGrad

variable (D : Inp)

/-- The sums over all rows. -/
def tot (j d : Nat) : EReal :=
  if j = 0 then ∑ R : Fin 4096, D.dyf R d * D.nrm R d
  else if j = 1 then (∑ R : Fin 4096, D.err R d * D.err R d) * halfinv
  else if j = 2 then ∑ R : Fin 4096, D.dx R d * D.out R d
  else 0

variable {D}

/-- A square is not negative. -/
theorem sq_nonneg (x : EReal) : 0 ≤ x * x := by
  rcases le_total 0 x with h | h
  · exact mul_nonneg h h
  · rw [← neg_mul_neg]
    exact mul_nonneg (EReal.neg_nonneg.2 h) (EReal.neg_nonneg.2 h)

/-- The mean of the squares with the constant is a positive real or plus infinity. -/
theorem ms_cases (R : Nat) : (∃ v : ℝ, 0 < v ∧ D.ms R = (v : EReal)) ∨ D.ms R = ⊤ := by
  obtain ⟨e, he, ee⟩ := eps_eq
  have h0 : (0 : EReal) ≤ Ideal.div (∑ d : Fin 1024, D.x2 R d * D.x2 R d) len := by
    rw [len_eq, Ideal.div_coe (by norm_num)]
    exact mul_nonneg (Finset.sum_nonneg fun d _ => sq_nonneg _) (EReal.coe_nonneg.2 (by norm_num))
  have h : (e : EReal) ≤ D.ms R := by
    unfold Inp.ms
    rw [ee]
    exact le_add_of_nonneg_left h0
  generalize D.ms R = x at h
  induction x using EReal.rec with
  | bot => exact absurd h (by simp)
  | coe v => exact .inl ⟨v, lt_of_lt_of_le he (EReal.coe_le_coe_iff.1 h), rfl⟩
  | top => exact .inr rfl

/-- A real factor that is not negative leaves a finite sum, whatever its terms. -/
theorem sum_mul_nonneg {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top _), ih]

/-- A number added to itself. -/
theorem add_self (a : EReal) : a + a = a * ((2 : ℝ) : EReal) := by
  induction a using EReal.rec with
  | bot => rw [EReal.bot_mul_coe_of_pos (by norm_num)]; rfl
  | coe v => rw [← EReal.coe_add, ← EReal.coe_mul, mul_two]
  | top => rw [EReal.top_mul_coe_of_pos (by norm_num)]; rfl

/-- The word for one over the row's length. -/
theorem inv_eq : inv = ((1 / 1024 : ℝ) : EReal) := by
  unfold inv
  simp [Ideal.ofBits, Ideal.ieee, -EReal.coe_mul]
  norm_num

/-- The word for one over twice the row's length. -/
theorem halfinv_eq : halfinv = ((1 / 2048 : ℝ) : EReal) := by
  unfold halfinv
  simp [Ideal.ofBits, Ideal.ieee, -EReal.coe_mul]
  norm_num

/-- The word for two. -/
theorem two_eq : Ideal.ofBits .f32 0x40000000#32 = ((2 : ℝ) : EReal) := by
  simp [Ideal.ofBits, Ideal.ieee, -EReal.coe_mul]
  norm_num

/-- The word for one half. -/
theorem half_word : Ideal.ofBits .f32 0x3F000000#32 = ((1 / 2 : ℝ) : EReal) := by
  simp [Ideal.ofBits, Ideal.ieee, -EReal.coe_mul]
  norm_num

/-- Half a mean square's derivative, as the chain rule leaves it. -/
theorem dyf_word (R d : Nat) :
    Ideal.div (Ideal.ofBits .f32 0x3F000000#32) len * (Ideal.ofBits .f32 0x40000000#32 * D.err R d) = D.dyf R d := by
  rw [half_word, two_eq, len_eq, Ideal.div_coe (by norm_num), ← mul_assoc]
  unfold Inp.dyf
  rw [inv_eq, mul_comm (D.err R d), ← EReal.coe_mul, ← EReal.coe_mul]
  norm_num

/-- Half the sum of the mean squares. -/
theorem loss_word (d : Nat) :
    Ideal.ofBits .f32 0x3F000000#32 * ∑ R : Fin 4096, Ideal.div (D.err R d * D.err R d) len
      = (∑ R : Fin 4096, D.err R d * D.err R d) * halfinv := by
  rw [half_word, len_eq, halfinv_eq]
  simp only [Ideal.div_coe (show (1024 : ℝ) ≠ 0 by norm_num)]
  rw [← sum_mul_nonneg _ _ (by norm_num), mul_comm, mul_assoc, ← EReal.coe_mul]
  norm_num

/-- The derivative of the norm as the chain rule leaves it. -/
theorem dx_word (R d : Nat) :
    (D.dn R d * D.rs R
        + D.x2 R d * Ideal.div ((∑ e : Fin 1024, D.x2 R e * D.dn R e)
            * (Ideal.ofBits .f32 0xBF000000#32 * Ideal.div (D.rs R) (D.ms R))) len)
      + Ideal.div ((∑ e : Fin 1024, D.x2 R e * D.dn R e)
            * (Ideal.ofBits .f32 0xBF000000#32 * Ideal.div (D.rs R) (D.ms R))) len * D.x2 R d
      = D.dx R d := by
  unfold Inp.dx Inp.nrm
  rcases ms_cases (D := D) R with ⟨v, hv, ev⟩ | ev
  · obtain ⟨r, hr, hrv, er⟩ : ∃ r : ℝ, 0 ≤ r ∧ r * r * v = 1 ∧ D.rs R = (r : EReal) := by
      refine ⟨(Real.sqrt v)⁻¹, by positivity, ?_, ?_⟩
      · have := Real.mul_self_sqrt hv.le
        have h0 : Real.sqrt v ≠ 0 := (Real.sqrt_pos.2 hv).ne'
        field_simp
        linarith [this, sq (Real.sqrt v)]
      · unfold Inp.rs
        rw [ev, Ideal.rsqrt_coe, if_neg (not_lt.2 hv.le), if_neg hv.ne']
    have e1 : ∑ e : Fin 1024, D.dn R e * (D.x2 R e * (r : EReal)) = (∑ e : Fin 1024, D.x2 R e * D.dn R e) * (r : EReal) := by
      rw [sum_mul_nonneg _ _ hr]
      exact Finset.sum_congr rfl fun e _ => by rw [← mul_assoc, mul_comm (D.dn R e)]
    rw [er, ev, Cert.NormGrad.Inp.mhalf_eq, len_eq, e1, Ideal.div_coe hv.ne', Ideal.div_coe (by norm_num),
      Ideal.div_coe (by norm_num)]
    generalize ∑ e : Fin 1024, D.x2 R e * D.dn R e = S
    generalize D.x2 R d = x
    generalize D.dn R d = y
    rw [sub_eq_add_neg, EReal.left_distrib_of_nonneg_of_ne_top (EReal.coe_nonneg.2 hr) (EReal.coe_ne_top _),
      mul_comm _ x, add_assoc, add_self, mul_comm (r : EReal) y]
    congr 1
    have l : x * (S * (((-(1 / 2) : ℝ) : EReal) * ((r : EReal) * ((1 / v : ℝ) : EReal))) * ((1 / 1024 : ℝ) : EReal)) * ((2 : ℝ) : EReal)
        = x * S * ((-(1 / 2) * (r * (1 / v)) * (1 / 1024) * 2 : ℝ) : EReal) := by
      simp only [EReal.coe_mul, mul_assoc]
    have k : (r : EReal) * -(x * (r : EReal) * (S * (r : EReal) * ((1 / 1024 : ℝ) : EReal)))
        = x * S * ((-(r * r * r * (1 / 1024)) : ℝ) : EReal) := by
      rw [EReal.coe_neg, mul_neg, mul_neg]
      congr 1
      simp only [EReal.coe_mul]
      ac_rfl
    rw [l, k]
    congr 2
    have e2 : 1 / v = r * r := by field_simp; linarith
    rw [e2]
    ring
  · have er : D.rs R = 0 := by unfold Inp.rs; rw [ev]; rfl
    have ed : Ideal.div (0 : EReal) ⊤ = 0 := by simp [Ideal.div]
    rw [er, ev, ed, len_eq, Ideal.div_coe (by norm_num)]
    simp

/-- The blocks' sums make the whole sums. -/
theorem sum_blk (j d : Nat) : ∑ b ∈ Finset.range 16, D.blk b j d = D.tot j d := by
  have S : ∀ f : Nat → EReal, ∑ b ∈ Finset.range 16, ∑ r : Fin 256, f (256 * b + r) = ∑ R : Fin 4096, f R := fun f => by
    rw [Cert.Pieces.sum_blocks f 256 16]; exact Finset.sum_range f
  unfold blk tot
  by_cases h0 : j = 0
  · simp only [if_pos h0]; exact S fun R => D.dyf R d * D.nrm R d
  simp only [if_neg h0]
  by_cases h1 : j = 1
  · simp only [if_pos h1]
    rw [← S fun R => D.err R d * D.err R d, halfinv_eq, sum_mul_nonneg _ _ (by norm_num)]
  simp only [if_neg h1]
  by_cases h2 : j = 2
  · simp only [if_pos h2]; exact S fun R => D.dx R d * D.out R d
  simp only [if_neg h2, Finset.sum_const_zero]

end Cert.OddOutBlock.Inp

namespace Cert.OddOutClaim

open Cert.OddOutRefIdeal Cert.OddOutRefIdeal.Read Cert.Pieces Cert.Forward Cert.OddOutBlock
open Cert.NormGrad (len eps)
open Cert.OddOutValue (inpOf inp final12 final13 final14)

section reference

variable (x0 : (⟨S4096x8192, .bf16⟩ : BufTy).Contents (Elt Ideal)) (x1 : (⟨S2048x1024, .f32⟩ : BufTy).Contents (Elt Ideal))
  (x2 : (⟨S4096x1024, .f32⟩ : BufTy).Contents (Elt Ideal)) (x6 x7 : (⟨S1024, .f32⟩ : BufTy).Contents (Elt Ideal))
  (x8 : (⟨S3x2048, .f32⟩ : BufTy).Contents (Elt Ideal)) (x9 : (⟨S1x2048, .f32⟩ : BufTy).Contents (Elt Ideal))
  (x10 : (⟨S4096x1024, .f32⟩ : BufTy).Contents (Elt Ideal))

local notation "D" => inpOf x0 x1 x2 x6 x7 x8 x9 x10

/-- The projection. -/
theorem eP (R : Fin 4096) (k : Fin 8192) : x0 (ix2 R k) = (D).P R k := (tab_at x0 R.isLt k.isLt).symm

/-- The weights. -/
theorem eW (k : Fin 2048) (d : Fin 1024) : x1 (ix2 k d) = (D).W k d := (tab_at x1 k.isLt d.isLt).symm

/-- The residual. -/
theorem eX (R : Fin 4096) (d : Fin 1024) : x2 (ix2 R d) = (D).X R d := (tab_at x2 R.isLt d.isLt).symm

/-- The layer's gate. -/
theorem eGA (d : Fin 1024) : x6 (ix1 d) = (D).GA d := (row_at x6 d.isLt).symm

/-- The last norm's weights. -/
theorem eFG (d : Fin 1024) : x7 (ix1 d) = (D).FG d := (row_at x7 d.isLt).symm

/-- The filter's taps. -/
theorem eC (j : Fin 3) (k : Fin 2048) : x8 (ix2 j k) = (D).C j k := (tab_at x8 j.isLt k.isLt).symm

/-- The filter's bias. -/
theorem eB (k : Fin 2048) : x9 (ix2 0 k) = (D).B k := (tab_at x9 Nat.zero_lt_one k.isLt).symm

/-- The target. -/
theorem eT (R : Fin 4096) (d : Fin 1024) : x10 (ix2 R d) = (D).T R d := (tab_at x10 R.isLt d.isLt).symm

/-- The filter's input, two rows late. -/
theorem v7_at (q : Fin 4098) (k : Fin 2048) : val_main_v7 (F := Ideal) x0 (ix2 q k) = (D).o.up q k := by
  pointwise [val_main_v7, val_main_v6, val_main_cst, val_main_v5, val_main_v2, val_main_v3, val_main_v0]
  simp only [eP x0 x1 x2 x6 x7 x8 x9 x10]
  rfl

/-- The filter's output. -/
theorem v31_at (R : Fin 4096) (k : Fin 2048) : val_main_v31 (F := Ideal) x0 x8 x9 (ix2 R k) = (D).o.cv R k := by
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst_0]
  simp only [v7_at x0 x1 x2 x6 x7 x8 x9 x10, eC x0 x1 x2 x6 x7 x8 x9 x10, eB x0 x1 x2 x6 x7 x8 x9 x10, mul_comm ((D).o.up _ _), add_comm 1 R.val, add_comm 2 R.val, ← add_assoc]
  rfl

/-- The gated rows. -/
theorem v34_at (R : Fin 4096) (k : Fin 2048) : val_main_v34 (F := Ideal) x0 x8 x9 (ix2 R k) = (D).y R k := by
  pointwise [val_main_v34, val_main_v33, val_main_v32, val_main_v1, val_main_v4, val_main_v0, val_main_call0_v0, val_main_call0_v1, val_main_call0_v2, val_main_call0_v3, val_main_call0_v4, val_main_call0_v5, val_main_call0_cst, val_main_call0_cst_0]
  rw [v31_at x0 x1 x2 x6 x7 x8 x9 x10, eP x0 x1 x2 x6 x7 x8 x9 x10, eP x0 x1 x2 x6 x7 x8 x9 x10, ← logistic]
  rfl

/-- Their product with the weights. -/
theorem v35_at (R : Fin 4096) (d : Fin 1024) : val_main_v35 (F := Ideal) x0 x1 x8 x9 (ix2 R d) = (D).out R d := by
  pointwise [val_main_v35]
  simp only [v34_at x0 x1 x2 x6 x7 x8 x9 x10, eW x0 x1 x2 x6 x7 x8 x9 x10]
  rfl

/-- The residual stream after the layer. -/
theorem v41_at (R : Fin 4096) (d : Fin 1024) : val_main_v41 (F := Ideal) x0 x1 x2 x6 x8 x9 (ix2 R d) = (D).x2 R d := by
  pointwise [val_main_v41, val_main_v40, val_main_v39, val_main_v38, val_main_v37, val_main_v36, val_main_cst_1]
  rw [v35_at x0 x1 x2 x6 x7 x8 x9 x10, eX x0 x1 x2 x6 x7 x8 x9 x10, eGA x0 x1 x2 x6 x7 x8 x9 x10]
  rfl

/-- The mean of the squares and the constant. -/
theorem v48_at (R : Fin 4096) : val_main_v48 (F := Ideal) x0 x1 x2 x6 x8 x9 (ix2 R 0) = (D).ms R := by
  pointwise [val_main_v48, val_main_v47, val_main_v46, val_main_v45, val_main_v44, val_main_v43, val_main_v42, val_main_cst_2, val_main_cst_3, val_main_cst_4]
  simp only [v41_at x0 x1 x2 x6 x7 x8 x9 x10]
  rfl

/-- One over the root. -/
theorem v49_at (R : Fin 4096) : val_main_v49 (F := Ideal) x0 x1 x2 x6 x8 x9 (ix2 R 0) = (D).rs R := by
  pointwise [val_main_v49]
  rw [v48_at x0 x1 x2 x6 x7 x8 x9 x10]
  rfl

/-- The normed rows. -/
theorem v54_at (R : Fin 4096) (d : Fin 1024) : val_main_v54 (F := Ideal) x0 x1 x2 x6 x8 x9 (ix2 R d) = (D).nrm R d := by
  pointwise [val_main_v54, val_main_v53]
  rw [v41_at x0 x1 x2 x6 x7 x8 x9 x10, v49_at x0 x1 x2 x6 x7 x8 x9 x10]
  rfl

/-- The distance from the target. -/
theorem v58_at (R : Fin 4096) (d : Fin 1024) : val_main_v58 (F := Ideal) x0 x1 x2 x6 x7 x8 x9 x10 (ix2 R d) = (D).err R d := by
  pointwise [val_main_v58, val_main_v57, val_main_v56, val_main_v55]
  rw [v54_at x0 x1 x2 x6 x7 x8 x9 x10, eFG x0 x1 x2 x6 x7 x8 x9 x10, eT x0 x1 x2 x6 x7 x8 x9 x10]
  rfl

/-- The loss's derivative in the result. -/
theorem v73_at (R : Fin 4096) (d : Fin 1024) : val_main_v73 (F := Ideal) x0 x1 x2 x6 x7 x8 x9 x10 (ix2 R d) = (D).dyf R d := by
  pointwise [val_main_v73, val_main_v72, val_main_v71, val_main_v70, val_main_v69, val_main_v68, val_main_v67, val_main_v61, val_main_v60, val_main_cst_6, val_main_cst_10, val_main_cst_11, val_main_cst_12]
  rw [v58_at x0 x1 x2 x6 x7 x8 x9 x10]
  try rw [mul_one]
  exact Inp.dyf_word R d

/-- The derivative in the normed row. -/
theorem v78_at (R : Fin 4096) (d : Fin 1024) : val_main_v78 (F := Ideal) x0 x1 x2 x6 x7 x8 x9 x10 (ix2 R d) = (D).dn R d := by
  pointwise [val_main_v78, val_main_v77, val_main_v55]
  rw [v73_at x0 x1 x2 x6 x7 x8 x9 x10, eFG x0 x1 x2 x6 x7 x8 x9 x10]
  rfl

/-- The reference's gated rows. -/
theorem y_eq : val_main_v98 (F := Ideal) x0 x8 x9 = arr 4096 2048 (D).y := by
  funext i
  obtain ⟨R, k, rfl⟩ : ∃ (R : Fin 4096) (k : Fin 2048), i = ix2 R k := ⟨i 0, i 1, eq_ix2 i⟩
  pointwise [val_main_v98, arr]
  exact v34_at x0 x1 x2 x6 x7 x8 x9 x10 R k

/-- The derivative in the residual stream. -/
theorem v93_at (R : Fin 4096) (d : Fin 1024) : val_main_v93 (F := Ideal) x0 x1 x2 x6 x7 x8 x9 x10 (ix2 R d) = (D).dx R d := by
  pointwise [val_main_v93, val_main_v92, val_main_v91, val_main_v90, val_main_v89, val_main_v88, val_main_v87, val_main_v86, val_main_v85, val_main_v84, val_main_v83, val_main_v82, val_main_v81, val_main_v80, val_main_v52, val_main_v51, val_main_v50, val_main_cst_5, val_main_cst_15, val_main_cst_16, val_main_cst_17]
  simp only [Finset.univ_unique, Finset.sum_singleton, Fin.default_eq_zero, v78_at x0 x1 x2 x6 x7 x8 x9 x10, v49_at x0 x1 x2 x6 x7 x8 x9 x10, v48_at x0 x1 x2 x6 x7 x8 x9 x10, v41_at x0 x1 x2 x6 x7 x8 x9 x10]
  exact Inp.dx_word R d

/-- The reference's gradient in the residual stream. -/
theorem rows_eq : val_main_v93 (F := Ideal) x0 x1 x2 x6 x7 x8 x9 x10 = arr 4096 1024 (D).dx := by
  funext i
  obtain ⟨R, d, rfl⟩ : ∃ (R : Fin 4096) (d : Fin 1024), i = ix2 R d := ⟨i 0, i 1, eq_ix2 i⟩
  exact v93_at x0 x1 x2 x6 x7 x8 x9 x10 R d

/-- The row of the gradient of the last norm's weights. -/
theorem v99_at (d : Fin 1024) : val_main_v99 (F := Ideal) x0 x1 x2 x6 x7 x8 x9 x10 (ix2 0 d) = (D).tot 0 d := by
  pointwise [val_main_v99, val_main_v79, val_main_v76, val_main_v75, val_main_v74, val_main_cst_13, val_main_cst_14]
  simp only [Finset.univ_unique, Finset.sum_singleton, v54_at x0 x1 x2 x6 x7 x8 x9 x10, v73_at x0 x1 x2 x6 x7 x8 x9 x10, mul_comm ((D).nrm _ _)]
  rfl

/-- The row of the loss. -/
theorem v100_at (d : Fin 1024) : val_main_v100 (F := Ideal) x0 x1 x2 x6 x7 x8 x9 x10 (ix2 0 d) = (D).tot 1 d := by
  pointwise [val_main_v100, val_main_v66, val_main_v65, val_main_v64, val_main_v63, val_main_v62, val_main_v59, val_main_cst_7, val_main_cst_8, val_main_cst_9]
  simp only [v58_at x0 x1 x2 x6 x7 x8 x9 x10]
  exact Inp.loss_word d

/-- The row of the gate's gradient. -/
theorem v101_at (d : Fin 1024) : val_main_v101 (F := Ideal) x0 x1 x2 x6 x7 x8 x9 x10 (ix2 0 d) = (D).tot 2 d := by
  pointwise [val_main_v101, val_main_v97, val_main_v96, val_main_v95, val_main_v94, val_main_cst_18, val_main_cst_19]
  simp only [Finset.univ_unique, Finset.sum_singleton, v93_at x0 x1 x2 x6 x7 x8 x9 x10, v35_at x0 x1 x2 x6 x7 x8 x9 x10]
  rfl

/-- The reference's sums. -/
theorem sums_eq : val_main_v104 (F := Ideal) x0 x1 x2 x6 x7 x8 x9 x10 = arr 8 1024 (D).tot := by
  funext y
  obtain ⟨j, d, rfl⟩ : ∃ (j : Fin 8) (d : Fin 1024), y = ix2 j d := ⟨y 0, y 1, eq_ix2 y⟩
  pointwise [val_main_v104, val_main_v103, val_main_v102, val_main_cst_20, arr]
  by_cases h0 : j.val = 0
  · have e : j = 0 := Fin.ext h0
    subst e
    simpa using v99_at x0 x1 x2 x6 x7 x8 x9 x10 d
  by_cases h1 : j.val = 1
  · have e : j = 1 := Fin.ext h1
    subst e
    simpa using v100_at x0 x1 x2 x6 x7 x8 x9 x10 d
  by_cases h2 : j.val = 2
  · have e : j = 2 := Fin.ext h2
    subst e
    simpa using v101_at x0 x1 x2 x6 x7 x8 x9 x10 d
  rw [dif_neg (by omega)]
  simp [Inp.tot, h0, h1, h2]

end reference

/-- The kernel and the reference end with the same three arrays. -/
theorem algebraic : Cert.algebraic_OddOutIdeal_OddOutRefIdeal := by
  intro m g m' g' _ hargs
  refine ⟨fun c => arr 4096 1024 (inp m c).dx, fun c => arr 4096 2048 (inp m c).y,
    fun c => arr 8 1024 fun j d => ∑ b ∈ Finset.range 16, (inp m c).blk b j d, ?_, ?_⟩
  · refine (θ_run _ _ _).mono (fun r h c => ?_) (Cert.OddOutIdeal.Value.run_blocks (F := Ideal) m g)
    obtain ⟨e0, e1, e2, hk⟩ := h c
    exact ⟨e0.trans (final12 m c), e1.trans (final13 m c), e2.trans (final14 m c), hk⟩
  · refine (θ_run _ _ _).mono (fun r h c => ?_) (Cert.OddOutRefIdeal.Value.run (F := Ideal) m' g')
    obtain ⟨e0, e1, e2, hk⟩ := h c
    obtain ⟨a0, a1, a2, -, -, -, a6, a7, a8, a9, a10⟩ := hargs c
    have v0 := rows_eq (m ((c.tc : Thread _ _).loc OddOutIdeal.main_arg0)) (m ((c.tc : Thread _ _).loc OddOutIdeal.main_arg1)) (m ((c.tc : Thread _ _).loc OddOutIdeal.main_arg2)) (m ((c.tc : Thread _ _).loc OddOutIdeal.main_arg6)) (m ((c.tc : Thread _ _).loc OddOutIdeal.main_arg7)) (m ((c.tc : Thread _ _).loc OddOutIdeal.main_arg8)) (m ((c.tc : Thread _ _).loc OddOutIdeal.main_arg9)) (m ((c.tc : Thread _ _).loc OddOutIdeal.main_arg10))
    have v1 := y_eq (m ((c.tc : Thread _ _).loc OddOutIdeal.main_arg0)) (m ((c.tc : Thread _ _).loc OddOutIdeal.main_arg1)) (m ((c.tc : Thread _ _).loc OddOutIdeal.main_arg2)) (m ((c.tc : Thread _ _).loc OddOutIdeal.main_arg6)) (m ((c.tc : Thread _ _).loc OddOutIdeal.main_arg7)) (m ((c.tc : Thread _ _).loc OddOutIdeal.main_arg8)) (m ((c.tc : Thread _ _).loc OddOutIdeal.main_arg9)) (m ((c.tc : Thread _ _).loc OddOutIdeal.main_arg10))
    have v2 := sums_eq (m ((c.tc : Thread _ _).loc OddOutIdeal.main_arg0)) (m ((c.tc : Thread _ _).loc OddOutIdeal.main_arg1)) (m ((c.tc : Thread _ _).loc OddOutIdeal.main_arg2)) (m ((c.tc : Thread _ _).loc OddOutIdeal.main_arg6)) (m ((c.tc : Thread _ _).loc OddOutIdeal.main_arg7)) (m ((c.tc : Thread _ _).loc OddOutIdeal.main_arg8)) (m ((c.tc : Thread _ _).loc OddOutIdeal.main_arg9)) (m ((c.tc : Thread _ _).loc OddOutIdeal.main_arg10))
    have s : (fun j d => ∑ b ∈ Finset.range 16, (inp m c).blk b j d) = (inp m c).tot :=
      funext fun j => funext fun d => Inp.sum_blk j d
    beta_reduce
    rw [s]
    refine ⟨e0.trans (Eq.trans ?_ v0), e1.trans (Eq.trans ?_ v1), e2.trans (Eq.trans ?_ v2), hk⟩
    · rw [← a0, ← a1, ← a2, ← a6, ← a7, ← a8, ← a9, ← a10]; rfl
    · rw [← a0, ← a8, ← a9]; rfl
    · rw [← a0, ← a1, ← a2, ← a6, ← a7, ← a8, ← a9, ← a10]; rfl

/-- The reference runs, and ends with its arguments unchanged and its counters at zero: it declares none. -/
theorem frame_reference : Cert.quiescent_OddOutRefIdeal := fun m g _ =>
  (θ_run _ _ _).mono (fun r h => ⟨fun c => (h c).2.2.2, sem_eq_zero_of_no_sems (by decide) _⟩)
    (Cert.OddOutRefIdeal.Value.run (F := Ideal) m g)

end Cert.OddOutClaim
-- ==== Proof.AdamWin0.lean ====
/-
  The optimiser's step on one chip's columns of the even layer's input projection: what the call leaves in its three results, and what the reference computes.
-/
module

public import proofs.«01_k».proof.Defs
public import proofs.«01_k».proof.Proof.Gen.AdamWin0Ideal.Value
public import proofs.«01_k».proof.Proof.Gen.AdamWin0RefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AdamWin0Claim

open Cert.AdamWin0Ideal Cert.AdamWin0Ideal.Gen Cert.AdamWin0Ideal.Value

/-- The call and the reference end with the same step of the weights and the same two moments. -/
theorem algebraic : Cert.algebraic_AdamWin0Ideal_AdamWin0RefIdeal := by
  intro m g m' g' _ hargs
  refine ⟨fun c => G4 (F := Ideal) (m ((c : Thread nD τ).loc main_arg0)) (m ((c : Thread nD τ).loc main_arg1))
      (m ((c : Thread nD τ).loc main_arg2)) (m ((c : Thread nD τ).loc main_arg3)),
    fun c => G5 (F := Ideal) (m ((c : Thread nD τ).loc main_arg1)) (m ((c : Thread nD τ).loc main_arg2)),
    fun c => G6 (F := Ideal) (m ((c : Thread nD τ).loc main_arg1)) (m ((c : Thread nD τ).loc main_arg3)), ?_, ?_⟩
  · exact Cert.AdamWin0Ideal.Value.run (F := Ideal) m g
  · refine (θ_run _ _ _).mono (fun r h c => ?_) (Cert.AdamWin0RefIdeal.Value.run (F := Ideal) m' g')
    obtain ⟨e0, e1, e2, hk⟩ := h c
    obtain ⟨a0, a1, a2, a3⟩ := hargs c
    refine ⟨e0.trans ?_, e1.trans ?_, e2.trans ?_, hk⟩
    · rw [a0, a1, a2, a3]; rfl
    · rw [a1, a2]; rfl
    · rw [a1, a3]; rfl

/-- The reference runs, and ends with its arguments unchanged and its counters at zero: it declares none. -/
theorem frame_reference : Cert.quiescent_AdamWin0RefIdeal := fun m g _ =>
  (θ_run _ _ _).mono (fun r h => ⟨fun c => (h c).2.2.2, sem_eq_zero_of_no_sems (by decide) _⟩)
    (Cert.AdamWin0RefIdeal.Value.run (F := Ideal) m g)

end Cert.AdamWin0Claim
-- ==== Proof.AdamWin1.lean ====
/-
  The optimiser's step on one chip's columns of the odd layer's input projection: what the call leaves in its three results, and what the reference computes.
-/
module

public import proofs.«01_k».proof.Defs
public import proofs.«01_k».proof.Proof.Gen.AdamWin1Ideal.Value
public import proofs.«01_k».proof.Proof.Gen.AdamWin1RefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AdamWin1Claim

open Cert.AdamWin1Ideal Cert.AdamWin1Ideal.Gen Cert.AdamWin1Ideal.Value

/-- The call and the reference end with the same step of the weights and the same two moments. -/
theorem algebraic : Cert.algebraic_AdamWin1Ideal_AdamWin1RefIdeal := by
  intro m g m' g' _ hargs
  refine ⟨fun c => G4 (F := Ideal) (m ((c : Thread nD τ).loc main_arg0)) (m ((c : Thread nD τ).loc main_arg1))
      (m ((c : Thread nD τ).loc main_arg2)) (m ((c : Thread nD τ).loc main_arg3)),
    fun c => G5 (F := Ideal) (m ((c : Thread nD τ).loc main_arg1)) (m ((c : Thread nD τ).loc main_arg2)),
    fun c => G6 (F := Ideal) (m ((c : Thread nD τ).loc main_arg1)) (m ((c : Thread nD τ).loc main_arg3)), ?_, ?_⟩
  · exact Cert.AdamWin1Ideal.Value.run (F := Ideal) m g
  · refine (θ_run _ _ _).mono (fun r h c => ?_) (Cert.AdamWin1RefIdeal.Value.run (F := Ideal) m' g')
    obtain ⟨e0, e1, e2, hk⟩ := h c
    obtain ⟨a0, a1, a2, a3⟩ := hargs c
    refine ⟨e0.trans ?_, e1.trans ?_, e2.trans ?_, hk⟩
    · rw [a0, a1, a2, a3]; rfl
    · rw [a1, a2]; rfl
    · rw [a1, a3]; rfl

/-- The reference runs, and ends with its arguments unchanged and its counters at zero: it declares none. -/
theorem frame_reference : Cert.quiescent_AdamWin1RefIdeal := fun m g _ =>
  (θ_run _ _ _).mono (fun r h => ⟨fun c => (h c).2.2.2, sem_eq_zero_of_no_sems (by decide) _⟩)
    (Cert.AdamWin1RefIdeal.Value.run (F := Ideal) m g)

end Cert.AdamWin1Claim
-- ==== Proof.AdamWout.lean ====
/-
  The optimiser's step on one chip's rows of an output projection: what the call leaves in its three results, and what the reference computes.
-/
module

public import proofs.«01_k».proof.Defs
public import proofs.«01_k».proof.Proof.Gen.AdamWoutIdeal.Value
public import proofs.«01_k».proof.Proof.Gen.AdamWoutRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AdamWoutClaim

open Cert.AdamWoutIdeal Cert.AdamWoutIdeal.Gen Cert.AdamWoutIdeal.Value

/-- The call and the reference end with the same step of the weights and the same two moments. -/
theorem algebraic : Cert.algebraic_AdamWoutIdeal_AdamWoutRefIdeal := by
  intro m g m' g' _ hargs
  refine ⟨fun c => G4 (F := Ideal) (m ((c : Thread nD τ).loc main_arg0)) (m ((c : Thread nD τ).loc main_arg1))
      (m ((c : Thread nD τ).loc main_arg2)) (m ((c : Thread nD τ).loc main_arg3)),
    fun c => G5 (F := Ideal) (m ((c : Thread nD τ).loc main_arg1)) (m ((c : Thread nD τ).loc main_arg2)),
    fun c => G6 (F := Ideal) (m ((c : Thread nD τ).loc main_arg1)) (m ((c : Thread nD τ).loc main_arg3)), ?_, ?_⟩
  · exact Cert.AdamWoutIdeal.Value.run (F := Ideal) m g
  · refine (θ_run _ _ _).mono (fun r h c => ?_) (Cert.AdamWoutRefIdeal.Value.run (F := Ideal) m' g')
    obtain ⟨e0, e1, e2, hk⟩ := h c
    obtain ⟨a0, a1, a2, a3⟩ := hargs c
    refine ⟨e0.trans ?_, e1.trans ?_, e2.trans ?_, hk⟩
    · rw [a0, a1, a2, a3]; rfl
    · rw [a1, a2]; rfl
    · rw [a1, a3]; rfl

/-- The reference runs, and ends with its arguments unchanged and its counters at zero: it declares none. -/
theorem frame_reference : Cert.quiescent_AdamWoutRefIdeal := fun m g _ =>
  (θ_run _ _ _).mono (fun r h => ⟨fun c => (h c).2.2.2, sem_eq_zero_of_no_sems (by decide) _⟩)
    (Cert.AdamWoutRefIdeal.Value.run (F := Ideal) m g)

end Cert.AdamWoutClaim
-- ==== Proof.AdamPool.lean ====
/-
  The optimiser's step on one chip's rows of the pooling's maps: what the call leaves in its three results, and what the reference computes.
-/
module

public import proofs.«01_k».proof.Defs
public import proofs.«01_k».proof.Proof.Gen.AdamPoolIdeal.Value
public import proofs.«01_k».proof.Proof.Gen.AdamPoolRefIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AdamPoolClaim

open Cert.AdamPoolIdeal Cert.AdamPoolIdeal.Gen Cert.AdamPoolIdeal.Value

/-- The call and the reference end with the same step of the weights and the same two moments. -/
theorem algebraic : Cert.algebraic_AdamPoolIdeal_AdamPoolRefIdeal := by
  intro m g m' g' _ hargs
  refine ⟨fun c => G4 (F := Ideal) (m ((c : Thread nD τ).loc main_arg0)) (m ((c : Thread nD τ).loc main_arg1))
      (m ((c : Thread nD τ).loc main_arg2)) (m ((c : Thread nD τ).loc main_arg3)),
    fun c => G5 (F := Ideal) (m ((c : Thread nD τ).loc main_arg1)) (m ((c : Thread nD τ).loc main_arg2)),
    fun c => G6 (F := Ideal) (m ((c : Thread nD τ).loc main_arg1)) (m ((c : Thread nD τ).loc main_arg3)), ?_, ?_⟩
  · exact Cert.AdamPoolIdeal.Value.run (F := Ideal) m g
  · refine (θ_run _ _ _).mono (fun r h c => ?_) (Cert.AdamPoolRefIdeal.Value.run (F := Ideal) m' g')
    obtain ⟨e0, e1, e2, hk⟩ := h c
    obtain ⟨a0, a1, a2, a3⟩ := hargs c
    refine ⟨e0.trans ?_, e1.trans ?_, e2.trans ?_, hk⟩
    · rw [a0, a1, a2, a3]; rfl
    · rw [a1, a2]; rfl
    · rw [a1, a3]; rfl

/-- The reference runs, and ends with its arguments unchanged and its counters at zero: it declares none. -/
theorem frame_reference : Cert.quiescent_AdamPoolRefIdeal := fun m g _ =>
  (θ_run _ _ _).mono (fun r h => ⟨fun c => (h c).2.2.2, sem_eq_zero_of_no_sems (by decide) _⟩)
    (Cert.AdamPoolRefIdeal.Value.run (F := Ideal) m g)

end Cert.AdamPoolClaim
-- ==== Proof.Adam.lean ====
module

public import proofs.«01_k».proof.Proof.Forward

/-! The optimiser's step on one number, and arrays of three axes as functions of natural numbers. -/

@[expose] public section

noncomputable section

open Idealize.ShloMosaic Idealize.ShloMosaic.TcCoe

namespace Cert.Adam

/-- The new first moment: nine tenths of the old one and one tenth of the gradient. -/
def first (g m : EReal) : EReal := Ideal.ofBits .f32 0x3F666666#32 * m + Ideal.ofBits .f32 0x3DCCCCCD#32 * g

/-- The new second moment: the old one and a thousandth of the gradient's square. -/
def second (g v : EReal) : EReal := Ideal.ofBits .f32 0x3F7FBE77#32 * v + Ideal.ofBits .f32 0x3A83126F#32 * (g * g)

/-- The step: the corrected first moment over the root of the corrected second one, with the weight's decay. -/
def step (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- An array of three axes from a function of natural numbers. -/
def arr3 (p a b : Nat) (f : Nat → Nat → Nat → EReal) : (⟨3, ![p, a, b]⟩ : Shape).Idx → EReal :=
  fun y => f (y 0).val (y 1).val (y 2).val

/-- An array of three axes as a function of natural numbers, zero outside of it. -/
def tab3 (p a b : Nat) (A : (⟨3, ![p, a, b]⟩ : Shape).Idx → EReal) (j r k : Nat) : EReal :=
  if h : j < p ∧ r < a ∧ k < b then A (ix3 ⟨j, h.1⟩ ⟨r, h.2.1⟩ ⟨k, h.2.2⟩) else 0

/-- Inside of the array that function is the array's entry. -/
theorem tab3_at {p a b : Nat} (A : (⟨3, ![p, a, b]⟩ : Shape).Idx → EReal) {j r k : Nat} (hj : j < p) (hr : r < a)
    (hk : k < b) : tab3 p a b A j r k = A (ix3 ⟨j, hj⟩ ⟨r, hr⟩ ⟨k, hk⟩) := dif_pos ⟨hj, hr, hk⟩

end Cert.Adam
-- ==== Proof.AdaW.lean ====
/-
  The conditioning's weights: what the call that forms their gradient and their step leaves, and what the reference computes.
-/
module

public import proofs.«01_k».proof.Defs
public import proofs.«01_k».proof.Proof.Adam
public import proofs.«01_k».proof.Proof.Gen.AdaWIdeal.Frame
public import proofs.«01_k».proof.Proof.Gen.AdaWRefIdeal.Run
public import proofs.«01_k».proof.Proof.Gen.AdaWRefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.AdaWClaim

open Cert.AdaWIdeal Cert.AdaWIdeal.Gen Cert.Pieces Cert.Adam Cert.Forward

theorem z3 : (![0, 0, 0] : Fin 3 → Nat) = fun _ => 0 := by decide
theorem z2 : (![0, 0] : Fin 2 → Nat) = fun _ => 0 := by decide

/-- The gradient of one layer's conditioning weights: the sum over the devices of the activated conditioning times
the cotangent. -/
def grad (C : Nat → Nat → EReal) (T : Nat → Nat → Nat → EReal) (j r k : Nat) : EReal :=
  ∑ b : Fin 8, silu (C b r) * T j b k

section block

variable (x0 : Vec Ideal S256x8 .f32) (x1 : Vec Ideal S1x8x768 .f32) (x2 x3 x4 : Vec Ideal S1x256x768 .f32)

/-- The gradient that the body forms of its blocks. -/
theorem grad_eq (r : Fin 256) (k : Fin 768) :
    k0_pay9 (F := Ideal) (k0_pay15 x0 x1 x2 x3 x4) (k0_pay16 x0 x1 x2 x3 x4) (k0_pay17 x0 x1 x2 x3 x4) (k0_pay18 x0 x1 x2 x3 x4)
      (k0_pay19 x0 x1 x2 x3 x4) (ix2 r k) = ∑ b : Fin 8, silu (x0 (ix2 r b)) * x1 (ix3 0 b k) := by
  rw [Fin.sum_univ_eight]
  unfold k0_pay9 k0_pay15 k0_pay16 k0_pay17 k0_pay18 k0_pay19
  rw [View.ld_unit_zero (S := S256x8) z2, View.ld_unit_zero (S := S1x8x768) z3]
  unfold k0_pay6 k0_pay7 k0_pay8 k0_pay5 k0_pay4
  pointwise
  rfl

/-- The first block written: the gradient. -/
theorem out5_eq (r : Fin 256) (k : Fin 768) :
    out0_5 (F := Ideal) x0 x1 x2 x3 x4 (ix3 0 r k) = ∑ b : Fin 8, silu (x0 (ix2 r b)) * x1 (ix3 0 b k) := by
  unfold out0_5
  rw [View.canon_unit_zero z3]
  unfold k0_pay10
  pointwise
  exact grad_eq x0 x1 x2 x3 x4 r k

/-- The second block written: the weights' step. -/
theorem out6_eq (r : Fin 256) (k : Fin 768) :
    out0_6 (F := Ideal) x0 x1 x2 x3 x4 (ix3 0 r k) = step (x2 (ix3 0 r k)) (∑ b : Fin 8, silu (x0 (ix2 r b)) * x1 (ix3 0 b k))
      (x3 (ix3 0 r k)) (x4 (ix3 0 r k)) := by
  unfold out0_6
  rw [View.canon_unit_zero z3]
  unfold k0_pay1 k0_pay13 k0_pay14 k0_pay11 k0_pay12
  pointwise
  rw [grad_eq x0 x1 x2 x3 x4 r k]
  rfl

/-- The third block written: the first moment. -/
theorem out7_eq (r : Fin 256) (k : Fin 768) :
    out0_7 (F := Ideal) x0 x1 x2 x3 x4 (ix3 0 r k) =
      first (∑ b : Fin 8, silu (x0 (ix2 r b)) * x1 (ix3 0 b k)) (x3 (ix3 0 r k)) := by
  unfold out0_7
  rw [View.canon_unit_zero z3]
  unfold k0_pay2 k0_pay11
  pointwise
  rw [grad_eq x0 x1 x2 x3 x4 r k]
  rfl

/-- The fourth block written: the second moment. -/
theorem out8_eq (r : Fin 256) (k : Fin 768) :
    out0_8 (F := Ideal) x0 x1 x2 x3 x4 (ix3 0 r k) =
      second (∑ b : Fin 8, silu (x0 (ix2 r b)) * x1 (ix3 0 b k)) (x4 (ix3 0 r k)) := by
  unfold out0_8
  rw [View.canon_unit_zero z3]
  unfold k0_pay3 k0_pay12
  pointwise
  rw [grad_eq x0 x1 x2 x3 x4 r k]
  rfl

end block

section kernel

variable (m : (ℓ : Loc nD τ sig) → Buf (Elt Ideal) ℓ) (c : Dev nD)

/-- The devices' conditioning as a table. -/
def C : Nat → Nat → EReal := tab 8 1024 (m ((c : Thread nD τ).loc main_arg0))

/-- The cotangents of both layers. -/
def T : Nat → Nat → Nat → EReal := tab3 2 8 768 (m ((c : Thread nD τ).loc main_arg1))

/-- The weights. -/
def W : Nat → Nat → Nat → EReal := tab3 2 1024 768 (m ((c : Thread nD τ).loc main_arg2))

/-- The first moments. -/
def M : Nat → Nat → Nat → EReal := tab3 2 1024 768 (m ((c : Thread nD τ).loc main_arg3))

/-- The second moments. -/
def V2 : Nat → Nat → Nat → EReal := tab3 2 1024 768 (m ((c : Thread nD τ).loc main_arg4))

/-- The transposed conditioning. -/
theorem cond_at (r : Fin 1024) (b : Fin 8) : V m c main_v0 (ix2 r b) = C m c b r := by
  rw [C, tab_at _ b.isLt r.isLt]
  unfold V
  after_reads_simp
  pointwise
  done

theorem index0 (t : Fin cfg0.N) : win0_0.index t = ![t.val % 4, 0] := by revert t; decide +kernel
theorem index1 (t : Fin cfg0.N) : win0_1.index t = ![t.val / 4, 0, 0] := by revert t; decide +kernel
theorem index2 (t : Fin cfg0.N) : win0_2.index t = ![t.val / 4, t.val % 4, 0] := by revert t; decide +kernel
theorem index3 (t : Fin cfg0.N) : win0_3.index t = ![t.val / 4, t.val % 4, 0] := by revert t; decide +kernel
theorem index4 (t : Fin cfg0.N) : win0_4.index t = ![t.val / 4, t.val % 4, 0] := by revert t; decide +kernel
theorem index5 (t : Fin cfg0.N) : win0_5.index t = ![t.val / 4, t.val % 4, 0] := by revert t; decide +kernel
theorem index6 (t : Fin cfg0.N) : win0_6.index t = ![t.val / 4, t.val % 4, 0] := by revert t; decide +kernel
theorem index7 (t : Fin cfg0.N) : win0_7.index t = ![t.val / 4, t.val % 4, 0] := by revert t; decide +kernel
theorem index8 (t : Fin cfg0.N) : win0_8.index t = ![t.val / 4, t.val % 4, 0] := by revert t; decide +kernel

/-- The rows of the transposed conditioning that a point reads. -/
theorem block0 (t : Fin cfg0.N) (r : Fin 256) (b : Fin 8) : iblk m c 0 t (ix2 r b) = C m c b (256 * (t.val % 4) + r) := by
  refine Eq.trans ?_ (cond_at m c ⟨256 * (t.val % 4) + r.val, by have := r.isLt; omega⟩ b)
  unfold iblk
  rw [View.read_apply]
  refine congrArg (V m c main_v0) ?_
  funext k; apply Fin.ext
  match k with
  | ⟨0, _⟩ => show win0_0.index t 0 * 256 + 1 * r.val = _; rw [index0]; show t.val % 4 * 256 + 1 * _ = 256 * _ + _; omega
  | ⟨1, _⟩ => show win0_0.index t 1 * 8 + 1 * b.val = _; rw [index0]; show 0 * 8 + 1 * _ = b.val; omega

/-- The layer's cotangents that a point reads. -/
theorem block1 (t : Fin cfg0.N) (b : Fin 8) (k : Fin 768) : iblk m c 1 t (ix3 0 b k) = T m c (t.val / 4) b k := by
  have hN : t.val < 8 := lt_of_lt_of_eq t.isLt N_0
  rw [T, tab3_at _ (by omega) b.isLt k.isLt]
  unfold iblk
  rw [View.read_apply]
  refine (congrFun (V_main_arg1 m c) _).trans (congrArg (m ((c : Thread nD τ).loc main_arg1)) ?_)
  funext a; apply Fin.ext
  match a with
  | ⟨0, _⟩ => show win0_1.index t 0 * 1 + 1 * 0 = _; rw [index1]; show t.val / 4 * 1 + 1 * 0 = t.val / 4; omega
  | ⟨1, _⟩ => show win0_1.index t 1 * 8 + 1 * b.val = _; rw [index1]; show 0 * 8 + 1 * _ = b.val; omega
  | ⟨2, _⟩ => show win0_1.index t 2 * 768 + 1 * k.val = _; rw [index1]; show 0 * 768 + 1 * _ = k.val; omega

/-- The rows of the weights that a point reads. -/
theorem block2 (t : Fin cfg0.N) (r : Fin 256) (k : Fin 768) :
    iblk m c 2 t (ix3 0 r k) = W m c (t.val / 4) (256 * (t.val % 4) + r) k := by
  have hN : t.val < 8 := lt_of_lt_of_eq t.isLt N_0
  rw [W, tab3_at _ (by omega) (by have := r.isLt; omega) k.isLt]
  unfold iblk
  rw [View.read_apply]
  refine (congrFun (V_main_arg2 m c) _).trans (congrArg (m ((c : Thread nD τ).loc main_arg2)) ?_)
  funext a; apply Fin.ext
  match a with
  | ⟨0, _⟩ => show win0_2.index t 0 * 1 + 1 * 0 = _; rw [index2]; show t.val / 4 * 1 + 1 * 0 = t.val / 4; omega
  | ⟨1, _⟩ => show win0_2.index t 1 * 256 + 1 * r.val = _; rw [index2]; show t.val % 4 * 256 + 1 * _ = 256 * _ + _; omega
  | ⟨2, _⟩ => show win0_2.index t 2 * 768 + 1 * k.val = _; rw [index2]; show 0 * 768 + 1 * _ = k.val; omega

/-- The rows of the first moments that a point reads. -/
theorem block3 (t : Fin cfg0.N) (r : Fin 256) (k : Fin 768) :
    iblk m c 3 t (ix3 0 r k) = M m c (t.val / 4) (256 * (t.val % 4) + r) k := by
  have hN : t.val < 8 := lt_of_lt_of_eq t.isLt N_0
  rw [M, tab3_at _ (by omega) (by have := r.isLt; omega) k.isLt]
  unfold iblk
  rw [View.read_apply]
  refine (congrFun (V_main_arg3 m c) _).trans (congrArg (m ((c : Thread nD τ).loc main_arg3)) ?_)
  funext a; apply Fin.ext
  match a with
  | ⟨0, _⟩ => show win0_3.index t 0 * 1 + 1 * 0 = _; rw [index3]; show t.val / 4 * 1 + 1 * 0 = t.val / 4; omega
  | ⟨1, _⟩ => show win0_3.index t 1 * 256 + 1 * r.val = _; rw [index3]; show t.val % 4 * 256 + 1 * _ = 256 * _ + _; omega
  | ⟨2, _⟩ => show win0_3.index t 2 * 768 + 1 * k.val = _; rw [index3]; show 0 * 768 + 1 * _ = k.val; omega

/-- The rows of the second moments that a point reads. -/
theorem block4 (t : Fin cfg0.N) (r : Fin 256) (k : Fin 768) :
    iblk m c 4 t (ix3 0 r k) = V2 m c (t.val / 4) (256 * (t.val % 4) + r) k := by
  have hN : t.val < 8 := lt_of_lt_of_eq t.isLt N_0
  rw [V2, tab3_at _ (by omega) (by have := r.isLt; omega) k.isLt]
  unfold iblk
  rw [View.read_apply]
  refine (congrFun (V_main_arg4 m c) _).trans (congrArg (m ((c : Thread nD τ).loc main_arg4)) ?_)
  funext a; apply Fin.ext
  match a with
  | ⟨0, _⟩ => show win0_4.index t 0 * 1 + 1 * 0 = _; rw [index4]; show t.val / 4 * 1 + 1 * 0 = t.val / 4; omega
  | ⟨1, _⟩ => show win0_4.index t 1 * 256 + 1 * r.val = _; rw [index4]; show t.val % 4 * 256 + 1 * _ = 256 * _ + _; omega
  | ⟨2, _⟩ => show win0_4.index t 2 * 768 + 1 * k.val = _; rw [index4]; show 0 * 768 + 1 * _ = k.val; omega

/-- The gradient of a point's rows. -/
theorem grad_at (t : Fin cfg0.N) (r : Fin 256) (k : Fin 768) :
    ∑ b : Fin 8, silu (iblk m c 0 t (ix2 r b)) * iblk m c 1 t (ix3 0 b k)
      = grad (C m c) (T m c) (t.val / 4) (256 * (t.val % 4) + r) k :=
  Finset.sum_congr rfl fun b _ => by rw [block0, block1]

/-- The gradient. -/
def res5 : S2x1024x768.Idx → EReal := arr3 2 1024 768 fun j r k => grad (C m c) (T m c) j r k

/-- What a point leaves of the gradient. -/
theorem after5 (t : Fin cfg0.N) : out0_5 (iblk m c 0 t) (iblk m c 1 t) (iblk m c 2 t) (iblk m c 3 t) (iblk m c 4 t) =
    arr3 1 256 768 fun _ s k => (fun j r k => grad (C m c) (T m c) j r k) (t.val / 4) (256 * (t.val % 4) + s) k := by
  funext y
  obtain ⟨r, k, rfl⟩ : ∃ (r : Fin 256) (k : Fin 768), y = ix3 0 r k :=
    ⟨y 1, y 2, (eq_ix3 y).trans (by rw [Fin.eq_zero (y 0)])⟩
  rw [out5_eq, grad_at]
  rfl

/-- The gradient, whole. -/
theorem final5 : (dats m 0 c).arrAt 5 cfg0.N = res5 m c := by
  refine (dats m 0 c).arrAt_eq_of_covers 5 _ (by decide +kernel) fun t hf y => ?_
  blk_simp
  rw [after0_5, after5]
  unfold res5 arr3
  blk_simp [index5]
  rw [Nat.mul_comm 256]

/-- The step of the weights. -/
def res6 : S2x1024x768.Idx → EReal := arr3 2 1024 768 fun j r k => step (W m c j r k) (grad (C m c) (T m c) j r k) (M m c j r k) (V2 m c j r k)

/-- What a point leaves of the step of the weights. -/
theorem after6 (t : Fin cfg0.N) : out0_6 (iblk m c 0 t) (iblk m c 1 t) (iblk m c 2 t) (iblk m c 3 t) (iblk m c 4 t) =
    arr3 1 256 768 fun _ s k => (fun j r k => step (W m c j r k) (grad (C m c) (T m c) j r k) (M m c j r k) (V2 m c j r k)) (t.val / 4) (256 * (t.val % 4) + s) k := by
  funext y
  obtain ⟨r, k, rfl⟩ : ∃ (r : Fin 256) (k : Fin 768), y = ix3 0 r k :=
    ⟨y 1, y 2, (eq_ix3 y).trans (by rw [Fin.eq_zero (y 0)])⟩
  rw [out6_eq, grad_at, block2, block3, block4]
  rfl

/-- The step of the weights, whole. -/
theorem final6 : (dats m 0 c).arrAt 6 cfg0.N = res6 m c := by
  refine (dats m 0 c).arrAt_eq_of_covers 6 _ (by decide +kernel) fun t hf y => ?_
  blk_simp
  rw [after0_6, after6]
  unfold res6 arr3
  blk_simp [index6]
  rw [Nat.mul_comm 256]

/-- The first moments. -/
def res7 : S2x1024x768.Idx → EReal := arr3 2 1024 768 fun j r k => first (grad (C m c) (T m c) j r k) (M m c j r k)

/-- What a point leaves of the first moments. -/
theorem after7 (t : Fin cfg0.N) : out0_7 (iblk m c 0 t) (iblk m c 1 t) (iblk m c 2 t) (iblk m c 3 t) (iblk m c 4 t) =
    arr3 1 256 768 fun _ s k => (fun j r k => first (grad (C m c) (T m c) j r k) (M m c j r k)) (t.val / 4) (256 * (t.val % 4) + s) k := by
  funext y
  obtain ⟨r, k, rfl⟩ : ∃ (r : Fin 256) (k : Fin 768), y = ix3 0 r k :=
    ⟨y 1, y 2, (eq_ix3 y).trans (by rw [Fin.eq_zero (y 0)])⟩
  rw [out7_eq, grad_at, block3]
  rfl

/-- The first moments, whole. -/
theorem final7 : (dats m 0 c).arrAt 7 cfg0.N = res7 m c := by
  refine (dats m 0 c).arrAt_eq_of_covers 7 _ (by decide +kernel) fun t hf y => ?_
  blk_simp
  rw [after0_7, after7]
  unfold res7 arr3
  blk_simp [index7]
  rw [Nat.mul_comm 256]

/-- The second moments. -/
def res8 : S2x1024x768.Idx → EReal := arr3 2 1024 768 fun j r k => second (grad (C m c) (T m c) j r k) (V2 m c j r k)

/-- What a point leaves of the second moments. -/
theorem after8 (t : Fin cfg0.N) : out0_8 (iblk m c 0 t) (iblk m c 1 t) (iblk m c 2 t) (iblk m c 3 t) (iblk m c 4 t) =
    arr3 1 256 768 fun _ s k => (fun j r k => second (grad (C m c) (T m c) j r k) (V2 m c j r k)) (t.val / 4) (256 * (t.val % 4) + s) k := by
  funext y
  obtain ⟨r, k, rfl⟩ : ∃ (r : Fin 256) (k : Fin 768), y = ix3 0 r k :=
    ⟨y 1, y 2, (eq_ix3 y).trans (by rw [Fin.eq_zero (y 0)])⟩
  rw [out8_eq, grad_at, block4]
  rfl

/-- The second moments, whole. -/
theorem final8 : (dats m 0 c).arrAt 8 cfg0.N = res8 m c := by
  refine (dats m 0 c).arrAt_eq_of_covers 8 _ (by decide +kernel) fun t hf y => ?_
  blk_simp
  rw [after0_8, after8]
  unfold res8 arr3
  blk_simp [index8]
  rw [Nat.mul_comm 256]

end kernel

section reference

open Cert.AdaWRefIdeal.Read

variable (x0 : (⟨Cert.AdaWRefIdeal.S8x1024, .f32⟩ : BufTy).Contents (Elt Ideal))
  (x1 : (⟨Cert.AdaWRefIdeal.S2x8x768, .f32⟩ : BufTy).Contents (Elt Ideal))
  (x2 x3 x4 : (⟨Cert.AdaWRefIdeal.S2x1024x768, .f32⟩ : BufTy).Contents (Elt Ideal))

/-- The reference's activated conditioning. -/
theorem act0 (b : Fin 8) (r : Fin 1024) : val_main_v2 (F := Ideal) x0 (ix2 b r) = silu (tab 8 1024 x0 b r) := by
  pointwise [val_main_v2, val_main_call0_v5, val_main_call0_v4, val_main_call0_v3, val_main_call0_v2, val_main_call0_v1,
    val_main_call0_v0, val_main_call0_cst, val_main_call0_cst_0]
  rw [silu_eq, tab_at x0 b.isLt r.isLt]

/-- The same, formed again for the second layer. -/
theorem act1 (b : Fin 8) (r : Fin 1024) : val_main_v10 (F := Ideal) x0 (ix2 b r) = silu (tab 8 1024 x0 b r) := by
  pointwise [val_main_v10, val_main_call1_v5, val_main_call1_v4, val_main_call1_v3, val_main_call1_v2, val_main_call1_v1,
    val_main_call1_v0, val_main_call1_cst, val_main_call1_cst_0]
  rw [silu_eq, tab_at x0 b.isLt r.isLt]

/-- The reference's gradient. -/
theorem ref_grad (j : Fin 2) (r : Fin 1024) (k : Fin 768) :
    val_main_v18 (F := Ideal) x0 x1 (ix3 j r k) = grad (tab 8 1024 x0) (tab3 2 8 768 x1) j r k := by
  pointwise [val_main_v18, val_main_v17, val_main_v16, val_main_v15, val_main_v14, val_main_v13, val_main_v12, val_main_v7,
    val_main_v6, val_main_v5, val_main_v4]
  unfold grad
  split
  · next h =>
    have e : j.val = 0 := by omega
    rw [e]
    exact Finset.sum_congr rfl fun b _ => by rw [act0, tab3_at x1 (by omega) b.isLt k.isLt, mul_comm]; rfl
  · next h =>
    have e : j.val = 1 := by omega
    rw [e]
    exact Finset.sum_congr rfl fun b _ => by rw [act1, tab3_at x1 (by omega) b.isLt k.isLt, mul_comm]; rfl

local notation "G" => grad (tab 8 1024 x0) (tab3 2 8 768 x1)

/-- The reference's gradient as an array. -/
theorem ref5 : val_main_v18 (F := Ideal) x0 x1 = arr3 2 1024 768 G := by
  funext y
  rw [eq_ix3 y]
  exact ref_grad x0 x1 (y 0) (y 1) (y 2)

/-- The reference's first moments. -/
theorem ref7 : val_main_v23 (F := Ideal) x0 x1 x3 =
    arr3 2 1024 768 fun j r k => first (G j r k) (tab3 2 1024 768 x3 j r k) := by
  funext y
  obtain ⟨j, r, k, rfl⟩ : ∃ (j : Fin 2) (r : Fin 1024) (k : Fin 768), y = ix3 j r k := ⟨y 0, y 1, y 2, eq_ix3 y⟩
  pointwise [val_main_v23, val_main_v22, val_main_v21, val_main_v20, val_main_v19, val_main_cst, val_main_cst_0]
  rw [ref_grad]
  exact congrArg (first _) (tab3_at x3 j.isLt r.isLt k.isLt).symm

/-- The reference's second moments. -/
theorem ref8 : val_main_v29 (F := Ideal) x0 x1 x4 =
    arr3 2 1024 768 fun j r k => second (G j r k) (tab3 2 1024 768 x4 j r k) := by
  funext y
  obtain ⟨j, r, k, rfl⟩ : ∃ (j : Fin 2) (r : Fin 1024) (k : Fin 768), y = ix3 j r k := ⟨y 0, y 1, y 2, eq_ix3 y⟩
  pointwise [val_main_v29, val_main_v28, val_main_v27, val_main_v26, val_main_v25, val_main_v24, val_main_cst_1, val_main_cst_2]
  rw [ref_grad]
  exact congrArg (second _) (tab3_at x4 j.isLt r.isLt k.isLt).symm

/-- The reference's step. -/
theorem ref6 : val_main_v42 (F := Ideal) x0 x1 x2 x3 x4 =
    arr3 2 1024 768 fun j r k =>
      step (tab3 2 1024 768 x2 j r k) (G j r k) (tab3 2 1024 768 x3 j r k) (tab3 2 1024 768 x4 j r k) := by
  funext y
  obtain ⟨j, r, k, rfl⟩ : ∃ (j : Fin 2) (r : Fin 1024) (k : Fin 768), y = ix3 j r k := ⟨y 0, y 1, y 2, eq_ix3 y⟩
  pointwise [val_main_v42, val_main_v41, val_main_v40, val_main_v39, val_main_v38, val_main_v37, val_main_v36, val_main_v35,
    val_main_v34, val_main_v33, val_main_v32, val_main_v31, val_main_v30, val_main_cst_3, val_main_cst_4, val_main_cst_5,
    val_main_cst_6, val_main_cst_7]
  rw [ref7, ref8]
  exact congrArg (fun w => step w _ _ _) (tab3_at x2 j.isLt r.isLt k.isLt).symm

end reference

/-- The call and the reference end with the same gradient, step and moments. -/
theorem algebraic : Cert.algebraic_AdaWIdeal_AdaWRefIdeal := by
  intro m g m' g' _ hargs
  refine ⟨fun c => res5 m c, fun c => res6 m c, fun c => res7 m c, fun c => res8 m c, ?_, ?_⟩
  · refine (θ_run _ _ _).mono (fun r h c => ?_) (run_main (F := Ideal) m g)
    exact ⟨((h c).1 5).trans (final5 m c), ((h c).1 6).trans (final6 m c), ((h c).1 7).trans (final7 m c),
      ((h c).1 8).trans (final8 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩
  · refine (θ_run _ _ _).mono (fun r h c => ?_) (Cert.AdaWRefIdeal.Value.run (F := Ideal) m' g')
    obtain ⟨e0, e1, e2, e3, hk⟩ := h c
    obtain ⟨a0, a1, a2, a3, a4⟩ := hargs c
    refine ⟨e0.trans ?_, (e1.trans (Cert.AdaWRefIdeal.Read.val_main_v42_eq m' c)).trans ?_, e2.trans ?_, e3.trans ?_, hk⟩
    · refine Eq.trans ?_ (ref5 (m ((c.tc : Thread _ _).loc main_arg0)) (m ((c.tc : Thread _ _).loc main_arg1)))
      rw [← a0, ← a1]; rfl
    · refine Eq.trans ?_ (ref6 (m ((c.tc : Thread _ _).loc main_arg0)) (m ((c.tc : Thread _ _).loc main_arg1))
        (m ((c.tc : Thread _ _).loc main_arg2)) (m ((c.tc : Thread _ _).loc main_arg3)) (m ((c.tc : Thread _ _).loc main_arg4)))
      rw [← a0, ← a1, ← a2, ← a3, ← a4]
    · refine Eq.trans ?_ (ref7 (m ((c.tc : Thread _ _).loc main_arg0)) (m ((c.tc : Thread _ _).loc main_arg1))
        (m ((c.tc : Thread _ _).loc main_arg3)))
      rw [← a0, ← a1, ← a3]; rfl
    · refine Eq.trans ?_ (ref8 (m ((c.tc : Thread _ _).loc main_arg0)) (m ((c.tc : Thread _ _).loc main_arg1))
        (m ((c.tc : Thread _ _).loc main_arg4)))
      rw [← a0, ← a1, ← a4]; rfl

/-- The reference runs, and ends with its arguments unchanged and its counters at zero: it declares none. -/
theorem frame_reference : Cert.quiescent_AdaWRefIdeal := fun m g _ =>
  (θ_run _ _ _).mono (fun r h => ⟨fun c => (h c).2.2.2.2, sem_eq_zero_of_no_sems (by decide) _⟩)
    (Cert.AdaWRefIdeal.Value.run (F := Ideal) m g)

end Cert.AdaWClaim
-- ==== Proof.ReducePacked.lean ====
/-
  The addition of the devices' packed sums: what the call leaves in its two results, and what the reference computes.
-/
module

public import proofs.«01_k».proof.Defs
public import proofs.«01_k».proof.Proof.Pieces
public import proofs.«01_k».proof.Proof.Gen.ReducePackedIdeal.Value
public import proofs.«01_k».proof.Proof.Gen.ReducePackedRefIdeal.Run
public import proofs.«01_k».proof.Proof.Gen.ReducePackedRefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.ReducePackedClaim

open Cert.ReducePackedIdeal Cert.ReducePackedIdeal.Gen Cert.ReducePackedIdeal.Value Cert.Pieces

/-- The sum over the eight devices of row `r` of their parts. -/
def total (A : Nat → Nat → EReal) (r k : Nat) : EReal := ∑ d : Fin 8, A (24 * d + r) k

/-- The loss: the total's row ten added over its columns. -/
def loss (A : Nat → Nat → EReal) : EReal := ∑ k : Fin 1024, total A 10 k

variable (a0 : S192x1024.Idx → EReal)

/-- An entry of the table. -/
theorem entry (k : Fin 1024) (o : Nat) (h : o < 192) : a0 (ix2 ⟨o, h⟩ k) = tab 192 1024 a0 o k :=
  (tab_at a0 h k.isLt).symm

/-- The first result: the parts' sum. -/
theorem first_at (r : Fin 24) (k : Fin 1024) : G1 (F := Ideal) a0 (ix2 r k) = total (tab 192 1024 a0) r k := by
  unfold total
  rw [Fin.sum_univ_eight]
  unfold G1 k0_pay1
  pointwise
  simp only [entry]

/-- The first result as an array. -/
theorem first_eq : G1 (F := Ideal) a0 = arr 24 1024 (total (tab 192 1024 a0)) := by
  funext y
  obtain ⟨r, k, rfl⟩ : ∃ (r : Fin 24) (k : Fin 1024), y = ix2 r k := ⟨y 0, y 1, eq_ix2 y⟩
  exact first_at a0 r k

/-- The second result: everywhere the loss. -/
theorem second_eq : G2 (F := Ideal) a0 = arr 8 128 fun _ _ => loss (tab 192 1024 a0) := by
  funext y
  obtain ⟨r, k, rfl⟩ : ∃ (r : Fin 8) (k : Fin 128), y = ix2 r k := ⟨y 0, y 1, eq_ix2 y⟩
  show k0_pay2 _ _ _ _ _ _ _ _ _ = _
  unfold k0_pay2
  change _ = loss (tab 192 1024 a0)
  have e : k0_pay1 (F := Ideal) (View.ld a0 r0_0) (View.ld a0 r0_1) (View.ld a0 r0_2) (View.ld a0 r0_3) (View.ld a0 r0_4)
    (View.ld a0 r0_5) (View.ld a0 r0_6) (View.ld a0 r0_7) = arr 24 1024 (total (tab 192 1024 a0)) := first_eq a0
  rw [e]
  pointwise
  exact Fin.sum_univ_one _

section reference

open Cert.ReducePackedRefIdeal.Read

/-- The reference's first result. -/
theorem ref_first : val_main_v1 (F := Ideal) a0 = arr 24 1024 (total (tab 192 1024 a0)) := by
  funext y
  obtain ⟨r, k, rfl⟩ : ∃ (r : Fin 24) (k : Fin 1024), y = ix2 r k := ⟨y 0, y 1, eq_ix2 y⟩
  pointwise [val_main_v1, val_main_v0, val_main_cst]
  simp only [entry]
  rfl

/-- The reference's second result. -/
theorem ref_second : val_main_v5 (F := Ideal) a0 = arr 8 128 fun _ _ => loss (tab 192 1024 a0) := by
  funext y
  obtain ⟨r, k, rfl⟩ : ∃ (r : Fin 8) (k : Fin 128), y = ix2 r k := ⟨y 0, y 1, eq_ix2 y⟩
  pointwise [val_main_v5, val_main_v4, val_main_v3, val_main_v2, val_main_cst_0]
  rw [ref_first]
  rfl

end reference

/-- The call and the reference end with the same total and the same loss. -/
theorem algebraic : Cert.algebraic_ReducePackedIdeal_ReducePackedRefIdeal := by
  intro m g m' g' _ hargs
  refine ⟨fun c => arr 24 1024 (total (tab 192 1024 (m ((c : Thread nD τ).loc main_arg0)))),
    fun c => arr 8 128 fun _ _ => loss (tab 192 1024 (m ((c : Thread nD τ).loc main_arg0))), ?_, ?_⟩
  · refine (θ_run _ _ _).mono (fun r h c => ?_) (Cert.ReducePackedIdeal.Value.run (F := Ideal) m g)
    obtain ⟨e0, e1, hk⟩ := h c
    exact ⟨e0.trans (first_eq _), e1.trans (second_eq _), hk⟩
  · refine (θ_run _ _ _).mono (fun r h c => ?_) (Cert.ReducePackedRefIdeal.Value.run (F := Ideal) m' g')
    obtain ⟨e0, e1, hk⟩ := h c
    have a := hargs c
    have v0 := ref_first (m ((c.tc : Thread _ _).loc main_arg0))
    have v1 := ref_second (m ((c.tc : Thread _ _).loc main_arg0))
    refine ⟨e0.trans (Eq.trans ?_ v0), e1.trans (Eq.trans ?_ v1), hk⟩
    · rw [← a]; rfl
    · rw [← a]; rfl

/-- The reference runs, and ends with its arguments unchanged and its counters at zero: it declares none. -/
theorem frame_reference : Cert.quiescent_ReducePackedRefIdeal := fun m g _ =>
  (θ_run _ _ _).mono (fun r h => ⟨fun c => (h c).2.2, sem_eq_zero_of_no_sems (by decide) _⟩)
    (Cert.ReducePackedRefIdeal.Value.run (F := Ideal) m g)

end Cert.ReducePackedClaim
-- ==== Proof.AdamSmall.lean ====
/-
  The small weights: what the call that steps them, packed into one array, leaves, and what the reference computes.
-/
module

public import proofs.«01_k».proof.Defs
public import proofs.«01_k».proof.Proof.Adam
public import proofs.«01_k».proof.Proof.Gen.AdamSmallIdeal.Frame
public import proofs.«01_k».proof.Proof.Gen.AdamSmallRefIdeal.Run
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.AdamSmallClaim

open Cert.AdamSmallIdeal Cert.AdamSmallIdeal.Gen Cert.Pieces Cert.Adam Cert.Forward

/-- Six arrays below one another. -/
def cat (b0 : S2x1024.Idx → EReal) (b1 : S6x1024.Idx → EReal) (b2 b3 : S1x1024.Idx → EReal) (b4 : S2x1024.Idx → EReal)
    (b5 : S4x1024.Idx → EReal) : S16x1024.Idx → EReal :=
  concatenate S16x1024 0 [⟨S2x1024, b0⟩, ⟨S6x1024, b1⟩, ⟨S1x1024, b2⟩, ⟨S1x1024, b3⟩, ⟨S2x1024, b4⟩, ⟨S4x1024, b5⟩]
    concatenates_S2x1024_S6x1024_S1x1024_S1x1024_S2x1024_S4x1024_S16x1024_d0

/-- The host's packing of the six small arrays into sixteen rows, the last four of zeros. -/
def pack (a0 : S2x1024.Idx → EReal) (a1 : S2x3072.Idx → EReal) (a2 : S1x1024.Idx → EReal) (a3 : S1024.Idx → EReal)
    (a4 : S1x3x512.Idx → EReal) (a5 : S1x512.Idx → EReal) : S16x1024.Idx → EReal :=
  cat a0 (shapeCast S6x1024 a1 shapeCasts_S2x3072_S6x1024) a2 (shapeCast S1x1024 a3 shapeCasts_S1024_S1x1024)
    (shapeCast S2x1024 (concatenate S4x512 0 [⟨S3x512, shapeCast S3x512 a4 shapeCasts_S1x3x512_S3x512⟩, ⟨S1x512, a5⟩]
      concatenates_S3x512_S1x512_S4x512_d0) shapeCasts_S4x512_S2x1024)
    (broadcastInDim S4x1024 ![] bcast_S_S4x1024 (constant (F := Ideal) S_ .f32 0x00000000#32))

/-- Twelve rows and four below one another. -/
def cat2 (b0 : S12x1024.Idx → EReal) (b1 : S4x1024.Idx → EReal) : S16x1024.Idx → EReal :=
  concatenate S16x1024 0 [⟨S12x1024, b0⟩, ⟨S4x1024, b1⟩] concatenates_S12x1024_S4x1024_S16x1024_d0

/-- Twelve rows of zeros and four of ones, which the host adds to the packed second moments. -/
def ones : S16x1024.Idx → EReal :=
  cat2 (broadcastInDim S12x1024 ![] bcast_S_S12x1024 (constant (F := Ideal) S_ .f32 0x00000000#32))
    (broadcastInDim S4x1024 ![] bcast_S_S4x1024 (constant (F := Ideal) S_ .f32 0x3F800000#32))

/-- The packed rows' first array, taken out: rows 0 and 1. -/
def part0 (x : S16x1024.Idx → EReal) : S2x1024.Idx → EReal :=
  extractStridedSlice S2x1024 ![0, 0] x slices_S16x1024_S2x1024_0_0

/-- The second: rows 2 to 7. -/
def part1 (x : S16x1024.Idx → EReal) : S2x3072.Idx → EReal :=
  shapeCast S2x3072 (extractStridedSlice S6x1024 ![2, 0] x slices_S16x1024_S6x1024_2_0) shapeCasts_S6x1024_S2x3072

/-- The third: row 8. -/
def part2 (x : S16x1024.Idx → EReal) : S1x1024.Idx → EReal :=
  extractStridedSlice S1x1024 ![8, 0] x slices_S16x1024_S1x1024_8_0

/-- The fourth: row 9. -/
def part3 (x : S16x1024.Idx → EReal) : S1024.Idx → EReal :=
  shapeCast S1024 (extractStridedSlice S1x1024 ![9, 0] x slices_S16x1024_S1x1024_9_0) shapeCasts_S1x1024_S1024

/-- The convolution's taps and bias together: rows 10 and 11. -/
def conv (x : S16x1024.Idx → EReal) : S4x512.Idx → EReal :=
  shapeCast S4x512 (extractStridedSlice S2x1024 ![10, 0] x slices_S16x1024_S2x1024_10_0) shapeCasts_S2x1024_S4x512

/-- The fifth: the taps. -/
def part4 (x : S16x1024.Idx → EReal) : S1x3x512.Idx → EReal :=
  shapeCast S1x3x512 (extractStridedSlice S3x512 ![0, 0] (conv x) slices_S4x512_S3x512_0_0) shapeCasts_S3x512_S1x3x512

/-- The sixth: the bias. -/
def part5 (x : S16x1024.Idx → EReal) : S1x512.Idx → EReal :=
  extractStridedSlice S1x512 ![3, 0] (conv x) slices_S4x512_S1x512_3_0

section packing

variable (a0 : S2x1024.Idx → EReal) (a1 : S2x3072.Idx → EReal) (a2 : S1x1024.Idx → EReal) (a3 : S1024.Idx → EReal)
  (a4 : S1x3x512.Idx → EReal) (a5 : S1x512.Idx → EReal)

/-- Rows 0 and 1 of the packed array. -/
theorem rows0 : extractStridedSlice S2x1024 ![0, 0] (pack a0 a1 a2 a3 a4 a5) slices_S16x1024_S2x1024_0_0 = a0 := by
  funext y
  obtain ⟨r, k, rfl⟩ : ∃ (r : Fin 2) (k : Fin 1024), y = ix2 r k := ⟨y 0, y 1, eq_ix2 y⟩
  unfold pack cat
  pointwise
  done

/-- Rows 2 to 7. -/
theorem rows1 : extractStridedSlice S6x1024 ![2, 0] (pack a0 a1 a2 a3 a4 a5) slices_S16x1024_S6x1024_2_0
    = shapeCast S6x1024 a1 shapeCasts_S2x3072_S6x1024 := by
  funext y
  obtain ⟨r, k, rfl⟩ : ∃ (r : Fin 6) (k : Fin 1024), y = ix2 r k := ⟨y 0, y 1, eq_ix2 y⟩
  unfold pack cat
  generalize shapeCast S6x1024 a1 shapeCasts_S2x3072_S6x1024 = b
  pointwise
  done

/-- Row 8. -/
theorem rows2 : extractStridedSlice S1x1024 ![8, 0] (pack a0 a1 a2 a3 a4 a5) slices_S16x1024_S1x1024_8_0 = a2 := by
  funext y
  obtain ⟨r, k, rfl⟩ : ∃ (r : Fin 1) (k : Fin 1024), y = ix2 r k := ⟨y 0, y 1, eq_ix2 y⟩
  unfold pack cat
  rw [Fin.eq_zero r]
  pointwise
  done

/-- Row 9. -/
theorem rows3 : extractStridedSlice S1x1024 ![9, 0] (pack a0 a1 a2 a3 a4 a5) slices_S16x1024_S1x1024_9_0
    = shapeCast S1x1024 a3 shapeCasts_S1024_S1x1024 := by
  funext y
  obtain ⟨r, k, rfl⟩ : ∃ (r : Fin 1) (k : Fin 1024), y = ix2 r k := ⟨y 0, y 1, eq_ix2 y⟩
  unfold pack cat
  rw [Fin.eq_zero r]
  generalize shapeCast S1x1024 a3 shapeCasts_S1024_S1x1024 = b
  pointwise
  done

/-- Rows 10 and 11. -/
theorem rows4 : extractStridedSlice S2x1024 ![10, 0] (pack a0 a1 a2 a3 a4 a5) slices_S16x1024_S2x1024_10_0
    = shapeCast S2x1024 (concatenate S4x512 0 [⟨S3x512, shapeCast S3x512 a4 shapeCasts_S1x3x512_S3x512⟩, ⟨S1x512, a5⟩]
        concatenates_S3x512_S1x512_S4x512_d0) shapeCasts_S4x512_S2x1024 := by
  funext y
  obtain ⟨r, k, rfl⟩ : ∃ (r : Fin 2) (k : Fin 1024), y = ix2 r k := ⟨y 0, y 1, eq_ix2 y⟩
  unfold pack cat
  generalize shapeCast S2x1024 (concatenate S4x512 0 [⟨S3x512, shapeCast S3x512 a4 shapeCasts_S1x3x512_S3x512⟩, ⟨S1x512, a5⟩]
        concatenates_S3x512_S1x512_S4x512_d0) shapeCasts_S4x512_S2x1024 = b
  pointwise
  have hr := r.isLt
  rw [dif_neg (by omega), dif_neg (by omega), dif_neg (by omega), dif_neg (by omega), dif_pos (by omega)]
  exact congrArg (fun s => b (ix2 s k)) (Fin.ext (by show 10 + r.val - 2 - 6 - 1 - 1 = r.val; omega))

/-- The taps and the bias below one another. -/
theorem conv_pack : conv (pack a0 a1 a2 a3 a4 a5) =
    concatenate S4x512 0 [⟨S3x512, shapeCast S3x512 a4 shapeCasts_S1x3x512_S3x512⟩, ⟨S1x512, a5⟩]
        concatenates_S3x512_S1x512_S4x512_d0 := by
  unfold conv
  rw [rows4, shapeCast_shapeCast]

/-- Taking out undoes packing: the first array. -/
theorem part0_pack : part0 (pack a0 a1 a2 a3 a4 a5) = a0 := rows0 a0 a1 a2 a3 a4 a5

/-- The second array. -/
theorem part1_pack : part1 (pack a0 a1 a2 a3 a4 a5) = a1 := by
  unfold part1
  rw [rows1, shapeCast_shapeCast]

/-- The third. -/
theorem part2_pack : part2 (pack a0 a1 a2 a3 a4 a5) = a2 := rows2 a0 a1 a2 a3 a4 a5

/-- The fourth. -/
theorem part3_pack : part3 (pack a0 a1 a2 a3 a4 a5) = a3 := by
  unfold part3
  rw [rows3, shapeCast_shapeCast]

/-- The fifth. -/
theorem part4_pack : part4 (pack a0 a1 a2 a3 a4 a5) = a4 := by
  unfold part4
  rw [conv_pack]
  refine Eq.trans (congrArg (fun b => shapeCast S1x3x512 b shapeCasts_S3x512_S1x3x512) ?_)
    (shapeCast_shapeCast a4 shapeCasts_S1x3x512_S3x512 shapeCasts_S3x512_S1x3x512)
  funext y
  obtain ⟨r, k, rfl⟩ : ∃ (r : Fin 3) (k : Fin 512), y = ix2 r k := ⟨y 0, y 1, eq_ix2 y⟩
  generalize shapeCast S3x512 a4 shapeCasts_S1x3x512_S3x512 = b
  pointwise
  done

/-- The sixth. -/
theorem part5_pack : part5 (pack a0 a1 a2 a3 a4 a5) = a5 := by
  unfold part5
  rw [conv_pack]
  funext y
  obtain ⟨r, k, rfl⟩ : ∃ (r : Fin 1) (k : Fin 512), y = ix2 r k := ⟨y 0, y 1, eq_ix2 y⟩
  rw [Fin.eq_zero r]
  generalize shapeCast S3x512 a4 shapeCasts_S1x3x512_S3x512 = b
  pointwise
  done

end packing

section adding

variable (x : S16x1024.Idx → EReal)

/-- The first twelve rows of the array that the host adds are zeros. -/
theorem ones_at (i : S16x1024.Idx) (h : (i 0).val < 12) : ones i = 0 := by
  obtain ⟨r, k, rfl⟩ : ∃ (r : Fin 16) (k : Fin 1024), i = ix2 r k := ⟨i 0, i 1, eq_ix2 i⟩
  unfold ones cat2
  pointwise
  exact if_pos h

/-- The packed second moments with the host's ones added in the last four rows. -/
def plus : S16x1024.Idx → EReal := addf (F := Ideal) (φ := .f32) x ones

/-- In the first twelve rows the addition changes nothing. -/
theorem plus_at (i : S16x1024.Idx) (h : (i 0).val < 12) : plus x i = x i := by
  show x i + ones i = x i
  rw [ones_at i h, add_zero]

/-- The addition changes none of the rows 0 to 1. -/
theorem plus_rows0 : extractStridedSlice S2x1024 ![0, 0] (plus x) slices_S16x1024_S2x1024_0_0 =
    extractStridedSlice S2x1024 ![0, 0] x slices_S16x1024_S2x1024_0_0 := by
  funext y
  refine plus_at x _ ?_
  have h : (y 0).val < 2 := (y 0).isLt
  show 0 + (y 0).val < 12
  omega

/-- The addition changes none of the rows 2 to 7. -/
theorem plus_rows2 : extractStridedSlice S6x1024 ![2, 0] (plus x) slices_S16x1024_S6x1024_2_0 =
    extractStridedSlice S6x1024 ![2, 0] x slices_S16x1024_S6x1024_2_0 := by
  funext y
  refine plus_at x _ ?_
  have h : (y 0).val < 6 := (y 0).isLt
  show 2 + (y 0).val < 12
  omega

/-- The addition changes none of the rows 8 to 8. -/
theorem plus_rows8 : extractStridedSlice S1x1024 ![8, 0] (plus x) slices_S16x1024_S1x1024_8_0 =
    extractStridedSlice S1x1024 ![8, 0] x slices_S16x1024_S1x1024_8_0 := by
  funext y
  refine plus_at x _ ?_
  have h : (y 0).val < 1 := (y 0).isLt
  show 8 + (y 0).val < 12
  omega

/-- The addition changes none of the rows 9 to 9. -/
theorem plus_rows9 : extractStridedSlice S1x1024 ![9, 0] (plus x) slices_S16x1024_S1x1024_9_0 =
    extractStridedSlice S1x1024 ![9, 0] x slices_S16x1024_S1x1024_9_0 := by
  funext y
  refine plus_at x _ ?_
  have h : (y 0).val < 1 := (y 0).isLt
  show 9 + (y 0).val < 12
  omega

/-- The addition changes none of the rows 10 to 11. -/
theorem plus_rows10 : extractStridedSlice S2x1024 ![10, 0] (plus x) slices_S16x1024_S2x1024_10_0 =
    extractStridedSlice S2x1024 ![10, 0] x slices_S16x1024_S2x1024_10_0 := by
  funext y
  refine plus_at x _ ?_
  have h : (y 0).val < 2 := (y 0).isLt
  show 10 + (y 0).val < 12
  omega

/-- Nor does the addition change what is taken out of them. -/
theorem part0_plus : part0 (plus x) = part0 x := by
  unfold part0
  rw [plus_rows0]

/-- Nor does the addition change what is taken out of them. -/
theorem part1_plus : part1 (plus x) = part1 x := by
  unfold part1
  rw [plus_rows2]

/-- Nor does the addition change what is taken out of them. -/
theorem part2_plus : part2 (plus x) = part2 x := by
  unfold part2
  rw [plus_rows8]

/-- Nor does the addition change what is taken out of them. -/
theorem part3_plus : part3 (plus x) = part3 x := by
  unfold part3
  rw [plus_rows9]

/-- Nor does the addition change what is taken out of them. -/
theorem part4_plus : part4 (plus x) = part4 x := by
  unfold part4 conv
  rw [plus_rows10]

/-- Nor does the addition change what is taken out of them. -/
theorem part5_plus : part5 (plus x) = part5 x := by
  unfold part5 conv
  rw [plus_rows10]

end adding

/-- The step of every entry of an array. -/
def stepA {s : Shape} (w g m v : s.Idx → EReal) : s.Idx → EReal := fun y => step (w y) (g y) (m y) (v y)

/-- The new first moments. -/
def firstA {s : Shape} (g m : s.Idx → EReal) : s.Idx → EReal := fun y => first (g y) (m y)

/-- The new second moments. -/
def secondA {s : Shape} (g v : s.Idx → EReal) : s.Idx → EReal := fun y => second (g y) (v y)

/-- The origin, written out. -/
theorem z2 : (![0, 0] : Fin 2 → Nat) = fun _ => 0 := by decide

section block

variable (x0 x1 x2 x3 : Vec Ideal S16x1024 .f32)

/-- The first block written: the step. -/
theorem out4_eq : out0_4 (F := Ideal) x0 x1 x2 x3 = stepA x0 x1 x2 x3 := by
  funext y
  obtain ⟨r, k, rfl⟩ : ∃ (r : Fin 16) (k : Fin 1024), y = ix2 r k := ⟨y 0, y 1, eq_ix2 y⟩
  unfold out0_4
  rw [View.canon_unit_zero z2, View.ld_unit_zero (S := S16x1024) z2, View.ld_unit_zero (S := S16x1024) z2,
    View.ld_unit_zero (S := S16x1024) z2, View.ld_unit_zero (S := S16x1024) z2]
  unfold k0_pay4 k0_pay2 k0_pay3 k0_pay1
  pointwise
  rfl

/-- The second block written: the first moments. -/
theorem out5_eq : out0_5 (F := Ideal) x0 x1 x2 x3 = firstA x1 x2 := by
  funext y
  obtain ⟨r, k, rfl⟩ : ∃ (r : Fin 16) (k : Fin 1024), y = ix2 r k := ⟨y 0, y 1, eq_ix2 y⟩
  unfold out0_5
  rw [View.canon_unit_zero z2, View.ld_unit_zero (S := S16x1024) z2, View.ld_unit_zero (S := S16x1024) z2]
  unfold k0_pay2 k0_pay1
  pointwise
  rfl

/-- The third block written: the second moments. -/
theorem out6_eq : out0_6 (F := Ideal) x0 x1 x2 x3 = secondA x1 x3 := by
  funext y
  obtain ⟨r, k, rfl⟩ : ∃ (r : Fin 16) (k : Fin 1024), y = ix2 r k := ⟨y 0, y 1, eq_ix2 y⟩
  unfold out0_6
  rw [View.canon_unit_zero z2, View.ld_unit_zero (S := S16x1024) z2, View.ld_unit_zero (S := S16x1024) z2]
  unfold k0_pay3 k0_pay1
  pointwise
  rfl

end block

variable (m : (ℓ : Loc nD τ sig) → Buf (Elt Ideal) ℓ) (c : Dev nD)

/-- An argument's entries. -/
abbrev A (b : Ref sig .tc) := m ((c : Thread nD τ).loc b)

/-- The packed weights. -/
theorem read_w : V m c main_v17 = pack (A m c main_arg0) (A m c main_arg1) (A m c main_arg2) (A m c main_arg3) (A m c main_arg4) (A m c main_arg5) := by
  unfold V
  after_reads_simp
  change (fun U : Valuation τ sig (Elt Ideal) => cat (U (Proc.devRef .tc main_arg0)) (U (Proc.devRef .tc main_v14)) (U (Proc.devRef .tc main_arg2)) (U (Proc.devRef .tc main_v15)) (U (Proc.devRef .tc main_v13)) (U (Proc.devRef .tc main_v16))) (StableHlo.upto [hostOps0].flatten (fun b => m (c, b)) 21) = _
  after_reads_simp
  rfl

/-- The packed gradients. -/
theorem read_g : V m c main_v24 = pack (A m c main_arg6) (A m c main_arg7) (A m c main_arg8) (A m c main_arg9) (A m c main_arg10) (A m c main_arg11) := by
  unfold V
  after_reads_simp
  change (fun U : Valuation τ sig (Elt Ideal) => cat (U (Proc.devRef .tc main_arg6)) (U (Proc.devRef .tc main_v21)) (U (Proc.devRef .tc main_arg8)) (U (Proc.devRef .tc main_v22)) (U (Proc.devRef .tc main_v20)) (U (Proc.devRef .tc main_v23))) (StableHlo.upto [hostOps0].flatten (fun b => m (c, b)) 29) = _
  after_reads_simp
  rfl

/-- The packed first moments. -/
theorem read_m : V m c main_v31 = pack (A m c main_arg12) (A m c main_arg13) (A m c main_arg14) (A m c main_arg15) (A m c main_arg16) (A m c main_arg17) := by
  unfold V
  after_reads_simp
  change (fun U : Valuation τ sig (Elt Ideal) => cat (U (Proc.devRef .tc main_arg12)) (U (Proc.devRef .tc main_v28)) (U (Proc.devRef .tc main_arg14)) (U (Proc.devRef .tc main_v29)) (U (Proc.devRef .tc main_v27)) (U (Proc.devRef .tc main_v30))) (StableHlo.upto [hostOps0].flatten (fun b => m (c, b)) 37) = _
  after_reads_simp
  rfl

/-- The packed second moments. -/
theorem read_v : V m c main_v10 = plus (pack (A m c main_arg18) (A m c main_arg19) (A m c main_arg20) (A m c main_arg21) (A m c main_arg22) (A m c main_arg23)) := by
  unfold V
  after_reads_simp
  change addf (F := Ideal) (φ := .f32) ((fun U : Valuation τ sig (Elt Ideal) => cat (U (Proc.devRef .tc main_arg18)) (U (Proc.devRef .tc main_v3)) (U (Proc.devRef .tc main_arg20)) (U (Proc.devRef .tc main_v4)) (U (Proc.devRef .tc main_v2)) (U (Proc.devRef .tc main_v5))) (StableHlo.upto [hostOps0].flatten (fun b => m (c, b)) 7))
    ((fun U : Valuation τ sig (Elt Ideal) => cat2 (U (Proc.devRef .tc main_v7)) (U (Proc.devRef .tc main_v8)))
      (StableHlo.upto [hostOps0].flatten (fun b => m (c, b)) 12)) = _
  after_reads_simp
  rfl

/-- The window's one block is the array's first. -/
theorem index0 (t : Fin cfg0.N) : win0_0.index t = ![0, 0] := by revert t; decide +kernel
/-- The window's one block is the array's first. -/
theorem index1 (t : Fin cfg0.N) : win0_1.index t = ![0, 0] := by revert t; decide +kernel
/-- The window's one block is the array's first. -/
theorem index2 (t : Fin cfg0.N) : win0_2.index t = ![0, 0] := by revert t; decide +kernel
/-- The window's one block is the array's first. -/
theorem index3 (t : Fin cfg0.N) : win0_3.index t = ![0, 0] := by revert t; decide +kernel
/-- The window's one block is the array's first. -/
theorem index4 (t : Fin cfg0.N) : win0_4.index t = ![0, 0] := by revert t; decide +kernel
/-- The window's one block is the array's first. -/
theorem index5 (t : Fin cfg0.N) : win0_5.index t = ![0, 0] := by revert t; decide +kernel
/-- The window's one block is the array's first. -/
theorem index6 (t : Fin cfg0.N) : win0_6.index t = ![0, 0] := by revert t; decide +kernel

/-- The block that the one point reads is the whole array. -/
theorem block0 (t : Fin cfg0.N) : iblk m c 0 t = V m c main_v17 := by
  funext y
  unfold iblk
  rw [View.read_apply]
  refine congrArg (V m c main_v17) ?_
  funext k; apply Fin.ext
  match k with
  | ⟨0, _⟩ => show win0_0.index t 0 * 16 + 1 * (y 0).val = _; rw [index0]; show 0 * 16 + 1 * _ = (y 0).val; omega
  | ⟨1, _⟩ => show win0_0.index t 1 * 1024 + 1 * (y 1).val = _; rw [index0]; show 0 * 1024 + 1 * _ = (y 1).val; omega

/-- The block that the one point reads is the whole array. -/
theorem block1 (t : Fin cfg0.N) : iblk m c 1 t = V m c main_v24 := by
  funext y
  unfold iblk
  rw [View.read_apply]
  refine congrArg (V m c main_v24) ?_
  funext k; apply Fin.ext
  match k with
  | ⟨0, _⟩ => show win0_1.index t 0 * 16 + 1 * (y 0).val = _; rw [index1]; show 0 * 16 + 1 * _ = (y 0).val; omega
  | ⟨1, _⟩ => show win0_1.index t 1 * 1024 + 1 * (y 1).val = _; rw [index1]; show 0 * 1024 + 1 * _ = (y 1).val; omega

/-- The block that the one point reads is the whole array. -/
theorem block2 (t : Fin cfg0.N) : iblk m c 2 t = V m c main_v31 := by
  funext y
  unfold iblk
  rw [View.read_apply]
  refine congrArg (V m c main_v31) ?_
  funext k; apply Fin.ext
  match k with
  | ⟨0, _⟩ => show win0_2.index t 0 * 16 + 1 * (y 0).val = _; rw [index2]; show 0 * 16 + 1 * _ = (y 0).val; omega
  | ⟨1, _⟩ => show win0_2.index t 1 * 1024 + 1 * (y 1).val = _; rw [index2]; show 0 * 1024 + 1 * _ = (y 1).val; omega

/-- The block that the one point reads is the whole array. -/
theorem block3 (t : Fin cfg0.N) : iblk m c 3 t = V m c main_v10 := by
  funext y
  unfold iblk
  rw [View.read_apply]
  refine congrArg (V m c main_v10) ?_
  funext k; apply Fin.ext
  match k with
  | ⟨0, _⟩ => show win0_3.index t 0 * 16 + 1 * (y 0).val = _; rw [index3]; show 0 * 16 + 1 * _ = (y 0).val; omega
  | ⟨1, _⟩ => show win0_3.index t 1 * 1024 + 1 * (y 1).val = _; rw [index3]; show 0 * 1024 + 1 * _ = (y 1).val; omega

/-- The packed step. -/
theorem final4 : (dats m 0 c).arrAt 4 cfg0.N = stepA (V m c main_v17) (V m c main_v24) (V m c main_v31) (V m c main_v10) := by
  refine (dats m 0 c).arrAt_eq_of_covers 4 _ (by decide +kernel) fun t hf y => ?_
  rw [after0_4, out4_eq, block0, block1, block2, block3]
  blk_simp [index4]
  refine congrArg (stepA (V m c main_v17) (V m c main_v24) (V m c main_v31) (V m c main_v10)) ?_
  funext k; apply Fin.ext
  match k with
  | ⟨0, _⟩ => show (y 0).val = win0_4.index t 0 * 16 + 1 * (y 0).val; rw [index4]; show (y 0).val = 0 * 16 + 1 * _; omega
  | ⟨1, _⟩ => show (y 1).val = win0_4.index t 1 * 1024 + 1 * (y 1).val; rw [index4]; show (y 1).val = 0 * 1024 + 1 * _; omega

/-- The packed first moments. -/
theorem final5 : (dats m 0 c).arrAt 5 cfg0.N = firstA (V m c main_v24) (V m c main_v31) := by
  refine (dats m 0 c).arrAt_eq_of_covers 5 _ (by decide +kernel) fun t hf y => ?_
  rw [after0_5, out5_eq, block1, block2]
  blk_simp [index5]
  refine congrArg (firstA (V m c main_v24) (V m c main_v31)) ?_
  funext k; apply Fin.ext
  match k with
  | ⟨0, _⟩ => show (y 0).val = win0_5.index t 0 * 16 + 1 * (y 0).val; rw [index5]; show (y 0).val = 0 * 16 + 1 * _; omega
  | ⟨1, _⟩ => show (y 1).val = win0_5.index t 1 * 1024 + 1 * (y 1).val; rw [index5]; show (y 1).val = 0 * 1024 + 1 * _; omega

/-- The packed second moments. -/
theorem final6 : (dats m 0 c).arrAt 6 cfg0.N = secondA (V m c main_v24) (V m c main_v10) := by
  refine (dats m 0 c).arrAt_eq_of_covers 6 _ (by decide +kernel) fun t hf y => ?_
  rw [after0_6, out6_eq, block1, block3]
  blk_simp [index6]
  refine congrArg (secondA (V m c main_v24) (V m c main_v10)) ?_
  funext k; apply Fin.ext
  match k with
  | ⟨0, _⟩ => show (y 0).val = win0_6.index t 0 * 16 + 1 * (y 0).val; rw [index6]; show (y 0).val = 0 * 16 + 1 * _; omega
  | ⟨1, _⟩ => show (y 1).val = win0_6.index t 1 * 1024 + 1 * (y 1).val; rw [index6]; show (y 1).val = 0 * 1024 + 1 * _; omega

/-- Past the call its result is there. -/
theorem exit0 : Pipeline.withArrays spec0 c (V0 m c) (fun w => (dats m 0 c).arrAt w cfg0.N) (Proc.devRef .tc main_v32_0)
    = (dats m 0 c).arrAt 4 cfg0.N :=
  Pipeline.withArrays_arr spec0 winFacts0.arr_inj c (V0 m c) (fun w => (dats m 0 c).arrAt w cfg0.N) 4

/-- Past the call its result is there. -/
theorem exit1 : Pipeline.withArrays spec0 c (V0 m c) (fun w => (dats m 0 c).arrAt w cfg0.N) (Proc.devRef .tc main_v32_1)
    = (dats m 0 c).arrAt 5 cfg0.N :=
  Pipeline.withArrays_arr spec0 winFacts0.arr_inj c (V0 m c) (fun w => (dats m 0 c).arrAt w cfg0.N) 5

/-- Past the call its result is there. -/
theorem exit2 : Pipeline.withArrays spec0 c (V0 m c) (fun w => (dats m 0 c).arrAt w cfg0.N) (Proc.devRef .tc main_v32_2)
    = (dats m 0 c).arrAt 6 cfg0.N :=
  Pipeline.withArrays_arr spec0 winFacts0.arr_inj c (V0 m c) (fun w => (dats m 0 c).arrAt w cfg0.N) 6

/-- The host takes the step of the norms' weights out of the packed rows. -/
theorem tail0_0 (U : Valuation τ sig (Elt Ideal)) :
    StableHlo.after [hostOps1].flatten U (Proc.devRef .tc main_v35) = part0 (U (Proc.devRef .tc main_v32_0)) := by
  after_reads_simp
  rfl

/-- The step of the norms' weights. -/
theorem res0_0 : Pipeline.afterTail₀ cfgs (dats m) 0 (V0 m) [hostOps1] c main_v35 =
    stepA (s := S2x1024) (A m c main_arg0) (A m c main_arg6) (A m c main_arg12) (A m c main_arg18) := by
  refine (tail0_0 _).trans ((congrArg part0 ((exit0 m c).trans (final4 m c))).trans ?_)
  rw [read_w, read_g, read_m, read_v]
  show stepA (part0 (pack (A m c main_arg0) (A m c main_arg1) (A m c main_arg2) (A m c main_arg3) (A m c main_arg4) (A m c main_arg5))) (part0 (pack (A m c main_arg6) (A m c main_arg7) (A m c main_arg8) (A m c main_arg9) (A m c main_arg10) (A m c main_arg11))) (part0 (pack (A m c main_arg12) (A m c main_arg13) (A m c main_arg14) (A m c main_arg15) (A m c main_arg16) (A m c main_arg17))) (part0 (plus (pack (A m c main_arg18) (A m c main_arg19) (A m c main_arg20) (A m c main_arg21) (A m c main_arg22) (A m c main_arg23)))) = _
  rw [part0_plus, part0_pack, part0_pack, part0_pack, part0_pack]

/-- The host takes the step of the conditioning's bias out of the packed rows. -/
theorem tail0_1 (U : Valuation τ sig (Elt Ideal)) :
    StableHlo.after [hostOps1].flatten U (Proc.devRef .tc main_v37) = part1 (U (Proc.devRef .tc main_v32_0)) := by
  after_reads_simp
  rfl

/-- The step of the conditioning's bias. -/
theorem res0_1 : Pipeline.afterTail₀ cfgs (dats m) 0 (V0 m) [hostOps1] c main_v37 =
    stepA (s := S2x3072) (A m c main_arg1) (A m c main_arg7) (A m c main_arg13) (A m c main_arg19) := by
  refine (tail0_1 _).trans ((congrArg part1 ((exit0 m c).trans (final4 m c))).trans ?_)
  rw [read_w, read_g, read_m, read_v]
  show stepA (part1 (pack (A m c main_arg0) (A m c main_arg1) (A m c main_arg2) (A m c main_arg3) (A m c main_arg4) (A m c main_arg5))) (part1 (pack (A m c main_arg6) (A m c main_arg7) (A m c main_arg8) (A m c main_arg9) (A m c main_arg10) (A m c main_arg11))) (part1 (pack (A m c main_arg12) (A m c main_arg13) (A m c main_arg14) (A m c main_arg15) (A m c main_arg16) (A m c main_arg17))) (part1 (plus (pack (A m c main_arg18) (A m c main_arg19) (A m c main_arg20) (A m c main_arg21) (A m c main_arg22) (A m c main_arg23)))) = _
  rw [part1_plus, part1_pack, part1_pack, part1_pack, part1_pack]

/-- The host takes the step of the pooling's scale out of the packed rows. -/
theorem tail0_2 (U : Valuation τ sig (Elt Ideal)) :
    StableHlo.after [hostOps1].flatten U (Proc.devRef .tc main_v38) = part2 (U (Proc.devRef .tc main_v32_0)) := by
  after_reads_simp
  rfl

/-- The step of the pooling's scale. -/
theorem res0_2 : Pipeline.afterTail₀ cfgs (dats m) 0 (V0 m) [hostOps1] c main_v38 =
    stepA (s := S1x1024) (A m c main_arg2) (A m c main_arg8) (A m c main_arg14) (A m c main_arg20) := by
  refine (tail0_2 _).trans ((congrArg part2 ((exit0 m c).trans (final4 m c))).trans ?_)
  rw [read_w, read_g, read_m, read_v]
  show stepA (part2 (pack (A m c main_arg0) (A m c main_arg1) (A m c main_arg2) (A m c main_arg3) (A m c main_arg4) (A m c main_arg5))) (part2 (pack (A m c main_arg6) (A m c main_arg7) (A m c main_arg8) (A m c main_arg9) (A m c main_arg10) (A m c main_arg11))) (part2 (pack (A m c main_arg12) (A m c main_arg13) (A m c main_arg14) (A m c main_arg15) (A m c main_arg16) (A m c main_arg17))) (part2 (plus (pack (A m c main_arg18) (A m c main_arg19) (A m c main_arg20) (A m c main_arg21) (A m c main_arg22) (A m c main_arg23)))) = _
  rw [part2_plus, part2_pack, part2_pack, part2_pack, part2_pack]

/-- The host takes the step of the final norm's weights out of the packed rows. -/
theorem tail0_3 (U : Valuation τ sig (Elt Ideal)) :
    StableHlo.after [hostOps1].flatten U (Proc.devRef .tc main_v40) = part3 (U (Proc.devRef .tc main_v32_0)) := by
  after_reads_simp
  rfl

/-- The step of the final norm's weights. -/
theorem res0_3 : Pipeline.afterTail₀ cfgs (dats m) 0 (V0 m) [hostOps1] c main_v40 =
    stepA (s := S1024) (A m c main_arg3) (A m c main_arg9) (A m c main_arg15) (A m c main_arg21) := by
  refine (tail0_3 _).trans ((congrArg part3 ((exit0 m c).trans (final4 m c))).trans ?_)
  rw [read_w, read_g, read_m, read_v]
  show stepA (part3 (pack (A m c main_arg0) (A m c main_arg1) (A m c main_arg2) (A m c main_arg3) (A m c main_arg4) (A m c main_arg5))) (part3 (pack (A m c main_arg6) (A m c main_arg7) (A m c main_arg8) (A m c main_arg9) (A m c main_arg10) (A m c main_arg11))) (part3 (pack (A m c main_arg12) (A m c main_arg13) (A m c main_arg14) (A m c main_arg15) (A m c main_arg16) (A m c main_arg17))) (part3 (plus (pack (A m c main_arg18) (A m c main_arg19) (A m c main_arg20) (A m c main_arg21) (A m c main_arg22) (A m c main_arg23)))) = _
  rw [part3_plus, part3_pack, part3_pack, part3_pack, part3_pack]

/-- The host takes the step of the convolution's taps out of the packed rows. -/
theorem tail0_4 (U : Valuation τ sig (Elt Ideal)) :
    StableHlo.after [hostOps1].flatten U (Proc.devRef .tc main_v42) = part4 (U (Proc.devRef .tc main_v32_0)) := by
  after_reads_simp
  rfl

/-- The step of the convolution's taps. -/
theorem res0_4 : Pipeline.afterTail₀ cfgs (dats m) 0 (V0 m) [hostOps1] c main_v42 =
    stepA (s := S1x3x512) (A m c main_arg4) (A m c main_arg10) (A m c main_arg16) (A m c main_arg22) := by
  refine (tail0_4 _).trans ((congrArg part4 ((exit0 m c).trans (final4 m c))).trans ?_)
  rw [read_w, read_g, read_m, read_v]
  show stepA (part4 (pack (A m c main_arg0) (A m c main_arg1) (A m c main_arg2) (A m c main_arg3) (A m c main_arg4) (A m c main_arg5))) (part4 (pack (A m c main_arg6) (A m c main_arg7) (A m c main_arg8) (A m c main_arg9) (A m c main_arg10) (A m c main_arg11))) (part4 (pack (A m c main_arg12) (A m c main_arg13) (A m c main_arg14) (A m c main_arg15) (A m c main_arg16) (A m c main_arg17))) (part4 (plus (pack (A m c main_arg18) (A m c main_arg19) (A m c main_arg20) (A m c main_arg21) (A m c main_arg22) (A m c main_arg23)))) = _
  rw [part4_plus, part4_pack, part4_pack, part4_pack, part4_pack]

/-- The host takes the step of the convolution's bias out of the packed rows. -/
theorem tail0_5 (U : Valuation τ sig (Elt Ideal)) :
    StableHlo.after [hostOps1].flatten U (Proc.devRef .tc main_v43) = part5 (U (Proc.devRef .tc main_v32_0)) := by
  after_reads_simp
  rfl

/-- The step of the convolution's bias. -/
theorem res0_5 : Pipeline.afterTail₀ cfgs (dats m) 0 (V0 m) [hostOps1] c main_v43 =
    stepA (s := S1x512) (A m c main_arg5) (A m c main_arg11) (A m c main_arg17) (A m c main_arg23) := by
  refine (tail0_5 _).trans ((congrArg part5 ((exit0 m c).trans (final4 m c))).trans ?_)
  rw [read_w, read_g, read_m, read_v]
  show stepA (part5 (pack (A m c main_arg0) (A m c main_arg1) (A m c main_arg2) (A m c main_arg3) (A m c main_arg4) (A m c main_arg5))) (part5 (pack (A m c main_arg6) (A m c main_arg7) (A m c main_arg8) (A m c main_arg9) (A m c main_arg10) (A m c main_arg11))) (part5 (pack (A m c main_arg12) (A m c main_arg13) (A m c main_arg14) (A m c main_arg15) (A m c main_arg16) (A m c main_arg17))) (part5 (plus (pack (A m c main_arg18) (A m c main_arg19) (A m c main_arg20) (A m c main_arg21) (A m c main_arg22) (A m c main_arg23)))) = _
  rw [part5_plus, part5_pack, part5_pack, part5_pack, part5_pack]

/-- The host takes the first moments of the norms' weights out of the packed rows. -/
theorem tail1_0 (U : Valuation τ sig (Elt Ideal)) :
    StableHlo.after [hostOps1].flatten U (Proc.devRef .tc main_v46) = part0 (U (Proc.devRef .tc main_v32_1)) := by
  after_reads_simp
  rfl

/-- The first moments of the norms' weights. -/
theorem res1_0 : Pipeline.afterTail₀ cfgs (dats m) 0 (V0 m) [hostOps1] c main_v46 =
    firstA (s := S2x1024) (A m c main_arg6) (A m c main_arg12) := by
  refine (tail1_0 _).trans ((congrArg part0 ((exit1 m c).trans (final5 m c))).trans ?_)
  rw [read_g, read_m]
  show firstA (part0 (pack (A m c main_arg6) (A m c main_arg7) (A m c main_arg8) (A m c main_arg9) (A m c main_arg10) (A m c main_arg11))) (part0 (pack (A m c main_arg12) (A m c main_arg13) (A m c main_arg14) (A m c main_arg15) (A m c main_arg16) (A m c main_arg17))) = _
  rw [part0_pack, part0_pack]

/-- The host takes the first moments of the conditioning's bias out of the packed rows. -/
theorem tail1_1 (U : Valuation τ sig (Elt Ideal)) :
    StableHlo.after [hostOps1].flatten U (Proc.devRef .tc main_v48) = part1 (U (Proc.devRef .tc main_v32_1)) := by
  after_reads_simp
  rfl

/-- The first moments of the conditioning's bias. -/
theorem res1_1 : Pipeline.afterTail₀ cfgs (dats m) 0 (V0 m) [hostOps1] c main_v48 =
    firstA (s := S2x3072) (A m c main_arg7) (A m c main_arg13) := by
  refine (tail1_1 _).trans ((congrArg part1 ((exit1 m c).trans (final5 m c))).trans ?_)
  rw [read_g, read_m]
  show firstA (part1 (pack (A m c main_arg6) (A m c main_arg7) (A m c main_arg8) (A m c main_arg9) (A m c main_arg10) (A m c main_arg11))) (part1 (pack (A m c main_arg12) (A m c main_arg13) (A m c main_arg14) (A m c main_arg15) (A m c main_arg16) (A m c main_arg17))) = _
  rw [part1_pack, part1_pack]

/-- The host takes the first moments of the pooling's scale out of the packed rows. -/
theorem tail1_2 (U : Valuation τ sig (Elt Ideal)) :
    StableHlo.after [hostOps1].flatten U (Proc.devRef .tc main_v49) = part2 (U (Proc.devRef .tc main_v32_1)) := by
  after_reads_simp
  rfl

/-- The first moments of the pooling's scale. -/
theorem res1_2 : Pipeline.afterTail₀ cfgs (dats m) 0 (V0 m) [hostOps1] c main_v49 =
    firstA (s := S1x1024) (A m c main_arg8) (A m c main_arg14) := by
  refine (tail1_2 _).trans ((congrArg part2 ((exit1 m c).trans (final5 m c))).trans ?_)
  rw [read_g, read_m]
  show firstA (part2 (pack (A m c main_arg6) (A m c main_arg7) (A m c main_arg8) (A m c main_arg9) (A m c main_arg10) (A m c main_arg11))) (part2 (pack (A m c main_arg12) (A m c main_arg13) (A m c main_arg14) (A m c main_arg15) (A m c main_arg16) (A m c main_arg17))) = _
  rw [part2_pack, part2_pack]

/-- The host takes the first moments of the final norm's weights out of the packed rows. -/
theorem tail1_3 (U : Valuation τ sig (Elt Ideal)) :
    StableHlo.after [hostOps1].flatten U (Proc.devRef .tc main_v51) = part3 (U (Proc.devRef .tc main_v32_1)) := by
  after_reads_simp
  rfl

/-- The first moments of the final norm's weights. -/
theorem res1_3 : Pipeline.afterTail₀ cfgs (dats m) 0 (V0 m) [hostOps1] c main_v51 =
    firstA (s := S1024) (A m c main_arg9) (A m c main_arg15) := by
  refine (tail1_3 _).trans ((congrArg part3 ((exit1 m c).trans (final5 m c))).trans ?_)
  rw [read_g, read_m]
  show firstA (part3 (pack (A m c main_arg6) (A m c main_arg7) (A m c main_arg8) (A m c main_arg9) (A m c main_arg10) (A m c main_arg11))) (part3 (pack (A m c main_arg12) (A m c main_arg13) (A m c main_arg14) (A m c main_arg15) (A m c main_arg16) (A m c main_arg17))) = _
  rw [part3_pack, part3_pack]

/-- The host takes the first moments of the convolution's taps out of the packed rows. -/
theorem tail1_4 (U : Valuation τ sig (Elt Ideal)) :
    StableHlo.after [hostOps1].flatten U (Proc.devRef .tc main_v53) = part4 (U (Proc.devRef .tc main_v32_1)) := by
  after_reads_simp
  rfl

/-- The first moments of the convolution's taps. -/
theorem res1_4 : Pipeline.afterTail₀ cfgs (dats m) 0 (V0 m) [hostOps1] c main_v53 =
    firstA (s := S1x3x512) (A m c main_arg10) (A m c main_arg16) := by
  refine (tail1_4 _).trans ((congrArg part4 ((exit1 m c).trans (final5 m c))).trans ?_)
  rw [read_g, read_m]
  show firstA (part4 (pack (A m c main_arg6) (A m c main_arg7) (A m c main_arg8) (A m c main_arg9) (A m c main_arg10) (A m c main_arg11))) (part4 (pack (A m c main_arg12) (A m c main_arg13) (A m c main_arg14) (A m c main_arg15) (A m c main_arg16) (A m c main_arg17))) = _
  rw [part4_pack, part4_pack]

/-- The host takes the first moments of the convolution's bias out of the packed rows. -/
theorem tail1_5 (U : Valuation τ sig (Elt Ideal)) :
    StableHlo.after [hostOps1].flatten U (Proc.devRef .tc main_v54) = part5 (U (Proc.devRef .tc main_v32_1)) := by
  after_reads_simp
  rfl

/-- The first moments of the convolution's bias. -/
theorem res1_5 : Pipeline.afterTail₀ cfgs (dats m) 0 (V0 m) [hostOps1] c main_v54 =
    firstA (s := S1x512) (A m c main_arg11) (A m c main_arg17) := by
  refine (tail1_5 _).trans ((congrArg part5 ((exit1 m c).trans (final5 m c))).trans ?_)
  rw [read_g, read_m]
  show firstA (part5 (pack (A m c main_arg6) (A m c main_arg7) (A m c main_arg8) (A m c main_arg9) (A m c main_arg10) (A m c main_arg11))) (part5 (pack (A m c main_arg12) (A m c main_arg13) (A m c main_arg14) (A m c main_arg15) (A m c main_arg16) (A m c main_arg17))) = _
  rw [part5_pack, part5_pack]

/-- The host takes the second moments of the norms' weights out of the packed rows. -/
theorem tail2_0 (U : Valuation τ sig (Elt Ideal)) :
    StableHlo.after [hostOps1].flatten U (Proc.devRef .tc main_v57) = part0 (U (Proc.devRef .tc main_v32_2)) := by
  after_reads_simp
  rfl

/-- The second moments of the norms' weights. -/
theorem res2_0 : Pipeline.afterTail₀ cfgs (dats m) 0 (V0 m) [hostOps1] c main_v57 =
    secondA (s := S2x1024) (A m c main_arg6) (A m c main_arg18) := by
  refine (tail2_0 _).trans ((congrArg part0 ((exit2 m c).trans (final6 m c))).trans ?_)
  rw [read_g, read_v]
  show secondA (part0 (pack (A m c main_arg6) (A m c main_arg7) (A m c main_arg8) (A m c main_arg9) (A m c main_arg10) (A m c main_arg11))) (part0 (plus (pack (A m c main_arg18) (A m c main_arg19) (A m c main_arg20) (A m c main_arg21) (A m c main_arg22) (A m c main_arg23)))) = _
  rw [part0_plus, part0_pack, part0_pack]

/-- The host takes the second moments of the conditioning's bias out of the packed rows. -/
theorem tail2_1 (U : Valuation τ sig (Elt Ideal)) :
    StableHlo.after [hostOps1].flatten U (Proc.devRef .tc main_v59) = part1 (U (Proc.devRef .tc main_v32_2)) := by
  after_reads_simp
  rfl

/-- The second moments of the conditioning's bias. -/
theorem res2_1 : Pipeline.afterTail₀ cfgs (dats m) 0 (V0 m) [hostOps1] c main_v59 =
    secondA (s := S2x3072) (A m c main_arg7) (A m c main_arg19) := by
  refine (tail2_1 _).trans ((congrArg part1 ((exit2 m c).trans (final6 m c))).trans ?_)
  rw [read_g, read_v]
  show secondA (part1 (pack (A m c main_arg6) (A m c main_arg7) (A m c main_arg8) (A m c main_arg9) (A m c main_arg10) (A m c main_arg11))) (part1 (plus (pack (A m c main_arg18) (A m c main_arg19) (A m c main_arg20) (A m c main_arg21) (A m c main_arg22) (A m c main_arg23)))) = _
  rw [part1_plus, part1_pack, part1_pack]

/-- The host takes the second moments of the pooling's scale out of the packed rows. -/
theorem tail2_2 (U : Valuation τ sig (Elt Ideal)) :
    StableHlo.after [hostOps1].flatten U (Proc.devRef .tc main_v60) = part2 (U (Proc.devRef .tc main_v32_2)) := by
  after_reads_simp
  rfl

/-- The second moments of the pooling's scale. -/
theorem res2_2 : Pipeline.afterTail₀ cfgs (dats m) 0 (V0 m) [hostOps1] c main_v60 =
    secondA (s := S1x1024) (A m c main_arg8) (A m c main_arg20) := by
  refine (tail2_2 _).trans ((congrArg part2 ((exit2 m c).trans (final6 m c))).trans ?_)
  rw [read_g, read_v]
  show secondA (part2 (pack (A m c main_arg6) (A m c main_arg7) (A m c main_arg8) (A m c main_arg9) (A m c main_arg10) (A m c main_arg11))) (part2 (plus (pack (A m c main_arg18) (A m c main_arg19) (A m c main_arg20) (A m c main_arg21) (A m c main_arg22) (A m c main_arg23)))) = _
  rw [part2_plus, part2_pack, part2_pack]

/-- The host takes the second moments of the final norm's weights out of the packed rows. -/
theorem tail2_3 (U : Valuation τ sig (Elt Ideal)) :
    StableHlo.after [hostOps1].flatten U (Proc.devRef .tc main_v62) = part3 (U (Proc.devRef .tc main_v32_2)) := by
  after_reads_simp
  rfl

/-- The second moments of the final norm's weights. -/
theorem res2_3 : Pipeline.afterTail₀ cfgs (dats m) 0 (V0 m) [hostOps1] c main_v62 =
    secondA (s := S1024) (A m c main_arg9) (A m c main_arg21) := by
  refine (tail2_3 _).trans ((congrArg part3 ((exit2 m c).trans (final6 m c))).trans ?_)
  rw [read_g, read_v]
  show secondA (part3 (pack (A m c main_arg6) (A m c main_arg7) (A m c main_arg8) (A m c main_arg9) (A m c main_arg10) (A m c main_arg11))) (part3 (plus (pack (A m c main_arg18) (A m c main_arg19) (A m c main_arg20) (A m c main_arg21) (A m c main_arg22) (A m c main_arg23)))) = _
  rw [part3_plus, part3_pack, part3_pack]

/-- The host takes the second moments of the convolution's taps out of the packed rows. -/
theorem tail2_4 (U : Valuation τ sig (Elt Ideal)) :
    StableHlo.after [hostOps1].flatten U (Proc.devRef .tc main_v64) = part4 (U (Proc.devRef .tc main_v32_2)) := by
  after_reads_simp
  rfl

/-- The second moments of the convolution's taps. -/
theorem res2_4 : Pipeline.afterTail₀ cfgs (dats m) 0 (V0 m) [hostOps1] c main_v64 =
    secondA (s := S1x3x512) (A m c main_arg10) (A m c main_arg22) := by
  refine (tail2_4 _).trans ((congrArg part4 ((exit2 m c).trans (final6 m c))).trans ?_)
  rw [read_g, read_v]
  show secondA (part4 (pack (A m c main_arg6) (A m c main_arg7) (A m c main_arg8) (A m c main_arg9) (A m c main_arg10) (A m c main_arg11))) (part4 (plus (pack (A m c main_arg18) (A m c main_arg19) (A m c main_arg20) (A m c main_arg21) (A m c main_arg22) (A m c main_arg23)))) = _
  rw [part4_plus, part4_pack, part4_pack]

/-- The host takes the second moments of the convolution's bias out of the packed rows. -/
theorem tail2_5 (U : Valuation τ sig (Elt Ideal)) :
    StableHlo.after [hostOps1].flatten U (Proc.devRef .tc main_v65) = part5 (U (Proc.devRef .tc main_v32_2)) := by
  after_reads_simp
  rfl

/-- The second moments of the convolution's bias. -/
theorem res2_5 : Pipeline.afterTail₀ cfgs (dats m) 0 (V0 m) [hostOps1] c main_v65 =
    secondA (s := S1x512) (A m c main_arg11) (A m c main_arg23) := by
  refine (tail2_5 _).trans ((congrArg part5 ((exit2 m c).trans (final6 m c))).trans ?_)
  rw [read_g, read_v]
  show secondA (part5 (pack (A m c main_arg6) (A m c main_arg7) (A m c main_arg8) (A m c main_arg9) (A m c main_arg10) (A m c main_arg11))) (part5 (plus (pack (A m c main_arg18) (A m c main_arg19) (A m c main_arg20) (A m c main_arg21) (A m c main_arg22) (A m c main_arg23)))) = _
  rw [part5_plus, part5_pack, part5_pack]

/-- Equal arrays have equal steps. -/
theorem stepA_congr {s : Shape} {w w' g g' m m' v v' : s.Idx → EReal} (hw : w = w') (hg : g = g') (hm : m = m') (hv : v = v') :
    stepA w g m v = stepA w' g' m' v' := by rw [hw, hg, hm, hv]

/-- Equal arrays have equal first moments. -/
theorem firstA_congr {s : Shape} {g g' m m' : s.Idx → EReal} (hg : g = g') (hm : m = m') : firstA g m = firstA g' m' := by
  rw [hg, hm]

/-- Equal arrays have equal second moments. -/
theorem secondA_congr {s : Shape} {g g' v v' : s.Idx → EReal} (hg : g = g') (hv : v = v') : secondA g v = secondA g' v' := by
  rw [hg, hv]

/-- The call and the reference end with the same steps and moments of all six. -/
theorem algebraic : Cert.algebraic_AdamSmallIdeal_AdamSmallRefIdeal := by
  intro m g m' g' _ hargs
  refine ⟨fun c => stepA (s := S2x1024) (A m c main_arg0) (A m c main_arg6) (A m c main_arg12) (A m c main_arg18),
    fun c => stepA (s := S2x3072) (A m c main_arg1) (A m c main_arg7) (A m c main_arg13) (A m c main_arg19),
    fun c => stepA (s := S1x1024) (A m c main_arg2) (A m c main_arg8) (A m c main_arg14) (A m c main_arg20),
    fun c => stepA (s := S1024) (A m c main_arg3) (A m c main_arg9) (A m c main_arg15) (A m c main_arg21),
    fun c => stepA (s := S1x3x512) (A m c main_arg4) (A m c main_arg10) (A m c main_arg16) (A m c main_arg22),
    fun c => stepA (s := S1x512) (A m c main_arg5) (A m c main_arg11) (A m c main_arg17) (A m c main_arg23),
    fun c => firstA (s := S2x1024) (A m c main_arg6) (A m c main_arg12),
    fun c => firstA (s := S2x3072) (A m c main_arg7) (A m c main_arg13),
    fun c => firstA (s := S1x1024) (A m c main_arg8) (A m c main_arg14),
    fun c => firstA (s := S1024) (A m c main_arg9) (A m c main_arg15),
    fun c => firstA (s := S1x3x512) (A m c main_arg10) (A m c main_arg16),
    fun c => firstA (s := S1x512) (A m c main_arg11) (A m c main_arg17),
    fun c => secondA (s := S2x1024) (A m c main_arg6) (A m c main_arg18),
    fun c => secondA (s := S2x3072) (A m c main_arg7) (A m c main_arg19),
    fun c => secondA (s := S1x1024) (A m c main_arg8) (A m c main_arg20),
    fun c => secondA (s := S1024) (A m c main_arg9) (A m c main_arg21),
    fun c => secondA (s := S1x3x512) (A m c main_arg10) (A m c main_arg22),
    fun c => secondA (s := S1x512) (A m c main_arg11) (A m c main_arg23), ?_, ?_⟩
  · refine (θ_run _ _ _).mono (fun r h c => ?_) (run_main (F := Ideal) m g)
    exact ⟨((h c).2 main_v35 (Pipeline.mem_restRefs_of main_v35 (by decide) (by decide))).trans (res0_0 m c),
      ((h c).2 main_v37 (Pipeline.mem_restRefs_of main_v37 (by decide) (by decide))).trans (res0_1 m c),
      ((h c).2 main_v38 (Pipeline.mem_restRefs_of main_v38 (by decide) (by decide))).trans (res0_2 m c),
      ((h c).2 main_v40 (Pipeline.mem_restRefs_of main_v40 (by decide) (by decide))).trans (res0_3 m c),
      ((h c).2 main_v42 (Pipeline.mem_restRefs_of main_v42 (by decide) (by decide))).trans (res0_4 m c),
      ((h c).2 main_v43 (Pipeline.mem_restRefs_of main_v43 (by decide) (by decide))).trans (res0_5 m c),
      ((h c).2 main_v46 (Pipeline.mem_restRefs_of main_v46 (by decide) (by decide))).trans (res1_0 m c),
      ((h c).2 main_v48 (Pipeline.mem_restRefs_of main_v48 (by decide) (by decide))).trans (res1_1 m c),
      ((h c).2 main_v49 (Pipeline.mem_restRefs_of main_v49 (by decide) (by decide))).trans (res1_2 m c),
      ((h c).2 main_v51 (Pipeline.mem_restRefs_of main_v51 (by decide) (by decide))).trans (res1_3 m c),
      ((h c).2 main_v53 (Pipeline.mem_restRefs_of main_v53 (by decide) (by decide))).trans (res1_4 m c),
      ((h c).2 main_v54 (Pipeline.mem_restRefs_of main_v54 (by decide) (by decide))).trans (res1_5 m c),
      ((h c).2 main_v57 (Pipeline.mem_restRefs_of main_v57 (by decide) (by decide))).trans (res2_0 m c),
      ((h c).2 main_v59 (Pipeline.mem_restRefs_of main_v59 (by decide) (by decide))).trans (res2_1 m c),
      ((h c).2 main_v60 (Pipeline.mem_restRefs_of main_v60 (by decide) (by decide))).trans (res2_2 m c),
      ((h c).2 main_v62 (Pipeline.mem_restRefs_of main_v62 (by decide) (by decide))).trans (res2_3 m c),
      ((h c).2 main_v64 (Pipeline.mem_restRefs_of main_v64 (by decide) (by decide))).trans (res2_4 m c),
      ((h c).2 main_v65 (Pipeline.mem_restRefs_of main_v65 (by decide) (by decide))).trans (res2_5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c),
      ((h c).2 main_arg18 (Pipeline.mem_restRefs_of main_arg18 (by decide) (by decide))).trans (W_main_arg18 m (dats m) c),
      ((h c).2 main_arg19 (Pipeline.mem_restRefs_of main_arg19 (by decide) (by decide))).trans (W_main_arg19 m (dats m) c),
      ((h c).2 main_arg20 (Pipeline.mem_restRefs_of main_arg20 (by decide) (by decide))).trans (W_main_arg20 m (dats m) c),
      ((h c).2 main_arg21 (Pipeline.mem_restRefs_of main_arg21 (by decide) (by decide))).trans (W_main_arg21 m (dats m) c),
      ((h c).2 main_arg22 (Pipeline.mem_restRefs_of main_arg22 (by decide) (by decide))).trans (W_main_arg22 m (dats m) c),
      ((h c).2 main_arg23 (Pipeline.mem_restRefs_of main_arg23 (by decide) (by decide))).trans (W_main_arg23 m (dats m) c)⟩
  · refine (θ_run _ _ _).mono (fun r h c => ?_) (Cert.AdamSmallRefIdeal.Value.run (F := Ideal) m' g')
    obtain ⟨e0, e1, e2, e3, e4, e5, e6, e7, e8, e9, e10, e11, e12, e13, e14, e15, e16, e17, hk⟩ := h c
    obtain ⟨a0, a1, a2, a3, a4, a5, a6, a7, a8, a9, a10, a11, a12, a13, a14, a15, a16, a17, a18, a19, a20, a21, a22, a23⟩ := hargs c
    exact ⟨e0.trans (stepA_congr (s := S2x1024) a0 a6 a12 a18),
      e1.trans (stepA_congr (s := S2x3072) a1 a7 a13 a19),
      e2.trans (stepA_congr (s := S1x1024) a2 a8 a14 a20),
      e3.trans (stepA_congr (s := S1024) a3 a9 a15 a21),
      e4.trans (stepA_congr (s := S1x3x512) a4 a10 a16 a22),
      e5.trans (stepA_congr (s := S1x512) a5 a11 a17 a23),
      e6.trans (firstA_congr (s := S2x1024) a6 a12),
      e7.trans (firstA_congr (s := S2x3072) a7 a13),
      e8.trans (firstA_congr (s := S1x1024) a8 a14),
      e9.trans (firstA_congr (s := S1024) a9 a15),
      e10.trans (firstA_congr (s := S1x3x512) a10 a16),
      e11.trans (firstA_congr (s := S1x512) a11 a17),
      e12.trans (secondA_congr (s := S2x1024) a6 a18),
      e13.trans (secondA_congr (s := S2x3072) a7 a19),
      e14.trans (secondA_congr (s := S1x1024) a8 a20),
      e15.trans (secondA_congr (s := S1024) a9 a21),
      e16.trans (secondA_congr (s := S1x3x512) a10 a22),
      e17.trans (secondA_congr (s := S1x512) a11 a23), hk⟩

/-- The reference runs, and ends with its arguments unchanged and its counters at zero: it declares none. -/
theorem frame_reference : Cert.quiescent_AdamSmallRefIdeal := fun m g _ =>
  (θ_run _ _ _).mono (fun r h => ⟨fun c => (h c).2.2.2.2.2.2.2.2.2.2.2.2.2.2.2.2.2.2, sem_eq_zero_of_no_sems (by decide) _⟩)
    (Cert.AdamSmallRefIdeal.Value.run (F := Ideal) m g)

end Cert.AdamSmallClaim
-- ==== Proof.EvenBwdValue.lean ====
module

public import proofs.«01_k».proof.Defs
public import proofs.«01_k».proof.Proof.Forward
public import proofs.«01_k».proof.Proof.Gen.EvenBwdIdeal.Frame
public import Idealize.ShloMosaic.Lib.Pipeline.ValueKit
public import Idealize.ShloMosaic.Lib.Claim
public import Idealize.ShloMosaic.Lib.StableHlo.RunRead

/-! What the even layer's backward call leaves: the derivative of the layer's output, of the two mixtures and of the gate, and
the sum over the rows. -/

@[expose] public section

set_option maxRecDepth 16384

noncomputable section

open Idealize.ShloMosaic Idealize.ShloMosaic.TcCoe Idealize.SL.Sem

namespace Cert.EvenBwdValue

open Cert.EvenBwdIdeal Cert.EvenBwdIdeal.Gen Cert.Pieces Cert.Forward

/-- The tables that enter: the cotangent, the layer's output, the pooling's and the attention's results, the projection, the
weights and the layer's gate. -/
structure Inp where
  X : Nat → Nat → EReal
  O : Nat → Nat → EReal
  YP : Nat → Nat → EReal
  YS : Nat → Nat → EReal
  P : Nat → Nat → EReal
  W : Nat → Nat → EReal
  GA : Nat → EReal

/-- The logistic function as the kernel computes it. -/
def sg (v : EReal) : EReal := half * Ideal.tanh (half * v) + half

namespace Inp

variable (D : Inp)

/-- The derivative in the layer's output. -/
def dout (R d : Nat) : EReal := D.X R d * (1 + D.GA d)

/-- The derivative in the gated mixture. -/
def dyg (R k : Nat) : EReal := ∑ d : Fin 1024, D.dout R d * D.W k d

/-- The mixture: the two results side by side. -/
def y (R k : Nat) : EReal := if k < 1024 then D.YP R k else D.YS R (k - 1024)

/-- The gate before its activation. -/
def g (R k : Nat) : EReal := D.P R (4096 + k)

/-- The derivative in the mixture. -/
def dy (R k : Nat) : EReal := D.dyg R k * silu (D.g R k)

/-- The derivative in the gate. -/
def dg (R k : Nat) : EReal :=
  D.dyg R k * D.y R k * (sg (D.g R k) * (1 + D.g R k * (1 - sg (D.g R k))))

/-- What one point adds to the sums. -/
def blk (b j d : Nat) : EReal := if j = 0 then ∑ r : Fin 256, D.X (256 * b + r) d * D.O (256 * b + r) d else 0

end Inp

section block

variable (D : Inp) (b : Nat)
  (x0 : Vec Ideal S256x1024 .f32) (x1 : Vec Ideal S256x1024 .f32) (x2 : Vec Ideal S256x1024 .f32) (x3 : Vec Ideal S256x1024 .f32) (x4 : Vec Ideal S256x2048 .bf16) (x5 : Vec Ideal S2048x1024 .bf16) (x6 : Vec Ideal S8x1024 .f32)
  (h0 : ∀ (r : Fin 256) (d : Fin 1024), x0 (ix2 r d) = D.X (256 * b + r) d)
  (h1 : ∀ (r : Fin 256) (d : Fin 1024), x1 (ix2 r d) = D.O (256 * b + r) d)
  (h2 : ∀ (r : Fin 256) (k : Fin 1024), x2 (ix2 r k) = D.YP (256 * b + r) k)
  (h3 : ∀ (r : Fin 256) (k : Fin 1024), x3 (ix2 r k) = D.YS (256 * b + r) k)
  (h4 : ∀ (r : Fin 256) (k : Fin 2048), x4 (ix2 r k) = D.P (256 * b + r) (4096 + k))
  (h5 : ∀ (k : Fin 2048) (d : Fin 1024), x5 (ix2 k d) = D.W k d)
  (h6 : ∀ d : Fin 1024, x6 (ix2 3 d) = D.GA d)

include h0 h6 in
/-- The derivative in the layer's output. -/
theorem dout_eq (i0 i6) :
    k0_pay9 (View.ld x0 (Rect.unit (s := S256x1024) ![0, 0] ![256, 1024] i0))
        (View.ld x6 (Rect.unit (s := S8x1024) ![3, 0] ![1, 1024] i6))
      = arr 256 1024 fun r d => D.dout (256 * b + r) d := by
  funext j
  obtain ⟨r, d, rfl⟩ : ∃ (r : Fin 256) (d : Fin 1024), j = ix2 r d := ⟨j 0, j 1, eq_ix2 j⟩
  unfold k0_pay9
  pointwise [arr]
  simp only [h0]
  exact congrArg (fun g => D.X _ _ * (1 + g)) (h6 d)

include h0 h5 h6 in
/-- The derivative in the gated mixture. -/
theorem dyg_eq (i0 i5 i6) :
    k0_pay10 (View.ld x0 (Rect.unit (s := S256x1024) ![0, 0] ![256, 1024] i0))
        (View.ld x6 (Rect.unit (s := S8x1024) ![3, 0] ![1, 1024] i6))
        (View.ld x5 (Rect.unit (s := S2048x1024) ![0, 0] ![2048, 1024] i5))
      = arr 256 2048 fun r k => D.dyg (256 * b + r) k := by
  funext j
  obtain ⟨r, k, rfl⟩ : ∃ (r : Fin 256) (k : Fin 2048), j = ix2 r k := ⟨j 0, j 1, eq_ix2 j⟩
  unfold k0_pay10
  rw [dout_eq D b x0 x6 h0 h6]
  pointwise [arr]
  simp only [h5]
  rfl

include h4 in
/-- The gate before its activation. -/
theorem g_eq (i4) :
    k0_pay11 (View.ld x4 (Rect.unit (s := S256x2048) ![0, 0] ![256, 2048] i4))
      = arr 256 2048 fun r k => D.g (256 * b + r) k := by
  funext j
  obtain ⟨r, k, rfl⟩ : ∃ (r : Fin 256) (k : Fin 2048), j = ix2 r k := ⟨j 0, j 1, eq_ix2 j⟩
  unfold k0_pay11
  pointwise [arr]
  simp only [h4]
  rfl

include h4 in
/-- Its logistic function. -/
theorem sg_eq (i4) :
    k0_pay12 (View.ld x4 (Rect.unit (s := S256x2048) ![0, 0] ![256, 2048] i4))
      = arr 256 2048 fun r k => sg (D.g (256 * b + r) k) := by
  funext j
  obtain ⟨r, k, rfl⟩ : ∃ (r : Fin 256) (k : Fin 2048), j = ix2 r k := ⟨j 0, j 1, eq_ix2 j⟩
  unfold k0_pay12
  rw [g_eq D b x4 h4]
  pointwise [arr]
  rfl

/-- The left half of the derivative in the mixture. -/
theorem lo_at (r : Fin 256) (k : Fin 1024) :
    k0_pay3 (F := Ideal) (arr 256 2048 fun r k => D.dyg (256 * b + r) k) (arr 256 2048 fun r k => D.g (256 * b + r) k)
      (arr 256 2048 fun r k => sg (D.g (256 * b + r) k)) (ix2 r k) = D.dy (256 * b + r) k := by
  unfold k0_pay3 k0_pay1
  pointwise [arr]
  rfl

/-- The right half of the derivative in the mixture. -/
theorem hi_at (r : Fin 256) (k : Fin 1024) :
    k0_pay4 (F := Ideal) (arr 256 2048 fun r k => D.dyg (256 * b + r) k) (arr 256 2048 fun r k => D.g (256 * b + r) k)
      (arr 256 2048 fun r k => sg (D.g (256 * b + r) k)) (ix2 r k) = D.dy (256 * b + r) (1024 + k) := by
  unfold k0_pay4 k0_pay1
  pointwise [arr]
  rfl

include h2 in
/-- The left half of the derivative in the gate. -/
theorem glo_at (i2) (r : Fin 256) (k : Fin 1024) :
    k0_pay5 (F := Ideal) (arr 256 2048 fun r k => D.dyg (256 * b + r) k) (arr 256 2048 fun r k => D.g (256 * b + r) k)
      (arr 256 2048 fun r k => sg (D.g (256 * b + r) k)) (View.ld x2 (Rect.unit (s := S256x1024) ![0, 0] ![256, 1024] i2)) (ix2 r k)
      = D.dg (256 * b + r) k := by
  unfold k0_pay5 k0_pay2
  pointwise [arr]
  simp only [h2]
  unfold Inp.dg Inp.y
  rw [if_pos k.isLt]

include h3 in
/-- The right half of the derivative in the gate. -/
theorem ghi_at (i3) (r : Fin 256) (k : Fin 1024) :
    k0_pay6 (F := Ideal) (arr 256 2048 fun r k => D.dyg (256 * b + r) k) (arr 256 2048 fun r k => D.g (256 * b + r) k)
      (arr 256 2048 fun r k => sg (D.g (256 * b + r) k)) (View.ld x3 (Rect.unit (s := S256x1024) ![0, 0] ![256, 1024] i3)) (ix2 r k)
      = D.dg (256 * b + r) (1024 + k) := by
  unfold k0_pay6 k0_pay2
  pointwise [arr]
  simp only [h3]
  unfold Inp.dg Inp.y
  rw [if_neg (by omega), show 1024 + k.val - 1024 = k.val by omega]

variable (c : Dev nD) (i : grid0.Coords)
  (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x2048 .bf16) (harg5 : arg5.IsWhole) (arg6 : Memref sig .tc .vmem S2048x1024 .bf16) (harg6 : arg6.IsWhole) (arg7 : Memref sig .tc .vmem S8x1024 .f32) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x2048 .bf16) (harg11 : arg11.IsWhole) (arg12 : Memref sig .tc .vmem S8x1024 .f32) (harg12 : arg12.IsWhole)

include h0 h1 h2 h3 h4 h5 h6 in
/-- The first point stores the derivative in the layer's output. -/
theorem out0_A_7_eq (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = arr 256 1024 fun r d => D.dout (256 * b + r) d := by
  funext y
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  refine canon_of_agrees (Val := Elt Ideal) (fun r d => D.dout (256 * b + r) d) _ ?_ y (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dout_eq D b x0 x6 h0 h6]
  refine agrees_cons (agrees_unit _ _ _ _ _ _ _ fun r d => ?_) agrees_nil
  simp only [Nat.zero_add]
  rfl

include h0 h1 h2 h3 h4 h5 h6 in
/-- The first point stores the derivative in the pooling's result. -/
theorem out0_A_8_eq (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = arr 256 1024 fun r k => D.dy (256 * b + r) k := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  refine canon_of_agrees (Val := Elt Ideal) (fun r k => D.dy (256 * b + r) k) _ ?_ y (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dyg_eq D b x0 x5 x6 h0 h5 h6, g_eq D b x4 h4, sg_eq D b x4 h4]
  refine agrees_cons (agrees_unit _ _ _ _ _ _ _ fun r k => (lo_at D b r k).trans (by simp only [Nat.zero_add])) agrees_nil

include h0 h1 h2 h3 h4 h5 h6 in
/-- The first point stores the derivative in the attention's result. -/
theorem out0_A_9_eq (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = arr 256 1024 fun r k => D.dy (256 * b + r) (1024 + k) := by
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  refine canon_of_agrees (Val := Elt Ideal) (fun r k => D.dy (256 * b + r) (1024 + k)) _ ?_ y (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dyg_eq D b x0 x5 x6 h0 h5 h6, g_eq D b x4 h4, sg_eq D b x4 h4]
  refine agrees_cons (agrees_unit _ _ _ _ _ _ _ fun r k => (hi_at D b r k).trans (by simp only [Nat.zero_add])) agrees_nil

include h0 h1 h2 h3 h4 h5 h6 in
/-- The first point stores the derivative in the gate. -/
theorem out0_A_10_eq (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = arr 256 2048 fun r k => D.dg (256 * b + r) k := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  refine canon_of_agrees (Val := Elt Ideal) (fun r k => D.dg (256 * b + r) k) _ ?_ y (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dyg_eq D b x0 x5 x6 h0 h5 h6, g_eq D b x4 h4, sg_eq D b x4 h4]
  refine agrees_cons (agrees_unit _ _ _ _ _ _ _ fun r k => (ghi_at D b x3 h3 _ r k).trans (by simp only [Nat.zero_add])) (agrees_cons (agrees_unit _ _ _ _ _ _ _ fun r k => (glo_at D b x2 h2 _ r k).trans (by simp only [Nat.zero_add])) agrees_nil)

include h0 h1 h2 h3 h4 h5 h6 in
/-- The first point's sums. -/
theorem out0_A_11_eq (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 = arr 8 1024 fun j d => D.blk b j d := by
  funext y
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp (disch := omega) only [↓readCov_whole (m := 8) (n := 1024)]
  show View.canon ([_] ++ [_]) y = _
  refine canon_base (Val := Elt Ideal) (e := .f32) (fun j d => D.blk b j d) _ y _ ?_ fun hm => ?_
  rotate_left
  · have y1 : (y 1).val < 1024 := (y 1).isLt
    have y0 : (y 0).val < 8 := (y 0).isLt
    simp only [List.forall_mem_cons, mem_unit] at hm
    obtain ⟨n0, _⟩ := hm
    have e : 1 ≤ (y 0).val := by
      by_contra e
      exact n0 ⟨⟨by omega, by omega⟩, by omega, by omega⟩
    have z2 : (![0, 0] : Fin 2 → Nat) = fun _ => 0 := by decide
    rw [View.canon_unit_zero (S := S8x1024) z2]
    show _ = D.blk b (y 0).val (y 1).val
    unfold Inp.blk
    rw [if_neg (by omega)]
    exact Ideal.ofBits_zero_f32
  refine agrees_cons (agrees_unit _ _ _ _ _ _ _ fun r d => ?_) agrees_nil
  have hr : r.val = 0 := by omega
  unfold k0_pay8 k0_pay7
  pointwise [arr]
  simp only [h0, h1, hr, Nat.add_zero, Nat.zero_add]
  rfl

include h0 h1 h2 h3 h4 h5 h6 in
/-- A later point stores the derivative in the layer's output. -/
theorem out0_B_7_eq (hc0 : ¬cond0_0 i) (xo11 : Vec Ideal S8x1024 .f32) :
    out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 = arr 256 1024 fun r d => D.dout (256 * b + r) d := by
  funext y
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11)]
  refine canon_of_agrees (Val := Elt Ideal) (fun r d => D.dout (256 * b + r) d) _ ?_ y (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dout_eq D b x0 x6 h0 h6]
  refine agrees_cons (agrees_unit _ _ _ _ _ _ _ fun r d => ?_) agrees_nil
  simp only [Nat.zero_add]
  rfl

include h0 h1 h2 h3 h4 h5 h6 in
/-- A later point stores the derivative in the pooling's result. -/
theorem out0_B_8_eq (hc0 : ¬cond0_0 i) (xo11 : Vec Ideal S8x1024 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 = arr 256 1024 fun r k => D.dy (256 * b + r) k := by
  funext y
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11)]
  refine canon_of_agrees (Val := Elt Ideal) (fun r k => D.dy (256 * b + r) k) _ ?_ y (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dyg_eq D b x0 x5 x6 h0 h5 h6, g_eq D b x4 h4, sg_eq D b x4 h4]
  refine agrees_cons (agrees_unit _ _ _ _ _ _ _ fun r k => (lo_at D b r k).trans (by simp only [Nat.zero_add])) agrees_nil

include h0 h1 h2 h3 h4 h5 h6 in
/-- A later point stores the derivative in the attention's result. -/
theorem out0_B_9_eq (hc0 : ¬cond0_0 i) (xo11 : Vec Ideal S8x1024 .f32) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 = arr 256 1024 fun r k => D.dy (256 * b + r) (1024 + k) := by
  funext y
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11)]
  refine canon_of_agrees (Val := Elt Ideal) (fun r k => D.dy (256 * b + r) (1024 + k)) _ ?_ y (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dyg_eq D b x0 x5 x6 h0 h5 h6, g_eq D b x4 h4, sg_eq D b x4 h4]
  refine agrees_cons (agrees_unit _ _ _ _ _ _ _ fun r k => (hi_at D b r k).trans (by simp only [Nat.zero_add])) agrees_nil

include h0 h1 h2 h3 h4 h5 h6 in
/-- A later point stores the derivative in the gate. -/
theorem out0_B_10_eq (hc0 : ¬cond0_0 i) (xo11 : Vec Ideal S8x1024 .f32) :
    out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 = arr 256 2048 fun r k => D.dg (256 * b + r) k := by
  funext y
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11)]
  refine canon_of_agrees (Val := Elt Ideal) (fun r k => D.dg (256 * b + r) k) _ ?_ y (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  simp only [dyg_eq D b x0 x5 x6 h0 h5 h6, g_eq D b x4 h4, sg_eq D b x4 h4]
  refine agrees_cons (agrees_unit _ _ _ _ _ _ _ fun r k => (ghi_at D b x3 h3 _ r k).trans (by simp only [Nat.zero_add])) (agrees_cons (agrees_unit _ _ _ _ _ _ _ fun r k => (glo_at D b x2 h2 _ r k).trans (by simp only [Nat.zero_add])) agrees_nil)

include h0 h1 h2 h3 h4 h5 h6 in
/-- What a later point adds to the sums. -/
theorem out0_B_11_eq (hc0 : ¬cond0_0 i) (xo11 : Vec Ideal S8x1024 .f32)
    (Z : Nat → Nat → EReal) (hz : ∀ (j : Fin 8) (d : Fin 1024), xo11 (ix2 j d) = Z j d) :
    out0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo11 = arr 8 1024 fun j d => Z j d + D.blk b j d := by
  funext y
  unfold out0_B_11
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  refine writes_of_agrees (Val := Elt Ideal) (e := .f32) _ _ (fun j d => Z j d + D.blk b j d) _ ?_ y fun hm => ?_
  rotate_left
  · have y1 : (y 1).val < 1024 := (y 1).isLt
    have y0 : (y 0).val < 8 := (y 0).isLt
    simp only [List.forall_mem_cons, mem_unit] at hm
    obtain ⟨n0, _⟩ := hm
    have e : 1 ≤ (y 0).val := by
      by_contra e
      exact n0 ⟨⟨by omega, by omega⟩, by omega, by omega⟩
    rw [harg12.read_unread]
    show _ = Z (y 0).val (y 1).val + D.blk b (y 0).val (y 1).val
    unfold Inp.blk
    rw [if_neg (by omega), add_zero, eq_ix2 y]
    exact hz (y 0) (y 1)
  refine agrees_cons (agrees_unit _ _ _ _ _ _ _ fun r d => ?_) agrees_nil
  have hr : r.val = 0 := by omega
  unfold k0_pay8
  pointwise [arr]
  simp only [hz, h0, h1, hr, Nat.add_zero, Nat.zero_add]
  rfl

end block

/-- The call's arguments as tables. -/
def inpOf (x0 x1 x2 x3 : (⟨2, ![4096, 1024]⟩ : Shape).Idx → EReal) (x4 : (⟨2, ![4096, 6144]⟩ : Shape).Idx → EReal)
    (x5 : (⟨2, ![2048, 1024]⟩ : Shape).Idx → EReal) (x9 : (⟨1, ![1024]⟩ : Shape).Idx → EReal) : Inp where
  X := tab 4096 1024 x0
  O := tab 4096 1024 x1
  YP := tab 4096 1024 x2
  YS := tab 4096 1024 x3
  P := tab 4096 6144 x4
  W := tab 2048 1024 x5
  GA := row 1024 x9

variable (m : (ℓ : Loc nD τ sig) → Buf (Elt Ideal) ℓ) (c : Dev nD)

/-- The arguments of one device as tables. -/
def inp : Inp :=
  inpOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg9))

/-- Where the window's block lies. -/
theorem index0 (t : Fin cfg0.N) : win0_0.index t = ![t.val, 0] := by revert t; decide +kernel

/-- The cotangent's rows that a point reads. -/
theorem block0 (t : Fin cfg0.N) (r : Fin 256) (k : Fin 1024) :
    iblk m c 0 t (ix2 r k) = (inp m c).X (256 * t.val + r) k := by
  have hN : t.val < 16 := lt_of_lt_of_eq t.isLt N_0
  have hk := k.isLt
  show _ = tab 4096 1024 (m ((c : Thread nD τ).loc main_arg0)) _ _
  rw [tab_at _ (by have := r.isLt; omega) (by omega)]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 256 + 1 * r.val = _; rw [index0]; show t.val * 256 + 1 * _ = 256 * _ + _; omega
  | ⟨1, _⟩ => show win0_0.index t 1 * 1024 + 1 * k.val = _; rw [index0]; show 0 * 1024 + 1 * _ = k.val; omega

/-- Where the window's block lies. -/
theorem index1 (t : Fin cfg0.N) : win0_1.index t = ![t.val, 0] := by revert t; decide +kernel

/-- The layer's output's rows that a point reads. -/
theorem block1 (t : Fin cfg0.N) (r : Fin 256) (k : Fin 1024) :
    iblk m c 1 t (ix2 r k) = (inp m c).O (256 * t.val + r) k := by
  have hN : t.val < 16 := lt_of_lt_of_eq t.isLt N_0
  have hk := k.isLt
  show _ = tab 4096 1024 (m ((c : Thread nD τ).loc main_arg1)) _ _
  rw [tab_at _ (by have := r.isLt; omega) (by omega)]
  unfold iblk
  rw [View.read_apply]
  refine (congrFun (V_main_arg1 m c) _).trans (congrArg (m ((c : Thread nD τ).loc main_arg1)) ?_)
  funext a; apply Fin.ext
  match a with
  | ⟨0, _⟩ => show win0_1.index t 0 * 256 + 1 * r.val = _; rw [index1]; show t.val * 256 + 1 * _ = 256 * _ + _; omega
  | ⟨1, _⟩ => show win0_1.index t 1 * 1024 + 1 * k.val = _; rw [index1]; show 0 * 1024 + 1 * _ = k.val; omega

/-- Where the window's block lies. -/
theorem index2 (t : Fin cfg0.N) : win0_2.index t = ![t.val, 0] := by revert t; decide +kernel

/-- The pooling's rows that a point reads. -/
theorem block2 (t : Fin cfg0.N) (r : Fin 256) (k : Fin 1024) :
    iblk m c 2 t (ix2 r k) = (inp m c).YP (256 * t.val + r) k := by
  have hN : t.val < 16 := lt_of_lt_of_eq t.isLt N_0
  have hk := k.isLt
  show _ = tab 4096 1024 (m ((c : Thread nD τ).loc main_arg2)) _ _
  rw [tab_at _ (by have := r.isLt; omega) (by omega)]
  unfold iblk
  rw [View.read_apply]
  refine (congrFun (V_main_arg2 m c) _).trans (congrArg (m ((c : Thread nD τ).loc main_arg2)) ?_)
  funext a; apply Fin.ext
  match a with
  | ⟨0, _⟩ => show win0_2.index t 0 * 256 + 1 * r.val = _; rw [index2]; show t.val * 256 + 1 * _ = 256 * _ + _; omega
  | ⟨1, _⟩ => show win0_2.index t 1 * 1024 + 1 * k.val = _; rw [index2]; show 0 * 1024 + 1 * _ = k.val; omega

/-- Where the window's block lies. -/
theorem index3 (t : Fin cfg0.N) : win0_3.index t = ![t.val, 0] := by revert t; decide +kernel

/-- The attention's rows that a point reads. -/
theorem block3 (t : Fin cfg0.N) (r : Fin 256) (k : Fin 1024) :
    iblk m c 3 t (ix2 r k) = (inp m c).YS (256 * t.val + r) k := by
  have hN : t.val < 16 := lt_of_lt_of_eq t.isLt N_0
  have hk := k.isLt
  show _ = tab 4096 1024 (m ((c : Thread nD τ).loc main_arg3)) _ _
  rw [tab_at _ (by have := r.isLt; omega) (by omega)]
  unfold iblk
  rw [View.read_apply]
  refine (congrFun (V_main_arg3 m c) _).trans (congrArg (m ((c : Thread nD τ).loc main_arg3)) ?_)
  funext a; apply Fin.ext
  match a with
  | ⟨0, _⟩ => show win0_3.index t 0 * 256 + 1 * r.val = _; rw [index3]; show t.val * 256 + 1 * _ = 256 * _ + _; omega
  | ⟨1, _⟩ => show win0_3.index t 1 * 1024 + 1 * k.val = _; rw [index3]; show 0 * 1024 + 1 * _ = k.val; omega

/-- Where the window's block lies. -/
theorem index4 (t : Fin cfg0.N) : win0_4.index t = ![t.val, 2] := by revert t; decide +kernel

/-- The gate's rows that a point reads. -/
theorem block4 (t : Fin cfg0.N) (r : Fin 256) (k : Fin 2048) :
    iblk m c 4 t (ix2 r k) = (inp m c).P (256 * t.val + r) (4096 + k) := by
  have hN : t.val < 16 := lt_of_lt_of_eq t.isLt N_0
  have hk := k.isLt
  show _ = tab 4096 6144 (m ((c : Thread nD τ).loc main_arg4)) _ _
  rw [tab_at _ (by have := r.isLt; omega) (by omega)]
  unfold iblk
  rw [View.read_apply]
  refine (congrFun (V_main_arg4 m c) _).trans (congrArg (m ((c : Thread nD τ).loc main_arg4)) ?_)
  funext a; apply Fin.ext
  match a with
  | ⟨0, _⟩ => show win0_4.index t 0 * 256 + 1 * r.val = _; rw [index4]; show t.val * 256 + 1 * _ = 256 * _ + _; omega
  | ⟨1, _⟩ => show win0_4.index t 1 * 2048 + 1 * k.val = _; rw [index4]; show 2 * 2048 + 1 * _ = 4096 + k.val; omega

/-- The fourth row of the host's stack of vectors: the layer's gate. -/
theorem vec3 (d : Fin 1024) : V m c main_v7 (ix2 3 d) = m ((c : Thread nD τ).loc main_arg9) (ix1 d) := by
  unfold V
  after_reads_simp
  pointwise
  after_reads_simp
  pointwise
  done

/-- Every point reads the same weights. -/
theorem block5 (t : Fin cfg0.N) (r : Fin 2048) (k : Fin 1024) : iblk m c 5 t (ix2 r k) = V m c main_v8 (ix2 r k) := by
  have hi : win0_5.index t = ![0, 0] := by revert t; decide +kernel
  unfold iblk
  rw [View.read_apply]
  refine congrArg (V m c main_v8) ?_
  funext a; apply Fin.ext
  match a with
  | ⟨0, _⟩ => show win0_5.index t 0 * 2048 + 1 * r.val = _; rw [hi]; show 0 * 2048 + 1 * _ = r.val; omega
  | ⟨1, _⟩ => show win0_5.index t 1 * 1024 + 1 * k.val = _; rw [hi]; show 0 * 1024 + 1 * _ = k.val; omega

/-- Every point reads the same vectors. -/
theorem block6 (t : Fin cfg0.N) (r : Fin 8) (k : Fin 1024) : iblk m c 6 t (ix2 r k) = V m c main_v7 (ix2 r k) := by
  have hi : win0_6.index t = ![0, 0] := by revert t; decide +kernel
  unfold iblk
  rw [View.read_apply]
  refine congrArg (V m c main_v7) ?_
  funext a; apply Fin.ext
  match a with
  | ⟨0, _⟩ => show win0_6.index t 0 * 8 + 1 * r.val = _; rw [hi]; show 0 * 8 + 1 * _ = r.val; omega
  | ⟨1, _⟩ => show win0_6.index t 1 * 1024 + 1 * k.val = _; rw [hi]; show 0 * 1024 + 1 * _ = k.val; omega

/-- The weights that a point reads. -/
theorem weights (t : Fin cfg0.N) (k : Fin 2048) (d : Fin 1024) : iblk m c 5 t (ix2 k d) = (inp m c).W k d := by
  rw [block5]
  refine Eq.trans ?_ (tab_at (m ((c : Thread nD τ).loc main_arg5)) k.isLt d.isLt).symm
  unfold V
  after_reads_simp
  pointwise
  done

/-- The layer's gate that a point reads. -/
theorem gate (t : Fin cfg0.N) (d : Fin 1024) : iblk m c 6 t (ix2 3 d) = (inp m c).GA d :=
  (block6 m c t 3 d).trans ((vec3 m c d).trans (row_at _ d.isLt).symm)

/-- What the staging buffers hold after a point. -/
def After (t : Fin cfg0.N) : Prop :=
  (outsAt0 m c t.val t.isLt).1 = arr 256 1024 (fun r d => (inp m c).dout (256 * t.val + r) d) ∧
  (outsAt0 m c t.val t.isLt).2.1 = arr 256 1024 (fun r k => (inp m c).dy (256 * t.val + r) k) ∧
  (outsAt0 m c t.val t.isLt).2.2.1 = arr 256 1024 (fun r k => (inp m c).dy (256 * t.val + r) (1024 + k)) ∧
  (outsAt0 m c t.val t.isLt).2.2.2.1 = arr 256 2048 (fun r k => (inp m c).dg (256 * t.val + r) k) ∧
  (outsAt0 m c t.val t.isLt).2.2.2.2 = arr 8 1024 (fun j d => ∑ b ∈ Finset.range (t.val + 1), (inp m c).blk b j d)

/-- After the first point. -/
theorem after_A (t : Fin cfg0.N) (ht : t.val % 16 = 0) : After m c t := by
  have hN : cfg0.N = 16 := N_0
  have t0 : t.val = 0 := by have := t.isLt; omega
  have e := outsAt0_A m c t ht
  rw [out0_A_7_eq (D := inp m c) (b := t.val) (h0 := block0 m c t) (h1 := block1 m c t) (h2 := block2 m c t) (h3 := block3 m c t) (h4 := block4 m c t) (h5 := weights m c t) (h6 := gate m c t),
    out0_A_8_eq (D := inp m c) (b := t.val) (h0 := block0 m c t) (h1 := block1 m c t) (h2 := block2 m c t) (h3 := block3 m c t) (h4 := block4 m c t) (h5 := weights m c t) (h6 := gate m c t),
    out0_A_9_eq (D := inp m c) (b := t.val) (h0 := block0 m c t) (h1 := block1 m c t) (h2 := block2 m c t) (h3 := block3 m c t) (h4 := block4 m c t) (h5 := weights m c t) (h6 := gate m c t),
    out0_A_10_eq (D := inp m c) (b := t.val) (h0 := block0 m c t) (h1 := block1 m c t) (h2 := block2 m c t) (h3 := block3 m c t) (h4 := block4 m c t) (h5 := weights m c t) (h6 := gate m c t),
    out0_A_11_eq (D := inp m c) (b := t.val) (h0 := block0 m c t) (h1 := block1 m c t) (h2 := block2 m c t) (h3 := block3 m c t) (h4 := block4 m c t) (h5 := weights m c t) (h6 := gate m c t)] at e
  unfold After
  rw [e]
  refine ⟨rfl, rfl, rfl, rfl, ?_⟩
  rw [t0]
  simp only [zero_add, Finset.sum_range_one]

/-- After a later point, from the point before. -/
theorem after_B (t : Fin cfg0.N) (ht : ¬t.val % 16 = 0)
    (ih : After m c ⟨t.val - 1, Nat.lt_of_le_of_lt (Nat.sub_le _ _) t.isLt⟩) : After m c t := by
  have hN : cfg0.N = 16 := N_0
  have tl : t.val < 16 := by have := t.isLt; omega
  obtain ⟨-, -, -, -, i5⟩ := ih
  have hz : ∀ (j : Fin 8) (d : Fin 1024), (outsAt0 m c (t.val - 1) (Nat.lt_of_le_of_lt (Nat.sub_le _ _) t.isLt)).2.2.2.2 (ix2 j d)
      = (fun j d => ∑ b ∈ Finset.range t.val, (inp m c).blk b j d) j d := by
    intro j d
    refine (congrFun i5 (ix2 j d)).trans ?_
    show ∑ b ∈ Finset.range (t.val - 1 + 1), _ = _
    rw [show t.val - 1 + 1 = t.val by omega]
    rfl
  have e := outsAt0_B m c t ht
  rw [out0_B_7_eq (D := inp m c) (b := t.val) (h0 := block0 m c t) (h1 := block1 m c t) (h2 := block2 m c t) (h3 := block3 m c t) (h4 := block4 m c t) (h5 := weights m c t) (h6 := gate m c t),
    out0_B_8_eq (D := inp m c) (b := t.val) (h0 := block0 m c t) (h1 := block1 m c t) (h2 := block2 m c t) (h3 := block3 m c t) (h4 := block4 m c t) (h5 := weights m c t) (h6 := gate m c t),
    out0_B_9_eq (D := inp m c) (b := t.val) (h0 := block0 m c t) (h1 := block1 m c t) (h2 := block2 m c t) (h3 := block3 m c t) (h4 := block4 m c t) (h5 := weights m c t) (h6 := gate m c t),
    out0_B_10_eq (D := inp m c) (b := t.val) (h0 := block0 m c t) (h1 := block1 m c t) (h2 := block2 m c t) (h3 := block3 m c t) (h4 := block4 m c t) (h5 := weights m c t) (h6 := gate m c t),
    out0_B_11_eq (D := inp m c) (b := t.val) (h0 := block0 m c t) (h1 := block1 m c t) (h2 := block2 m c t) (h3 := block3 m c t) (h4 := block4 m c t) (h5 := weights m c t) (h6 := gate m c t) (Z := fun j d => ∑ b ∈ Finset.range t.val, (inp m c).blk b j d) (hz := hz)] at e
  unfold After
  rw [e]
  refine ⟨rfl, rfl, rfl, rfl, ?_⟩
  simp only [Finset.sum_range_succ]

/-- After every point. -/
theorem after_all : ∀ (n : Nat) (h : n < cfg0.N), After m c ⟨n, h⟩
  | 0, h => after_A m c ⟨0, h⟩ rfl
  | n + 1, h => by
    have hN : cfg0.N = 16 := N_0
    exact after_B m c ⟨n + 1, h⟩ (by show ¬(n + 1) % 16 = 0; omega) (after_all n (by omega))

/-- Where the window's block lies. -/
theorem index7 (t : Fin cfg0.N) : win0_7.index t = ![t.val, 0] := by revert t; decide +kernel

/-- The derivative in the layer's output, whole. -/
theorem final7 : (dats m 0 c).arrAt 7 cfg0.N = arr 4096 1024 ((inp m c).dout) := by
  refine (dats m 0 c).arrAt_eq_of_covers 7 _ (by decide +kernel) fun t hf y => ?_
  blk_simp
  rw [after0_7, (after_all m c t.val t.isLt).1]
  unfold arr
  blk_simp [index7]
  rw [Nat.mul_comm 256]

/-- Where the window's block lies. -/
theorem index8 (t : Fin cfg0.N) : win0_8.index t = ![t.val, 0] := by revert t; decide +kernel

/-- The derivative in the pooling's result, whole. -/
theorem final8 : (dats m 0 c).arrAt 8 cfg0.N = arr 4096 1024 ((inp m c).dy) := by
  refine (dats m 0 c).arrAt_eq_of_covers 8 _ (by decide +kernel) fun t hf y => ?_
  blk_simp
  rw [after0_8, (after_all m c t.val t.isLt).2.1]
  unfold arr
  blk_simp [index8]
  rw [Nat.mul_comm 256]

/-- Where the window's block lies. -/
theorem index9 (t : Fin cfg0.N) : win0_9.index t = ![t.val, 0] := by revert t; decide +kernel

/-- The derivative in the attention's result, whole. -/
theorem final9 : (dats m 0 c).arrAt 9 cfg0.N = arr 4096 1024 (fun r k => (inp m c).dy r (1024 + k)) := by
  refine (dats m 0 c).arrAt_eq_of_covers 9 _ (by decide +kernel) fun t hf y => ?_
  blk_simp
  rw [after0_9, (after_all m c t.val t.isLt).2.2.1]
  unfold arr
  blk_simp [index9]
  rw [Nat.mul_comm 256]

/-- The sums over the rows, whole. -/
theorem final11 : (dats m 0 c).arrAt 11 cfg0.N =
    arr 8 1024 fun j d => ∑ b ∈ Finset.range 16, (inp m c).blk b j d := by
  refine (dats m 0 c).arrAt_eq_of_after_last 11 t0_15 (by decide +kernel) _ fun j => ?_
  blk_simp
  rw [after0_11, (after_all m c t0_15.val t0_15.isLt).2.2.2.2]
  rfl

/-- Where the window's block lies. -/
theorem index10 (t : Fin cfg0.N) : win0_10.index t = ![t.val, 2] := by revert t; decide +kernel

/-- The derivative in the gate, in the columns that the call writes of its output. -/
theorem final10 (R : Fin 4096) (k : Fin 2048) :
    (dats m 0 c).arrAt 10 cfg0.N (ix2 R ⟨4096 + k.val, by omega⟩) = (inp m c).dg R k := by
  have hN : cfg0.N = 16 := N_0
  have inj : ∀ t t' : Fin cfg0.N, win0_10.index t = win0_10.index t' → t = t' := by decide +kernel
  have fl : ∀ t : Fin cfg0.N, (cfg0.win 10).flush t = true := by decide +kernel
  have hR := R.isLt
  have hk := k.isLt
  let t : Fin cfg0.N := ⟨R.val / 256, by omega⟩
  have h := (dats m 0 c).read_blk_arrAt_eq_flushed 10
    (fun t t' _ _ hne => (cfg0.win 10).disjoint_blk fun h => hne (inj t t' h)) cfg0.N t t.isLt (fl t)
  have e : (dats m 0 c).flushed 10 t = (cfg0.win 10).cut (grid0.coords t) (outsAt0 m c t.val t.isLt).2.2.2.1 := by
    show (cfg0.win 10).cut (grid0.coords t) ((dats m 0 c).after 10 t) = _
    rw [after0_10]
  rw [e, (after_all m c t.val t.isLt).2.2.2.1] at h
  have h' := congrFun h (ix2 (⟨R.val % 256, by omega⟩ : Fin 256) k)
  rw [View.read_apply] at h'
  refine Eq.trans (congrArg ((dats m 0 c).arrAt 10 cfg0.N) ?_) (h'.trans ?_)
  · funext a; apply Fin.ext
    match a with
    | ⟨0, _⟩ => show R.val = win0_10.index t 0 * 256 + 1 * (R.val % 256); rw [index10]; show R.val = R.val / 256 * 256 + 1 * _; omega
    | ⟨1, _⟩ => show 4096 + k.val = win0_10.index t 1 * 2048 + 1 * k.val; rw [index10]; show _ = 2 * 2048 + 1 * k.val; omega
  · show (inp m c).dg (256 * (R.val / 256) + R.val % 256) k.val = _
    rw [Nat.div_add_mod]

/-- The host's slice takes those columns out. -/
theorem tail (U : Valuation τ sig (Elt Ideal)) (R : Fin 4096) (k : Fin 2048) :
    StableHlo.after [hostOps1].flatten U (Proc.devRef .tc main_v10) (ix2 R k)
      = U (Proc.devRef .tc main_v9_3) (ix2 R ⟨4096 + k.val, by omega⟩) := by
  after_reads_simp
  pointwise
  done

end Cert.EvenBwdValue
-- ==== Proof.OddValue.lean ====
module

public import proofs.«01_k».proof.Proof.OddBlock
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.OddValue

open Cert.OddBwdIdeal Cert.OddBwdIdeal.Gen Cert.OddBlock Cert.Pieces

variable (m : (ℓ : Loc nD τ sig) → Buf (Elt Ideal) ℓ) (c : Dev nD)

/-- The call's arguments as tables. -/
def inp : Inp :=
  inpOf (m ((c : Thread nD τ).loc main_arg0)) (m ((c : Thread nD τ).loc main_arg1)) (m ((c : Thread nD τ).loc main_arg2))
    (m ((c : Thread nD τ).loc main_arg6)) (m ((c : Thread nD τ).loc main_arg8)) (m ((c : Thread nD τ).loc main_arg9))

theorem idx0 (t : Fin cfg0.N) : win0_0.index t = ![15 - (grid0.coords t 0).val, 0] := by
  revert t; decide +kernel

theorem b0 (t : Fin cfg0.N) (r : Fin 256) (k : Fin 1024) :
    iblk m c 0 t (ix2 r k) = (inp m c).X (256 * (15 - (grid0.coords t 0).val) + r) (k) := by
  have h : 256 * (15 - (grid0.coords t 0).val) + r.val < 4096 ∧ k.val < 1024 := by
    have := r.isLt; have := k.isLt; omega
  show _ = tab _ _ _ _ _
  rw [tab, dif_pos h]
  unfold iblk
  rw [View.read_apply]
  refine (congrFun (V_main_arg0 m c) _).trans (congrArg (m ((c : Thread nD τ).loc main_arg0)) ?_)
  funext a; apply Fin.ext
  match a with
  | ⟨0, _⟩ =>
    show win0_0.index t 0 * 256 + 1 * r.val = _
    rw [idx0]; show (15 - _) * 256 + 1 * _ = 256 * _ + _; omega
  | ⟨1, _⟩ =>
    show win0_0.index t 1 * 1024 + 1 * k.val = _
    rw [idx0]; show 0 * 1024 + 1 * _ = k.val; omega

theorem idx1 (t : Fin cfg0.N) : win0_1.index t = ![15 - (grid0.coords t 0).val, 0] := by
  revert t; decide +kernel

theorem b1 (t : Fin cfg0.N) (r : Fin 256) (k : Fin 2048) :
    iblk m c 1 t (ix2 r k) = (inp m c).P (256 * (15 - (grid0.coords t 0).val) + r) (k) := by
  have h : 256 * (15 - (grid0.coords t 0).val) + r.val < 4096 ∧ k.val < 8192 := by
    have := r.isLt; have := k.isLt; omega
  show _ = tab _ _ _ _ _
  rw [tab, dif_pos h]
  unfold iblk
  rw [View.read_apply]
  refine (congrFun (V_main_arg1 m c) _).trans (congrArg (m ((c : Thread nD τ).loc main_arg1)) ?_)
  funext a; apply Fin.ext
  match a with
  | ⟨0, _⟩ =>
    show win0_1.index t 0 * 256 + 1 * r.val = _
    rw [idx1]; show (15 - _) * 256 + 1 * _ = 256 * _ + _; omega
  | ⟨1, _⟩ =>
    show win0_1.index t 1 * 2048 + 1 * k.val = _
    rw [idx1]; show 0 * 2048 + 1 * _ = k.val; omega

theorem idx2 (t : Fin cfg0.N) : win0_2.index t = ![15 - (grid0.coords t 0).val, 1] := by
  revert t; decide +kernel

theorem b2 (t : Fin cfg0.N) (r : Fin 256) (k : Fin 2048) :
    iblk m c 2 t (ix2 r k) = (inp m c).P (256 * (15 - (grid0.coords t 0).val) + r) (2048 + k) := by
  have h : 256 * (15 - (grid0.coords t 0).val) + r.val < 4096 ∧ 2048 + k.val < 8192 := by
    have := r.isLt; have := k.isLt; omega
  show _ = tab _ _ _ _ _
  rw [tab, dif_pos h]
  unfold iblk
  rw [View.read_apply]
  refine (congrFun (V_main_arg1 m c) _).trans (congrArg (m ((c : Thread nD τ).loc main_arg1)) ?_)
  funext a; apply Fin.ext
  match a with
  | ⟨0, _⟩ =>
    show win0_2.index t 0 * 256 + 1 * r.val = _
    rw [idx2]; show (15 - _) * 256 + 1 * _ = 256 * _ + _; omega
  | ⟨1, _⟩ =>
    show win0_2.index t 1 * 2048 + 1 * k.val = _
    rw [idx2]; show 1 * 2048 + 1 * _ = 2048 + _; omega

theorem idx3 (t : Fin cfg0.N) : win0_3.index t = ![15 - (grid0.coords t 0).val, 2] := by
  revert t; decide +kernel

theorem b3 (t : Fin cfg0.N) (r : Fin 256) (k : Fin 2048) :
    iblk m c 3 t (ix2 r k) = (inp m c).P (256 * (15 - (grid0.coords t 0).val) + r) (4096 + k) := by
  have h : 256 * (15 - (grid0.coords t 0).val) + r.val < 4096 ∧ 4096 + k.val < 8192 := by
    have := r.isLt; have := k.isLt; omega
  show _ = tab _ _ _ _ _
  rw [tab, dif_pos h]
  unfold iblk
  rw [View.read_apply]
  refine (congrFun (V_main_arg1 m c) _).trans (congrArg (m ((c : Thread nD τ).loc main_arg1)) ?_)
  funext a; apply Fin.ext
  match a with
  | ⟨0, _⟩ =>
    show win0_3.index t 0 * 256 + 1 * r.val = _
    rw [idx3]; show (15 - _) * 256 + 1 * _ = 256 * _ + _; omega
  | ⟨1, _⟩ =>
    show win0_3.index t 1 * 2048 + 1 * k.val = _
    rw [idx3]; show 2 * 2048 + 1 * _ = 4096 + _; omega

theorem idx4 (t : Fin cfg0.N) : win0_4.index t = ![15 - (grid0.coords t 0).val, 3] := by
  revert t; decide +kernel

theorem b4 (t : Fin cfg0.N) (r : Fin 256) (k : Fin 2048) :
    iblk m c 4 t (ix2 r k) = (inp m c).P (256 * (15 - (grid0.coords t 0).val) + r) (6144 + k) := by
  have h : 256 * (15 - (grid0.coords t 0).val) + r.val < 4096 ∧ 6144 + k.val < 8192 := by
    have := r.isLt; have := k.isLt; omega
  show _ = tab _ _ _ _ _
  rw [tab, dif_pos h]
  unfold iblk
  rw [View.read_apply]
  refine (congrFun (V_main_arg1 m c) _).trans (congrArg (m ((c : Thread nD τ).loc main_arg1)) ?_)
  funext a; apply Fin.ext
  match a with
  | ⟨0, _⟩ =>
    show win0_4.index t 0 * 256 + 1 * r.val = _
    rw [idx4]; show (15 - _) * 256 + 1 * _ = 256 * _ + _; omega
  | ⟨1, _⟩ =>
    show win0_4.index t 1 * 2048 + 1 * k.val = _
    rw [idx4]; show 3 * 2048 + 1 * _ = 6144 + _; omega

theorem idx5 (t : Fin cfg0.N) : win0_5.index t 1 = 1 ∧ (0 < 15 - (grid0.coords t 0).val → win0_5.index t 0 * 16 = 256 * (15 - (grid0.coords t 0).val) - 16) := by
  revert t; decide +kernel

theorem b5 (t : Fin cfg0.N) (hb : 0 < 15 - (grid0.coords t 0).val) (r : Fin 16) (k : Fin 2048) :
    iblk m c 5 t (ix2 r k) = (inp m c).P (256 * (15 - (grid0.coords t 0).val) - 16 + r) (2048 + k) := by
  have h : 256 * (15 - (grid0.coords t 0).val) - 16 + r.val < 4096 ∧ 2048 + k.val < 8192 := by
    have := r.isLt; have := k.isLt; omega
  show _ = tab _ _ _ _ _
  rw [tab, dif_pos h]
  unfold iblk
  rw [View.read_apply]
  refine (congrFun (V_main_arg1 m c) _).trans (congrArg (m ((c : Thread nD τ).loc main_arg1)) ?_)
  funext a; apply Fin.ext
  match a with
  | ⟨0, _⟩ =>
    show win0_5.index t 0 * 16 + 1 * r.val = _
    rw [(idx5 t).2 hb]; show _ + 1 * _ = 256 * _ - 16 + _; omega
  | ⟨1, _⟩ =>
    show win0_5.index t 1 * 2048 + 1 * k.val = _
    rw [(idx5 t).1]; show 1 * 2048 + 1 * _ = 2048 + _; omega

theorem idx6 (t : Fin cfg0.N) : win0_6.index t 1 = 2 ∧ (0 < 15 - (grid0.coords t 0).val → win0_6.index t 0 * 16 = 256 * (15 - (grid0.coords t 0).val) - 16) := by
  revert t; decide +kernel

theorem b6 (t : Fin cfg0.N) (hb : 0 < 15 - (grid0.coords t 0).val) (r : Fin 16) (k : Fin 2048) :
    iblk m c 6 t (ix2 r k) = (inp m c).P (256 * (15 - (grid0.coords t 0).val) - 16 + r) (4096 + k) := by
  have h : 256 * (15 - (grid0.coords t 0).val) - 16 + r.val < 4096 ∧ 4096 + k.val < 8192 := by
    have := r.isLt; have := k.isLt; omega
  show _ = tab _ _ _ _ _
  rw [tab, dif_pos h]
  unfold iblk
  rw [View.read_apply]
  refine (congrFun (V_main_arg1 m c) _).trans (congrArg (m ((c : Thread nD τ).loc main_arg1)) ?_)
  funext a; apply Fin.ext
  match a with
  | ⟨0, _⟩ =>
    show win0_6.index t 0 * 16 + 1 * r.val = _
    rw [(idx6 t).2 hb]; show _ + 1 * _ = 256 * _ - 16 + _; omega
  | ⟨1, _⟩ =>
    show win0_6.index t 1 * 2048 + 1 * k.val = _
    rw [(idx6 t).1]; show 2 * 2048 + 1 * _ = 4096 + _; omega

theorem V7 (d : Fin 1024) : V m c main_v7 (ix2 3 d) = m ((c : Thread nD τ).loc main_arg6) (ix1 d) := by
  unfold V
  after_reads_simp
  pointwise
  after_reads_simp
  pointwise
  done

theorem V9 (j : Fin 8) (k : Fin 2048) : V m c main_v9 (ix2 j k) = (inp m c).C j k := by
  show _ = if _ then tab _ _ _ _ _ else _
  unfold V
  after_reads_simp
  pointwise
  by_cases h : j.val < 3
  · rw [dif_pos h, if_pos h, tab, dif_pos ⟨h, k.isLt⟩]
  · rw [dif_neg h, if_neg h]

theorem V10 : V m c main_v10 = m ((c : Thread nD τ).loc main_arg2) := by
  entry_read
  rfl

theorem i7 (t : Fin cfg0.N) (r : Fin 2048) (k : Fin 1024) : iblk m c 7 t (ix2 r k) = V m c main_v10 (ix2 r k) := by
  have hi : win0_7.index t = ![0, 0] := by revert t; decide +kernel
  unfold iblk
  rw [View.read_apply]
  refine congrArg (V m c main_v10) ?_
  funext a; apply Fin.ext
  match a with
  | ⟨0, _⟩ =>
    show win0_7.index t 0 * 2048 + 1 * r.val = _
    rw [hi]; show 0 * 2048 + 1 * _ = r.val; omega
  | ⟨1, _⟩ =>
    show win0_7.index t 1 * 1024 + 1 * k.val = _
    rw [hi]; show 0 * 1024 + 1 * _ = k.val; omega

theorem i8 (t : Fin cfg0.N) (r : Fin 8) (k : Fin 1024) : iblk m c 8 t (ix2 r k) = V m c main_v7 (ix2 r k) := by
  have hi : win0_8.index t = ![0, 0] := by revert t; decide +kernel
  unfold iblk
  rw [View.read_apply]
  refine congrArg (V m c main_v7) ?_
  funext a; apply Fin.ext
  match a with
  | ⟨0, _⟩ =>
    show win0_8.index t 0 * 8 + 1 * r.val = _
    rw [hi]; show 0 * 8 + 1 * _ = r.val; omega
  | ⟨1, _⟩ =>
    show win0_8.index t 1 * 1024 + 1 * k.val = _
    rw [hi]; show 0 * 1024 + 1 * _ = k.val; omega

theorem i9 (t : Fin cfg0.N) (r : Fin 8) (k : Fin 2048) : iblk m c 9 t (ix2 r k) = V m c main_v9 (ix2 r k) := by
  have hi : win0_9.index t = ![0, 0] := by revert t; decide +kernel
  unfold iblk
  rw [View.read_apply]
  refine congrArg (V m c main_v9) ?_
  funext a; apply Fin.ext
  match a with
  | ⟨0, _⟩ =>
    show win0_9.index t 0 * 8 + 1 * r.val = _
    rw [hi]; show 0 * 8 + 1 * _ = r.val; omega
  | ⟨1, _⟩ =>
    show win0_9.index t 1 * 2048 + 1 * k.val = _
    rw [hi]; show 0 * 2048 + 1 * _ = k.val; omega

theorem i10 (t : Fin cfg0.N) (r : Fin 1) (k : Fin 2048) : iblk m c 10 t (ix2 r k) = V m c main_arg9 (ix2 r k) := by
  have hi : win0_10.index t = ![0, 0] := by revert t; decide +kernel
  unfold iblk
  rw [View.read_apply]
  refine congrArg (V m c main_arg9) ?_
  funext a; apply Fin.ext
  match a with
  | ⟨0, _⟩ =>
    show win0_10.index t 0 * 1 + 1 * r.val = _
    rw [hi]; show 0 * 1 + 1 * _ = r.val; omega
  | ⟨1, _⟩ =>
    show win0_10.index t 1 * 2048 + 1 * k.val = _
    rw [hi]; show 0 * 2048 + 1 * _ = k.val; omega

theorem b7 (t : Fin cfg0.N) (r : Fin 2048) (d : Fin 1024) : iblk m c 7 t (ix2 r d) = (inp m c).W r d := by
  rw [i7, V10]
  show _ = tab _ _ _ _ _
  rw [tab, dif_pos ⟨r.isLt, d.isLt⟩]

theorem b8 (t : Fin cfg0.N) (d : Fin 1024) : iblk m c 8 t (ix2 3 d) = (inp m c).G d := by
  rw [i8, V7]
  show _ = row _ _ _
  rw [row, dif_pos d.isLt]

theorem b9 (t : Fin cfg0.N) (j : Fin 8) (k : Fin 2048) : iblk m c 9 t (ix2 j k) = (inp m c).C j k := by
  rw [i9, V9]

theorem b10 (t : Fin cfg0.N) (k : Fin 2048) : iblk m c 10 t (ix2 0 k) = (inp m c).B k := by
  rw [i10, V_main_arg9]
  show _ = tab _ _ _ _ _
  rw [tab, dif_pos ⟨Nat.one_pos, k.isLt⟩]
  rfl

theorem coords (t : Fin cfg0.N) : (grid0.coords t 0).val = t.val := by
  revert t; decide +kernel

/-- What the point's staging buffers and the carried scratch hold after it. -/
def After (t : Fin cfg0.N) : Prop :=
  (outsAt0 m c t.val t.isLt).1 = arr 256 1024 (fun r d =>
      (inp m c).X (256 * (15 - (grid0.coords t 0).val) + r) d * (1 + (inp m c).G d)) ∧
  (outsAt0 m c t.val t.isLt).2.1 = arr 256 8192 (fun r k => (inp m c).proj (256 * (15 - (grid0.coords t 0).val) + r) k) ∧
  (outsAt0 m c t.val t.isLt).2.2.1 = arr 8 2048 (fun j k =>
      ∑ s ∈ Finset.range (t.val + 1), accb (inp m c) (15 - s) j k) ∧
  (outsAt0 m c t.val t.isLt).2.2.2 = arr 264 2048 (carry (inp m c) (15 - (grid0.coords t 0).val))

theorem p11_A (t : Fin cfg0.N) (ht : t.val % 16 = 0) (hb : (grid0.coords t 0).val + (15 - (grid0.coords t 0).val) = 15) :
    out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) = arr 256 1024 (fun r d => (inp m c).X (256 * (15 - (grid0.coords t 0).val) + r) d * (1 + (inp m c).G d)) :=
  funext fun y => out11_A _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) y

theorem p12_A (t : Fin cfg0.N) (ht : t.val % 16 = 0) (hb : (grid0.coords t 0).val + (15 - (grid0.coords t 0).val) = 15) (hb15 : 15 - (grid0.coords t 0).val = 15) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) = arr 256 8192 (fun r k => (inp m c).proj (256 * (15 - (grid0.coords t 0).val) + r) k) :=
  funext fun y => out12_A _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) hb15 y

theorem p13_A (t : Fin cfg0.N) (ht : t.val % 16 = 0) (hb : (grid0.coords t 0).val + (15 - (grid0.coords t 0).val) = 15) (Z : Nat → Nat → EReal) (hz : Z = fun _ _ => 0) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) = arr 8 2048 (fun j k => (Z j k + accb (inp m c) (15 - (grid0.coords t 0).val) j k : EReal)) :=
  funext fun y => out13_A _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) Z hz y

theorem ps_A (t : Fin cfg0.N) (ht : t.val % 16 = 0) (hb : (grid0.coords t 0).val + (15 - (grid0.coords t 0).val) = 15) (hb15 : 15 - (grid0.coords t 0).val = 15) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t) = arr 264 2048 (carry (inp m c) (15 - (grid0.coords t 0).val)) :=
  funext fun y => sout_A _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) hb15 y

theorem p11_B (t : Fin cfg0.N) (ht : ¬t.val % 16 = 0) (xo13 : Vec Ideal S8x2048 .f32) (xs1 : Vec Ideal S264x2048 .f32) (hb : (grid0.coords t 0).val + (15 - (grid0.coords t 0).val) = 15) :
    out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xo13 xs1 = arr 256 1024 (fun r d => (inp m c).X (256 * (15 - (grid0.coords t 0).val) + r) d * (1 + (inp m c).G d)) :=
  funext fun y => out11_B _ _ _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) y

theorem p12_B (t : Fin cfg0.N) (ht : ¬t.val % 16 = 0) (xo13 : Vec Ideal S8x2048 .f32) (xs1 : Vec Ideal S264x2048 .f32) (hb : (grid0.coords t 0).val + (15 - (grid0.coords t 0).val) = 15) (hs : ∀ (r : Fin 264) (k : Fin 2048), 256 ≤ r.val → xs1 (ix2 r k) = (inp m c).dx (256 * (15 - (grid0.coords t 0).val) + r) k) :
    out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xo13 xs1 = arr 256 8192 (fun r k => (inp m c).proj (256 * (15 - (grid0.coords t 0).val) + r) k) :=
  funext fun y => out12_B _ _ _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) hs y

theorem p13_B (t : Fin cfg0.N) (ht : ¬t.val % 16 = 0) (xo13 : Vec Ideal S8x2048 .f32) (xs1 : Vec Ideal S264x2048 .f32) (hb : (grid0.coords t 0).val + (15 - (grid0.coords t 0).val) = 15) (Z : Nat → Nat → EReal) (hz : ∀ (j : Fin 8) (k : Fin 2048), xo13 (ix2 j k) = Z j k) :
    out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xo13 xs1 = arr 8 2048 (fun j k => (Z j k + accb (inp m c) (15 - (grid0.coords t 0).val) j k : EReal)) :=
  funext fun y => out13_B _ _ _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) Z hz y

theorem ps_B (t : Fin cfg0.N) (ht : ¬t.val % 16 = 0) (xo13 : Vec Ideal S8x2048 .f32) (xs1 : Vec Ideal S264x2048 .f32) (hb : (grid0.coords t 0).val + (15 - (grid0.coords t 0).val) = 15) (hs : ∀ (r : Fin 264) (k : Fin 2048), 256 ≤ r.val → xs1 (ix2 r k) = (inp m c).dx (256 * (15 - (grid0.coords t 0).val) + r) k) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xo13 xs1 = arr 264 2048 (carry (inp m c) (15 - (grid0.coords t 0).val)) :=
  funext fun y => sout_B _ _ _ _ _ _ _ _ _ _ _ _ _ _ _ _ _ _ _ _ _ _ _ _ _ _ _ _ _ _ _ _ _ _ _ _ _ _ _ _ _ _ _ _ _ _ _ _ _ _ (inp m c) (15 - (grid0.coords t 0).val) hb (b0 m c t) (b1 m c t) (b2 m c t) (b3 m c t) (b4 m c t) (fun r k hb => ⟨b5 m c t hb r k, b6 m c t hb r k⟩) (b7 m c t) (b8 m c t) (b9 m c t) (b10 m c t) hs y

theorem after_A (t : Fin cfg0.N) (ht : t.val % 16 = 0) : After m c t := by
  have hN : cfg0.N = 16 := N_0
  have t0 : t.val = 0 := by have := t.isLt; omega
  have hc := coords t
  have hb : (grid0.coords t 0).val + (15 - (grid0.coords t 0).val) = 15 := by omega
  have hb15 : 15 - (grid0.coords t 0).val = 15 := by omega
  have e := outsAt0_A m c t ht
  rw [p11_A m c t ht hb, p12_A m c t ht hb hb15, p13_A m c t ht hb (fun _ _ => 0) rfl, ps_A m c t ht hb hb15] at e
  unfold After
  rw [e]
  refine ⟨rfl, rfl, ?_, rfl⟩
  rw [t0, hb15]
  simp only [zero_add, Finset.sum_range_one, Nat.sub_zero]

theorem after_B (t : Fin cfg0.N) (ht : ¬t.val % 16 = 0)
    (ih : After m c ⟨t.val - 1, Nat.lt_of_le_of_lt (Nat.sub_le _ _) t.isLt⟩) :
    After m c t := by
  have hN : cfg0.N = 16 := N_0
  have tl : t.val < 16 := by have := t.isLt; omega
  have hc := coords t
  have hc' := coords ⟨t.val - 1, Nat.lt_of_le_of_lt (Nat.sub_le _ _) t.isLt⟩
  have hb : (grid0.coords t 0).val + (15 - (grid0.coords t 0).val) = 15 := by omega
  obtain ⟨-, -, i3, i4⟩ := ih
  have hs : ∀ (r : Fin 264) (k : Fin 2048), 256 ≤ r.val →
      (outsAt0 m c (t.val - 1) (Nat.lt_of_le_of_lt (Nat.sub_le _ _) t.isLt)).2.2.2 (ix2 r k)
        = (inp m c).dx (256 * (15 - (grid0.coords t 0).val) + r) k := by
    intro r k hr
    refine (congrFun i4 (ix2 r k)).trans ?_
    show carry _ _ r.val k.val = _
    rw [carry, if_neg (by omega)]
    congr 1
    rw [hc', hc]
    show 256 * (15 - (t.val - 1)) + _ = _
    omega
  have hz : ∀ (j : Fin 8) (k : Fin 2048),
      (outsAt0 m c (t.val - 1) (Nat.lt_of_le_of_lt (Nat.sub_le _ _) t.isLt)).2.2.1 (ix2 j k)
        = (fun j k => ∑ s ∈ Finset.range t.val, accb (inp m c) (15 - s) j k) j k := by
    intro j k
    refine (congrFun i3 (ix2 j k)).trans ?_
    show ∑ s ∈ Finset.range (t.val - 1 + 1), _ = _
    rw [show t.val - 1 + 1 = t.val by omega]
    rfl
  clear i3 i4
  have e := outsAt0_B m c t ht
  rw [p11_B m c t ht _ _ hb, p12_B m c t ht _ _ hb hs, p13_B m c t ht _ _ hb (fun j k => ∑ s ∈ Finset.range t.val, accb (inp m c) (15 - s) j k) hz, ps_B m c t ht _ _ hb hs] at e
  unfold After
  rw [e]
  refine ⟨rfl, rfl, ?_, rfl⟩
  rw [hc]
  simp only [Finset.sum_range_succ]

theorem after_all : ∀ (n : Nat) (h : n < cfg0.N), After m c ⟨n, h⟩
  | 0, h => after_A m c ⟨0, h⟩ rfl
  | n + 1, h => by
    have hN : cfg0.N = 16 := N_0
    exact after_B m c ⟨n + 1, h⟩ (by show ¬(n + 1) % 16 = 0; omega) (after_all n (by omega))

theorem idx11 (t : Fin cfg0.N) : win0_11.index t = ![15 - (grid0.coords t 0).val, 0] := by
  revert t; decide +kernel

theorem idx12 (t : Fin cfg0.N) : win0_12.index t = ![15 - (grid0.coords t 0).val, 0] := by
  revert t; decide +kernel

theorem final11 : (dats m 0 c).arrAt 11 cfg0.N = arr 4096 1024 fun r d => (inp m c).X r d * (1 + (inp m c).G d) := by
  refine (dats m 0 c).arrAt_eq_of_covers 11 _ (by decide +kernel) fun t hf y => ?_
  blk_simp
  rw [after0_11, (after_all m c t.val t.isLt).1]
  unfold arr
  blk_simp [idx11]
  rw [Nat.mul_comm 256]

theorem final12 : (dats m 0 c).arrAt 12 cfg0.N = arr 4096 8192 (inp m c).proj := by
  refine (dats m 0 c).arrAt_eq_of_covers 12 _ (by decide +kernel) fun t hf y => ?_
  blk_simp
  rw [after0_12, (after_all m c t.val t.isLt).2.1]
  unfold arr
  blk_simp [idx12]
  rw [Nat.mul_comm 256]

theorem final13 : (dats m 0 c).arrAt 13 cfg0.N
    = arr 8 2048 fun j k => ∑ s ∈ Finset.range 16, accb (inp m c) (15 - s) j k := by
  refine (dats m 0 c).arrAt_eq_of_after_last 13 t0_15 (by decide +kernel) _ fun j => ?_
  blk_simp
  rw [after0_13, (after_all m c t0_15.val t0_15.isLt).2.2.1]
  rfl

theorem sum_back (f : Nat → EReal) :
    ∑ s ∈ Finset.range 16, ∑ r : Fin 256, f (256 * (15 - s) + r) = ∑ R : Fin 4096, f R := by
  rw [← Finset.sum_range f (n := 4096), ← sum_blocks f 256 16]
  exact Finset.sum_range_reflect (fun b => ∑ r : Fin 256, f (256 * b + r)) 16

theorem final13' : (dats m 0 c).arrAt 13 cfg0.N = arr 8 2048 fun j k =>
    if j < 3 then ∑ R : Fin 4096, (inp m c).dc R k * (inp m c).up (R + j) k
    else if j = 3 then ∑ R : Fin 4096, (inp m c).dc R k else 0 := by
  rw [final13]
  congr 1
  funext j k
  unfold accb
  by_cases h : j < 3
  · simp only [if_pos h]
    exact sum_back fun R => (inp m c).dc R k * (inp m c).up (R + j) k
  · by_cases h3 : j = 3
    · simp only [if_neg h, if_pos h3]
      exact sum_back fun R => (inp m c).dc R k
    · simp only [if_neg h, if_neg h3, Finset.sum_const_zero]

end Cert.OddValue
-- ==== Proof.OddRef.lean ====
module

public import proofs.«01_k».proof.Proof.OddBlock
public import proofs.«01_k».proof.Proof.Reals
public import proofs.«01_k».proof.Proof.Gen.OddRefIdeal.Read

@[expose] public section

set_option maxRecDepth 16384

noncomputable section

namespace Cert.OddRef

open Idealize.ShloMosaic Cert.OddRefIdeal Cert.OddBlock Cert.Pieces Cert.Reals Cert.OddRefIdeal.Read

variable (x0 : (⟨S4096x1024, .f32⟩ : BufTy).Contents (Elt Ideal)) (x1 : (⟨S4096x8192, .bf16⟩ : BufTy).Contents (Elt Ideal))
  (x2 : (⟨S2048x1024, .f32⟩ : BufTy).Contents (Elt Ideal)) (x6 : (⟨S1024, .f32⟩ : BufTy).Contents (Elt Ideal))
  (x8 : (⟨S3x2048, .f32⟩ : BufTy).Contents (Elt Ideal)) (x9 : (⟨S1x2048, .f32⟩ : BufTy).Contents (Elt Ideal))

local notation "D" => inpOf x0 x1 x2 x6 x8 x9

theorem eP (a : Fin 4096) (b : Fin 8192) : x1 (ix2 a b) = (D).P a b := (tab_at x1 a.isLt b.isLt).symm

theorem eX (a : Fin 4096) (b : Fin 1024) : x0 (ix2 a b) = (D).X a b := (tab_at x0 a.isLt b.isLt).symm

theorem eW (a : Fin 2048) (b : Fin 1024) : x2 (ix2 a b) = (D).W a b := (tab_at x2 a.isLt b.isLt).symm

theorem eG (a : Fin 1024) : x6 (ix1 a) = (D).G a := (row_at x6 a.isLt).symm

theorem eC (a : Fin 3) (b : Fin 2048) : x8 (ix2 a b) = (D).C a b :=
  ((if_pos a.isLt).trans (tab_at x8 a.isLt b.isLt)).symm

theorem eB (b : Fin 2048) : x9 (ix2 0 b) = (D).B b := (tab_at x9 Nat.zero_lt_one b.isLt).symm

theorem v7_at (q : Fin 4098) (k : Fin 2048) : val_main_v7 (F := Ideal) x1 (ix2 q k) = (D).up q k := by
  pointwise [val_main_v7, val_main_v6, val_main_cst, val_main_v5, val_main_v2, val_main_v3, val_main_v0]
  simp only [eP x0 x1 x2 x6 x8 x9]
  rfl

theorem v32_at (R : Fin 4096) (k : Fin 2048) : val_main_v32 (F := Ideal) x1 x8 x9 (ix2 R k) = (D).cv R k := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst_1]
  simp only [v7_at x0 x1 x2 x6 x8 x9, eC x0 x1 x2 x6 x8 x9, eB x0 x1 x2 x6 x8 x9, mul_comm ((D).up _ _), add_comm 1 R.val, add_comm 2 R.val, ← add_assoc]
  rfl

theorem v43_at (R : Fin 4096) (k : Fin 1024) : val_main_v43 (F := Ideal) x0 x6 (ix2 R k) = (D).X R k * (1 + (D).G k) := by
  pointwise [val_main_v43, val_main_v42, val_main_v39, val_main_v38, val_main_v37, val_main_cst_2]
  simp only [eX x0 x1 x2 x6 x8 x9, eG x0 x1 x2 x6 x8 x9]
  exact mul_comm _ _

theorem v44_at (R : Fin 4096) (k : Fin 2048) : val_main_v44 (F := Ideal) x0 x2 x6 (ix2 R k) = (D).dY R k := by
  pointwise [val_main_v44]
  simp only [v43_at x0 x1 x2 x6 x8 x9, eW x0 x1 x2 x6 x8 x9]
  rfl

theorem v34_2_at (R : Fin 4096) (k : Fin 2048) :
    val_main_v34_2 (F := Ideal) x1 (ix2 R k) = Ideal.div 1 (1 + Ideal.exp (-(D).P R (6144 + k))) := by
  pointwise [val_main_v34_2, val_main_call0_v0, val_main_call0_v1, val_main_call0_v2, val_main_call0_v3, val_main_call0_v4, val_main_call0_cst, val_main_call0_cst_0, val_main_v4, val_main_v0]
  simp only [eP x0 x1 x2 x6 x8 x9]

theorem v44_real_of (hf : (∀ r k, IsReal ((D).X r k)) ∧ (∀ k, IsReal ((D).G k)) ∧ ∀ k d, IsReal ((D).W k d)) (R k : Nat) :
    IsReal ((D).dY R k) :=
  IsReal.sum _ fun d => ((hf.1 _ _).mul (IsReal.one.add (hf.2.1 _))).mul (hf.2.2 _ _)

/-- The two ways of writing the sigmoid agree at every gate value. -/
def Sig : Prop := ∀ R k : Nat, Ideal.div 1 (1 + Ideal.exp (-(D).P R (6144 + k))) = (D).sg R k

theorem bcast_C0 (R : Fin 4096) (k : Fin 2048) : val_main_v75 (F := Ideal) x8 (ix2 R k) = (D).C 0 k := by
  pointwise [val_main_v75, val_main_v12, val_main_v11, val_main_v10]
  exact eC x0 x1 x2 x6 x8 x9 0 k

theorem bcast_C1 (R : Fin 4096) (k : Fin 2048) : val_main_v64 (F := Ideal) x8 (ix2 R k) = (D).C 1 k := by
  pointwise [val_main_v64, val_main_v20, val_main_v19, val_main_v18]
  exact eC x0 x1 x2 x6 x8 x9 1 k

theorem bcast_C2 (R : Fin 4096) (k : Fin 2048) : val_main_v55 (F := Ideal) x8 (ix2 R k) = (D).C 2 k := by
  pointwise [val_main_v55, val_main_v27, val_main_v26, val_main_v25]
  exact eC x0 x1 x2 x6 x8 x9 2 k

variable (hs : Sig x0 x1 x2 x6 x8 x9)
include hs

theorem v46_at (R : Fin 4096) (k : Fin 2048) :
    val_main_v46 (F := Ideal) x0 x1 x2 x6 (ix2 R k) = (D).t1 R k := by
  pointwise [val_main_v46, val_main_v34_0, val_main_v4, val_main_v0]
  rw [v34_2_at x0 x1 x2 x6 x8 x9, v44_at x0 x1 x2 x6 x8 x9, hs R k, eP x0 x1 x2 x6 x8 x9]
  rfl

theorem v48_at (R : Fin 4096) (k : Fin 2048) :
    val_main_v48 (F := Ideal) x0 x1 x2 x6 (ix2 R k) = (D).dc R k := by
  pointwise [val_main_v48, val_main_v1, val_main_v0]
  rw [v46_at x0 x1 x2 x6 x8 x9 hs, eP x0 x1 x2 x6 x8 x9]
  exact mul_comm _ _

theorem v49_at (R : Fin 4096) (k : Fin 2048) :
    val_main_v49 (F := Ideal) x0 x1 x2 x6 x8 x9 (ix2 R k) = (D).dgb R k := by
  pointwise [val_main_v49]
  rw [v46_at x0 x1 x2 x6 x8 x9 hs, v32_at x0 x1 x2 x6 x8 x9]
  rfl

theorem v84_at (R : Fin 4096) (k : Fin 2048) :
    val_main_v84 (F := Ideal) x0 x1 x2 x6 x8 (ix2 R k) = (D).duu R k := by
  pointwise [val_main_v84, val_main_v82, val_main_v81, val_main_v71, val_main_v60, val_main_v70, val_main_v56, val_main_v65, val_main_v76, val_main_cst_11, val_main_cst_15]
  simp only [v48_at x0 x1 x2 x6 x8 x9 hs, bcast_C0 x0 x1 x2 x6 x8 x9, bcast_C1 x0 x1 x2 x6 x8 x9, bcast_C2 x0 x1 x2 x6 x8 x9]
  have h1 : 2 + R.val - 1 = R.val + 1 := by omega
  unfold Inp.duu Inp.dx
  simp only [h1, add_comm 2 R.val, mul_comm ((D).dc _ _)]
  congr 2
  · by_cases h : R.val + 1 < 4096
    · rw [dif_pos ⟨by omega, h⟩, if_pos h]; rfl
    · rw [dif_neg (fun e => h e.2), if_neg h, mul_zero]
  · by_cases h : R.val + 2 < 4096
    · rw [dif_pos h, if_pos h]
    · rw [dif_neg h, if_neg h, mul_zero]

theorem v80_at (j : Fin 3) (k : Fin 2048) :
    val_main_v80 (F := Ideal) x0 x1 x2 x6 (ix2 j k) = ∑ R : Fin 4096, (D).dc R k * (D).up (R + j) k := by
  pointwise [val_main_v80, val_main_v69, val_main_v79, val_main_v78, val_main_v77, val_main_v74, val_main_v73, val_main_v59, val_main_v58, val_main_v57, val_main_v54, val_main_v53, val_main_v68, val_main_v67, val_main_v66, val_main_v63, val_main_v62, val_main_v52, val_main_v61, val_main_v72, val_main_v9, val_main_v17, val_main_v24, val_main_cst_4, val_main_cst_5, val_main_cst_6, val_main_cst_8, val_main_cst_9, val_main_cst_10, val_main_cst_12, val_main_cst_13, val_main_cst_14]
  simp only [v48_at x0 x1 x2 x6 x8 x9 hs, v7_at x0 x1 x2 x6 x8 x9]
  match j with
  | 0 => simp [mul_comm]
  | 1 => simp [mul_comm, add_comm 1]
  | 2 => simp [mul_comm, add_comm 2]

theorem v51_at (k : Fin 2048) :
    val_main_v51 (F := Ideal) x0 x1 x2 x6 (ix2 0 k) = ∑ R : Fin 4096, (D).dc R k := by
  pointwise [val_main_v51, val_main_v50, val_main_cst_3]
  simp only [v48_at x0 x1 x2 x6 x8 x9 hs]

/-- Every entry of the six arguments the gradient reads is a real number. -/
structure Fin_ : Prop where
  X : ∀ r k, IsReal ((D).X r k)
  P : ∀ r k, IsReal ((D).P r k)
  W : ∀ r k, IsReal ((D).W r k)
  G : ∀ k, IsReal ((D).G k)
  C : ∀ r k, IsReal ((D).C r k)
  B : ∀ k, IsReal ((D).B k)

omit hs in
theorem half_eq : Inp.half = ((1 / 2 : ℝ) : EReal) := by
  unfold Inp.half
  simp [Ideal.ofBits, Ideal.ieee, -EReal.coe_mul]
  norm_num

omit hs in
theorem half_tanh_aux (a b : ℝ) (ha : 0 < a) (hb : 0 < b) (h : a * b = 1) :
    1 / 2 * ((a - b) / 2 / ((a + b) / 2)) + 1 / 2 = (1 + b * b)⁻¹ := by
  field_simp
  linear_combination 2 * b * h

omit hs in
/-- The logistic function is an affine image of the hyperbolic tangent at half the argument. -/
theorem half_tanh (v : ℝ) : 1 / 2 * Real.tanh (1 / 2 * v) + 1 / 2 = (1 + Real.exp (-v))⁻¹ := by
  have e : -v = -(1 / 2 * v) + -(1 / 2 * v) := by ring
  rw [Real.tanh_eq_sinh_div_cosh, Real.sinh_eq, Real.cosh_eq, e, Real.exp_add]
  exact half_tanh_aux _ _ (Real.exp_pos _) (Real.exp_pos _) (by rw [← Real.exp_add]; simp)

variable {x0 x1 x2 x6 x8 x9} in
omit hs in
theorem Fin_.sig (hf : Fin_ x0 x1 x2 x6 x8 x9) : Sig x0 x1 x2 x6 x8 x9 := fun R k => by
  unfold Inp.sg
  obtain ⟨v, hv⟩ := hf.P R (6144 + k)
  rw [hv, half_eq, ← EReal.coe_mul, Ideal.tanh_coe, ← EReal.coe_mul, ← EReal.coe_add, half_tanh, ← EReal.coe_neg,
    Ideal.exp_coe, ← EReal.coe_one, ← EReal.coe_add, Ideal.div_coe (by positivity), ← EReal.coe_mul]
  simp

variable {x0 x1 x2 x6 x8 x9} in
omit hs in
theorem Fin_.up (hf : Fin_ x0 x1 x2 x6 x8 x9) (q k : Nat) : IsReal ((D).up q k) :=
  IsReal.ite IsReal.zero ((hf.P _ _).mul (hf.P _ _))

variable {x0 x1 x2 x6 x8 x9} in
omit hs in
theorem Fin_.cv (hf : Fin_ x0 x1 x2 x6 x8 x9) (R k : Nat) : IsReal ((D).cv R k) :=
  (((hf.B _).add ((hf.C _ _).mul (hf.up _ _))).add ((hf.C _ _).mul (hf.up _ _))).add ((hf.C _ _).mul (hf.up _ _))

variable {x0 x1 x2 x6 x8 x9} in
omit hs in
theorem Fin_.dY (hf : Fin_ x0 x1 x2 x6 x8 x9) (R k : Nat) : IsReal ((D).dY R k) :=
  IsReal.sum _ fun d => ((hf.X _ _).mul (IsReal.one.add (hf.G _))).mul (hf.W _ _)

omit hs in
theorem v47_at (hf : Fin_ x0 x1 x2 x6 x8 x9) (R : Fin 4096) (k : Fin 2048) :
    val_main_v47 (F := Ideal) x0 x1 x2 x6 x8 x9 (ix2 R k) = (D).dgate R k := by
  pointwise [val_main_v47, val_main_call1_v0, val_main_call1_v1, val_main_call1_v2, val_main_v45, val_main_v33, val_main_v1, val_main_v0, val_main_v4, val_main_v34_1, val_main_call0_v7, val_main_call0_v6, val_main_call0_cst_1]
  rw [v34_2_at x0 x1 x2 x6 x8 x9, v44_at x0 x1 x2 x6 x8 x9, v32_at x0 x1 x2 x6 x8 x9, hf.sig R k]
  simp only [eP x0 x1 x2 x6 x8 x9]
  unfold Inp.dgate
  have hsg : IsReal ((D).sg R k) := by
    unfold Inp.sg
    obtain ⟨v, hv⟩ := hf.P R (6144 + k)
    rw [hv, half_eq, ← EReal.coe_mul, Ideal.tanh_coe, ← EReal.coe_mul, ← EReal.coe_add]
    exact ⟨_, rfl⟩
  obtain ⟨s, es⟩ := hsg
  obtain ⟨a, ea⟩ := hf.P R k
  obtain ⟨b, eb⟩ := hf.P R (6144 + k)
  obtain ⟨c, ec⟩ := hf.cv R k
  obtain ⟨d, ed⟩ := hf.dY R k
  simp only [es, ea, eb, ec, ed]
  simp only [← EReal.coe_one, ← EReal.coe_add, ← EReal.coe_mul, ← EReal.coe_sub]
  congr 1
  ring

omit hs in
theorem v90_eq : val_main_v90 (F := Ideal) x0 x6 = arr 4096 1024 fun r d => (D).X r d * (1 + (D).G d) := by
  funext i; obtain ⟨r, d, rfl⟩ : ∃ r d, i = ix2 r d := ⟨_, _, (ix2_eta i).symm⟩
  pointwise [val_main_v90, arr]
  exact v43_at x0 x1 x2 x6 x8 x9 r d

omit hs in
theorem v91_eq (hf : Fin_ x0 x1 x2 x6 x8 x9) :
    val_main_v91 (F := Ideal) x0 x1 x2 x6 x8 x9 = arr 4096 8192 (D).proj := by
  funext i; obtain ⟨r, d, rfl⟩ : ∃ r d, i = ix2 r d := ⟨_, _, (ix2_eta i).symm⟩
  pointwise [val_main_v91, val_main_v87, val_main_v86, val_main_v85, val_main_v2, val_main_v3, val_main_v0, arr]
  simp only [v47_at x0 x1 x2 x6 x8 x9 hf, v49_at x0 x1 x2 x6 x8 x9 hf.sig, v84_at x0 x1 x2 x6 x8 x9 hf.sig, eP x0 x1 x2 x6 x8 x9]
  unfold Inp.proj
  have e1 : d.val - 2048 - 2048 = d.val - 4096 := by omega
  have e2 : d.val - 4096 - 2048 = d.val - 6144 := by omega
  by_cases h1 : d.val < 2048
  · rw [dif_pos h1, if_pos h1]
  rw [dif_neg h1, if_neg h1]
  by_cases h2 : d.val < 4096
  · rw [dif_pos (by omega), if_pos h2]
  rw [dif_neg (by omega), if_neg h2]
  by_cases h3 : d.val < 6144
  · rw [dif_pos (by omega), if_pos h3, e1, mul_comm]
  rw [dif_neg (by omega), if_neg h3, e1, e2]

omit hs in
theorem v89_eq (hf : Fin_ x0 x1 x2 x6 x8 x9) :
    val_main_v89 (F := Ideal) x0 x1 x2 x6 = arr 8 2048 fun j k =>
      if j < 3 then ∑ R : Fin 4096, (D).dc R k * (D).up (R + j) k else if j = 3 then ∑ R : Fin 4096, (D).dc R k else 0 := by
  funext i; obtain ⟨r, d, rfl⟩ : ∃ r d, i = ix2 r d := ⟨_, _, (ix2_eta i).symm⟩
  pointwise [val_main_v89, val_main_v88, val_main_cst_16, arr]
  simp only [v80_at x0 x1 x2 x6 x8 x9 hf.sig]
  by_cases h1 : r.val < 3
  · rw [dif_pos h1, if_pos h1]
  rw [dif_neg h1, if_neg h1]
  by_cases h2 : r.val = 3
  · rw [dif_pos (by omega), if_pos h2, ← v51_at x0 x1 x2 x6 x8 x9 hf.sig]
    congr 2
    exact Fin.ext (by omega)
  rw [dif_neg (by omega), if_neg h2]

end Cert.OddRef
-- ==== Proof.OddClaim.lean ====
module

public import proofs.«01_k».proof.Defs
public import proofs.«01_k».proof.Proof.OddValue
public import proofs.«01_k».proof.Proof.OddRef
public import proofs.«01_k».proof.Proof.Gen.OddRefIdeal.Run
public import Idealize.ShloMosaic.Lib.Quiescent

/-! The kernel and the reference of the gated convolution's gradient leave the same arrays when the arguments are
finite. -/

@[expose] public section

set_option maxRecDepth 16384

noncomputable section

namespace Cert.OddClaim

open Idealize.ShloMosaic Idealize.SL.Sem Cert.Reals Cert.Pieces Cert.OddBlock

/-- The shape relations of the finiteness test. -/
instance preFacts : Cert.Pre_odd_finite.Facts where
  bcast_S_S4096x1024 := by decide
  reducesTo_S4096x1024_S_d0_1 := by decide
  h_S_ := by decide
  bitsLt_bf16_f32 := by decide
  bcast_S_S4096x8192 := by decide
  reducesTo_S4096x8192_S_d0_1 := by decide
  bcast_S_S2048x1024 := by decide
  reducesTo_S2048x1024_S_d0_1 := by decide
  bcast_S_S1024 := by decide
  reducesTo_S1024_S_d0 := by decide
  bcast_S_S3x2048 := by decide
  reducesTo_S3x2048_S_d0_1 := by decide
  bcast_S_S1x2048 := by decide
  reducesTo_S1x2048_S_d0_1 := by decide

instance : Subsingleton Cert.Pre_odd_finite.S_.Idx := ⟨fun a b => funext fun i => i.elim0⟩

/-- The word for plus infinity. -/
theorem inf_word : Ideal.ofBits .f32 0x7F800000#32 = ⊤ := by simp [Ideal.ofBits, Ideal.ieee]

/-- A table of real numbers and zeros. -/
theorem isReal_tab {a b : Nat} {A : (⟨2, ![a, b]⟩ : Shape).Idx → EReal} (h : ∀ i, IsReal (A i)) (r k : Nat) :
    IsReal (tab a b A r k) := by
  unfold tab
  split
  · exact h _
  · exact IsReal.zero

/-- The same of a vector. -/
theorem isReal_row {a : Nat} {A : (⟨1, ![a]⟩ : Shape).Idx → EReal} (h : ∀ i, IsReal (A i)) (k : Nat) :
    IsReal (row a A k) := by
  unfold row
  split
  · exact h _
  · exact IsReal.zero

/-- What the finiteness test says: every entry of the six arguments is a real number. -/
theorem fin_of_fn (x0 : FVec Ideal Cert.Pre_odd_finite.S4096x1024 .f32) (x1 : FVec Ideal Cert.Pre_odd_finite.S4096x8192 .bf16)
    (x2 : FVec Ideal Cert.Pre_odd_finite.S2048x1024 .f32) (x3 x4 x5 x6 x7 : FVec Ideal Cert.Pre_odd_finite.S1024 .f32)
    (x8 : FVec Ideal Cert.Pre_odd_finite.S3x2048 .f32) (x9 : FVec Ideal Cert.Pre_odd_finite.S1x2048 .f32)
    (i : Cert.Pre_odd_finite.S_.Idx)
    (h : Cert.Pre_odd_finite.fn (F := Ideal) x0 x1 x2 x3 x4 x5 x6 x7 x8 x9 i = 1#1) :
    Cert.OddRef.Fin_ x0 x1 x2 x6 x8 x9 := by
  obtain ⟨h, h9⟩ := IntOp.andi_eq_one.1 h
  obtain ⟨h, h8⟩ := IntOp.andi_eq_one.1 h
  obtain ⟨h, h6⟩ := IntOp.andi_eq_one.1 h
  obtain ⟨h, h2⟩ := IntOp.andi_eq_one.1 h
  obtain ⟨h0, h1⟩ := IntOp.andi_eq_one.1 h
  have r0 : ∀ j, IsReal (x0 j) := fun j =>
    isReal_of_lt (inf_word ▸ Host.reduce_andi_all _ _ _ _ i h0 j)
  have r1 : ∀ j, IsReal (x1 j) := fun j =>
    isReal_of_lt (inf_word ▸ Host.reduce_andi_all _ _ _ _ i h1 j)
  have r2 : ∀ j, IsReal (x2 j) := fun j =>
    isReal_of_lt (inf_word ▸ Host.reduce_andi_all _ _ _ _ i h2 j)
  have r6 : ∀ j, IsReal (x6 j) := fun j =>
    isReal_of_lt (inf_word ▸ Host.reduce_andi_all _ _ _ _ i h6 j)
  have r8 : ∀ j, IsReal (x8 j) := fun j =>
    isReal_of_lt (inf_word ▸ Host.reduce_andi_all _ _ _ _ i h8 j)
  have r9 : ∀ j, IsReal (x9 j) := fun j =>
    isReal_of_lt (inf_word ▸ Host.reduce_andi_all _ _ _ _ i h9 j)
  exact ⟨isReal_tab r0, isReal_tab r1, isReal_tab r2, isReal_row r6,
    fun r k => IsReal.ite (isReal_tab r8 r k) IsReal.zero, isReal_tab r9 0⟩

/-- The kernel and the reference end with the same three arrays. -/
theorem algebraic : Cert.algebraic_OddBwdIdeal_OddRefIdeal_pre_odd_finite := by
  intro m g m' g' hpre hargs
  refine ⟨fun c => arr 4096 1024 fun r d => (OddValue.inp m c).X r d * (1 + (OddValue.inp m c).G d),
    fun c => arr 4096 8192 (OddValue.inp m c).proj,
    fun c => arr 8 2048 fun j k =>
      if j < 3 then ∑ R : Fin 4096, (OddValue.inp m c).dc R k * (OddValue.inp m c).up (R + j) k
      else if j = 3 then ∑ R : Fin 4096, (OddValue.inp m c).dc R k else 0, ?_, ?_⟩
  · refine (θ_run _ _ _).mono (fun r h c => ?_) (Cert.OddBwdIdeal.Value.run_blocks (F := Ideal) m g)
    obtain ⟨e0, e1, e2, hk⟩ := h c
    exact ⟨e0.trans (OddValue.final11 m c), e1.trans (OddValue.final12 m c), e2.trans (OddValue.final13' m c), hk⟩
  · refine (θ_run _ _ _).mono (fun r h c => ?_) (Cert.OddRefIdeal.Value.run (F := Ideal) m' g')
    obtain ⟨e0, e1, e2, hk⟩ := h c
    obtain ⟨a0, a1, a2, -, -, -, a6, -, a8, a9⟩ := hargs c
    have hf := fin_of_fn _ _ _ _ _ _ _ _ _ _ (fun i => i.elim0) (congrFun (hpre c) _)
    have v0 := OddRef.v90_eq (m ((c.tc : Thread _ _).loc OddBwdIdeal.main_arg0)) (m ((c.tc : Thread _ _).loc OddBwdIdeal.main_arg1)) (m ((c.tc : Thread _ _).loc OddBwdIdeal.main_arg2)) (m ((c.tc : Thread _ _).loc OddBwdIdeal.main_arg6)) (m ((c.tc : Thread _ _).loc OddBwdIdeal.main_arg8)) (m ((c.tc : Thread _ _).loc OddBwdIdeal.main_arg9))
    have v1 := OddRef.v91_eq _ _ _ _ _ _ hf
    have v2 := OddRef.v89_eq _ _ _ _ _ _ hf
    refine ⟨e0.trans (Eq.trans ?_ v0), e1.trans (Eq.trans ?_ v1), e2.trans (Eq.trans ?_ v2), hk⟩
    · rw [← a0, ← a6]; rfl
    · rw [← a0, ← a1, ← a2, ← a6, ← a8, ← a9]; rfl
    · rw [← a0, ← a1, ← a2, ← a6]; rfl

/-- The reference runs, and ends with its arguments unchanged and its counters at zero: it declares none. -/
theorem frame_reference : Cert.quiescent_OddRefIdeal := fun m g _ =>
  (θ_run _ _ _).mono (fun r h => ⟨fun c => (h c).2.2.2, sem_eq_zero_of_no_sems (by decide) _⟩)
    (Cert.OddRefIdeal.Value.run (F := Ideal) m g)

end Cert.OddClaim
-- ==== Proof.EvenBwd.lean ====
module

public import proofs.«01_k».proof.Defs
public import proofs.«01_k».proof.Proof.EvenBwdValue
public import proofs.«01_k».proof.Proof.OddClaim
public import proofs.«01_k».proof.Proof.Gen.EvenBwdRefIdeal.Read
public import proofs.«01_k».proof.Proof.Gen.EvenBwdRefIdeal.Run
public import Idealize.ShloMosaic.Lib.Quiescent

/-! The even layer's backward call and the reference leave the same arrays when the cotangent, the mixture, the weights and
the layer's gate are finite. -/

@[expose] public section

set_option maxRecDepth 16384

noncomputable section

open Idealize.ShloMosaic Idealize.ShloMosaic.TcCoe Idealize.SL.Sem

namespace Cert.EvenBwdValue

open Cert.Pieces Cert.Forward Cert.Reals

/-- The logistic function at plus infinity. -/
theorem sg_top : sg ⊤ = 1 := by
  unfold sg
  rw [half_eq, EReal.coe_mul_top_of_pos (by norm_num)]
  show ((1 / 2 : ℝ) : EReal) * 1 + _ = 1
  rw [mul_one, ← EReal.coe_add, ← EReal.coe_one]
  norm_num

/-- The logistic function at minus infinity. -/
theorem sg_bot : sg ⊥ = 0 := by
  unfold sg
  rw [half_eq, EReal.coe_mul_bot_of_pos (by norm_num)]
  show ((1 / 2 : ℝ) : EReal) * (-1 : EReal) + _ = 0
  rw [mul_neg, mul_one, ← EReal.coe_neg, ← EReal.coe_add, ← EReal.coe_zero]
  norm_num

/-- The derivative in the gate: the kernel's product is the chain rule's sum, at every gate. -/
theorem gate_word {u : EReal} (hu : IsReal u) (g : EReal) :
    u * sg g + g * u * (sg g * (1 - sg g)) = u * (sg g * (1 + g * (1 - sg g))) := by
  obtain ⟨a, rfl⟩ := hu
  induction g using EReal.rec with
  | bot => rw [sg_bot]; simp
  | top =>
    have e : (1 : EReal) - 1 = 0 := by rw [← EReal.coe_one, ← EReal.coe_sub, sub_self, EReal.coe_zero]
    rw [sg_top, e]
    simp
  | coe v =>
    obtain ⟨s, es⟩ : ∃ s : ℝ, sg (v : EReal) = (s : EReal) := by
      unfold sg
      rw [half_eq, ← EReal.coe_mul, Ideal.tanh_coe, ← EReal.coe_mul, ← EReal.coe_add]
      exact ⟨_, rfl⟩
    rw [es]
    simp only [← EReal.coe_one, ← EReal.coe_sub, ← EReal.coe_mul, ← EReal.coe_add]
    congr 1
    ring

namespace Inp

variable (D : Inp)

/-- The sums over all rows. -/
def tot (j d : Nat) : EReal := if j = 0 then ∑ R : Fin 4096, D.X R d * D.O R d else 0

/-- The blocks' sums make the whole sums. -/
theorem sum_blk (j d : Nat) : ∑ b ∈ Finset.range 16, D.blk b j d = D.tot j d := by
  unfold blk tot
  by_cases h0 : j = 0
  · simp only [if_pos h0]
    rw [Cert.Pieces.sum_blocks (fun R => D.X R d * D.O R d) 256 16]
    exact Finset.sum_range _
  · simp only [if_neg h0, Finset.sum_const_zero]

end Inp

section kernel

open Cert.EvenBwdIdeal Cert.EvenBwdIdeal.Gen

variable (m : (ℓ : Loc nD τ sig) → Buf (Elt Ideal) ℓ) (c : Dev nD)

/-- Past the call its fourth result is there. -/
theorem exit10 : Pipeline.withArrays spec0 c (V0 m c) (fun w => (dats m 0 c).arrAt w cfg0.N) (Proc.devRef .tc main_v9_3)
    = (dats m 0 c).arrAt 10 cfg0.N :=
  Pipeline.withArrays_arr spec0 winFacts0.arr_inj c (V0 m c) (fun w => (dats m 0 c).arrAt w cfg0.N) 10

/-- The derivative in the gate. -/
theorem res10 : Pipeline.afterTail₀ cfgs (dats m) 0 (V0 m) [hostOps1] c main_v10 = arr 4096 2048 (inp m c).dg := by
  funext i
  obtain ⟨R, k, rfl⟩ : ∃ (R : Fin 4096) (k : Fin 2048), i = ix2 R k := ⟨i 0, i 1, eq_ix2 i⟩
  exact (tail _ R k).trans ((congrFun (exit10 m c) _).trans (final10 m c R k))

/-- The sums over all rows. -/
theorem res11 : (dats m 0 c).arrAt 11 cfg0.N = arr 8 1024 (inp m c).tot := by
  rw [final11]
  simp only [Inp.sum_blk]

end kernel

end Cert.EvenBwdValue

namespace Cert.EvenBwdClaim

open Cert.EvenBwdRefIdeal Cert.EvenBwdRefIdeal.Read Cert.Pieces Cert.Forward Cert.EvenBwdValue Cert.Reals
open Cert.OddClaim (isReal_tab isReal_row inf_word)

section reference

variable (x0 x1 x2 x3 : (⟨S4096x1024, .f32⟩ : BufTy).Contents (Elt Ideal)) (x4 : (⟨S4096x6144, .bf16⟩ : BufTy).Contents (Elt Ideal))
  (x5 : (⟨S2048x1024, .f32⟩ : BufTy).Contents (Elt Ideal)) (x9 : (⟨S1024, .f32⟩ : BufTy).Contents (Elt Ideal))

local notation "D" => inpOf x0 x1 x2 x3 x4 x5 x9

/-- The cotangent. -/
theorem eX (R : Fin 4096) (d : Fin 1024) : x0 (ix2 R d) = (D).X R d := (tab_at x0 R.isLt d.isLt).symm

/-- The layer's output. -/
theorem eO (R : Fin 4096) (d : Fin 1024) : x1 (ix2 R d) = (D).O R d := (tab_at x1 R.isLt d.isLt).symm

/-- The projection. -/
theorem eP (R : Fin 4096) (k : Fin 6144) : x4 (ix2 R k) = (D).P R k := (tab_at x4 R.isLt k.isLt).symm

/-- The weights. -/
theorem eW (k : Fin 2048) (d : Fin 1024) : x5 (ix2 k d) = (D).W k d := (tab_at x5 k.isLt d.isLt).symm

/-- The layer's gate. -/
theorem eGA (d : Fin 1024) : x9 (ix1 d) = (D).GA d := (row_at x9 d.isLt).symm

/-- The derivative in the layer's output. -/
theorem v12_at (R : Fin 4096) (d : Fin 1024) : val_main_v12 (F := Ideal) x0 x9 (ix2 R d) = (D).dout R d := by
  pointwise [val_main_v12, val_main_v11, val_main_v8, val_main_v7, val_main_v6, val_main_cst]
  rw [eX x0 x1 x2 x3 x4 x5 x9, eGA x0 x1 x2 x3 x4 x5 x9, mul_comm]
  rfl

/-- The derivative in the gated mixture. -/
theorem v21_at (R : Fin 4096) (k : Fin 2048) : val_main_v21 (F := Ideal) x0 x5 x9 (ix2 R k) = (D).dyg R k := by
  pointwise [val_main_v21]
  simp only [v12_at x0 x1 x2 x3 x4 x5 x9, eW x0 x1 x2 x3 x4 x5 x9]
  rfl

/-- The gate. -/
theorem v5_at (R : Fin 4096) (k : Fin 2048) : val_main_v5 (F := Ideal) x4 (ix2 R k) = (D).g R k := by
  pointwise [val_main_v5, val_main_v0]
  rw [eP x0 x1 x2 x3 x4 x5 x9]
  rfl

/-- Its logistic function. -/
theorem s_at (R : Fin 4096) (k : Fin 2048) : val_main_v18_2 (F := Ideal) x4 (ix2 R k) = sg ((D).g R k) := by
  pointwise [val_main_v18_2, val_main_call0_v4, val_main_call0_v3, val_main_call0_v2, val_main_call0_v1, val_main_call0_v0, val_main_call0_cst, val_main_call0_cst_0]
  rw [v5_at x0 x1 x2 x3 x4 x5 x9, ← logistic]
  rfl

/-- The mixture. -/
theorem v17_at (R : Fin 4096) (k : Fin 2048) : val_main_v17 (F := Ideal) x2 x3 (ix2 R k) = (D).y R k := by
  pointwise [val_main_v17]
  unfold Inp.y
  by_cases h : k.val < 1024
  · rw [dif_pos h, if_pos h]
    exact (tab_at x2 R.isLt h).symm
  · rw [dif_neg h, if_neg h]
    exact (tab_at x3 R.isLt (by omega)).symm

/-- The derivative in the mixture. -/
theorem v23_at (R : Fin 4096) (k : Fin 2048) : val_main_v23 (F := Ideal) x0 x4 x5 x9 (ix2 R k) = (D).dy R k := by
  pointwise [val_main_v23, val_main_v18_0]
  rw [v21_at x0 x1 x2 x3 x4 x5 x9, v5_at x0 x1 x2 x3 x4 x5 x9, s_at x0 x1 x2 x3 x4 x5 x9]
  rfl

/-- The reference's derivative in the layer's output. -/
theorem out_eq : val_main_v27 (F := Ideal) x0 x9 = arr 4096 1024 (D).dout := by
  funext i
  obtain ⟨R, d, rfl⟩ : ∃ (R : Fin 4096) (d : Fin 1024), i = ix2 R d := ⟨i 0, i 1, eq_ix2 i⟩
  pointwise [val_main_v27, arr]
  exact v12_at x0 x1 x2 x3 x4 x5 x9 R d

/-- The reference's derivative in the pooling's result. -/
theorem lo_eq : val_main_v25 (F := Ideal) x0 x4 x5 x9 = arr 4096 1024 (D).dy := by
  funext i
  obtain ⟨R, k, rfl⟩ : ∃ (R : Fin 4096) (k : Fin 1024), i = ix2 R k := ⟨i 0, i 1, eq_ix2 i⟩
  pointwise [val_main_v25, arr]
  exact v23_at x0 x1 x2 x3 x4 x5 x9 R _

/-- The reference's derivative in the attention's result. -/
theorem hi_eq : val_main_v26 (F := Ideal) x0 x4 x5 x9 = arr 4096 1024 fun R k => (D).dy R (1024 + k) := by
  funext i
  obtain ⟨R, k, rfl⟩ : ∃ (R : Fin 4096) (k : Fin 1024), i = ix2 R k := ⟨i 0, i 1, eq_ix2 i⟩
  pointwise [val_main_v26, arr]
  exact v23_at x0 x1 x2 x3 x4 x5 x9 R _

/-- The reference's derivative in the gate. -/
theorem gate_eq (h0 : ∀ i, IsReal (x0 i)) (h2 : ∀ i, IsReal (x2 i)) (h3 : ∀ i, IsReal (x3 i)) (h5 : ∀ i, IsReal (x5 i))
    (h9 : ∀ i, IsReal (x9 i)) :
    val_main_v28 (F := Ideal) x0 x2 x3 x4 x5 x9 = arr 4096 2048 (D).dg := by
  funext i
  obtain ⟨R, k, rfl⟩ : ∃ (R : Fin 4096) (k : Fin 2048), i = ix2 R k := ⟨i 0, i 1, eq_ix2 i⟩
  pointwise [val_main_v28, val_main_v24, val_main_call1_v2, val_main_call1_v1, val_main_call1_v0, val_main_v22, val_main_v18_1, val_main_call0_v7, val_main_call0_v6, val_main_call0_cst_1, arr]
  rw [v21_at x0 x1 x2 x3 x4 x5 x9, v5_at x0 x1 x2 x3 x4 x5 x9, s_at x0 x1 x2 x3 x4 x5 x9, v17_at x0 x1 x2 x3 x4 x5 x9,
    mul_comm ((D).y _ _)]
  refine gate_word (IsReal.mul (IsReal.sum _ fun d => ?_) (IsReal.ite (isReal_tab h2 _ _) (isReal_tab h3 _ _))) _
  exact ((isReal_tab h0 _ _).mul (IsReal.one.add (isReal_row h9 _))).mul (isReal_tab h5 _ _)

/-- The sum over the rows. -/
theorem v29_at (d : Fin 1024) : val_main_v29 (F := Ideal) x0 x1 (ix2 0 d) = (D).tot 0 d := by
  pointwise [val_main_v29, val_main_v16, val_main_v15, val_main_v14, val_main_v13, val_main_cst_0, val_main_cst_1]
  simp only [Finset.univ_unique, Finset.sum_singleton, Fin.default_eq_zero, eX x0 x1 x2 x3 x4 x5 x9, eO x0 x1 x2 x3 x4 x5 x9]
  rfl

/-- The reference's sums. -/
theorem sums_eq : val_main_v31 (F := Ideal) x0 x1 = arr 8 1024 (D).tot := by
  funext i
  obtain ⟨j, d, rfl⟩ : ∃ (j : Fin 8) (d : Fin 1024), i = ix2 j d := ⟨i 0, i 1, eq_ix2 i⟩
  pointwise [val_main_v31, val_main_v30, val_main_cst_2, arr]
  by_cases h : j.val = 0
  · simpa [h] using v29_at x0 x1 x2 x3 x4 x5 x9 d
  · rw [dif_neg (by omega)]
    simp [Inp.tot, h]

end reference

/-- The shape relations of the finiteness test. -/
instance preFacts : Cert.Pre_even_finite.Facts where
  bcast_S_S4096x1024 := by decide
  reducesTo_S4096x1024_S_d0_1 := by decide
  h_S_ := by decide
  bcast_S_S2048x1024 := by decide
  reducesTo_S2048x1024_S_d0_1 := by decide
  bcast_S_S1024 := by decide
  reducesTo_S1024_S_d0 := by decide

instance : Subsingleton Cert.Pre_even_finite.S_.Idx := ⟨fun a b => funext fun i => i.elim0⟩

/-- What the finiteness test says: every entry of the five arguments is a real number. -/
theorem fin_of_fn (x0 x1 x2 x3 : FVec Ideal Cert.Pre_even_finite.S4096x1024 .f32)
    (x4 : FVec Ideal Cert.Pre_even_finite.S4096x6144 .bf16) (x5 : FVec Ideal Cert.Pre_even_finite.S2048x1024 .f32)
    (x6 x7 x8 x9 x10 : FVec Ideal Cert.Pre_even_finite.S1024 .f32) (i : Cert.Pre_even_finite.S_.Idx)
    (h : Cert.Pre_even_finite.fn (F := Ideal) x0 x1 x2 x3 x4 x5 x6 x7 x8 x9 x10 i = 1#1) :
    (∀ j, IsReal (x0 j)) ∧ (∀ j, IsReal (x2 j)) ∧ (∀ j, IsReal (x3 j)) ∧ (∀ j, IsReal (x5 j)) ∧ ∀ j, IsReal (x9 j) := by
  obtain ⟨h, h9⟩ := IntOp.andi_eq_one.1 h
  obtain ⟨h, h5⟩ := IntOp.andi_eq_one.1 h
  obtain ⟨h, h3⟩ := IntOp.andi_eq_one.1 h
  obtain ⟨h0, h2⟩ := IntOp.andi_eq_one.1 h
  exact ⟨fun j => isReal_of_lt (inf_word ▸ Host.reduce_andi_all _ _ _ _ i h0 j),
    fun j => isReal_of_lt (inf_word ▸ Host.reduce_andi_all _ _ _ _ i h2 j),
    fun j => isReal_of_lt (inf_word ▸ Host.reduce_andi_all _ _ _ _ i h3 j),
    fun j => isReal_of_lt (inf_word ▸ Host.reduce_andi_all _ _ _ _ i h5 j),
    fun j => isReal_of_lt (inf_word ▸ Host.reduce_andi_all _ _ _ _ i h9 j)⟩

/-- The kernel and the reference end with the same five arrays. -/
theorem algebraic : Cert.algebraic_EvenBwdIdeal_EvenBwdRefIdeal_pre_even_finite := by
  intro m g m' g' hpre hargs
  refine ⟨fun c => arr 4096 1024 (inp m c).dout, fun c => arr 4096 1024 (inp m c).dy,
    fun c => arr 4096 1024 fun R k => (inp m c).dy R (1024 + k), fun c => arr 4096 2048 (inp m c).dg,
    fun c => arr 8 1024 (inp m c).tot, ?_, ?_⟩
  · refine (θ_run _ _ _).mono (fun r h c => ?_)
      (θ_run_and (Cert.EvenBwdIdeal.Gen.run_main (F := Ideal) m g) (Cert.EvenBwdIdeal.Gen.unchanged (F := Ideal) m g))
    exact ⟨((h.1 c).1 7).trans (final7 m c), ((h.1 c).1 8).trans (final8 m c), ((h.1 c).1 9).trans (final9 m c),
      ((h.1 c).2 Cert.EvenBwdIdeal.main_v10 (Pipeline.mem_restRefs_of Cert.EvenBwdIdeal.main_v10 (by decide) (by decide))).trans (res10 m c),
      ((h.1 c).1 11).trans (res11 m c), h.2 c⟩
  · refine (θ_run _ _ _).mono (fun r h c => ?_) (Cert.EvenBwdRefIdeal.Value.run (F := Ideal) m' g')
    obtain ⟨e0, e1, e2, e3, e4, hk⟩ := h c
    obtain ⟨a0, a1, a2, a3, a4, a5, -, -, -, a9, -⟩ := hargs c
    obtain ⟨h0, h2, h3, h5, h9⟩ := fin_of_fn _ _ _ _ _ _ _ _ _ _ _ (fun i => i.elim0) (congrFun (hpre c) _)
    have v0 := out_eq (m ((c.tc : Thread _ _).loc Cert.EvenBwdIdeal.main_arg0)) (m ((c.tc : Thread _ _).loc Cert.EvenBwdIdeal.main_arg1)) (m ((c.tc : Thread _ _).loc Cert.EvenBwdIdeal.main_arg2)) (m ((c.tc : Thread _ _).loc Cert.EvenBwdIdeal.main_arg3)) (m ((c.tc : Thread _ _).loc Cert.EvenBwdIdeal.main_arg4)) (m ((c.tc : Thread _ _).loc Cert.EvenBwdIdeal.main_arg5)) (m ((c.tc : Thread _ _).loc Cert.EvenBwdIdeal.main_arg9))
    have v1 := lo_eq (m ((c.tc : Thread _ _).loc Cert.EvenBwdIdeal.main_arg0)) (m ((c.tc : Thread _ _).loc Cert.EvenBwdIdeal.main_arg1)) (m ((c.tc : Thread _ _).loc Cert.EvenBwdIdeal.main_arg2)) (m ((c.tc : Thread _ _).loc Cert.EvenBwdIdeal.main_arg3)) (m ((c.tc : Thread _ _).loc Cert.EvenBwdIdeal.main_arg4)) (m ((c.tc : Thread _ _).loc Cert.EvenBwdIdeal.main_arg5)) (m ((c.tc : Thread _ _).loc Cert.EvenBwdIdeal.main_arg9))
    have v2 := hi_eq (m ((c.tc : Thread _ _).loc Cert.EvenBwdIdeal.main_arg0)) (m ((c.tc : Thread _ _).loc Cert.EvenBwdIdeal.main_arg1)) (m ((c.tc : Thread _ _).loc Cert.EvenBwdIdeal.main_arg2)) (m ((c.tc : Thread _ _).loc Cert.EvenBwdIdeal.main_arg3)) (m ((c.tc : Thread _ _).loc Cert.EvenBwdIdeal.main_arg4)) (m ((c.tc : Thread _ _).loc Cert.EvenBwdIdeal.main_arg5)) (m ((c.tc : Thread _ _).loc Cert.EvenBwdIdeal.main_arg9))
    have v3 := gate_eq (m ((c.tc : Thread _ _).loc Cert.EvenBwdIdeal.main_arg0)) (m ((c.tc : Thread _ _).loc Cert.EvenBwdIdeal.main_arg1)) _ _ (m ((c.tc : Thread _ _).loc Cert.EvenBwdIdeal.main_arg4)) _ _ h0 h2 h3 h5 h9
    have v4 := sums_eq (m ((c.tc : Thread _ _).loc Cert.EvenBwdIdeal.main_arg0)) (m ((c.tc : Thread _ _).loc Cert.EvenBwdIdeal.main_arg1)) (m ((c.tc : Thread _ _).loc Cert.EvenBwdIdeal.main_arg2)) (m ((c.tc : Thread _ _).loc Cert.EvenBwdIdeal.main_arg3)) (m ((c.tc : Thread _ _).loc Cert.EvenBwdIdeal.main_arg4)) (m ((c.tc : Thread _ _).loc Cert.EvenBwdIdeal.main_arg5)) (m ((c.tc : Thread _ _).loc Cert.EvenBwdIdeal.main_arg9))
    refine ⟨e0.trans (Eq.trans ?_ v0), e1.trans (Eq.trans ?_ v1), e2.trans (Eq.trans ?_ v2), e3.trans (Eq.trans ?_ v3),
      e4.trans (Eq.trans ?_ v4), hk⟩
    · rw [← a0, ← a9]; rfl
    · rw [← a0, ← a4, ← a5, ← a9]; rfl
    · rw [← a0, ← a4, ← a5, ← a9]; rfl
    · rw [← a0, ← a2, ← a3, ← a4, ← a5, ← a9]; rfl
    · rw [← a0, ← a1]; rfl

/-- The reference runs, and ends with its arguments unchanged and its counters at zero: it declares none. -/
theorem frame_reference : Cert.quiescent_EvenBwdRefIdeal := fun m g _ =>
  (θ_run _ _ _).mono (fun r h => ⟨fun c => (h c).2.2.2.2.2, sem_eq_zero_of_no_sems (by decide) _⟩)
    (Cert.EvenBwdRefIdeal.Value.run (F := Ideal) m g)

end Cert.EvenBwdClaim
-- ==== Proof.NormMod.lean ====
/-
  The even layer's modulated norm: what the call leaves, and what the reference computes.
-/
module

public import proofs.«01_k».proof.Defs
public import proofs.«01_k».proof.Proof.Forward
public import proofs.«01_k».proof.Proof.Gen.NormModIdeal.Frame
public import proofs.«01_k».proof.Proof.Gen.NormModRefIdeal.Run
public import proofs.«01_k».proof.Proof.Gen.NormModRefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.NormModClaim

open Cert.NormModIdeal Cert.NormModIdeal.Gen Cert.Pieces Cert.Forward
open Cert.NormGrad (len eps)

theorem z2 : (![0, 0] : Fin 2 → Nat) = fun _ => 0 := by decide

/-- The modulated norm of the rows of a table. -/
def modulated (X : Nat → Nat → EReal) (G SH SC : Nat → EReal) (R d : Nat) : EReal :=
  X R d * Ideal.rsqrt (Ideal.div (∑ e : Fin 1024, X R e * X R e) len + eps) * G d * (1 + SC d) + SH d

/-- What a point leaves of its rows. -/
theorem out2_eq (x0 : Vec Ideal S512x1024 .f32) (x1 : Vec Ideal S8x1024 .f32) (X : Nat → Nat → EReal) (G SH SC : Nat → EReal)
    (b : Nat) (h0 : ∀ (r : Fin 512) (k : Fin 1024), x0 (ix2 r k) = X (512 * b + r) k) (hg : ∀ d : Fin 1024, x1 (ix2 0 d) = G d)
    (hs : ∀ d : Fin 1024, x1 (ix2 1 d) = SC d) (hh : ∀ d : Fin 1024, x1 (ix2 2 d) = SH d) :
    out0_2 (F := Ideal) x0 x1 = arr 512 1024 fun r d => modulated X G SH SC (512 * b + r) d := by
  funext y
  obtain ⟨r, d, rfl⟩ : ∃ (r : Fin 512) (d : Fin 1024), y = ix2 r d := ⟨y 0, y 1, eq_ix2 y⟩
  unfold out0_2
  rw [View.canon_unit_zero z2]
  unfold k0_pay1
  pointwise [arr]
  simp only [h0, hg, hs, hh, Nat.zero_add]
  rfl

section kernel

variable (m : (ℓ : Loc nD τ sig) → Buf (Elt Ideal) ℓ) (c : Dev nD)

/-- The call's result as a table. -/
def res : Nat → Nat → EReal :=
  modulated (tab 4096 1024 (m ((c : Thread nD τ).loc main_arg0))) (row 1024 (m ((c : Thread nD τ).loc main_arg1)))
    (row 1024 (m ((c : Thread nD τ).loc main_arg2))) (row 1024 (m ((c : Thread nD τ).loc main_arg3)))

theorem index0 (t : Fin cfg0.N) : win0_0.index t = ![t.val, 0] := by revert t; decide +kernel
theorem index1 (t : Fin cfg0.N) : win0_1.index t = ![0, 0] := by revert t; decide +kernel
theorem index2 (t : Fin cfg0.N) : win0_2.index t = ![t.val, 0] := by revert t; decide +kernel

/-- The rows that a point reads. -/
theorem block0 (t : Fin cfg0.N) (r : Fin 512) (k : Fin 1024) :
    iblk m c 0 t (ix2 r k) = tab 4096 1024 (m ((c : Thread nD τ).loc main_arg0)) (512 * t.val + r) k := by
  have hN : t.val < 8 := lt_of_lt_of_eq t.isLt N_0
  rw [tab_at _ (by have := r.isLt; omega) k.isLt]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 512 + 1 * r.val = _; rw [index0]; show t.val * 512 + 1 * _ = 512 * _ + _; omega
  | ⟨1, _⟩ => show win0_0.index t 1 * 1024 + 1 * k.val = _; rw [index0]; show 0 * 1024 + 1 * _ = k.val; omega

/-- Every point reads the same vectors. -/
theorem block1 (t : Fin cfg0.N) (r : Fin 8) (k : Fin 1024) : iblk m c 1 t (ix2 r k) = V m c main_v7 (ix2 r k) := by
  unfold iblk
  rw [View.read_apply]
  refine congrArg (V m c main_v7) ?_
  funext a; apply Fin.ext
  match a with
  | ⟨0, _⟩ => show win0_1.index t 0 * 8 + 1 * r.val = _; rw [index1]; show 0 * 8 + 1 * _ = r.val; omega
  | ⟨1, _⟩ => show win0_1.index t 1 * 1024 + 1 * k.val = _; rw [index1]; show 0 * 1024 + 1 * _ = k.val; omega

/-- The first row of the host's stack: the norm's weights. -/
theorem vec_0 (d : Fin 1024) : V m c main_v7 (ix2 0 d) = m ((c : Thread nD τ).loc main_arg1) (ix1 d) := by
  unfold V
  after_reads_simp
  pointwise
  after_reads_simp
  pointwise
  done

/-- The second row: the scale. -/
theorem vec_1 (d : Fin 1024) : V m c main_v7 (ix2 1 d) = m ((c : Thread nD τ).loc main_arg3) (ix1 d) := by
  unfold V
  after_reads_simp
  pointwise
  after_reads_simp
  pointwise
  done

/-- The third row: the shift. -/
theorem vec_2 (d : Fin 1024) : V m c main_v7 (ix2 2 d) = m ((c : Thread nD τ).loc main_arg2) (ix1 d) := by
  unfold V
  after_reads_simp
  pointwise
  after_reads_simp
  pointwise
  done

/-- The whole array that the call leaves. -/
theorem final2 : (dats m 0 c).arrAt 2 cfg0.N = arr 4096 1024 (res m c) := by
  refine (dats m 0 c).arrAt_eq_of_covers 2 _ (by decide +kernel) fun t hf y => ?_
  blk_simp
  rw [after0_2, out2_eq _ _ _ _ _ _ t.val (block0 m c t)
    (fun d => (block1 m c t 0 d).trans ((vec_0 m c d).trans (row_at _ d.isLt).symm))
    (fun d => (block1 m c t 1 d).trans ((vec_1 m c d).trans (row_at _ d.isLt).symm))
    (fun d => (block1 m c t 2 d).trans ((vec_2 m c d).trans (row_at _ d.isLt).symm))]
  unfold arr
  blk_simp [index2]
  rw [Nat.mul_comm 512]
  rfl

end kernel

/-- The reference's result. -/
theorem ref_eq (x0 : (⟨Cert.NormModRefIdeal.S4096x1024, .f32⟩ : BufTy).Contents (Elt Ideal))
    (x1 x2 x3 : (⟨Cert.NormModRefIdeal.S1024, .f32⟩ : BufTy).Contents (Elt Ideal)) :
    Cert.NormModRefIdeal.Read.val_main_v21 (F := Ideal) x0 x1 x2 x3 =
      arr 4096 1024 (modulated (tab 4096 1024 x0) (row 1024 x1) (row 1024 x2) (row 1024 x3)) := by
  funext y
  obtain ⟨R, d, rfl⟩ : ∃ (R : Fin 4096) (d : Fin 1024), y = ix2 R d := ⟨y 0, y 1, eq_ix2 y⟩
  open Cert.NormModRefIdeal.Read in
  pointwise [val_main_v21, val_main_v20, val_main_v19, val_main_v18, val_main_v17, val_main_v16, val_main_v15, val_main_v14,
    val_main_v13, val_main_cst_2, val_main_v12, val_main_v11, val_main_v10, val_main_v9, val_main_v8, val_main_v7, val_main_v6,
    val_main_v5, val_main_cst_1, val_main_v4, val_main_v3, val_main_cst_0, val_main_v2, val_main_v1, val_main_cst, val_main_v0]
  have e (k : Fin 1024) : x0 (ix2 R k) = tab 4096 1024 x0 R k := (tab_at x0 R.isLt k.isLt).symm
  have e1 : x1 (ix1 d) = row 1024 x1 d := (row_at x1 d.isLt).symm
  have e2 : x2 (ix1 d) = row 1024 x2 d := (row_at x2 d.isLt).symm
  have e3 : x3 (ix1 d) = row 1024 x3 d := (row_at x3 d.isLt).symm
  simp only [e]
  rw [e1, e2, e3]
  rfl

/-- The call and the reference end with the same array. -/
theorem algebraic : Cert.algebraic_NormModIdeal_NormModRefIdeal := by
  intro m g m' g' _ hargs
  refine ⟨fun c => arr 4096 1024 (res m c), ?_, ?_⟩
  · refine (θ_run _ _ _).mono (fun r h c => ?_) (run_main (F := Ideal) m g)
    exact ⟨((h c).1 2).trans (final2 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩
  · refine (θ_run _ _ _).mono (fun r h c => ?_) (Cert.NormModRefIdeal.Value.run (F := Ideal) m' g')
    obtain ⟨e0, hk⟩ := h c
    obtain ⟨a0, a1, a2, a3, -⟩ := hargs c
    refine ⟨e0.trans (Eq.trans ?_ (ref_eq (m ((c.tc : Thread _ _).loc main_arg0)) (m ((c.tc : Thread _ _).loc main_arg1))
      (m ((c.tc : Thread _ _).loc main_arg2)) (m ((c.tc : Thread _ _).loc main_arg3)))), hk⟩
    rw [← a0, ← a1, ← a2, ← a3]; rfl

/-- The reference runs, and ends with its arguments unchanged and its counters at zero: it declares none. -/
theorem frame_reference : Cert.quiescent_NormModRefIdeal := fun m g _ =>
  (θ_run _ _ _).mono (fun r h => ⟨fun c => (h c).2, sem_eq_zero_of_no_sems (by decide) _⟩)
    (Cert.NormModRefIdeal.Value.run (F := Ideal) m g)

end Cert.NormModClaim
-- ==== Proof.AdaFwd.lean ====
/-
  The projection of the conditioning: what the call leaves, and what the reference computes.
-/
module

public import proofs.«01_k».proof.Defs
public import proofs.«01_k».proof.Proof.Adam
public import proofs.«01_k».proof.Proof.Gen.AdaFwdIdeal.Frame
public import proofs.«01_k».proof.Proof.Gen.AdaFwdRefIdeal.Run
public import proofs.«01_k».proof.Proof.Gen.AdaFwdRefIdeal.Read
public import Idealize.ShloMosaic.Lib.Pipeline.ValueKit
public import Idealize.ShloMosaic.Lib.Claim
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.AdaFwdClaim

open Cert.AdaFwdIdeal Cert.AdaFwdIdeal.Gen Cert.Pieces Cert.Adam Cert.Forward

theorem z3 : (![0, 0, 0] : Fin 3 → Nat) = fun _ => 0 := by decide
theorem z2 : (![0, 0] : Fin 2 → Nat) = fun _ => 0 := by decide

/-- One layer's projection of the activated conditioning. -/
def proj (C : Nat → Nat → EReal) (W : Nat → Nat → Nat → EReal) (j b k : Nat) : EReal :=
  ∑ e : Fin 1024, silu (C b e) * W j e k

/-- The block that the body writes. -/
theorem out2_eq (x0 : Vec Ideal S8x1024 .f32) (x1 : Vec Ideal S1x1024x768 .f32) (b : Fin 8) (k : Fin 768) :
    out0_2 (F := Ideal) x0 x1 (ix3 0 b k) = ∑ e : Fin 1024, silu (x0 (ix2 b e)) * x1 (ix3 0 e k) := by
  unfold out0_2
  rw [View.canon_unit_zero z3, View.ld_unit_zero (S := S8x1024) z2, View.ld_unit_zero (S := S1x1024x768) z3]
  unfold k0_pay1
  pointwise
  rfl

section kernel

variable (m : (ℓ : Loc nD τ sig) → Buf (Elt Ideal) ℓ) (c : Dev nD)

/-- The devices' conditioning as a table. -/
def C : Nat → Nat → EReal := tab 8 1024 (m ((c : Thread nD τ).loc main_arg0))

/-- The weights of both layers. -/
def W : Nat → Nat → Nat → EReal := tab3 2 1024 768 (m ((c : Thread nD τ).loc main_arg1))

theorem index0 (t : Fin cfg0.N) : win0_0.index t = ![0, 0] := by revert t; decide +kernel
theorem index1 (t : Fin cfg0.N) : win0_1.index t = ![t.val, 0, 0] := by revert t; decide +kernel
theorem index2 (t : Fin cfg0.N) : win0_2.index t = ![t.val, 0, 0] := by revert t; decide +kernel

/-- Every point reads the whole conditioning. -/
theorem block0 (t : Fin cfg0.N) (b : Fin 8) (e : Fin 1024) : iblk m c 0 t (ix2 b e) = C m c b e := by
  rw [C, tab_at _ b.isLt e.isLt]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 8 + 1 * b.val = _; rw [index0]; show 0 * 8 + 1 * _ = b.val; omega
  | ⟨1, _⟩ => show win0_0.index t 1 * 1024 + 1 * e.val = _; rw [index0]; show 0 * 1024 + 1 * _ = e.val; omega

/-- The layer's weights that a point reads. -/
theorem block1 (t : Fin cfg0.N) (e : Fin 1024) (k : Fin 768) : iblk m c 1 t (ix3 0 e k) = W m c t.val e k := by
  have hN : t.val < 2 := lt_of_lt_of_eq t.isLt N_0
  rw [W, tab3_at _ hN e.isLt k.isLt]
  unfold iblk
  rw [View.read_apply]
  refine (congrFun (V_main_arg1 m c) _).trans (congrArg (m ((c : Thread nD τ).loc main_arg1)) ?_)
  funext a; apply Fin.ext
  match a with
  | ⟨0, _⟩ => show win0_1.index t 0 * 1 + 1 * 0 = _; rw [index1]; show t.val * 1 + 1 * 0 = t.val; omega
  | ⟨1, _⟩ => show win0_1.index t 1 * 1024 + 1 * e.val = _; rw [index1]; show 0 * 1024 + 1 * _ = e.val; omega
  | ⟨2, _⟩ => show win0_1.index t 2 * 768 + 1 * k.val = _; rw [index1]; show 0 * 768 + 1 * _ = k.val; omega

/-- What a point leaves. -/
theorem after2 (t : Fin cfg0.N) : out0_2 (iblk m c 0 t) (iblk m c 1 t) =
    arr3 1 8 768 fun _ b k => proj (C m c) (W m c) t.val b k := by
  funext y
  obtain ⟨b, k, rfl⟩ : ∃ (b : Fin 8) (k : Fin 768), y = ix3 0 b k :=
    ⟨y 1, y 2, (eq_ix3 y).trans (by rw [Fin.eq_zero (y 0)])⟩
  rw [out2_eq]
  simp only [block0, block1]
  rfl

/-- The whole array that the call leaves. -/
theorem final2 : (dats m 0 c).arrAt 2 cfg0.N = arr3 2 8 768 (proj (C m c) (W m c)) := by
  refine (dats m 0 c).arrAt_eq_of_covers 2 _ (by decide +kernel) fun t hf y => ?_
  blk_simp
  rw [after0_2, after2]
  unfold arr3
  blk_simp [index2]

end kernel

section reference

open Cert.AdaFwdRefIdeal.Read

variable (x0 : (⟨Cert.AdaFwdRefIdeal.S8x1024, .f32⟩ : BufTy).Contents (Elt Ideal))
  (x1 : (⟨Cert.AdaFwdRefIdeal.S2x1024x768, .f32⟩ : BufTy).Contents (Elt Ideal))

/-- The reference's activated conditioning. -/
theorem act0 (b : Fin 8) (r : Fin 1024) : val_main_v0 (F := Ideal) x0 (ix2 b r) = silu (tab 8 1024 x0 b r) := by
  pointwise [val_main_v0, val_main_call0_v5, val_main_call0_v4, val_main_call0_v3, val_main_call0_v2, val_main_call0_v1,
    val_main_call0_v0, val_main_call0_cst, val_main_call0_cst_0]
  rw [silu_eq, tab_at x0 b.isLt r.isLt]

/-- The same, formed again for the second layer. -/
theorem act1 (b : Fin 8) (r : Fin 1024) : val_main_v4 (F := Ideal) x0 (ix2 b r) = silu (tab 8 1024 x0 b r) := by
  pointwise [val_main_v4, val_main_call1_v5, val_main_call1_v4, val_main_call1_v3, val_main_call1_v2, val_main_call1_v1,
    val_main_call1_v0, val_main_call1_cst, val_main_call1_cst_0]
  rw [silu_eq, tab_at x0 b.isLt r.isLt]

/-- The reference's result. -/
theorem ref_eq : val_main_v10 (F := Ideal) x0 x1 = arr3 2 8 768 (proj (tab 8 1024 x0) (tab3 2 1024 768 x1)) := by
  funext y
  obtain ⟨j, b, k, rfl⟩ : ∃ (j : Fin 2) (b : Fin 8) (k : Fin 768), y = ix3 j b k := ⟨y 0, y 1, y 2, eq_ix3 y⟩
  show _ = proj (tab 8 1024 x0) (tab3 2 1024 768 x1) j b k
  pointwise [val_main_v10, val_main_v9, val_main_v8, val_main_v7, val_main_v6, val_main_v5, val_main_v3, val_main_v2,
    val_main_v1]
  unfold proj
  split
  · next h =>
    have e : j.val = 0 := by omega
    rw [e]
    exact Finset.sum_congr rfl fun r _ => by rw [act0, tab3_at x1 (by omega) r.isLt k.isLt]; rfl
  · next h =>
    have e : j.val = 1 := by omega
    rw [e]
    exact Finset.sum_congr rfl fun r _ => by rw [act1, tab3_at x1 (by omega) r.isLt k.isLt]; rfl

end reference

/-- The call and the reference end with the same array. -/
theorem algebraic : Cert.algebraic_AdaFwdIdeal_AdaFwdRefIdeal := by
  intro m g m' g' _ hargs
  refine ⟨fun c => arr3 2 8 768 (proj (C m c) (W m c)), ?_, ?_⟩
  · refine (θ_run _ _ _).mono (fun r h c => ?_) (run_main (F := Ideal) m g)
    exact ⟨((h c).1 2).trans (final2 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
  · refine (θ_run _ _ _).mono (fun r h c => ?_) (Cert.AdaFwdRefIdeal.Value.run (F := Ideal) m' g')
    obtain ⟨e0, hk⟩ := h c
    obtain ⟨a0, a1⟩ := hargs c
    refine ⟨e0.trans (Eq.trans ?_ (ref_eq (m ((c.tc : Thread _ _).loc main_arg0)) (m ((c.tc : Thread _ _).loc main_arg1)))), hk⟩
    rw [← a0, ← a1]; rfl

/-- The reference runs, and ends with its arguments unchanged and its counters at zero: it declares none. -/
theorem frame_reference : Cert.quiescent_AdaFwdRefIdeal := fun m g _ =>
  (θ_run _ _ _).mono (fun r h => ⟨fun c => (h c).2, sem_eq_zero_of_no_sems (by decide) _⟩)
    (Cert.AdaFwdRefIdeal.Value.run (F := Ideal) m g)

end Cert.AdaFwdClaim
-- ==== Proof.PoolFwd.lean ====
/-
  The even layer's pooling: what the call leaves, and what the reference computes.
-/
module

public import proofs.«01_k».proof.Defs
public import proofs.«01_k».proof.Proof.Forward
public import proofs.«01_k».proof.Proof.Adam
public import proofs.«01_k».proof.Proof.NormGrad
public import proofs.«01_k».proof.Proof.Gen.PoolFwdIdeal.Value
public import proofs.«01_k».proof.Proof.Gen.PoolFwdRefIdeal.Run
public import proofs.«01_k».proof.Proof.Gen.PoolFwdRefIdeal.Read
public import Idealize.ShloMosaic.Lib.Pipeline.ValueKit
public import Idealize.ShloMosaic.Lib.Claim
public import Idealize.ShloMosaic.Lib.PlanTiles.Rows
public import Idealize.ShloMosaic.Lib.Quiescent
public import Idealize.ShloMosaic.Lib.StableHlo.RunRead

@[expose] public section

set_option maxRecDepth 16384

noncomputable section

open Idealize.ShloMosaic Idealize.ShloMosaic.TcCoe Idealize.SL.Sem

namespace Cert.PoolFwdClaim

open Cert.PoolFwdIdeal Cert.PoolFwdIdeal.Gen Cert.Pieces Cert.Forward
open Cert.Adam (tab3 tab3_at)
open Cert.NormGrad (inf_word)
open Cert.Reals

/-- The tables that enter: the rows to pool, the maps of the four groups, and the scale. -/
structure Inp where
  P : Nat → Nat → EReal
  M : Nat → Nat → Nat → EReal
  S : Nat → EReal

namespace Inp

variable (D : Inp)

/-- The rows, sixteen rows late and zero before the first. -/
def ue (q k : Nat) : EReal := if q < 16 then 0 else D.P (q - 16) k

/-- How many rows a window of `w` rows holds that ends at a row. -/
def cnt (w R : Nat) : EReal := ((min (R + 1) w : ℕ) : ℝ)

/-- The mean of a trailing window, less the row itself. -/
def pool (w R k : Nat) : EReal := (∑ j ∈ Finset.range w, D.ue (R + (16 - j)) k) * Ideal.div 1 (cnt w R) - D.P R k

/-- The pooled rows: each group of 256 columns has a window of its own. -/
def p (R k : Nat) : EReal := D.pool (2 * 2 ^ (k / 256)) R k

/-- Each group's map applied to its pooled rows, and scaled. -/
def y (R k : Nat) : EReal := (∑ d : Fin 256, D.p R (256 * (k / 256) + d) * D.M (k / 256) d (k % 256)) * D.S k

end Inp

/-- Three arrays as tables. -/
def tables (x0 : (⟨2, ![4096, 6144]⟩ : Shape).Idx → EReal) (x1 : (⟨3, ![4, 256, 256]⟩ : Shape).Idx → EReal)
    (x2 : (⟨2, ![1, 1024]⟩ : Shape).Idx → EReal) : Inp :=
  ⟨tab 4096 6144 x0, tab3 4 256 256 x1, tab 1 1024 x2 0⟩

variable (D : Inp)

theorem Inp.ue_16 (R k : Nat) : D.ue (R + 16) k = D.P R k := by
  unfold Inp.ue; rw [if_neg (by omega), Nat.add_sub_cancel]

/-- 512 rows and 256 columns of the carried rows, from row `a` and column `o` of a point's rows on. -/
abbrev rd (b a o : Nat) : (⟨2, ![512, 256]⟩ : Shape).Idx → EReal := arr 512 256 fun r c => D.ue (512 * b + r + a) (o + c)

/-- What is read of the carried rows: 512 rows and 256 columns, from row `a` and column `o` on. -/
theorem ue_read {κ : Kind} {sp : Space} {sig : RefSig} (v : View sig κ sp S528x1024 .f32) (b a o : Nat) (i1 i2)
    (i3 : ∀ k, (![a, o] : Fin 2 → Nat) k + (![512, 256] : Fin 2 → Nat) k ≤ (![528, 1024] : Fin 2 → Nat) k)
    (w : (⟨2, ![16, 1024]⟩ : Shape).Idx → Ideal .f32) (w' : (⟨2, ![512, 1024]⟩ : Shape).Idx → Ideal .f32)
    (hw : ∀ (r : Fin 16) (k : Fin 1024), w (ix2 r k) = D.ue (512 * b + r) k)
    (hw' : ∀ (r : Fin 512) (k : Fin 1024), w' (ix2 r k) = D.ue (512 * b + (16 + r)) k) :
    v.readCov (Val := Elt Ideal) [⟨Rect.unit (s := S528x1024) ![0, 0] ![16, 1024] i1, w⟩, ⟨Rect.unit (s := S528x1024) ![16, 0] ![512, 1024] i2, w'⟩]
        (Rect.unit (s := S528x1024) ![a, o] ![512, 256] i3).toLoadRect
      = rd D b a o := by
  rw [View.readCov_eq_canon']
  funext y
  have ho : o + 256 ≤ 1024 := i3 1
  have ha : a + 512 ≤ 528 := i3 0
  have y1 : (y 1).val < 256 := (y 1).isLt
  have y0 : (y 0).val < 512 := (y 0).isLt
  refine (canon_of_agrees (Val := Elt Ideal) (fun r c => D.ue (512 * b + r) c) _
    (agrees_cons (agrees_unit _ _ _ _ _ _ _ fun r c => (hw r c).trans (by simp))
      (agrees_cons (agrees_unit _ _ _ _ _ _ _ fun r c => (hw' r c).trans (by simp)) agrees_nil)) _ ?_).trans ?_
  · by_cases hr : a + (y 0).val < 16
    · refine ⟨_, List.mem_cons_self, ?_⟩
      rw [mem_unit]
      constructor
      · show 0 ≤ a + 1 * (y 0).val ∧ a + 1 * (y 0).val < 0 + 16; omega
      · show 0 ≤ o + 1 * (y 1).val ∧ o + 1 * (y 1).val < 0 + 1024; omega
    · refine ⟨_, List.mem_cons_of_mem _ List.mem_cons_self, ?_⟩
      rw [mem_unit]
      constructor
      · show 16 ≤ a + 1 * (y 0).val ∧ a + 1 * (y 0).val < 16 + 512; omega
      · show 0 ≤ o + 1 * (y 1).val ∧ o + 1 * (y 1).val < 0 + 1024; omega
  · show D.ue (512 * b + (a + 1 * (y 0).val)) (o + 1 * (y 1).val) = D.ue (512 * b + (y 0).val + a) (o + (y 1).val)
    congr 1 <;> omega

/-- The word that counts a window's rows. -/
theorem cnt_word (b r w : Nat) (hb : b < 8) (hr : r < 512) (hw : w ≤ 16) :
    FloatOps.sitofp (F := Ideal) FTy.f32 (IntOp.minsi (IntOp.addi (IntOp.addi (Scalar.muli (BitVec.ofNat 32 b) 512#32) (BitVec.ofNat 32 r)) 1#32)
      (BitVec.ofNat 32 w)) = Inp.cnt w (512 * b + r) := by
  have e : IntOp.addi (IntOp.addi (Scalar.muli (BitVec.ofNat 32 b) 512#32) (BitVec.ofNat 32 r)) 1#32 = BitVec.ofNat 32 (512 * b + r + 1) := by
    show BitVec.ofNat 32 b * 512#32 + BitVec.ofNat 32 r + 1#32 = _
    apply BitVec.eq_of_toNat_eq
    simp only [BitVec.toNat_add, BitVec.toNat_mul, BitVec.toNat_ofNat]
    omega
  rw [e, PlanTiles.minsi_word (by omega) (by omega)]
  show (((BitVec.ofNat 32 (min w (512 * b + r + 1))).toInt : ℝ) : EReal) = _
  rw [WordCmp.toInt_ofNat_of_lt (show _ < 2 ^ 31 by omega), Nat.min_comm]
  rfl

/-- The pooled rows at a column of a group. -/
theorem p_at (R k g : Nat) (h : k / 256 = g) : D.p R k = D.pool (2 * 2 ^ g) R k := by
  unfold Inp.p; rw [h]

/-- The scaled product at a column of a group. -/
theorem y_at (R o d g : Nat) (ho : o = 256 * g) (hd : d < 256) :
    D.y R (o + d) = (∑ e : Fin 256, D.p R (o + e) * D.M g e d) * D.S (o + d) := by
  unfold Inp.y; rw [show (o + d) / 256 = g by omega, show (o + d) % 256 = d by omega, ho]

section block

variable (i : grid0.Coords) (b : Nat) (hi : (i 0).val = b) (hb : b < 8)
include hi hb

/-- The first group's pooled rows. -/
theorem pool0 : k0_pay6 (F := Ideal) i (rd D b 16 0) (rd D b 15 0)
      = arr 512 256 fun r d => D.p (512 * b + r) (0 + d) := by
  funext j
  obtain ⟨r, d, rfl⟩ : ∃ (r : Fin 512) (d : Fin 256), j = ix2 r d := ⟨j 0, j 1, eq_ix2 j⟩
  unfold k0_pay6 k0_pay5
  pointwise [arr]
  rw [hi, cnt_word b r 2 hb r.isLt (by decide), p_at D _ _ 0 (by omega), Inp.ue_16]
  unfold Inp.pool
  simp only [Finset.sum_range_succ, Finset.sum_range_zero, zero_add, Nat.reduceMul, Nat.reducePow, Nat.reduceSub, Nat.sub_zero, Inp.ue_16]

/-- The second group's pooled rows. -/
theorem pool1 : k0_pay8 (F := Ideal) (k0_pay5 i) (rd D b 16 256) (rd D b 15 256) (rd D b 14 256) (rd D b 13 256)
      = arr 512 256 fun r d => D.p (512 * b + r) (256 + d) := by
  funext j
  obtain ⟨r, d, rfl⟩ : ∃ (r : Fin 512) (d : Fin 256), j = ix2 r d := ⟨j 0, j 1, eq_ix2 j⟩
  unfold k0_pay8 k0_pay5
  pointwise [arr]
  rw [hi, cnt_word b r 4 hb r.isLt (by decide), p_at D _ _ 1 (by omega), Inp.ue_16]
  unfold Inp.pool
  simp only [Finset.sum_range_succ, Finset.sum_range_zero, zero_add, Nat.reduceMul, Nat.reducePow, Nat.reduceSub, Nat.sub_zero, Inp.ue_16]

/-- The third group's pooled rows. -/
theorem pool2 : k0_pay10 (F := Ideal) (k0_pay5 i) (rd D b 16 512) (rd D b 15 512) (rd D b 14 512) (rd D b 13 512) (rd D b 12 512) (rd D b 11 512) (rd D b 10 512) (rd D b 9 512)
      = arr 512 256 fun r d => D.p (512 * b + r) (512 + d) := by
  funext j
  obtain ⟨r, d, rfl⟩ : ∃ (r : Fin 512) (d : Fin 256), j = ix2 r d := ⟨j 0, j 1, eq_ix2 j⟩
  unfold k0_pay10 k0_pay5
  pointwise [arr]
  rw [hi, cnt_word b r 8 hb r.isLt (by decide), p_at D _ _ 2 (by omega), Inp.ue_16]
  unfold Inp.pool
  simp only [Finset.sum_range_succ, Finset.sum_range_zero, zero_add, Nat.reduceMul, Nat.reducePow, Nat.reduceSub, Nat.sub_zero, Inp.ue_16]

/-- The fourth group's pooled rows. -/
theorem pool3 : k0_pay1 (F := Ideal) (k0_pay5 i) (rd D b 16 768)
      (k0_pay13 (rd D b 16 768) (rd D b 15 768) (rd D b 14 768) (rd D b 13 768) (rd D b 12 768) (rd D b 11 768) (rd D b 10 768) (rd D b 9 768) (rd D b 8 768) (rd D b 7 768) (rd D b 6 768) (rd D b 5 768) (rd D b 4 768))
      (rd D b 3 768) (rd D b 2 768) (rd D b 1 768)
      = arr 512 256 fun r d => D.p (512 * b + r) (768 + d) := by
  funext j
  obtain ⟨r, d, rfl⟩ : ∃ (r : Fin 512) (d : Fin 256), j = ix2 r d := ⟨j 0, j 1, eq_ix2 j⟩
  unfold k0_pay1 k0_pay13 k0_pay5
  pointwise [arr]
  rw [hi, cnt_word b r 16 hb r.isLt (by decide), p_at D _ _ 3 (by omega), Inp.ue_16]
  unfold Inp.pool
  simp only [Finset.sum_range_succ, Finset.sum_range_zero, zero_add, Nat.reduceMul, Nat.reducePow, Nat.reduceSub, Nat.sub_zero, Inp.ue_16]

end block

section values

variable (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S4x256x256 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S528x1024 .f32) (harg7 : arg7.IsWhole)
  (x0 : Vec Ideal S512x1024 .bf16) (x1 : Vec Ideal S16x1024 .bf16) (x2 : Vec Ideal S4x256x256 .bf16) (x3 : Vec Ideal S1x1024 .f32)
  (b : Nat) (hi : (i 0).val = b) (hb : b < 8)
  (h0 : ∀ (r : Fin 512) (k : Fin 1024), x0 (ix2 r k) = D.P (512 * b + r) k)
  (h1 : 0 < b → ∀ (r : Fin 16) (k : Fin 1024), x1 (ix2 r k) = D.P (512 * b + r - 16) k)
  (h2 : ∀ (g : Fin 4) (e d : Fin 256), x2 (ix3 g e d) = D.M g e d)
  (h3 : ∀ k : Fin 1024, x3 (ix2 0 k) = D.S k)

include h0 in
/-- The rows that a point carries, from the seventeenth on. -/
theorem rows_at (i1) (r : Fin 512) (k : Fin 1024) :
    k0_pay3 (F := Ideal) (View.ld x0 (Rect.unit (s := S512x1024) ![0, 0] ![512, 1024] i1)) (ix2 r k) = D.ue (512 * b + (16 + r)) k := by
  unfold k0_pay3
  pointwise
  rw [h0, show 512 * b + (16 + r.val) = 512 * b + r.val + 16 by omega, Inp.ue_16]

include hi hb h1 in
/-- The sixteen rows before them. -/
theorem halo_at (i1) (r : Fin 16) (k : Fin 1024) :
    k0_pay4 (F := Ideal) i (View.ld x1 (Rect.unit (s := S16x1024) ![0, 0] ![16, 1024] i1)) (ix2 r k) = D.ue (512 * b + r) k := by
  have hr := r.isLt
  unfold k0_pay4 Inp.ue
  pointwise
  rw [hi]
  rcases Nat.eq_zero_or_pos b with h | h
  · subst h
    rw [if_pos (by omega)]
    rfl
  · rw [if_neg (by omega), ← h1 h]
    have : Scalar.cmpi CmpIPredicate.sgt (BitVec.ofNat 32 b) 0#32 = 1#1 := by interval_cases b <;> decide
    rw [this]
    rfl

include hi hb h0 h1

/-- What a point stores of the pooled rows. -/
theorem out4_eq :
    out0_A_4 (F := Ideal) c i arg1 harg1 arg2 harg2 arg3 harg3 arg4 harg4 arg5 harg5 arg6 harg6 arg7 harg7 x0 x1 x2 x3 = arr 512 1024 fun r d => D.p (512 * b + r) d := by
  funext y
  unfold out0_A_4
  rw [View.read_writes_eq_canon _ _ _ (cover0_A_4 c i arg1 harg1 arg2 harg2 arg3 harg3 arg4 harg4 arg5 harg5 arg6 harg6 arg7 harg7 x0 x1 x2 x3)]
  refine canon_of_agrees (Val := Elt Ideal) (fun r d => D.p (512 * b + r) d) _ ?_ y (cover0_A_4 c i arg1 harg1 arg2 harg2 arg3 harg3 arg4 harg4 arg5 harg5 arg6 harg6 arg7 harg7 x0 x1 x2 x3 y)
  unfold kernelRun0_A
  dsimp only
  sl_unfold_words
  simp only [View.readAt_eq_ld, harg1.read_unread, harg2.read_unread, harg3.read_unread, harg4.read_unread]
  simp only [ue_read D _ b _ _ _ _ _ _ _ (halo_at D i x1 b hi hb h1 _) (rows_at D x0 b h0 _), pool0 D i b hi hb, pool1 D i b hi hb, pool2 D i b hi hb, pool3 D i b hi hb]
  refine agrees_cons (agrees_unit _ _ _ _ _ _ _ fun r d => ?_) (agrees_cons (agrees_unit _ _ _ _ _ _ _ fun r d => ?_)
    (agrees_cons (agrees_unit _ _ _ _ _ _ _ fun r d => ?_) (agrees_cons (agrees_unit _ _ _ _ _ _ _ fun r d => ?_) agrees_nil)))
  all_goals simp only [Nat.zero_add]; first | rfl | (simp [arr])

include h2 h3

/-- What a point stores of the scaled product. -/
theorem out5_eq :
    out0_A_5 (F := Ideal) c i arg1 harg1 arg2 harg2 arg3 harg3 arg4 harg4 arg5 harg5 arg6 harg6 arg7 harg7 x0 x1 x2 x3 = arr 512 1024 fun r d => D.y (512 * b + r) d := by
  funext y
  unfold out0_A_5
  rw [View.read_writes_eq_canon _ _ _ (cover0_A_5 c i arg1 harg1 arg2 harg2 arg3 harg3 arg4 harg4 arg5 harg5 arg6 harg6 arg7 harg7 x0 x1 x2 x3)]
  refine canon_of_agrees (Val := Elt Ideal) (fun r d => D.y (512 * b + r) d) _ ?_ y (cover0_A_5 c i arg1 harg1 arg2 harg2 arg3 harg3 arg4 harg4 arg5 harg5 arg6 harg6 arg7 harg7 x0 x1 x2 x3 y)
  unfold kernelRun0_A
  dsimp only
  sl_unfold_words
  simp only [View.readAt_eq_ld, harg1.read_unread, harg2.read_unread, harg3.read_unread, harg4.read_unread]
  unfold k0_pay2 k0_pay9 k0_pay11
  simp only [ue_read D _ b _ _ _ _ _ _ _ (halo_at D i x1 b hi hb h1 _) (rows_at D x0 b h0 _), pool0 D i b hi hb, pool1 D i b hi hb, pool2 D i b hi hb, pool3 D i b hi hb]
  refine agrees_cons (agrees_unit _ _ _ _ _ _ _ fun r d => ?_) (agrees_cons (agrees_unit _ _ _ _ _ _ _ fun r d => ?_)
    (agrees_cons (agrees_unit _ _ _ _ _ _ _ fun r d => ?_) (agrees_cons (agrees_unit _ _ _ _ _ _ _ fun r d => ?_) agrees_nil)))
  · rw [y_at D _ 768 _ 3 rfl d.isLt]
    pointwise [arr]
    simp only [h2, h3]
    rfl
  · rw [y_at D _ 512 _ 2 rfl d.isLt]
    unfold k0_pay12
    pointwise [arr]
    simp only [h2, h3]
    rfl
  · rw [y_at D _ 256 _ 1 rfl d.isLt]
    pointwise [arr]
    simp only [h2, h3]
    rfl
  · rw [y_at D _ 0 _ 0 rfl d.isLt]
    unfold k0_pay7
    pointwise [arr]
    simp only [h2, h3]
    rfl

end values

section kernel

variable (m : (ℓ : Loc nD τ sig) → Buf (Elt Ideal) ℓ) (c : Dev nD)

/-- A device's arguments as tables. -/
def inp : Inp := tables (m ((c : Thread nD τ).loc main_arg0)) (m ((c : Thread nD τ).loc main_arg1)) (m ((c : Thread nD τ).loc main_arg2))

theorem index0 (t : Fin cfg0.N) : win0_0.index t = ![t.val, 0] := by revert t; decide +kernel
theorem index1 (t : Fin cfg0.N) : win0_1.index t = ![32 * t.val - 1, 0] := by revert t; decide +kernel
theorem index2 (t : Fin cfg0.N) : win0_2.index t = ![0, 0, 0] := by revert t; decide +kernel
theorem index3 (t : Fin cfg0.N) : win0_3.index t = ![0, 0] := by revert t; decide +kernel
theorem index4 (t : Fin cfg0.N) : win0_4.index t = ![t.val, 0] := by revert t; decide +kernel
theorem index5 (t : Fin cfg0.N) : win0_5.index t = ![t.val, 0] := by revert t; decide +kernel
theorem coord (t : Fin cfg0.N) : (grid0.coords t 0).val = t.val := by revert t; decide +kernel

/-- The rows that a point reads. -/
theorem block0 (t : Fin cfg0.N) (r : Fin 512) (k : Fin 1024) : iblk m c 0 t (ix2 r k) = (inp m c).P (512 * t.val + r) k := by
  have hN : t.val < 8 := lt_of_lt_of_eq t.isLt N_0
  show _ = tab 4096 6144 _ _ _
  rw [tab_at _ (by have := r.isLt; omega) (by have := k.isLt; omega)]
  unfold iblk
  rw [View.read_apply]
  refine (congrFun (V_main_arg0 m c) _).trans (congrArg (m ((c : Thread nD τ).loc main_arg0)) ?_)
  funext a; apply Fin.ext
  match a with
  | ⟨0, _⟩ => show win0_0.index t 0 * 512 + 1 * r.val = _; rw [index0]; show t.val * 512 + 1 * _ = 512 * _ + _; omega
  | ⟨1, _⟩ => show win0_0.index t 1 * 1024 + 1 * k.val = _; rw [index0]; show 0 * 1024 + 1 * _ = k.val; omega

/-- The sixteen rows before them. -/
theorem block1 (t : Fin cfg0.N) (ht : 0 < t.val) (r : Fin 16) (k : Fin 1024) :
    iblk m c 1 t (ix2 r k) = (inp m c).P (512 * t.val + r - 16) k := by
  have hN : t.val < 8 := lt_of_lt_of_eq t.isLt N_0
  show _ = tab 4096 6144 _ _ _
  rw [tab_at _ (by have := r.isLt; omega) (by have := k.isLt; omega)]
  unfold iblk
  rw [View.read_apply]
  refine (congrFun (V_main_arg0 m c) _).trans (congrArg (m ((c : Thread nD τ).loc main_arg0)) ?_)
  funext a; apply Fin.ext
  match a with
  | ⟨0, _⟩ =>
    show win0_1.index t 0 * 16 + 1 * r.val = _; rw [index1]
    show (32 * t.val - 1) * 16 + 1 * _ = 512 * _ + _ - 16; omega
  | ⟨1, _⟩ => show win0_1.index t 1 * 1024 + 1 * k.val = _; rw [index1]; show 0 * 1024 + 1 * _ = k.val; omega

/-- The maps, as the host passes them. -/
theorem maps_at (j : S4x256x256.Idx) : V m c main_v0 j = m ((c : Thread nD τ).loc main_arg1) j := by
  unfold V
  after_reads_simp
  pointwise
  done

/-- Every point reads all the maps. -/
theorem block2 (t : Fin cfg0.N) (g : Fin 4) (e d : Fin 256) : iblk m c 2 t (ix3 g e d) = (inp m c).M g e d := by
  show _ = tab3 4 256 256 _ _ _ _
  rw [tab3_at _ g.isLt e.isLt d.isLt]
  unfold iblk
  rw [View.read_apply]
  refine (maps_at m c _).trans (congrArg (m ((c : Thread nD τ).loc main_arg1)) ?_)
  funext a; apply Fin.ext
  match a with
  | ⟨0, _⟩ => show win0_2.index t 0 * 4 + 1 * g.val = _; rw [index2]; show 0 * 4 + 1 * _ = g.val; omega
  | ⟨1, _⟩ => show win0_2.index t 1 * 256 + 1 * e.val = _; rw [index2]; show 0 * 256 + 1 * _ = e.val; omega
  | ⟨2, _⟩ => show win0_2.index t 2 * 256 + 1 * d.val = _; rw [index2]; show 0 * 256 + 1 * _ = d.val; omega

/-- Every point reads the scale. -/
theorem block3 (t : Fin cfg0.N) (k : Fin 1024) : iblk m c 3 t (ix2 0 k) = (inp m c).S k := by
  show _ = tab 1 1024 _ _ _
  rw [tab_at _ Nat.one_pos k.isLt]
  unfold iblk
  rw [View.read_apply]
  refine (congrFun (V_main_arg2 m c) _).trans (congrArg (m ((c : Thread nD τ).loc main_arg2)) ?_)
  funext a; apply Fin.ext
  match a with
  | ⟨0, _⟩ => show win0_3.index t 0 * 1 + 1 * 0 = _; rw [index3]; rfl
  | ⟨1, _⟩ => show win0_3.index t 1 * 1024 + 1 * k.val = _; rw [index3]; show 0 * 1024 + 1 * _ = k.val; omega

/-- What a point leaves of the pooled rows. -/
theorem after4 (t : Fin cfg0.N) : (outsAt0 m c t).1 = arr 512 1024 fun r d => (inp m c).p (512 * t.val + r) d := by
  have e := out4_eq (inp m c) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t) (iblk m c 3 t)
    t.val (coord t) (lt_of_lt_of_eq t.isLt N_0) (block0 m c t) (block1 m c t)
  simp only [outsAt0]
  exact e

/-- The whole array of the pooled rows that the call leaves. -/
theorem final4 : (dats m 0 c).arrAt 4 cfg0.N = arr 4096 1024 (inp m c).p := by
  refine (dats m 0 c).arrAt_eq_of_covers 4 _ (by decide +kernel) fun t hf y => ?_
  blk_simp
  rw [after0_4, after4]
  unfold arr
  blk_simp [index4]
  rw [Nat.mul_comm 512]

/-- What a point leaves of the scaled products. -/
theorem after5 (t : Fin cfg0.N) : (outsAt0 m c t).2 = arr 512 1024 fun r d => (inp m c).y (512 * t.val + r) d := by
  have e := out5_eq (inp m c) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t) (iblk m c 3 t)
    t.val (coord t) (lt_of_lt_of_eq t.isLt N_0) (block0 m c t) (block1 m c t) (block2 m c t) (block3 m c t)
  simp only [outsAt0]
  exact e

/-- The whole array of the scaled products that the call leaves. -/
theorem final5 : (dats m 0 c).arrAt 5 cfg0.N = arr 4096 1024 (inp m c).y := by
  refine (dats m 0 c).arrAt_eq_of_covers 5 _ (by decide +kernel) fun t hf y => ?_
  blk_simp
  rw [after0_5, after5]
  unfold arr
  blk_simp [index5]
  rw [Nat.mul_comm 512]

end kernel

section sums

variable (U : Nat → Nat → EReal)

/-- The running sum of a column. -/
def csum (t k : Nat) : EReal := ∑ q ∈ Finset.range (t + 1), U q k

/-- A column after `a` zeros, summed. -/
theorem sum_late (f : Nat → EReal) (a n : Nat) :
    (∑ s ∈ Finset.range (a + n), if a ≤ s then f (s - a) else 0) = ∑ q ∈ Finset.range n, f q := by
  rw [Finset.sum_range_add, Finset.sum_eq_zero fun s hs => if_neg (by have := Finset.mem_range.1 hs; omega), zero_add]
  exact Finset.sum_congr rfl fun q _ => by rw [if_pos (by omega), Nat.add_sub_cancel_left]

/-- The window of a running sum over the padded column holds the rows up to its own. -/
theorem sum_padded (f : Nat → EReal) (t : Nat) (ht : t < 4096) :
    (∑ s : Fin 4096, if 4095 ≤ t + s.val then f (t + s.val - 4095) else 0) = ∑ q ∈ Finset.range (t + 1), f q := by
  rw [← sum_late f (4095 - t) (t + 1), show 4095 - t + (t + 1) = 4096 by omega,
    ← Fin.sum_univ_eq_sum_range (fun s => if 4095 - t ≤ s then f (s - (4095 - t)) else 0) 4096]
  refine Finset.sum_congr rfl fun s _ => ?_
  by_cases h : 4095 ≤ t + s.val
  · rw [if_pos h, if_pos (by omega), show t + s.val - 4095 = s.val - (4095 - t) by omega]
  · rw [if_neg h, if_neg (by omega)]

/-- A left fold of additions from zero is a sum. -/
theorem foldl_sum {N : Nat} (g : Fin N → EReal) (z : EReal) (hz : z = 0) :
    (List.finRange N).foldl (fun r n => r + g n) z = ∑ n, g n := by
  rw [Fin.sum_univ_def, List.sum_eq_foldl, List.foldl_map, hz]

/-- The sum over a window is the difference of two running sums, where the numbers are real. -/
theorem window_sum (w t k : Nat) (hU : ∀ R, IsReal (D.P R k)) (hw : w ≤ 16) :
    csum D.P t k - (if t < w then 0 else csum D.P (t - w) k) = ∑ j ∈ Finset.range w, D.ue (t + (16 - j)) k := by
  have hue (j : Nat) (hj : j ≤ 16) : D.ue (t + (16 - j)) k = if t < j then 0 else D.P (t - j) k := by
    unfold Inp.ue
    by_cases h : t < j
    · rw [if_pos (by omega), if_pos h]
    · rw [if_neg (by omega), if_neg h]; congr 1; omega
  rw [Finset.sum_congr rfl fun j hj => hue j (by have := Finset.mem_range.1 hj; omega)]
  by_cases h : t < w
  · rw [if_pos h, sub_zero, show w = (t + 1) + (w - t - 1) by omega, Finset.sum_range_add,
      Finset.sum_eq_zero (s := Finset.range (w - t - 1)) fun j _ => if_pos (by omega), add_zero,
      ← Finset.sum_range_reflect]
    refine Finset.sum_congr rfl fun j hj => ?_
    have := Finset.mem_range.1 hj
    rw [if_neg (by omega)]
    congr 1; omega
  · obtain ⟨a, ha⟩ : IsReal (csum D.P (t - w) k) := IsReal.sum _ fun q => hU q
    obtain ⟨s, hs⟩ : IsReal (∑ j ∈ Finset.range w, if t < j then 0 else D.P (t - j) k) :=
      IsReal.sum _ fun j => IsReal.ite IsReal.zero (hU _)
    have e : csum D.P t k = csum D.P (t - w) k + ∑ j ∈ Finset.range w, if t < j then 0 else D.P (t - j) k := by
      unfold csum
      rw [show t + 1 = (t - w + 1) + w by omega, Finset.sum_range_add, ← Finset.sum_range_reflect (n := w)]
      refine congrArg (_ + ·) (Finset.sum_congr rfl fun j hj => ?_)
      have := Finset.mem_range.1 hj
      rw [if_neg (by omega)]
      congr 1; omega
    rw [if_neg h, e, ha, hs]
    norm_cast
    ring

/-- Dividing by the count of a window's rows is multiplying by its reciprocal. -/
theorem div_cnt (x : EReal) (w R : Nat) (hw : 0 < w) : Ideal.div x (Inp.cnt w R) = x * Ideal.div 1 (Inp.cnt w R) := by
  have h : ((min (R + 1) w : ℕ) : ℝ) ≠ 0 := by
    have : min (R + 1) w ≠ 0 := by omega
    exact_mod_cast this
  unfold Inp.cnt
  rw [Ideal.div_coe h, Ideal.div_coe h, one_mul]

/-- The pooled rows through running sums. -/
theorem pool_ref (w t k : Nat) (hU : ∀ R, IsReal (D.P R k)) (hw : w ≤ 16) (hw0 : 0 < w) :
    Ideal.div (csum D.P t k - if t < w then 0 else csum D.P (t - w) k) (Inp.cnt w t) - D.P t k = D.pool w t k := by
  rw [window_sum D w t k hU hw, div_cnt _ w t hw0]
  rfl

/-- The count of a window's rows as a minimum of two numbers. -/
theorem cnt_min (t w : Nat) (ht : t < 4096) (v : EReal) (hv : v = ((w : ℝ) : EReal)) :
    min (FloatOps.sitofp (F := Ideal) FTy.f32 (BitVec.ofNat 32 t) + 1) v = Inp.cnt w t := by
  show min ((((BitVec.ofNat 32 t).toInt : ℝ) : EReal) + 1) v = (((min (t + 1) w : ℕ) : ℝ) : EReal)
  rw [hv, WordCmp.toInt_ofNat_of_lt (show _ < 2 ^ 31 by omega)]
  push_cast
  rw [EReal.coe_strictMono.monotone.map_min]
  rfl

theorem word2 : Ideal.ofBits .f32 1073741824#32 = (((2 : ℕ) : ℝ) : EReal) := by
  simp [Ideal.ofBits, Ideal.ieee]; rw [← EReal.coe_mul]; norm_num
theorem word4 : Ideal.ofBits .f32 1082130432#32 = (((4 : ℕ) : ℝ) : EReal) := by
  simp [Ideal.ofBits, Ideal.ieee]; rw [← EReal.coe_mul]; norm_num
theorem word8 : Ideal.ofBits .f32 1090519040#32 = (((8 : ℕ) : ℝ) : EReal) := by
  simp [Ideal.ofBits, Ideal.ieee]; rw [← EReal.coe_mul]; norm_num
theorem word16 : Ideal.ofBits .f32 1098907648#32 = (((16 : ℕ) : ℝ) : EReal) := by
  simp [Ideal.ofBits, Ideal.ieee]; rw [← EReal.coe_mul]; norm_num

end sums

section reference

open Cert.PoolFwdRefIdeal.Read

variable (x0 : (⟨Cert.PoolFwdRefIdeal.S4096x6144, .bf16⟩ : BufTy).Contents (Elt Ideal))
  (x1 : (⟨Cert.PoolFwdRefIdeal.S4x256x256, .f32⟩ : BufTy).Contents (Elt Ideal))
  (x2 : (⟨Cert.PoolFwdRefIdeal.S1x1024, .f32⟩ : BufTy).Contents (Elt Ideal))

/-- The reference's rows. -/
theorem v1_at (t : Fin 4096) (k : Fin 1024) : val_main_v1 (F := Ideal) x0 (ix2 t k) = tab 4096 6144 x0 t k := by
  rw [tab_at _ t.isLt (by have := k.isLt; omega)]
  pointwise [val_main_v1, val_main_v0]
  done

/-- The reference's running sums. -/
theorem v2_at (t : Fin 4096) (k : Fin 1024) : val_main_v2 (F := Ideal) x0 (ix2 t k) = csum (tab 4096 6144 x0) t k := by
  unfold val_main_v2 Host.reduceWindowAdd
  rw [Ideal.hostReduceWindowAdd_def]
  unfold Ideal.hostReduceWindowAdd Host.reduceWindow
  dsimp only
  have hz : ∀ j, val_main_call0_call0_v0 (F := Ideal) j = 0 := fun j => by
    pointwise [val_main_call0_call0_v0, val_main_call0_call0_cst]
    done
  refine (foldl_sum _ _ (hz _)).trans ((Finset.sum_congr rfl fun n _ => ?_).trans
    ((Equiv.sum_comp (⟨2, ![4096, 1]⟩ : Shape).rowMajor.symm fun i : (⟨2, ![4096, 1]⟩ : Shape).Idx =>
      if 4095 ≤ t.val + (i 0).val then tab 4096 6144 x0 (t.val + (i 0).val - 4095) k else 0).trans ?_))
  · have hi0 : ((⟨2, ![4096, 1]⟩ : Shape).rowMajor.symm n 0).val < 4096 := Fin.isLt _
    have hi1 : ((⟨2, ![4096, 1]⟩ : Shape).rowMajor.symm n 1).val < 1 := Fin.isLt _
    have ht := t.isLt
    have hk := k.isLt
    by_cases h : 4095 ≤ t.val + ((⟨2, ![4096, 1]⟩ : Shape).rowMajor.symm n 0).val
    · rw [if_pos h, dif_pos fun a => match a with
        | ⟨0, _⟩ => ⟨by show 4095 ≤ t.val * 1 + ((⟨2, ![4096, 1]⟩ : Shape).rowMajor.symm n 0).val; omega,
            by show t.val * 1 + ((⟨2, ![4096, 1]⟩ : Shape).rowMajor.symm n 0).val - 4095 < 4096; omega⟩
        | ⟨1, _⟩ => ⟨Nat.zero_le _, by show k.val * 1 + ((⟨2, ![4096, 1]⟩ : Shape).rowMajor.symm n 1).val - 0 < 1024; omega⟩,
        ← v1_at x0 ⟨t.val + ((⟨2, ![4096, 1]⟩ : Shape).rowMajor.symm n 0).val - 4095, by omega⟩ k]
      refine congrArg _ (funext fun a => Fin.ext ?_)
      match a with
      | ⟨0, _⟩ => show t.val * 1 + ((⟨2, ![4096, 1]⟩ : Shape).rowMajor.symm n 0).val - 4095 = t.val + ((⟨2, ![4096, 1]⟩ : Shape).rowMajor.symm n 0).val - 4095; omega
      | ⟨1, _⟩ => show k.val * 1 + ((⟨2, ![4096, 1]⟩ : Shape).rowMajor.symm n 1).val - 0 = k.val; omega
    · rw [if_neg h, dif_neg fun hin => h (by have : 4095 ≤ t.val * 1 + ((⟨2, ![4096, 1]⟩ : Shape).rowMajor.symm n 0).val := (hin 0).1; omega), hz]
  rw [ValueIdx.sum_idx2]
  simp only [Finset.univ_unique, Finset.sum_singleton]
  exact sum_padded (fun q => tab 4096 6144 x0 q k) t t.isLt

variable (hU : ∀ R k, k < 1024 → IsReal (tab 4096 6144 x0 R k))
include hU

/-- The first group's pooled rows. -/
theorem p0_at (t : Fin 4096) (d : Fin 256) :
    val_main_v17 (F := Ideal) x0 (ix2 t d) = (tables x0 x1 x2).p t (0 + d) := by
  have hd := d.isLt
  pointwise [val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rw [cnt_min t 2 t.isLt _ word2, v1_at, p_at _ _ _ 0 (by omega)]
  simp only [v2_at, dite_eq_ite]
  refine Eq.trans ?_ (pool_ref (tables x0 x1 x2) 2 t _ (fun R => hU R _ (by omega)) (by decide) (by decide))
  rfl

/-- The second group's pooled rows. -/
theorem p1_at (t : Fin 4096) (d : Fin 256) :
    val_main_v34 (F := Ideal) x0 (ix2 t d) = (tables x0 x1 x2).p t (256 + d) := by
  have hd := d.isLt
  pointwise [val_main_v34, val_main_v33, val_main_v32, val_main_v31, val_main_v30, val_main_v29, val_main_v28, val_main_v27, val_main_v26, val_main_v25, val_main_v24, val_main_v23, val_main_v22, val_main_v21, val_main_v3, val_main_cst_2, val_main_cst_3, val_main_cst_4]
  rw [cnt_min t 4 t.isLt _ word4, v1_at, p_at _ _ _ 1 (by omega)]
  simp only [v2_at, dite_eq_ite]
  refine Eq.trans ?_ (pool_ref (tables x0 x1 x2) 4 t _ (fun R => hU R _ (by omega)) (by decide) (by decide))
  rfl

/-- The third group's pooled rows. -/
theorem p2_at (t : Fin 4096) (d : Fin 256) :
    val_main_v51 (F := Ideal) x0 (ix2 t d) = (tables x0 x1 x2).p t (512 + d) := by
  have hd := d.isLt
  pointwise [val_main_v51, val_main_v50, val_main_v49, val_main_v48, val_main_v47, val_main_v46, val_main_v45, val_main_v44, val_main_v43, val_main_v42, val_main_v41, val_main_v40, val_main_v39, val_main_v38, val_main_v3, val_main_cst_5, val_main_cst_6, val_main_cst_7]
  rw [cnt_min t 8 t.isLt _ word8, v1_at, p_at _ _ _ 2 (by omega)]
  simp only [v2_at, dite_eq_ite]
  refine Eq.trans ?_ (pool_ref (tables x0 x1 x2) 8 t _ (fun R => hU R _ (by omega)) (by decide) (by decide))
  rfl

/-- The fourth group's pooled rows. -/
theorem p3_at (t : Fin 4096) (d : Fin 256) :
    val_main_v68 (F := Ideal) x0 (ix2 t d) = (tables x0 x1 x2).p t (768 + d) := by
  have hd := d.isLt
  pointwise [val_main_v68, val_main_v67, val_main_v66, val_main_v65, val_main_v64, val_main_v63, val_main_v62, val_main_v61, val_main_v60, val_main_v59, val_main_v58, val_main_v57, val_main_v56, val_main_v55, val_main_v3, val_main_cst_8, val_main_cst_9, val_main_cst_10]
  rw [cnt_min t 16 t.isLt _ word16, v1_at, p_at _ _ _ 3 (by omega)]
  simp only [v2_at, dite_eq_ite]
  refine Eq.trans ?_ (pool_ref (tables x0 x1 x2) 16 t _ (fun R => hU R _ (by omega)) (by decide) (by decide))
  rfl

/-- The first group's product with its map. -/
theorem m0_at (t : Fin 4096) (d : Fin 256) :
    val_main_v20 (F := Ideal) x0 x1 (ix2 t d) =
      ∑ e : Fin 256, (tables x0 x1 x2).p t (0 + e) * (tables x0 x1 x2).M 0 e d := by
  pointwise [val_main_v20, val_main_v19, val_main_v18]
  exact Finset.sum_congr rfl fun e _ => by
    rw [p0_at x0 x1 x2 hU, Nat.zero_add]; exact congrArg _ (tab3_at x1 (j := 0) (by decide) e.isLt d.isLt).symm

/-- The second group's product with its map. -/
theorem m1_at (t : Fin 4096) (d : Fin 256) :
    val_main_v37 (F := Ideal) x0 x1 (ix2 t d) =
      ∑ e : Fin 256, (tables x0 x1 x2).p t (256 + e) * (tables x0 x1 x2).M 1 e d := by
  pointwise [val_main_v37, val_main_v36, val_main_v35]
  exact Finset.sum_congr rfl fun e _ => by
    rw [p1_at x0 x1 x2 hU]; exact congrArg _ (tab3_at x1 (j := 1) (by decide) e.isLt d.isLt).symm

/-- The third group's product with its map. -/
theorem m2_at (t : Fin 4096) (d : Fin 256) :
    val_main_v54 (F := Ideal) x0 x1 (ix2 t d) =
      ∑ e : Fin 256, (tables x0 x1 x2).p t (512 + e) * (tables x0 x1 x2).M 2 e d := by
  pointwise [val_main_v54, val_main_v53, val_main_v52]
  exact Finset.sum_congr rfl fun e _ => by
    rw [p2_at x0 x1 x2 hU]; exact congrArg _ (tab3_at x1 (j := 2) (by decide) e.isLt d.isLt).symm

/-- The fourth group's product with its map. -/
theorem m3_at (t : Fin 4096) (d : Fin 256) :
    val_main_v71 (F := Ideal) x0 x1 (ix2 t d) =
      ∑ e : Fin 256, (tables x0 x1 x2).p t (768 + e) * (tables x0 x1 x2).M 3 e d := by
  pointwise [val_main_v71, val_main_v70, val_main_v69]
  exact Finset.sum_congr rfl fun e _ => by
    rw [p3_at x0 x1 x2 hU]; exact congrArg _ (tab3_at x1 (j := 3) (by decide) e.isLt d.isLt).symm

/-- The reference's pooled rows. -/
theorem ref_p : val_main_v73 (F := Ideal) x0 = arr 4096 1024 (tables x0 x1 x2).p := by
  funext y
  obtain ⟨t, k, rfl⟩ : ∃ (t : Fin 4096) (k : Fin 1024), y = ix2 t k := ⟨y 0, y 1, eq_ix2 y⟩
  pointwise [val_main_v73, val_main_v72, arr]
  simp only [p0_at x0 x1 x2 hU, p1_at x0 x1 x2 hU, p2_at x0 x1 x2 hU, p3_at x0 x1 x2 hU]
  split_ifs <;> (congr 1; omega)

/-- The reference's scaled products. -/
theorem ref_y : val_main_v76 (F := Ideal) x0 x1 x2 = arr 4096 1024 (tables x0 x1 x2).y := by
  funext y
  obtain ⟨t, k, rfl⟩ : ∃ (t : Fin 4096) (k : Fin 1024), y = ix2 t k := ⟨y 0, y 1, eq_ix2 y⟩
  have e2 : x2 (ix2 0 k) = (tables x0 x1 x2).S k := (tab_at x2 Nat.one_pos k.isLt).symm
  have hk := k.isLt
  pointwise [val_main_v76, val_main_v75, val_main_v74, arr]
  simp only [m0_at x0 x1 x2 hU, m1_at x0 x1 x2 hU, m2_at x0 x1 x2 hU, m3_at x0 x1 x2 hU, e2]
  unfold Inp.y
  split_ifs
  · rw [show k.val / 256 = 0 by omega, show k.val % 256 = k.val by omega]
  · rw [show k.val / 256 = 1 by omega, show k.val % 256 = k.val - 256 by omega]
  · rw [show k.val / 256 = 2 by omega, show k.val % 256 = k.val - 256 - 256 by omega]
  · rw [show k.val / 256 = 3 by omega, show k.val % 256 = k.val - 256 - 256 - 256 by omega]

end reference

/-- The shape relations of the finiteness test. -/
instance preFacts : Cert.Pre_pool_finite.Facts where
  slices_S4096x6144_S4096x1024_0_0 := by decide
  bitsLt_bf16_f32 := by decide
  bcast_S_S4096x1024 := by decide
  reducesTo_S4096x1024_S_d0_1 := by decide
  h_S_ := by decide

instance : Subsingleton Cert.Pre_pool_finite.S_.Idx := ⟨fun a b => funext fun i => i.elim0⟩

/-- What the finiteness test says: the first 1024 columns are real numbers. -/
theorem fin_of_fn (x0 : FVec Ideal Cert.Pre_pool_finite.S4096x6144 .bf16) (x1 : FVec Ideal Cert.Pre_pool_finite.S4x256x256 .f32)
    (x2 : FVec Ideal Cert.Pre_pool_finite.S1x1024 .f32) (i : Cert.Pre_pool_finite.S_.Idx)
    (h : Cert.Pre_pool_finite.fn (F := Ideal) x0 x1 x2 i = 1#1) (R k : Nat) (hk : k < 1024) : IsReal (tab 4096 6144 x0 R k) := by
  by_cases hR : R < 4096
  · rw [tab_at x0 hR (by omega)]
    have e : extractStridedSlice Cert.Pre_pool_finite.S4096x1024 ![0, 0] x0 preFacts.slices_S4096x6144_S4096x1024_0_0 (ix2 ⟨R, hR⟩ ⟨k, hk⟩)
        = x0 (ix2 ⟨R, hR⟩ ⟨k, by omega⟩) := by
      pointwise
      done
    rw [← e]
    exact isReal_of_lt (inf_word ▸ Host.reduce_andi_all _ _ _ _ i h (ix2 ⟨R, hR⟩ ⟨k, hk⟩))
  · unfold tab; rw [dif_neg fun h => hR h.1]; exact IsReal.zero

/-- The call and the reference end with the same two arrays. -/
theorem algebraic : Cert.algebraic_PoolFwdIdeal_PoolFwdRefIdeal_pre_pool_finite := by
  intro m g m' g' hpre hargs
  refine ⟨fun c => arr 4096 1024 (inp m c).p, fun c => arr 4096 1024 (inp m c).y, ?_, ?_⟩
  · refine (θ_run _ _ _).mono (fun r h c => ?_) (Cert.PoolFwdIdeal.Value.run_blocks (F := Ideal) m g)
    exact ⟨(h c).1.trans (final4 m c), (h c).2.1.trans (final5 m c), (h c).2.2⟩
  · refine (θ_run _ _ _).mono (fun r h c => ?_) (Cert.PoolFwdRefIdeal.Value.run (F := Ideal) m' g')
    obtain ⟨e0, e1, hk⟩ := h c
    obtain ⟨a0, a1, a2⟩ := hargs c
    have hf := fin_of_fn _ _ _ (fun i => i.elim0) (congrFun (hpre c) _)
    refine ⟨e0.trans (Eq.trans ?_ (ref_p (m ((c.tc : Thread _ _).loc main_arg0)) (m ((c.tc : Thread _ _).loc main_arg1))
        (m ((c.tc : Thread _ _).loc main_arg2)) hf)),
      e1.trans (Eq.trans ?_ (ref_y (m ((c.tc : Thread _ _).loc main_arg0)) (m ((c.tc : Thread _ _).loc main_arg1))
        (m ((c.tc : Thread _ _).loc main_arg2)) hf)), hk⟩
    · rw [← a0]; rfl
    · rw [← a0, ← a1, ← a2]; rfl

/-- The reference runs, and ends with its arguments unchanged and its counters at zero: it declares none. -/
theorem frame_reference : Cert.quiescent_PoolFwdRefIdeal := fun m g _ =>
  (θ_run _ _ _).mono (fun r h => ⟨fun c => (h c).2.2, sem_eq_zero_of_no_sems (by decide) _⟩)
    (Cert.PoolFwdRefIdeal.Value.run (F := Ideal) m g)

end Cert.PoolFwdClaim
-- ==== Proof.lean ====
module

public import proofs.«01_k».proof.Defs
public import proofs.«01_k».proof.Proof.Gen.OddBwd.Frame
public import proofs.«01_k».proof.Proof.Gen.OddBwdIdeal
public import proofs.«01_k».proof.Proof.Gen.OddBwdIdeal.Value
public import proofs.«01_k».proof.Proof.Gen.GradWin1.Frame
public import proofs.«01_k».proof.Proof.Gen.GradWin1Ideal
public import proofs.«01_k».proof.Proof.Gen.GradWin1Ideal.Value
public import proofs.«01_k».proof.Proof.Gen.GradWin0.Frame
public import proofs.«01_k».proof.Proof.Gen.GradWin0Ideal
public import proofs.«01_k».proof.Proof.Gen.GradWin0Ideal.Value
public import proofs.«01_k».proof.Proof.Gen.GradWout.Frame
public import proofs.«01_k».proof.Proof.Gen.GradWoutIdeal
public import proofs.«01_k».proof.Proof.Gen.GradWoutIdeal.Value
public import proofs.«01_k».proof.Proof.Gen.Inproj1.Frame
public import proofs.«01_k».proof.Proof.Gen.Inproj1Ideal
public import proofs.«01_k».proof.Proof.Gen.Inproj1Ideal.Value
public import proofs.«01_k».proof.Proof.Gen.Inproj0.Frame
public import proofs.«01_k».proof.Proof.Gen.Inproj0Ideal
public import proofs.«01_k».proof.Proof.Gen.Inproj0Ideal.Value
public import proofs.«01_k».proof.Proof.Gen.Inproj1Bwd.Frame
public import proofs.«01_k».proof.Proof.Gen.Inproj1BwdIdeal
public import proofs.«01_k».proof.Proof.Gen.Inproj1BwdIdeal.Value
public import proofs.«01_k».proof.Proof.Gen.Inproj0Bwd.Frame
public import proofs.«01_k».proof.Proof.Gen.Inproj0BwdIdeal
public import proofs.«01_k».proof.Proof.Gen.Inproj0BwdIdeal.Value
public import proofs.«01_k».proof.Proof.Gen.EvenOut.Frame
public import proofs.«01_k».proof.Proof.Gen.EvenOutIdeal
public import proofs.«01_k».proof.Proof.Gen.EvenOutIdeal.Value
public import proofs.«01_k».proof.Proof.Gen.OddOut.Frame
public import proofs.«01_k».proof.Proof.Gen.OddOutIdeal
public import proofs.«01_k».proof.Proof.Gen.OddOutIdeal.Value
public import proofs.«01_k».proof.Proof.Gen.AdamWin0.Frame
public import proofs.«01_k».proof.Proof.Gen.AdamWin0Ideal
public import proofs.«01_k».proof.Proof.Gen.AdamWin0Ideal.Value
public import proofs.«01_k».proof.Proof.Gen.AdamWin1.Frame
public import proofs.«01_k».proof.Proof.Gen.AdamWin1Ideal
public import proofs.«01_k».proof.Proof.Gen.AdamWin1Ideal.Value
public import proofs.«01_k».proof.Proof.Gen.AdamWout.Frame
public import proofs.«01_k».proof.Proof.Gen.AdamWoutIdeal
public import proofs.«01_k».proof.Proof.Gen.AdamWoutIdeal.Value
public import proofs.«01_k».proof.Proof.Gen.AdamPool.Frame
public import proofs.«01_k».proof.Proof.Gen.AdamPoolIdeal
public import proofs.«01_k».proof.Proof.Gen.AdamPoolIdeal.Value
public import proofs.«01_k».proof.Proof.Gen.AdaW.Frame
public import proofs.«01_k».proof.Proof.Gen.AdaWIdeal
public import proofs.«01_k».proof.Proof.Gen.AdaWIdeal.Frame
public import proofs.«01_k».proof.Proof.Gen.ReducePacked.Frame
public import proofs.«01_k».proof.Proof.Gen.ReducePackedIdeal
public import proofs.«01_k».proof.Proof.Gen.ReducePackedIdeal.Value
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.EvenBwd.Frame
public import proofs.«01_k».proof.Proof.Gen.EvenBwdIdeal
public import proofs.«01_k».proof.Proof.Gen.EvenBwdIdeal.Frame
public import proofs.«01_k».proof.Proof.Gen.NormMod.Frame
public import proofs.«01_k».proof.Proof.Gen.NormModIdeal
public import proofs.«01_k».proof.Proof.Gen.NormModIdeal.Frame
public import proofs.«01_k».proof.Proof.Gen.AdaFwd.Frame
public import proofs.«01_k».proof.Proof.Gen.AdaFwdIdeal
public import proofs.«01_k».proof.Proof.Gen.AdaFwdIdeal.Frame
public import proofs.«01_k».proof.Proof.Gen.PoolFwd.Frame
public import proofs.«01_k».proof.Proof.Gen.PoolFwdIdeal
public import proofs.«01_k».proof.Proof.Gen.PoolFwdIdeal.Value
public import proofs.«01_k».proof.Proof.Gen.OddRefIdeal.Run
public import proofs.«01_k».proof.Proof.Gen.OddRefIdeal.Read
public import proofs.«01_k».proof.Proof.Gen.GradWin1RefIdeal.Run
public import proofs.«01_k».proof.Proof.Gen.GradWin1RefIdeal.Read
public import proofs.«01_k».proof.Proof.Gen.GradWin0RefIdeal.Run
public import proofs.«01_k».proof.Proof.Gen.GradWin0RefIdeal.Read
public import proofs.«01_k».proof.Proof.Gen.GradWoutRefIdeal.Run
public import proofs.«01_k».proof.Proof.Gen.GradWoutRefIdeal.Read
public import proofs.«01_k».proof.Proof.Gen.Inproj1RefIdeal.Run
public import proofs.«01_k».proof.Proof.Gen.Inproj1RefIdeal.Read
public import proofs.«01_k».proof.Proof.Gen.Inproj0RefIdeal.Run
public import proofs.«01_k».proof.Proof.Gen.Inproj0RefIdeal.Read
public import proofs.«01_k».proof.Proof.Gen.Inproj1BwdRefIdeal.Run
public import proofs.«01_k».proof.Proof.Gen.Inproj1BwdRefIdeal.Read
public import proofs.«01_k».proof.Proof.Gen.Inproj0BwdRefIdeal.Run
public import proofs.«01_k».proof.Proof.Gen.Inproj0BwdRefIdeal.Read
public import proofs.«01_k».proof.Proof.Gen.EvenOutRefIdeal.Run
public import proofs.«01_k».proof.Proof.Gen.EvenOutRefIdeal.Read
public import proofs.«01_k».proof.Proof.Gen.OddOutRefIdeal.Run
public import proofs.«01_k».proof.Proof.Gen.OddOutRefIdeal.Read
public import proofs.«01_k».proof.Proof.Gen.AdamWin0RefIdeal.Run
public import proofs.«01_k».proof.Proof.Gen.AdamWin0RefIdeal.Read
public import proofs.«01_k».proof.Proof.Gen.AdamWin1RefIdeal.Run
public import proofs.«01_k».proof.Proof.Gen.AdamWin1RefIdeal.Read
public import proofs.«01_k».proof.Proof.Gen.AdamWoutRefIdeal.Run
public import proofs.«01_k».proof.Proof.Gen.AdamWoutRefIdeal.Read
public import proofs.«01_k».proof.Proof.Gen.AdamPoolRefIdeal.Run
public import proofs.«01_k».proof.Proof.Gen.AdamPoolRefIdeal.Read
public import proofs.«01_k».proof.Proof.Gen.AdaWRefIdeal.Run
public import proofs.«01_k».proof.Proof.Gen.AdaWRefIdeal.Read
public import proofs.«01_k».proof.Proof.Gen.ReducePackedRefIdeal.Run
public import proofs.«01_k».proof.Proof.Gen.ReducePackedRefIdeal.Read
public import proofs.«01_k».proof.Proof.Gen.AdamSmallRefIdeal.Run
public import proofs.«01_k».proof.Proof.Gen.AdamSmallRefIdeal.Read
public import proofs.«01_k».proof.Proof.Gen.EvenBwdRefIdeal.Run
public import proofs.«01_k».proof.Proof.Gen.EvenBwdRefIdeal.Read
public import proofs.«01_k».proof.Proof.Gen.NormModRefIdeal.Run
public import proofs.«01_k».proof.Proof.Gen.NormModRefIdeal.Read
public import proofs.«01_k».proof.Proof.Gen.AdaFwdRefIdeal.Run
public import proofs.«01_k».proof.Proof.Gen.AdaFwdRefIdeal.Read
public import proofs.«01_k».proof.Proof.Gen.PoolFwdRefIdeal.Run
public import proofs.«01_k».proof.Proof.Gen.PoolFwdRefIdeal.Read
public import proofs.«01_k».proof.Proof.GradWin1
public import proofs.«01_k».proof.Proof.GradWin0
public import proofs.«01_k».proof.Proof.GradWout
public import proofs.«01_k».proof.Proof.Inproj1
public import proofs.«01_k».proof.Proof.Inproj0
public import proofs.«01_k».proof.Proof.Inproj1Bwd
public import proofs.«01_k».proof.Proof.Inproj0Bwd
public import proofs.«01_k».proof.Proof.EvenOut
public import proofs.«01_k».proof.Proof.OddOut
public import proofs.«01_k».proof.Proof.AdamWin0
public import proofs.«01_k».proof.Proof.AdamWin1
public import proofs.«01_k».proof.Proof.AdamWout
public import proofs.«01_k».proof.Proof.AdamPool
public import proofs.«01_k».proof.Proof.AdaW
public import proofs.«01_k».proof.Proof.ReducePacked
public import proofs.«01_k».proof.Proof.AdamSmall
public import proofs.«01_k».proof.Proof.EvenBwd
public import proofs.«01_k».proof.Proof.NormMod
public import proofs.«01_k».proof.Proof.AdaFwd
public import proofs.«01_k».proof.Proof.PoolFwd
public import proofs.«01_k».proof.Proof.OddClaim

@[expose] public section

namespace Cert.Proof

open Cert Idealize.ShloMosaic Idealize.SL.Sem

/-- Every program comes to rest, each kernel's idealization is the kernel with no rewrites, and each kernel leaves
what its reference leaves. -/
theorem claim : Cert.Claim :=
  ⟨inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance, inferInstance, inferInstance,
    inferInstance, inferInstance, inferInstance,
    fun m ρ _ => Cert.OddBwd.Gen.frame m ρ,
    fun m ρ _ => Cert.OddBwdIdeal.Gen.frame m ρ,
    fun m ρ _ => Cert.OddBwdIdeal.Gen.frame m ρ,
    Cert.OddClaim.frame_reference,
    fun m ρ _ => Cert.OddClaim.frame_reference m ρ trivial,
    fun m ρ _ => Cert.GradWin1.Gen.frame m ρ,
    fun m ρ _ => Cert.GradWin1Ideal.Gen.frame m ρ,
    Cert.GradWin1Claim.frame_reference,
    fun m ρ _ => Cert.GradWin0.Gen.frame m ρ,
    fun m ρ _ => Cert.GradWin0Ideal.Gen.frame m ρ,
    Cert.GradWin0Claim.frame_reference,
    fun m ρ _ => Cert.GradWout.Gen.frame m ρ,
    fun m ρ _ => Cert.GradWoutIdeal.Gen.frame m ρ,
    Cert.GradWoutClaim.frame_reference,
    fun m ρ _ => Cert.Inproj1.Gen.frame m ρ,
    fun m ρ _ => Cert.Inproj1Ideal.Gen.frame m ρ,
    Cert.Inproj1Claim.frame_reference,
    fun m ρ _ => Cert.Inproj0.Gen.frame m ρ,
    fun m ρ _ => Cert.Inproj0Ideal.Gen.frame m ρ,
    Cert.Inproj0Claim.frame_reference,
    fun m ρ _ => Cert.Inproj1Bwd.Gen.frame m ρ,
    fun m ρ _ => Cert.Inproj1BwdIdeal.Gen.frame m ρ,
    fun m ρ _ => Cert.Inproj1BwdIdeal.Gen.frame m ρ,
    Cert.Inproj1BwdClaim.frame_reference,
    fun m ρ _ => Cert.Inproj1BwdClaim.frame_reference m ρ trivial,
    fun m ρ _ => Cert.Inproj0Bwd.Gen.frame m ρ,
    fun m ρ _ => Cert.Inproj0BwdIdeal.Gen.frame m ρ,
    fun m ρ _ => Cert.Inproj0BwdIdeal.Gen.frame m ρ,
    Cert.Inproj0BwdClaim.frame_reference,
    fun m ρ _ => Cert.Inproj0BwdClaim.frame_reference m ρ trivial,
    fun m ρ _ => Cert.EvenOut.Gen.frame m ρ,
    fun m ρ _ => Cert.EvenOutIdeal.Gen.frame m ρ,
    Cert.EvenOutClaim.frame_reference,
    fun m ρ _ => Cert.OddOut.Gen.frame m ρ,
    fun m ρ _ => Cert.OddOutIdeal.Gen.frame m ρ,
    Cert.OddOutClaim.frame_reference,
    fun m ρ _ => Cert.AdamWin0.Gen.frame m ρ,
    fun m ρ _ => Cert.AdamWin0Ideal.Gen.frame m ρ,
    Cert.AdamWin0Claim.frame_reference,
    fun m ρ _ => Cert.AdamWin1.Gen.frame m ρ,
    fun m ρ _ => Cert.AdamWin1Ideal.Gen.frame m ρ,
    Cert.AdamWin1Claim.frame_reference,
    fun m ρ _ => Cert.AdamWout.Gen.frame m ρ,
    fun m ρ _ => Cert.AdamWoutIdeal.Gen.frame m ρ,
    Cert.AdamWoutClaim.frame_reference,
    fun m ρ _ => Cert.AdamPool.Gen.frame m ρ,
    fun m ρ _ => Cert.AdamPoolIdeal.Gen.frame m ρ,
    Cert.AdamPoolClaim.frame_reference,
    fun m ρ _ => Cert.AdaW.Gen.frame m ρ,
    fun m ρ _ => Cert.AdaWIdeal.Gen.frame m ρ,
    Cert.AdaWClaim.frame_reference,
    fun m ρ _ => Cert.ReducePacked.Gen.frame m ρ,
    fun m ρ _ => Cert.ReducePackedIdeal.Gen.frame m ρ,
    Cert.ReducePackedClaim.frame_reference,
    fun m ρ _ => Cert.AdamSmall.Gen.frame m ρ,
    fun m ρ _ => Cert.AdamSmallIdeal.Gen.frame m ρ,
    Cert.AdamSmallClaim.frame_reference,
    fun m ρ _ => Cert.EvenBwd.Gen.frame m ρ,
    fun m ρ _ => Cert.EvenBwdIdeal.Gen.frame m ρ,
    fun m ρ _ => Cert.EvenBwdIdeal.Gen.frame m ρ,
    Cert.EvenBwdClaim.frame_reference,
    fun m ρ _ => Cert.EvenBwdClaim.frame_reference m ρ trivial,
    fun m ρ _ => Cert.NormMod.Gen.frame m ρ,
    fun m ρ _ => Cert.NormModIdeal.Gen.frame m ρ,
    Cert.NormModClaim.frame_reference,
    fun m ρ _ => Cert.AdaFwd.Gen.frame m ρ,
    fun m ρ _ => Cert.AdaFwdIdeal.Gen.frame m ρ,
    Cert.AdaFwdClaim.frame_reference,
    fun m ρ _ => Cert.PoolFwd.Gen.frame m ρ,
    fun m ρ _ => Cert.PoolFwdIdeal.Gen.frame m ρ,
    fun m ρ _ => Cert.PoolFwdIdeal.Gen.frame m ρ,
    Cert.PoolFwdClaim.frame_reference,
    fun m ρ _ => Cert.PoolFwdClaim.frame_reference m ρ trivial,
    trivial,
    Cert.OddClaim.algebraic,
    trivial,
    Cert.GradWin1Claim.algebraic,
    trivial,
    Cert.GradWin0Claim.algebraic,
    trivial,
    Cert.GradWoutClaim.algebraic,
    trivial,
    Cert.Inproj1Claim.algebraic,
    trivial,
    Cert.Inproj0Claim.algebraic,
    trivial,
    Cert.Inproj1BwdClaim.algebraic,
    trivial,
    Cert.Inproj0BwdClaim.algebraic,
    trivial,
    Cert.EvenOutClaim.algebraic,
    trivial,
    Cert.OddOutClaim.algebraic,
    trivial,
    Cert.AdamWin0Claim.algebraic,
    trivial,
    Cert.AdamWin1Claim.algebraic,
    trivial,
    Cert.AdamWoutClaim.algebraic,
    trivial,
    Cert.AdamPoolClaim.algebraic,
    trivial,
    Cert.AdaWClaim.algebraic,
    trivial,
    Cert.ReducePackedClaim.algebraic,
    trivial,
    Cert.AdamSmallClaim.algebraic,
    trivial,
    Cert.EvenBwdClaim.algebraic,
    trivial,
    Cert.NormModClaim.algebraic,
    trivial,
    Cert.AdaFwdClaim.algebraic,
    trivial,
    Cert.PoolFwdClaim.algebraic⟩

end Cert.Proof
